-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightReferenceIdeal (m : (ℓ : Loc Cert.UpWeightReferenceIdeal.nD Cert.UpWeightReferenceIdeal.τ Cert.UpWeightReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightReferenceIdeal (m : (ℓ : Loc Cert.DownWeightReferenceIdeal.nD Cert.DownWeightReferenceIdeal.τ Cert.DownWeightReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateReferenceIdeal (m : (ℓ : Loc Cert.PleGateReferenceIdeal.nD Cert.PleGateReferenceIdeal.τ Cert.PleGateReferenceIdeal.sig) → Buf (Elt Ideal) ℓ) : Prop :=
  True

def Pre_PleGateWeight (m : (ℓ : Loc Cert.PleGateWeight.nD Cert.PleGateWeight.τ Cert.PleGateWeight.sig) → Buf (Elt Bits) ℓ) : Prop :=
  True

def Pre_PleGateWeightIdeal (m : (ℓ : Loc Cert.PleGateWeightIdeal.nD Cert.PleGateWeightIdeal.τ Cert.PleGateWeightIdeal.sig) → Buf (Elt Ideal) ℓ) : Prop :=
  True

def Pre_PleGateWeightReferenceIdeal (m : (ℓ : Loc Cert.PleGateWeightReferenceIdeal.nD Cert.PleGateWeightReferenceIdeal.τ Cert.PleGateWeightReferenceIdeal.sig) → Buf (Elt Ideal) ℓ) : Prop :=
  True

def Pre_PleWeight (m : (ℓ : Loc Cert.PleWeight.nD Cert.PleWeight.τ Cert.PleWeight.sig) → Buf (Elt Bits) ℓ) : Prop :=
  True

def Pre_PleWeightIdeal (m : (ℓ : Loc Cert.PleWeightIdeal.nD Cert.PleWeightIdeal.τ Cert.PleWeightIdeal.sig) → Buf (Elt Ideal) ℓ) : Prop :=
  True

def Pre_PleWeightReferenceIdeal (m : (ℓ : Loc Cert.PleWeightReferenceIdeal.nD Cert.PleWeightReferenceIdeal.τ Cert.PleWeightReferenceIdeal.sig) → Buf (Elt Ideal) ℓ) : Prop :=
  True

def Pre_PoolBranch (m : (ℓ : Loc Cert.PoolBranch.nD Cert.PoolBranch.τ Cert.PoolBranch.sig) → Buf (Elt Bits) ℓ) : Prop :=
  True

def Pre_PoolBranchIdeal (m : (ℓ : Loc Cert.PoolBranchIdeal.nD Cert.PoolBranchIdeal.τ Cert.PoolBranchIdeal.sig) → Buf (Elt Ideal) ℓ) : Prop :=
  True

def Pre_PoolBranchReferenceIdeal (m : (ℓ : Loc Cert.PoolBranchReferenceIdeal.nD Cert.PoolBranchReferenceIdeal.τ Cert.PoolBranchReferenceIdeal.sig) → Buf (Elt Ideal) ℓ) : Prop :=
  True

def Pre_PoolBranchWeight (m : (ℓ : Loc Cert.PoolBranchWeight.nD Cert.PoolBranchWeight.τ Cert.PoolBranchWeight.sig) → Buf (Elt Bits) ℓ) : Prop :=
  True

def Pre_PoolBranchWeightIdeal (m : (ℓ : Loc Cert.PoolBranchWeightIdeal.nD Cert.PoolBranchWeightIdeal.τ Cert.PoolBranchWeightIdeal.sig) → Buf (Elt Ideal) ℓ) : Prop :=
  True

def Pre_PoolBranchWeightReferenceIdeal (m : (ℓ : Loc Cert.PoolBranchWeightReferenceIdeal.nD Cert.PoolBranchWeightReferenceIdeal.τ Cert.PoolBranchWeightReferenceIdeal.sig) → Buf (Elt Ideal) ℓ) : Prop :=
  True

def Pre_AttnBranch (m : (ℓ : Loc Cert.AttnBranch.nD Cert.AttnBranch.τ Cert.AttnBranch.sig) → Buf (Elt Bits) ℓ) : Prop :=
  True

def Pre_AttnBranchIdeal (m : (ℓ : Loc Cert.AttnBranchIdeal.nD Cert.AttnBranchIdeal.τ Cert.AttnBranchIdeal.sig) → Buf (Elt Ideal) ℓ) : Prop :=
  True

def Pre_AttnBranchReferenceIdeal (m : (ℓ : Loc Cert.AttnBranchReferenceIdeal.nD Cert.AttnBranchReferenceIdeal.τ Cert.AttnBranchReferenceIdeal.sig) → Buf (Elt Ideal) ℓ) : Prop :=
  True

def Pre_AttnBranchWeight (m : (ℓ : Loc Cert.AttnBranchWeight.nD Cert.AttnBranchWeight.τ Cert.AttnBranchWeight.sig) → Buf (Elt Bits) ℓ) : Prop :=
  True

def Pre_AttnBranchWeightIdeal (m : (ℓ : Loc Cert.AttnBranchWeightIdeal.nD Cert.AttnBranchWeightIdeal.τ Cert.AttnBranchWeightIdeal.sig) → Buf (Elt Ideal) ℓ) : Prop :=
  True

def Pre_AttnBranchWeightReferenceIdeal (m : (ℓ : Loc Cert.AttnBranchWeightReferenceIdeal.nD Cert.AttnBranchWeightReferenceIdeal.τ Cert.AttnBranchWeightReferenceIdeal.sig) → Buf (Elt Ideal) ℓ) : Prop :=
  True

def Pre_InForward (m : (ℓ : Loc Cert.InForward.nD Cert.InForward.τ Cert.InForward.sig) → Buf (Elt Bits) ℓ) : Prop :=
  True

def Pre_InForwardIdeal (m : (ℓ : Loc Cert.InForwardIdeal.nD Cert.InForwardIdeal.τ Cert.InForwardIdeal.sig) → Buf (Elt Ideal) ℓ) : Prop :=
  True

def Pre_InForwardReferenceIdeal (m : (ℓ : Loc Cert.InForwardReferenceIdeal.nD Cert.InForwardReferenceIdeal.τ Cert.InForwardReferenceIdeal.sig) → Buf (Elt Ideal) ℓ) : Prop :=
  True

def Pre_UpForward (m : (ℓ : Loc Cert.UpForward.nD Cert.UpForward.τ Cert.UpForward.sig) → Buf (Elt Bits) ℓ) : Prop :=
  True

def Pre_UpForwardIdeal (m : (ℓ : Loc Cert.UpForwardIdeal.nD Cert.UpForwardIdeal.τ Cert.UpForwardIdeal.sig) → Buf (Elt Ideal) ℓ) : Prop :=
  True

def Pre_UpForwardReferenceIdeal (m : (ℓ : Loc Cert.UpForwardReferenceIdeal.nD Cert.UpForwardReferenceIdeal.τ Cert.UpForwardReferenceIdeal.sig) → Buf (Elt Ideal) ℓ) : Prop :=
  True

def Pre_AttnBranchForward (m : (ℓ : Loc Cert.AttnBranchForward.nD Cert.AttnBranchForward.τ Cert.AttnBranchForward.sig) → Buf (Elt Bits) ℓ) : Prop :=
  True

def Pre_AttnBranchForwardIdeal (m : (ℓ : Loc Cert.AttnBranchForwardIdeal.nD Cert.AttnBranchForwardIdeal.τ Cert.AttnBranchForwardIdeal.sig) → Buf (Elt Ideal) ℓ) : Prop :=
  True

def Pre_AttnBranchForwardReferenceIdeal (m : (ℓ : Loc Cert.AttnBranchForwardReferenceIdeal.nD Cert.AttnBranchForwardReferenceIdeal.τ Cert.AttnBranchForwardReferenceIdeal.sig) → Buf (Elt Ideal) ℓ) : Prop :=
  True

def Pre_PoolBranchForward (m : (ℓ : Loc Cert.PoolBranchForward.nD Cert.PoolBranchForward.τ Cert.PoolBranchForward.sig) → Buf (Elt Bits) ℓ) : Prop :=
  True

def Pre_PoolBranchForwardIdeal (m : (ℓ : Loc Cert.PoolBranchForwardIdeal.nD Cert.PoolBranchForwardIdeal.τ Cert.PoolBranchForwardIdeal.sig) → Buf (Elt Ideal) ℓ) : Prop :=
  True

def Pre_PoolBranchForwardReferenceIdeal (m : (ℓ : Loc Cert.PoolBranchForwardReferenceIdeal.nD Cert.PoolBranchForwardReferenceIdeal.τ Cert.PoolBranchForwardReferenceIdeal.sig) → Buf (Elt Ideal) ℓ) : Prop :=
  True

def Pre_OutForward (m : (ℓ : Loc Cert.OutForward.nD Cert.OutForward.τ Cert.OutForward.sig) → Buf (Elt Bits) ℓ) : Prop :=
  True

def Pre_OutForwardIdeal (m : (ℓ : Loc Cert.OutForwardIdeal.nD Cert.OutForwardIdeal.τ Cert.OutForwardIdeal.sig) → Buf (Elt Ideal) ℓ) : Prop :=
  True

def Pre_OutForwardReferenceIdeal (m : (ℓ : Loc Cert.OutForwardReferenceIdeal.nD Cert.OutForwardReferenceIdeal.τ Cert.OutForwardReferenceIdeal.sig) → Buf (Elt Ideal) ℓ) : Prop :=
  True

def Pre_PleForward (m : (ℓ : Loc Cert.PleForward.nD Cert.PleForward.τ Cert.PleForward.sig) → Buf (Elt Bits) ℓ) : Prop :=
  True

def Pre_PleForwardIdeal (m : (ℓ : Loc Cert.PleForwardIdeal.nD Cert.PleForwardIdeal.τ Cert.PleForwardIdeal.sig) → Buf (Elt Ideal) ℓ) : Prop :=
  True

def Pre_PleForwardReferenceIdeal (m : (ℓ : Loc Cert.PleForwardReferenceIdeal.nD Cert.PleForwardReferenceIdeal.τ Cert.PleForwardReferenceIdeal.sig) → Buf (Elt Ideal) ℓ) : Prop :=
  True

def Pre_PleGateForward (m : (ℓ : Loc Cert.PleGateForward.nD Cert.PleGateForward.τ Cert.PleGateForward.sig) → Buf (Elt Bits) ℓ) : Prop :=
  True

def Pre_PleGateForwardIdeal (m : (ℓ : Loc Cert.PleGateForwardIdeal.nD Cert.PleGateForwardIdeal.τ Cert.PleGateForwardIdeal.sig) → Buf (Elt Ideal) ℓ) : Prop :=
  True

def Pre_PleGateForwardReferenceIdeal (m : (ℓ : Loc Cert.PleGateForwardReferenceIdeal.nD Cert.PleGateForwardReferenceIdeal.τ Cert.PleGateForwardReferenceIdeal.sig) → Buf (Elt Ideal) ℓ) : Prop :=
  True

def Pre_DownForward (m : (ℓ : Loc Cert.DownForward.nD Cert.DownForward.τ Cert.DownForward.sig) → Buf (Elt Bits) ℓ) : Prop :=
  True

def Pre_DownForwardIdeal (m : (ℓ : Loc Cert.DownForwardIdeal.nD Cert.DownForwardIdeal.τ Cert.DownForwardIdeal.sig) → Buf (Elt Ideal) ℓ) : Prop :=
  True

def Pre_DownForwardReferenceIdeal (m : (ℓ : Loc Cert.DownForwardReferenceIdeal.nD Cert.DownForwardReferenceIdeal.τ Cert.DownForwardReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_PoolGroup (m : (ℓ : Loc Cert.PoolGroup.nD Cert.PoolGroup.τ Cert.PoolGroup.sig) → Buf (Elt Bits) ℓ) : Prop :=
  True

def Pre_PoolGroupIdeal (m : (ℓ : Loc Cert.PoolGroupIdeal.nD Cert.PoolGroupIdeal.τ Cert.PoolGroupIdeal.sig) → Buf (Elt Ideal) ℓ) : Prop :=
  True

def Pre_PoolGroupReferenceIdeal (m : (ℓ : Loc Cert.PoolGroupReferenceIdeal.nD Cert.PoolGroupReferenceIdeal.τ Cert.PoolGroupReferenceIdeal.sig) → Buf (Elt Ideal) ℓ) : Prop :=
  True

def Pre_PoolGroupWeight (m : (ℓ : Loc Cert.PoolGroupWeight.nD Cert.PoolGroupWeight.τ Cert.PoolGroupWeight.sig) → Buf (Elt Bits) ℓ) : Prop :=
  True

def Pre_PoolGroupWeightIdeal (m : (ℓ : Loc Cert.PoolGroupWeightIdeal.nD Cert.PoolGroupWeightIdeal.τ Cert.PoolGroupWeightIdeal.sig) → Buf (Elt Ideal) ℓ) : Prop :=
  True

def Pre_PoolGroupWeightReferenceIdeal (m : (ℓ : Loc Cert.PoolGroupWeightReferenceIdeal.nD Cert.PoolGroupWeightReferenceIdeal.τ Cert.PoolGroupWeightReferenceIdeal.sig) → Buf (Elt Ideal) ℓ) : Prop :=
  True

def Pre_Scale (m : (ℓ : Loc Cert.Scale.nD Cert.Scale.τ Cert.Scale.sig) → Buf (Elt Bits) ℓ) : Prop :=
  True

def Pre_ScaleIdeal (m : (ℓ : Loc Cert.ScaleIdeal.nD Cert.ScaleIdeal.τ Cert.ScaleIdeal.sig) → Buf (Elt Ideal) ℓ) : Prop :=
  True

def Pre_ScaleReferenceIdeal (m : (ℓ : Loc Cert.ScaleReferenceIdeal.nD Cert.ScaleReferenceIdeal.τ Cert.ScaleReferenceIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_NormDown (m : (ℓ : Loc Cert.NormDown.nD Cert.NormDown.τ Cert.NormDown.sig) → Buf (Elt Bits) ℓ) : Prop :=
  True

def Pre_NormDownIdeal (m : (ℓ : Loc Cert.NormDownIdeal.nD Cert.NormDownIdeal.τ Cert.NormDownIdeal.sig) → Buf (Elt Ideal) ℓ) : Prop :=
  True

def Pre_NormDownReferenceIdeal (m : (ℓ : Loc Cert.NormDownReferenceIdeal.nD Cert.NormDownReferenceIdeal.τ Cert.NormDownReferenceIdeal.sig) → Buf (Elt Ideal) ℓ) : Prop :=
  True

def Pre_NormMid (m : (ℓ : Loc Cert.NormMid.nD Cert.NormMid.τ Cert.NormMid.sig) → Buf (Elt Bits) ℓ) : Prop :=
  True

def Pre_NormMidIdeal (m : (ℓ : Loc Cert.NormMidIdeal.nD Cert.NormMidIdeal.τ Cert.NormMidIdeal.sig) → Buf (Elt Ideal) ℓ) : Prop :=
  True

def Pre_NormMidReferenceIdeal (m : (ℓ : Loc Cert.NormMidReferenceIdeal.nD Cert.NormMidReferenceIdeal.τ Cert.NormMidReferenceIdeal.sig) → Buf (Elt Ideal) ℓ) : Prop :=
  True

def Pre_GateMix (m : (ℓ : Loc Cert.GateMix.nD Cert.GateMix.τ Cert.GateMix.sig) → Buf (Elt Bits) ℓ) : Prop :=
  True

def Pre_GateMixIdeal (m : (ℓ : Loc Cert.GateMixIdeal.nD Cert.GateMixIdeal.τ Cert.GateMixIdeal.sig) → Buf (Elt Ideal) ℓ) : Prop :=
  True

def Pre_GateMixReferenceIdeal (m : (ℓ : Loc Cert.GateMixReferenceIdeal.nD Cert.GateMixReferenceIdeal.τ Cert.GateMixReferenceIdeal.sig) → Buf (Elt Ideal) ℓ) : Prop :=
  True

def Pre_PoolGroupForward (m : (ℓ : Loc Cert.PoolGroupForward.nD Cert.PoolGroupForward.τ Cert.PoolGroupForward.sig) → Buf (Elt Bits) ℓ) : Prop :=
  True

def Pre_PoolGroupForwardIdeal (m : (ℓ : Loc Cert.PoolGroupForwardIdeal.nD Cert.PoolGroupForwardIdeal.τ Cert.PoolGroupForwardIdeal.sig) → Buf (Elt Ideal) ℓ) : Prop :=
  True

def Pre_PoolGroupForwardReferenceIdeal (m : (ℓ : Loc Cert.PoolGroupForwardReferenceIdeal.nD Cert.PoolGroupForwardReferenceIdeal.τ Cert.PoolGroupForwardReferenceIdeal.sig) → Buf (Elt Ideal) ℓ) : Prop :=
  True

def Pre_NormInForward (m : (ℓ : Loc Cert.NormInForward.nD Cert.NormInForward.τ Cert.NormInForward.sig) → Buf (Elt Bits) ℓ) : Prop :=
  True

def Pre_NormInForwardIdeal (m : (ℓ : Loc Cert.NormInForwardIdeal.nD Cert.NormInForwardIdeal.τ Cert.NormInForwardIdeal.sig) → Buf (Elt Ideal) ℓ) : Prop :=
  True

def Pre_NormInForwardReferenceIdeal (m : (ℓ : Loc Cert.NormInForwardReferenceIdeal.nD Cert.NormInForwardReferenceIdeal.τ Cert.NormInForwardReferenceIdeal.sig) → Buf (Elt Ideal) ℓ) : Prop :=
  True

def Pre_NormMidForward (m : (ℓ : Loc Cert.NormMidForward.nD Cert.NormMidForward.τ Cert.NormMidForward.sig) → Buf (Elt Bits) ℓ) : Prop :=
  True

def Pre_NormMidForwardIdeal (m : (ℓ : Loc Cert.NormMidForwardIdeal.nD Cert.NormMidForwardIdeal.τ Cert.NormMidForwardIdeal.sig) → Buf (Elt Ideal) ℓ) : Prop :=
  True

def Pre_NormMidForwardReferenceIdeal (m : (ℓ : Loc Cert.NormMidForwardReferenceIdeal.nD Cert.NormMidForwardReferenceIdeal.τ Cert.NormMidForwardReferenceIdeal.sig) → Buf (Elt Ideal) ℓ) : Prop :=
  True

def Pre_NormDownForward (m : (ℓ : Loc Cert.NormDownForward.nD Cert.NormDownForward.τ Cert.NormDownForward.sig) → Buf (Elt Bits) ℓ) : Prop :=
  True

def Pre_NormDownForwardIdeal (m : (ℓ : Loc Cert.NormDownForwardIdeal.nD Cert.NormDownForwardIdeal.τ Cert.NormDownForwardIdeal.sig) → Buf (Elt Ideal) ℓ) : Prop :=
  True

def Pre_NormDownForwardReferenceIdeal (m : (ℓ : Loc Cert.NormDownForwardReferenceIdeal.nD Cert.NormDownForwardReferenceIdeal.τ Cert.NormDownForwardReferenceIdeal.sig) → Buf (Elt Ideal) ℓ) : Prop :=
  True

def Pre_PleLoss (m : (ℓ : Loc Cert.PleLoss.nD Cert.PleLoss.τ Cert.PleLoss.sig) → Buf (Elt Bits) ℓ) : Prop :=
  True

def Pre_PleLossIdeal (m : (ℓ : Loc Cert.PleLossIdeal.nD Cert.PleLossIdeal.τ Cert.PleLossIdeal.sig) → Buf (Elt Ideal) ℓ) : Prop :=
  True

def Pre_PleLossReferenceIdeal (m : (ℓ : Loc Cert.PleLossReferenceIdeal.nD Cert.PleLossReferenceIdeal.τ Cert.PleLossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1)
      ∧ r.2.mem ((c.tc : Thread Cert.UpWeight.nD Cert.UpWeight.τ).loc Cert.UpWeight.main_arg2) = m ((c.tc : Thread Cert.UpWeight.nD Cert.UpWeight.τ).loc Cert.UpWeight.main_arg2))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1)
      ∧ r.2.mem ((c.tc : Thread Cert.UpWeightIdeal.nD Cert.UpWeightIdeal.τ).loc Cert.UpWeightIdeal.main_arg2) = m ((c.tc : Thread Cert.UpWeightIdeal.nD Cert.UpWeightIdeal.τ).loc Cert.UpWeightIdeal.main_arg2))
      ∧ r.2.sem = fun _ => 0)

def quiescent_UpWeightReferenceIdeal [hUpWeightReferenceIdeal : Cert.UpWeightReferenceIdeal.Facts] : Prop :=
  ∀ (m : (ℓ : Loc Cert.UpWeightReferenceIdeal.nD Cert.UpWeightReferenceIdeal.τ Cert.UpWeightReferenceIdeal.sig) → Buf (Elt Ideal) ℓ) (g : Dev Cert.UpWeightReferenceIdeal.nD → PrngReg), Pre_UpWeightReferenceIdeal m →
    θ_run (Cert.UpWeightReferenceIdeal.defs (F := Ideal)) (onTc (τ := Cert.UpWeightReferenceIdeal.τ) (Cert.UpWeightReferenceIdeal.main (F := Ideal))) ⟨m, fun _ => 0, g⟩ (fun r => (∀ c : Dev Cert.UpWeightReferenceIdeal.nD,
      r.2.mem ((c.tc : Thread Cert.UpWeightReferenceIdeal.nD Cert.UpWeightReferenceIdeal.τ).loc Cert.UpWeightReferenceIdeal.main_arg0) = m ((c.tc : Thread Cert.UpWeightReferenceIdeal.nD Cert.UpWeightReferenceIdeal.τ).loc Cert.UpWeightReferenceIdeal.main_arg0)
      ∧ r.2.mem ((c.tc : Thread Cert.UpWeightReferenceIdeal.nD Cert.UpWeightReferenceIdeal.τ).loc Cert.UpWeightReferenceIdeal.main_arg1) = m ((c.tc : Thread Cert.UpWeightReferenceIdeal.nD Cert.UpWeightReferenceIdeal.τ).loc Cert.UpWeightReferenceIdeal.main_arg1)
      ∧ r.2.mem ((c.tc : Thread Cert.UpWeightReferenceIdeal.nD Cert.UpWeightReferenceIdeal.τ).loc Cert.UpWeightReferenceIdeal.main_arg2) = m ((c.tc : Thread Cert.UpWeightReferenceIdeal.nD Cert.UpWeightReferenceIdeal.τ).loc Cert.UpWeightReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightReferenceIdeal [hDownWeightReferenceIdeal : Cert.DownWeightReferenceIdeal.Facts] : Prop :=
  ∀ (m : (ℓ : Loc Cert.DownWeightReferenceIdeal.nD Cert.DownWeightReferenceIdeal.τ Cert.DownWeightReferenceIdeal.sig) → Buf (Elt Ideal) ℓ) (g : Dev Cert.DownWeightReferenceIdeal.nD → PrngReg), Pre_DownWeightReferenceIdeal m →
    θ_run (Cert.DownWeightReferenceIdeal.defs (F := Ideal)) (onTc (τ := Cert.DownWeightReferenceIdeal.τ) (Cert.DownWeightReferenceIdeal.main (F := Ideal))) ⟨m, fun _ => 0, g⟩ (fun r => (∀ c : Dev Cert.DownWeightReferenceIdeal.nD,
      r.2.mem ((c.tc : Thread Cert.DownWeightReferenceIdeal.nD Cert.DownWeightReferenceIdeal.τ).loc Cert.DownWeightReferenceIdeal.main_arg0) = m ((c.tc : Thread Cert.DownWeightReferenceIdeal.nD Cert.DownWeightReferenceIdeal.τ).loc Cert.DownWeightReferenceIdeal.main_arg0)
      ∧ r.2.mem ((c.tc : Thread Cert.DownWeightReferenceIdeal.nD Cert.DownWeightReferenceIdeal.τ).loc Cert.DownWeightReferenceIdeal.main_arg1) = m ((c.tc : Thread Cert.DownWeightReferenceIdeal.nD Cert.DownWeightReferenceIdeal.τ).loc Cert.DownWeightReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateReferenceIdeal [hPleGateReferenceIdeal : Cert.PleGateReferenceIdeal.Facts] : Prop :=
  ∀ (m : (ℓ : Loc Cert.PleGateReferenceIdeal.nD Cert.PleGateReferenceIdeal.τ Cert.PleGateReferenceIdeal.sig) → Buf (Elt Ideal) ℓ) (g : Dev Cert.PleGateReferenceIdeal.nD → PrngReg), Pre_PleGateReferenceIdeal m →
    θ_run (Cert.PleGateReferenceIdeal.defs (F := Ideal)) (onTc (τ := Cert.PleGateReferenceIdeal.τ) (Cert.PleGateReferenceIdeal.main (F := Ideal))) ⟨m, fun _ => 0, g⟩ (fun r => (∀ c : Dev Cert.PleGateReferenceIdeal.nD,
      r.2.mem ((c.tc : Thread Cert.PleGateReferenceIdeal.nD Cert.PleGateReferenceIdeal.τ).loc Cert.PleGateReferenceIdeal.main_arg0) = m ((c.tc : Thread Cert.PleGateReferenceIdeal.nD Cert.PleGateReferenceIdeal.τ).loc Cert.PleGateReferenceIdeal.main_arg0)
      ∧ r.2.mem ((c.tc : Thread Cert.PleGateReferenceIdeal.nD Cert.PleGateReferenceIdeal.τ).loc Cert.PleGateReferenceIdeal.main_arg1) = m ((c.tc : Thread Cert.PleGateReferenceIdeal.nD Cert.PleGateReferenceIdeal.τ).loc Cert.PleGateReferenceIdeal.main_arg1))
      ∧ r.2.sem = fun _ => 0)

def quiescent_PleGateWeight [hPleGateWeight : Cert.PleGateWeight.Facts] : Prop :=
  ∀ (m : (ℓ : Loc Cert.PleGateWeight.nD Cert.PleGateWeight.τ Cert.PleGateWeight.sig) → Buf (Elt Bits) ℓ) (g : Dev Cert.PleGateWeight.nD → PrngReg), Pre_PleGateWeight m →
    θ_run (Cert.PleGateWeight.defs (F := Bits)) (onTc (τ := Cert.PleGateWeight.τ) (Cert.PleGateWeight.main (F := Bits))) ⟨m, fun _ => 0, g⟩ (fun r => (∀ c : Dev Cert.PleGateWeight.nD,
      r.2.mem ((c.tc : Thread Cert.PleGateWeight.nD Cert.PleGateWeight.τ).loc Cert.PleGateWeight.main_arg0) = m ((c.tc : Thread Cert.PleGateWeight.nD Cert.PleGateWeight.τ).loc Cert.PleGateWeight.main_arg0)
      ∧ r.2.mem ((c.tc : Thread Cert.PleGateWeight.nD Cert.PleGateWeight.τ).loc Cert.PleGateWeight.main_arg1) = m ((c.tc : Thread Cert.PleGateWeight.nD Cert.PleGateWeight.τ).loc Cert.PleGateWeight.main_arg1))
      ∧ r.2.sem = fun _ => 0)

def quiescent_PleGateWeightIdeal [hPleGateWeightIdeal : Cert.PleGateWeightIdeal.Facts] : Prop :=
  ∀ (m : (ℓ : Loc Cert.PleGateWeightIdeal.nD Cert.PleGateWeightIdeal.τ Cert.PleGateWeightIdeal.sig) → Buf (Elt Ideal) ℓ) (g : Dev Cert.PleGateWeightIdeal.nD → PrngReg), Pre_PleGateWeightIdeal m →
    θ_run (Cert.PleGateWeightIdeal.defs (F := Ideal)) (onTc (τ := Cert.PleGateWeightIdeal.τ) (Cert.PleGateWeightIdeal.main (F := Ideal))) ⟨m, fun _ => 0, g⟩ (fun r => (∀ c : Dev Cert.PleGateWeightIdeal.nD,
      r.2.mem ((c.tc : Thread Cert.PleGateWeightIdeal.nD Cert.PleGateWeightIdeal.τ).loc Cert.PleGateWeightIdeal.main_arg0) = m ((c.tc : Thread Cert.PleGateWeightIdeal.nD Cert.PleGateWeightIdeal.τ).loc Cert.PleGateWeightIdeal.main_arg0)
      ∧ r.2.mem ((c.tc : Thread Cert.PleGateWeightIdeal.nD Cert.PleGateWeightIdeal.τ).loc Cert.PleGateWeightIdeal.main_arg1) = m ((c.tc : Thread Cert.PleGateWeightIdeal.nD Cert.PleGateWeightIdeal.τ).loc Cert.PleGateWeightIdeal.main_arg1))
      ∧ r.2.sem = fun _ => 0)

def quiescent_PleGateWeightReferenceIdeal [hPleGateWeightReferenceIdeal : Cert.PleGateWeightReferenceIdeal.Facts] : Prop :=
  ∀ (m : (ℓ : Loc Cert.PleGateWeightReferenceIdeal.nD Cert.PleGateWeightReferenceIdeal.τ Cert.PleGateWeightReferenceIdeal.sig) → Buf (Elt Ideal) ℓ) (g : Dev Cert.PleGateWeightReferenceIdeal.nD → PrngReg), Pre_PleGateWeightReferenceIdeal m →
    θ_run (Cert.PleGateWeightReferenceIdeal.defs (F := Ideal)) (onTc (τ := Cert.PleGateWeightReferenceIdeal.τ) (Cert.PleGateWeightReferenceIdeal.main (F := Ideal))) ⟨m, fun _ => 0, g⟩ (fun r => (∀ c : Dev Cert.PleGateWeightReferenceIdeal.nD,
      r.2.mem ((c.tc : Thread Cert.PleGateWeightReferenceIdeal.nD Cert.PleGateWeightReferenceIdeal.τ).loc Cert.PleGateWeightReferenceIdeal.main_arg0) = m ((c.tc : Thread Cert.PleGateWeightReferenceIdeal.nD Cert.PleGateWeightReferenceIdeal.τ).loc Cert.PleGateWeightReferenceIdeal.main_arg0)
      ∧ r.2.mem ((c.tc : Thread Cert.PleGateWeightReferenceIdeal.nD Cert.PleGateWeightReferenceIdeal.τ).loc Cert.PleGateWeightReferenceIdeal.main_arg1) = m ((c.tc : Thread Cert.PleGateWeightReferenceIdeal.nD Cert.PleGateWeightReferenceIdeal.τ).loc Cert.PleGateWeightReferenceIdeal.main_arg1))
      ∧ r.2.sem = fun _ => 0)

def quiescent_PleWeight [hPleWeight : Cert.PleWeight.Facts] : Prop :=
  ∀ (m : (ℓ : Loc Cert.PleWeight.nD Cert.PleWeight.τ Cert.PleWeight.sig) → Buf (Elt Bits) ℓ) (g : Dev Cert.PleWeight.nD → PrngReg), Pre_PleWeight m →
    θ_run (Cert.PleWeight.defs (F := Bits)) (onTc (τ := Cert.PleWeight.τ) (Cert.PleWeight.main (F := Bits))) ⟨m, fun _ => 0, g⟩ (fun r => (∀ c : Dev Cert.PleWeight.nD,
      r.2.mem ((c.tc : Thread Cert.PleWeight.nD Cert.PleWeight.τ).loc Cert.PleWeight.main_arg0) = m ((c.tc : Thread Cert.PleWeight.nD Cert.PleWeight.τ).loc Cert.PleWeight.main_arg0)
      ∧ r.2.mem ((c.tc : Thread Cert.PleWeight.nD Cert.PleWeight.τ).loc Cert.PleWeight.main_arg1) = m ((c.tc : Thread Cert.PleWeight.nD Cert.PleWeight.τ).loc Cert.PleWeight.main_arg1))
      ∧ r.2.sem = fun _ => 0)

def quiescent_PleWeightIdeal [hPleWeightIdeal : Cert.PleWeightIdeal.Facts] : Prop :=
  ∀ (m : (ℓ : Loc Cert.PleWeightIdeal.nD Cert.PleWeightIdeal.τ Cert.PleWeightIdeal.sig) → Buf (Elt Ideal) ℓ) (g : Dev Cert.PleWeightIdeal.nD → PrngReg), Pre_PleWeightIdeal m →
    θ_run (Cert.PleWeightIdeal.defs (F := Ideal)) (onTc (τ := Cert.PleWeightIdeal.τ) (Cert.PleWeightIdeal.main (F := Ideal))) ⟨m, fun _ => 0, g⟩ (fun r => (∀ c : Dev Cert.PleWeightIdeal.nD,
      r.2.mem ((c.tc : Thread Cert.PleWeightIdeal.nD Cert.PleWeightIdeal.τ).loc Cert.PleWeightIdeal.main_arg0) = m ((c.tc : Thread Cert.PleWeightIdeal.nD Cert.PleWeightIdeal.τ).loc Cert.PleWeightIdeal.main_arg0)
      ∧ r.2.mem ((c.tc : Thread Cert.PleWeightIdeal.nD Cert.PleWeightIdeal.τ).loc Cert.PleWeightIdeal.main_arg1) = m ((c.tc : Thread Cert.PleWeightIdeal.nD Cert.PleWeightIdeal.τ).loc Cert.PleWeightIdeal.main_arg1))
      ∧ r.2.sem = fun _ => 0)

def quiescent_PleWeightReferenceIdeal [hPleWeightReferenceIdeal : Cert.PleWeightReferenceIdeal.Facts] : Prop :=
  ∀ (m : (ℓ : Loc Cert.PleWeightReferenceIdeal.nD Cert.PleWeightReferenceIdeal.τ Cert.PleWeightReferenceIdeal.sig) → Buf (Elt Ideal) ℓ) (g : Dev Cert.PleWeightReferenceIdeal.nD → PrngReg), Pre_PleWeightReferenceIdeal m →
    θ_run (Cert.PleWeightReferenceIdeal.defs (F := Ideal)) (onTc (τ := Cert.PleWeightReferenceIdeal.τ) (Cert.PleWeightReferenceIdeal.main (F := Ideal))) ⟨m, fun _ => 0, g⟩ (fun r => (∀ c : Dev Cert.PleWeightReferenceIdeal.nD,
      r.2.mem ((c.tc : Thread Cert.PleWeightReferenceIdeal.nD Cert.PleWeightReferenceIdeal.τ).loc Cert.PleWeightReferenceIdeal.main_arg0) = m ((c.tc : Thread Cert.PleWeightReferenceIdeal.nD Cert.PleWeightReferenceIdeal.τ).loc Cert.PleWeightReferenceIdeal.main_arg0)
      ∧ r.2.mem ((c.tc : Thread Cert.PleWeightReferenceIdeal.nD Cert.PleWeightReferenceIdeal.τ).loc Cert.PleWeightReferenceIdeal.main_arg1) = m ((c.tc : Thread Cert.PleWeightReferenceIdeal.nD Cert.PleWeightReferenceIdeal.τ).loc Cert.PleWeightReferenceIdeal.main_arg1))
      ∧ r.2.sem = fun _ => 0)

def quiescent_PoolBranch [hPoolBranch : Cert.PoolBranch.Facts] : Prop :=
  ∀ (m : (ℓ : Loc Cert.PoolBranch.nD Cert.PoolBranch.τ Cert.PoolBranch.sig) → Buf (Elt Bits) ℓ) (g : Dev Cert.PoolBranch.nD → PrngReg), Pre_PoolBranch m →
    θ_run (Cert.PoolBranch.defs (F := Bits)) (onTc (τ := Cert.PoolBranch.τ) (Cert.PoolBranch.main (F := Bits))) ⟨m, fun _ => 0, g⟩ (fun r => (∀ c : Dev Cert.PoolBranch.nD,
      r.2.mem ((c.tc : Thread Cert.PoolBranch.nD Cert.PoolBranch.τ).loc Cert.PoolBranch.main_arg0) = m ((c.tc : Thread Cert.PoolBranch.nD Cert.PoolBranch.τ).loc Cert.PoolBranch.main_arg0)
      ∧ r.2.mem ((c.tc : Thread Cert.PoolBranch.nD Cert.PoolBranch.τ).loc Cert.PoolBranch.main_arg1) = m ((c.tc : Thread Cert.PoolBranch.nD Cert.PoolBranch.τ).loc Cert.PoolBranch.main_arg1))
      ∧ r.2.sem = fun _ => 0)

def quiescent_PoolBranchIdeal [hPoolBranchIdeal : Cert.PoolBranchIdeal.Facts] : Prop :=
  ∀ (m : (ℓ : Loc Cert.PoolBranchIdeal.nD Cert.PoolBranchIdeal.τ Cert.PoolBranchIdeal.sig) → Buf (Elt Ideal) ℓ) (g : Dev Cert.PoolBranchIdeal.nD → PrngReg), Pre_PoolBranchIdeal m →
    θ_run (Cert.PoolBranchIdeal.defs (F := Ideal)) (onTc (τ := Cert.PoolBranchIdeal.τ) (Cert.PoolBranchIdeal.main (F := Ideal))) ⟨m, fun _ => 0, g⟩ (fun r => (∀ c : Dev Cert.PoolBranchIdeal.nD,
      r.2.mem ((c.tc : Thread Cert.PoolBranchIdeal.nD Cert.PoolBranchIdeal.τ).loc Cert.PoolBranchIdeal.main_arg0) = m ((c.tc : Thread Cert.PoolBranchIdeal.nD Cert.PoolBranchIdeal.τ).loc Cert.PoolBranchIdeal.main_arg0)
      ∧ r.2.mem ((c.tc : Thread Cert.PoolBranchIdeal.nD Cert.PoolBranchIdeal.τ).loc Cert.PoolBranchIdeal.main_arg1) = m ((c.tc : Thread Cert.PoolBranchIdeal.nD Cert.PoolBranchIdeal.τ).loc Cert.PoolBranchIdeal.main_arg1))
      ∧ r.2.sem = fun _ => 0)

def quiescent_PoolBranchReferenceIdeal [hPoolBranchReferenceIdeal : Cert.PoolBranchReferenceIdeal.Facts] : Prop :=
  ∀ (m : (ℓ : Loc Cert.PoolBranchReferenceIdeal.nD Cert.PoolBranchReferenceIdeal.τ Cert.PoolBranchReferenceIdeal.sig) → Buf (Elt Ideal) ℓ) (g : Dev Cert.PoolBranchReferenceIdeal.nD → PrngReg), Pre_PoolBranchReferenceIdeal m →
    θ_run (Cert.PoolBranchReferenceIdeal.defs (F := Ideal)) (onTc (τ := Cert.PoolBranchReferenceIdeal.τ) (Cert.PoolBranchReferenceIdeal.main (F := Ideal))) ⟨m, fun _ => 0, g⟩ (fun r => (∀ c : Dev Cert.PoolBranchReferenceIdeal.nD,
      r.2.mem ((c.tc : Thread Cert.PoolBranchReferenceIdeal.nD Cert.PoolBranchReferenceIdeal.τ).loc Cert.PoolBranchReferenceIdeal.main_arg0) = m ((c.tc : Thread Cert.PoolBranchReferenceIdeal.nD Cert.PoolBranchReferenceIdeal.τ).loc Cert.PoolBranchReferenceIdeal.main_arg0)
      ∧ r.2.mem ((c.tc : Thread Cert.PoolBranchReferenceIdeal.nD Cert.PoolBranchReferenceIdeal.τ).loc Cert.PoolBranchReferenceIdeal.main_arg1) = m ((c.tc : Thread Cert.PoolBranchReferenceIdeal.nD Cert.PoolBranchReferenceIdeal.τ).loc Cert.PoolBranchReferenceIdeal.main_arg1))
      ∧ r.2.sem = fun _ => 0)

def quiescent_PoolBranchWeight [hPoolBranchWeight : Cert.PoolBranchWeight.Facts] : Prop :=
  ∀ (m : (ℓ : Loc Cert.PoolBranchWeight.nD Cert.PoolBranchWeight.τ Cert.PoolBranchWeight.sig) → Buf (Elt Bits) ℓ) (g : Dev Cert.PoolBranchWeight.nD → PrngReg), Pre_PoolBranchWeight m →
    θ_run (Cert.PoolBranchWeight.defs (F := Bits)) (onTc (τ := Cert.PoolBranchWeight.τ) (Cert.PoolBranchWeight.main (F := Bits))) ⟨m, fun _ => 0, g⟩ (fun r => (∀ c : Dev Cert.PoolBranchWeight.nD,
      r.2.mem ((c.tc : Thread Cert.PoolBranchWeight.nD Cert.PoolBranchWeight.τ).loc Cert.PoolBranchWeight.main_arg0) = m ((c.tc : Thread Cert.PoolBranchWeight.nD Cert.PoolBranchWeight.τ).loc Cert.PoolBranchWeight.main_arg0)
      ∧ r.2.mem ((c.tc : Thread Cert.PoolBranchWeight.nD Cert.PoolBranchWeight.τ).loc Cert.PoolBranchWeight.main_arg1) = m ((c.tc : Thread Cert.PoolBranchWeight.nD Cert.PoolBranchWeight.τ).loc Cert.PoolBranchWeight.main_arg1))
      ∧ r.2.sem = fun _ => 0)

def quiescent_PoolBranchWeightIdeal [hPoolBranchWeightIdeal : Cert.PoolBranchWeightIdeal.Facts] : Prop :=
  ∀ (m : (ℓ : Loc Cert.PoolBranchWeightIdeal.nD Cert.PoolBranchWeightIdeal.τ Cert.PoolBranchWeightIdeal.sig) → Buf (Elt Ideal) ℓ) (g : Dev Cert.PoolBranchWeightIdeal.nD → PrngReg), Pre_PoolBranchWeightIdeal m →
    θ_run (Cert.PoolBranchWeightIdeal.defs (F := Ideal)) (onTc (τ := Cert.PoolBranchWeightIdeal.τ) (Cert.PoolBranchWeightIdeal.main (F := Ideal))) ⟨m, fun _ => 0, g⟩ (fun r => (∀ c : Dev Cert.PoolBranchWeightIdeal.nD,
      r.2.mem ((c.tc : Thread Cert.PoolBranchWeightIdeal.nD Cert.PoolBranchWeightIdeal.τ).loc Cert.PoolBranchWeightIdeal.main_arg0) = m ((c.tc : Thread Cert.PoolBranchWeightIdeal.nD Cert.PoolBranchWeightIdeal.τ).loc Cert.PoolBranchWeightIdeal.main_arg0)
      ∧ r.2.mem ((c.tc : Thread Cert.PoolBranchWeightIdeal.nD Cert.PoolBranchWeightIdeal.τ).loc Cert.PoolBranchWeightIdeal.main_arg1) = m ((c.tc : Thread Cert.PoolBranchWeightIdeal.nD Cert.PoolBranchWeightIdeal.τ).loc Cert.PoolBranchWeightIdeal.main_arg1))
      ∧ r.2.sem = fun _ => 0)

def quiescent_PoolBranchWeightReferenceIdeal [hPoolBranchWeightReferenceIdeal : Cert.PoolBranchWeightReferenceIdeal.Facts] : Prop :=
  ∀ (m : (ℓ : Loc Cert.PoolBranchWeightReferenceIdeal.nD Cert.PoolBranchWeightReferenceIdeal.τ Cert.PoolBranchWeightReferenceIdeal.sig) → Buf (Elt Ideal) ℓ) (g : Dev Cert.PoolBranchWeightReferenceIdeal.nD → PrngReg), Pre_PoolBranchWeightReferenceIdeal m →
    θ_run (Cert.PoolBranchWeightReferenceIdeal.defs (F := Ideal)) (onTc (τ := Cert.PoolBranchWeightReferenceIdeal.τ) (Cert.PoolBranchWeightReferenceIdeal.main (F := Ideal))) ⟨m, fun _ => 0, g⟩ (fun r => (∀ c : Dev Cert.PoolBranchWeightReferenceIdeal.nD,
      r.2.mem ((c.tc : Thread Cert.PoolBranchWeightReferenceIdeal.nD Cert.PoolBranchWeightReferenceIdeal.τ).loc Cert.PoolBranchWeightReferenceIdeal.main_arg0) = m ((c.tc : Thread Cert.PoolBranchWeightReferenceIdeal.nD Cert.PoolBranchWeightReferenceIdeal.τ).loc Cert.PoolBranchWeightReferenceIdeal.main_arg0)
      ∧ r.2.mem ((c.tc : Thread Cert.PoolBranchWeightReferenceIdeal.nD Cert.PoolBranchWeightReferenceIdeal.τ).loc Cert.PoolBranchWeightReferenceIdeal.main_arg1) = m ((c.tc : Thread Cert.PoolBranchWeightReferenceIdeal.nD Cert.PoolBranchWeightReferenceIdeal.τ).loc Cert.PoolBranchWeightReferenceIdeal.main_arg1))
      ∧ r.2.sem = fun _ => 0)

def quiescent_AttnBranch [hAttnBranch : Cert.AttnBranch.Facts] : Prop :=
  ∀ (m : (ℓ : Loc Cert.AttnBranch.nD Cert.AttnBranch.τ Cert.AttnBranch.sig) → Buf (Elt Bits) ℓ) (g : Dev Cert.AttnBranch.nD → PrngReg), Pre_AttnBranch m →
    θ_run (Cert.AttnBranch.defs (F := Bits)) (onTc (τ := Cert.AttnBranch.τ) (Cert.AttnBranch.main (F := Bits))) ⟨m, fun _ => 0, g⟩ (fun r => (∀ c : Dev Cert.AttnBranch.nD,
      r.2.mem ((c.tc : Thread Cert.AttnBranch.nD Cert.AttnBranch.τ).loc Cert.AttnBranch.main_arg0) = m ((c.tc : Thread Cert.AttnBranch.nD Cert.AttnBranch.τ).loc Cert.AttnBranch.main_arg0)
      ∧ r.2.mem ((c.tc : Thread Cert.AttnBranch.nD Cert.AttnBranch.τ).loc Cert.AttnBranch.main_arg1) = m ((c.tc : Thread Cert.AttnBranch.nD Cert.AttnBranch.τ).loc Cert.AttnBranch.main_arg1))
      ∧ r.2.sem = fun _ => 0)

def quiescent_AttnBranchIdeal [hAttnBranchIdeal : Cert.AttnBranchIdeal.Facts] : Prop :=
  ∀ (m : (ℓ : Loc Cert.AttnBranchIdeal.nD Cert.AttnBranchIdeal.τ Cert.AttnBranchIdeal.sig) → Buf (Elt Ideal) ℓ) (g : Dev Cert.AttnBranchIdeal.nD → PrngReg), Pre_AttnBranchIdeal m →
    θ_run (Cert.AttnBranchIdeal.defs (F := Ideal)) (onTc (τ := Cert.AttnBranchIdeal.τ) (Cert.AttnBranchIdeal.main (F := Ideal))) ⟨m, fun _ => 0, g⟩ (fun r => (∀ c : Dev Cert.AttnBranchIdeal.nD,
      r.2.mem ((c.tc : Thread Cert.AttnBranchIdeal.nD Cert.AttnBranchIdeal.τ).loc Cert.AttnBranchIdeal.main_arg0) = m ((c.tc : Thread Cert.AttnBranchIdeal.nD Cert.AttnBranchIdeal.τ).loc Cert.AttnBranchIdeal.main_arg0)
      ∧ r.2.mem ((c.tc : Thread Cert.AttnBranchIdeal.nD Cert.AttnBranchIdeal.τ).loc Cert.AttnBranchIdeal.main_arg1) = m ((c.tc : Thread Cert.AttnBranchIdeal.nD Cert.AttnBranchIdeal.τ).loc Cert.AttnBranchIdeal.main_arg1))
      ∧ r.2.sem = fun _ => 0)

def quiescent_AttnBranchReferenceIdeal [hAttnBranchReferenceIdeal : Cert.AttnBranchReferenceIdeal.Facts] : Prop :=
  ∀ (m : (ℓ : Loc Cert.AttnBranchReferenceIdeal.nD Cert.AttnBranchReferenceIdeal.τ Cert.AttnBranchReferenceIdeal.sig) → Buf (Elt Ideal) ℓ) (g : Dev Cert.AttnBranchReferenceIdeal.nD → PrngReg), Pre_AttnBranchReferenceIdeal m →
    θ_run (Cert.AttnBranchReferenceIdeal.defs (F := Ideal)) (onTc (τ := Cert.AttnBranchReferenceIdeal.τ) (Cert.AttnBranchReferenceIdeal.main (F := Ideal))) ⟨m, fun _ => 0, g⟩ (fun r => (∀ c : Dev Cert.AttnBranchReferenceIdeal.nD,
      r.2.mem ((c.tc : Thread Cert.AttnBranchReferenceIdeal.nD Cert.AttnBranchReferenceIdeal.τ).loc Cert.AttnBranchReferenceIdeal.main_arg0) = m ((c.tc : Thread Cert.AttnBranchReferenceIdeal.nD Cert.AttnBranchReferenceIdeal.τ).loc Cert.AttnBranchReferenceIdeal.main_arg0)
      ∧ r.2.mem ((c.tc : Thread Cert.AttnBranchReferenceIdeal.nD Cert.AttnBranchReferenceIdeal.τ).loc Cert.AttnBranchReferenceIdeal.main_arg1) = m ((c.tc : Thread Cert.AttnBranchReferenceIdeal.nD Cert.AttnBranchReferenceIdeal.τ).loc Cert.AttnBranchReferenceIdeal.main_arg1))
      ∧ r.2.sem = fun _ => 0)

def quiescent_AttnBranchWeight [hAttnBranchWeight : Cert.AttnBranchWeight.Facts] : Prop :=
  ∀ (m : (ℓ : Loc Cert.AttnBranchWeight.nD Cert.AttnBranchWeight.τ Cert.AttnBranchWeight.sig) → Buf (Elt Bits) ℓ) (g : Dev Cert.AttnBranchWeight.nD → PrngReg), Pre_AttnBranchWeight m →
    θ_run (Cert.AttnBranchWeight.defs (F := Bits)) (onTc (τ := Cert.AttnBranchWeight.τ) (Cert.AttnBranchWeight.main (F := Bits))) ⟨m, fun _ => 0, g⟩ (fun r => (∀ c : Dev Cert.AttnBranchWeight.nD,
      r.2.mem ((c.tc : Thread Cert.AttnBranchWeight.nD Cert.AttnBranchWeight.τ).loc Cert.AttnBranchWeight.main_arg0) = m ((c.tc : Thread Cert.AttnBranchWeight.nD Cert.AttnBranchWeight.τ).loc Cert.AttnBranchWeight.main_arg0)
      ∧ r.2.mem ((c.tc : Thread Cert.AttnBranchWeight.nD Cert.AttnBranchWeight.τ).loc Cert.AttnBranchWeight.main_arg1) = m ((c.tc : Thread Cert.AttnBranchWeight.nD Cert.AttnBranchWeight.τ).loc Cert.AttnBranchWeight.main_arg1))
      ∧ r.2.sem = fun _ => 0)

def quiescent_AttnBranchWeightIdeal [hAttnBranchWeightIdeal : Cert.AttnBranchWeightIdeal.Facts] : Prop :=
  ∀ (m : (ℓ : Loc Cert.AttnBranchWeightIdeal.nD Cert.AttnBranchWeightIdeal.τ Cert.AttnBranchWeightIdeal.sig) → Buf (Elt Ideal) ℓ) (g : Dev Cert.AttnBranchWeightIdeal.nD → PrngReg), Pre_AttnBranchWeightIdeal m →
    θ_run (Cert.AttnBranchWeightIdeal.defs (F := Ideal)) (onTc (τ := Cert.AttnBranchWeightIdeal.τ) (Cert.AttnBranchWeightIdeal.main (F := Ideal))) ⟨m, fun _ => 0, g⟩ (fun r => (∀ c : Dev Cert.AttnBranchWeightIdeal.nD,
      r.2.mem ((c.tc : Thread Cert.AttnBranchWeightIdeal.nD Cert.AttnBranchWeightIdeal.τ).loc Cert.AttnBranchWeightIdeal.main_arg0) = m ((c.tc : Thread Cert.AttnBranchWeightIdeal.nD Cert.AttnBranchWeightIdeal.τ).loc Cert.AttnBranchWeightIdeal.main_arg0)
      ∧ r.2.mem ((c.tc : Thread Cert.AttnBranchWeightIdeal.nD Cert.AttnBranchWeightIdeal.τ).loc Cert.AttnBranchWeightIdeal.main_arg1) = m ((c.tc : Thread Cert.AttnBranchWeightIdeal.nD Cert.AttnBranchWeightIdeal.τ).loc Cert.AttnBranchWeightIdeal.main_arg1))
      ∧ r.2.sem = fun _ => 0)

def quiescent_AttnBranchWeightReferenceIdeal [hAttnBranchWeightReferenceIdeal : Cert.AttnBranchWeightReferenceIdeal.Facts] : Prop :=
  ∀ (m : (ℓ : Loc Cert.AttnBranchWeightReferenceIdeal.nD Cert.AttnBranchWeightReferenceIdeal.τ Cert.AttnBranchWeightReferenceIdeal.sig) → Buf (Elt Ideal) ℓ) (g : Dev Cert.AttnBranchWeightReferenceIdeal.nD → PrngReg), Pre_AttnBranchWeightReferenceIdeal m →
    θ_run (Cert.AttnBranchWeightReferenceIdeal.defs (F := Ideal)) (onTc (τ := Cert.AttnBranchWeightReferenceIdeal.τ) (Cert.AttnBranchWeightReferenceIdeal.main (F := Ideal))) ⟨m, fun _ => 0, g⟩ (fun r => (∀ c : Dev Cert.AttnBranchWeightReferenceIdeal.nD,
      r.2.mem ((c.tc : Thread Cert.AttnBranchWeightReferenceIdeal.nD Cert.AttnBranchWeightReferenceIdeal.τ).loc Cert.AttnBranchWeightReferenceIdeal.main_arg0) = m ((c.tc : Thread Cert.AttnBranchWeightReferenceIdeal.nD Cert.AttnBranchWeightReferenceIdeal.τ).loc Cert.AttnBranchWeightReferenceIdeal.main_arg0)
      ∧ r.2.mem ((c.tc : Thread Cert.AttnBranchWeightReferenceIdeal.nD Cert.AttnBranchWeightReferenceIdeal.τ).loc Cert.AttnBranchWeightReferenceIdeal.main_arg1) = m ((c.tc : Thread Cert.AttnBranchWeightReferenceIdeal.nD Cert.AttnBranchWeightReferenceIdeal.τ).loc Cert.AttnBranchWeightReferenceIdeal.main_arg1))
      ∧ r.2.sem = fun _ => 0)

def quiescent_InForward [hInForward : Cert.InForward.Facts] : Prop :=
  ∀ (m : (ℓ : Loc Cert.InForward.nD Cert.InForward.τ Cert.InForward.sig) → Buf (Elt Bits) ℓ) (g : Dev Cert.InForward.nD → PrngReg), Pre_InForward m →
    θ_run (Cert.InForward.defs (F := Bits)) (onTc (τ := Cert.InForward.τ) (Cert.InForward.main (F := Bits))) ⟨m, fun _ => 0, g⟩ (fun r => (∀ c : Dev Cert.InForward.nD,
      r.2.mem ((c.tc : Thread Cert.InForward.nD Cert.InForward.τ).loc Cert.InForward.main_arg0) = m ((c.tc : Thread Cert.InForward.nD Cert.InForward.τ).loc Cert.InForward.main_arg0)
      ∧ r.2.mem ((c.tc : Thread Cert.InForward.nD Cert.InForward.τ).loc Cert.InForward.main_arg1) = m ((c.tc : Thread Cert.InForward.nD Cert.InForward.τ).loc Cert.InForward.main_arg1))
      ∧ r.2.sem = fun _ => 0)

def quiescent_InForwardIdeal [hInForwardIdeal : Cert.InForwardIdeal.Facts] : Prop :=
  ∀ (m : (ℓ : Loc Cert.InForwardIdeal.nD Cert.InForwardIdeal.τ Cert.InForwardIdeal.sig) → Buf (Elt Ideal) ℓ) (g : Dev Cert.InForwardIdeal.nD → PrngReg), Pre_InForwardIdeal m →
    θ_run (Cert.InForwardIdeal.defs (F := Ideal)) (onTc (τ := Cert.InForwardIdeal.τ) (Cert.InForwardIdeal.main (F := Ideal))) ⟨m, fun _ => 0, g⟩ (fun r => (∀ c : Dev Cert.InForwardIdeal.nD,
      r.2.mem ((c.tc : Thread Cert.InForwardIdeal.nD Cert.InForwardIdeal.τ).loc Cert.InForwardIdeal.main_arg0) = m ((c.tc : Thread Cert.InForwardIdeal.nD Cert.InForwardIdeal.τ).loc Cert.InForwardIdeal.main_arg0)
      ∧ r.2.mem ((c.tc : Thread Cert.InForwardIdeal.nD Cert.InForwardIdeal.τ).loc Cert.InForwardIdeal.main_arg1) = m ((c.tc : Thread Cert.InForwardIdeal.nD Cert.InForwardIdeal.τ).loc Cert.InForwardIdeal.main_arg1))
      ∧ r.2.sem = fun _ => 0)

def quiescent_InForwardReferenceIdeal [hInForwardReferenceIdeal : Cert.InForwardReferenceIdeal.Facts] : Prop :=
  ∀ (m : (ℓ : Loc Cert.InForwardReferenceIdeal.nD Cert.InForwardReferenceIdeal.τ Cert.InForwardReferenceIdeal.sig) → Buf (Elt Ideal) ℓ) (g : Dev Cert.InForwardReferenceIdeal.nD → PrngReg), Pre_InForwardReferenceIdeal m →
    θ_run (Cert.InForwardReferenceIdeal.defs (F := Ideal)) (onTc (τ := Cert.InForwardReferenceIdeal.τ) (Cert.InForwardReferenceIdeal.main (F := Ideal))) ⟨m, fun _ => 0, g⟩ (fun r => (∀ c : Dev Cert.InForwardReferenceIdeal.nD,
      r.2.mem ((c.tc : Thread Cert.InForwardReferenceIdeal.nD Cert.InForwardReferenceIdeal.τ).loc Cert.InForwardReferenceIdeal.main_arg0) = m ((c.tc : Thread Cert.InForwardReferenceIdeal.nD Cert.InForwardReferenceIdeal.τ).loc Cert.InForwardReferenceIdeal.main_arg0)
      ∧ r.2.mem ((c.tc : Thread Cert.InForwardReferenceIdeal.nD Cert.InForwardReferenceIdeal.τ).loc Cert.InForwardReferenceIdeal.main_arg1) = m ((c.tc : Thread Cert.InForwardReferenceIdeal.nD Cert.InForwardReferenceIdeal.τ).loc Cert.InForwardReferenceIdeal.main_arg1))
      ∧ r.2.sem = fun _ => 0)

def quiescent_UpForward [hUpForward : Cert.UpForward.Facts] : Prop :=
  ∀ (m : (ℓ : Loc Cert.UpForward.nD Cert.UpForward.τ Cert.UpForward.sig) → Buf (Elt Bits) ℓ) (g : Dev Cert.UpForward.nD → PrngReg), Pre_UpForward m →
    θ_run (Cert.UpForward.defs (F := Bits)) (onTc (τ := Cert.UpForward.τ) (Cert.UpForward.main (F := Bits))) ⟨m, fun _ => 0, g⟩ (fun r => (∀ c : Dev Cert.UpForward.nD,
      r.2.mem ((c.tc : Thread Cert.UpForward.nD Cert.UpForward.τ).loc Cert.UpForward.main_arg0) = m ((c.tc : Thread Cert.UpForward.nD Cert.UpForward.τ).loc Cert.UpForward.main_arg0)
      ∧ r.2.mem ((c.tc : Thread Cert.UpForward.nD Cert.UpForward.τ).loc Cert.UpForward.main_arg1) = m ((c.tc : Thread Cert.UpForward.nD Cert.UpForward.τ).loc Cert.UpForward.main_arg1))
      ∧ r.2.sem = fun _ => 0)

def quiescent_UpForwardIdeal [hUpForwardIdeal : Cert.UpForwardIdeal.Facts] : Prop :=
  ∀ (m : (ℓ : Loc Cert.UpForwardIdeal.nD Cert.UpForwardIdeal.τ Cert.UpForwardIdeal.sig) → Buf (Elt Ideal) ℓ) (g : Dev Cert.UpForwardIdeal.nD → PrngReg), Pre_UpForwardIdeal m →
    θ_run (Cert.UpForwardIdeal.defs (F := Ideal)) (onTc (τ := Cert.UpForwardIdeal.τ) (Cert.UpForwardIdeal.main (F := Ideal))) ⟨m, fun _ => 0, g⟩ (fun r => (∀ c : Dev Cert.UpForwardIdeal.nD,
      r.2.mem ((c.tc : Thread Cert.UpForwardIdeal.nD Cert.UpForwardIdeal.τ).loc Cert.UpForwardIdeal.main_arg0) = m ((c.tc : Thread Cert.UpForwardIdeal.nD Cert.UpForwardIdeal.τ).loc Cert.UpForwardIdeal.main_arg0)
      ∧ r.2.mem ((c.tc : Thread Cert.UpForwardIdeal.nD Cert.UpForwardIdeal.τ).loc Cert.UpForwardIdeal.main_arg1) = m ((c.tc : Thread Cert.UpForwardIdeal.nD Cert.UpForwardIdeal.τ).loc Cert.UpForwardIdeal.main_arg1))
      ∧ r.2.sem = fun _ => 0)

def quiescent_UpForwardReferenceIdeal [hUpForwardReferenceIdeal : Cert.UpForwardReferenceIdeal.Facts] : Prop :=
  ∀ (m : (ℓ : Loc Cert.UpForwardReferenceIdeal.nD Cert.UpForwardReferenceIdeal.τ Cert.UpForwardReferenceIdeal.sig) → Buf (Elt Ideal) ℓ) (g : Dev Cert.UpForwardReferenceIdeal.nD → PrngReg), Pre_UpForwardReferenceIdeal m →
    θ_run (Cert.UpForwardReferenceIdeal.defs (F := Ideal)) (onTc (τ := Cert.UpForwardReferenceIdeal.τ) (Cert.UpForwardReferenceIdeal.main (F := Ideal))) ⟨m, fun _ => 0, g⟩ (fun r => (∀ c : Dev Cert.UpForwardReferenceIdeal.nD,
      r.2.mem ((c.tc : Thread Cert.UpForwardReferenceIdeal.nD Cert.UpForwardReferenceIdeal.τ).loc Cert.UpForwardReferenceIdeal.main_arg0) = m ((c.tc : Thread Cert.UpForwardReferenceIdeal.nD Cert.UpForwardReferenceIdeal.τ).loc Cert.UpForwardReferenceIdeal.main_arg0)
      ∧ r.2.mem ((c.tc : Thread Cert.UpForwardReferenceIdeal.nD Cert.UpForwardReferenceIdeal.τ).loc Cert.UpForwardReferenceIdeal.main_arg1) = m ((c.tc : Thread Cert.UpForwardReferenceIdeal.nD Cert.UpForwardReferenceIdeal.τ).loc Cert.UpForwardReferenceIdeal.main_arg1))
      ∧ r.2.sem = fun _ => 0)

def quiescent_AttnBranchForward [hAttnBranchForward : Cert.AttnBranchForward.Facts] : Prop :=
  ∀ (m : (ℓ : Loc Cert.AttnBranchForward.nD Cert.AttnBranchForward.τ Cert.AttnBranchForward.sig) → Buf (Elt Bits) ℓ) (g : Dev Cert.AttnBranchForward.nD → PrngReg), Pre_AttnBranchForward m →
    θ_run (Cert.AttnBranchForward.defs (F := Bits)) (onTc (τ := Cert.AttnBranchForward.τ) (Cert.AttnBranchForward.main (F := Bits))) ⟨m, fun _ => 0, g⟩ (fun r => (∀ c : Dev Cert.AttnBranchForward.nD,
      r.2.mem ((c.tc : Thread Cert.AttnBranchForward.nD Cert.AttnBranchForward.τ).loc Cert.AttnBranchForward.main_arg0) = m ((c.tc : Thread Cert.AttnBranchForward.nD Cert.AttnBranchForward.τ).loc Cert.AttnBranchForward.main_arg0)
      ∧ r.2.mem ((c.tc : Thread Cert.AttnBranchForward.nD Cert.AttnBranchForward.τ).loc Cert.AttnBranchForward.main_arg1) = m ((c.tc : Thread Cert.AttnBranchForward.nD Cert.AttnBranchForward.τ).loc Cert.AttnBranchForward.main_arg1))
      ∧ r.2.sem = fun _ => 0)

def quiescent_AttnBranchForwardIdeal [hAttnBranchForwardIdeal : Cert.AttnBranchForwardIdeal.Facts] : Prop :=
  ∀ (m : (ℓ : Loc Cert.AttnBranchForwardIdeal.nD Cert.AttnBranchForwardIdeal.τ Cert.AttnBranchForwardIdeal.sig) → Buf (Elt Ideal) ℓ) (g : Dev Cert.AttnBranchForwardIdeal.nD → PrngReg), Pre_AttnBranchForwardIdeal m →
    θ_run (Cert.AttnBranchForwardIdeal.defs (F := Ideal)) (onTc (τ := Cert.AttnBranchForwardIdeal.τ) (Cert.AttnBranchForwardIdeal.main (F := Ideal))) ⟨m, fun _ => 0, g⟩ (fun r => (∀ c : Dev Cert.AttnBranchForwardIdeal.nD,
      r.2.mem ((c.tc : Thread Cert.AttnBranchForwardIdeal.nD Cert.AttnBranchForwardIdeal.τ).loc Cert.AttnBranchForwardIdeal.main_arg0) = m ((c.tc : Thread Cert.AttnBranchForwardIdeal.nD Cert.AttnBranchForwardIdeal.τ).loc Cert.AttnBranchForwardIdeal.main_arg0)
      ∧ r.2.mem ((c.tc : Thread Cert.AttnBranchForwardIdeal.nD Cert.AttnBranchForwardIdeal.τ).loc Cert.AttnBranchForwardIdeal.main_arg1) = m ((c.tc : Thread Cert.AttnBranchForwardIdeal.nD Cert.AttnBranchForwardIdeal.τ).loc Cert.AttnBranchForwardIdeal.main_arg1))
      ∧ r.2.sem = fun _ => 0)

def quiescent_AttnBranchForwardReferenceIdeal [hAttnBranchForwardReferenceIdeal : Cert.AttnBranchForwardReferenceIdeal.Facts] : Prop :=
  ∀ (m : (ℓ : Loc Cert.AttnBranchForwardReferenceIdeal.nD Cert.AttnBranchForwardReferenceIdeal.τ Cert.AttnBranchForwardReferenceIdeal.sig) → Buf (Elt Ideal) ℓ) (g : Dev Cert.AttnBranchForwardReferenceIdeal.nD → PrngReg), Pre_AttnBranchForwardReferenceIdeal m →
    θ_run (Cert.AttnBranchForwardReferenceIdeal.defs (F := Ideal)) (onTc (τ := Cert.AttnBranchForwardReferenceIdeal.τ) (Cert.AttnBranchForwardReferenceIdeal.main (F := Ideal))) ⟨m, fun _ => 0, g⟩ (fun r => (∀ c : Dev Cert.AttnBranchForwardReferenceIdeal.nD,
      r.2.mem ((c.tc : Thread Cert.AttnBranchForwardReferenceIdeal.nD Cert.AttnBranchForwardReferenceIdeal.τ).loc Cert.AttnBranchForwardReferenceIdeal.main_arg0) = m ((c.tc : Thread Cert.AttnBranchForwardReferenceIdeal.nD Cert.AttnBranchForwardReferenceIdeal.τ).loc Cert.AttnBranchForwardReferenceIdeal.main_arg0)
      ∧ r.2.mem ((c.tc : Thread Cert.AttnBranchForwardReferenceIdeal.nD Cert.AttnBranchForwardReferenceIdeal.τ).loc Cert.AttnBranchForwardReferenceIdeal.main_arg1) = m ((c.tc : Thread Cert.AttnBranchForwardReferenceIdeal.nD Cert.AttnBranchForwardReferenceIdeal.τ).loc Cert.AttnBranchForwardReferenceIdeal.main_arg1))
      ∧ r.2.sem = fun _ => 0)

def quiescent_PoolBranchForward [hPoolBranchForward : Cert.PoolBranchForward.Facts] : Prop :=
  ∀ (m : (ℓ : Loc Cert.PoolBranchForward.nD Cert.PoolBranchForward.τ Cert.PoolBranchForward.sig) → Buf (Elt Bits) ℓ) (g : Dev Cert.PoolBranchForward.nD → PrngReg), Pre_PoolBranchForward m →
    θ_run (Cert.PoolBranchForward.defs (F := Bits)) (onTc (τ := Cert.PoolBranchForward.τ) (Cert.PoolBranchForward.main (F := Bits))) ⟨m, fun _ => 0, g⟩ (fun r => (∀ c : Dev Cert.PoolBranchForward.nD,
      r.2.mem ((c.tc : Thread Cert.PoolBranchForward.nD Cert.PoolBranchForward.τ).loc Cert.PoolBranchForward.main_arg0) = m ((c.tc : Thread Cert.PoolBranchForward.nD Cert.PoolBranchForward.τ).loc Cert.PoolBranchForward.main_arg0)
      ∧ r.2.mem ((c.tc : Thread Cert.PoolBranchForward.nD Cert.PoolBranchForward.τ).loc Cert.PoolBranchForward.main_arg1) = m ((c.tc : Thread Cert.PoolBranchForward.nD Cert.PoolBranchForward.τ).loc Cert.PoolBranchForward.main_arg1))
      ∧ r.2.sem = fun _ => 0)

def quiescent_PoolBranchForwardIdeal [hPoolBranchForwardIdeal : Cert.PoolBranchForwardIdeal.Facts] : Prop :=
  ∀ (m : (ℓ : Loc Cert.PoolBranchForwardIdeal.nD Cert.PoolBranchForwardIdeal.τ Cert.PoolBranchForwardIdeal.sig) → Buf (Elt Ideal) ℓ) (g : Dev Cert.PoolBranchForwardIdeal.nD → PrngReg), Pre_PoolBranchForwardIdeal m →
    θ_run (Cert.PoolBranchForwardIdeal.defs (F := Ideal)) (onTc (τ := Cert.PoolBranchForwardIdeal.τ) (Cert.PoolBranchForwardIdeal.main (F := Ideal))) ⟨m, fun _ => 0, g⟩ (fun r => (∀ c : Dev Cert.PoolBranchForwardIdeal.nD,
      r.2.mem ((c.tc : Thread Cert.PoolBranchForwardIdeal.nD Cert.PoolBranchForwardIdeal.τ).loc Cert.PoolBranchForwardIdeal.main_arg0) = m ((c.tc : Thread Cert.PoolBranchForwardIdeal.nD Cert.PoolBranchForwardIdeal.τ).loc Cert.PoolBranchForwardIdeal.main_arg0)
      ∧ r.2.mem ((c.tc : Thread Cert.PoolBranchForwardIdeal.nD Cert.PoolBranchForwardIdeal.τ).loc Cert.PoolBranchForwardIdeal.main_arg1) = m ((c.tc : Thread Cert.PoolBranchForwardIdeal.nD Cert.PoolBranchForwardIdeal.τ).loc Cert.PoolBranchForwardIdeal.main_arg1))
      ∧ r.2.sem = fun _ => 0)

def quiescent_PoolBranchForwardReferenceIdeal [hPoolBranchForwardReferenceIdeal : Cert.PoolBranchForwardReferenceIdeal.Facts] : Prop :=
  ∀ (m : (ℓ : Loc Cert.PoolBranchForwardReferenceIdeal.nD Cert.PoolBranchForwardReferenceIdeal.τ Cert.PoolBranchForwardReferenceIdeal.sig) → Buf (Elt Ideal) ℓ) (g : Dev Cert.PoolBranchForwardReferenceIdeal.nD → PrngReg), Pre_PoolBranchForwardReferenceIdeal m →
    θ_run (Cert.PoolBranchForwardReferenceIdeal.defs (F := Ideal)) (onTc (τ := Cert.PoolBranchForwardReferenceIdeal.τ) (Cert.PoolBranchForwardReferenceIdeal.main (F := Ideal))) ⟨m, fun _ => 0, g⟩ (fun r => (∀ c : Dev Cert.PoolBranchForwardReferenceIdeal.nD,
      r.2.mem ((c.tc : Thread Cert.PoolBranchForwardReferenceIdeal.nD Cert.PoolBranchForwardReferenceIdeal.τ).loc Cert.PoolBranchForwardReferenceIdeal.main_arg0) = m ((c.tc : Thread Cert.PoolBranchForwardReferenceIdeal.nD Cert.PoolBranchForwardReferenceIdeal.τ).loc Cert.PoolBranchForwardReferenceIdeal.main_arg0)
      ∧ r.2.mem ((c.tc : Thread Cert.PoolBranchForwardReferenceIdeal.nD Cert.PoolBranchForwardReferenceIdeal.τ).loc Cert.PoolBranchForwardReferenceIdeal.main_arg1) = m ((c.tc : Thread Cert.PoolBranchForwardReferenceIdeal.nD Cert.PoolBranchForwardReferenceIdeal.τ).loc Cert.PoolBranchForwardReferenceIdeal.main_arg1))
      ∧ r.2.sem = fun _ => 0)

def quiescent_OutForward [hOutForward : Cert.OutForward.Facts] : Prop :=
  ∀ (m : (ℓ : Loc Cert.OutForward.nD Cert.OutForward.τ Cert.OutForward.sig) → Buf (Elt Bits) ℓ) (g : Dev Cert.OutForward.nD → PrngReg), Pre_OutForward m →
    θ_run (Cert.OutForward.defs (F := Bits)) (onTc (τ := Cert.OutForward.τ) (Cert.OutForward.main (F := Bits))) ⟨m, fun _ => 0, g⟩ (fun r => (∀ c : Dev Cert.OutForward.nD,
      r.2.mem ((c.tc : Thread Cert.OutForward.nD Cert.OutForward.τ).loc Cert.OutForward.main_arg0) = m ((c.tc : Thread Cert.OutForward.nD Cert.OutForward.τ).loc Cert.OutForward.main_arg0)
      ∧ r.2.mem ((c.tc : Thread Cert.OutForward.nD Cert.OutForward.τ).loc Cert.OutForward.main_arg1) = m ((c.tc : Thread Cert.OutForward.nD Cert.OutForward.τ).loc Cert.OutForward.main_arg1))
      ∧ r.2.sem = fun _ => 0)

def quiescent_OutForwardIdeal [hOutForwardIdeal : Cert.OutForwardIdeal.Facts] : Prop :=
  ∀ (m : (ℓ : Loc Cert.OutForwardIdeal.nD Cert.OutForwardIdeal.τ Cert.OutForwardIdeal.sig) → Buf (Elt Ideal) ℓ) (g : Dev Cert.OutForwardIdeal.nD → PrngReg), Pre_OutForwardIdeal m →
    θ_run (Cert.OutForwardIdeal.defs (F := Ideal)) (onTc (τ := Cert.OutForwardIdeal.τ) (Cert.OutForwardIdeal.main (F := Ideal))) ⟨m, fun _ => 0, g⟩ (fun r => (∀ c : Dev Cert.OutForwardIdeal.nD,
      r.2.mem ((c.tc : Thread Cert.OutForwardIdeal.nD Cert.OutForwardIdeal.τ).loc Cert.OutForwardIdeal.main_arg0) = m ((c.tc : Thread Cert.OutForwardIdeal.nD Cert.OutForwardIdeal.τ).loc Cert.OutForwardIdeal.main_arg0)
      ∧ r.2.mem ((c.tc : Thread Cert.OutForwardIdeal.nD Cert.OutForwardIdeal.τ).loc Cert.OutForwardIdeal.main_arg1) = m ((c.tc : Thread Cert.OutForwardIdeal.nD Cert.OutForwardIdeal.τ).loc Cert.OutForwardIdeal.main_arg1))
      ∧ r.2.sem = fun _ => 0)

def quiescent_OutForwardReferenceIdeal [hOutForwardReferenceIdeal : Cert.OutForwardReferenceIdeal.Facts] : Prop :=
  ∀ (m : (ℓ : Loc Cert.OutForwardReferenceIdeal.nD Cert.OutForwardReferenceIdeal.τ Cert.OutForwardReferenceIdeal.sig) → Buf (Elt Ideal) ℓ) (g : Dev Cert.OutForwardReferenceIdeal.nD → PrngReg), Pre_OutForwardReferenceIdeal m →
    θ_run (Cert.OutForwardReferenceIdeal.defs (F := Ideal)) (onTc (τ := Cert.OutForwardReferenceIdeal.τ) (Cert.OutForwardReferenceIdeal.main (F := Ideal))) ⟨m, fun _ => 0, g⟩ (fun r => (∀ c : Dev Cert.OutForwardReferenceIdeal.nD,
      r.2.mem ((c.tc : Thread Cert.OutForwardReferenceIdeal.nD Cert.OutForwardReferenceIdeal.τ).loc Cert.OutForwardReferenceIdeal.main_arg0) = m ((c.tc : Thread Cert.OutForwardReferenceIdeal.nD Cert.OutForwardReferenceIdeal.τ).loc Cert.OutForwardReferenceIdeal.main_arg0)
      ∧ r.2.mem ((c.tc : Thread Cert.OutForwardReferenceIdeal.nD Cert.OutForwardReferenceIdeal.τ).loc Cert.OutForwardReferenceIdeal.main_arg1) = m ((c.tc : Thread Cert.OutForwardReferenceIdeal.nD Cert.OutForwardReferenceIdeal.τ).loc Cert.OutForwardReferenceIdeal.main_arg1))
      ∧ r.2.sem = fun _ => 0)

def quiescent_PleForward [hPleForward : Cert.PleForward.Facts] : Prop :=
  ∀ (m : (ℓ : Loc Cert.PleForward.nD Cert.PleForward.τ Cert.PleForward.sig) → Buf (Elt Bits) ℓ) (g : Dev Cert.PleForward.nD → PrngReg), Pre_PleForward m →
    θ_run (Cert.PleForward.defs (F := Bits)) (onTc (τ := Cert.PleForward.τ) (Cert.PleForward.main (F := Bits))) ⟨m, fun _ => 0, g⟩ (fun r => (∀ c : Dev Cert.PleForward.nD,
      r.2.mem ((c.tc : Thread Cert.PleForward.nD Cert.PleForward.τ).loc Cert.PleForward.main_arg0) = m ((c.tc : Thread Cert.PleForward.nD Cert.PleForward.τ).loc Cert.PleForward.main_arg0)
      ∧ r.2.mem ((c.tc : Thread Cert.PleForward.nD Cert.PleForward.τ).loc Cert.PleForward.main_arg1) = m ((c.tc : Thread Cert.PleForward.nD Cert.PleForward.τ).loc Cert.PleForward.main_arg1))
      ∧ r.2.sem = fun _ => 0)

def quiescent_PleForwardIdeal [hPleForwardIdeal : Cert.PleForwardIdeal.Facts] : Prop :=
  ∀ (m : (ℓ : Loc Cert.PleForwardIdeal.nD Cert.PleForwardIdeal.τ Cert.PleForwardIdeal.sig) → Buf (Elt Ideal) ℓ) (g : Dev Cert.PleForwardIdeal.nD → PrngReg), Pre_PleForwardIdeal m →
    θ_run (Cert.PleForwardIdeal.defs (F := Ideal)) (onTc (τ := Cert.PleForwardIdeal.τ) (Cert.PleForwardIdeal.main (F := Ideal))) ⟨m, fun _ => 0, g⟩ (fun r => (∀ c : Dev Cert.PleForwardIdeal.nD,
      r.2.mem ((c.tc : Thread Cert.PleForwardIdeal.nD Cert.PleForwardIdeal.τ).loc Cert.PleForwardIdeal.main_arg0) = m ((c.tc : Thread Cert.PleForwardIdeal.nD Cert.PleForwardIdeal.τ).loc Cert.PleForwardIdeal.main_arg0)
      ∧ r.2.mem ((c.tc : Thread Cert.PleForwardIdeal.nD Cert.PleForwardIdeal.τ).loc Cert.PleForwardIdeal.main_arg1) = m ((c.tc : Thread Cert.PleForwardIdeal.nD Cert.PleForwardIdeal.τ).loc Cert.PleForwardIdeal.main_arg1))
      ∧ r.2.sem = fun _ => 0)

def quiescent_PleForwardReferenceIdeal [hPleForwardReferenceIdeal : Cert.PleForwardReferenceIdeal.Facts] : Prop :=
  ∀ (m : (ℓ : Loc Cert.PleForwardReferenceIdeal.nD Cert.PleForwardReferenceIdeal.τ Cert.PleForwardReferenceIdeal.sig) → Buf (Elt Ideal) ℓ) (g : Dev Cert.PleForwardReferenceIdeal.nD → PrngReg), Pre_PleForwardReferenceIdeal m →
    θ_run (Cert.PleForwardReferenceIdeal.defs (F := Ideal)) (onTc (τ := Cert.PleForwardReferenceIdeal.τ) (Cert.PleForwardReferenceIdeal.main (F := Ideal))) ⟨m, fun _ => 0, g⟩ (fun r => (∀ c : Dev Cert.PleForwardReferenceIdeal.nD,
      r.2.mem ((c.tc : Thread Cert.PleForwardReferenceIdeal.nD Cert.PleForwardReferenceIdeal.τ).loc Cert.PleForwardReferenceIdeal.main_arg0) = m ((c.tc : Thread Cert.PleForwardReferenceIdeal.nD Cert.PleForwardReferenceIdeal.τ).loc Cert.PleForwardReferenceIdeal.main_arg0)
      ∧ r.2.mem ((c.tc : Thread Cert.PleForwardReferenceIdeal.nD Cert.PleForwardReferenceIdeal.τ).loc Cert.PleForwardReferenceIdeal.main_arg1) = m ((c.tc : Thread Cert.PleForwardReferenceIdeal.nD Cert.PleForwardReferenceIdeal.τ).loc Cert.PleForwardReferenceIdeal.main_arg1))
      ∧ r.2.sem = fun _ => 0)

def quiescent_PleGateForward [hPleGateForward : Cert.PleGateForward.Facts] : Prop :=
  ∀ (m : (ℓ : Loc Cert.PleGateForward.nD Cert.PleGateForward.τ Cert.PleGateForward.sig) → Buf (Elt Bits) ℓ) (g : Dev Cert.PleGateForward.nD → PrngReg), Pre_PleGateForward m →
    θ_run (Cert.PleGateForward.defs (F := Bits)) (onTc (τ := Cert.PleGateForward.τ) (Cert.PleGateForward.main (F := Bits))) ⟨m, fun _ => 0, g⟩ (fun r => (∀ c : Dev Cert.PleGateForward.nD,
      r.2.mem ((c.tc : Thread Cert.PleGateForward.nD Cert.PleGateForward.τ).loc Cert.PleGateForward.main_arg0) = m ((c.tc : Thread Cert.PleGateForward.nD Cert.PleGateForward.τ).loc Cert.PleGateForward.main_arg0)
      ∧ r.2.mem ((c.tc : Thread Cert.PleGateForward.nD Cert.PleGateForward.τ).loc Cert.PleGateForward.main_arg1) = m ((c.tc : Thread Cert.PleGateForward.nD Cert.PleGateForward.τ).loc Cert.PleGateForward.main_arg1))
      ∧ r.2.sem = fun _ => 0)

def quiescent_PleGateForwardIdeal [hPleGateForwardIdeal : Cert.PleGateForwardIdeal.Facts] : Prop :=
  ∀ (m : (ℓ : Loc Cert.PleGateForwardIdeal.nD Cert.PleGateForwardIdeal.τ Cert.PleGateForwardIdeal.sig) → Buf (Elt Ideal) ℓ) (g : Dev Cert.PleGateForwardIdeal.nD → PrngReg), Pre_PleGateForwardIdeal m →
    θ_run (Cert.PleGateForwardIdeal.defs (F := Ideal)) (onTc (τ := Cert.PleGateForwardIdeal.τ) (Cert.PleGateForwardIdeal.main (F := Ideal))) ⟨m, fun _ => 0, g⟩ (fun r => (∀ c : Dev Cert.PleGateForwardIdeal.nD,
      r.2.mem ((c.tc : Thread Cert.PleGateForwardIdeal.nD Cert.PleGateForwardIdeal.τ).loc Cert.PleGateForwardIdeal.main_arg0) = m ((c.tc : Thread Cert.PleGateForwardIdeal.nD Cert.PleGateForwardIdeal.τ).loc Cert.PleGateForwardIdeal.main_arg0)
      ∧ r.2.mem ((c.tc : Thread Cert.PleGateForwardIdeal.nD Cert.PleGateForwardIdeal.τ).loc Cert.PleGateForwardIdeal.main_arg1) = m ((c.tc : Thread Cert.PleGateForwardIdeal.nD Cert.PleGateForwardIdeal.τ).loc Cert.PleGateForwardIdeal.main_arg1))
      ∧ r.2.sem = fun _ => 0)

def quiescent_PleGateForwardReferenceIdeal [hPleGateForwardReferenceIdeal : Cert.PleGateForwardReferenceIdeal.Facts] : Prop :=
  ∀ (m : (ℓ : Loc Cert.PleGateForwardReferenceIdeal.nD Cert.PleGateForwardReferenceIdeal.τ Cert.PleGateForwardReferenceIdeal.sig) → Buf (Elt Ideal) ℓ) (g : Dev Cert.PleGateForwardReferenceIdeal.nD → PrngReg), Pre_PleGateForwardReferenceIdeal m →
    θ_run (Cert.PleGateForwardReferenceIdeal.defs (F := Ideal)) (onTc (τ := Cert.PleGateForwardReferenceIdeal.τ) (Cert.PleGateForwardReferenceIdeal.main (F := Ideal))) ⟨m, fun _ => 0, g⟩ (fun r => (∀ c : Dev Cert.PleGateForwardReferenceIdeal.nD,
      r.2.mem ((c.tc : Thread Cert.PleGateForwardReferenceIdeal.nD Cert.PleGateForwardReferenceIdeal.τ).loc Cert.PleGateForwardReferenceIdeal.main_arg0) = m ((c.tc : Thread Cert.PleGateForwardReferenceIdeal.nD Cert.PleGateForwardReferenceIdeal.τ).loc Cert.PleGateForwardReferenceIdeal.main_arg0)
      ∧ r.2.mem ((c.tc : Thread Cert.PleGateForwardReferenceIdeal.nD Cert.PleGateForwardReferenceIdeal.τ).loc Cert.PleGateForwardReferenceIdeal.main_arg1) = m ((c.tc : Thread Cert.PleGateForwardReferenceIdeal.nD Cert.PleGateForwardReferenceIdeal.τ).loc Cert.PleGateForwardReferenceIdeal.main_arg1))
      ∧ r.2.sem = fun _ => 0)

def quiescent_DownForward [hDownForward : Cert.DownForward.Facts] : Prop :=
  ∀ (m : (ℓ : Loc Cert.DownForward.nD Cert.DownForward.τ Cert.DownForward.sig) → Buf (Elt Bits) ℓ) (g : Dev Cert.DownForward.nD → PrngReg), Pre_DownForward m →
    θ_run (Cert.DownForward.defs (F := Bits)) (onTc (τ := Cert.DownForward.τ) (Cert.DownForward.main (F := Bits))) ⟨m, fun _ => 0, g⟩ (fun r => (∀ c : Dev Cert.DownForward.nD,
      r.2.mem ((c.tc : Thread Cert.DownForward.nD Cert.DownForward.τ).loc Cert.DownForward.main_arg0) = m ((c.tc : Thread Cert.DownForward.nD Cert.DownForward.τ).loc Cert.DownForward.main_arg0)
      ∧ r.2.mem ((c.tc : Thread Cert.DownForward.nD Cert.DownForward.τ).loc Cert.DownForward.main_arg1) = m ((c.tc : Thread Cert.DownForward.nD Cert.DownForward.τ).loc Cert.DownForward.main_arg1))
      ∧ r.2.sem = fun _ => 0)

def quiescent_DownForwardIdeal [hDownForwardIdeal : Cert.DownForwardIdeal.Facts] : Prop :=
  ∀ (m : (ℓ : Loc Cert.DownForwardIdeal.nD Cert.DownForwardIdeal.τ Cert.DownForwardIdeal.sig) → Buf (Elt Ideal) ℓ) (g : Dev Cert.DownForwardIdeal.nD → PrngReg), Pre_DownForwardIdeal m →
    θ_run (Cert.DownForwardIdeal.defs (F := Ideal)) (onTc (τ := Cert.DownForwardIdeal.τ) (Cert.DownForwardIdeal.main (F := Ideal))) ⟨m, fun _ => 0, g⟩ (fun r => (∀ c : Dev Cert.DownForwardIdeal.nD,
      r.2.mem ((c.tc : Thread Cert.DownForwardIdeal.nD Cert.DownForwardIdeal.τ).loc Cert.DownForwardIdeal.main_arg0) = m ((c.tc : Thread Cert.DownForwardIdeal.nD Cert.DownForwardIdeal.τ).loc Cert.DownForwardIdeal.main_arg0)
      ∧ r.2.mem ((c.tc : Thread Cert.DownForwardIdeal.nD Cert.DownForwardIdeal.τ).loc Cert.DownForwardIdeal.main_arg1) = m ((c.tc : Thread Cert.DownForwardIdeal.nD Cert.DownForwardIdeal.τ).loc Cert.DownForwardIdeal.main_arg1))
      ∧ r.2.sem = fun _ => 0)

def quiescent_DownForwardReferenceIdeal [hDownForwardReferenceIdeal : Cert.DownForwardReferenceIdeal.Facts] : Prop :=
  ∀ (m : (ℓ : Loc Cert.DownForwardReferenceIdeal.nD Cert.DownForwardReferenceIdeal.τ Cert.DownForwardReferenceIdeal.sig) → Buf (Elt Ideal) ℓ) (g : Dev Cert.DownForwardReferenceIdeal.nD → PrngReg), Pre_DownForwardReferenceIdeal m →
    θ_run (Cert.DownForwardReferenceIdeal.defs (F := Ideal)) (onTc (τ := Cert.DownForwardReferenceIdeal.τ) (Cert.DownForwardReferenceIdeal.main (F := Ideal))) ⟨m, fun _ => 0, g⟩ (fun r => (∀ c : Dev Cert.DownForwardReferenceIdeal.nD,
      r.2.mem ((c.tc : Thread Cert.DownForwardReferenceIdeal.nD Cert.DownForwardReferenceIdeal.τ).loc Cert.DownForwardReferenceIdeal.main_arg0) = m ((c.tc : Thread Cert.DownForwardReferenceIdeal.nD Cert.DownForwardReferenceIdeal.τ).loc Cert.DownForwardReferenceIdeal.main_arg0)
      ∧ r.2.mem ((c.tc : Thread Cert.DownForwardReferenceIdeal.nD Cert.DownForwardReferenceIdeal.τ).loc Cert.DownForwardReferenceIdeal.main_arg1) = m ((c.tc : Thread Cert.DownForwardReferenceIdeal.nD Cert.DownForwardReferenceIdeal.τ).loc Cert.DownForwardReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_PoolGroup [hPoolGroup : Cert.PoolGroup.Facts] : Prop :=
  ∀ (m : (ℓ : Loc Cert.PoolGroup.nD Cert.PoolGroup.τ Cert.PoolGroup.sig) → Buf (Elt Bits) ℓ) (g : Dev Cert.PoolGroup.nD → PrngReg), Pre_PoolGroup m →
    θ_run (Cert.PoolGroup.defs (F := Bits)) (onTc (τ := Cert.PoolGroup.τ) (Cert.PoolGroup.main (F := Bits))) ⟨m, fun _ => 0, g⟩ (fun r => (∀ c : Dev Cert.PoolGroup.nD,
      r.2.mem ((c.tc : Thread Cert.PoolGroup.nD Cert.PoolGroup.τ).loc Cert.PoolGroup.main_arg0) = m ((c.tc : Thread Cert.PoolGroup.nD Cert.PoolGroup.τ).loc Cert.PoolGroup.main_arg0)
      ∧ r.2.mem ((c.tc : Thread Cert.PoolGroup.nD Cert.PoolGroup.τ).loc Cert.PoolGroup.main_arg1) = m ((c.tc : Thread Cert.PoolGroup.nD Cert.PoolGroup.τ).loc Cert.PoolGroup.main_arg1))
      ∧ r.2.sem = fun _ => 0)

def quiescent_PoolGroupIdeal [hPoolGroupIdeal : Cert.PoolGroupIdeal.Facts] : Prop :=
  ∀ (m : (ℓ : Loc Cert.PoolGroupIdeal.nD Cert.PoolGroupIdeal.τ Cert.PoolGroupIdeal.sig) → Buf (Elt Ideal) ℓ) (g : Dev Cert.PoolGroupIdeal.nD → PrngReg), Pre_PoolGroupIdeal m →
    θ_run (Cert.PoolGroupIdeal.defs (F := Ideal)) (onTc (τ := Cert.PoolGroupIdeal.τ) (Cert.PoolGroupIdeal.main (F := Ideal))) ⟨m, fun _ => 0, g⟩ (fun r => (∀ c : Dev Cert.PoolGroupIdeal.nD,
      r.2.mem ((c.tc : Thread Cert.PoolGroupIdeal.nD Cert.PoolGroupIdeal.τ).loc Cert.PoolGroupIdeal.main_arg0) = m ((c.tc : Thread Cert.PoolGroupIdeal.nD Cert.PoolGroupIdeal.τ).loc Cert.PoolGroupIdeal.main_arg0)
      ∧ r.2.mem ((c.tc : Thread Cert.PoolGroupIdeal.nD Cert.PoolGroupIdeal.τ).loc Cert.PoolGroupIdeal.main_arg1) = m ((c.tc : Thread Cert.PoolGroupIdeal.nD Cert.PoolGroupIdeal.τ).loc Cert.PoolGroupIdeal.main_arg1))
      ∧ r.2.sem = fun _ => 0)

def quiescent_PoolGroupReferenceIdeal [hPoolGroupReferenceIdeal : Cert.PoolGroupReferenceIdeal.Facts] : Prop :=
  ∀ (m : (ℓ : Loc Cert.PoolGroupReferenceIdeal.nD Cert.PoolGroupReferenceIdeal.τ Cert.PoolGroupReferenceIdeal.sig) → Buf (Elt Ideal) ℓ) (g : Dev Cert.PoolGroupReferenceIdeal.nD → PrngReg), Pre_PoolGroupReferenceIdeal m →
    θ_run (Cert.PoolGroupReferenceIdeal.defs (F := Ideal)) (onTc (τ := Cert.PoolGroupReferenceIdeal.τ) (Cert.PoolGroupReferenceIdeal.main (F := Ideal))) ⟨m, fun _ => 0, g⟩ (fun r => (∀ c : Dev Cert.PoolGroupReferenceIdeal.nD,
      r.2.mem ((c.tc : Thread Cert.PoolGroupReferenceIdeal.nD Cert.PoolGroupReferenceIdeal.τ).loc Cert.PoolGroupReferenceIdeal.main_arg0) = m ((c.tc : Thread Cert.PoolGroupReferenceIdeal.nD Cert.PoolGroupReferenceIdeal.τ).loc Cert.PoolGroupReferenceIdeal.main_arg0)
      ∧ r.2.mem ((c.tc : Thread Cert.PoolGroupReferenceIdeal.nD Cert.PoolGroupReferenceIdeal.τ).loc Cert.PoolGroupReferenceIdeal.main_arg1) = m ((c.tc : Thread Cert.PoolGroupReferenceIdeal.nD Cert.PoolGroupReferenceIdeal.τ).loc Cert.PoolGroupReferenceIdeal.main_arg1))
      ∧ r.2.sem = fun _ => 0)

def quiescent_PoolGroupWeight [hPoolGroupWeight : Cert.PoolGroupWeight.Facts] : Prop :=
  ∀ (m : (ℓ : Loc Cert.PoolGroupWeight.nD Cert.PoolGroupWeight.τ Cert.PoolGroupWeight.sig) → Buf (Elt Bits) ℓ) (g : Dev Cert.PoolGroupWeight.nD → PrngReg), Pre_PoolGroupWeight m →
    θ_run (Cert.PoolGroupWeight.defs (F := Bits)) (onTc (τ := Cert.PoolGroupWeight.τ) (Cert.PoolGroupWeight.main (F := Bits))) ⟨m, fun _ => 0, g⟩ (fun r => (∀ c : Dev Cert.PoolGroupWeight.nD,
      r.2.mem ((c.tc : Thread Cert.PoolGroupWeight.nD Cert.PoolGroupWeight.τ).loc Cert.PoolGroupWeight.main_arg0) = m ((c.tc : Thread Cert.PoolGroupWeight.nD Cert.PoolGroupWeight.τ).loc Cert.PoolGroupWeight.main_arg0)
      ∧ r.2.mem ((c.tc : Thread Cert.PoolGroupWeight.nD Cert.PoolGroupWeight.τ).loc Cert.PoolGroupWeight.main_arg1) = m ((c.tc : Thread Cert.PoolGroupWeight.nD Cert.PoolGroupWeight.τ).loc Cert.PoolGroupWeight.main_arg1))
      ∧ r.2.sem = fun _ => 0)

def quiescent_PoolGroupWeightIdeal [hPoolGroupWeightIdeal : Cert.PoolGroupWeightIdeal.Facts] : Prop :=
  ∀ (m : (ℓ : Loc Cert.PoolGroupWeightIdeal.nD Cert.PoolGroupWeightIdeal.τ Cert.PoolGroupWeightIdeal.sig) → Buf (Elt Ideal) ℓ) (g : Dev Cert.PoolGroupWeightIdeal.nD → PrngReg), Pre_PoolGroupWeightIdeal m →
    θ_run (Cert.PoolGroupWeightIdeal.defs (F := Ideal)) (onTc (τ := Cert.PoolGroupWeightIdeal.τ) (Cert.PoolGroupWeightIdeal.main (F := Ideal))) ⟨m, fun _ => 0, g⟩ (fun r => (∀ c : Dev Cert.PoolGroupWeightIdeal.nD,
      r.2.mem ((c.tc : Thread Cert.PoolGroupWeightIdeal.nD Cert.PoolGroupWeightIdeal.τ).loc Cert.PoolGroupWeightIdeal.main_arg0) = m ((c.tc : Thread Cert.PoolGroupWeightIdeal.nD Cert.PoolGroupWeightIdeal.τ).loc Cert.PoolGroupWeightIdeal.main_arg0)
      ∧ r.2.mem ((c.tc : Thread Cert.PoolGroupWeightIdeal.nD Cert.PoolGroupWeightIdeal.τ).loc Cert.PoolGroupWeightIdeal.main_arg1) = m ((c.tc : Thread Cert.PoolGroupWeightIdeal.nD Cert.PoolGroupWeightIdeal.τ).loc Cert.PoolGroupWeightIdeal.main_arg1))
      ∧ r.2.sem = fun _ => 0)

def quiescent_PoolGroupWeightReferenceIdeal [hPoolGroupWeightReferenceIdeal : Cert.PoolGroupWeightReferenceIdeal.Facts] : Prop :=
  ∀ (m : (ℓ : Loc Cert.PoolGroupWeightReferenceIdeal.nD Cert.PoolGroupWeightReferenceIdeal.τ Cert.PoolGroupWeightReferenceIdeal.sig) → Buf (Elt Ideal) ℓ) (g : Dev Cert.PoolGroupWeightReferenceIdeal.nD → PrngReg), Pre_PoolGroupWeightReferenceIdeal m →
    θ_run (Cert.PoolGroupWeightReferenceIdeal.defs (F := Ideal)) (onTc (τ := Cert.PoolGroupWeightReferenceIdeal.τ) (Cert.PoolGroupWeightReferenceIdeal.main (F := Ideal))) ⟨m, fun _ => 0, g⟩ (fun r => (∀ c : Dev Cert.PoolGroupWeightReferenceIdeal.nD,
      r.2.mem ((c.tc : Thread Cert.PoolGroupWeightReferenceIdeal.nD Cert.PoolGroupWeightReferenceIdeal.τ).loc Cert.PoolGroupWeightReferenceIdeal.main_arg0) = m ((c.tc : Thread Cert.PoolGroupWeightReferenceIdeal.nD Cert.PoolGroupWeightReferenceIdeal.τ).loc Cert.PoolGroupWeightReferenceIdeal.main_arg0)
      ∧ r.2.mem ((c.tc : Thread Cert.PoolGroupWeightReferenceIdeal.nD Cert.PoolGroupWeightReferenceIdeal.τ).loc Cert.PoolGroupWeightReferenceIdeal.main_arg1) = m ((c.tc : Thread Cert.PoolGroupWeightReferenceIdeal.nD Cert.PoolGroupWeightReferenceIdeal.τ).loc Cert.PoolGroupWeightReferenceIdeal.main_arg1))
      ∧ r.2.sem = fun _ => 0)

def quiescent_Scale [hScale : Cert.Scale.Facts] : Prop :=
  ∀ (m : (ℓ : Loc Cert.Scale.nD Cert.Scale.τ Cert.Scale.sig) → Buf (Elt Bits) ℓ) (g : Dev Cert.Scale.nD → PrngReg), Pre_Scale m →
    θ_run (Cert.Scale.defs (F := Bits)) (onTc (τ := Cert.Scale.τ) (Cert.Scale.main (F := Bits))) ⟨m, fun _ => 0, g⟩ (fun r => (∀ c : Dev Cert.Scale.nD,
      r.2.mem ((c.tc : Thread Cert.Scale.nD Cert.Scale.τ).loc Cert.Scale.main_arg0) = m ((c.tc : Thread Cert.Scale.nD Cert.Scale.τ).loc Cert.Scale.main_arg0)
      ∧ r.2.mem ((c.tc : Thread Cert.Scale.nD Cert.Scale.τ).loc Cert.Scale.main_arg1) = m ((c.tc : Thread Cert.Scale.nD Cert.Scale.τ).loc Cert.Scale.main_arg1)
      ∧ r.2.mem ((c.tc : Thread Cert.Scale.nD Cert.Scale.τ).loc Cert.Scale.main_arg2) = m ((c.tc : Thread Cert.Scale.nD Cert.Scale.τ).loc Cert.Scale.main_arg2))
      ∧ r.2.sem = fun _ => 0)

def quiescent_ScaleIdeal [hScaleIdeal : Cert.ScaleIdeal.Facts] : Prop :=
  ∀ (m : (ℓ : Loc Cert.ScaleIdeal.nD Cert.ScaleIdeal.τ Cert.ScaleIdeal.sig) → Buf (Elt Ideal) ℓ) (g : Dev Cert.ScaleIdeal.nD → PrngReg), Pre_ScaleIdeal m →
    θ_run (Cert.ScaleIdeal.defs (F := Ideal)) (onTc (τ := Cert.ScaleIdeal.τ) (Cert.ScaleIdeal.main (F := Ideal))) ⟨m, fun _ => 0, g⟩ (fun r => (∀ c : Dev Cert.ScaleIdeal.nD,
      r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
      ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1)
      ∧ r.2.mem ((c.tc : Thread Cert.ScaleIdeal.nD Cert.ScaleIdeal.τ).loc Cert.ScaleIdeal.main_arg2) = m ((c.tc : Thread Cert.ScaleIdeal.nD Cert.ScaleIdeal.τ).loc Cert.ScaleIdeal.main_arg2))
      ∧ r.2.sem = fun _ => 0)

def quiescent_ScaleReferenceIdeal [hScaleReferenceIdeal : Cert.ScaleReferenceIdeal.Facts] : Prop :=
  ∀ (m : (ℓ : Loc Cert.ScaleReferenceIdeal.nD Cert.ScaleReferenceIdeal.τ Cert.ScaleReferenceIdeal.sig) → Buf (Elt Ideal) ℓ) (g : Dev Cert.ScaleReferenceIdeal.nD → PrngReg), Pre_ScaleReferenceIdeal m →
    θ_run (Cert.ScaleReferenceIdeal.defs (F := Ideal)) (onTc (τ := Cert.ScaleReferenceIdeal.τ) (Cert.ScaleReferenceIdeal.main (F := Ideal))) ⟨m, fun _ => 0, g⟩ (fun r => (∀ c : Dev Cert.ScaleReferenceIdeal.nD,
      r.2.mem ((c.tc : Thread Cert.ScaleReferenceIdeal.nD Cert.ScaleReferenceIdeal.τ).loc Cert.ScaleReferenceIdeal.main_arg0) = m ((c.tc : Thread Cert.ScaleReferenceIdeal.nD Cert.ScaleReferenceIdeal.τ).loc Cert.ScaleReferenceIdeal.main_arg0)
      ∧ r.2.mem ((c.tc : Thread Cert.ScaleReferenceIdeal.nD Cert.ScaleReferenceIdeal.τ).loc Cert.ScaleReferenceIdeal.main_arg1) = m ((c.tc : Thread Cert.ScaleReferenceIdeal.nD Cert.ScaleReferenceIdeal.τ).loc Cert.ScaleReferenceIdeal.main_arg1)
      ∧ r.2.mem ((c.tc : Thread Cert.ScaleReferenceIdeal.nD Cert.ScaleReferenceIdeal.τ).loc Cert.ScaleReferenceIdeal.main_arg2) = m ((c.tc : Thread Cert.ScaleReferenceIdeal.nD Cert.ScaleReferenceIdeal.τ).loc Cert.ScaleReferenceIdeal.main_arg2))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3))
      ∧ r.2.sem = fun _ => 0)

def quiescent_NormDown [hNormDown : Cert.NormDown.Facts] : Prop :=
  ∀ (m : (ℓ : Loc Cert.NormDown.nD Cert.NormDown.τ Cert.NormDown.sig) → Buf (Elt Bits) ℓ) (g : Dev Cert.NormDown.nD → PrngReg), Pre_NormDown m →
    θ_run (Cert.NormDown.defs (F := Bits)) (onTc (τ := Cert.NormDown.τ) (Cert.NormDown.main (F := Bits))) ⟨m, fun _ => 0, g⟩ (fun r => (∀ c : Dev Cert.NormDown.nD,
      r.2.mem ((c.tc : Thread Cert.NormDown.nD Cert.NormDown.τ).loc Cert.NormDown.main_arg0) = m ((c.tc : Thread Cert.NormDown.nD Cert.NormDown.τ).loc Cert.NormDown.main_arg0)
      ∧ r.2.mem ((c.tc : Thread Cert.NormDown.nD Cert.NormDown.τ).loc Cert.NormDown.main_arg1) = m ((c.tc : Thread Cert.NormDown.nD Cert.NormDown.τ).loc Cert.NormDown.main_arg1)
      ∧ r.2.mem ((c.tc : Thread Cert.NormDown.nD Cert.NormDown.τ).loc Cert.NormDown.main_arg2) = m ((c.tc : Thread Cert.NormDown.nD Cert.NormDown.τ).loc Cert.NormDown.main_arg2)
      ∧ r.2.mem ((c.tc : Thread Cert.NormDown.nD Cert.NormDown.τ).loc Cert.NormDown.main_arg3) = m ((c.tc : Thread Cert.NormDown.nD Cert.NormDown.τ).loc Cert.NormDown.main_arg3))
      ∧ r.2.sem = fun _ => 0)

def quiescent_NormDownIdeal [hNormDownIdeal : Cert.NormDownIdeal.Facts] : Prop :=
  ∀ (m : (ℓ : Loc Cert.NormDownIdeal.nD Cert.NormDownIdeal.τ Cert.NormDownIdeal.sig) → Buf (Elt Ideal) ℓ) (g : Dev Cert.NormDownIdeal.nD → PrngReg), Pre_NormDownIdeal m →
    θ_run (Cert.NormDownIdeal.defs (F := Ideal)) (onTc (τ := Cert.NormDownIdeal.τ) (Cert.NormDownIdeal.main (F := Ideal))) ⟨m, fun _ => 0, g⟩ (fun r => (∀ c : Dev Cert.NormDownIdeal.nD,
      r.2.mem ((c.tc : Thread Cert.NormDownIdeal.nD Cert.NormDownIdeal.τ).loc Cert.NormDownIdeal.main_arg0) = m ((c.tc : Thread Cert.NormDownIdeal.nD Cert.NormDownIdeal.τ).loc Cert.NormDownIdeal.main_arg0)
      ∧ r.2.mem ((c.tc : Thread Cert.NormDownIdeal.nD Cert.NormDownIdeal.τ).loc Cert.NormDownIdeal.main_arg1) = m ((c.tc : Thread Cert.NormDownIdeal.nD Cert.NormDownIdeal.τ).loc Cert.NormDownIdeal.main_arg1)
      ∧ r.2.mem ((c.tc : Thread Cert.NormDownIdeal.nD Cert.NormDownIdeal.τ).loc Cert.NormDownIdeal.main_arg2) = m ((c.tc : Thread Cert.NormDownIdeal.nD Cert.NormDownIdeal.τ).loc Cert.NormDownIdeal.main_arg2)
      ∧ r.2.mem ((c.tc : Thread Cert.NormDownIdeal.nD Cert.NormDownIdeal.τ).loc Cert.NormDownIdeal.main_arg3) = m ((c.tc : Thread Cert.NormDownIdeal.nD Cert.NormDownIdeal.τ).loc Cert.NormDownIdeal.main_arg3))
      ∧ r.2.sem = fun _ => 0)

def quiescent_NormDownReferenceIdeal [hNormDownReferenceIdeal : Cert.NormDownReferenceIdeal.Facts] : Prop :=
  ∀ (m : (ℓ : Loc Cert.NormDownReferenceIdeal.nD Cert.NormDownReferenceIdeal.τ Cert.NormDownReferenceIdeal.sig) → Buf (Elt Ideal) ℓ) (g : Dev Cert.NormDownReferenceIdeal.nD → PrngReg), Pre_NormDownReferenceIdeal m →
    θ_run (Cert.NormDownReferenceIdeal.defs (F := Ideal)) (onTc (τ := Cert.NormDownReferenceIdeal.τ) (Cert.NormDownReferenceIdeal.main (F := Ideal))) ⟨m, fun _ => 0, g⟩ (fun r => (∀ c : Dev Cert.NormDownReferenceIdeal.nD,
      r.2.mem ((c.tc : Thread Cert.NormDownReferenceIdeal.nD Cert.NormDownReferenceIdeal.τ).loc Cert.NormDownReferenceIdeal.main_arg0) = m ((c.tc : Thread Cert.NormDownReferenceIdeal.nD Cert.NormDownReferenceIdeal.τ).loc Cert.NormDownReferenceIdeal.main_arg0)
      ∧ r.2.mem ((c.tc : Thread Cert.NormDownReferenceIdeal.nD Cert.NormDownReferenceIdeal.τ).loc Cert.NormDownReferenceIdeal.main_arg1) = m ((c.tc : Thread Cert.NormDownReferenceIdeal.nD Cert.NormDownReferenceIdeal.τ).loc Cert.NormDownReferenceIdeal.main_arg1)
      ∧ r.2.mem ((c.tc : Thread Cert.NormDownReferenceIdeal.nD Cert.NormDownReferenceIdeal.τ).loc Cert.NormDownReferenceIdeal.main_arg2) = m ((c.tc : Thread Cert.NormDownReferenceIdeal.nD Cert.NormDownReferenceIdeal.τ).loc Cert.NormDownReferenceIdeal.main_arg2)
      ∧ r.2.mem ((c.tc : Thread Cert.NormDownReferenceIdeal.nD Cert.NormDownReferenceIdeal.τ).loc Cert.NormDownReferenceIdeal.main_arg3) = m ((c.tc : Thread Cert.NormDownReferenceIdeal.nD Cert.NormDownReferenceIdeal.τ).loc Cert.NormDownReferenceIdeal.main_arg3))
      ∧ r.2.sem = fun _ => 0)

def quiescent_NormMid [hNormMid : Cert.NormMid.Facts] : Prop :=
  ∀ (m : (ℓ : Loc Cert.NormMid.nD Cert.NormMid.τ Cert.NormMid.sig) → Buf (Elt Bits) ℓ) (g : Dev Cert.NormMid.nD → PrngReg), Pre_NormMid m →
    θ_run (Cert.NormMid.defs (F := Bits)) (onTc (τ := Cert.NormMid.τ) (Cert.NormMid.main (F := Bits))) ⟨m, fun _ => 0, g⟩ (fun r => (∀ c : Dev Cert.NormMid.nD,
      r.2.mem ((c.tc : Thread Cert.NormMid.nD Cert.NormMid.τ).loc Cert.NormMid.main_arg0) = m ((c.tc : Thread Cert.NormMid.nD Cert.NormMid.τ).loc Cert.NormMid.main_arg0)
      ∧ r.2.mem ((c.tc : Thread Cert.NormMid.nD Cert.NormMid.τ).loc Cert.NormMid.main_arg1) = m ((c.tc : Thread Cert.NormMid.nD Cert.NormMid.τ).loc Cert.NormMid.main_arg1)
      ∧ r.2.mem ((c.tc : Thread Cert.NormMid.nD Cert.NormMid.τ).loc Cert.NormMid.main_arg2) = m ((c.tc : Thread Cert.NormMid.nD Cert.NormMid.τ).loc Cert.NormMid.main_arg2)
      ∧ r.2.mem ((c.tc : Thread Cert.NormMid.nD Cert.NormMid.τ).loc Cert.NormMid.main_arg3) = m ((c.tc : Thread Cert.NormMid.nD Cert.NormMid.τ).loc Cert.NormMid.main_arg3)
      ∧ r.2.mem ((c.tc : Thread Cert.NormMid.nD Cert.NormMid.τ).loc Cert.NormMid.main_arg4) = m ((c.tc : Thread Cert.NormMid.nD Cert.NormMid.τ).loc Cert.NormMid.main_arg4)
      ∧ r.2.mem ((c.tc : Thread Cert.NormMid.nD Cert.NormMid.τ).loc Cert.NormMid.main_arg5) = m ((c.tc : Thread Cert.NormMid.nD Cert.NormMid.τ).loc Cert.NormMid.main_arg5))
      ∧ r.2.sem = fun _ => 0)

def quiescent_NormMidIdeal [hNormMidIdeal : Cert.NormMidIdeal.Facts] : Prop :=
  ∀ (m : (ℓ : Loc Cert.NormMidIdeal.nD Cert.NormMidIdeal.τ Cert.NormMidIdeal.sig) → Buf (Elt Ideal) ℓ) (g : Dev Cert.NormMidIdeal.nD → PrngReg), Pre_NormMidIdeal m →
    θ_run (Cert.NormMidIdeal.defs (F := Ideal)) (onTc (τ := Cert.NormMidIdeal.τ) (Cert.NormMidIdeal.main (F := Ideal))) ⟨m, fun _ => 0, g⟩ (fun r => (∀ c : Dev Cert.NormMidIdeal.nD,
      r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
      ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
      ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
      ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3)
      ∧ r.2.mem ((c.tc : Thread Cert.NormMidIdeal.nD Cert.NormMidIdeal.τ).loc Cert.NormMidIdeal.main_arg4) = m ((c.tc : Thread Cert.NormMidIdeal.nD Cert.NormMidIdeal.τ).loc Cert.NormMidIdeal.main_arg4)
      ∧ r.2.mem ((c.tc : Thread Cert.NormMidIdeal.nD Cert.NormMidIdeal.τ).loc Cert.NormMidIdeal.main_arg5) = m ((c.tc : Thread Cert.NormMidIdeal.nD Cert.NormMidIdeal.τ).loc Cert.NormMidIdeal.main_arg5))
      ∧ r.2.sem = fun _ => 0)

def quiescent_NormMidReferenceIdeal [hNormMidReferenceIdeal : Cert.NormMidReferenceIdeal.Facts] : Prop :=
  ∀ (m : (ℓ : Loc Cert.NormMidReferenceIdeal.nD Cert.NormMidReferenceIdeal.τ Cert.NormMidReferenceIdeal.sig) → Buf (Elt Ideal) ℓ) (g : Dev Cert.NormMidReferenceIdeal.nD → PrngReg), Pre_NormMidReferenceIdeal m →
    θ_run (Cert.NormMidReferenceIdeal.defs (F := Ideal)) (onTc (τ := Cert.NormMidReferenceIdeal.τ) (Cert.NormMidReferenceIdeal.main (F := Ideal))) ⟨m, fun _ => 0, g⟩ (fun r => (∀ c : Dev Cert.NormMidReferenceIdeal.nD,
      r.2.mem ((c.tc : Thread Cert.NormMidReferenceIdeal.nD Cert.NormMidReferenceIdeal.τ).loc Cert.NormMidReferenceIdeal.main_arg0) = m ((c.tc : Thread Cert.NormMidReferenceIdeal.nD Cert.NormMidReferenceIdeal.τ).loc Cert.NormMidReferenceIdeal.main_arg0)
      ∧ r.2.mem ((c.tc : Thread Cert.NormMidReferenceIdeal.nD Cert.NormMidReferenceIdeal.τ).loc Cert.NormMidReferenceIdeal.main_arg1) = m ((c.tc : Thread Cert.NormMidReferenceIdeal.nD Cert.NormMidReferenceIdeal.τ).loc Cert.NormMidReferenceIdeal.main_arg1)
      ∧ r.2.mem ((c.tc : Thread Cert.NormMidReferenceIdeal.nD Cert.NormMidReferenceIdeal.τ).loc Cert.NormMidReferenceIdeal.main_arg2) = m ((c.tc : Thread Cert.NormMidReferenceIdeal.nD Cert.NormMidReferenceIdeal.τ).loc Cert.NormMidReferenceIdeal.main_arg2)
      ∧ r.2.mem ((c.tc : Thread Cert.NormMidReferenceIdeal.nD Cert.NormMidReferenceIdeal.τ).loc Cert.NormMidReferenceIdeal.main_arg3) = m ((c.tc : Thread Cert.NormMidReferenceIdeal.nD Cert.NormMidReferenceIdeal.τ).loc Cert.NormMidReferenceIdeal.main_arg3)
      ∧ r.2.mem ((c.tc : Thread Cert.NormMidReferenceIdeal.nD Cert.NormMidReferenceIdeal.τ).loc Cert.NormMidReferenceIdeal.main_arg4) = m ((c.tc : Thread Cert.NormMidReferenceIdeal.nD Cert.NormMidReferenceIdeal.τ).loc Cert.NormMidReferenceIdeal.main_arg4)
      ∧ r.2.mem ((c.tc : Thread Cert.NormMidReferenceIdeal.nD Cert.NormMidReferenceIdeal.τ).loc Cert.NormMidReferenceIdeal.main_arg5) = m ((c.tc : Thread Cert.NormMidReferenceIdeal.nD Cert.NormMidReferenceIdeal.τ).loc Cert.NormMidReferenceIdeal.main_arg5))
      ∧ r.2.sem = fun _ => 0)

def quiescent_GateMix [hGateMix : Cert.GateMix.Facts] : Prop :=
  ∀ (m : (ℓ : Loc Cert.GateMix.nD Cert.GateMix.τ Cert.GateMix.sig) → Buf (Elt Bits) ℓ) (g : Dev Cert.GateMix.nD → PrngReg), Pre_GateMix m →
    θ_run (Cert.GateMix.defs (F := Bits)) (onTc (τ := Cert.GateMix.τ) (Cert.GateMix.main (F := Bits))) ⟨m, fun _ => 0, g⟩ (fun r => (∀ c : Dev Cert.GateMix.nD,
      r.2.mem ((c.tc : Thread Cert.GateMix.nD Cert.GateMix.τ).loc Cert.GateMix.main_arg0) = m ((c.tc : Thread Cert.GateMix.nD Cert.GateMix.τ).loc Cert.GateMix.main_arg0)
      ∧ r.2.mem ((c.tc : Thread Cert.GateMix.nD Cert.GateMix.τ).loc Cert.GateMix.main_arg1) = m ((c.tc : Thread Cert.GateMix.nD Cert.GateMix.τ).loc Cert.GateMix.main_arg1)
      ∧ r.2.mem ((c.tc : Thread Cert.GateMix.nD Cert.GateMix.τ).loc Cert.GateMix.main_arg2) = m ((c.tc : Thread Cert.GateMix.nD Cert.GateMix.τ).loc Cert.GateMix.main_arg2))
      ∧ r.2.sem = fun _ => 0)

def quiescent_GateMixIdeal [hGateMixIdeal : Cert.GateMixIdeal.Facts] : Prop :=
  ∀ (m : (ℓ : Loc Cert.GateMixIdeal.nD Cert.GateMixIdeal.τ Cert.GateMixIdeal.sig) → Buf (Elt Ideal) ℓ) (g : Dev Cert.GateMixIdeal.nD → PrngReg), Pre_GateMixIdeal m →
    θ_run (Cert.GateMixIdeal.defs (F := Ideal)) (onTc (τ := Cert.GateMixIdeal.τ) (Cert.GateMixIdeal.main (F := Ideal))) ⟨m, fun _ => 0, g⟩ (fun r => (∀ c : Dev Cert.GateMixIdeal.nD,
      r.2.mem ((c.tc : Thread Cert.GateMixIdeal.nD Cert.GateMixIdeal.τ).loc Cert.GateMixIdeal.main_arg0) = m ((c.tc : Thread Cert.GateMixIdeal.nD Cert.GateMixIdeal.τ).loc Cert.GateMixIdeal.main_arg0)
      ∧ r.2.mem ((c.tc : Thread Cert.GateMixIdeal.nD Cert.GateMixIdeal.τ).loc Cert.GateMixIdeal.main_arg1) = m ((c.tc : Thread Cert.GateMixIdeal.nD Cert.GateMixIdeal.τ).loc Cert.GateMixIdeal.main_arg1)
      ∧ r.2.mem ((c.tc : Thread Cert.GateMixIdeal.nD Cert.GateMixIdeal.τ).loc Cert.GateMixIdeal.main_arg2) = m ((c.tc : Thread Cert.GateMixIdeal.nD Cert.GateMixIdeal.τ).loc Cert.GateMixIdeal.main_arg2))
      ∧ r.2.sem = fun _ => 0)

def quiescent_GateMixReferenceIdeal [hGateMixReferenceIdeal : Cert.GateMixReferenceIdeal.Facts] : Prop :=
  ∀ (m : (ℓ : Loc Cert.GateMixReferenceIdeal.nD Cert.GateMixReferenceIdeal.τ Cert.GateMixReferenceIdeal.sig) → Buf (Elt Ideal) ℓ) (g : Dev Cert.GateMixReferenceIdeal.nD → PrngReg), Pre_GateMixReferenceIdeal m →
    θ_run (Cert.GateMixReferenceIdeal.defs (F := Ideal)) (onTc (τ := Cert.GateMixReferenceIdeal.τ) (Cert.GateMixReferenceIdeal.main (F := Ideal))) ⟨m, fun _ => 0, g⟩ (fun r => (∀ c : Dev Cert.GateMixReferenceIdeal.nD,
      r.2.mem ((c.tc : Thread Cert.GateMixReferenceIdeal.nD Cert.GateMixReferenceIdeal.τ).loc Cert.GateMixReferenceIdeal.main_arg0) = m ((c.tc : Thread Cert.GateMixReferenceIdeal.nD Cert.GateMixReferenceIdeal.τ).loc Cert.GateMixReferenceIdeal.main_arg0)
      ∧ r.2.mem ((c.tc : Thread Cert.GateMixReferenceIdeal.nD Cert.GateMixReferenceIdeal.τ).loc Cert.GateMixReferenceIdeal.main_arg1) = m ((c.tc : Thread Cert.GateMixReferenceIdeal.nD Cert.GateMixReferenceIdeal.τ).loc Cert.GateMixReferenceIdeal.main_arg1)
      ∧ r.2.mem ((c.tc : Thread Cert.GateMixReferenceIdeal.nD Cert.GateMixReferenceIdeal.τ).loc Cert.GateMixReferenceIdeal.main_arg2) = m ((c.tc : Thread Cert.GateMixReferenceIdeal.nD Cert.GateMixReferenceIdeal.τ).loc Cert.GateMixReferenceIdeal.main_arg2))
      ∧ r.2.sem = fun _ => 0)

def quiescent_PoolGroupForward [hPoolGroupForward : Cert.PoolGroupForward.Facts] : Prop :=
  ∀ (m : (ℓ : Loc Cert.PoolGroupForward.nD Cert.PoolGroupForward.τ Cert.PoolGroupForward.sig) → Buf (Elt Bits) ℓ) (g : Dev Cert.PoolGroupForward.nD → PrngReg), Pre_PoolGroupForward m →
    θ_run (Cert.PoolGroupForward.defs (F := Bits)) (onTc (τ := Cert.PoolGroupForward.τ) (Cert.PoolGroupForward.main (F := Bits))) ⟨m, fun _ => 0, g⟩ (fun r => (∀ c : Dev Cert.PoolGroupForward.nD,
      r.2.mem ((c.tc : Thread Cert.PoolGroupForward.nD Cert.PoolGroupForward.τ).loc Cert.PoolGroupForward.main_arg0) = m ((c.tc : Thread Cert.PoolGroupForward.nD Cert.PoolGroupForward.τ).loc Cert.PoolGroupForward.main_arg0)
      ∧ r.2.mem ((c.tc : Thread Cert.PoolGroupForward.nD Cert.PoolGroupForward.τ).loc Cert.PoolGroupForward.main_arg1) = m ((c.tc : Thread Cert.PoolGroupForward.nD Cert.PoolGroupForward.τ).loc Cert.PoolGroupForward.main_arg1)
      ∧ r.2.mem ((c.tc : Thread Cert.PoolGroupForward.nD Cert.PoolGroupForward.τ).loc Cert.PoolGroupForward.main_arg2) = m ((c.tc : Thread Cert.PoolGroupForward.nD Cert.PoolGroupForward.τ).loc Cert.PoolGroupForward.main_arg2))
      ∧ r.2.sem = fun _ => 0)

def quiescent_PoolGroupForwardIdeal [hPoolGroupForwardIdeal : Cert.PoolGroupForwardIdeal.Facts] : Prop :=
  ∀ (m : (ℓ : Loc Cert.PoolGroupForwardIdeal.nD Cert.PoolGroupForwardIdeal.τ Cert.PoolGroupForwardIdeal.sig) → Buf (Elt Ideal) ℓ) (g : Dev Cert.PoolGroupForwardIdeal.nD → PrngReg), Pre_PoolGroupForwardIdeal m →
    θ_run (Cert.PoolGroupForwardIdeal.defs (F := Ideal)) (onTc (τ := Cert.PoolGroupForwardIdeal.τ) (Cert.PoolGroupForwardIdeal.main (F := Ideal))) ⟨m, fun _ => 0, g⟩ (fun r => (∀ c : Dev Cert.PoolGroupForwardIdeal.nD,
      r.2.mem ((c.tc : Thread Cert.PoolGroupForwardIdeal.nD Cert.PoolGroupForwardIdeal.τ).loc Cert.PoolGroupForwardIdeal.main_arg0) = m ((c.tc : Thread Cert.PoolGroupForwardIdeal.nD Cert.PoolGroupForwardIdeal.τ).loc Cert.PoolGroupForwardIdeal.main_arg0)
      ∧ r.2.mem ((c.tc : Thread Cert.PoolGroupForwardIdeal.nD Cert.PoolGroupForwardIdeal.τ).loc Cert.PoolGroupForwardIdeal.main_arg1) = m ((c.tc : Thread Cert.PoolGroupForwardIdeal.nD Cert.PoolGroupForwardIdeal.τ).loc Cert.PoolGroupForwardIdeal.main_arg1)
      ∧ r.2.mem ((c.tc : Thread Cert.PoolGroupForwardIdeal.nD Cert.PoolGroupForwardIdeal.τ).loc Cert.PoolGroupForwardIdeal.main_arg2) = m ((c.tc : Thread Cert.PoolGroupForwardIdeal.nD Cert.PoolGroupForwardIdeal.τ).loc Cert.PoolGroupForwardIdeal.main_arg2))
      ∧ r.2.sem = fun _ => 0)

def quiescent_PoolGroupForwardReferenceIdeal [hPoolGroupForwardReferenceIdeal : Cert.PoolGroupForwardReferenceIdeal.Facts] : Prop :=
  ∀ (m : (ℓ : Loc Cert.PoolGroupForwardReferenceIdeal.nD Cert.PoolGroupForwardReferenceIdeal.τ Cert.PoolGroupForwardReferenceIdeal.sig) → Buf (Elt Ideal) ℓ) (g : Dev Cert.PoolGroupForwardReferenceIdeal.nD → PrngReg), Pre_PoolGroupForwardReferenceIdeal m →
    θ_run (Cert.PoolGroupForwardReferenceIdeal.defs (F := Ideal)) (onTc (τ := Cert.PoolGroupForwardReferenceIdeal.τ) (Cert.PoolGroupForwardReferenceIdeal.main (F := Ideal))) ⟨m, fun _ => 0, g⟩ (fun r => (∀ c : Dev Cert.PoolGroupForwardReferenceIdeal.nD,
      r.2.mem ((c.tc : Thread Cert.PoolGroupForwardReferenceIdeal.nD Cert.PoolGroupForwardReferenceIdeal.τ).loc Cert.PoolGroupForwardReferenceIdeal.main_arg0) = m ((c.tc : Thread Cert.PoolGroupForwardReferenceIdeal.nD Cert.PoolGroupForwardReferenceIdeal.τ).loc Cert.PoolGroupForwardReferenceIdeal.main_arg0)
      ∧ r.2.mem ((c.tc : Thread Cert.PoolGroupForwardReferenceIdeal.nD Cert.PoolGroupForwardReferenceIdeal.τ).loc Cert.PoolGroupForwardReferenceIdeal.main_arg1) = m ((c.tc : Thread Cert.PoolGroupForwardReferenceIdeal.nD Cert.PoolGroupForwardReferenceIdeal.τ).loc Cert.PoolGroupForwardReferenceIdeal.main_arg1)
      ∧ r.2.mem ((c.tc : Thread Cert.PoolGroupForwardReferenceIdeal.nD Cert.PoolGroupForwardReferenceIdeal.τ).loc Cert.PoolGroupForwardReferenceIdeal.main_arg2) = m ((c.tc : Thread Cert.PoolGroupForwardReferenceIdeal.nD Cert.PoolGroupForwardReferenceIdeal.τ).loc Cert.PoolGroupForwardReferenceIdeal.main_arg2))
      ∧ r.2.sem = fun _ => 0)

def quiescent_NormInForward [hNormInForward : Cert.NormInForward.Facts] : Prop :=
  ∀ (m : (ℓ : Loc Cert.NormInForward.nD Cert.NormInForward.τ Cert.NormInForward.sig) → Buf (Elt Bits) ℓ) (g : Dev Cert.NormInForward.nD → PrngReg), Pre_NormInForward m →
    θ_run (Cert.NormInForward.defs (F := Bits)) (onTc (τ := Cert.NormInForward.τ) (Cert.NormInForward.main (F := Bits))) ⟨m, fun _ => 0, g⟩ (fun r => (∀ c : Dev Cert.NormInForward.nD,
      r.2.mem ((c.tc : Thread Cert.NormInForward.nD Cert.NormInForward.τ).loc Cert.NormInForward.main_arg0) = m ((c.tc : Thread Cert.NormInForward.nD Cert.NormInForward.τ).loc Cert.NormInForward.main_arg0)
      ∧ r.2.mem ((c.tc : Thread Cert.NormInForward.nD Cert.NormInForward.τ).loc Cert.NormInForward.main_arg1) = m ((c.tc : Thread Cert.NormInForward.nD Cert.NormInForward.τ).loc Cert.NormInForward.main_arg1))
      ∧ r.2.sem = fun _ => 0)

def quiescent_NormInForwardIdeal [hNormInForwardIdeal : Cert.NormInForwardIdeal.Facts] : Prop :=
  ∀ (m : (ℓ : Loc Cert.NormInForwardIdeal.nD Cert.NormInForwardIdeal.τ Cert.NormInForwardIdeal.sig) → Buf (Elt Ideal) ℓ) (g : Dev Cert.NormInForwardIdeal.nD → PrngReg), Pre_NormInForwardIdeal m →
    θ_run (Cert.NormInForwardIdeal.defs (F := Ideal)) (onTc (τ := Cert.NormInForwardIdeal.τ) (Cert.NormInForwardIdeal.main (F := Ideal))) ⟨m, fun _ => 0, g⟩ (fun r => (∀ c : Dev Cert.NormInForwardIdeal.nD,
      r.2.mem ((c.tc : Thread Cert.NormInForwardIdeal.nD Cert.NormInForwardIdeal.τ).loc Cert.NormInForwardIdeal.main_arg0) = m ((c.tc : Thread Cert.NormInForwardIdeal.nD Cert.NormInForwardIdeal.τ).loc Cert.NormInForwardIdeal.main_arg0)
      ∧ r.2.mem ((c.tc : Thread Cert.NormInForwardIdeal.nD Cert.NormInForwardIdeal.τ).loc Cert.NormInForwardIdeal.main_arg1) = m ((c.tc : Thread Cert.NormInForwardIdeal.nD Cert.NormInForwardIdeal.τ).loc Cert.NormInForwardIdeal.main_arg1))
      ∧ r.2.sem = fun _ => 0)

def quiescent_NormInForwardReferenceIdeal [hNormInForwardReferenceIdeal : Cert.NormInForwardReferenceIdeal.Facts] : Prop :=
  ∀ (m : (ℓ : Loc Cert.NormInForwardReferenceIdeal.nD Cert.NormInForwardReferenceIdeal.τ Cert.NormInForwardReferenceIdeal.sig) → Buf (Elt Ideal) ℓ) (g : Dev Cert.NormInForwardReferenceIdeal.nD → PrngReg), Pre_NormInForwardReferenceIdeal m →
    θ_run (Cert.NormInForwardReferenceIdeal.defs (F := Ideal)) (onTc (τ := Cert.NormInForwardReferenceIdeal.τ) (Cert.NormInForwardReferenceIdeal.main (F := Ideal))) ⟨m, fun _ => 0, g⟩ (fun r => (∀ c : Dev Cert.NormInForwardReferenceIdeal.nD,
      r.2.mem ((c.tc : Thread Cert.NormInForwardReferenceIdeal.nD Cert.NormInForwardReferenceIdeal.τ).loc Cert.NormInForwardReferenceIdeal.main_arg0) = m ((c.tc : Thread Cert.NormInForwardReferenceIdeal.nD Cert.NormInForwardReferenceIdeal.τ).loc Cert.NormInForwardReferenceIdeal.main_arg0)
      ∧ r.2.mem ((c.tc : Thread Cert.NormInForwardReferenceIdeal.nD Cert.NormInForwardReferenceIdeal.τ).loc Cert.NormInForwardReferenceIdeal.main_arg1) = m ((c.tc : Thread Cert.NormInForwardReferenceIdeal.nD Cert.NormInForwardReferenceIdeal.τ).loc Cert.NormInForwardReferenceIdeal.main_arg1))
      ∧ r.2.sem = fun _ => 0)

def quiescent_NormMidForward [hNormMidForward : Cert.NormMidForward.Facts] : Prop :=
  ∀ (m : (ℓ : Loc Cert.NormMidForward.nD Cert.NormMidForward.τ Cert.NormMidForward.sig) → Buf (Elt Bits) ℓ) (g : Dev Cert.NormMidForward.nD → PrngReg), Pre_NormMidForward m →
    θ_run (Cert.NormMidForward.defs (F := Bits)) (onTc (τ := Cert.NormMidForward.τ) (Cert.NormMidForward.main (F := Bits))) ⟨m, fun _ => 0, g⟩ (fun r => (∀ c : Dev Cert.NormMidForward.nD,
      r.2.mem ((c.tc : Thread Cert.NormMidForward.nD Cert.NormMidForward.τ).loc Cert.NormMidForward.main_arg0) = m ((c.tc : Thread Cert.NormMidForward.nD Cert.NormMidForward.τ).loc Cert.NormMidForward.main_arg0)
      ∧ r.2.mem ((c.tc : Thread Cert.NormMidForward.nD Cert.NormMidForward.τ).loc Cert.NormMidForward.main_arg1) = m ((c.tc : Thread Cert.NormMidForward.nD Cert.NormMidForward.τ).loc Cert.NormMidForward.main_arg1)
      ∧ r.2.mem ((c.tc : Thread Cert.NormMidForward.nD Cert.NormMidForward.τ).loc Cert.NormMidForward.main_arg2) = m ((c.tc : Thread Cert.NormMidForward.nD Cert.NormMidForward.τ).loc Cert.NormMidForward.main_arg2)
      ∧ r.2.mem ((c.tc : Thread Cert.NormMidForward.nD Cert.NormMidForward.τ).loc Cert.NormMidForward.main_arg3) = m ((c.tc : Thread Cert.NormMidForward.nD Cert.NormMidForward.τ).loc Cert.NormMidForward.main_arg3))
      ∧ r.2.sem = fun _ => 0)

def quiescent_NormMidForwardIdeal [hNormMidForwardIdeal : Cert.NormMidForwardIdeal.Facts] : Prop :=
  ∀ (m : (ℓ : Loc Cert.NormMidForwardIdeal.nD Cert.NormMidForwardIdeal.τ Cert.NormMidForwardIdeal.sig) → Buf (Elt Ideal) ℓ) (g : Dev Cert.NormMidForwardIdeal.nD → PrngReg), Pre_NormMidForwardIdeal m →
    θ_run (Cert.NormMidForwardIdeal.defs (F := Ideal)) (onTc (τ := Cert.NormMidForwardIdeal.τ) (Cert.NormMidForwardIdeal.main (F := Ideal))) ⟨m, fun _ => 0, g⟩ (fun r => (∀ c : Dev Cert.NormMidForwardIdeal.nD,
      r.2.mem ((c.tc : Thread Cert.NormMidForwardIdeal.nD Cert.NormMidForwardIdeal.τ).loc Cert.NormMidForwardIdeal.main_arg0) = m ((c.tc : Thread Cert.NormMidForwardIdeal.nD Cert.NormMidForwardIdeal.τ).loc Cert.NormMidForwardIdeal.main_arg0)
      ∧ r.2.mem ((c.tc : Thread Cert.NormMidForwardIdeal.nD Cert.NormMidForwardIdeal.τ).loc Cert.NormMidForwardIdeal.main_arg1) = m ((c.tc : Thread Cert.NormMidForwardIdeal.nD Cert.NormMidForwardIdeal.τ).loc Cert.NormMidForwardIdeal.main_arg1)
      ∧ r.2.mem ((c.tc : Thread Cert.NormMidForwardIdeal.nD Cert.NormMidForwardIdeal.τ).loc Cert.NormMidForwardIdeal.main_arg2) = m ((c.tc : Thread Cert.NormMidForwardIdeal.nD Cert.NormMidForwardIdeal.τ).loc Cert.NormMidForwardIdeal.main_arg2)
      ∧ r.2.mem ((c.tc : Thread Cert.NormMidForwardIdeal.nD Cert.NormMidForwardIdeal.τ).loc Cert.NormMidForwardIdeal.main_arg3) = m ((c.tc : Thread Cert.NormMidForwardIdeal.nD Cert.NormMidForwardIdeal.τ).loc Cert.NormMidForwardIdeal.main_arg3))
      ∧ r.2.sem = fun _ => 0)

def quiescent_NormMidForwardReferenceIdeal [hNormMidForwardReferenceIdeal : Cert.NormMidForwardReferenceIdeal.Facts] : Prop :=
  ∀ (m : (ℓ : Loc Cert.NormMidForwardReferenceIdeal.nD Cert.NormMidForwardReferenceIdeal.τ Cert.NormMidForwardReferenceIdeal.sig) → Buf (Elt Ideal) ℓ) (g : Dev Cert.NormMidForwardReferenceIdeal.nD → PrngReg), Pre_NormMidForwardReferenceIdeal m →
    θ_run (Cert.NormMidForwardReferenceIdeal.defs (F := Ideal)) (onTc (τ := Cert.NormMidForwardReferenceIdeal.τ) (Cert.NormMidForwardReferenceIdeal.main (F := Ideal))) ⟨m, fun _ => 0, g⟩ (fun r => (∀ c : Dev Cert.NormMidForwardReferenceIdeal.nD,
      r.2.mem ((c.tc : Thread Cert.NormMidForwardReferenceIdeal.nD Cert.NormMidForwardReferenceIdeal.τ).loc Cert.NormMidForwardReferenceIdeal.main_arg0) = m ((c.tc : Thread Cert.NormMidForwardReferenceIdeal.nD Cert.NormMidForwardReferenceIdeal.τ).loc Cert.NormMidForwardReferenceIdeal.main_arg0)
      ∧ r.2.mem ((c.tc : Thread Cert.NormMidForwardReferenceIdeal.nD Cert.NormMidForwardReferenceIdeal.τ).loc Cert.NormMidForwardReferenceIdeal.main_arg1) = m ((c.tc : Thread Cert.NormMidForwardReferenceIdeal.nD Cert.NormMidForwardReferenceIdeal.τ).loc Cert.NormMidForwardReferenceIdeal.main_arg1)
      ∧ r.2.mem ((c.tc : Thread Cert.NormMidForwardReferenceIdeal.nD Cert.NormMidForwardReferenceIdeal.τ).loc Cert.NormMidForwardReferenceIdeal.main_arg2) = m ((c.tc : Thread Cert.NormMidForwardReferenceIdeal.nD Cert.NormMidForwardReferenceIdeal.τ).loc Cert.NormMidForwardReferenceIdeal.main_arg2)
      ∧ r.2.mem ((c.tc : Thread Cert.NormMidForwardReferenceIdeal.nD Cert.NormMidForwardReferenceIdeal.τ).loc Cert.NormMidForwardReferenceIdeal.main_arg3) = m ((c.tc : Thread Cert.NormMidForwardReferenceIdeal.nD Cert.NormMidForwardReferenceIdeal.τ).loc Cert.NormMidForwardReferenceIdeal.main_arg3))
      ∧ r.2.sem = fun _ => 0)

def quiescent_NormDownForward [hNormDownForward : Cert.NormDownForward.Facts] : Prop :=
  ∀ (m : (ℓ : Loc Cert.NormDownForward.nD Cert.NormDownForward.τ Cert.NormDownForward.sig) → Buf (Elt Bits) ℓ) (g : Dev Cert.NormDownForward.nD → PrngReg), Pre_NormDownForward m →
    θ_run (Cert.NormDownForward.defs (F := Bits)) (onTc (τ := Cert.NormDownForward.τ) (Cert.NormDownForward.main (F := Bits))) ⟨m, fun _ => 0, g⟩ (fun r => (∀ c : Dev Cert.NormDownForward.nD,
      r.2.mem ((c.tc : Thread Cert.NormDownForward.nD Cert.NormDownForward.τ).loc Cert.NormDownForward.main_arg0) = m ((c.tc : Thread Cert.NormDownForward.nD Cert.NormDownForward.τ).loc Cert.NormDownForward.main_arg0)
      ∧ r.2.mem ((c.tc : Thread Cert.NormDownForward.nD Cert.NormDownForward.τ).loc Cert.NormDownForward.main_arg1) = m ((c.tc : Thread Cert.NormDownForward.nD Cert.NormDownForward.τ).loc Cert.NormDownForward.main_arg1)
      ∧ r.2.mem ((c.tc : Thread Cert.NormDownForward.nD Cert.NormDownForward.τ).loc Cert.NormDownForward.main_arg2) = m ((c.tc : Thread Cert.NormDownForward.nD Cert.NormDownForward.τ).loc Cert.NormDownForward.main_arg2))
      ∧ r.2.sem = fun _ => 0)

def quiescent_NormDownForwardIdeal [hNormDownForwardIdeal : Cert.NormDownForwardIdeal.Facts] : Prop :=
  ∀ (m : (ℓ : Loc Cert.NormDownForwardIdeal.nD Cert.NormDownForwardIdeal.τ Cert.NormDownForwardIdeal.sig) → Buf (Elt Ideal) ℓ) (g : Dev Cert.NormDownForwardIdeal.nD → PrngReg), Pre_NormDownForwardIdeal m →
    θ_run (Cert.NormDownForwardIdeal.defs (F := Ideal)) (onTc (τ := Cert.NormDownForwardIdeal.τ) (Cert.NormDownForwardIdeal.main (F := Ideal))) ⟨m, fun _ => 0, g⟩ (fun r => (∀ c : Dev Cert.NormDownForwardIdeal.nD,
      r.2.mem ((c.tc : Thread Cert.NormDownForwardIdeal.nD Cert.NormDownForwardIdeal.τ).loc Cert.NormDownForwardIdeal.main_arg0) = m ((c.tc : Thread Cert.NormDownForwardIdeal.nD Cert.NormDownForwardIdeal.τ).loc Cert.NormDownForwardIdeal.main_arg0)
      ∧ r.2.mem ((c.tc : Thread Cert.NormDownForwardIdeal.nD Cert.NormDownForwardIdeal.τ).loc Cert.NormDownForwardIdeal.main_arg1) = m ((c.tc : Thread Cert.NormDownForwardIdeal.nD Cert.NormDownForwardIdeal.τ).loc Cert.NormDownForwardIdeal.main_arg1)
      ∧ r.2.mem ((c.tc : Thread Cert.NormDownForwardIdeal.nD Cert.NormDownForwardIdeal.τ).loc Cert.NormDownForwardIdeal.main_arg2) = m ((c.tc : Thread Cert.NormDownForwardIdeal.nD Cert.NormDownForwardIdeal.τ).loc Cert.NormDownForwardIdeal.main_arg2))
      ∧ r.2.sem = fun _ => 0)

def quiescent_NormDownForwardReferenceIdeal [hNormDownForwardReferenceIdeal : Cert.NormDownForwardReferenceIdeal.Facts] : Prop :=
  ∀ (m : (ℓ : Loc Cert.NormDownForwardReferenceIdeal.nD Cert.NormDownForwardReferenceIdeal.τ Cert.NormDownForwardReferenceIdeal.sig) → Buf (Elt Ideal) ℓ) (g : Dev Cert.NormDownForwardReferenceIdeal.nD → PrngReg), Pre_NormDownForwardReferenceIdeal m →
    θ_run (Cert.NormDownForwardReferenceIdeal.defs (F := Ideal)) (onTc (τ := Cert.NormDownForwardReferenceIdeal.τ) (Cert.NormDownForwardReferenceIdeal.main (F := Ideal))) ⟨m, fun _ => 0, g⟩ (fun r => (∀ c : Dev Cert.NormDownForwardReferenceIdeal.nD,
      r.2.mem ((c.tc : Thread Cert.NormDownForwardReferenceIdeal.nD Cert.NormDownForwardReferenceIdeal.τ).loc Cert.NormDownForwardReferenceIdeal.main_arg0) = m ((c.tc : Thread Cert.NormDownForwardReferenceIdeal.nD Cert.NormDownForwardReferenceIdeal.τ).loc Cert.NormDownForwardReferenceIdeal.main_arg0)
      ∧ r.2.mem ((c.tc : Thread Cert.NormDownForwardReferenceIdeal.nD Cert.NormDownForwardReferenceIdeal.τ).loc Cert.NormDownForwardReferenceIdeal.main_arg1) = m ((c.tc : Thread Cert.NormDownForwardReferenceIdeal.nD Cert.NormDownForwardReferenceIdeal.τ).loc Cert.NormDownForwardReferenceIdeal.main_arg1)
      ∧ r.2.mem ((c.tc : Thread Cert.NormDownForwardReferenceIdeal.nD Cert.NormDownForwardReferenceIdeal.τ).loc Cert.NormDownForwardReferenceIdeal.main_arg2) = m ((c.tc : Thread Cert.NormDownForwardReferenceIdeal.nD Cert.NormDownForwardReferenceIdeal.τ).loc Cert.NormDownForwardReferenceIdeal.main_arg2))
      ∧ r.2.sem = fun _ => 0)

def quiescent_PleLoss [hPleLoss : Cert.PleLoss.Facts] : Prop :=
  ∀ (m : (ℓ : Loc Cert.PleLoss.nD Cert.PleLoss.τ Cert.PleLoss.sig) → Buf (Elt Bits) ℓ) (g : Dev Cert.PleLoss.nD → PrngReg), Pre_PleLoss m →
    θ_run (Cert.PleLoss.defs (F := Bits)) (onTc (τ := Cert.PleLoss.τ) (Cert.PleLoss.main (F := Bits))) ⟨m, fun _ => 0, g⟩ (fun r => (∀ c : Dev Cert.PleLoss.nD,
      r.2.mem ((c.tc : Thread Cert.PleLoss.nD Cert.PleLoss.τ).loc Cert.PleLoss.main_arg0) = m ((c.tc : Thread Cert.PleLoss.nD Cert.PleLoss.τ).loc Cert.PleLoss.main_arg0)
      ∧ r.2.mem ((c.tc : Thread Cert.PleLoss.nD Cert.PleLoss.τ).loc Cert.PleLoss.main_arg1) = m ((c.tc : Thread Cert.PleLoss.nD Cert.PleLoss.τ).loc Cert.PleLoss.main_arg1)
      ∧ r.2.mem ((c.tc : Thread Cert.PleLoss.nD Cert.PleLoss.τ).loc Cert.PleLoss.main_arg2) = m ((c.tc : Thread Cert.PleLoss.nD Cert.PleLoss.τ).loc Cert.PleLoss.main_arg2)
      ∧ r.2.mem ((c.tc : Thread Cert.PleLoss.nD Cert.PleLoss.τ).loc Cert.PleLoss.main_arg3) = m ((c.tc : Thread Cert.PleLoss.nD Cert.PleLoss.τ).loc Cert.PleLoss.main_arg3)
      ∧ r.2.mem ((c.tc : Thread Cert.PleLoss.nD Cert.PleLoss.τ).loc Cert.PleLoss.main_arg4) = m ((c.tc : Thread Cert.PleLoss.nD Cert.PleLoss.τ).loc Cert.PleLoss.main_arg4))
      ∧ r.2.sem = fun _ => 0)

def quiescent_PleLossIdeal [hPleLossIdeal : Cert.PleLossIdeal.Facts] : Prop :=
  ∀ (m : (ℓ : Loc Cert.PleLossIdeal.nD Cert.PleLossIdeal.τ Cert.PleLossIdeal.sig) → Buf (Elt Ideal) ℓ) (g : Dev Cert.PleLossIdeal.nD → PrngReg), Pre_PleLossIdeal m →
    θ_run (Cert.PleLossIdeal.defs (F := Ideal)) (onTc (τ := Cert.PleLossIdeal.τ) (Cert.PleLossIdeal.main (F := Ideal))) ⟨m, fun _ => 0, g⟩ (fun r => (∀ c : Dev Cert.PleLossIdeal.nD,
      r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
      ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
      ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
      ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
      ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4))
      ∧ r.2.sem = fun _ => 0)

def quiescent_PleLossReferenceIdeal [hPleLossReferenceIdeal : Cert.PleLossReferenceIdeal.Facts] : Prop :=
  ∀ (m : (ℓ : Loc Cert.PleLossReferenceIdeal.nD Cert.PleLossReferenceIdeal.τ Cert.PleLossReferenceIdeal.sig) → Buf (Elt Ideal) ℓ) (g : Dev Cert.PleLossReferenceIdeal.nD → PrngReg), Pre_PleLossReferenceIdeal m →
    θ_run (Cert.PleLossReferenceIdeal.defs (F := Ideal)) (onTc (τ := Cert.PleLossReferenceIdeal.τ) (Cert.PleLossReferenceIdeal.main (F := Ideal))) ⟨m, fun _ => 0, g⟩ (fun r => (∀ c : Dev Cert.PleLossReferenceIdeal.nD,
      r.2.mem ((c.tc : Thread Cert.PleLossReferenceIdeal.nD Cert.PleLossReferenceIdeal.τ).loc Cert.PleLossReferenceIdeal.main_arg0) = m ((c.tc : Thread Cert.PleLossReferenceIdeal.nD Cert.PleLossReferenceIdeal.τ).loc Cert.PleLossReferenceIdeal.main_arg0)
      ∧ r.2.mem ((c.tc : Thread Cert.PleLossReferenceIdeal.nD Cert.PleLossReferenceIdeal.τ).loc Cert.PleLossReferenceIdeal.main_arg1) = m ((c.tc : Thread Cert.PleLossReferenceIdeal.nD Cert.PleLossReferenceIdeal.τ).loc Cert.PleLossReferenceIdeal.main_arg1)
      ∧ r.2.mem ((c.tc : Thread Cert.PleLossReferenceIdeal.nD Cert.PleLossReferenceIdeal.τ).loc Cert.PleLossReferenceIdeal.main_arg2) = m ((c.tc : Thread Cert.PleLossReferenceIdeal.nD Cert.PleLossReferenceIdeal.τ).loc Cert.PleLossReferenceIdeal.main_arg2)
      ∧ r.2.mem ((c.tc : Thread Cert.PleLossReferenceIdeal.nD Cert.PleLossReferenceIdeal.τ).loc Cert.PleLossReferenceIdeal.main_arg3) = m ((c.tc : Thread Cert.PleLossReferenceIdeal.nD Cert.PleLossReferenceIdeal.τ).loc Cert.PleLossReferenceIdeal.main_arg3)
      ∧ r.2.mem ((c.tc : Thread Cert.PleLossReferenceIdeal.nD Cert.PleLossReferenceIdeal.τ).loc Cert.PleLossReferenceIdeal.main_arg4) = m ((c.tc : Thread Cert.PleLossReferenceIdeal.nD Cert.PleLossReferenceIdeal.τ).loc Cert.PleLossReferenceIdeal.main_arg4))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_UpWeight_UpWeightIdeal : Prop :=
  True

def algebraic_UpWeightIdeal_UpWeightReferenceIdeal [hUpWeightIdeal : Cert.UpWeightIdeal.Facts] [hUpWeightReferenceIdeal : Cert.UpWeightReferenceIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightReferenceIdeal.nD Cert.UpWeightReferenceIdeal.τ Cert.UpWeightReferenceIdeal.sig) → Buf (Elt Ideal) ℓ) (g' : Dev Cert.UpWeightReferenceIdeal.nD → PrngReg), Pre_UpWeightIdeal m →
    (∀ c : Dev Cert.UpWeightIdeal.nD,
      m' ((c.tc : Thread Cert.UpWeightReferenceIdeal.nD Cert.UpWeightReferenceIdeal.τ).loc Cert.UpWeightReferenceIdeal.main_arg0) = m ((c.tc : Thread Cert.UpWeightIdeal.nD Cert.UpWeightIdeal.τ).loc Cert.UpWeightIdeal.main_arg0)
      ∧ m' ((c.tc : Thread Cert.UpWeightReferenceIdeal.nD Cert.UpWeightReferenceIdeal.τ).loc Cert.UpWeightReferenceIdeal.main_arg1) = m ((c.tc : Thread Cert.UpWeightIdeal.nD Cert.UpWeightIdeal.τ).loc Cert.UpWeightIdeal.main_arg1)
      ∧ m' ((c.tc : Thread Cert.UpWeightReferenceIdeal.nD Cert.UpWeightReferenceIdeal.τ).loc Cert.UpWeightReferenceIdeal.main_arg2) = m ((c.tc : Thread Cert.UpWeightIdeal.nD Cert.UpWeightIdeal.τ).loc Cert.UpWeightIdeal.main_arg2)) →
    ∃ (v0 : (c : Dev Cert.UpWeightIdeal.nD) → Buf (Elt Ideal) ((c.tc : Thread Cert.UpWeightIdeal.nD Cert.UpWeightIdeal.τ).loc Cert.UpWeightIdeal.main_v3)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v3) = v0 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1)
          ∧ r.2.mem ((c.tc : Thread Cert.UpWeightIdeal.nD Cert.UpWeightIdeal.τ).loc Cert.UpWeightIdeal.main_arg2) = m ((c.tc : Thread Cert.UpWeightIdeal.nD Cert.UpWeightIdeal.τ).loc Cert.UpWeightIdeal.main_arg2))
      ∧ θ_run (Cert.UpWeightReferenceIdeal.defs (F := Ideal)) (onTc (τ := Cert.UpWeightReferenceIdeal.τ) (Cert.UpWeightReferenceIdeal.main (F := Ideal))) ⟨m', fun _ => 0, g'⟩ (fun r => ∀ c : Dev Cert.UpWeightReferenceIdeal.nD,
          r.2.mem ((c.tc : Thread Cert.UpWeightReferenceIdeal.nD Cert.UpWeightReferenceIdeal.τ).loc Cert.UpWeightReferenceIdeal.main_v7) = v0 c
          ∧ r.2.mem ((c.tc : Thread Cert.UpWeightReferenceIdeal.nD Cert.UpWeightReferenceIdeal.τ).loc Cert.UpWeightReferenceIdeal.main_arg0) = m' ((c.tc : Thread Cert.UpWeightReferenceIdeal.nD Cert.UpWeightReferenceIdeal.τ).loc Cert.UpWeightReferenceIdeal.main_arg0)
          ∧ r.2.mem ((c.tc : Thread Cert.UpWeightReferenceIdeal.nD Cert.UpWeightReferenceIdeal.τ).loc Cert.UpWeightReferenceIdeal.main_arg1) = m' ((c.tc : Thread Cert.UpWeightReferenceIdeal.nD Cert.UpWeightReferenceIdeal.τ).loc Cert.UpWeightReferenceIdeal.main_arg1)
          ∧ r.2.mem ((c.tc : Thread Cert.UpWeightReferenceIdeal.nD Cert.UpWeightReferenceIdeal.τ).loc Cert.UpWeightReferenceIdeal.main_arg2) = m' ((c.tc : Thread Cert.UpWeightReferenceIdeal.nD Cert.UpWeightReferenceIdeal.τ).loc Cert.UpWeightReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v5)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v5) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_DownWeight_DownWeightIdeal : Prop :=
  True

def algebraic_DownWeightIdeal_DownWeightReferenceIdeal [hDownWeightIdeal : Cert.DownWeightIdeal.Facts] [hDownWeightReferenceIdeal : Cert.DownWeightReferenceIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightReferenceIdeal.nD Cert.DownWeightReferenceIdeal.τ Cert.DownWeightReferenceIdeal.sig) → Buf (Elt Ideal) ℓ) (g' : Dev Cert.DownWeightReferenceIdeal.nD → PrngReg), Pre_DownWeightIdeal m →
    (∀ c : Dev Cert.DownWeightIdeal.nD,
      m' ((c.tc : Thread Cert.DownWeightReferenceIdeal.nD Cert.DownWeightReferenceIdeal.τ).loc Cert.DownWeightReferenceIdeal.main_arg0) = m ((c.tc : Thread Cert.DownWeightIdeal.nD Cert.DownWeightIdeal.τ).loc Cert.DownWeightIdeal.main_arg0)
      ∧ m' ((c.tc : Thread Cert.DownWeightReferenceIdeal.nD Cert.DownWeightReferenceIdeal.τ).loc Cert.DownWeightReferenceIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v2)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v2) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightReferenceIdeal.defs (F := Ideal)) (onTc (τ := Cert.DownWeightReferenceIdeal.τ) (Cert.DownWeightReferenceIdeal.main (F := Ideal))) ⟨m', fun _ => 0, g'⟩ (fun r => ∀ c : Dev Cert.DownWeightReferenceIdeal.nD,
          r.2.mem ((c.tc : Thread Cert.DownWeightReferenceIdeal.nD Cert.DownWeightReferenceIdeal.τ).loc Cert.DownWeightReferenceIdeal.main_v4) = v0 c
          ∧ r.2.mem ((c.tc : Thread Cert.DownWeightReferenceIdeal.nD Cert.DownWeightReferenceIdeal.τ).loc Cert.DownWeightReferenceIdeal.main_arg0) = m' ((c.tc : Thread Cert.DownWeightReferenceIdeal.nD Cert.DownWeightReferenceIdeal.τ).loc Cert.DownWeightReferenceIdeal.main_arg0)
          ∧ r.2.mem ((c.tc : Thread Cert.DownWeightReferenceIdeal.nD Cert.DownWeightReferenceIdeal.τ).loc Cert.DownWeightReferenceIdeal.main_arg1) = m' ((c.tc : Thread Cert.DownWeightReferenceIdeal.nD Cert.DownWeightReferenceIdeal.τ).loc Cert.DownWeightReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_InWeight_InWeightIdeal : Prop :=
  True

def algebraic_InWeightIdeal_InWeightReferenceIdeal [hInWeightIdeal : Cert.InWeightIdeal.Facts] [hInWeightReferenceIdeal : Cert.InWeightReferenceIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightIdeal m →
    (∀ c : Dev Cert.InWeightIdeal.nD,
      m' ((c.tc : Thread Cert.InWeightReferenceIdeal.nD Cert.InWeightReferenceIdeal.τ).loc Cert.InWeightReferenceIdeal.main_arg0) = m ((c.tc : Thread Cert.InWeightIdeal.nD Cert.InWeightIdeal.τ).loc Cert.InWeightIdeal.main_arg0)
      ∧ m' ((c.tc : Thread Cert.InWeightReferenceIdeal.nD Cert.InWeightReferenceIdeal.τ).loc Cert.InWeightReferenceIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v2)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v2) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v6) = v0 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v4) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v2) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_OutWeight_OutWeightIdeal : Prop :=
  True

def algebraic_OutWeightIdeal_OutWeightReferenceIdeal [hOutWeightIdeal : Cert.OutWeightIdeal.Facts] [hOutWeightReferenceIdeal : Cert.OutWeightReferenceIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightIdeal m →
    (∀ c : Dev Cert.OutWeightIdeal.nD,
      m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0)
      ∧ m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v2)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v2) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v4) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1))

def preserves_PleGate_PleGateIdeal : Prop :=
  True

def algebraic_PleGateIdeal_PleGateReferenceIdeal [hPleGateIdeal : Cert.PleGateIdeal.Facts] [hPleGateReferenceIdeal : Cert.PleGateReferenceIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateReferenceIdeal.nD Cert.PleGateReferenceIdeal.τ Cert.PleGateReferenceIdeal.sig) → Buf (Elt Ideal) ℓ) (g' : Dev Cert.PleGateReferenceIdeal.nD → PrngReg), Pre_PleGateIdeal m →
    (∀ c : Dev Cert.PleGateIdeal.nD,
      m' ((c.tc : Thread Cert.PleGateReferenceIdeal.nD Cert.PleGateReferenceIdeal.τ).loc Cert.PleGateReferenceIdeal.main_arg0) = m ((c.tc : Thread Cert.PleGateIdeal.nD Cert.PleGateIdeal.τ).loc Cert.PleGateIdeal.main_arg0)
      ∧ m' ((c.tc : Thread Cert.PleGateReferenceIdeal.nD Cert.PleGateReferenceIdeal.τ).loc Cert.PleGateReferenceIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v2)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v2) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateReferenceIdeal.defs (F := Ideal)) (onTc (τ := Cert.PleGateReferenceIdeal.τ) (Cert.PleGateReferenceIdeal.main (F := Ideal))) ⟨m', fun _ => 0, g'⟩ (fun r => ∀ c : Dev Cert.PleGateReferenceIdeal.nD,
          r.2.mem ((c.tc : Thread Cert.PleGateReferenceIdeal.nD Cert.PleGateReferenceIdeal.τ).loc Cert.PleGateReferenceIdeal.main_v2) = v0 c
          ∧ r.2.mem ((c.tc : Thread Cert.PleGateReferenceIdeal.nD Cert.PleGateReferenceIdeal.τ).loc Cert.PleGateReferenceIdeal.main_arg0) = m' ((c.tc : Thread Cert.PleGateReferenceIdeal.nD Cert.PleGateReferenceIdeal.τ).loc Cert.PleGateReferenceIdeal.main_arg0)
          ∧ r.2.mem ((c.tc : Thread Cert.PleGateReferenceIdeal.nD Cert.PleGateReferenceIdeal.τ).loc Cert.PleGateReferenceIdeal.main_arg1) = m' ((c.tc : Thread Cert.PleGateReferenceIdeal.nD Cert.PleGateReferenceIdeal.τ).loc Cert.PleGateReferenceIdeal.main_arg1))

def preserves_PleGateWeight_PleGateWeightIdeal : Prop :=
  True

def algebraic_PleGateWeightIdeal_PleGateWeightReferenceIdeal [hPleGateWeightIdeal : Cert.PleGateWeightIdeal.Facts] [hPleGateWeightReferenceIdeal : Cert.PleGateWeightReferenceIdeal.Facts] : Prop :=
  ∀ (m : (ℓ : Loc Cert.PleGateWeightIdeal.nD Cert.PleGateWeightIdeal.τ Cert.PleGateWeightIdeal.sig) → Buf (Elt Ideal) ℓ) (g : Dev Cert.PleGateWeightIdeal.nD → PrngReg)
    (m' : (ℓ : Loc Cert.PleGateWeightReferenceIdeal.nD Cert.PleGateWeightReferenceIdeal.τ Cert.PleGateWeightReferenceIdeal.sig) → Buf (Elt Ideal) ℓ) (g' : Dev Cert.PleGateWeightReferenceIdeal.nD → PrngReg), Pre_PleGateWeightIdeal m →
    (∀ c : Dev Cert.PleGateWeightIdeal.nD,
      m' ((c.tc : Thread Cert.PleGateWeightReferenceIdeal.nD Cert.PleGateWeightReferenceIdeal.τ).loc Cert.PleGateWeightReferenceIdeal.main_arg0) = m ((c.tc : Thread Cert.PleGateWeightIdeal.nD Cert.PleGateWeightIdeal.τ).loc Cert.PleGateWeightIdeal.main_arg0)
      ∧ m' ((c.tc : Thread Cert.PleGateWeightReferenceIdeal.nD Cert.PleGateWeightReferenceIdeal.τ).loc Cert.PleGateWeightReferenceIdeal.main_arg1) = m ((c.tc : Thread Cert.PleGateWeightIdeal.nD Cert.PleGateWeightIdeal.τ).loc Cert.PleGateWeightIdeal.main_arg1)) →
    ∃ (v0 : (c : Dev Cert.PleGateWeightIdeal.nD) → Buf (Elt Ideal) ((c.tc : Thread Cert.PleGateWeightIdeal.nD Cert.PleGateWeightIdeal.τ).loc Cert.PleGateWeightIdeal.main_v2)),
      θ_run (Cert.PleGateWeightIdeal.defs (F := Ideal)) (onTc (τ := Cert.PleGateWeightIdeal.τ) (Cert.PleGateWeightIdeal.main (F := Ideal))) ⟨m, fun _ => 0, g⟩ (fun r => ∀ c : Dev Cert.PleGateWeightIdeal.nD,
          r.2.mem ((c.tc : Thread Cert.PleGateWeightIdeal.nD Cert.PleGateWeightIdeal.τ).loc Cert.PleGateWeightIdeal.main_v2) = v0 c
          ∧ r.2.mem ((c.tc : Thread Cert.PleGateWeightIdeal.nD Cert.PleGateWeightIdeal.τ).loc Cert.PleGateWeightIdeal.main_arg0) = m ((c.tc : Thread Cert.PleGateWeightIdeal.nD Cert.PleGateWeightIdeal.τ).loc Cert.PleGateWeightIdeal.main_arg0)
          ∧ r.2.mem ((c.tc : Thread Cert.PleGateWeightIdeal.nD Cert.PleGateWeightIdeal.τ).loc Cert.PleGateWeightIdeal.main_arg1) = m ((c.tc : Thread Cert.PleGateWeightIdeal.nD Cert.PleGateWeightIdeal.τ).loc Cert.PleGateWeightIdeal.main_arg1))
      ∧ θ_run (Cert.PleGateWeightReferenceIdeal.defs (F := Ideal)) (onTc (τ := Cert.PleGateWeightReferenceIdeal.τ) (Cert.PleGateWeightReferenceIdeal.main (F := Ideal))) ⟨m', fun _ => 0, g'⟩ (fun r => ∀ c : Dev Cert.PleGateWeightReferenceIdeal.nD,
          r.2.mem ((c.tc : Thread Cert.PleGateWeightReferenceIdeal.nD Cert.PleGateWeightReferenceIdeal.τ).loc Cert.PleGateWeightReferenceIdeal.main_v4) = v0 c
          ∧ r.2.mem ((c.tc : Thread Cert.PleGateWeightReferenceIdeal.nD Cert.PleGateWeightReferenceIdeal.τ).loc Cert.PleGateWeightReferenceIdeal.main_arg0) = m' ((c.tc : Thread Cert.PleGateWeightReferenceIdeal.nD Cert.PleGateWeightReferenceIdeal.τ).loc Cert.PleGateWeightReferenceIdeal.main_arg0)
          ∧ r.2.mem ((c.tc : Thread Cert.PleGateWeightReferenceIdeal.nD Cert.PleGateWeightReferenceIdeal.τ).loc Cert.PleGateWeightReferenceIdeal.main_arg1) = m' ((c.tc : Thread Cert.PleGateWeightReferenceIdeal.nD Cert.PleGateWeightReferenceIdeal.τ).loc Cert.PleGateWeightReferenceIdeal.main_arg1))

def preserves_PleWeight_PleWeightIdeal : Prop :=
  True

def algebraic_PleWeightIdeal_PleWeightReferenceIdeal [hPleWeightIdeal : Cert.PleWeightIdeal.Facts] [hPleWeightReferenceIdeal : Cert.PleWeightReferenceIdeal.Facts] : Prop :=
  ∀ (m : (ℓ : Loc Cert.PleWeightIdeal.nD Cert.PleWeightIdeal.τ Cert.PleWeightIdeal.sig) → Buf (Elt Ideal) ℓ) (g : Dev Cert.PleWeightIdeal.nD → PrngReg)
    (m' : (ℓ : Loc Cert.PleWeightReferenceIdeal.nD Cert.PleWeightReferenceIdeal.τ Cert.PleWeightReferenceIdeal.sig) → Buf (Elt Ideal) ℓ) (g' : Dev Cert.PleWeightReferenceIdeal.nD → PrngReg), Pre_PleWeightIdeal m →
    (∀ c : Dev Cert.PleWeightIdeal.nD,
      m' ((c.tc : Thread Cert.PleWeightReferenceIdeal.nD Cert.PleWeightReferenceIdeal.τ).loc Cert.PleWeightReferenceIdeal.main_arg0) = m ((c.tc : Thread Cert.PleWeightIdeal.nD Cert.PleWeightIdeal.τ).loc Cert.PleWeightIdeal.main_arg0)
      ∧ m' ((c.tc : Thread Cert.PleWeightReferenceIdeal.nD Cert.PleWeightReferenceIdeal.τ).loc Cert.PleWeightReferenceIdeal.main_arg1) = m ((c.tc : Thread Cert.PleWeightIdeal.nD Cert.PleWeightIdeal.τ).loc Cert.PleWeightIdeal.main_arg1)) →
    ∃ (v0 : (c : Dev Cert.PleWeightIdeal.nD) → Buf (Elt Ideal) ((c.tc : Thread Cert.PleWeightIdeal.nD Cert.PleWeightIdeal.τ).loc Cert.PleWeightIdeal.main_v1)),
      θ_run (Cert.PleWeightIdeal.defs (F := Ideal)) (onTc (τ := Cert.PleWeightIdeal.τ) (Cert.PleWeightIdeal.main (F := Ideal))) ⟨m, fun _ => 0, g⟩ (fun r => ∀ c : Dev Cert.PleWeightIdeal.nD,
          r.2.mem ((c.tc : Thread Cert.PleWeightIdeal.nD Cert.PleWeightIdeal.τ).loc Cert.PleWeightIdeal.main_v1) = v0 c
          ∧ r.2.mem ((c.tc : Thread Cert.PleWeightIdeal.nD Cert.PleWeightIdeal.τ).loc Cert.PleWeightIdeal.main_arg0) = m ((c.tc : Thread Cert.PleWeightIdeal.nD Cert.PleWeightIdeal.τ).loc Cert.PleWeightIdeal.main_arg0)
          ∧ r.2.mem ((c.tc : Thread Cert.PleWeightIdeal.nD Cert.PleWeightIdeal.τ).loc Cert.PleWeightIdeal.main_arg1) = m ((c.tc : Thread Cert.PleWeightIdeal.nD Cert.PleWeightIdeal.τ).loc Cert.PleWeightIdeal.main_arg1))
      ∧ θ_run (Cert.PleWeightReferenceIdeal.defs (F := Ideal)) (onTc (τ := Cert.PleWeightReferenceIdeal.τ) (Cert.PleWeightReferenceIdeal.main (F := Ideal))) ⟨m', fun _ => 0, g'⟩ (fun r => ∀ c : Dev Cert.PleWeightReferenceIdeal.nD,
          r.2.mem ((c.tc : Thread Cert.PleWeightReferenceIdeal.nD Cert.PleWeightReferenceIdeal.τ).loc Cert.PleWeightReferenceIdeal.main_v6) = v0 c
          ∧ r.2.mem ((c.tc : Thread Cert.PleWeightReferenceIdeal.nD Cert.PleWeightReferenceIdeal.τ).loc Cert.PleWeightReferenceIdeal.main_arg0) = m' ((c.tc : Thread Cert.PleWeightReferenceIdeal.nD Cert.PleWeightReferenceIdeal.τ).loc Cert.PleWeightReferenceIdeal.main_arg0)
          ∧ r.2.mem ((c.tc : Thread Cert.PleWeightReferenceIdeal.nD Cert.PleWeightReferenceIdeal.τ).loc Cert.PleWeightReferenceIdeal.main_arg1) = m' ((c.tc : Thread Cert.PleWeightReferenceIdeal.nD Cert.PleWeightReferenceIdeal.τ).loc Cert.PleWeightReferenceIdeal.main_arg1))

def preserves_PoolBranch_PoolBranchIdeal : Prop :=
  True

def algebraic_PoolBranchIdeal_PoolBranchReferenceIdeal [hPoolBranchIdeal : Cert.PoolBranchIdeal.Facts] [hPoolBranchReferenceIdeal : Cert.PoolBranchReferenceIdeal.Facts] : Prop :=
  ∀ (m : (ℓ : Loc Cert.PoolBranchIdeal.nD Cert.PoolBranchIdeal.τ Cert.PoolBranchIdeal.sig) → Buf (Elt Ideal) ℓ) (g : Dev Cert.PoolBranchIdeal.nD → PrngReg)
    (m' : (ℓ : Loc Cert.PoolBranchReferenceIdeal.nD Cert.PoolBranchReferenceIdeal.τ Cert.PoolBranchReferenceIdeal.sig) → Buf (Elt Ideal) ℓ) (g' : Dev Cert.PoolBranchReferenceIdeal.nD → PrngReg), Pre_PoolBranchIdeal m →
    (∀ c : Dev Cert.PoolBranchIdeal.nD,
      m' ((c.tc : Thread Cert.PoolBranchReferenceIdeal.nD Cert.PoolBranchReferenceIdeal.τ).loc Cert.PoolBranchReferenceIdeal.main_arg0) = m ((c.tc : Thread Cert.PoolBranchIdeal.nD Cert.PoolBranchIdeal.τ).loc Cert.PoolBranchIdeal.main_arg0)
      ∧ m' ((c.tc : Thread Cert.PoolBranchReferenceIdeal.nD Cert.PoolBranchReferenceIdeal.τ).loc Cert.PoolBranchReferenceIdeal.main_arg1) = m ((c.tc : Thread Cert.PoolBranchIdeal.nD Cert.PoolBranchIdeal.τ).loc Cert.PoolBranchIdeal.main_arg1)) →
    ∃ (v0 : (c : Dev Cert.PoolBranchIdeal.nD) → Buf (Elt Ideal) ((c.tc : Thread Cert.PoolBranchIdeal.nD Cert.PoolBranchIdeal.τ).loc Cert.PoolBranchIdeal.main_v4)),
      θ_run (Cert.PoolBranchIdeal.defs (F := Ideal)) (onTc (τ := Cert.PoolBranchIdeal.τ) (Cert.PoolBranchIdeal.main (F := Ideal))) ⟨m, fun _ => 0, g⟩ (fun r => ∀ c : Dev Cert.PoolBranchIdeal.nD,
          r.2.mem ((c.tc : Thread Cert.PoolBranchIdeal.nD Cert.PoolBranchIdeal.τ).loc Cert.PoolBranchIdeal.main_v4) = v0 c
          ∧ r.2.mem ((c.tc : Thread Cert.PoolBranchIdeal.nD Cert.PoolBranchIdeal.τ).loc Cert.PoolBranchIdeal.main_arg0) = m ((c.tc : Thread Cert.PoolBranchIdeal.nD Cert.PoolBranchIdeal.τ).loc Cert.PoolBranchIdeal.main_arg0)
          ∧ r.2.mem ((c.tc : Thread Cert.PoolBranchIdeal.nD Cert.PoolBranchIdeal.τ).loc Cert.PoolBranchIdeal.main_arg1) = m ((c.tc : Thread Cert.PoolBranchIdeal.nD Cert.PoolBranchIdeal.τ).loc Cert.PoolBranchIdeal.main_arg1))
      ∧ θ_run (Cert.PoolBranchReferenceIdeal.defs (F := Ideal)) (onTc (τ := Cert.PoolBranchReferenceIdeal.τ) (Cert.PoolBranchReferenceIdeal.main (F := Ideal))) ⟨m', fun _ => 0, g'⟩ (fun r => ∀ c : Dev Cert.PoolBranchReferenceIdeal.nD,
          r.2.mem ((c.tc : Thread Cert.PoolBranchReferenceIdeal.nD Cert.PoolBranchReferenceIdeal.τ).loc Cert.PoolBranchReferenceIdeal.main_v2) = v0 c
          ∧ r.2.mem ((c.tc : Thread Cert.PoolBranchReferenceIdeal.nD Cert.PoolBranchReferenceIdeal.τ).loc Cert.PoolBranchReferenceIdeal.main_arg0) = m' ((c.tc : Thread Cert.PoolBranchReferenceIdeal.nD Cert.PoolBranchReferenceIdeal.τ).loc Cert.PoolBranchReferenceIdeal.main_arg0)
          ∧ r.2.mem ((c.tc : Thread Cert.PoolBranchReferenceIdeal.nD Cert.PoolBranchReferenceIdeal.τ).loc Cert.PoolBranchReferenceIdeal.main_arg1) = m' ((c.tc : Thread Cert.PoolBranchReferenceIdeal.nD Cert.PoolBranchReferenceIdeal.τ).loc Cert.PoolBranchReferenceIdeal.main_arg1))

def preserves_PoolBranchWeight_PoolBranchWeightIdeal : Prop :=
  True

def algebraic_PoolBranchWeightIdeal_PoolBranchWeightReferenceIdeal [hPoolBranchWeightIdeal : Cert.PoolBranchWeightIdeal.Facts] [hPoolBranchWeightReferenceIdeal : Cert.PoolBranchWeightReferenceIdeal.Facts] : Prop :=
  ∀ (m : (ℓ : Loc Cert.PoolBranchWeightIdeal.nD Cert.PoolBranchWeightIdeal.τ Cert.PoolBranchWeightIdeal.sig) → Buf (Elt Ideal) ℓ) (g : Dev Cert.PoolBranchWeightIdeal.nD → PrngReg)
    (m' : (ℓ : Loc Cert.PoolBranchWeightReferenceIdeal.nD Cert.PoolBranchWeightReferenceIdeal.τ Cert.PoolBranchWeightReferenceIdeal.sig) → Buf (Elt Ideal) ℓ) (g' : Dev Cert.PoolBranchWeightReferenceIdeal.nD → PrngReg), Pre_PoolBranchWeightIdeal m →
    (∀ c : Dev Cert.PoolBranchWeightIdeal.nD,
      m' ((c.tc : Thread Cert.PoolBranchWeightReferenceIdeal.nD Cert.PoolBranchWeightReferenceIdeal.τ).loc Cert.PoolBranchWeightReferenceIdeal.main_arg0) = m ((c.tc : Thread Cert.PoolBranchWeightIdeal.nD Cert.PoolBranchWeightIdeal.τ).loc Cert.PoolBranchWeightIdeal.main_arg0)
      ∧ m' ((c.tc : Thread Cert.PoolBranchWeightReferenceIdeal.nD Cert.PoolBranchWeightReferenceIdeal.τ).loc Cert.PoolBranchWeightReferenceIdeal.main_arg1) = m ((c.tc : Thread Cert.PoolBranchWeightIdeal.nD Cert.PoolBranchWeightIdeal.τ).loc Cert.PoolBranchWeightIdeal.main_arg1)) →
    ∃ (v0 : (c : Dev Cert.PoolBranchWeightIdeal.nD) → Buf (Elt Ideal) ((c.tc : Thread Cert.PoolBranchWeightIdeal.nD Cert.PoolBranchWeightIdeal.τ).loc Cert.PoolBranchWeightIdeal.main_v2)),
      θ_run (Cert.PoolBranchWeightIdeal.defs (F := Ideal)) (onTc (τ := Cert.PoolBranchWeightIdeal.τ) (Cert.PoolBranchWeightIdeal.main (F := Ideal))) ⟨m, fun _ => 0, g⟩ (fun r => ∀ c : Dev Cert.PoolBranchWeightIdeal.nD,
          r.2.mem ((c.tc : Thread Cert.PoolBranchWeightIdeal.nD Cert.PoolBranchWeightIdeal.τ).loc Cert.PoolBranchWeightIdeal.main_v2) = v0 c
          ∧ r.2.mem ((c.tc : Thread Cert.PoolBranchWeightIdeal.nD Cert.PoolBranchWeightIdeal.τ).loc Cert.PoolBranchWeightIdeal.main_arg0) = m ((c.tc : Thread Cert.PoolBranchWeightIdeal.nD Cert.PoolBranchWeightIdeal.τ).loc Cert.PoolBranchWeightIdeal.main_arg0)
          ∧ r.2.mem ((c.tc : Thread Cert.PoolBranchWeightIdeal.nD Cert.PoolBranchWeightIdeal.τ).loc Cert.PoolBranchWeightIdeal.main_arg1) = m ((c.tc : Thread Cert.PoolBranchWeightIdeal.nD Cert.PoolBranchWeightIdeal.τ).loc Cert.PoolBranchWeightIdeal.main_arg1))
      ∧ θ_run (Cert.PoolBranchWeightReferenceIdeal.defs (F := Ideal)) (onTc (τ := Cert.PoolBranchWeightReferenceIdeal.τ) (Cert.PoolBranchWeightReferenceIdeal.main (F := Ideal))) ⟨m', fun _ => 0, g'⟩ (fun r => ∀ c : Dev Cert.PoolBranchWeightReferenceIdeal.nD,
          r.2.mem ((c.tc : Thread Cert.PoolBranchWeightReferenceIdeal.nD Cert.PoolBranchWeightReferenceIdeal.τ).loc Cert.PoolBranchWeightReferenceIdeal.main_v6) = v0 c
          ∧ r.2.mem ((c.tc : Thread Cert.PoolBranchWeightReferenceIdeal.nD Cert.PoolBranchWeightReferenceIdeal.τ).loc Cert.PoolBranchWeightReferenceIdeal.main_arg0) = m' ((c.tc : Thread Cert.PoolBranchWeightReferenceIdeal.nD Cert.PoolBranchWeightReferenceIdeal.τ).loc Cert.PoolBranchWeightReferenceIdeal.main_arg0)
          ∧ r.2.mem ((c.tc : Thread Cert.PoolBranchWeightReferenceIdeal.nD Cert.PoolBranchWeightReferenceIdeal.τ).loc Cert.PoolBranchWeightReferenceIdeal.main_arg1) = m' ((c.tc : Thread Cert.PoolBranchWeightReferenceIdeal.nD Cert.PoolBranchWeightReferenceIdeal.τ).loc Cert.PoolBranchWeightReferenceIdeal.main_arg1))

def preserves_AttnBranch_AttnBranchIdeal : Prop :=
  True

def algebraic_AttnBranchIdeal_AttnBranchReferenceIdeal [hAttnBranchIdeal : Cert.AttnBranchIdeal.Facts] [hAttnBranchReferenceIdeal : Cert.AttnBranchReferenceIdeal.Facts] : Prop :=
  ∀ (m : (ℓ : Loc Cert.AttnBranchIdeal.nD Cert.AttnBranchIdeal.τ Cert.AttnBranchIdeal.sig) → Buf (Elt Ideal) ℓ) (g : Dev Cert.AttnBranchIdeal.nD → PrngReg)
    (m' : (ℓ : Loc Cert.AttnBranchReferenceIdeal.nD Cert.AttnBranchReferenceIdeal.τ Cert.AttnBranchReferenceIdeal.sig) → Buf (Elt Ideal) ℓ) (g' : Dev Cert.AttnBranchReferenceIdeal.nD → PrngReg), Pre_AttnBranchIdeal m →
    (∀ c : Dev Cert.AttnBranchIdeal.nD,
      m' ((c.tc : Thread Cert.AttnBranchReferenceIdeal.nD Cert.AttnBranchReferenceIdeal.τ).loc Cert.AttnBranchReferenceIdeal.main_arg0) = m ((c.tc : Thread Cert.AttnBranchIdeal.nD Cert.AttnBranchIdeal.τ).loc Cert.AttnBranchIdeal.main_arg0)
      ∧ m' ((c.tc : Thread Cert.AttnBranchReferenceIdeal.nD Cert.AttnBranchReferenceIdeal.τ).loc Cert.AttnBranchReferenceIdeal.main_arg1) = m ((c.tc : Thread Cert.AttnBranchIdeal.nD Cert.AttnBranchIdeal.τ).loc Cert.AttnBranchIdeal.main_arg1)) →
    ∃ (v0 : (c : Dev Cert.AttnBranchIdeal.nD) → Buf (Elt Ideal) ((c.tc : Thread Cert.AttnBranchIdeal.nD Cert.AttnBranchIdeal.τ).loc Cert.AttnBranchIdeal.main_v4)),
      θ_run (Cert.AttnBranchIdeal.defs (F := Ideal)) (onTc (τ := Cert.AttnBranchIdeal.τ) (Cert.AttnBranchIdeal.main (F := Ideal))) ⟨m, fun _ => 0, g⟩ (fun r => ∀ c : Dev Cert.AttnBranchIdeal.nD,
          r.2.mem ((c.tc : Thread Cert.AttnBranchIdeal.nD Cert.AttnBranchIdeal.τ).loc Cert.AttnBranchIdeal.main_v4) = v0 c
          ∧ r.2.mem ((c.tc : Thread Cert.AttnBranchIdeal.nD Cert.AttnBranchIdeal.τ).loc Cert.AttnBranchIdeal.main_arg0) = m ((c.tc : Thread Cert.AttnBranchIdeal.nD Cert.AttnBranchIdeal.τ).loc Cert.AttnBranchIdeal.main_arg0)
          ∧ r.2.mem ((c.tc : Thread Cert.AttnBranchIdeal.nD Cert.AttnBranchIdeal.τ).loc Cert.AttnBranchIdeal.main_arg1) = m ((c.tc : Thread Cert.AttnBranchIdeal.nD Cert.AttnBranchIdeal.τ).loc Cert.AttnBranchIdeal.main_arg1))
      ∧ θ_run (Cert.AttnBranchReferenceIdeal.defs (F := Ideal)) (onTc (τ := Cert.AttnBranchReferenceIdeal.τ) (Cert.AttnBranchReferenceIdeal.main (F := Ideal))) ⟨m', fun _ => 0, g'⟩ (fun r => ∀ c : Dev Cert.AttnBranchReferenceIdeal.nD,
          r.2.mem ((c.tc : Thread Cert.AttnBranchReferenceIdeal.nD Cert.AttnBranchReferenceIdeal.τ).loc Cert.AttnBranchReferenceIdeal.main_v2) = v0 c
          ∧ r.2.mem ((c.tc : Thread Cert.AttnBranchReferenceIdeal.nD Cert.AttnBranchReferenceIdeal.τ).loc Cert.AttnBranchReferenceIdeal.main_arg0) = m' ((c.tc : Thread Cert.AttnBranchReferenceIdeal.nD Cert.AttnBranchReferenceIdeal.τ).loc Cert.AttnBranchReferenceIdeal.main_arg0)
          ∧ r.2.mem ((c.tc : Thread Cert.AttnBranchReferenceIdeal.nD Cert.AttnBranchReferenceIdeal.τ).loc Cert.AttnBranchReferenceIdeal.main_arg1) = m' ((c.tc : Thread Cert.AttnBranchReferenceIdeal.nD Cert.AttnBranchReferenceIdeal.τ).loc Cert.AttnBranchReferenceIdeal.main_arg1))

def preserves_AttnBranchWeight_AttnBranchWeightIdeal : Prop :=
  True

def algebraic_AttnBranchWeightIdeal_AttnBranchWeightReferenceIdeal [hAttnBranchWeightIdeal : Cert.AttnBranchWeightIdeal.Facts] [hAttnBranchWeightReferenceIdeal : Cert.AttnBranchWeightReferenceIdeal.Facts] : Prop :=
  ∀ (m : (ℓ : Loc Cert.AttnBranchWeightIdeal.nD Cert.AttnBranchWeightIdeal.τ Cert.AttnBranchWeightIdeal.sig) → Buf (Elt Ideal) ℓ) (g : Dev Cert.AttnBranchWeightIdeal.nD → PrngReg)
    (m' : (ℓ : Loc Cert.AttnBranchWeightReferenceIdeal.nD Cert.AttnBranchWeightReferenceIdeal.τ Cert.AttnBranchWeightReferenceIdeal.sig) → Buf (Elt Ideal) ℓ) (g' : Dev Cert.AttnBranchWeightReferenceIdeal.nD → PrngReg), Pre_AttnBranchWeightIdeal m →
    (∀ c : Dev Cert.AttnBranchWeightIdeal.nD,
      m' ((c.tc : Thread Cert.AttnBranchWeightReferenceIdeal.nD Cert.AttnBranchWeightReferenceIdeal.τ).loc Cert.AttnBranchWeightReferenceIdeal.main_arg0) = m ((c.tc : Thread Cert.AttnBranchWeightIdeal.nD Cert.AttnBranchWeightIdeal.τ).loc Cert.AttnBranchWeightIdeal.main_arg0)
      ∧ m' ((c.tc : Thread Cert.AttnBranchWeightReferenceIdeal.nD Cert.AttnBranchWeightReferenceIdeal.τ).loc Cert.AttnBranchWeightReferenceIdeal.main_arg1) = m ((c.tc : Thread Cert.AttnBranchWeightIdeal.nD Cert.AttnBranchWeightIdeal.τ).loc Cert.AttnBranchWeightIdeal.main_arg1)) →
    ∃ (v0 : (c : Dev Cert.AttnBranchWeightIdeal.nD) → Buf (Elt Ideal) ((c.tc : Thread Cert.AttnBranchWeightIdeal.nD Cert.AttnBranchWeightIdeal.τ).loc Cert.AttnBranchWeightIdeal.main_v2)),
      θ_run (Cert.AttnBranchWeightIdeal.defs (F := Ideal)) (onTc (τ := Cert.AttnBranchWeightIdeal.τ) (Cert.AttnBranchWeightIdeal.main (F := Ideal))) ⟨m, fun _ => 0, g⟩ (fun r => ∀ c : Dev Cert.AttnBranchWeightIdeal.nD,
          r.2.mem ((c.tc : Thread Cert.AttnBranchWeightIdeal.nD Cert.AttnBranchWeightIdeal.τ).loc Cert.AttnBranchWeightIdeal.main_v2) = v0 c
          ∧ r.2.mem ((c.tc : Thread Cert.AttnBranchWeightIdeal.nD Cert.AttnBranchWeightIdeal.τ).loc Cert.AttnBranchWeightIdeal.main_arg0) = m ((c.tc : Thread Cert.AttnBranchWeightIdeal.nD Cert.AttnBranchWeightIdeal.τ).loc Cert.AttnBranchWeightIdeal.main_arg0)
          ∧ r.2.mem ((c.tc : Thread Cert.AttnBranchWeightIdeal.nD Cert.AttnBranchWeightIdeal.τ).loc Cert.AttnBranchWeightIdeal.main_arg1) = m ((c.tc : Thread Cert.AttnBranchWeightIdeal.nD Cert.AttnBranchWeightIdeal.τ).loc Cert.AttnBranchWeightIdeal.main_arg1))
      ∧ θ_run (Cert.AttnBranchWeightReferenceIdeal.defs (F := Ideal)) (onTc (τ := Cert.AttnBranchWeightReferenceIdeal.τ) (Cert.AttnBranchWeightReferenceIdeal.main (F := Ideal))) ⟨m', fun _ => 0, g'⟩ (fun r => ∀ c : Dev Cert.AttnBranchWeightReferenceIdeal.nD,
          r.2.mem ((c.tc : Thread Cert.AttnBranchWeightReferenceIdeal.nD Cert.AttnBranchWeightReferenceIdeal.τ).loc Cert.AttnBranchWeightReferenceIdeal.main_v6) = v0 c
          ∧ r.2.mem ((c.tc : Thread Cert.AttnBranchWeightReferenceIdeal.nD Cert.AttnBranchWeightReferenceIdeal.τ).loc Cert.AttnBranchWeightReferenceIdeal.main_arg0) = m' ((c.tc : Thread Cert.AttnBranchWeightReferenceIdeal.nD Cert.AttnBranchWeightReferenceIdeal.τ).loc Cert.AttnBranchWeightReferenceIdeal.main_arg0)
          ∧ r.2.mem ((c.tc : Thread Cert.AttnBranchWeightReferenceIdeal.nD Cert.AttnBranchWeightReferenceIdeal.τ).loc Cert.AttnBranchWeightReferenceIdeal.main_arg1) = m' ((c.tc : Thread Cert.AttnBranchWeightReferenceIdeal.nD Cert.AttnBranchWeightReferenceIdeal.τ).loc Cert.AttnBranchWeightReferenceIdeal.main_arg1))

def preserves_InForward_InForwardIdeal : Prop :=
  True

def algebraic_InForwardIdeal_InForwardReferenceIdeal [hInForwardIdeal : Cert.InForwardIdeal.Facts] [hInForwardReferenceIdeal : Cert.InForwardReferenceIdeal.Facts] : Prop :=
  ∀ (m : (ℓ : Loc Cert.InForwardIdeal.nD Cert.InForwardIdeal.τ Cert.InForwardIdeal.sig) → Buf (Elt Ideal) ℓ) (g : Dev Cert.InForwardIdeal.nD → PrngReg)
    (m' : (ℓ : Loc Cert.InForwardReferenceIdeal.nD Cert.InForwardReferenceIdeal.τ Cert.InForwardReferenceIdeal.sig) → Buf (Elt Ideal) ℓ) (g' : Dev Cert.InForwardReferenceIdeal.nD → PrngReg), Pre_InForwardIdeal m →
    (∀ c : Dev Cert.InForwardIdeal.nD,
      m' ((c.tc : Thread Cert.InForwardReferenceIdeal.nD Cert.InForwardReferenceIdeal.τ).loc Cert.InForwardReferenceIdeal.main_arg0) = m ((c.tc : Thread Cert.InForwardIdeal.nD Cert.InForwardIdeal.τ).loc Cert.InForwardIdeal.main_arg0)
      ∧ m' ((c.tc : Thread Cert.InForwardReferenceIdeal.nD Cert.InForwardReferenceIdeal.τ).loc Cert.InForwardReferenceIdeal.main_arg1) = m ((c.tc : Thread Cert.InForwardIdeal.nD Cert.InForwardIdeal.τ).loc Cert.InForwardIdeal.main_arg1)) →
    ∃ (v0 : (c : Dev Cert.InForwardIdeal.nD) → Buf (Elt Ideal) ((c.tc : Thread Cert.InForwardIdeal.nD Cert.InForwardIdeal.τ).loc Cert.InForwardIdeal.main_v4)),
      θ_run (Cert.InForwardIdeal.defs (F := Ideal)) (onTc (τ := Cert.InForwardIdeal.τ) (Cert.InForwardIdeal.main (F := Ideal))) ⟨m, fun _ => 0, g⟩ (fun r => ∀ c : Dev Cert.InForwardIdeal.nD,
          r.2.mem ((c.tc : Thread Cert.InForwardIdeal.nD Cert.InForwardIdeal.τ).loc Cert.InForwardIdeal.main_v4) = v0 c
          ∧ r.2.mem ((c.tc : Thread Cert.InForwardIdeal.nD Cert.InForwardIdeal.τ).loc Cert.InForwardIdeal.main_arg0) = m ((c.tc : Thread Cert.InForwardIdeal.nD Cert.InForwardIdeal.τ).loc Cert.InForwardIdeal.main_arg0)
          ∧ r.2.mem ((c.tc : Thread Cert.InForwardIdeal.nD Cert.InForwardIdeal.τ).loc Cert.InForwardIdeal.main_arg1) = m ((c.tc : Thread Cert.InForwardIdeal.nD Cert.InForwardIdeal.τ).loc Cert.InForwardIdeal.main_arg1))
      ∧ θ_run (Cert.InForwardReferenceIdeal.defs (F := Ideal)) (onTc (τ := Cert.InForwardReferenceIdeal.τ) (Cert.InForwardReferenceIdeal.main (F := Ideal))) ⟨m', fun _ => 0, g'⟩ (fun r => ∀ c : Dev Cert.InForwardReferenceIdeal.nD,
          r.2.mem ((c.tc : Thread Cert.InForwardReferenceIdeal.nD Cert.InForwardReferenceIdeal.τ).loc Cert.InForwardReferenceIdeal.main_v0) = v0 c
          ∧ r.2.mem ((c.tc : Thread Cert.InForwardReferenceIdeal.nD Cert.InForwardReferenceIdeal.τ).loc Cert.InForwardReferenceIdeal.main_arg0) = m' ((c.tc : Thread Cert.InForwardReferenceIdeal.nD Cert.InForwardReferenceIdeal.τ).loc Cert.InForwardReferenceIdeal.main_arg0)
          ∧ r.2.mem ((c.tc : Thread Cert.InForwardReferenceIdeal.nD Cert.InForwardReferenceIdeal.τ).loc Cert.InForwardReferenceIdeal.main_arg1) = m' ((c.tc : Thread Cert.InForwardReferenceIdeal.nD Cert.InForwardReferenceIdeal.τ).loc Cert.InForwardReferenceIdeal.main_arg1))

def preserves_UpForward_UpForwardIdeal : Prop :=
  True

def algebraic_UpForwardIdeal_UpForwardReferenceIdeal [hUpForwardIdeal : Cert.UpForwardIdeal.Facts] [hUpForwardReferenceIdeal : Cert.UpForwardReferenceIdeal.Facts] : Prop :=
  ∀ (m : (ℓ : Loc Cert.UpForwardIdeal.nD Cert.UpForwardIdeal.τ Cert.UpForwardIdeal.sig) → Buf (Elt Ideal) ℓ) (g : Dev Cert.UpForwardIdeal.nD → PrngReg)
    (m' : (ℓ : Loc Cert.UpForwardReferenceIdeal.nD Cert.UpForwardReferenceIdeal.τ Cert.UpForwardReferenceIdeal.sig) → Buf (Elt Ideal) ℓ) (g' : Dev Cert.UpForwardReferenceIdeal.nD → PrngReg), Pre_UpForwardIdeal m →
    (∀ c : Dev Cert.UpForwardIdeal.nD,
      m' ((c.tc : Thread Cert.UpForwardReferenceIdeal.nD Cert.UpForwardReferenceIdeal.τ).loc Cert.UpForwardReferenceIdeal.main_arg0) = m ((c.tc : Thread Cert.UpForwardIdeal.nD Cert.UpForwardIdeal.τ).loc Cert.UpForwardIdeal.main_arg0)
      ∧ m' ((c.tc : Thread Cert.UpForwardReferenceIdeal.nD Cert.UpForwardReferenceIdeal.τ).loc Cert.UpForwardReferenceIdeal.main_arg1) = m ((c.tc : Thread Cert.UpForwardIdeal.nD Cert.UpForwardIdeal.τ).loc Cert.UpForwardIdeal.main_arg1)) →
    ∃ (v0 : (c : Dev Cert.UpForwardIdeal.nD) → Buf (Elt Ideal) ((c.tc : Thread Cert.UpForwardIdeal.nD Cert.UpForwardIdeal.τ).loc Cert.UpForwardIdeal.main_v4)),
      θ_run (Cert.UpForwardIdeal.defs (F := Ideal)) (onTc (τ := Cert.UpForwardIdeal.τ) (Cert.UpForwardIdeal.main (F := Ideal))) ⟨m, fun _ => 0, g⟩ (fun r => ∀ c : Dev Cert.UpForwardIdeal.nD,
          r.2.mem ((c.tc : Thread Cert.UpForwardIdeal.nD Cert.UpForwardIdeal.τ).loc Cert.UpForwardIdeal.main_v4) = v0 c
          ∧ r.2.mem ((c.tc : Thread Cert.UpForwardIdeal.nD Cert.UpForwardIdeal.τ).loc Cert.UpForwardIdeal.main_arg0) = m ((c.tc : Thread Cert.UpForwardIdeal.nD Cert.UpForwardIdeal.τ).loc Cert.UpForwardIdeal.main_arg0)
          ∧ r.2.mem ((c.tc : Thread Cert.UpForwardIdeal.nD Cert.UpForwardIdeal.τ).loc Cert.UpForwardIdeal.main_arg1) = m ((c.tc : Thread Cert.UpForwardIdeal.nD Cert.UpForwardIdeal.τ).loc Cert.UpForwardIdeal.main_arg1))
      ∧ θ_run (Cert.UpForwardReferenceIdeal.defs (F := Ideal)) (onTc (τ := Cert.UpForwardReferenceIdeal.τ) (Cert.UpForwardReferenceIdeal.main (F := Ideal))) ⟨m', fun _ => 0, g'⟩ (fun r => ∀ c : Dev Cert.UpForwardReferenceIdeal.nD,
          r.2.mem ((c.tc : Thread Cert.UpForwardReferenceIdeal.nD Cert.UpForwardReferenceIdeal.τ).loc Cert.UpForwardReferenceIdeal.main_v0) = v0 c
          ∧ r.2.mem ((c.tc : Thread Cert.UpForwardReferenceIdeal.nD Cert.UpForwardReferenceIdeal.τ).loc Cert.UpForwardReferenceIdeal.main_arg0) = m' ((c.tc : Thread Cert.UpForwardReferenceIdeal.nD Cert.UpForwardReferenceIdeal.τ).loc Cert.UpForwardReferenceIdeal.main_arg0)
          ∧ r.2.mem ((c.tc : Thread Cert.UpForwardReferenceIdeal.nD Cert.UpForwardReferenceIdeal.τ).loc Cert.UpForwardReferenceIdeal.main_arg1) = m' ((c.tc : Thread Cert.UpForwardReferenceIdeal.nD Cert.UpForwardReferenceIdeal.τ).loc Cert.UpForwardReferenceIdeal.main_arg1))

def preserves_AttnBranchForward_AttnBranchForwardIdeal : Prop :=
  True

def algebraic_AttnBranchForwardIdeal_AttnBranchForwardReferenceIdeal [hAttnBranchForwardIdeal : Cert.AttnBranchForwardIdeal.Facts] [hAttnBranchForwardReferenceIdeal : Cert.AttnBranchForwardReferenceIdeal.Facts] : Prop :=
  ∀ (m : (ℓ : Loc Cert.AttnBranchForwardIdeal.nD Cert.AttnBranchForwardIdeal.τ Cert.AttnBranchForwardIdeal.sig) → Buf (Elt Ideal) ℓ) (g : Dev Cert.AttnBranchForwardIdeal.nD → PrngReg)
    (m' : (ℓ : Loc Cert.AttnBranchForwardReferenceIdeal.nD Cert.AttnBranchForwardReferenceIdeal.τ Cert.AttnBranchForwardReferenceIdeal.sig) → Buf (Elt Ideal) ℓ) (g' : Dev Cert.AttnBranchForwardReferenceIdeal.nD → PrngReg), Pre_AttnBranchForwardIdeal m →
    (∀ c : Dev Cert.AttnBranchForwardIdeal.nD,
      m' ((c.tc : Thread Cert.AttnBranchForwardReferenceIdeal.nD Cert.AttnBranchForwardReferenceIdeal.τ).loc Cert.AttnBranchForwardReferenceIdeal.main_arg0) = m ((c.tc : Thread Cert.AttnBranchForwardIdeal.nD Cert.AttnBranchForwardIdeal.τ).loc Cert.AttnBranchForwardIdeal.main_arg0)
      ∧ m' ((c.tc : Thread Cert.AttnBranchForwardReferenceIdeal.nD Cert.AttnBranchForwardReferenceIdeal.τ).loc Cert.AttnBranchForwardReferenceIdeal.main_arg1) = m ((c.tc : Thread Cert.AttnBranchForwardIdeal.nD Cert.AttnBranchForwardIdeal.τ).loc Cert.AttnBranchForwardIdeal.main_arg1)) →
    ∃ (v0 : (c : Dev Cert.AttnBranchForwardIdeal.nD) → Buf (Elt Ideal) ((c.tc : Thread Cert.AttnBranchForwardIdeal.nD Cert.AttnBranchForwardIdeal.τ).loc Cert.AttnBranchForwardIdeal.main_v4)),
      θ_run (Cert.AttnBranchForwardIdeal.defs (F := Ideal)) (onTc (τ := Cert.AttnBranchForwardIdeal.τ) (Cert.AttnBranchForwardIdeal.main (F := Ideal))) ⟨m, fun _ => 0, g⟩ (fun r => ∀ c : Dev Cert.AttnBranchForwardIdeal.nD,
          r.2.mem ((c.tc : Thread Cert.AttnBranchForwardIdeal.nD Cert.AttnBranchForwardIdeal.τ).loc Cert.AttnBranchForwardIdeal.main_v4) = v0 c
          ∧ r.2.mem ((c.tc : Thread Cert.AttnBranchForwardIdeal.nD Cert.AttnBranchForwardIdeal.τ).loc Cert.AttnBranchForwardIdeal.main_arg0) = m ((c.tc : Thread Cert.AttnBranchForwardIdeal.nD Cert.AttnBranchForwardIdeal.τ).loc Cert.AttnBranchForwardIdeal.main_arg0)
          ∧ r.2.mem ((c.tc : Thread Cert.AttnBranchForwardIdeal.nD Cert.AttnBranchForwardIdeal.τ).loc Cert.AttnBranchForwardIdeal.main_arg1) = m ((c.tc : Thread Cert.AttnBranchForwardIdeal.nD Cert.AttnBranchForwardIdeal.τ).loc Cert.AttnBranchForwardIdeal.main_arg1))
      ∧ θ_run (Cert.AttnBranchForwardReferenceIdeal.defs (F := Ideal)) (onTc (τ := Cert.AttnBranchForwardReferenceIdeal.τ) (Cert.AttnBranchForwardReferenceIdeal.main (F := Ideal))) ⟨m', fun _ => 0, g'⟩ (fun r => ∀ c : Dev Cert.AttnBranchForwardReferenceIdeal.nD,
          r.2.mem ((c.tc : Thread Cert.AttnBranchForwardReferenceIdeal.nD Cert.AttnBranchForwardReferenceIdeal.τ).loc Cert.AttnBranchForwardReferenceIdeal.main_v0) = v0 c
          ∧ r.2.mem ((c.tc : Thread Cert.AttnBranchForwardReferenceIdeal.nD Cert.AttnBranchForwardReferenceIdeal.τ).loc Cert.AttnBranchForwardReferenceIdeal.main_arg0) = m' ((c.tc : Thread Cert.AttnBranchForwardReferenceIdeal.nD Cert.AttnBranchForwardReferenceIdeal.τ).loc Cert.AttnBranchForwardReferenceIdeal.main_arg0)
          ∧ r.2.mem ((c.tc : Thread Cert.AttnBranchForwardReferenceIdeal.nD Cert.AttnBranchForwardReferenceIdeal.τ).loc Cert.AttnBranchForwardReferenceIdeal.main_arg1) = m' ((c.tc : Thread Cert.AttnBranchForwardReferenceIdeal.nD Cert.AttnBranchForwardReferenceIdeal.τ).loc Cert.AttnBranchForwardReferenceIdeal.main_arg1))

def preserves_PoolBranchForward_PoolBranchForwardIdeal : Prop :=
  True

def algebraic_PoolBranchForwardIdeal_PoolBranchForwardReferenceIdeal [hPoolBranchForwardIdeal : Cert.PoolBranchForwardIdeal.Facts] [hPoolBranchForwardReferenceIdeal : Cert.PoolBranchForwardReferenceIdeal.Facts] : Prop :=
  ∀ (m : (ℓ : Loc Cert.PoolBranchForwardIdeal.nD Cert.PoolBranchForwardIdeal.τ Cert.PoolBranchForwardIdeal.sig) → Buf (Elt Ideal) ℓ) (g : Dev Cert.PoolBranchForwardIdeal.nD → PrngReg)
    (m' : (ℓ : Loc Cert.PoolBranchForwardReferenceIdeal.nD Cert.PoolBranchForwardReferenceIdeal.τ Cert.PoolBranchForwardReferenceIdeal.sig) → Buf (Elt Ideal) ℓ) (g' : Dev Cert.PoolBranchForwardReferenceIdeal.nD → PrngReg), Pre_PoolBranchForwardIdeal m →
    (∀ c : Dev Cert.PoolBranchForwardIdeal.nD,
      m' ((c.tc : Thread Cert.PoolBranchForwardReferenceIdeal.nD Cert.PoolBranchForwardReferenceIdeal.τ).loc Cert.PoolBranchForwardReferenceIdeal.main_arg0) = m ((c.tc : Thread Cert.PoolBranchForwardIdeal.nD Cert.PoolBranchForwardIdeal.τ).loc Cert.PoolBranchForwardIdeal.main_arg0)
      ∧ m' ((c.tc : Thread Cert.PoolBranchForwardReferenceIdeal.nD Cert.PoolBranchForwardReferenceIdeal.τ).loc Cert.PoolBranchForwardReferenceIdeal.main_arg1) = m ((c.tc : Thread Cert.PoolBranchForwardIdeal.nD Cert.PoolBranchForwardIdeal.τ).loc Cert.PoolBranchForwardIdeal.main_arg1)) →
    ∃ (v0 : (c : Dev Cert.PoolBranchForwardIdeal.nD) → Buf (Elt Ideal) ((c.tc : Thread Cert.PoolBranchForwardIdeal.nD Cert.PoolBranchForwardIdeal.τ).loc Cert.PoolBranchForwardIdeal.main_v4)),
      θ_run (Cert.PoolBranchForwardIdeal.defs (F := Ideal)) (onTc (τ := Cert.PoolBranchForwardIdeal.τ) (Cert.PoolBranchForwardIdeal.main (F := Ideal))) ⟨m, fun _ => 0, g⟩ (fun r => ∀ c : Dev Cert.PoolBranchForwardIdeal.nD,
          r.2.mem ((c.tc : Thread Cert.PoolBranchForwardIdeal.nD Cert.PoolBranchForwardIdeal.τ).loc Cert.PoolBranchForwardIdeal.main_v4) = v0 c
          ∧ r.2.mem ((c.tc : Thread Cert.PoolBranchForwardIdeal.nD Cert.PoolBranchForwardIdeal.τ).loc Cert.PoolBranchForwardIdeal.main_arg0) = m ((c.tc : Thread Cert.PoolBranchForwardIdeal.nD Cert.PoolBranchForwardIdeal.τ).loc Cert.PoolBranchForwardIdeal.main_arg0)
          ∧ r.2.mem ((c.tc : Thread Cert.PoolBranchForwardIdeal.nD Cert.PoolBranchForwardIdeal.τ).loc Cert.PoolBranchForwardIdeal.main_arg1) = m ((c.tc : Thread Cert.PoolBranchForwardIdeal.nD Cert.PoolBranchForwardIdeal.τ).loc Cert.PoolBranchForwardIdeal.main_arg1))
      ∧ θ_run (Cert.PoolBranchForwardReferenceIdeal.defs (F := Ideal)) (onTc (τ := Cert.PoolBranchForwardReferenceIdeal.τ) (Cert.PoolBranchForwardReferenceIdeal.main (F := Ideal))) ⟨m', fun _ => 0, g'⟩ (fun r => ∀ c : Dev Cert.PoolBranchForwardReferenceIdeal.nD,
          r.2.mem ((c.tc : Thread Cert.PoolBranchForwardReferenceIdeal.nD Cert.PoolBranchForwardReferenceIdeal.τ).loc Cert.PoolBranchForwardReferenceIdeal.main_v0) = v0 c
          ∧ r.2.mem ((c.tc : Thread Cert.PoolBranchForwardReferenceIdeal.nD Cert.PoolBranchForwardReferenceIdeal.τ).loc Cert.PoolBranchForwardReferenceIdeal.main_arg0) = m' ((c.tc : Thread Cert.PoolBranchForwardReferenceIdeal.nD Cert.PoolBranchForwardReferenceIdeal.τ).loc Cert.PoolBranchForwardReferenceIdeal.main_arg0)
          ∧ r.2.mem ((c.tc : Thread Cert.PoolBranchForwardReferenceIdeal.nD Cert.PoolBranchForwardReferenceIdeal.τ).loc Cert.PoolBranchForwardReferenceIdeal.main_arg1) = m' ((c.tc : Thread Cert.PoolBranchForwardReferenceIdeal.nD Cert.PoolBranchForwardReferenceIdeal.τ).loc Cert.PoolBranchForwardReferenceIdeal.main_arg1))

def preserves_OutForward_OutForwardIdeal : Prop :=
  True

def algebraic_OutForwardIdeal_OutForwardReferenceIdeal [hOutForwardIdeal : Cert.OutForwardIdeal.Facts] [hOutForwardReferenceIdeal : Cert.OutForwardReferenceIdeal.Facts] : Prop :=
  ∀ (m : (ℓ : Loc Cert.OutForwardIdeal.nD Cert.OutForwardIdeal.τ Cert.OutForwardIdeal.sig) → Buf (Elt Ideal) ℓ) (g : Dev Cert.OutForwardIdeal.nD → PrngReg)
    (m' : (ℓ : Loc Cert.OutForwardReferenceIdeal.nD Cert.OutForwardReferenceIdeal.τ Cert.OutForwardReferenceIdeal.sig) → Buf (Elt Ideal) ℓ) (g' : Dev Cert.OutForwardReferenceIdeal.nD → PrngReg), Pre_OutForwardIdeal m →
    (∀ c : Dev Cert.OutForwardIdeal.nD,
      m' ((c.tc : Thread Cert.OutForwardReferenceIdeal.nD Cert.OutForwardReferenceIdeal.τ).loc Cert.OutForwardReferenceIdeal.main_arg0) = m ((c.tc : Thread Cert.OutForwardIdeal.nD Cert.OutForwardIdeal.τ).loc Cert.OutForwardIdeal.main_arg0)
      ∧ m' ((c.tc : Thread Cert.OutForwardReferenceIdeal.nD Cert.OutForwardReferenceIdeal.τ).loc Cert.OutForwardReferenceIdeal.main_arg1) = m ((c.tc : Thread Cert.OutForwardIdeal.nD Cert.OutForwardIdeal.τ).loc Cert.OutForwardIdeal.main_arg1)) →
    ∃ (v0 : (c : Dev Cert.OutForwardIdeal.nD) → Buf (Elt Ideal) ((c.tc : Thread Cert.OutForwardIdeal.nD Cert.OutForwardIdeal.τ).loc Cert.OutForwardIdeal.main_v2)),
      θ_run (Cert.OutForwardIdeal.defs (F := Ideal)) (onTc (τ := Cert.OutForwardIdeal.τ) (Cert.OutForwardIdeal.main (F := Ideal))) ⟨m, fun _ => 0, g⟩ (fun r => ∀ c : Dev Cert.OutForwardIdeal.nD,
          r.2.mem ((c.tc : Thread Cert.OutForwardIdeal.nD Cert.OutForwardIdeal.τ).loc Cert.OutForwardIdeal.main_v2) = v0 c
          ∧ r.2.mem ((c.tc : Thread Cert.OutForwardIdeal.nD Cert.OutForwardIdeal.τ).loc Cert.OutForwardIdeal.main_arg0) = m ((c.tc : Thread Cert.OutForwardIdeal.nD Cert.OutForwardIdeal.τ).loc Cert.OutForwardIdeal.main_arg0)
          ∧ r.2.mem ((c.tc : Thread Cert.OutForwardIdeal.nD Cert.OutForwardIdeal.τ).loc Cert.OutForwardIdeal.main_arg1) = m ((c.tc : Thread Cert.OutForwardIdeal.nD Cert.OutForwardIdeal.τ).loc Cert.OutForwardIdeal.main_arg1))
      ∧ θ_run (Cert.OutForwardReferenceIdeal.defs (F := Ideal)) (onTc (τ := Cert.OutForwardReferenceIdeal.τ) (Cert.OutForwardReferenceIdeal.main (F := Ideal))) ⟨m', fun _ => 0, g'⟩ (fun r => ∀ c : Dev Cert.OutForwardReferenceIdeal.nD,
          r.2.mem ((c.tc : Thread Cert.OutForwardReferenceIdeal.nD Cert.OutForwardReferenceIdeal.τ).loc Cert.OutForwardReferenceIdeal.main_v0) = v0 c
          ∧ r.2.mem ((c.tc : Thread Cert.OutForwardReferenceIdeal.nD Cert.OutForwardReferenceIdeal.τ).loc Cert.OutForwardReferenceIdeal.main_arg0) = m' ((c.tc : Thread Cert.OutForwardReferenceIdeal.nD Cert.OutForwardReferenceIdeal.τ).loc Cert.OutForwardReferenceIdeal.main_arg0)
          ∧ r.2.mem ((c.tc : Thread Cert.OutForwardReferenceIdeal.nD Cert.OutForwardReferenceIdeal.τ).loc Cert.OutForwardReferenceIdeal.main_arg1) = m' ((c.tc : Thread Cert.OutForwardReferenceIdeal.nD Cert.OutForwardReferenceIdeal.τ).loc Cert.OutForwardReferenceIdeal.main_arg1))

def preserves_PleForward_PleForwardIdeal : Prop :=
  True

def algebraic_PleForwardIdeal_PleForwardReferenceIdeal [hPleForwardIdeal : Cert.PleForwardIdeal.Facts] [hPleForwardReferenceIdeal : Cert.PleForwardReferenceIdeal.Facts] : Prop :=
  ∀ (m : (ℓ : Loc Cert.PleForwardIdeal.nD Cert.PleForwardIdeal.τ Cert.PleForwardIdeal.sig) → Buf (Elt Ideal) ℓ) (g : Dev Cert.PleForwardIdeal.nD → PrngReg)
    (m' : (ℓ : Loc Cert.PleForwardReferenceIdeal.nD Cert.PleForwardReferenceIdeal.τ Cert.PleForwardReferenceIdeal.sig) → Buf (Elt Ideal) ℓ) (g' : Dev Cert.PleForwardReferenceIdeal.nD → PrngReg), Pre_PleForwardIdeal m →
    (∀ c : Dev Cert.PleForwardIdeal.nD,
      m' ((c.tc : Thread Cert.PleForwardReferenceIdeal.nD Cert.PleForwardReferenceIdeal.τ).loc Cert.PleForwardReferenceIdeal.main_arg0) = m ((c.tc : Thread Cert.PleForwardIdeal.nD Cert.PleForwardIdeal.τ).loc Cert.PleForwardIdeal.main_arg0)
      ∧ m' ((c.tc : Thread Cert.PleForwardReferenceIdeal.nD Cert.PleForwardReferenceIdeal.τ).loc Cert.PleForwardReferenceIdeal.main_arg1) = m ((c.tc : Thread Cert.PleForwardIdeal.nD Cert.PleForwardIdeal.τ).loc Cert.PleForwardIdeal.main_arg1)) →
    ∃ (v0 : (c : Dev Cert.PleForwardIdeal.nD) → Buf (Elt Ideal) ((c.tc : Thread Cert.PleForwardIdeal.nD Cert.PleForwardIdeal.τ).loc Cert.PleForwardIdeal.main_v3)),
      θ_run (Cert.PleForwardIdeal.defs (F := Ideal)) (onTc (τ := Cert.PleForwardIdeal.τ) (Cert.PleForwardIdeal.main (F := Ideal))) ⟨m, fun _ => 0, g⟩ (fun r => ∀ c : Dev Cert.PleForwardIdeal.nD,
          r.2.mem ((c.tc : Thread Cert.PleForwardIdeal.nD Cert.PleForwardIdeal.τ).loc Cert.PleForwardIdeal.main_v3) = v0 c
          ∧ r.2.mem ((c.tc : Thread Cert.PleForwardIdeal.nD Cert.PleForwardIdeal.τ).loc Cert.PleForwardIdeal.main_arg0) = m ((c.tc : Thread Cert.PleForwardIdeal.nD Cert.PleForwardIdeal.τ).loc Cert.PleForwardIdeal.main_arg0)
          ∧ r.2.mem ((c.tc : Thread Cert.PleForwardIdeal.nD Cert.PleForwardIdeal.τ).loc Cert.PleForwardIdeal.main_arg1) = m ((c.tc : Thread Cert.PleForwardIdeal.nD Cert.PleForwardIdeal.τ).loc Cert.PleForwardIdeal.main_arg1))
      ∧ θ_run (Cert.PleForwardReferenceIdeal.defs (F := Ideal)) (onTc (τ := Cert.PleForwardReferenceIdeal.τ) (Cert.PleForwardReferenceIdeal.main (F := Ideal))) ⟨m', fun _ => 0, g'⟩ (fun r => ∀ c : Dev Cert.PleForwardReferenceIdeal.nD,
          r.2.mem ((c.tc : Thread Cert.PleForwardReferenceIdeal.nD Cert.PleForwardReferenceIdeal.τ).loc Cert.PleForwardReferenceIdeal.main_v0) = v0 c
          ∧ r.2.mem ((c.tc : Thread Cert.PleForwardReferenceIdeal.nD Cert.PleForwardReferenceIdeal.τ).loc Cert.PleForwardReferenceIdeal.main_arg0) = m' ((c.tc : Thread Cert.PleForwardReferenceIdeal.nD Cert.PleForwardReferenceIdeal.τ).loc Cert.PleForwardReferenceIdeal.main_arg0)
          ∧ r.2.mem ((c.tc : Thread Cert.PleForwardReferenceIdeal.nD Cert.PleForwardReferenceIdeal.τ).loc Cert.PleForwardReferenceIdeal.main_arg1) = m' ((c.tc : Thread Cert.PleForwardReferenceIdeal.nD Cert.PleForwardReferenceIdeal.τ).loc Cert.PleForwardReferenceIdeal.main_arg1))

def preserves_PleGateForward_PleGateForwardIdeal : Prop :=
  True

def algebraic_PleGateForwardIdeal_PleGateForwardReferenceIdeal [hPleGateForwardIdeal : Cert.PleGateForwardIdeal.Facts] [hPleGateForwardReferenceIdeal : Cert.PleGateForwardReferenceIdeal.Facts] : Prop :=
  ∀ (m : (ℓ : Loc Cert.PleGateForwardIdeal.nD Cert.PleGateForwardIdeal.τ Cert.PleGateForwardIdeal.sig) → Buf (Elt Ideal) ℓ) (g : Dev Cert.PleGateForwardIdeal.nD → PrngReg)
    (m' : (ℓ : Loc Cert.PleGateForwardReferenceIdeal.nD Cert.PleGateForwardReferenceIdeal.τ Cert.PleGateForwardReferenceIdeal.sig) → Buf (Elt Ideal) ℓ) (g' : Dev Cert.PleGateForwardReferenceIdeal.nD → PrngReg), Pre_PleGateForwardIdeal m →
    (∀ c : Dev Cert.PleGateForwardIdeal.nD,
      m' ((c.tc : Thread Cert.PleGateForwardReferenceIdeal.nD Cert.PleGateForwardReferenceIdeal.τ).loc Cert.PleGateForwardReferenceIdeal.main_arg0) = m ((c.tc : Thread Cert.PleGateForwardIdeal.nD Cert.PleGateForwardIdeal.τ).loc Cert.PleGateForwardIdeal.main_arg0)
      ∧ m' ((c.tc : Thread Cert.PleGateForwardReferenceIdeal.nD Cert.PleGateForwardReferenceIdeal.τ).loc Cert.PleGateForwardReferenceIdeal.main_arg1) = m ((c.tc : Thread Cert.PleGateForwardIdeal.nD Cert.PleGateForwardIdeal.τ).loc Cert.PleGateForwardIdeal.main_arg1)) →
    ∃ (v0 : (c : Dev Cert.PleGateForwardIdeal.nD) → Buf (Elt Ideal) ((c.tc : Thread Cert.PleGateForwardIdeal.nD Cert.PleGateForwardIdeal.τ).loc Cert.PleGateForwardIdeal.main_v2)),
      θ_run (Cert.PleGateForwardIdeal.defs (F := Ideal)) (onTc (τ := Cert.PleGateForwardIdeal.τ) (Cert.PleGateForwardIdeal.main (F := Ideal))) ⟨m, fun _ => 0, g⟩ (fun r => ∀ c : Dev Cert.PleGateForwardIdeal.nD,
          r.2.mem ((c.tc : Thread Cert.PleGateForwardIdeal.nD Cert.PleGateForwardIdeal.τ).loc Cert.PleGateForwardIdeal.main_v2) = v0 c
          ∧ r.2.mem ((c.tc : Thread Cert.PleGateForwardIdeal.nD Cert.PleGateForwardIdeal.τ).loc Cert.PleGateForwardIdeal.main_arg0) = m ((c.tc : Thread Cert.PleGateForwardIdeal.nD Cert.PleGateForwardIdeal.τ).loc Cert.PleGateForwardIdeal.main_arg0)
          ∧ r.2.mem ((c.tc : Thread Cert.PleGateForwardIdeal.nD Cert.PleGateForwardIdeal.τ).loc Cert.PleGateForwardIdeal.main_arg1) = m ((c.tc : Thread Cert.PleGateForwardIdeal.nD Cert.PleGateForwardIdeal.τ).loc Cert.PleGateForwardIdeal.main_arg1))
      ∧ θ_run (Cert.PleGateForwardReferenceIdeal.defs (F := Ideal)) (onTc (τ := Cert.PleGateForwardReferenceIdeal.τ) (Cert.PleGateForwardReferenceIdeal.main (F := Ideal))) ⟨m', fun _ => 0, g'⟩ (fun r => ∀ c : Dev Cert.PleGateForwardReferenceIdeal.nD,
          r.2.mem ((c.tc : Thread Cert.PleGateForwardReferenceIdeal.nD Cert.PleGateForwardReferenceIdeal.τ).loc Cert.PleGateForwardReferenceIdeal.main_v0) = v0 c
          ∧ r.2.mem ((c.tc : Thread Cert.PleGateForwardReferenceIdeal.nD Cert.PleGateForwardReferenceIdeal.τ).loc Cert.PleGateForwardReferenceIdeal.main_arg0) = m' ((c.tc : Thread Cert.PleGateForwardReferenceIdeal.nD Cert.PleGateForwardReferenceIdeal.τ).loc Cert.PleGateForwardReferenceIdeal.main_arg0)
          ∧ r.2.mem ((c.tc : Thread Cert.PleGateForwardReferenceIdeal.nD Cert.PleGateForwardReferenceIdeal.τ).loc Cert.PleGateForwardReferenceIdeal.main_arg1) = m' ((c.tc : Thread Cert.PleGateForwardReferenceIdeal.nD Cert.PleGateForwardReferenceIdeal.τ).loc Cert.PleGateForwardReferenceIdeal.main_arg1))

def preserves_DownForward_DownForwardIdeal : Prop :=
  True

def algebraic_DownForwardIdeal_DownForwardReferenceIdeal [hDownForwardIdeal : Cert.DownForwardIdeal.Facts] [hDownForwardReferenceIdeal : Cert.DownForwardReferenceIdeal.Facts] : Prop :=
  ∀ (m : (ℓ : Loc Cert.DownForwardIdeal.nD Cert.DownForwardIdeal.τ Cert.DownForwardIdeal.sig) → Buf (Elt Ideal) ℓ) (g : Dev Cert.DownForwardIdeal.nD → PrngReg)
    (m' : (ℓ : Loc Cert.DownForwardReferenceIdeal.nD Cert.DownForwardReferenceIdeal.τ Cert.DownForwardReferenceIdeal.sig) → Buf (Elt Ideal) ℓ) (g' : Dev Cert.DownForwardReferenceIdeal.nD → PrngReg), Pre_DownForwardIdeal m →
    (∀ c : Dev Cert.DownForwardIdeal.nD,
      m' ((c.tc : Thread Cert.DownForwardReferenceIdeal.nD Cert.DownForwardReferenceIdeal.τ).loc Cert.DownForwardReferenceIdeal.main_arg0) = m ((c.tc : Thread Cert.DownForwardIdeal.nD Cert.DownForwardIdeal.τ).loc Cert.DownForwardIdeal.main_arg0)
      ∧ m' ((c.tc : Thread Cert.DownForwardReferenceIdeal.nD Cert.DownForwardReferenceIdeal.τ).loc Cert.DownForwardReferenceIdeal.main_arg1) = m ((c.tc : Thread Cert.DownForwardIdeal.nD Cert.DownForwardIdeal.τ).loc Cert.DownForwardIdeal.main_arg1)) →
    ∃ (v0 : (c : Dev Cert.DownForwardIdeal.nD) → Buf (Elt Ideal) ((c.tc : Thread Cert.DownForwardIdeal.nD Cert.DownForwardIdeal.τ).loc Cert.DownForwardIdeal.main_v2)),
      θ_run (Cert.DownForwardIdeal.defs (F := Ideal)) (onTc (τ := Cert.DownForwardIdeal.τ) (Cert.DownForwardIdeal.main (F := Ideal))) ⟨m, fun _ => 0, g⟩ (fun r => ∀ c : Dev Cert.DownForwardIdeal.nD,
          r.2.mem ((c.tc : Thread Cert.DownForwardIdeal.nD Cert.DownForwardIdeal.τ).loc Cert.DownForwardIdeal.main_v2) = v0 c
          ∧ r.2.mem ((c.tc : Thread Cert.DownForwardIdeal.nD Cert.DownForwardIdeal.τ).loc Cert.DownForwardIdeal.main_arg0) = m ((c.tc : Thread Cert.DownForwardIdeal.nD Cert.DownForwardIdeal.τ).loc Cert.DownForwardIdeal.main_arg0)
          ∧ r.2.mem ((c.tc : Thread Cert.DownForwardIdeal.nD Cert.DownForwardIdeal.τ).loc Cert.DownForwardIdeal.main_arg1) = m ((c.tc : Thread Cert.DownForwardIdeal.nD Cert.DownForwardIdeal.τ).loc Cert.DownForwardIdeal.main_arg1))
      ∧ θ_run (Cert.DownForwardReferenceIdeal.defs (F := Ideal)) (onTc (τ := Cert.DownForwardReferenceIdeal.τ) (Cert.DownForwardReferenceIdeal.main (F := Ideal))) ⟨m', fun _ => 0, g'⟩ (fun r => ∀ c : Dev Cert.DownForwardReferenceIdeal.nD,
          r.2.mem ((c.tc : Thread Cert.DownForwardReferenceIdeal.nD Cert.DownForwardReferenceIdeal.τ).loc Cert.DownForwardReferenceIdeal.main_v0) = v0 c
          ∧ r.2.mem ((c.tc : Thread Cert.DownForwardReferenceIdeal.nD Cert.DownForwardReferenceIdeal.τ).loc Cert.DownForwardReferenceIdeal.main_arg0) = m' ((c.tc : Thread Cert.DownForwardReferenceIdeal.nD Cert.DownForwardReferenceIdeal.τ).loc Cert.DownForwardReferenceIdeal.main_arg0)
          ∧ r.2.mem ((c.tc : Thread Cert.DownForwardReferenceIdeal.nD Cert.DownForwardReferenceIdeal.τ).loc Cert.DownForwardReferenceIdeal.main_arg1) = m' ((c.tc : Thread Cert.DownForwardReferenceIdeal.nD Cert.DownForwardReferenceIdeal.τ).loc Cert.DownForwardReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v31) = v0 c
          ∧ r.2.mem ((c.tc : Thread Cert.GateReferenceIdeal.nD Cert.GateReferenceIdeal.τ).loc Cert.GateReferenceIdeal.main_v32) = v1 c
          ∧ r.2.mem ((c.tc : Thread Cert.GateReferenceIdeal.nD Cert.GateReferenceIdeal.τ).loc Cert.GateReferenceIdeal.main_v33) = v2 c
          ∧ r.2.mem ((c.tc : Thread Cert.GateReferenceIdeal.nD Cert.GateReferenceIdeal.τ).loc Cert.GateReferenceIdeal.main_v34) = v3 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_PoolGroup_PoolGroupIdeal : Prop :=
  True

def algebraic_PoolGroupIdeal_PoolGroupReferenceIdeal [hPoolGroupIdeal : Cert.PoolGroupIdeal.Facts] [hPoolGroupReferenceIdeal : Cert.PoolGroupReferenceIdeal.Facts] : Prop :=
  ∀ (m : (ℓ : Loc Cert.PoolGroupIdeal.nD Cert.PoolGroupIdeal.τ Cert.PoolGroupIdeal.sig) → Buf (Elt Ideal) ℓ) (g : Dev Cert.PoolGroupIdeal.nD → PrngReg)
    (m' : (ℓ : Loc Cert.PoolGroupReferenceIdeal.nD Cert.PoolGroupReferenceIdeal.τ Cert.PoolGroupReferenceIdeal.sig) → Buf (Elt Ideal) ℓ) (g' : Dev Cert.PoolGroupReferenceIdeal.nD → PrngReg), Pre_PoolGroupIdeal m →
    (∀ c : Dev Cert.PoolGroupIdeal.nD,
      m' ((c.tc : Thread Cert.PoolGroupReferenceIdeal.nD Cert.PoolGroupReferenceIdeal.τ).loc Cert.PoolGroupReferenceIdeal.main_arg0) = m ((c.tc : Thread Cert.PoolGroupIdeal.nD Cert.PoolGroupIdeal.τ).loc Cert.PoolGroupIdeal.main_arg0)
      ∧ m' ((c.tc : Thread Cert.PoolGroupReferenceIdeal.nD Cert.PoolGroupReferenceIdeal.τ).loc Cert.PoolGroupReferenceIdeal.main_arg1) = m ((c.tc : Thread Cert.PoolGroupIdeal.nD Cert.PoolGroupIdeal.τ).loc Cert.PoolGroupIdeal.main_arg1)) →
    ∃ (v0 : (c : Dev Cert.PoolGroupIdeal.nD) → Buf (Elt Ideal) ((c.tc : Thread Cert.PoolGroupIdeal.nD Cert.PoolGroupIdeal.τ).loc Cert.PoolGroupIdeal.main_v2)),
      θ_run (Cert.PoolGroupIdeal.defs (F := Ideal)) (onTc (τ := Cert.PoolGroupIdeal.τ) (Cert.PoolGroupIdeal.main (F := Ideal))) ⟨m, fun _ => 0, g⟩ (fun r => ∀ c : Dev Cert.PoolGroupIdeal.nD,
          r.2.mem ((c.tc : Thread Cert.PoolGroupIdeal.nD Cert.PoolGroupIdeal.τ).loc Cert.PoolGroupIdeal.main_v2) = v0 c
          ∧ r.2.mem ((c.tc : Thread Cert.PoolGroupIdeal.nD Cert.PoolGroupIdeal.τ).loc Cert.PoolGroupIdeal.main_arg0) = m ((c.tc : Thread Cert.PoolGroupIdeal.nD Cert.PoolGroupIdeal.τ).loc Cert.PoolGroupIdeal.main_arg0)
          ∧ r.2.mem ((c.tc : Thread Cert.PoolGroupIdeal.nD Cert.PoolGroupIdeal.τ).loc Cert.PoolGroupIdeal.main_arg1) = m ((c.tc : Thread Cert.PoolGroupIdeal.nD Cert.PoolGroupIdeal.τ).loc Cert.PoolGroupIdeal.main_arg1))
      ∧ θ_run (Cert.PoolGroupReferenceIdeal.defs (F := Ideal)) (onTc (τ := Cert.PoolGroupReferenceIdeal.τ) (Cert.PoolGroupReferenceIdeal.main (F := Ideal))) ⟨m', fun _ => 0, g'⟩ (fun r => ∀ c : Dev Cert.PoolGroupReferenceIdeal.nD,
          r.2.mem ((c.tc : Thread Cert.PoolGroupReferenceIdeal.nD Cert.PoolGroupReferenceIdeal.τ).loc Cert.PoolGroupReferenceIdeal.main_v9) = v0 c
          ∧ r.2.mem ((c.tc : Thread Cert.PoolGroupReferenceIdeal.nD Cert.PoolGroupReferenceIdeal.τ).loc Cert.PoolGroupReferenceIdeal.main_arg0) = m' ((c.tc : Thread Cert.PoolGroupReferenceIdeal.nD Cert.PoolGroupReferenceIdeal.τ).loc Cert.PoolGroupReferenceIdeal.main_arg0)
          ∧ r.2.mem ((c.tc : Thread Cert.PoolGroupReferenceIdeal.nD Cert.PoolGroupReferenceIdeal.τ).loc Cert.PoolGroupReferenceIdeal.main_arg1) = m' ((c.tc : Thread Cert.PoolGroupReferenceIdeal.nD Cert.PoolGroupReferenceIdeal.τ).loc Cert.PoolGroupReferenceIdeal.main_arg1))

def preserves_PoolGroupWeight_PoolGroupWeightIdeal : Prop :=
  True

def algebraic_PoolGroupWeightIdeal_PoolGroupWeightReferenceIdeal [hPoolGroupWeightIdeal : Cert.PoolGroupWeightIdeal.Facts] [hPoolGroupWeightReferenceIdeal : Cert.PoolGroupWeightReferenceIdeal.Facts] : Prop :=
  ∀ (m : (ℓ : Loc Cert.PoolGroupWeightIdeal.nD Cert.PoolGroupWeightIdeal.τ Cert.PoolGroupWeightIdeal.sig) → Buf (Elt Ideal) ℓ) (g : Dev Cert.PoolGroupWeightIdeal.nD → PrngReg)
    (m' : (ℓ : Loc Cert.PoolGroupWeightReferenceIdeal.nD Cert.PoolGroupWeightReferenceIdeal.τ Cert.PoolGroupWeightReferenceIdeal.sig) → Buf (Elt Ideal) ℓ) (g' : Dev Cert.PoolGroupWeightReferenceIdeal.nD → PrngReg), Pre_PoolGroupWeightIdeal m →
    (∀ c : Dev Cert.PoolGroupWeightIdeal.nD,
      m' ((c.tc : Thread Cert.PoolGroupWeightReferenceIdeal.nD Cert.PoolGroupWeightReferenceIdeal.τ).loc Cert.PoolGroupWeightReferenceIdeal.main_arg0) = m ((c.tc : Thread Cert.PoolGroupWeightIdeal.nD Cert.PoolGroupWeightIdeal.τ).loc Cert.PoolGroupWeightIdeal.main_arg0)
      ∧ m' ((c.tc : Thread Cert.PoolGroupWeightReferenceIdeal.nD Cert.PoolGroupWeightReferenceIdeal.τ).loc Cert.PoolGroupWeightReferenceIdeal.main_arg1) = m ((c.tc : Thread Cert.PoolGroupWeightIdeal.nD Cert.PoolGroupWeightIdeal.τ).loc Cert.PoolGroupWeightIdeal.main_arg1)) →
    ∃ (v0 : (c : Dev Cert.PoolGroupWeightIdeal.nD) → Buf (Elt Ideal) ((c.tc : Thread Cert.PoolGroupWeightIdeal.nD Cert.PoolGroupWeightIdeal.τ).loc Cert.PoolGroupWeightIdeal.main_v2)),
      θ_run (Cert.PoolGroupWeightIdeal.defs (F := Ideal)) (onTc (τ := Cert.PoolGroupWeightIdeal.τ) (Cert.PoolGroupWeightIdeal.main (F := Ideal))) ⟨m, fun _ => 0, g⟩ (fun r => ∀ c : Dev Cert.PoolGroupWeightIdeal.nD,
          r.2.mem ((c.tc : Thread Cert.PoolGroupWeightIdeal.nD Cert.PoolGroupWeightIdeal.τ).loc Cert.PoolGroupWeightIdeal.main_v2) = v0 c
          ∧ r.2.mem ((c.tc : Thread Cert.PoolGroupWeightIdeal.nD Cert.PoolGroupWeightIdeal.τ).loc Cert.PoolGroupWeightIdeal.main_arg0) = m ((c.tc : Thread Cert.PoolGroupWeightIdeal.nD Cert.PoolGroupWeightIdeal.τ).loc Cert.PoolGroupWeightIdeal.main_arg0)
          ∧ r.2.mem ((c.tc : Thread Cert.PoolGroupWeightIdeal.nD Cert.PoolGroupWeightIdeal.τ).loc Cert.PoolGroupWeightIdeal.main_arg1) = m ((c.tc : Thread Cert.PoolGroupWeightIdeal.nD Cert.PoolGroupWeightIdeal.τ).loc Cert.PoolGroupWeightIdeal.main_arg1))
      ∧ θ_run (Cert.PoolGroupWeightReferenceIdeal.defs (F := Ideal)) (onTc (τ := Cert.PoolGroupWeightReferenceIdeal.τ) (Cert.PoolGroupWeightReferenceIdeal.main (F := Ideal))) ⟨m', fun _ => 0, g'⟩ (fun r => ∀ c : Dev Cert.PoolGroupWeightReferenceIdeal.nD,
          r.2.mem ((c.tc : Thread Cert.PoolGroupWeightReferenceIdeal.nD Cert.PoolGroupWeightReferenceIdeal.τ).loc Cert.PoolGroupWeightReferenceIdeal.main_v8) = v0 c
          ∧ r.2.mem ((c.tc : Thread Cert.PoolGroupWeightReferenceIdeal.nD Cert.PoolGroupWeightReferenceIdeal.τ).loc Cert.PoolGroupWeightReferenceIdeal.main_arg0) = m' ((c.tc : Thread Cert.PoolGroupWeightReferenceIdeal.nD Cert.PoolGroupWeightReferenceIdeal.τ).loc Cert.PoolGroupWeightReferenceIdeal.main_arg0)
          ∧ r.2.mem ((c.tc : Thread Cert.PoolGroupWeightReferenceIdeal.nD Cert.PoolGroupWeightReferenceIdeal.τ).loc Cert.PoolGroupWeightReferenceIdeal.main_arg1) = m' ((c.tc : Thread Cert.PoolGroupWeightReferenceIdeal.nD Cert.PoolGroupWeightReferenceIdeal.τ).loc Cert.PoolGroupWeightReferenceIdeal.main_arg1))

def preserves_Scale_ScaleIdeal : Prop :=
  True

def algebraic_ScaleIdeal_ScaleReferenceIdeal [hScaleIdeal : Cert.ScaleIdeal.Facts] [hScaleReferenceIdeal : Cert.ScaleReferenceIdeal.Facts] : Prop :=
  ∀ (m : (ℓ : Loc Cert.ScaleIdeal.nD Cert.ScaleIdeal.τ Cert.ScaleIdeal.sig) → Buf (Elt Ideal) ℓ) (g : Dev Cert.ScaleIdeal.nD → PrngReg)
    (m' : (ℓ : Loc Cert.ScaleReferenceIdeal.nD Cert.ScaleReferenceIdeal.τ Cert.ScaleReferenceIdeal.sig) → Buf (Elt Ideal) ℓ) (g' : Dev Cert.ScaleReferenceIdeal.nD → PrngReg), Pre_ScaleIdeal m →
    (∀ c : Dev Cert.ScaleIdeal.nD,
      m' ((c.tc : Thread Cert.ScaleReferenceIdeal.nD Cert.ScaleReferenceIdeal.τ).loc Cert.ScaleReferenceIdeal.main_arg0) = m ((c.tc : Thread Cert.ScaleIdeal.nD Cert.ScaleIdeal.τ).loc Cert.ScaleIdeal.main_arg0)
      ∧ m' ((c.tc : Thread Cert.ScaleReferenceIdeal.nD Cert.ScaleReferenceIdeal.τ).loc Cert.ScaleReferenceIdeal.main_arg1) = m ((c.tc : Thread Cert.ScaleIdeal.nD Cert.ScaleIdeal.τ).loc Cert.ScaleIdeal.main_arg1)
      ∧ m' ((c.tc : Thread Cert.ScaleReferenceIdeal.nD Cert.ScaleReferenceIdeal.τ).loc Cert.ScaleReferenceIdeal.main_arg2) = m ((c.tc : Thread Cert.ScaleIdeal.nD Cert.ScaleIdeal.τ).loc Cert.ScaleIdeal.main_arg2)) →
    ∃ (v0 : (c : Dev Cert.ScaleIdeal.nD) → Buf (Elt Ideal) ((c.tc : Thread Cert.ScaleIdeal.nD Cert.ScaleIdeal.τ).loc Cert.ScaleIdeal.main_v0_0)) (v1 : (c : Dev Cert.ScaleIdeal.nD) → Buf (Elt Ideal) ((c.tc : Thread Cert.ScaleIdeal.nD Cert.ScaleIdeal.τ).loc Cert.ScaleIdeal.main_v0_1)),
      θ_run (Cert.ScaleIdeal.defs (F := Ideal)) (onTc (τ := Cert.ScaleIdeal.τ) (Cert.ScaleIdeal.main (F := Ideal))) ⟨m, fun _ => 0, g⟩ (fun r => ∀ c : Dev Cert.ScaleIdeal.nD,
          r.2.mem ((c.tc : Thread Cert.ScaleIdeal.nD Cert.ScaleIdeal.τ).loc Cert.ScaleIdeal.main_v0_0) = v0 c
          ∧ r.2.mem ((c.tc : Thread Cert.ScaleIdeal.nD Cert.ScaleIdeal.τ).loc Cert.ScaleIdeal.main_v0_1) = v1 c
          ∧ r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
          ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1)
          ∧ r.2.mem ((c.tc : Thread Cert.ScaleIdeal.nD Cert.ScaleIdeal.τ).loc Cert.ScaleIdeal.main_arg2) = m ((c.tc : Thread Cert.ScaleIdeal.nD Cert.ScaleIdeal.τ).loc Cert.ScaleIdeal.main_arg2))
      ∧ θ_run (Cert.ScaleReferenceIdeal.defs (F := Ideal)) (onTc (τ := Cert.ScaleReferenceIdeal.τ) (Cert.ScaleReferenceIdeal.main (F := Ideal))) ⟨m', fun _ => 0, g'⟩ (fun r => ∀ c : Dev Cert.ScaleReferenceIdeal.nD,
          r.2.mem ((c.tc : Thread Cert.ScaleReferenceIdeal.nD Cert.ScaleReferenceIdeal.τ).loc Cert.ScaleReferenceIdeal.main_v10) = v0 c
          ∧ r.2.mem ((c.tc : Thread Cert.ScaleReferenceIdeal.nD Cert.ScaleReferenceIdeal.τ).loc Cert.ScaleReferenceIdeal.main_v11) = v1 c
          ∧ r.2.mem ((c.tc : Thread Cert.ScaleReferenceIdeal.nD Cert.ScaleReferenceIdeal.τ).loc Cert.ScaleReferenceIdeal.main_arg0) = m' ((c.tc : Thread Cert.ScaleReferenceIdeal.nD Cert.ScaleReferenceIdeal.τ).loc Cert.ScaleReferenceIdeal.main_arg0)
          ∧ r.2.mem ((c.tc : Thread Cert.ScaleReferenceIdeal.nD Cert.ScaleReferenceIdeal.τ).loc Cert.ScaleReferenceIdeal.main_arg1) = m' ((c.tc : Thread Cert.ScaleReferenceIdeal.nD Cert.ScaleReferenceIdeal.τ).loc Cert.ScaleReferenceIdeal.main_arg1)
          ∧ r.2.mem ((c.tc : Thread Cert.ScaleReferenceIdeal.nD Cert.ScaleReferenceIdeal.τ).loc Cert.ScaleReferenceIdeal.main_arg2) = m' ((c.tc : Thread Cert.ScaleReferenceIdeal.nD Cert.ScaleReferenceIdeal.τ).loc Cert.ScaleReferenceIdeal.main_arg2))

def preserves_NormIn_NormInIdeal : Prop :=
  True

def algebraic_NormInIdeal_NormInReferenceIdeal [hNormInIdeal : Cert.NormInIdeal.Facts] [hNormInReferenceIdeal : Cert.NormInReferenceIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)
      ∧ m' ((c.tc : Thread Cert.NormInReferenceIdeal.nD Cert.NormInReferenceIdeal.τ).loc Cert.NormInReferenceIdeal.main_arg2) = m ((c.tc : Thread Cert.NormInIdeal.nD Cert.NormInIdeal.τ).loc Cert.NormInIdeal.main_arg2)
      ∧ m' ((c.tc : Thread Cert.NormInReferenceIdeal.nD Cert.NormInReferenceIdeal.τ).loc Cert.NormInReferenceIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v37) = v0 c
          ∧ r.2.mem ((c.tc : Thread Cert.NormInReferenceIdeal.nD Cert.NormInReferenceIdeal.τ).loc Cert.NormInReferenceIdeal.main_v38) = v1 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2)
          ∧ r.2.mem ((c.tc : Thread Cert.NormInReferenceIdeal.nD Cert.NormInReferenceIdeal.τ).loc Cert.NormInReferenceIdeal.main_arg3) = m' ((c.tc : Thread Cert.NormInReferenceIdeal.nD Cert.NormInReferenceIdeal.τ).loc Cert.NormInReferenceIdeal.main_arg3))

def preserves_NormDown_NormDownIdeal : Prop :=
  True

def algebraic_NormDownIdeal_NormDownReferenceIdeal [hNormDownIdeal : Cert.NormDownIdeal.Facts] [hNormDownReferenceIdeal : Cert.NormDownReferenceIdeal.Facts] : Prop :=
  ∀ (m : (ℓ : Loc Cert.NormDownIdeal.nD Cert.NormDownIdeal.τ Cert.NormDownIdeal.sig) → Buf (Elt Ideal) ℓ) (g : Dev Cert.NormDownIdeal.nD → PrngReg)
    (m' : (ℓ : Loc Cert.NormDownReferenceIdeal.nD Cert.NormDownReferenceIdeal.τ Cert.NormDownReferenceIdeal.sig) → Buf (Elt Ideal) ℓ) (g' : Dev Cert.NormDownReferenceIdeal.nD → PrngReg), Pre_NormDownIdeal m →
    (∀ c : Dev Cert.NormDownIdeal.nD,
      m' ((c.tc : Thread Cert.NormDownReferenceIdeal.nD Cert.NormDownReferenceIdeal.τ).loc Cert.NormDownReferenceIdeal.main_arg0) = m ((c.tc : Thread Cert.NormDownIdeal.nD Cert.NormDownIdeal.τ).loc Cert.NormDownIdeal.main_arg0)
      ∧ m' ((c.tc : Thread Cert.NormDownReferenceIdeal.nD Cert.NormDownReferenceIdeal.τ).loc Cert.NormDownReferenceIdeal.main_arg1) = m ((c.tc : Thread Cert.NormDownIdeal.nD Cert.NormDownIdeal.τ).loc Cert.NormDownIdeal.main_arg1)
      ∧ m' ((c.tc : Thread Cert.NormDownReferenceIdeal.nD Cert.NormDownReferenceIdeal.τ).loc Cert.NormDownReferenceIdeal.main_arg2) = m ((c.tc : Thread Cert.NormDownIdeal.nD Cert.NormDownIdeal.τ).loc Cert.NormDownIdeal.main_arg2)
      ∧ m' ((c.tc : Thread Cert.NormDownReferenceIdeal.nD Cert.NormDownReferenceIdeal.τ).loc Cert.NormDownReferenceIdeal.main_arg3) = m ((c.tc : Thread Cert.NormDownIdeal.nD Cert.NormDownIdeal.τ).loc Cert.NormDownIdeal.main_arg3)) →
    ∃ (v0 : (c : Dev Cert.NormDownIdeal.nD) → Buf (Elt Ideal) ((c.tc : Thread Cert.NormDownIdeal.nD Cert.NormDownIdeal.τ).loc Cert.NormDownIdeal.main_v0_0)) (v1 : (c : Dev Cert.NormDownIdeal.nD) → Buf (Elt Ideal) ((c.tc : Thread Cert.NormDownIdeal.nD Cert.NormDownIdeal.τ).loc Cert.NormDownIdeal.main_v0_1)) (v2 : (c : Dev Cert.NormDownIdeal.nD) → Buf (Elt Ideal) ((c.tc : Thread Cert.NormDownIdeal.nD Cert.NormDownIdeal.τ).loc Cert.NormDownIdeal.main_v0_2)),
      θ_run (Cert.NormDownIdeal.defs (F := Ideal)) (onTc (τ := Cert.NormDownIdeal.τ) (Cert.NormDownIdeal.main (F := Ideal))) ⟨m, fun _ => 0, g⟩ (fun r => ∀ c : Dev Cert.NormDownIdeal.nD,
          r.2.mem ((c.tc : Thread Cert.NormDownIdeal.nD Cert.NormDownIdeal.τ).loc Cert.NormDownIdeal.main_v0_0) = v0 c
          ∧ r.2.mem ((c.tc : Thread Cert.NormDownIdeal.nD Cert.NormDownIdeal.τ).loc Cert.NormDownIdeal.main_v0_1) = v1 c
          ∧ r.2.mem ((c.tc : Thread Cert.NormDownIdeal.nD Cert.NormDownIdeal.τ).loc Cert.NormDownIdeal.main_v0_2) = v2 c
          ∧ r.2.mem ((c.tc : Thread Cert.NormDownIdeal.nD Cert.NormDownIdeal.τ).loc Cert.NormDownIdeal.main_arg0) = m ((c.tc : Thread Cert.NormDownIdeal.nD Cert.NormDownIdeal.τ).loc Cert.NormDownIdeal.main_arg0)
          ∧ r.2.mem ((c.tc : Thread Cert.NormDownIdeal.nD Cert.NormDownIdeal.τ).loc Cert.NormDownIdeal.main_arg1) = m ((c.tc : Thread Cert.NormDownIdeal.nD Cert.NormDownIdeal.τ).loc Cert.NormDownIdeal.main_arg1)
          ∧ r.2.mem ((c.tc : Thread Cert.NormDownIdeal.nD Cert.NormDownIdeal.τ).loc Cert.NormDownIdeal.main_arg2) = m ((c.tc : Thread Cert.NormDownIdeal.nD Cert.NormDownIdeal.τ).loc Cert.NormDownIdeal.main_arg2)
          ∧ r.2.mem ((c.tc : Thread Cert.NormDownIdeal.nD Cert.NormDownIdeal.τ).loc Cert.NormDownIdeal.main_arg3) = m ((c.tc : Thread Cert.NormDownIdeal.nD Cert.NormDownIdeal.τ).loc Cert.NormDownIdeal.main_arg3))
      ∧ θ_run (Cert.NormDownReferenceIdeal.defs (F := Ideal)) (onTc (τ := Cert.NormDownReferenceIdeal.τ) (Cert.NormDownReferenceIdeal.main (F := Ideal))) ⟨m', fun _ => 0, g'⟩ (fun r => ∀ c : Dev Cert.NormDownReferenceIdeal.nD,
          r.2.mem ((c.tc : Thread Cert.NormDownReferenceIdeal.nD Cert.NormDownReferenceIdeal.τ).loc Cert.NormDownReferenceIdeal.main_v0) = v0 c
          ∧ r.2.mem ((c.tc : Thread Cert.NormDownReferenceIdeal.nD Cert.NormDownReferenceIdeal.τ).loc Cert.NormDownReferenceIdeal.main_v38) = v1 c
          ∧ r.2.mem ((c.tc : Thread Cert.NormDownReferenceIdeal.nD Cert.NormDownReferenceIdeal.τ).loc Cert.NormDownReferenceIdeal.main_v39) = v2 c
          ∧ r.2.mem ((c.tc : Thread Cert.NormDownReferenceIdeal.nD Cert.NormDownReferenceIdeal.τ).loc Cert.NormDownReferenceIdeal.main_arg0) = m' ((c.tc : Thread Cert.NormDownReferenceIdeal.nD Cert.NormDownReferenceIdeal.τ).loc Cert.NormDownReferenceIdeal.main_arg0)
          ∧ r.2.mem ((c.tc : Thread Cert.NormDownReferenceIdeal.nD Cert.NormDownReferenceIdeal.τ).loc Cert.NormDownReferenceIdeal.main_arg1) = m' ((c.tc : Thread Cert.NormDownReferenceIdeal.nD Cert.NormDownReferenceIdeal.τ).loc Cert.NormDownReferenceIdeal.main_arg1)
          ∧ r.2.mem ((c.tc : Thread Cert.NormDownReferenceIdeal.nD Cert.NormDownReferenceIdeal.τ).loc Cert.NormDownReferenceIdeal.main_arg2) = m' ((c.tc : Thread Cert.NormDownReferenceIdeal.nD Cert.NormDownReferenceIdeal.τ).loc Cert.NormDownReferenceIdeal.main_arg2)
          ∧ r.2.mem ((c.tc : Thread Cert.NormDownReferenceIdeal.nD Cert.NormDownReferenceIdeal.τ).loc Cert.NormDownReferenceIdeal.main_arg3) = m' ((c.tc : Thread Cert.NormDownReferenceIdeal.nD Cert.NormDownReferenceIdeal.τ).loc Cert.NormDownReferenceIdeal.main_arg3))

def preserves_NormMid_NormMidIdeal : Prop :=
  True

def algebraic_NormMidIdeal_NormMidReferenceIdeal [hNormMidIdeal : Cert.NormMidIdeal.Facts] [hNormMidReferenceIdeal : Cert.NormMidReferenceIdeal.Facts] : Prop :=
  ∀ (m : (ℓ : Loc Cert.NormMidIdeal.nD Cert.NormMidIdeal.τ Cert.NormMidIdeal.sig) → Buf (Elt Ideal) ℓ) (g : Dev Cert.NormMidIdeal.nD → PrngReg)
    (m' : (ℓ : Loc Cert.NormMidReferenceIdeal.nD Cert.NormMidReferenceIdeal.τ Cert.NormMidReferenceIdeal.sig) → Buf (Elt Ideal) ℓ) (g' : Dev Cert.NormMidReferenceIdeal.nD → PrngReg), Pre_NormMidIdeal m →
    (∀ c : Dev Cert.NormMidIdeal.nD,
      m' ((c.tc : Thread Cert.NormMidReferenceIdeal.nD Cert.NormMidReferenceIdeal.τ).loc Cert.NormMidReferenceIdeal.main_arg0) = m ((c.tc : Thread Cert.NormMidIdeal.nD Cert.NormMidIdeal.τ).loc Cert.NormMidIdeal.main_arg0)
      ∧ m' ((c.tc : Thread Cert.NormMidReferenceIdeal.nD Cert.NormMidReferenceIdeal.τ).loc Cert.NormMidReferenceIdeal.main_arg1) = m ((c.tc : Thread Cert.NormMidIdeal.nD Cert.NormMidIdeal.τ).loc Cert.NormMidIdeal.main_arg1)
      ∧ m' ((c.tc : Thread Cert.NormMidReferenceIdeal.nD Cert.NormMidReferenceIdeal.τ).loc Cert.NormMidReferenceIdeal.main_arg2) = m ((c.tc : Thread Cert.NormMidIdeal.nD Cert.NormMidIdeal.τ).loc Cert.NormMidIdeal.main_arg2)
      ∧ m' ((c.tc : Thread Cert.NormMidReferenceIdeal.nD Cert.NormMidReferenceIdeal.τ).loc Cert.NormMidReferenceIdeal.main_arg3) = m ((c.tc : Thread Cert.NormMidIdeal.nD Cert.NormMidIdeal.τ).loc Cert.NormMidIdeal.main_arg3)
      ∧ m' ((c.tc : Thread Cert.NormMidReferenceIdeal.nD Cert.NormMidReferenceIdeal.τ).loc Cert.NormMidReferenceIdeal.main_arg4) = m ((c.tc : Thread Cert.NormMidIdeal.nD Cert.NormMidIdeal.τ).loc Cert.NormMidIdeal.main_arg4)
      ∧ m' ((c.tc : Thread Cert.NormMidReferenceIdeal.nD Cert.NormMidReferenceIdeal.τ).loc Cert.NormMidReferenceIdeal.main_arg5) = m ((c.tc : Thread Cert.NormMidIdeal.nD Cert.NormMidIdeal.τ).loc Cert.NormMidIdeal.main_arg5)) →
    ∃ (v0 : (c : Dev Cert.NormMidIdeal.nD) → Buf (Elt Ideal) ((c.tc : Thread Cert.NormMidIdeal.nD Cert.NormMidIdeal.τ).loc Cert.NormMidIdeal.main_v0_0)) (v1 : (c : Dev Cert.NormMidIdeal.nD) → Buf (Elt Ideal) ((c.tc : Thread Cert.NormMidIdeal.nD Cert.NormMidIdeal.τ).loc Cert.NormMidIdeal.main_v0_1)) (v2 : (c : Dev Cert.NormMidIdeal.nD) → Buf (Elt Ideal) ((c.tc : Thread Cert.NormMidIdeal.nD Cert.NormMidIdeal.τ).loc Cert.NormMidIdeal.main_v0_2)) (v3 : (c : Dev Cert.NormMidIdeal.nD) → Buf (Elt Ideal) ((c.tc : Thread Cert.NormMidIdeal.nD Cert.NormMidIdeal.τ).loc Cert.NormMidIdeal.main_v0_3)),
      θ_run (Cert.NormMidIdeal.defs (F := Ideal)) (onTc (τ := Cert.NormMidIdeal.τ) (Cert.NormMidIdeal.main (F := Ideal))) ⟨m, fun _ => 0, g⟩ (fun r => ∀ c : Dev Cert.NormMidIdeal.nD,
          r.2.mem ((c.tc : Thread Cert.NormMidIdeal.nD Cert.NormMidIdeal.τ).loc Cert.NormMidIdeal.main_v0_0) = v0 c
          ∧ r.2.mem ((c.tc : Thread Cert.NormMidIdeal.nD Cert.NormMidIdeal.τ).loc Cert.NormMidIdeal.main_v0_1) = v1 c
          ∧ r.2.mem ((c.tc : Thread Cert.NormMidIdeal.nD Cert.NormMidIdeal.τ).loc Cert.NormMidIdeal.main_v0_2) = v2 c
          ∧ r.2.mem ((c.tc : Thread Cert.NormMidIdeal.nD Cert.NormMidIdeal.τ).loc Cert.NormMidIdeal.main_v0_3) = v3 c
          ∧ r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
          ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
          ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
          ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3)
          ∧ r.2.mem ((c.tc : Thread Cert.NormMidIdeal.nD Cert.NormMidIdeal.τ).loc Cert.NormMidIdeal.main_arg4) = m ((c.tc : Thread Cert.NormMidIdeal.nD Cert.NormMidIdeal.τ).loc Cert.NormMidIdeal.main_arg4)
          ∧ r.2.mem ((c.tc : Thread Cert.NormMidIdeal.nD Cert.NormMidIdeal.τ).loc Cert.NormMidIdeal.main_arg5) = m ((c.tc : Thread Cert.NormMidIdeal.nD Cert.NormMidIdeal.τ).loc Cert.NormMidIdeal.main_arg5))
      ∧ θ_run (Cert.NormMidReferenceIdeal.defs (F := Ideal)) (onTc (τ := Cert.NormMidReferenceIdeal.τ) (Cert.NormMidReferenceIdeal.main (F := Ideal))) ⟨m', fun _ => 0, g'⟩ (fun r => ∀ c : Dev Cert.NormMidReferenceIdeal.nD,
          r.2.mem ((c.tc : Thread Cert.NormMidReferenceIdeal.nD Cert.NormMidReferenceIdeal.τ).loc Cert.NormMidReferenceIdeal.main_v37) = v0 c
          ∧ r.2.mem ((c.tc : Thread Cert.NormMidReferenceIdeal.nD Cert.NormMidReferenceIdeal.τ).loc Cert.NormMidReferenceIdeal.main_v75) = v1 c
          ∧ r.2.mem ((c.tc : Thread Cert.NormMidReferenceIdeal.nD Cert.NormMidReferenceIdeal.τ).loc Cert.NormMidReferenceIdeal.main_v76) = v2 c
          ∧ r.2.mem ((c.tc : Thread Cert.NormMidReferenceIdeal.nD Cert.NormMidReferenceIdeal.τ).loc Cert.NormMidReferenceIdeal.main_v77) = v3 c
          ∧ r.2.mem ((c.tc : Thread Cert.NormMidReferenceIdeal.nD Cert.NormMidReferenceIdeal.τ).loc Cert.NormMidReferenceIdeal.main_arg0) = m' ((c.tc : Thread Cert.NormMidReferenceIdeal.nD Cert.NormMidReferenceIdeal.τ).loc Cert.NormMidReferenceIdeal.main_arg0)
          ∧ r.2.mem ((c.tc : Thread Cert.NormMidReferenceIdeal.nD Cert.NormMidReferenceIdeal.τ).loc Cert.NormMidReferenceIdeal.main_arg1) = m' ((c.tc : Thread Cert.NormMidReferenceIdeal.nD Cert.NormMidReferenceIdeal.τ).loc Cert.NormMidReferenceIdeal.main_arg1)
          ∧ r.2.mem ((c.tc : Thread Cert.NormMidReferenceIdeal.nD Cert.NormMidReferenceIdeal.τ).loc Cert.NormMidReferenceIdeal.main_arg2) = m' ((c.tc : Thread Cert.NormMidReferenceIdeal.nD Cert.NormMidReferenceIdeal.τ).loc Cert.NormMidReferenceIdeal.main_arg2)
          ∧ r.2.mem ((c.tc : Thread Cert.NormMidReferenceIdeal.nD Cert.NormMidReferenceIdeal.τ).loc Cert.NormMidReferenceIdeal.main_arg3) = m' ((c.tc : Thread Cert.NormMidReferenceIdeal.nD Cert.NormMidReferenceIdeal.τ).loc Cert.NormMidReferenceIdeal.main_arg3)
          ∧ r.2.mem ((c.tc : Thread Cert.NormMidReferenceIdeal.nD Cert.NormMidReferenceIdeal.τ).loc Cert.NormMidReferenceIdeal.main_arg4) = m' ((c.tc : Thread Cert.NormMidReferenceIdeal.nD Cert.NormMidReferenceIdeal.τ).loc Cert.NormMidReferenceIdeal.main_arg4)
          ∧ r.2.mem ((c.tc : Thread Cert.NormMidReferenceIdeal.nD Cert.NormMidReferenceIdeal.τ).loc Cert.NormMidReferenceIdeal.main_arg5) = m' ((c.tc : Thread Cert.NormMidReferenceIdeal.nD Cert.NormMidReferenceIdeal.τ).loc Cert.NormMidReferenceIdeal.main_arg5))

def preserves_GateMix_GateMixIdeal : Prop :=
  True

def algebraic_GateMixIdeal_GateMixReferenceIdeal [hGateMixIdeal : Cert.GateMixIdeal.Facts] [hGateMixReferenceIdeal : Cert.GateMixReferenceIdeal.Facts] : Prop :=
  ∀ (m : (ℓ : Loc Cert.GateMixIdeal.nD Cert.GateMixIdeal.τ Cert.GateMixIdeal.sig) → Buf (Elt Ideal) ℓ) (g : Dev Cert.GateMixIdeal.nD → PrngReg)
    (m' : (ℓ : Loc Cert.GateMixReferenceIdeal.nD Cert.GateMixReferenceIdeal.τ Cert.GateMixReferenceIdeal.sig) → Buf (Elt Ideal) ℓ) (g' : Dev Cert.GateMixReferenceIdeal.nD → PrngReg), Pre_GateMixIdeal m →
    (∀ c : Dev Cert.GateMixIdeal.nD,
      m' ((c.tc : Thread Cert.GateMixReferenceIdeal.nD Cert.GateMixReferenceIdeal.τ).loc Cert.GateMixReferenceIdeal.main_arg0) = m ((c.tc : Thread Cert.GateMixIdeal.nD Cert.GateMixIdeal.τ).loc Cert.GateMixIdeal.main_arg0)
      ∧ m' ((c.tc : Thread Cert.GateMixReferenceIdeal.nD Cert.GateMixReferenceIdeal.τ).loc Cert.GateMixReferenceIdeal.main_arg1) = m ((c.tc : Thread Cert.GateMixIdeal.nD Cert.GateMixIdeal.τ).loc Cert.GateMixIdeal.main_arg1)
      ∧ m' ((c.tc : Thread Cert.GateMixReferenceIdeal.nD Cert.GateMixReferenceIdeal.τ).loc Cert.GateMixReferenceIdeal.main_arg2) = m ((c.tc : Thread Cert.GateMixIdeal.nD Cert.GateMixIdeal.τ).loc Cert.GateMixIdeal.main_arg2)) →
    ∃ (v0 : (c : Dev Cert.GateMixIdeal.nD) → Buf (Elt Ideal) ((c.tc : Thread Cert.GateMixIdeal.nD Cert.GateMixIdeal.τ).loc Cert.GateMixIdeal.main_v0)),
      θ_run (Cert.GateMixIdeal.defs (F := Ideal)) (onTc (τ := Cert.GateMixIdeal.τ) (Cert.GateMixIdeal.main (F := Ideal))) ⟨m, fun _ => 0, g⟩ (fun r => ∀ c : Dev Cert.GateMixIdeal.nD,
          r.2.mem ((c.tc : Thread Cert.GateMixIdeal.nD Cert.GateMixIdeal.τ).loc Cert.GateMixIdeal.main_v0) = v0 c
          ∧ r.2.mem ((c.tc : Thread Cert.GateMixIdeal.nD Cert.GateMixIdeal.τ).loc Cert.GateMixIdeal.main_arg0) = m ((c.tc : Thread Cert.GateMixIdeal.nD Cert.GateMixIdeal.τ).loc Cert.GateMixIdeal.main_arg0)
          ∧ r.2.mem ((c.tc : Thread Cert.GateMixIdeal.nD Cert.GateMixIdeal.τ).loc Cert.GateMixIdeal.main_arg1) = m ((c.tc : Thread Cert.GateMixIdeal.nD Cert.GateMixIdeal.τ).loc Cert.GateMixIdeal.main_arg1)
          ∧ r.2.mem ((c.tc : Thread Cert.GateMixIdeal.nD Cert.GateMixIdeal.τ).loc Cert.GateMixIdeal.main_arg2) = m ((c.tc : Thread Cert.GateMixIdeal.nD Cert.GateMixIdeal.τ).loc Cert.GateMixIdeal.main_arg2))
      ∧ θ_run (Cert.GateMixReferenceIdeal.defs (F := Ideal)) (onTc (τ := Cert.GateMixReferenceIdeal.τ) (Cert.GateMixReferenceIdeal.main (F := Ideal))) ⟨m', fun _ => 0, g'⟩ (fun r => ∀ c : Dev Cert.GateMixReferenceIdeal.nD,
          r.2.mem ((c.tc : Thread Cert.GateMixReferenceIdeal.nD Cert.GateMixReferenceIdeal.τ).loc Cert.GateMixReferenceIdeal.main_v17) = v0 c
          ∧ r.2.mem ((c.tc : Thread Cert.GateMixReferenceIdeal.nD Cert.GateMixReferenceIdeal.τ).loc Cert.GateMixReferenceIdeal.main_arg0) = m' ((c.tc : Thread Cert.GateMixReferenceIdeal.nD Cert.GateMixReferenceIdeal.τ).loc Cert.GateMixReferenceIdeal.main_arg0)
          ∧ r.2.mem ((c.tc : Thread Cert.GateMixReferenceIdeal.nD Cert.GateMixReferenceIdeal.τ).loc Cert.GateMixReferenceIdeal.main_arg1) = m' ((c.tc : Thread Cert.GateMixReferenceIdeal.nD Cert.GateMixReferenceIdeal.τ).loc Cert.GateMixReferenceIdeal.main_arg1)
          ∧ r.2.mem ((c.tc : Thread Cert.GateMixReferenceIdeal.nD Cert.GateMixReferenceIdeal.τ).loc Cert.GateMixReferenceIdeal.main_arg2) = m' ((c.tc : Thread Cert.GateMixReferenceIdeal.nD Cert.GateMixReferenceIdeal.τ).loc Cert.GateMixReferenceIdeal.main_arg2))

def preserves_PoolGroupForward_PoolGroupForwardIdeal : Prop :=
  True

def algebraic_PoolGroupForwardIdeal_PoolGroupForwardReferenceIdeal [hPoolGroupForwardIdeal : Cert.PoolGroupForwardIdeal.Facts] [hPoolGroupForwardReferenceIdeal : Cert.PoolGroupForwardReferenceIdeal.Facts] : Prop :=
  ∀ (m : (ℓ : Loc Cert.PoolGroupForwardIdeal.nD Cert.PoolGroupForwardIdeal.τ Cert.PoolGroupForwardIdeal.sig) → Buf (Elt Ideal) ℓ) (g : Dev Cert.PoolGroupForwardIdeal.nD → PrngReg)
    (m' : (ℓ : Loc Cert.PoolGroupForwardReferenceIdeal.nD Cert.PoolGroupForwardReferenceIdeal.τ Cert.PoolGroupForwardReferenceIdeal.sig) → Buf (Elt Ideal) ℓ) (g' : Dev Cert.PoolGroupForwardReferenceIdeal.nD → PrngReg), Pre_PoolGroupForwardIdeal m →
    (∀ c : Dev Cert.PoolGroupForwardIdeal.nD,
      m' ((c.tc : Thread Cert.PoolGroupForwardReferenceIdeal.nD Cert.PoolGroupForwardReferenceIdeal.τ).loc Cert.PoolGroupForwardReferenceIdeal.main_arg0) = m ((c.tc : Thread Cert.PoolGroupForwardIdeal.nD Cert.PoolGroupForwardIdeal.τ).loc Cert.PoolGroupForwardIdeal.main_arg0)
      ∧ m' ((c.tc : Thread Cert.PoolGroupForwardReferenceIdeal.nD Cert.PoolGroupForwardReferenceIdeal.τ).loc Cert.PoolGroupForwardReferenceIdeal.main_arg1) = m ((c.tc : Thread Cert.PoolGroupForwardIdeal.nD Cert.PoolGroupForwardIdeal.τ).loc Cert.PoolGroupForwardIdeal.main_arg1)
      ∧ m' ((c.tc : Thread Cert.PoolGroupForwardReferenceIdeal.nD Cert.PoolGroupForwardReferenceIdeal.τ).loc Cert.PoolGroupForwardReferenceIdeal.main_arg2) = m ((c.tc : Thread Cert.PoolGroupForwardIdeal.nD Cert.PoolGroupForwardIdeal.τ).loc Cert.PoolGroupForwardIdeal.main_arg2)) →
    ∃ (v0 : (c : Dev Cert.PoolGroupForwardIdeal.nD) → Buf (Elt Ideal) ((c.tc : Thread Cert.PoolGroupForwardIdeal.nD Cert.PoolGroupForwardIdeal.τ).loc Cert.PoolGroupForwardIdeal.main_v2_0)) (v1 : (c : Dev Cert.PoolGroupForwardIdeal.nD) → Buf (Elt Ideal) ((c.tc : Thread Cert.PoolGroupForwardIdeal.nD Cert.PoolGroupForwardIdeal.τ).loc Cert.PoolGroupForwardIdeal.main_v2_1)),
      θ_run (Cert.PoolGroupForwardIdeal.defs (F := Ideal)) (onTc (τ := Cert.PoolGroupForwardIdeal.τ) (Cert.PoolGroupForwardIdeal.main (F := Ideal))) ⟨m, fun _ => 0, g⟩ (fun r => ∀ c : Dev Cert.PoolGroupForwardIdeal.nD,
          r.2.mem ((c.tc : Thread Cert.PoolGroupForwardIdeal.nD Cert.PoolGroupForwardIdeal.τ).loc Cert.PoolGroupForwardIdeal.main_v2_0) = v0 c
          ∧ r.2.mem ((c.tc : Thread Cert.PoolGroupForwardIdeal.nD Cert.PoolGroupForwardIdeal.τ).loc Cert.PoolGroupForwardIdeal.main_v2_1) = v1 c
          ∧ r.2.mem ((c.tc : Thread Cert.PoolGroupForwardIdeal.nD Cert.PoolGroupForwardIdeal.τ).loc Cert.PoolGroupForwardIdeal.main_arg0) = m ((c.tc : Thread Cert.PoolGroupForwardIdeal.nD Cert.PoolGroupForwardIdeal.τ).loc Cert.PoolGroupForwardIdeal.main_arg0)
          ∧ r.2.mem ((c.tc : Thread Cert.PoolGroupForwardIdeal.nD Cert.PoolGroupForwardIdeal.τ).loc Cert.PoolGroupForwardIdeal.main_arg1) = m ((c.tc : Thread Cert.PoolGroupForwardIdeal.nD Cert.PoolGroupForwardIdeal.τ).loc Cert.PoolGroupForwardIdeal.main_arg1)
          ∧ r.2.mem ((c.tc : Thread Cert.PoolGroupForwardIdeal.nD Cert.PoolGroupForwardIdeal.τ).loc Cert.PoolGroupForwardIdeal.main_arg2) = m ((c.tc : Thread Cert.PoolGroupForwardIdeal.nD Cert.PoolGroupForwardIdeal.τ).loc Cert.PoolGroupForwardIdeal.main_arg2))
      ∧ θ_run (Cert.PoolGroupForwardReferenceIdeal.defs (F := Ideal)) (onTc (τ := Cert.PoolGroupForwardReferenceIdeal.τ) (Cert.PoolGroupForwardReferenceIdeal.main (F := Ideal))) ⟨m', fun _ => 0, g'⟩ (fun r => ∀ c : Dev Cert.PoolGroupForwardReferenceIdeal.nD,
          r.2.mem ((c.tc : Thread Cert.PoolGroupForwardReferenceIdeal.nD Cert.PoolGroupForwardReferenceIdeal.τ).loc Cert.PoolGroupForwardReferenceIdeal.main_v3) = v0 c
          ∧ r.2.mem ((c.tc : Thread Cert.PoolGroupForwardReferenceIdeal.nD Cert.PoolGroupForwardReferenceIdeal.τ).loc Cert.PoolGroupForwardReferenceIdeal.main_v8) = v1 c
          ∧ r.2.mem ((c.tc : Thread Cert.PoolGroupForwardReferenceIdeal.nD Cert.PoolGroupForwardReferenceIdeal.τ).loc Cert.PoolGroupForwardReferenceIdeal.main_arg0) = m' ((c.tc : Thread Cert.PoolGroupForwardReferenceIdeal.nD Cert.PoolGroupForwardReferenceIdeal.τ).loc Cert.PoolGroupForwardReferenceIdeal.main_arg0)
          ∧ r.2.mem ((c.tc : Thread Cert.PoolGroupForwardReferenceIdeal.nD Cert.PoolGroupForwardReferenceIdeal.τ).loc Cert.PoolGroupForwardReferenceIdeal.main_arg1) = m' ((c.tc : Thread Cert.PoolGroupForwardReferenceIdeal.nD Cert.PoolGroupForwardReferenceIdeal.τ).loc Cert.PoolGroupForwardReferenceIdeal.main_arg1)
          ∧ r.2.mem ((c.tc : Thread Cert.PoolGroupForwardReferenceIdeal.nD Cert.PoolGroupForwardReferenceIdeal.τ).loc Cert.PoolGroupForwardReferenceIdeal.main_arg2) = m' ((c.tc : Thread Cert.PoolGroupForwardReferenceIdeal.nD Cert.PoolGroupForwardReferenceIdeal.τ).loc Cert.PoolGroupForwardReferenceIdeal.main_arg2))

def preserves_NormInForward_NormInForwardIdeal : Prop :=
  True

def algebraic_NormInForwardIdeal_NormInForwardReferenceIdeal [hNormInForwardIdeal : Cert.NormInForwardIdeal.Facts] [hNormInForwardReferenceIdeal : Cert.NormInForwardReferenceIdeal.Facts] : Prop :=
  ∀ (m : (ℓ : Loc Cert.NormInForwardIdeal.nD Cert.NormInForwardIdeal.τ Cert.NormInForwardIdeal.sig) → Buf (Elt Ideal) ℓ) (g : Dev Cert.NormInForwardIdeal.nD → PrngReg)
    (m' : (ℓ : Loc Cert.NormInForwardReferenceIdeal.nD Cert.NormInForwardReferenceIdeal.τ Cert.NormInForwardReferenceIdeal.sig) → Buf (Elt Ideal) ℓ) (g' : Dev Cert.NormInForwardReferenceIdeal.nD → PrngReg), Pre_NormInForwardIdeal m →
    (∀ c : Dev Cert.NormInForwardIdeal.nD,
      m' ((c.tc : Thread Cert.NormInForwardReferenceIdeal.nD Cert.NormInForwardReferenceIdeal.τ).loc Cert.NormInForwardReferenceIdeal.main_arg0) = m ((c.tc : Thread Cert.NormInForwardIdeal.nD Cert.NormInForwardIdeal.τ).loc Cert.NormInForwardIdeal.main_arg0)
      ∧ m' ((c.tc : Thread Cert.NormInForwardReferenceIdeal.nD Cert.NormInForwardReferenceIdeal.τ).loc Cert.NormInForwardReferenceIdeal.main_arg1) = m ((c.tc : Thread Cert.NormInForwardIdeal.nD Cert.NormInForwardIdeal.τ).loc Cert.NormInForwardIdeal.main_arg1)) →
    ∃ (v0 : (c : Dev Cert.NormInForwardIdeal.nD) → Buf (Elt Ideal) ((c.tc : Thread Cert.NormInForwardIdeal.nD Cert.NormInForwardIdeal.τ).loc Cert.NormInForwardIdeal.main_v0)),
      θ_run (Cert.NormInForwardIdeal.defs (F := Ideal)) (onTc (τ := Cert.NormInForwardIdeal.τ) (Cert.NormInForwardIdeal.main (F := Ideal))) ⟨m, fun _ => 0, g⟩ (fun r => ∀ c : Dev Cert.NormInForwardIdeal.nD,
          r.2.mem ((c.tc : Thread Cert.NormInForwardIdeal.nD Cert.NormInForwardIdeal.τ).loc Cert.NormInForwardIdeal.main_v0) = v0 c
          ∧ r.2.mem ((c.tc : Thread Cert.NormInForwardIdeal.nD Cert.NormInForwardIdeal.τ).loc Cert.NormInForwardIdeal.main_arg0) = m ((c.tc : Thread Cert.NormInForwardIdeal.nD Cert.NormInForwardIdeal.τ).loc Cert.NormInForwardIdeal.main_arg0)
          ∧ r.2.mem ((c.tc : Thread Cert.NormInForwardIdeal.nD Cert.NormInForwardIdeal.τ).loc Cert.NormInForwardIdeal.main_arg1) = m ((c.tc : Thread Cert.NormInForwardIdeal.nD Cert.NormInForwardIdeal.τ).loc Cert.NormInForwardIdeal.main_arg1))
      ∧ θ_run (Cert.NormInForwardReferenceIdeal.defs (F := Ideal)) (onTc (τ := Cert.NormInForwardReferenceIdeal.τ) (Cert.NormInForwardReferenceIdeal.main (F := Ideal))) ⟨m', fun _ => 0, g'⟩ (fun r => ∀ c : Dev Cert.NormInForwardReferenceIdeal.nD,
          r.2.mem ((c.tc : Thread Cert.NormInForwardReferenceIdeal.nD Cert.NormInForwardReferenceIdeal.τ).loc Cert.NormInForwardReferenceIdeal.main_v14) = v0 c
          ∧ r.2.mem ((c.tc : Thread Cert.NormInForwardReferenceIdeal.nD Cert.NormInForwardReferenceIdeal.τ).loc Cert.NormInForwardReferenceIdeal.main_arg0) = m' ((c.tc : Thread Cert.NormInForwardReferenceIdeal.nD Cert.NormInForwardReferenceIdeal.τ).loc Cert.NormInForwardReferenceIdeal.main_arg0)
          ∧ r.2.mem ((c.tc : Thread Cert.NormInForwardReferenceIdeal.nD Cert.NormInForwardReferenceIdeal.τ).loc Cert.NormInForwardReferenceIdeal.main_arg1) = m' ((c.tc : Thread Cert.NormInForwardReferenceIdeal.nD Cert.NormInForwardReferenceIdeal.τ).loc Cert.NormInForwardReferenceIdeal.main_arg1))

def preserves_NormMidForward_NormMidForwardIdeal : Prop :=
  True

def algebraic_NormMidForwardIdeal_NormMidForwardReferenceIdeal [hNormMidForwardIdeal : Cert.NormMidForwardIdeal.Facts] [hNormMidForwardReferenceIdeal : Cert.NormMidForwardReferenceIdeal.Facts] : Prop :=
  ∀ (m : (ℓ : Loc Cert.NormMidForwardIdeal.nD Cert.NormMidForwardIdeal.τ Cert.NormMidForwardIdeal.sig) → Buf (Elt Ideal) ℓ) (g : Dev Cert.NormMidForwardIdeal.nD → PrngReg)
    (m' : (ℓ : Loc Cert.NormMidForwardReferenceIdeal.nD Cert.NormMidForwardReferenceIdeal.τ Cert.NormMidForwardReferenceIdeal.sig) → Buf (Elt Ideal) ℓ) (g' : Dev Cert.NormMidForwardReferenceIdeal.nD → PrngReg), Pre_NormMidForwardIdeal m →
    (∀ c : Dev Cert.NormMidForwardIdeal.nD,
      m' ((c.tc : Thread Cert.NormMidForwardReferenceIdeal.nD Cert.NormMidForwardReferenceIdeal.τ).loc Cert.NormMidForwardReferenceIdeal.main_arg0) = m ((c.tc : Thread Cert.NormMidForwardIdeal.nD Cert.NormMidForwardIdeal.τ).loc Cert.NormMidForwardIdeal.main_arg0)
      ∧ m' ((c.tc : Thread Cert.NormMidForwardReferenceIdeal.nD Cert.NormMidForwardReferenceIdeal.τ).loc Cert.NormMidForwardReferenceIdeal.main_arg1) = m ((c.tc : Thread Cert.NormMidForwardIdeal.nD Cert.NormMidForwardIdeal.τ).loc Cert.NormMidForwardIdeal.main_arg1)
      ∧ m' ((c.tc : Thread Cert.NormMidForwardReferenceIdeal.nD Cert.NormMidForwardReferenceIdeal.τ).loc Cert.NormMidForwardReferenceIdeal.main_arg2) = m ((c.tc : Thread Cert.NormMidForwardIdeal.nD Cert.NormMidForwardIdeal.τ).loc Cert.NormMidForwardIdeal.main_arg2)
      ∧ m' ((c.tc : Thread Cert.NormMidForwardReferenceIdeal.nD Cert.NormMidForwardReferenceIdeal.τ).loc Cert.NormMidForwardReferenceIdeal.main_arg3) = m ((c.tc : Thread Cert.NormMidForwardIdeal.nD Cert.NormMidForwardIdeal.τ).loc Cert.NormMidForwardIdeal.main_arg3)) →
    ∃ (v0 : (c : Dev Cert.NormMidForwardIdeal.nD) → Buf (Elt Ideal) ((c.tc : Thread Cert.NormMidForwardIdeal.nD Cert.NormMidForwardIdeal.τ).loc Cert.NormMidForwardIdeal.main_v0_0)) (v1 : (c : Dev Cert.NormMidForwardIdeal.nD) → Buf (Elt Ideal) ((c.tc : Thread Cert.NormMidForwardIdeal.nD Cert.NormMidForwardIdeal.τ).loc Cert.NormMidForwardIdeal.main_v0_1)),
      θ_run (Cert.NormMidForwardIdeal.defs (F := Ideal)) (onTc (τ := Cert.NormMidForwardIdeal.τ) (Cert.NormMidForwardIdeal.main (F := Ideal))) ⟨m, fun _ => 0, g⟩ (fun r => ∀ c : Dev Cert.NormMidForwardIdeal.nD,
          r.2.mem ((c.tc : Thread Cert.NormMidForwardIdeal.nD Cert.NormMidForwardIdeal.τ).loc Cert.NormMidForwardIdeal.main_v0_0) = v0 c
          ∧ r.2.mem ((c.tc : Thread Cert.NormMidForwardIdeal.nD Cert.NormMidForwardIdeal.τ).loc Cert.NormMidForwardIdeal.main_v0_1) = v1 c
          ∧ r.2.mem ((c.tc : Thread Cert.NormMidForwardIdeal.nD Cert.NormMidForwardIdeal.τ).loc Cert.NormMidForwardIdeal.main_arg0) = m ((c.tc : Thread Cert.NormMidForwardIdeal.nD Cert.NormMidForwardIdeal.τ).loc Cert.NormMidForwardIdeal.main_arg0)
          ∧ r.2.mem ((c.tc : Thread Cert.NormMidForwardIdeal.nD Cert.NormMidForwardIdeal.τ).loc Cert.NormMidForwardIdeal.main_arg1) = m ((c.tc : Thread Cert.NormMidForwardIdeal.nD Cert.NormMidForwardIdeal.τ).loc Cert.NormMidForwardIdeal.main_arg1)
          ∧ r.2.mem ((c.tc : Thread Cert.NormMidForwardIdeal.nD Cert.NormMidForwardIdeal.τ).loc Cert.NormMidForwardIdeal.main_arg2) = m ((c.tc : Thread Cert.NormMidForwardIdeal.nD Cert.NormMidForwardIdeal.τ).loc Cert.NormMidForwardIdeal.main_arg2)
          ∧ r.2.mem ((c.tc : Thread Cert.NormMidForwardIdeal.nD Cert.NormMidForwardIdeal.τ).loc Cert.NormMidForwardIdeal.main_arg3) = m ((c.tc : Thread Cert.NormMidForwardIdeal.nD Cert.NormMidForwardIdeal.τ).loc Cert.NormMidForwardIdeal.main_arg3))
      ∧ θ_run (Cert.NormMidForwardReferenceIdeal.defs (F := Ideal)) (onTc (τ := Cert.NormMidForwardReferenceIdeal.τ) (Cert.NormMidForwardReferenceIdeal.main (F := Ideal))) ⟨m', fun _ => 0, g'⟩ (fun r => ∀ c : Dev Cert.NormMidForwardReferenceIdeal.nD,
          r.2.mem ((c.tc : Thread Cert.NormMidForwardReferenceIdeal.nD Cert.NormMidForwardReferenceIdeal.τ).loc Cert.NormMidForwardReferenceIdeal.main_v14) = v0 c
          ∧ r.2.mem ((c.tc : Thread Cert.NormMidForwardReferenceIdeal.nD Cert.NormMidForwardReferenceIdeal.τ).loc Cert.NormMidForwardReferenceIdeal.main_v29) = v1 c
          ∧ r.2.mem ((c.tc : Thread Cert.NormMidForwardReferenceIdeal.nD Cert.NormMidForwardReferenceIdeal.τ).loc Cert.NormMidForwardReferenceIdeal.main_arg0) = m' ((c.tc : Thread Cert.NormMidForwardReferenceIdeal.nD Cert.NormMidForwardReferenceIdeal.τ).loc Cert.NormMidForwardReferenceIdeal.main_arg0)
          ∧ r.2.mem ((c.tc : Thread Cert.NormMidForwardReferenceIdeal.nD Cert.NormMidForwardReferenceIdeal.τ).loc Cert.NormMidForwardReferenceIdeal.main_arg1) = m' ((c.tc : Thread Cert.NormMidForwardReferenceIdeal.nD Cert.NormMidForwardReferenceIdeal.τ).loc Cert.NormMidForwardReferenceIdeal.main_arg1)
          ∧ r.2.mem ((c.tc : Thread Cert.NormMidForwardReferenceIdeal.nD Cert.NormMidForwardReferenceIdeal.τ).loc Cert.NormMidForwardReferenceIdeal.main_arg2) = m' ((c.tc : Thread Cert.NormMidForwardReferenceIdeal.nD Cert.NormMidForwardReferenceIdeal.τ).loc Cert.NormMidForwardReferenceIdeal.main_arg2)
          ∧ r.2.mem ((c.tc : Thread Cert.NormMidForwardReferenceIdeal.nD Cert.NormMidForwardReferenceIdeal.τ).loc Cert.NormMidForwardReferenceIdeal.main_arg3) = m' ((c.tc : Thread Cert.NormMidForwardReferenceIdeal.nD Cert.NormMidForwardReferenceIdeal.τ).loc Cert.NormMidForwardReferenceIdeal.main_arg3))

def preserves_NormDownForward_NormDownForwardIdeal : Prop :=
  True

def algebraic_NormDownForwardIdeal_NormDownForwardReferenceIdeal [hNormDownForwardIdeal : Cert.NormDownForwardIdeal.Facts] [hNormDownForwardReferenceIdeal : Cert.NormDownForwardReferenceIdeal.Facts] : Prop :=
  ∀ (m : (ℓ : Loc Cert.NormDownForwardIdeal.nD Cert.NormDownForwardIdeal.τ Cert.NormDownForwardIdeal.sig) → Buf (Elt Ideal) ℓ) (g : Dev Cert.NormDownForwardIdeal.nD → PrngReg)
    (m' : (ℓ : Loc Cert.NormDownForwardReferenceIdeal.nD Cert.NormDownForwardReferenceIdeal.τ Cert.NormDownForwardReferenceIdeal.sig) → Buf (Elt Ideal) ℓ) (g' : Dev Cert.NormDownForwardReferenceIdeal.nD → PrngReg), Pre_NormDownForwardIdeal m →
    (∀ c : Dev Cert.NormDownForwardIdeal.nD,
      m' ((c.tc : Thread Cert.NormDownForwardReferenceIdeal.nD Cert.NormDownForwardReferenceIdeal.τ).loc Cert.NormDownForwardReferenceIdeal.main_arg0) = m ((c.tc : Thread Cert.NormDownForwardIdeal.nD Cert.NormDownForwardIdeal.τ).loc Cert.NormDownForwardIdeal.main_arg0)
      ∧ m' ((c.tc : Thread Cert.NormDownForwardReferenceIdeal.nD Cert.NormDownForwardReferenceIdeal.τ).loc Cert.NormDownForwardReferenceIdeal.main_arg1) = m ((c.tc : Thread Cert.NormDownForwardIdeal.nD Cert.NormDownForwardIdeal.τ).loc Cert.NormDownForwardIdeal.main_arg1)
      ∧ m' ((c.tc : Thread Cert.NormDownForwardReferenceIdeal.nD Cert.NormDownForwardReferenceIdeal.τ).loc Cert.NormDownForwardReferenceIdeal.main_arg2) = m ((c.tc : Thread Cert.NormDownForwardIdeal.nD Cert.NormDownForwardIdeal.τ).loc Cert.NormDownForwardIdeal.main_arg2)) →
    ∃ (v0 : (c : Dev Cert.NormDownForwardIdeal.nD) → Buf (Elt Ideal) ((c.tc : Thread Cert.NormDownForwardIdeal.nD Cert.NormDownForwardIdeal.τ).loc Cert.NormDownForwardIdeal.main_v0_0)) (v1 : (c : Dev Cert.NormDownForwardIdeal.nD) → Buf (Elt Ideal) ((c.tc : Thread Cert.NormDownForwardIdeal.nD Cert.NormDownForwardIdeal.τ).loc Cert.NormDownForwardIdeal.main_v0_1)),
      θ_run (Cert.NormDownForwardIdeal.defs (F := Ideal)) (onTc (τ := Cert.NormDownForwardIdeal.τ) (Cert.NormDownForwardIdeal.main (F := Ideal))) ⟨m, fun _ => 0, g⟩ (fun r => ∀ c : Dev Cert.NormDownForwardIdeal.nD,
          r.2.mem ((c.tc : Thread Cert.NormDownForwardIdeal.nD Cert.NormDownForwardIdeal.τ).loc Cert.NormDownForwardIdeal.main_v0_0) = v0 c
          ∧ r.2.mem ((c.tc : Thread Cert.NormDownForwardIdeal.nD Cert.NormDownForwardIdeal.τ).loc Cert.NormDownForwardIdeal.main_v0_1) = v1 c
          ∧ r.2.mem ((c.tc : Thread Cert.NormDownForwardIdeal.nD Cert.NormDownForwardIdeal.τ).loc Cert.NormDownForwardIdeal.main_arg0) = m ((c.tc : Thread Cert.NormDownForwardIdeal.nD Cert.NormDownForwardIdeal.τ).loc Cert.NormDownForwardIdeal.main_arg0)
          ∧ r.2.mem ((c.tc : Thread Cert.NormDownForwardIdeal.nD Cert.NormDownForwardIdeal.τ).loc Cert.NormDownForwardIdeal.main_arg1) = m ((c.tc : Thread Cert.NormDownForwardIdeal.nD Cert.NormDownForwardIdeal.τ).loc Cert.NormDownForwardIdeal.main_arg1)
          ∧ r.2.mem ((c.tc : Thread Cert.NormDownForwardIdeal.nD Cert.NormDownForwardIdeal.τ).loc Cert.NormDownForwardIdeal.main_arg2) = m ((c.tc : Thread Cert.NormDownForwardIdeal.nD Cert.NormDownForwardIdeal.τ).loc Cert.NormDownForwardIdeal.main_arg2))
      ∧ θ_run (Cert.NormDownForwardReferenceIdeal.defs (F := Ideal)) (onTc (τ := Cert.NormDownForwardReferenceIdeal.τ) (Cert.NormDownForwardReferenceIdeal.main (F := Ideal))) ⟨m', fun _ => 0, g'⟩ (fun r => ∀ c : Dev Cert.NormDownForwardReferenceIdeal.nD,
          r.2.mem ((c.tc : Thread Cert.NormDownForwardReferenceIdeal.nD Cert.NormDownForwardReferenceIdeal.τ).loc Cert.NormDownForwardReferenceIdeal.main_v14) = v0 c
          ∧ r.2.mem ((c.tc : Thread Cert.NormDownForwardReferenceIdeal.nD Cert.NormDownForwardReferenceIdeal.τ).loc Cert.NormDownForwardReferenceIdeal.main_v15) = v1 c
          ∧ r.2.mem ((c.tc : Thread Cert.NormDownForwardReferenceIdeal.nD Cert.NormDownForwardReferenceIdeal.τ).loc Cert.NormDownForwardReferenceIdeal.main_arg0) = m' ((c.tc : Thread Cert.NormDownForwardReferenceIdeal.nD Cert.NormDownForwardReferenceIdeal.τ).loc Cert.NormDownForwardReferenceIdeal.main_arg0)
          ∧ r.2.mem ((c.tc : Thread Cert.NormDownForwardReferenceIdeal.nD Cert.NormDownForwardReferenceIdeal.τ).loc Cert.NormDownForwardReferenceIdeal.main_arg1) = m' ((c.tc : Thread Cert.NormDownForwardReferenceIdeal.nD Cert.NormDownForwardReferenceIdeal.τ).loc Cert.NormDownForwardReferenceIdeal.main_arg1)
          ∧ r.2.mem ((c.tc : Thread Cert.NormDownForwardReferenceIdeal.nD Cert.NormDownForwardReferenceIdeal.τ).loc Cert.NormDownForwardReferenceIdeal.main_arg2) = m' ((c.tc : Thread Cert.NormDownForwardReferenceIdeal.nD Cert.NormDownForwardReferenceIdeal.τ).loc Cert.NormDownForwardReferenceIdeal.main_arg2))

def preserves_PleLoss_PleLossIdeal : Prop :=
  True

def algebraic_PleLossIdeal_PleLossReferenceIdeal [hPleLossIdeal : Cert.PleLossIdeal.Facts] [hPleLossReferenceIdeal : Cert.PleLossReferenceIdeal.Facts] : Prop :=
  ∀ (m : (ℓ : Loc Cert.PleLossIdeal.nD Cert.PleLossIdeal.τ Cert.PleLossIdeal.sig) → Buf (Elt Ideal) ℓ) (g : Dev Cert.PleLossIdeal.nD → PrngReg)
    (m' : (ℓ : Loc Cert.PleLossReferenceIdeal.nD Cert.PleLossReferenceIdeal.τ Cert.PleLossReferenceIdeal.sig) → Buf (Elt Ideal) ℓ) (g' : Dev Cert.PleLossReferenceIdeal.nD → PrngReg), Pre_PleLossIdeal m →
    (∀ c : Dev Cert.PleLossIdeal.nD,
      m' ((c.tc : Thread Cert.PleLossReferenceIdeal.nD Cert.PleLossReferenceIdeal.τ).loc Cert.PleLossReferenceIdeal.main_arg0) = m ((c.tc : Thread Cert.PleLossIdeal.nD Cert.PleLossIdeal.τ).loc Cert.PleLossIdeal.main_arg0)
      ∧ m' ((c.tc : Thread Cert.PleLossReferenceIdeal.nD Cert.PleLossReferenceIdeal.τ).loc Cert.PleLossReferenceIdeal.main_arg1) = m ((c.tc : Thread Cert.PleLossIdeal.nD Cert.PleLossIdeal.τ).loc Cert.PleLossIdeal.main_arg1)
      ∧ m' ((c.tc : Thread Cert.PleLossReferenceIdeal.nD Cert.PleLossReferenceIdeal.τ).loc Cert.PleLossReferenceIdeal.main_arg2) = m ((c.tc : Thread Cert.PleLossIdeal.nD Cert.PleLossIdeal.τ).loc Cert.PleLossIdeal.main_arg2)
      ∧ m' ((c.tc : Thread Cert.PleLossReferenceIdeal.nD Cert.PleLossReferenceIdeal.τ).loc Cert.PleLossReferenceIdeal.main_arg3) = m ((c.tc : Thread Cert.PleLossIdeal.nD Cert.PleLossIdeal.τ).loc Cert.PleLossIdeal.main_arg3)
      ∧ m' ((c.tc : Thread Cert.PleLossReferenceIdeal.nD Cert.PleLossReferenceIdeal.τ).loc Cert.PleLossReferenceIdeal.main_arg4) = m ((c.tc : Thread Cert.PleLossIdeal.nD Cert.PleLossIdeal.τ).loc Cert.PleLossIdeal.main_arg4)) →
    ∃ (v0 : (c : Dev Cert.PleLossIdeal.nD) → Buf (Elt Ideal) ((c.tc : Thread Cert.PleLossIdeal.nD Cert.PleLossIdeal.τ).loc Cert.PleLossIdeal.main_v0_0)) (v1 : (c : Dev Cert.PleLossIdeal.nD) → Buf (Elt Ideal) ((c.tc : Thread Cert.PleLossIdeal.nD Cert.PleLossIdeal.τ).loc Cert.PleLossIdeal.main_v0_1)) (v2 : (c : Dev Cert.PleLossIdeal.nD) → Buf (Elt Ideal) ((c.tc : Thread Cert.PleLossIdeal.nD Cert.PleLossIdeal.τ).loc Cert.PleLossIdeal.main_v0_2)) (v3 : (c : Dev Cert.PleLossIdeal.nD) → Buf (Elt Ideal) ((c.tc : Thread Cert.PleLossIdeal.nD Cert.PleLossIdeal.τ).loc Cert.PleLossIdeal.main_v0_3)) (v4 : (c : Dev Cert.PleLossIdeal.nD) → Buf (Elt Ideal) ((c.tc : Thread Cert.PleLossIdeal.nD Cert.PleLossIdeal.τ).loc Cert.PleLossIdeal.main_v0_4)),
      θ_run (Cert.PleLossIdeal.defs (F := Ideal)) (onTc (τ := Cert.PleLossIdeal.τ) (Cert.PleLossIdeal.main (F := Ideal))) ⟨m, fun _ => 0, g⟩ (fun r => ∀ c : Dev Cert.PleLossIdeal.nD,
          r.2.mem ((c.tc : Thread Cert.PleLossIdeal.nD Cert.PleLossIdeal.τ).loc Cert.PleLossIdeal.main_v0_0) = v0 c
          ∧ r.2.mem ((c.tc : Thread Cert.PleLossIdeal.nD Cert.PleLossIdeal.τ).loc Cert.PleLossIdeal.main_v0_1) = v1 c
          ∧ r.2.mem ((c.tc : Thread Cert.PleLossIdeal.nD Cert.PleLossIdeal.τ).loc Cert.PleLossIdeal.main_v0_2) = v2 c
          ∧ r.2.mem ((c.tc : Thread Cert.PleLossIdeal.nD Cert.PleLossIdeal.τ).loc Cert.PleLossIdeal.main_v0_3) = v3 c
          ∧ r.2.mem ((c.tc : Thread Cert.PleLossIdeal.nD Cert.PleLossIdeal.τ).loc Cert.PleLossIdeal.main_v0_4) = v4 c
          ∧ r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
          ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
          ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
          ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
          ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4))
      ∧ θ_run (Cert.PleLossReferenceIdeal.defs (F := Ideal)) (onTc (τ := Cert.PleLossReferenceIdeal.τ) (Cert.PleLossReferenceIdeal.main (F := Ideal))) ⟨m', fun _ => 0, g'⟩ (fun r => ∀ c : Dev Cert.PleLossReferenceIdeal.nD,
          r.2.mem ((c.tc : Thread Cert.PleLossReferenceIdeal.nD Cert.PleLossReferenceIdeal.τ).loc Cert.PleLossReferenceIdeal.main_v66) = v0 c
          ∧ r.2.mem ((c.tc : Thread Cert.PleLossReferenceIdeal.nD Cert.PleLossReferenceIdeal.τ).loc Cert.PleLossReferenceIdeal.main_v42) = v1 c
          ∧ r.2.mem ((c.tc : Thread Cert.PleLossReferenceIdeal.nD Cert.PleLossReferenceIdeal.τ).loc Cert.PleLossReferenceIdeal.main_v67) = v2 c
          ∧ r.2.mem ((c.tc : Thread Cert.PleLossReferenceIdeal.nD Cert.PleLossReferenceIdeal.τ).loc Cert.PleLossReferenceIdeal.main_v68) = v3 c
          ∧ r.2.mem ((c.tc : Thread Cert.PleLossReferenceIdeal.nD Cert.PleLossReferenceIdeal.τ).loc Cert.PleLossReferenceIdeal.main_v69) = v4 c
          ∧ r.2.mem ((c.tc : Thread Cert.PleLossReferenceIdeal.nD Cert.PleLossReferenceIdeal.τ).loc Cert.PleLossReferenceIdeal.main_arg0) = m' ((c.tc : Thread Cert.PleLossReferenceIdeal.nD Cert.PleLossReferenceIdeal.τ).loc Cert.PleLossReferenceIdeal.main_arg0)
          ∧ r.2.mem ((c.tc : Thread Cert.PleLossReferenceIdeal.nD Cert.PleLossReferenceIdeal.τ).loc Cert.PleLossReferenceIdeal.main_arg1) = m' ((c.tc : Thread Cert.PleLossReferenceIdeal.nD Cert.PleLossReferenceIdeal.τ).loc Cert.PleLossReferenceIdeal.main_arg1)
          ∧ r.2.mem ((c.tc : Thread Cert.PleLossReferenceIdeal.nD Cert.PleLossReferenceIdeal.τ).loc Cert.PleLossReferenceIdeal.main_arg2) = m' ((c.tc : Thread Cert.PleLossReferenceIdeal.nD Cert.PleLossReferenceIdeal.τ).loc Cert.PleLossReferenceIdeal.main_arg2)
          ∧ r.2.mem ((c.tc : Thread Cert.PleLossReferenceIdeal.nD Cert.PleLossReferenceIdeal.τ).loc Cert.PleLossReferenceIdeal.main_arg3) = m' ((c.tc : Thread Cert.PleLossReferenceIdeal.nD Cert.PleLossReferenceIdeal.τ).loc Cert.PleLossReferenceIdeal.main_arg3)
          ∧ r.2.mem ((c.tc : Thread Cert.PleLossReferenceIdeal.nD Cert.PleLossReferenceIdeal.τ).loc Cert.PleLossReferenceIdeal.main_arg4) = m' ((c.tc : Thread Cert.PleLossReferenceIdeal.nD Cert.PleLossReferenceIdeal.τ).loc Cert.PleLossReferenceIdeal.main_arg4))

def Claim : Prop :=
  ∃ (hKernel : Cert.Kernel.Facts) (hKernelIdeal : Cert.KernelIdeal.Facts) (hReferenceIdeal : Cert.ReferenceIdeal.Facts) (hUpWeight : Cert.UpWeight.Facts) (hUpWeightIdeal : Cert.UpWeightIdeal.Facts) (hUpWeightReferenceIdeal : Cert.UpWeightReferenceIdeal.Facts) (hUp : Cert.Up.Facts) (hUpIdeal : Cert.UpIdeal.Facts) (hUpReferenceIdeal : Cert.UpReferenceIdeal.Facts) (hDownWeight : Cert.DownWeight.Facts) (hDownWeightIdeal : Cert.DownWeightIdeal.Facts) (hDownWeightReferenceIdeal : Cert.DownWeightReferenceIdeal.Facts) (hDown : Cert.Down.Facts) (hDownIdeal : Cert.DownIdeal.Facts) (hDownReferenceIdeal : Cert.DownReferenceIdeal.Facts) (hInWeight : Cert.InWeight.Facts) (hInWeightIdeal : Cert.InWeightIdeal.Facts) (hInWeightReferenceIdeal : Cert.InWeightReferenceIdeal.Facts) (hIn : Cert.In.Facts) (hInIdeal : Cert.InIdeal.Facts) (hInReferenceIdeal : Cert.InReferenceIdeal.Facts) (hOut : Cert.Out.Facts) (hOutIdeal : Cert.OutIdeal.Facts) (hOutReferenceIdeal : Cert.OutReferenceIdeal.Facts) (hOutWeight : Cert.OutWeight.Facts) (hOutWeightIdeal : Cert.OutWeightIdeal.Facts) (hOutWeightReferenceIdeal : Cert.OutWeightReferenceIdeal.Facts) (hPleGate : Cert.PleGate.Facts) (hPleGateIdeal : Cert.PleGateIdeal.Facts) (hPleGateReferenceIdeal : Cert.PleGateReferenceIdeal.Facts) (hPleGateWeight : Cert.PleGateWeight.Facts) (hPleGateWeightIdeal : Cert.PleGateWeightIdeal.Facts) (hPleGateWeightReferenceIdeal : Cert.PleGateWeightReferenceIdeal.Facts) (hPleWeight : Cert.PleWeight.Facts) (hPleWeightIdeal : Cert.PleWeightIdeal.Facts) (hPleWeightReferenceIdeal : Cert.PleWeightReferenceIdeal.Facts) (hPoolBranch : Cert.PoolBranch.Facts) (hPoolBranchIdeal : Cert.PoolBranchIdeal.Facts) (hPoolBranchReferenceIdeal : Cert.PoolBranchReferenceIdeal.Facts) (hPoolBranchWeight : Cert.PoolBranchWeight.Facts) (hPoolBranchWeightIdeal : Cert.PoolBranchWeightIdeal.Facts) (hPoolBranchWeightReferenceIdeal : Cert.PoolBranchWeightReferenceIdeal.Facts) (hAttnBranch : Cert.AttnBranch.Facts) (hAttnBranchIdeal : Cert.AttnBranchIdeal.Facts) (hAttnBranchReferenceIdeal : Cert.AttnBranchReferenceIdeal.Facts) (hAttnBranchWeight : Cert.AttnBranchWeight.Facts) (hAttnBranchWeightIdeal : Cert.AttnBranchWeightIdeal.Facts) (hAttnBranchWeightReferenceIdeal : Cert.AttnBranchWeightReferenceIdeal.Facts) (hInForward : Cert.InForward.Facts) (hInForwardIdeal : Cert.InForwardIdeal.Facts) (hInForwardReferenceIdeal : Cert.InForwardReferenceIdeal.Facts) (hUpForward : Cert.UpForward.Facts) (hUpForwardIdeal : Cert.UpForwardIdeal.Facts) (hUpForwardReferenceIdeal : Cert.UpForwardReferenceIdeal.Facts) (hAttnBranchForward : Cert.AttnBranchForward.Facts) (hAttnBranchForwardIdeal : Cert.AttnBranchForwardIdeal.Facts) (hAttnBranchForwardReferenceIdeal : Cert.AttnBranchForwardReferenceIdeal.Facts) (hPoolBranchForward : Cert.PoolBranchForward.Facts) (hPoolBranchForwardIdeal : Cert.PoolBranchForwardIdeal.Facts) (hPoolBranchForwardReferenceIdeal : Cert.PoolBranchForwardReferenceIdeal.Facts) (hOutForward : Cert.OutForward.Facts) (hOutForwardIdeal : Cert.OutForwardIdeal.Facts) (hOutForwardReferenceIdeal : Cert.OutForwardReferenceIdeal.Facts) (hPleForward : Cert.PleForward.Facts) (hPleForwardIdeal : Cert.PleForwardIdeal.Facts) (hPleForwardReferenceIdeal : Cert.PleForwardReferenceIdeal.Facts) (hPleGateForward : Cert.PleGateForward.Facts) (hPleGateForwardIdeal : Cert.PleGateForwardIdeal.Facts) (hPleGateForwardReferenceIdeal : Cert.PleGateForwardReferenceIdeal.Facts) (hDownForward : Cert.DownForward.Facts) (hDownForwardIdeal : Cert.DownForwardIdeal.Facts) (hDownForwardReferenceIdeal : Cert.DownForwardReferenceIdeal.Facts) (hGate : Cert.Gate.Facts) (hGateIdeal : Cert.GateIdeal.Facts) (hGateReferenceIdeal : Cert.GateReferenceIdeal.Facts) (hPoolGroup : Cert.PoolGroup.Facts) (hPoolGroupIdeal : Cert.PoolGroupIdeal.Facts) (hPoolGroupReferenceIdeal : Cert.PoolGroupReferenceIdeal.Facts) (hPoolGroupWeight : Cert.PoolGroupWeight.Facts) (hPoolGroupWeightIdeal : Cert.PoolGroupWeightIdeal.Facts) (hPoolGroupWeightReferenceIdeal : Cert.PoolGroupWeightReferenceIdeal.Facts) (hScale : Cert.Scale.Facts) (hScaleIdeal : Cert.ScaleIdeal.Facts) (hScaleReferenceIdeal : Cert.ScaleReferenceIdeal.Facts) (hNormIn : Cert.NormIn.Facts) (hNormInIdeal : Cert.NormInIdeal.Facts) (hNormInReferenceIdeal : Cert.NormInReferenceIdeal.Facts) (hNormDown : Cert.NormDown.Facts) (hNormDownIdeal : Cert.NormDownIdeal.Facts) (hNormDownReferenceIdeal : Cert.NormDownReferenceIdeal.Facts) (hNormMid : Cert.NormMid.Facts) (hNormMidIdeal : Cert.NormMidIdeal.Facts) (hNormMidReferenceIdeal : Cert.NormMidReferenceIdeal.Facts) (hGateMix : Cert.GateMix.Facts) (hGateMixIdeal : Cert.GateMixIdeal.Facts) (hGateMixReferenceIdeal : Cert.GateMixReferenceIdeal.Facts) (hPoolGroupForward : Cert.PoolGroupForward.Facts) (hPoolGroupForwardIdeal : Cert.PoolGroupForwardIdeal.Facts) (hPoolGroupForwardReferenceIdeal : Cert.PoolGroupForwardReferenceIdeal.Facts) (hNormInForward : Cert.NormInForward.Facts) (hNormInForwardIdeal : Cert.NormInForwardIdeal.Facts) (hNormInForwardReferenceIdeal : Cert.NormInForwardReferenceIdeal.Facts) (hNormMidForward : Cert.NormMidForward.Facts) (hNormMidForwardIdeal : Cert.NormMidForwardIdeal.Facts) (hNormMidForwardReferenceIdeal : Cert.NormMidForwardReferenceIdeal.Facts) (hNormDownForward : Cert.NormDownForward.Facts) (hNormDownForwardIdeal : Cert.NormDownForwardIdeal.Facts) (hNormDownForwardReferenceIdeal : Cert.NormDownForwardReferenceIdeal.Facts) (hPleLoss : Cert.PleLoss.Facts) (hPleLossIdeal : Cert.PleLossIdeal.Facts) (hPleLossReferenceIdeal : Cert.PleLossReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_UpWeight (hUpWeight := hUpWeight)
    ∧ quiescent_UpWeightIdeal (hUpWeightIdeal := hUpWeightIdeal)
    ∧ quiescent_UpWeightReferenceIdeal (hUpWeightReferenceIdeal := hUpWeightReferenceIdeal)
    ∧ quiescent_Up (hUp := hUp)
    ∧ quiescent_UpIdeal (hUpIdeal := hUpIdeal)
    ∧ quiescent_UpReferenceIdeal (hUpReferenceIdeal := hUpReferenceIdeal)
    ∧ quiescent_DownWeight (hDownWeight := hDownWeight)
    ∧ quiescent_DownWeightIdeal (hDownWeightIdeal := hDownWeightIdeal)
    ∧ quiescent_DownWeightReferenceIdeal (hDownWeightReferenceIdeal := hDownWeightReferenceIdeal)
    ∧ quiescent_Down (hDown := hDown)
    ∧ quiescent_DownIdeal (hDownIdeal := hDownIdeal)
    ∧ quiescent_DownReferenceIdeal (hDownReferenceIdeal := hDownReferenceIdeal)
    ∧ quiescent_InWeight (hInWeight := hInWeight)
    ∧ quiescent_InWeightIdeal (hInWeightIdeal := hInWeightIdeal)
    ∧ quiescent_InWeightReferenceIdeal (hInWeightReferenceIdeal := hInWeightReferenceIdeal)
    ∧ quiescent_In (hIn := hIn)
    ∧ quiescent_InIdeal (hInIdeal := hInIdeal)
    ∧ quiescent_InReferenceIdeal (hInReferenceIdeal := hInReferenceIdeal)
    ∧ quiescent_Out (hOut := hOut)
    ∧ quiescent_OutIdeal (hOutIdeal := hOutIdeal)
    ∧ quiescent_OutReferenceIdeal (hOutReferenceIdeal := hOutReferenceIdeal)
    ∧ quiescent_OutWeight (hOutWeight := hOutWeight)
    ∧ quiescent_OutWeightIdeal (hOutWeightIdeal := hOutWeightIdeal)
    ∧ quiescent_OutWeightReferenceIdeal (hOutWeightReferenceIdeal := hOutWeightReferenceIdeal)
    ∧ quiescent_PleGate (hPleGate := hPleGate)
    ∧ quiescent_PleGateIdeal (hPleGateIdeal := hPleGateIdeal)
    ∧ quiescent_PleGateReferenceIdeal (hPleGateReferenceIdeal := hPleGateReferenceIdeal)
    ∧ quiescent_PleGateWeight (hPleGateWeight := hPleGateWeight)
    ∧ quiescent_PleGateWeightIdeal (hPleGateWeightIdeal := hPleGateWeightIdeal)
    ∧ quiescent_PleGateWeightReferenceIdeal (hPleGateWeightReferenceIdeal := hPleGateWeightReferenceIdeal)
    ∧ quiescent_PleWeight (hPleWeight := hPleWeight)
    ∧ quiescent_PleWeightIdeal (hPleWeightIdeal := hPleWeightIdeal)
    ∧ quiescent_PleWeightReferenceIdeal (hPleWeightReferenceIdeal := hPleWeightReferenceIdeal)
    ∧ quiescent_PoolBranch (hPoolBranch := hPoolBranch)
    ∧ quiescent_PoolBranchIdeal (hPoolBranchIdeal := hPoolBranchIdeal)
    ∧ quiescent_PoolBranchReferenceIdeal (hPoolBranchReferenceIdeal := hPoolBranchReferenceIdeal)
    ∧ quiescent_PoolBranchWeight (hPoolBranchWeight := hPoolBranchWeight)
    ∧ quiescent_PoolBranchWeightIdeal (hPoolBranchWeightIdeal := hPoolBranchWeightIdeal)
    ∧ quiescent_PoolBranchWeightReferenceIdeal (hPoolBranchWeightReferenceIdeal := hPoolBranchWeightReferenceIdeal)
    ∧ quiescent_AttnBranch (hAttnBranch := hAttnBranch)
    ∧ quiescent_AttnBranchIdeal (hAttnBranchIdeal := hAttnBranchIdeal)
    ∧ quiescent_AttnBranchReferenceIdeal (hAttnBranchReferenceIdeal := hAttnBranchReferenceIdeal)
    ∧ quiescent_AttnBranchWeight (hAttnBranchWeight := hAttnBranchWeight)
    ∧ quiescent_AttnBranchWeightIdeal (hAttnBranchWeightIdeal := hAttnBranchWeightIdeal)
    ∧ quiescent_AttnBranchWeightReferenceIdeal (hAttnBranchWeightReferenceIdeal := hAttnBranchWeightReferenceIdeal)
    ∧ quiescent_InForward (hInForward := hInForward)
    ∧ quiescent_InForwardIdeal (hInForwardIdeal := hInForwardIdeal)
    ∧ quiescent_InForwardReferenceIdeal (hInForwardReferenceIdeal := hInForwardReferenceIdeal)
    ∧ quiescent_UpForward (hUpForward := hUpForward)
    ∧ quiescent_UpForwardIdeal (hUpForwardIdeal := hUpForwardIdeal)
    ∧ quiescent_UpForwardReferenceIdeal (hUpForwardReferenceIdeal := hUpForwardReferenceIdeal)
    ∧ quiescent_AttnBranchForward (hAttnBranchForward := hAttnBranchForward)
    ∧ quiescent_AttnBranchForwardIdeal (hAttnBranchForwardIdeal := hAttnBranchForwardIdeal)
    ∧ quiescent_AttnBranchForwardReferenceIdeal (hAttnBranchForwardReferenceIdeal := hAttnBranchForwardReferenceIdeal)
    ∧ quiescent_PoolBranchForward (hPoolBranchForward := hPoolBranchForward)
    ∧ quiescent_PoolBranchForwardIdeal (hPoolBranchForwardIdeal := hPoolBranchForwardIdeal)
    ∧ quiescent_PoolBranchForwardReferenceIdeal (hPoolBranchForwardReferenceIdeal := hPoolBranchForwardReferenceIdeal)
    ∧ quiescent_OutForward (hOutForward := hOutForward)
    ∧ quiescent_OutForwardIdeal (hOutForwardIdeal := hOutForwardIdeal)
    ∧ quiescent_OutForwardReferenceIdeal (hOutForwardReferenceIdeal := hOutForwardReferenceIdeal)
    ∧ quiescent_PleForward (hPleForward := hPleForward)
    ∧ quiescent_PleForwardIdeal (hPleForwardIdeal := hPleForwardIdeal)
    ∧ quiescent_PleForwardReferenceIdeal (hPleForwardReferenceIdeal := hPleForwardReferenceIdeal)
    ∧ quiescent_PleGateForward (hPleGateForward := hPleGateForward)
    ∧ quiescent_PleGateForwardIdeal (hPleGateForwardIdeal := hPleGateForwardIdeal)
    ∧ quiescent_PleGateForwardReferenceIdeal (hPleGateForwardReferenceIdeal := hPleGateForwardReferenceIdeal)
    ∧ quiescent_DownForward (hDownForward := hDownForward)
    ∧ quiescent_DownForwardIdeal (hDownForwardIdeal := hDownForwardIdeal)
    ∧ quiescent_DownForwardReferenceIdeal (hDownForwardReferenceIdeal := hDownForwardReferenceIdeal)
    ∧ quiescent_Gate (hGate := hGate)
    ∧ quiescent_GateIdeal (hGateIdeal := hGateIdeal)
    ∧ quiescent_GateReferenceIdeal (hGateReferenceIdeal := hGateReferenceIdeal)
    ∧ quiescent_PoolGroup (hPoolGroup := hPoolGroup)
    ∧ quiescent_PoolGroupIdeal (hPoolGroupIdeal := hPoolGroupIdeal)
    ∧ quiescent_PoolGroupReferenceIdeal (hPoolGroupReferenceIdeal := hPoolGroupReferenceIdeal)
    ∧ quiescent_PoolGroupWeight (hPoolGroupWeight := hPoolGroupWeight)
    ∧ quiescent_PoolGroupWeightIdeal (hPoolGroupWeightIdeal := hPoolGroupWeightIdeal)
    ∧ quiescent_PoolGroupWeightReferenceIdeal (hPoolGroupWeightReferenceIdeal := hPoolGroupWeightReferenceIdeal)
    ∧ quiescent_Scale (hScale := hScale)
    ∧ quiescent_ScaleIdeal (hScaleIdeal := hScaleIdeal)
    ∧ quiescent_ScaleReferenceIdeal (hScaleReferenceIdeal := hScaleReferenceIdeal)
    ∧ quiescent_NormIn (hNormIn := hNormIn)
    ∧ quiescent_NormInIdeal (hNormInIdeal := hNormInIdeal)
    ∧ quiescent_NormInReferenceIdeal (hNormInReferenceIdeal := hNormInReferenceIdeal)
    ∧ quiescent_NormDown (hNormDown := hNormDown)
    ∧ quiescent_NormDownIdeal (hNormDownIdeal := hNormDownIdeal)
    ∧ quiescent_NormDownReferenceIdeal (hNormDownReferenceIdeal := hNormDownReferenceIdeal)
    ∧ quiescent_NormMid (hNormMid := hNormMid)
    ∧ quiescent_NormMidIdeal (hNormMidIdeal := hNormMidIdeal)
    ∧ quiescent_NormMidReferenceIdeal (hNormMidReferenceIdeal := hNormMidReferenceIdeal)
    ∧ quiescent_GateMix (hGateMix := hGateMix)
    ∧ quiescent_GateMixIdeal (hGateMixIdeal := hGateMixIdeal)
    ∧ quiescent_GateMixReferenceIdeal (hGateMixReferenceIdeal := hGateMixReferenceIdeal)
    ∧ quiescent_PoolGroupForward (hPoolGroupForward := hPoolGroupForward)
    ∧ quiescent_PoolGroupForwardIdeal (hPoolGroupForwardIdeal := hPoolGroupForwardIdeal)
    ∧ quiescent_PoolGroupForwardReferenceIdeal (hPoolGroupForwardReferenceIdeal := hPoolGroupForwardReferenceIdeal)
    ∧ quiescent_NormInForward (hNormInForward := hNormInForward)
    ∧ quiescent_NormInForwardIdeal (hNormInForwardIdeal := hNormInForwardIdeal)
    ∧ quiescent_NormInForwardReferenceIdeal (hNormInForwardReferenceIdeal := hNormInForwardReferenceIdeal)
    ∧ quiescent_NormMidForward (hNormMidForward := hNormMidForward)
    ∧ quiescent_NormMidForwardIdeal (hNormMidForwardIdeal := hNormMidForwardIdeal)
    ∧ quiescent_NormMidForwardReferenceIdeal (hNormMidForwardReferenceIdeal := hNormMidForwardReferenceIdeal)
    ∧ quiescent_NormDownForward (hNormDownForward := hNormDownForward)
    ∧ quiescent_NormDownForwardIdeal (hNormDownForwardIdeal := hNormDownForwardIdeal)
    ∧ quiescent_NormDownForwardReferenceIdeal (hNormDownForwardReferenceIdeal := hNormDownForwardReferenceIdeal)
    ∧ quiescent_PleLoss (hPleLoss := hPleLoss)
    ∧ quiescent_PleLossIdeal (hPleLossIdeal := hPleLossIdeal)
    ∧ quiescent_PleLossReferenceIdeal (hPleLossReferenceIdeal := hPleLossReferenceIdeal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_UpWeight_UpWeightIdeal
    ∧ algebraic_UpWeightIdeal_UpWeightReferenceIdeal (hUpWeightIdeal := hUpWeightIdeal) (hUpWeightReferenceIdeal := hUpWeightReferenceIdeal)
    ∧ preserves_Up_UpIdeal
    ∧ algebraic_UpIdeal_UpReferenceIdeal (hUpIdeal := hUpIdeal) (hUpReferenceIdeal := hUpReferenceIdeal)
    ∧ preserves_DownWeight_DownWeightIdeal
    ∧ algebraic_DownWeightIdeal_DownWeightReferenceIdeal (hDownWeightIdeal := hDownWeightIdeal) (hDownWeightReferenceIdeal := hDownWeightReferenceIdeal)
    ∧ preserves_Down_DownIdeal
    ∧ algebraic_DownIdeal_DownReferenceIdeal (hDownIdeal := hDownIdeal) (hDownReferenceIdeal := hDownReferenceIdeal)
    ∧ preserves_InWeight_InWeightIdeal
    ∧ algebraic_InWeightIdeal_InWeightReferenceIdeal (hInWeightIdeal := hInWeightIdeal) (hInWeightReferenceIdeal := hInWeightReferenceIdeal)
    ∧ preserves_In_InIdeal
    ∧ algebraic_InIdeal_InReferenceIdeal (hInIdeal := hInIdeal) (hInReferenceIdeal := hInReferenceIdeal)
    ∧ preserves_Out_OutIdeal
    ∧ algebraic_OutIdeal_OutReferenceIdeal (hOutIdeal := hOutIdeal) (hOutReferenceIdeal := hOutReferenceIdeal)
    ∧ preserves_OutWeight_OutWeightIdeal
    ∧ algebraic_OutWeightIdeal_OutWeightReferenceIdeal (hOutWeightIdeal := hOutWeightIdeal) (hOutWeightReferenceIdeal := hOutWeightReferenceIdeal)
    ∧ preserves_PleGate_PleGateIdeal
    ∧ algebraic_PleGateIdeal_PleGateReferenceIdeal (hPleGateIdeal := hPleGateIdeal) (hPleGateReferenceIdeal := hPleGateReferenceIdeal)
    ∧ preserves_PleGateWeight_PleGateWeightIdeal
    ∧ algebraic_PleGateWeightIdeal_PleGateWeightReferenceIdeal (hPleGateWeightIdeal := hPleGateWeightIdeal) (hPleGateWeightReferenceIdeal := hPleGateWeightReferenceIdeal)
    ∧ preserves_PleWeight_PleWeightIdeal
    ∧ algebraic_PleWeightIdeal_PleWeightReferenceIdeal (hPleWeightIdeal := hPleWeightIdeal) (hPleWeightReferenceIdeal := hPleWeightReferenceIdeal)
    ∧ preserves_PoolBranch_PoolBranchIdeal
    ∧ algebraic_PoolBranchIdeal_PoolBranchReferenceIdeal (hPoolBranchIdeal := hPoolBranchIdeal) (hPoolBranchReferenceIdeal := hPoolBranchReferenceIdeal)
    ∧ preserves_PoolBranchWeight_PoolBranchWeightIdeal
    ∧ algebraic_PoolBranchWeightIdeal_PoolBranchWeightReferenceIdeal (hPoolBranchWeightIdeal := hPoolBranchWeightIdeal) (hPoolBranchWeightReferenceIdeal := hPoolBranchWeightReferenceIdeal)
    ∧ preserves_AttnBranch_AttnBranchIdeal
    ∧ algebraic_AttnBranchIdeal_AttnBranchReferenceIdeal (hAttnBranchIdeal := hAttnBranchIdeal) (hAttnBranchReferenceIdeal := hAttnBranchReferenceIdeal)
    ∧ preserves_AttnBranchWeight_AttnBranchWeightIdeal
    ∧ algebraic_AttnBranchWeightIdeal_AttnBranchWeightReferenceIdeal (hAttnBranchWeightIdeal := hAttnBranchWeightIdeal) (hAttnBranchWeightReferenceIdeal := hAttnBranchWeightReferenceIdeal)
    ∧ preserves_InForward_InForwardIdeal
    ∧ algebraic_InForwardIdeal_InForwardReferenceIdeal (hInForwardIdeal := hInForwardIdeal) (hInForwardReferenceIdeal := hInForwardReferenceIdeal)
    ∧ preserves_UpForward_UpForwardIdeal
    ∧ algebraic_UpForwardIdeal_UpForwardReferenceIdeal (hUpForwardIdeal := hUpForwardIdeal) (hUpForwardReferenceIdeal := hUpForwardReferenceIdeal)
    ∧ preserves_AttnBranchForward_AttnBranchForwardIdeal
    ∧ algebraic_AttnBranchForwardIdeal_AttnBranchForwardReferenceIdeal (hAttnBranchForwardIdeal := hAttnBranchForwardIdeal) (hAttnBranchForwardReferenceIdeal := hAttnBranchForwardReferenceIdeal)
    ∧ preserves_PoolBranchForward_PoolBranchForwardIdeal
    ∧ algebraic_PoolBranchForwardIdeal_PoolBranchForwardReferenceIdeal (hPoolBranchForwardIdeal := hPoolBranchForwardIdeal) (hPoolBranchForwardReferenceIdeal := hPoolBranchForwardReferenceIdeal)
    ∧ preserves_OutForward_OutForwardIdeal
    ∧ algebraic_OutForwardIdeal_OutForwardReferenceIdeal (hOutForwardIdeal := hOutForwardIdeal) (hOutForwardReferenceIdeal := hOutForwardReferenceIdeal)
    ∧ preserves_PleForward_PleForwardIdeal
    ∧ algebraic_PleForwardIdeal_PleForwardReferenceIdeal (hPleForwardIdeal := hPleForwardIdeal) (hPleForwardReferenceIdeal := hPleForwardReferenceIdeal)
    ∧ preserves_PleGateForward_PleGateForwardIdeal
    ∧ algebraic_PleGateForwardIdeal_PleGateForwardReferenceIdeal (hPleGateForwardIdeal := hPleGateForwardIdeal) (hPleGateForwardReferenceIdeal := hPleGateForwardReferenceIdeal)
    ∧ preserves_DownForward_DownForwardIdeal
    ∧ algebraic_DownForwardIdeal_DownForwardReferenceIdeal (hDownForwardIdeal := hDownForwardIdeal) (hDownForwardReferenceIdeal := hDownForwardReferenceIdeal)
    ∧ preserves_Gate_GateIdeal
    ∧ algebraic_GateIdeal_GateReferenceIdeal (hGateIdeal := hGateIdeal) (hGateReferenceIdeal := hGateReferenceIdeal)
    ∧ preserves_PoolGroup_PoolGroupIdeal
    ∧ algebraic_PoolGroupIdeal_PoolGroupReferenceIdeal (hPoolGroupIdeal := hPoolGroupIdeal) (hPoolGroupReferenceIdeal := hPoolGroupReferenceIdeal)
    ∧ preserves_PoolGroupWeight_PoolGroupWeightIdeal
    ∧ algebraic_PoolGroupWeightIdeal_PoolGroupWeightReferenceIdeal (hPoolGroupWeightIdeal := hPoolGroupWeightIdeal) (hPoolGroupWeightReferenceIdeal := hPoolGroupWeightReferenceIdeal)
    ∧ preserves_Scale_ScaleIdeal
    ∧ algebraic_ScaleIdeal_ScaleReferenceIdeal (hScaleIdeal := hScaleIdeal) (hScaleReferenceIdeal := hScaleReferenceIdeal)
    ∧ preserves_NormIn_NormInIdeal
    ∧ algebraic_NormInIdeal_NormInReferenceIdeal (hNormInIdeal := hNormInIdeal) (hNormInReferenceIdeal := hNormInReferenceIdeal)
    ∧ preserves_NormDown_NormDownIdeal
    ∧ algebraic_NormDownIdeal_NormDownReferenceIdeal (hNormDownIdeal := hNormDownIdeal) (hNormDownReferenceIdeal := hNormDownReferenceIdeal)
    ∧ preserves_NormMid_NormMidIdeal
    ∧ algebraic_NormMidIdeal_NormMidReferenceIdeal (hNormMidIdeal := hNormMidIdeal) (hNormMidReferenceIdeal := hNormMidReferenceIdeal)
    ∧ preserves_GateMix_GateMixIdeal
    ∧ algebraic_GateMixIdeal_GateMixReferenceIdeal (hGateMixIdeal := hGateMixIdeal) (hGateMixReferenceIdeal := hGateMixReferenceIdeal)
    ∧ preserves_PoolGroupForward_PoolGroupForwardIdeal
    ∧ algebraic_PoolGroupForwardIdeal_PoolGroupForwardReferenceIdeal (hPoolGroupForwardIdeal := hPoolGroupForwardIdeal) (hPoolGroupForwardReferenceIdeal := hPoolGroupForwardReferenceIdeal)
    ∧ preserves_NormInForward_NormInForwardIdeal
    ∧ algebraic_NormInForwardIdeal_NormInForwardReferenceIdeal (hNormInForwardIdeal := hNormInForwardIdeal) (hNormInForwardReferenceIdeal := hNormInForwardReferenceIdeal)
    ∧ preserves_NormMidForward_NormMidForwardIdeal
    ∧ algebraic_NormMidForwardIdeal_NormMidForwardReferenceIdeal (hNormMidForwardIdeal := hNormMidForwardIdeal) (hNormMidForwardReferenceIdeal := hNormMidForwardReferenceIdeal)
    ∧ preserves_NormDownForward_NormDownForwardIdeal
    ∧ algebraic_NormDownForwardIdeal_NormDownForwardReferenceIdeal (hNormDownForwardIdeal := hNormDownForwardIdeal) (hNormDownForwardReferenceIdeal := hNormDownForwardReferenceIdeal)
    ∧ preserves_PleLoss_PleLossIdeal
    ∧ algebraic_PleLossIdeal_PleLossReferenceIdeal (hPleLossIdeal := hPleLossIdeal) (hPleLossReferenceIdeal := hPleLossReferenceIdeal)
-- ==== Pre_finite_arguments.lean ====
abbrev S4096x3072 : Shape := ⟨2, ![4096, 3072]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  bcast_S_S4096x1024 : S_.BroadcastsInDim S4096x1024 (![] : Fin 0 → Fin S4096x1024.rank)

variable [Facts]

def fn {F : FTy → Type} [FloatOps F] (main_arg0 : FVec F S4096x3072 .f32) (main_arg1 : FVec F S4096x1024 .f32) : IVec S4096x3072 1 × IVec S4096x1024 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Kernel.lean ====
abbrev S4096x3072 : Shape := ⟨2, ![4096, 3072]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x16x256x16x256 : Shape := ⟨5, ![8, 16, 256, 16, 256]⟩
abbrev S8x16x16x256x256 : Shape := ⟨5, ![8, 16, 16, 256, 256]⟩
abbrev S256x256 : Shape := ⟨2, ![256, 256]⟩
abbrev S256x128 : Shape := ⟨2, ![256, 128]⟩
abbrev S256x384 : Shape := ⟨2, ![256, 384]⟩
abbrev S4096x256 : Shape := ⟨2, ![4096, 256]⟩
abbrev S2x1x16x256x256 : Shape := ⟨5, ![2, 1, 16, 256, 256]⟩
abbrev S2x256x256 : Shape := ⟨3, ![2, 256, 256]⟩
abbrev S1x1x1x256x256 : Shape := ⟨5, ![1, 1, 1, 256, 256]⟩
abbrev S1x256x256 : Shape := ⟨3, ![1, 256, 256]⟩

abbrev nBuf : Space → Nat
  | .hbm => 91
  | .vmem => 23
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x8x128, .f32⟩
  | .hbm, ⟨6, _⟩ => ⟨S4096x8x128, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S_, .f32⟩
  | .hbm, ⟨36, _⟩ => ⟨S8x4096x4096, .i1⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S_, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .i1⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S_, .f32⟩
  | .hbm, ⟨62, _⟩ => ⟨S_, .f32⟩
  | .hbm, ⟨63, _⟩ => ⟨S8x4096x4096, .i1⟩
  | .hbm, ⟨64, _⟩ => ⟨S8x4096x4096, .f32⟩
  | .hbm, ⟨65, _⟩ => ⟨S8x4096x4096, .f32⟩
  | .hbm, ⟨66, _⟩ => ⟨S4096x3072, .bf16⟩
  | .hbm, ⟨67, _⟩ => ⟨S8x16x256x16x256, .f32⟩
  | .hbm, ⟨68, _⟩ => ⟨S8x16x16x256x256, .f32⟩
  | .hbm, ⟨69, _⟩ => ⟨S8x16x16x256x256, .bf16⟩
  | .hbm, ⟨70, _⟩ => ⟨S8x4096x4096, .f32⟩
  | .hbm, ⟨71, _⟩ => ⟨S8x4096x4096, .f32⟩
  | .hbm, ⟨72, _⟩ => ⟨S_, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096x4096, .f32⟩
  | .hbm, ⟨77, _⟩ => ⟨S8x4096x4096, .f32⟩
  | .hbm, ⟨78, _⟩ => ⟨S8x16x256x16x256, .f32⟩
  | .hbm, ⟨79, _⟩ => ⟨S8x16x16x256x256, .f32⟩
  | .hbm, ⟨80, _⟩ => ⟨S8x16x16x256x256, .bf16⟩
  | .hbm, ⟨81, _⟩ => ⟨S256x256, .i32⟩
  | .hbm, ⟨82, _⟩ => ⟨S256x256, .i32⟩
  | .hbm, ⟨83, _⟩ => ⟨S256x256, .i1⟩
  | .hbm, ⟨84, _⟩ => ⟨S256x256, .bf16⟩
  | .hbm, ⟨85, _⟩ => ⟨S_, .bf16⟩
  | .hbm, ⟨86, _⟩ => ⟨S256x128, .bf16⟩
  | .hbm, ⟨87, _⟩ => ⟨S256x384, .bf16⟩
  | .hbm, ⟨88, _⟩ => ⟨S4096x1024, .bf16⟩
  | .hbm, ⟨89, _⟩ => ⟨S4096x1024, .bf16⟩
  | .hbm, ⟨90, _⟩ => ⟨S4096x1024, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S2x1x16x256x256, .bf16⟩
  | .local _ .vmem, ⟨7, _⟩ => ⟨S2x1x16x256x256, .bf16⟩
  | .local _ .vmem, ⟨8, _⟩ => ⟨S2x1x16x256x256, .bf16⟩
  | .local _ .vmem, ⟨9, _⟩ => ⟨S2x1x16x256x256, .bf16⟩
  | .local _ .vmem, ⟨10, _⟩ => ⟨S256x256, .f32⟩
  | .local _ .vmem, ⟨11, _⟩ => ⟨S256x256, .f32⟩
  | .local _ .vmem, ⟨12, _⟩ => ⟨S256x384, .bf16⟩
  | .local _ .vmem, ⟨13, _⟩ => ⟨S256x256, .bf16⟩
  | .local _ .vmem, ⟨14, _⟩ => ⟨S256x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .bf16⟩
  | .local _ .vmem, ⟨19, _⟩ => ⟨S4096x256, .f32⟩
  | .local _ .vmem, ⟨20, _⟩ => ⟨S4096x256, .f32⟩
  | .local _ .vmem, ⟨21, _⟩ => ⟨S2x256x256, .f32⟩
  | .local _ .vmem, ⟨22, _⟩ => ⟨S2x256x256, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_call2_cst : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_2 : Ref sig .tc := ⟨.hbm, 72, rfl⟩
abbrev main_v29 : Ref sig .tc := ⟨.hbm, 73, rfl⟩
abbrev main_v30 : Ref sig .tc := ⟨.hbm, 74, rfl⟩
abbrev main_cst_3 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_4 : Ref sig .tc := ⟨.hbm, 85, rfl⟩
abbrev main_v40 : Ref sig .tc := ⟨.hbm, 86, rfl⟩
abbrev main_v41 : Ref sig .tc := ⟨.hbm, 87, rfl⟩
abbrev main_v42_0 : Ref sig .tc := ⟨.hbm, 88, rfl⟩
abbrev main_v42_1 : Ref sig .tc := ⟨.hbm, 89, rfl⟩
abbrev main_v42_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 16], ![false, false]⟩

def k0_mult1 : BitVec 32 :=
  let c0_i32_9 : BitVec 32 := 0#32
  c0_i32_9
@[reducible] def k0_t1_loop (i : grid0.Coords) : Scf.Loop 32 :=
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_36 : BitVec 32 := 1#32
  ⟨c0_i32_35, v49, c1_i32_36⟩
def k0_mult2 (i : grid0.Coords) (k0_t1 : Fin (k0_t1_loop i).trips) : BitVec 32 :=
  let c0_i32_35 : BitVec 32 := 0#32
  let c1_i32_36 : BitVec 32 := 1#32
  let arg16 : BitVec 32 := Scf.iv c0_i32_35 c1_i32_36 k0_t1
  let c256_i32_94 : BitVec 32 := 256#32
  let v152 : BitVec 32 := Scalar.muli arg16 c256_i32_94
  v152
def k0_off1 (i : grid0.Coords) (k0_t1 : Fin (k0_t1_loop i).trips) : Fin 2 → Nat :=
  let c0_i32_35 : BitVec 32 := 0#32
  let c1_i32_36 : BitVec 32 := 1#32
  let arg16 : BitVec 32 := Scf.iv c0_i32_35 c1_i32_36 k0_t1
  let c256_i32_94 : BitVec 32 := 256#32
  let v152 : BitVec 32 := Scalar.muli arg16 c256_i32_94
  let v153 : BitVec 32 := v152
  let v154 : Index := Scalar.indexCast v153
  let c0_95 : Index := 0#32
  ![v154.toNat, 0]
def k0_off2 (i : grid0.Coords) (k0_t1 : Fin (k0_t1_loop i).trips) : Fin 5 → Nat :=
  let c0_103 : Index := 0#32
  let c0_104 : Index := 0#32
  let c0_i32_35 : BitVec 32 := 0#32
  let c1_i32_36 : BitVec 32 := 1#32
  let arg16 : BitVec 32 := Scf.iv c0_i32_35 c1_i32_36 k0_t1
  let v162 : Index := Scalar.indexCast arg16
  let c0_105 : Index := 0#32
  let c0_106 : Index := 0#32
  ![0, 0, v162.toNat, 0, 0]
def k0_mult3 (i : grid0.Coords) (k0_t1 : Fin (k0_t1_loop i).trips) : BitVec 32 :=
  let c0_i32_35 : BitVec 32 := 0#32
  let c1_i32_36 : BitVec 32 := 1#32
  let arg16 : BitVec 32 := Scf.iv c0_i32_35 c1_i32_36 k0_t1
  let c256_i32_119 : BitVec 32 := 256#32
  let v197 : BitVec 32 := Scalar.muli arg16 c256_i32_119
  v197
def k0_off3 (i : grid0.Coords) (k0_t1 : Fin (k0_t1_loop i).trips) : Fin 2 → Nat :=
  let c0_i32_35 : BitVec 32 := 0#32
  let c1_i32_36 : BitVec 32 := 1#32
  let arg16 : BitVec 32 := Scf.iv c0_i32_35 c1_i32_36 k0_t1
  let c256_i32_119 : BitVec 32 := 256#32
  let v197 : BitVec 32 := Scalar.muli arg16 c256_i32_119
  let v198 : BitVec 32 := v197
  let v199 : Index := Scalar.indexCast v198
  let c128_120 : Index := 128#32
  ![v199.toNat, 128]
def k0_off4 (i : grid0.Coords) (k0_t1 : Fin (k0_t1_loop i).trips) : Fin 5 → Nat :=
  let c1_128 : Index := 1#32
  let c0_129 : Index := 0#32
  let c0_i32_35 : BitVec 32 := 0#32
  let c1_i32_36 : BitVec 32 := 1#32
  let arg16 : BitVec 32 := Scf.iv c0_i32_35 c1_i32_36 k0_t1
  let v207 : Index := Scalar.indexCast arg16
  let c0_130 : Index := 0#32
  let c0_131 : Index := 0#32
  ![1, 0, v207.toNat, 0, 0]
def k0_mult4 (i : grid0.Coords) (k0_t1 : Fin (k0_t1_loop i).trips) : BitVec 32 :=
  let c0_i32_35 : BitVec 32 := 0#32
  let c1_i32_36 : BitVec 32 := 1#32
  let arg16 : BitVec 32 := Scf.iv c0_i32_35 c1_i32_36 k0_t1
  let c1_i32_144 : BitVec 32 := 1#32
  let v242 : BitVec 32 := Scalar.addi arg16 c1_i32_144
  let c256_i32_145 : BitVec 32 := 256#32
  let v243 : BitVec 32 := Scalar.muli v242 c256_i32_145
  v243
def k0_off5 (i : grid0.Coords) (k0_t1 : Fin (k0_t1_loop i).trips) : Fin 2 → Nat :=
  let c0_i32_35 : BitVec 32 := 0#32
  let c1_i32_36 : BitVec 32 := 1#32
  let arg16 : BitVec 32 := Scf.iv c0_i32_35 c1_i32_36 k0_t1
  let c1_i32_144 : BitVec 32 := 1#32
  let v242 : BitVec 32 := Scalar.addi arg16 c1_i32_144
  let c256_i32_145 : BitVec 32 := 256#32
  let v243 : BitVec 32 := Scalar.muli v242 c256_i32_145
  let v244 : BitVec 32 := v243
  let v245 : Index := Scalar.indexCast v244
  let c0_146 : Index := 0#32
  ![v245.toNat, 0]
def k0_off6 (i : grid0.Coords) (k0_t1 : Fin (k0_t1_loop i).trips) : Fin 5 → Nat :=
  let c0_148 : Index := 0#32
  let c0_149 : Index := 0#32
  let c0_i32_35 : BitVec 32 := 0#32
  let c1_i32_36 : BitVec 32 := 1#32
  let arg16 : BitVec 32 := Scf.iv c0_i32_35 c1_i32_36 k0_t1
  let c1_i32_144 : BitVec 32 := 1#32
  let v242 : BitVec 32 := Scalar.addi arg16 c1_i32_144
  let v249 : Index := Scalar.indexCast v242
  let c0_150 : Index := 0#32
  let c0_151 : Index := 0#32
  ![0, 0, v249.toNat, 0, 0]
def k0_off7 (i : grid0.Coords) (k0_t1 : Fin (k0_t1_loop i).trips) : Fin 2 → Nat :=
  let c0_i32_35 : BitVec 32 := 0#32
  let c1_i32_36 : BitVec 32 := 1#32
  let arg16 : BitVec 32 := Scf.iv c0_i32_35 c1_i32_36 k0_t1
  let c1_i32_144 : BitVec 32 := 1#32
  let v242 : BitVec 32 := Scalar.addi arg16 c1_i32_144
  let c256_i32_145 : BitVec 32 := 256#32
  let v243 : BitVec 32 := Scalar.muli v242 c256_i32_145
  let v244 : BitVec 32 := v243
  let v263 : Index := Scalar.indexCast v244
  let c128_158 : Index := 128#32
  ![v263.toNat, 128]
def k0_off8 (i : grid0.Coords) (k0_t1 : Fin (k0_t1_loop i).trips) : Fin 5 → Nat :=
  let c1_160 : Index := 1#32
  let c0_161 : Index := 0#32
  let c0_i32_35 : BitVec 32 := 0#32
  let c1_i32_36 : BitVec 32 := 1#32
  let arg16 : BitVec 32 := Scf.iv c0_i32_35 c1_i32_36 k0_t1
  let c1_i32_144 : BitVec 32 := 1#32
  let v242 : BitVec 32 := Scalar.addi arg16 c1_i32_144
  let v267 : Index := Scalar.indexCast v242
  let c0_162 : Index := 0#32
  let c0_163 : Index := 0#32
  ![1, 0, v267.toNat, 0, 0]
@[reducible] def k0_t2_loop (i : grid0.Coords) : Scf.Loop 32 :=
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let v46 : BitVec 32 := Scalar.addi c0_i32_35 v45
  let c1_i32_37 : BitVec 32 := 1#32
  ⟨v49, v46, c1_i32_37⟩
def k0_mult5 (i : grid0.Coords) (k0_t2 : Fin (k0_t2_loop i).trips) : BitVec 32 :=
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_37 : BitVec 32 := 1#32
  let arg16 : BitVec 32 := Scf.iv v49 c1_i32_37 k0_t2
  let c256_i32_94 : BitVec 32 := 256#32
  let v152 : BitVec 32 := Scalar.muli arg16 c256_i32_94
  v152
def k0_off9 (i : grid0.Coords) (k0_t2 : Fin (k0_t2_loop i).trips) : Fin 2 → Nat :=
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_37 : BitVec 32 := 1#32
  let arg16 : BitVec 32 := Scf.iv v49 c1_i32_37 k0_t2
  let c256_i32_94 : BitVec 32 := 256#32
  let v152 : BitVec 32 := Scalar.muli arg16 c256_i32_94
  let v153 : BitVec 32 := v152
  let v154 : Index := Scalar.indexCast v153
  let c0_95 : Index := 0#32
  ![v154.toNat, 0]
def k0_off10 (i : grid0.Coords) (k0_t2 : Fin (k0_t2_loop i).trips) : Fin 5 → Nat :=
  let c0_103 : Index := 0#32
  let c0_104 : Index := 0#32
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_37 : BitVec 32 := 1#32
  let arg16 : BitVec 32 := Scf.iv v49 c1_i32_37 k0_t2
  let v162 : Index := Scalar.indexCast arg16
  let c0_105 : Index := 0#32
  let c0_106 : Index := 0#32
  ![0, 0, v162.toNat, 0, 0]
def k0_mult6 (i : grid0.Coords) (k0_t2 : Fin (k0_t2_loop i).trips) : BitVec 32 :=
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_37 : BitVec 32 := 1#32
  let arg16 : BitVec 32 := Scf.iv v49 c1_i32_37 k0_t2
  let c256_i32_119 : BitVec 32 := 256#32
  let v197 : BitVec 32 := Scalar.muli arg16 c256_i32_119
  v197
def k0_off11 (i : grid0.Coords) (k0_t2 : Fin (k0_t2_loop i).trips) : Fin 2 → Nat :=
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_37 : BitVec 32 := 1#32
  let arg16 : BitVec 32 := Scf.iv v49 c1_i32_37 k0_t2
  let c256_i32_119 : BitVec 32 := 256#32
  let v197 : BitVec 32 := Scalar.muli arg16 c256_i32_119
  let v198 : BitVec 32 := v197
  let v199 : Index := Scalar.indexCast v198
  let c128_120 : Index := 128#32
  ![v199.toNat, 128]
def k0_off12 (i : grid0.Coords) (k0_t2 : Fin (k0_t2_loop i).trips) : Fin 5 → Nat :=
  let c1_128 : Index := 1#32
  let c0_129 : Index := 0#32
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_37 : BitVec 32 := 1#32
  let arg16 : BitVec 32 := Scf.iv v49 c1_i32_37 k0_t2
  let v207 : Index := Scalar.indexCast arg16
  let c0_130 : Index := 0#32
  let c0_131 : Index := 0#32
  ![1, 0, v207.toNat, 0, 0]
def k0_mult7 (i : grid0.Coords) (k0_t2 : Fin (k0_t2_loop i).trips) : BitVec 32 :=
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_37 : BitVec 32 := 1#32
  let arg16 : BitVec 32 := Scf.iv v49 c1_i32_37 k0_t2
  let c1_i32_144 : BitVec 32 := 1#32
  let v242 : BitVec 32 := Scalar.addi arg16 c1_i32_144
  let c256_i32_145 : BitVec 32 := 256#32
  let v243 : BitVec 32 := Scalar.muli v242 c256_i32_145
  v243
def k0_off13 (i : grid0.Coords) (k0_t2 : Fin (k0_t2_loop i).trips) : Fin 2 → Nat :=
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_37 : BitVec 32 := 1#32
  let arg16 : BitVec 32 := Scf.iv v49 c1_i32_37 k0_t2
  let c1_i32_144 : BitVec 32 := 1#32
  let v242 : BitVec 32 := Scalar.addi arg16 c1_i32_144
  let c256_i32_145 : BitVec 32 := 256#32
  let v243 : BitVec 32 := Scalar.muli v242 c256_i32_145
  let v244 : BitVec 32 := v243
  let v245 : Index := Scalar.indexCast v244
  let c0_146 : Index := 0#32
  ![v245.toNat, 0]
def k0_off14 (i : grid0.Coords) (k0_t2 : Fin (k0_t2_loop i).trips) : Fin 5 → Nat :=
  let c0_148 : Index := 0#32
  let c0_149 : Index := 0#32
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_37 : BitVec 32 := 1#32
  let arg16 : BitVec 32 := Scf.iv v49 c1_i32_37 k0_t2
  let c1_i32_144 : BitVec 32 := 1#32
  let v242 : BitVec 32 := Scalar.addi arg16 c1_i32_144
  let v249 : Index := Scalar.indexCast v242
  let c0_150 : Index := 0#32
  let c0_151 : Index := 0#32
  ![0, 0, v249.toNat, 0, 0]
def k0_off15 (i : grid0.Coords) (k0_t2 : Fin (k0_t2_loop i).trips) : Fin 2 → Nat :=
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_37 : BitVec 32 := 1#32
  let arg16 : BitVec 32 := Scf.iv v49 c1_i32_37 k0_t2
  let c1_i32_144 : BitVec 32 := 1#32
  let v242 : BitVec 32 := Scalar.addi arg16 c1_i32_144
  let c256_i32_145 : BitVec 32 := 256#32
  let v243 : BitVec 32 := Scalar.muli v242 c256_i32_145
  let v244 : BitVec 32 := v243
  let v263 : Index := Scalar.indexCast v244
  let c128_158 : Index := 128#32
  ![v263.toNat, 128]
def k0_off16 (i : grid0.Coords) (k0_t2 : Fin (k0_t2_loop i).trips) : Fin 5 → Nat :=
  let c1_160 : Index := 1#32
  let c0_161 : Index := 0#32
  let c0_i32_35 : BitVec 32 := 0#32
  let arg1 : BitVec 32 := BitVec.ofNat 32 (i 1).val
  let v45 : BitVec 32 := Scalar.subi arg1 c0_i32_35
  let c1_i32 : BitVec 32 := 1#32
  let v47 : BitVec 32 := Scalar.divsi v45 c1_i32
  let v48 : BitVec 32 := Scalar.muli v47 c1_i32
  let v49 : BitVec 32 := Scalar.addi c0_i32_35 v48
  let c1_i32_37 : BitVec 32 := 1#32
  let arg16 : BitVec 32 := Scf.iv v49 c1_i32_37 k0_t2
  let c1_i32_144 : BitVec 32 := 1#32
  let v242 : BitVec 32 := Scalar.addi arg16 c1_i32_144
  let v267 : Index := Scalar.indexCast v242
  let c0_162 : Index := 0#32
  let c0_163 : Index := 0#32
  ![1, 0, v267.toNat, 0, 0]
def k0_mult8 (i : grid0.Coords) : BitVec 32 :=
  let arg1 : BitVec 32 := BitVec.ofNat 32 (i 1).val
  let c256_i32 : BitVec 32 := 256#32
  let v55 : BitVec 32 := Scalar.muli arg1 c256_i32
  v55
def k0_off17 (i : grid0.Coords) : Fin 2 → Nat :=
  let arg1 : BitVec 32 := BitVec.ofNat 32 (i 1).val
  let c256_i32 : BitVec 32 := 256#32
  let v55 : BitVec 32 := Scalar.muli arg1 c256_i32
  let v56 : BitVec 32 := v55
  let v57 : Index := Scalar.indexCast v56
  let c0_38 : Index := 0#32
  ![v57.toNat, 0]
def k0_off18 (i : grid0.Coords) : Fin 5 → Nat :=
  let c0_46 : Index := 0#32
  let c0_47 : Index := 0#32
  let arg1 : BitVec 32 := BitVec.ofNat 32 (i 1).val
  let v65 : Index := Scalar.indexCast arg1
  let c0_48 : Index := 0#32
  let c0_49 : Index := 0#32
  ![0, 0, v65.toNat, 0, 0]
def k0_mult9 (i : grid0.Coords) : BitVec 32 :=
  let arg1 : BitVec 32 := BitVec.ofNat 32 (i 1).val
  let c256_i32_63 : BitVec 32 := 256#32
  let v100 : BitVec 32 := Scalar.muli arg1 c256_i32_63
  v100
def k0_off19 (i : grid0.Coords) : Fin 2 → Nat :=
  let arg1 : BitVec 32 := BitVec.ofNat 32 (i 1).val
  let c256_i32_63 : BitVec 32 := 256#32
  let v100 : BitVec 32 := Scalar.muli arg1 c256_i32_63
  let v101 : BitVec 32 := v100
  let v102 : Index := Scalar.indexCast v101
  let c128_64 : Index := 128#32
  ![v102.toNat, 128]
def k0_off20 (i : grid0.Coords) : Fin 5 → Nat :=
  let c1_72 : Index := 1#32
  let c0_73 : Index := 0#32
  let arg1 : BitVec 32 := BitVec.ofNat 32 (i 1).val
  let v110 : Index := Scalar.indexCast arg1
  let c0_74 : Index := 0#32
  let c0_75 : Index := 0#32
  ![1, 0, v110.toNat, 0, 0]
def k0_cond2 (i : grid0.Coords) : BitVec 1 :=
  let arg1 : BitVec 32 := BitVec.ofNat 32 (i 1).val
  let c15_i32 : BitVec 32 := 15#32
  let v149 : BitVec 1 := Scalar.cmpi .eq arg1 c15_i32
  let v150 : BitVec 32 := Scalar.extui v149
  let c0_i32_93 : BitVec 32 := 0#32
  let v151 : BitVec 1 := Scalar.cmpi .ne v150 c0_i32_93
  v151

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x16x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x16x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x3072 : Shape := ⟨2, ![4096, 3072]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 176
  | .vmem => 0
  | .smem => 0
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x1024, .f32⟩
  | 4 => ⟨S4096x1024, .f32⟩
  | 5 => ⟨S4096x8x128, .f32⟩
  | 6 => ⟨S4096x8x128, .f32⟩
  | 7 => ⟨S8x4096x4096, .f32⟩
  | 8 => ⟨S_, .f32⟩
  | 9 => ⟨S8x4096x4096, .f32⟩
  | 10 => ⟨S8x4096x4096, .f32⟩
  | 11 => ⟨S4096, .i32⟩
  | 12 => ⟨S1x4096, .i32⟩
  | 13 => ⟨S4096x1, .i32⟩
  | 14 => ⟨S4096x4096, .i32⟩
  | 15 => ⟨S4096x4096, .i32⟩
  | 16 => ⟨S4096x4096, .i1⟩
  | 17 => ⟨S8x4096x4096, .f32⟩
  | 18 => ⟨S8x4096x4096, .f32⟩
  | 19 => ⟨S_, .f32⟩
  | 20 => ⟨S8x4096x4096, .f32⟩
  | 21 => ⟨S8x4096x4096, .f32⟩
  | 22 => ⟨S8x4096x4096, .f32⟩
  | 23 => ⟨S8x4096x4096, .f32⟩
  | 24 => ⟨S8x4096x4096, .i1⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S_, .f32⟩
  | 34 => ⟨S8x4096x4096, .f32⟩
  | 35 => ⟨S8x4096x4096, .i1⟩
  | 36 => ⟨S_, .f32⟩
  | 37 => ⟨S8x4096x4096, .f32⟩
  | 38 => ⟨S8x4096x4096, .f32⟩
  | 39 => ⟨S_, .f32⟩
  | 40 => ⟨S8x4096x4096, .f32⟩
  | 41 => ⟨S8x4096x4096, .i1⟩
  | 42 => ⟨S_, .f32⟩
  | 43 => ⟨S8x4096x4096, .f32⟩
  | 44 => ⟨S8x4096x4096, .f32⟩
  | 45 => ⟨S8x4096x4096, .f32⟩
  | 46 => ⟨S8x4096x4096, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8x4096x4096, .f32⟩
  | 55 => ⟨S8x4096x4096, .i1⟩
  | 56 => ⟨S_, .f32⟩
  | 57 => ⟨S8x4096x4096, .f32⟩
  | 58 => ⟨S8x4096x4096, .f32⟩
  | 59 => ⟨S8x4096x4096, .f32⟩
  | 60 => ⟨S8x4096x4096, .f32⟩
  | 61 => ⟨S8x4096x4096, .f32⟩
  | 62 => ⟨S_, .f32⟩
  | 63 => ⟨S8x4096x4096, .f32⟩
  | 64 => ⟨S8x4096x4096, .f32⟩
  | 65 => ⟨S8x4096x4096, .f32⟩
  | 66 => ⟨S_, .f32⟩
  | 67 => ⟨S_, .f32⟩
  | 68 => ⟨S8x4096x4096, .i1⟩
  | 69 => ⟨S8x4096x4096, .f32⟩
  | 70 => ⟨S8x4096x4096, .f32⟩
  | 71 => ⟨S_, .f32⟩
  | 72 => ⟨S8x4096x4096, .f32⟩
  | 73 => ⟨S_, .f32⟩
  | 74 => ⟨S_, .f32⟩
  | 75 => ⟨S8x4096x4096, .f32⟩
  | 76 => ⟨S8x4096x4096, .f32⟩
  | 77 => ⟨S8x4096x4096, .f32⟩
  | 78 => ⟨S_, .f32⟩
  | 79 => ⟨S8x4096x4096, .f32⟩
  | 80 => ⟨S8x4096x4096, .f32⟩
  | 81 => ⟨S8x4096x4096, .f32⟩
  | 82 => ⟨S8x4096x4096, .f32⟩
  | 83 => ⟨S8x4096x4096, .i1⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .f32⟩
  | 91 => ⟨S8x4096x4096, .f32⟩
  | 92 => ⟨S_, .f32⟩
  | 93 => ⟨S8x4096x4096, .f32⟩
  | 94 => ⟨S8x4096x4096, .i1⟩
  | 95 => ⟨S_, .f32⟩
  | 96 => ⟨S8x4096x4096, .f32⟩
  | 97 => ⟨S8x4096x4096, .f32⟩
  | 98 => ⟨S_, .f32⟩
  | 99 => ⟨S8x4096x4096, .f32⟩
  | 100 => ⟨S8x4096x4096, .i1⟩
  | 101 => ⟨S_, .f32⟩
  | 102 => ⟨S8x4096x4096, .f32⟩
  | 103 => ⟨S8x4096x4096, .f32⟩
  | 104 => ⟨S8x4096x4096, .f32⟩
  | 105 => ⟨S8x4096x4096, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S8x4096x4096, .f32⟩
  | 114 => ⟨S8x4096x4096, .i1⟩
  | 115 => ⟨S_, .f32⟩
  | 116 => ⟨S8x4096x4096, .f32⟩
  | 117 => ⟨S8x4096x4096, .f32⟩
  | 118 => ⟨S8x4096x4096, .f32⟩
  | 119 => ⟨S8x4096x4096, .f32⟩
  | 120 => ⟨S8x4096x4096, .f32⟩
  | 121 => ⟨S_, .f32⟩
  | 122 => ⟨S8x4096x4096, .f32⟩
  | 123 => ⟨S8x4096x4096, .f32⟩
  | 124 => ⟨S8x4096x4096, .f32⟩
  | 125 => ⟨S8x4096x4096, .f32⟩
  | 126 => ⟨S8x4096x4096, .f32⟩
  | 127 => ⟨S_, .f32⟩
  | _ => ⟨S4096x3072, .f32⟩

abbrev hbmTy0_1 (i : Nat) : BufTy := match i % 128 with
  | 0 => ⟨S_, .f32⟩
  | 1 => ⟨S8x4096x4096, .i1⟩
  | 2 => ⟨S8x4096x4096, .f32⟩
  | 3 => ⟨S8x4096x4096, .f32⟩
  | 4 => ⟨S_, .f32⟩
  | 5 => ⟨S8x4096x4096, .f32⟩
  | 6 => ⟨S4096x8x128, .f32⟩
  | 7 => ⟨S8x128x4096, .f32⟩
  | 8 => ⟨S4096x8x128, .f32⟩
  | 9 => ⟨S4096x1024, .f32⟩
  | 10 => ⟨S4096x8x128, .f32⟩
  | 11 => ⟨S8x128x4096, .f32⟩
  | 12 => ⟨S8x4096x4096, .f32⟩
  | 13 => ⟨S8x128x4096, .f32⟩
  | 14 => ⟨S4096x8x128, .f32⟩
  | 15 => ⟨S4096x1024, .f32⟩
  | 16 => ⟨S_, .f32⟩
  | 17 => ⟨S8x4096x4096, .f32⟩
  | 18 => ⟨S8x4096x4096, .f32⟩
  | 19 => ⟨S8x4096x4096, .f32⟩
  | 20 => ⟨S8x4096x4096, .f32⟩
  | 21 => ⟨S8x4096x4096, .f32⟩
  | 22 => ⟨S8x4096x4096, .f32⟩
  | 23 => ⟨S8x4096x4096, .f32⟩
  | 24 => ⟨S_, .f32⟩
  | 25 => ⟨S_, .f32⟩
  | 26 => ⟨S8x4096x4096, .f32⟩
  | 27 => ⟨S8x4096x4096, .f32⟩
  | 28 => ⟨S_, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S_, .f32⟩
  | 37 => ⟨S8x4096x4096, .f32⟩
  | 38 => ⟨S8x4096x4096, .f32⟩
  | 39 => ⟨S8x4096x128, .f32⟩
  | 40 => ⟨S4096x8x128, .f32⟩
  | 41 => ⟨S8x4096x128, .f32⟩
  | 42 => ⟨S4096x8x128, .f32⟩
  | 43 => ⟨S4096x1024, .f32⟩
  | 44 => ⟨S4096x1024, .f32⟩
  | 45 => ⟨S4096x1024, .bf16⟩
  | 46 => ⟨S4096x1024, .bf16⟩
  | 47 => ⟨S4096x1024, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v15_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v15_2 : Ref sig .tc := ⟨.hbm, 64, rfl⟩
abbrev main_v15_0 : Ref sig .tc := ⟨.hbm, 65, rfl⟩
abbrev main_cst_0 : Ref sig .tc := ⟨.hbm, 66, rfl⟩
abbrev main_call1_v0 : Ref sig .tc := ⟨.hbm, 67, rfl⟩
abbrev main_v16_1 : Ref sig .tc := ⟨.hbm, 68, rfl⟩
abbrev main_call1_v2 : Ref sig .tc := ⟨.hbm, 69, rfl⟩
abbrev main_v16_0 : Ref sig .tc := ⟨.hbm, 70, rfl⟩
abbrev main_call1_cst : Ref sig .tc := ⟨.hbm, 71, rfl⟩
abbrev main_v16_2 : Ref sig .tc := ⟨.hbm, 72, rfl⟩
abbrev main_call2_cst : Ref sig .tc := ⟨.hbm, 73, rfl⟩
abbrev main_call2_v0 : Ref sig .tc := ⟨.hbm, 74, rfl⟩
abbrev main_v17 : Ref sig .tc := ⟨.hbm, 75, rfl⟩
abbrev main_v18 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1_0 : Ref sig .tc := ⟨.hbm, 91, rfl⟩
abbrev main_call3_call0_cst_0 : Ref sig .tc := ⟨.hbm, 92, rfl⟩
abbrev main_call3_call0_v13 : Ref sig .tc := ⟨.hbm, 93, rfl⟩
abbrev main_call3_call0_v14 : Ref sig .tc := ⟨.hbm, 94, rfl⟩
abbrev main_call3_call0_cst_1 : Ref sig .tc := ⟨.hbm, 95, rfl⟩
abbrev main_call3_call0_v15 : Ref sig .tc := ⟨.hbm, 96, rfl⟩
abbrev main_call3_call0_v16 : Ref sig .tc := ⟨.hbm, 97, rfl⟩
abbrev main_call3_call0_cst_2 : Ref sig .tc := ⟨.hbm, 98, rfl⟩
abbrev main_call3_call0_v17 : Ref sig .tc := ⟨.hbm, 99, rfl⟩
abbrev main_call3_call0_v18 : Ref sig .tc := ⟨.hbm, 100, rfl⟩
abbrev main_call3_call0_cst_3 : Ref sig .tc := ⟨.hbm, 101, rfl⟩
abbrev main_call3_call0_v19 : Ref sig .tc := ⟨.hbm, 102, rfl⟩
abbrev main_call3_call0_v20 : Ref sig .tc := ⟨.hbm, 103, rfl⟩
abbrev main_call3_call0_v21 : Ref sig .tc := ⟨.hbm, 104, rfl⟩
abbrev main_v19_1 : Ref sig .tc := ⟨.hbm, 105, rfl⟩
abbrev main_call3_call0_cst_4 : Ref sig .tc := ⟨.hbm, 106, rfl⟩
abbrev main_call3_call0_cst_5 : Ref sig .tc := ⟨.hbm, 107, rfl⟩
abbrev main_call3_call0_v23 : Ref sig .tc := ⟨.hbm, 108, rfl⟩
abbrev main_call3_call0_cst_6 : Ref sig .tc := ⟨.hbm, 109, rfl⟩
abbrev main_call3_call0_cst_7 : Ref sig .tc := ⟨.hbm, 110, rfl⟩
abbrev main_call3_call0_v24 : Ref sig .tc := ⟨.hbm, 111, rfl⟩
abbrev main_call3_call0_cst_8 : Ref sig .tc := ⟨.hbm, 112, rfl⟩
abbrev main_call3_call0_v25 : Ref sig .tc := ⟨.hbm, 113, rfl⟩
abbrev main_call3_call0_v26 : Ref sig .tc := ⟨.hbm, 114, rfl⟩
abbrev main_call3_call0_cst_9 : Ref sig .tc := ⟨.hbm, 115, rfl⟩
abbrev main_call3_call0_v27 : Ref sig .tc := ⟨.hbm, 116, rfl⟩
abbrev main_call3_call0_v28 : Ref sig .tc := ⟨.hbm, 117, rfl⟩
abbrev main_call3_call0_v29 : Ref sig .tc := ⟨.hbm, 118, rfl⟩
abbrev main_call3_call0_v30 : Ref sig .tc := ⟨.hbm, 119, rfl⟩
abbrev main_call3_call0_v31 : Ref sig .tc := ⟨.hbm, 120, rfl⟩
abbrev main_call3_call0_cst_10 : Ref sig .tc := ⟨.hbm, 121, rfl⟩
abbrev main_call3_call0_v32 : Ref sig .tc := ⟨.hbm, 122, rfl⟩
abbrev main_v19_2 : Ref sig .tc := ⟨.hbm, 123, rfl⟩
abbrev main_v19_0 : Ref sig .tc := ⟨.hbm, 124, rfl⟩
abbrev main_v20 : Ref sig .tc := ⟨.hbm, 125, rfl⟩
abbrev main_v21 : Ref sig .tc := ⟨.hbm, 126, rfl⟩
abbrev main_cst_1 : Ref sig .tc := ⟨.hbm, 127, rfl⟩
abbrev main_call4_v0 : Ref sig .tc := ⟨.hbm, 128, rfl⟩
abbrev main_v22_1 : Ref sig .tc := ⟨.hbm, 129, rfl⟩
abbrev main_call4_v2 : Ref sig .tc := ⟨.hbm, 130, rfl⟩
abbrev main_v22_0 : Ref sig .tc := ⟨.hbm, 131, rfl⟩
abbrev main_call4_cst : Ref sig .tc := ⟨.hbm, 132, rfl⟩
abbrev main_v22_2 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call5_cst : Ref sig .tc := ⟨.hbm, 144, rfl⟩
abbrev main_call5_v0 : Ref sig .tc := ⟨.hbm, 145, rfl⟩
abbrev main_v33 : Ref sig .tc := ⟨.hbm, 146, rfl⟩
abbrev main_v34 : Ref sig .tc := ⟨.hbm, 147, rfl⟩
abbrev main_call6_v0 : Ref sig .tc := ⟨.hbm, 148, rfl⟩
abbrev main_call6_v1 : Ref sig .tc := ⟨.hbm, 149, rfl⟩
abbrev main_v35 : Ref sig .tc := ⟨.hbm, 150, rfl⟩
abbrev main_v36 : Ref sig .tc := ⟨.hbm, 151, rfl⟩
abbrev main_call7_cst : Ref sig .tc := ⟨.hbm, 152, rfl⟩
abbrev main_call7_v0 : Ref sig .tc := ⟨.hbm, 153, rfl⟩
abbrev main_v37 : Ref sig .tc := ⟨.hbm, 154, rfl⟩
abbrev main_v38 : Ref sig .tc := ⟨.hbm, 155, rfl⟩
abbrev main_call8_cst : Ref sig .tc := ⟨.hbm, 156, rfl⟩
abbrev main_call8_v0 : Ref sig .tc := ⟨.hbm, 157, rfl⟩
abbrev main_v39 : Ref sig .tc := ⟨.hbm, 158, rfl⟩
abbrev main_call9_v0 : Ref sig .tc := ⟨.hbm, 159, rfl⟩
abbrev main_call9_v1 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_cst_2 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩

abbrev nD : Nat := 1
abbrev τ : Topo := Topo.v7x

variable {F : FTy → Type} [FloatOps F]
-- ==== UpWeight.lean ====
abbrev S4096x2048 : Shape := ⟨2, ![4096, 2048]⟩
abbrev S4096x5632 : Shape := ⟨2, ![4096, 5632]⟩
abbrev S8x2048x1408 : Shape := ⟨3, ![8, 2048, 1408]⟩
abbrev S1024x2048 : Shape := ⟨2, ![1024, 2048]⟩
abbrev S1024x1408 : Shape := ⟨2, ![1024, 1408]⟩
abbrev S1x2048x1408 : Shape := ⟨3, ![1, 2048, 1408]⟩
abbrev S2048x1408 : Shape := ⟨2, ![2048, 1408]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x5632, .f32⟩
  | .hbm, ⟨3, _⟩ => ⟨S4096x2048, .bf16⟩
  | .hbm, ⟨4, _⟩ => ⟨S4096x5632, .bf16⟩
  | .hbm, ⟨5, _⟩ => ⟨S4096x5632, .bf16⟩
  | .hbm, ⟨6, _⟩ => ⟨S8x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S2048x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg1 c4_i32
  let c0_i32 : BitVec 32 := 0#32
  let v1 : BitVec 32 := Scalar.select v0 arg2 c0_i32
  let c3_i32 : BitVec 32 := 3#32
  let v2 : BitVec 32 := Scalar.minsi arg1 c3_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg1 c4_i32
  let c0_i32 : BitVec 32 := 0#32
  let v1 : BitVec 32 := Scalar.select v0 c0_i32 arg2
  let c4_i32_0 : BitVec 32 := 4#32
  let v2 : BitVec 32 := Scalar.subi arg1 c4_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpWeightReferenceIdeal.lean ====
abbrev S4096x2048 : Shape := ⟨2, ![4096, 2048]⟩
abbrev S4096x5632 : Shape := ⟨2, ![4096, 5632]⟩
abbrev S_ : Shape := ⟨0, ![]⟩
abbrev S2048x11264 : Shape := ⟨2, ![2048, 11264]⟩
abbrev S4096x11264 : Shape := ⟨2, ![4096, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x5632, .f32⟩
  | .hbm, ⟨3, _⟩ => ⟨S_, .f32⟩
  | .hbm, ⟨4, _⟩ => ⟨S2048x11264, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x8x1408, .f32⟩
  | .hbm, ⟨10, _⟩ => ⟨S8x2048x1408, .f32⟩
  | .hbm, ⟨11, _⟩ => ⟨S8x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Up.lean ====
abbrev S4096x5632 : Shape := ⟨2, ![4096, 5632]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x2048 : Shape := ⟨2, ![4096, 2048]⟩
abbrev S2048x1408 : Shape := ⟨2, ![2048, 1408]⟩
abbrev S1x1024x1408 : Shape := ⟨3, ![1, 1024, 1408]⟩
abbrev S2048x1024 : Shape := ⟨2, ![2048, 1024]⟩
abbrev S1024x1408 : Shape := ⟨2, ![1024, 1408]⟩

abbrev nBuf : Space → Nat
  | .hbm => 9
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x11264, .f32⟩
  | .hbm, ⟨3, _⟩ => ⟨S4096x5632, .bf16⟩
  | .hbm, ⟨4, _⟩ => ⟨S2048x8x1408, .f32⟩
  | .hbm, ⟨5, _⟩ => ⟨S8x2048x1408, .f32⟩
  | .hbm, ⟨6, _⟩ => ⟨S8x2048x1408, .bf16⟩
  | .hbm, ⟨7, _⟩ => ⟨S4096x5632, .bf16⟩
  | .hbm, ⟨8, _⟩ => ⟨S4096x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S4096x5632 : Shape := ⟨2, ![4096, 5632]⟩
abbrev S2048x11264 : Shape := ⟨2, ![2048, 11264]⟩
abbrev S_ : Shape := ⟨0, ![]⟩
abbrev S4096x2048 : Shape := ⟨2, ![4096, 2048]⟩
abbrev S4096x11264 : Shape := ⟨2, ![4096, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x11264, .f32⟩
  | .hbm, ⟨3, _⟩ => ⟨S_, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DownWeight.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x2048, .bf16⟩
  | .hbm, ⟨4, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Down.lean ====
abbrev S4096x2048 : Shape := ⟨2, ![4096, 2048]⟩
abbrev S5632x2048 : Shape := ⟨2, ![5632, 2048]⟩
abbrev S4096x5632 : Shape := ⟨2, ![4096, 5632]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S4096x2048, .bf16⟩
  | .hbm, ⟨3, _⟩ => ⟨S5632x2048, .bf16⟩
  | .hbm, ⟨4, _⟩ => ⟨S4096x5632, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | .local _ .vmem, ⟨6, _⟩ => ⟨S2048x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x5632, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InWeight.lean ====
abbrev S4096x2048 : Shape := ⟨2, ![4096, 2048]⟩
abbrev S4096x8192 : Shape := ⟨2, ![4096, 8192]⟩
abbrev S8x2048x1024 : Shape := ⟨3, ![8, 2048, 1024]⟩
abbrev S1024x2048 : Shape := ⟨2, ![1024, 2048]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .bf16⟩
  | .hbm, ⟨3, _⟩ => ⟨S4096x8192, .bf16⟩
  | .hbm, ⟨4, _⟩ => ⟨S8x2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightReferenceIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In.lean ====
abbrev S4096x8192 : Shape := ⟨2, ![4096, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x2048 : Shape := ⟨2, ![4096, 2048]⟩
abbrev S4096x1024 : Shape := ⟨2, ![4096, 1024]⟩
abbrev S1x512x1024 : Shape := ⟨3, ![1, 512, 1024]⟩
abbrev S4096x512 : Shape := ⟨2, ![4096, 512]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S4096x8192, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S4096x2048, .f32⟩
  | .local _ .vmem, ⟨0, _⟩ => ⟨S4096x1024, .bf16⟩
  | .local _ .vmem, ⟨1, _⟩ => ⟨S4096x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S4096x512, .f32⟩
  | .local _ .vmem, ⟨5, _⟩ => ⟨S4096x512, .f32⟩
  | .local _ .vmem, ⟨6, _⟩ => ⟨S4096x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutWeight.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleGate.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PleGateWeight.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateWeightReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleWeight.lean ====
abbrev S4096x256 : Shape := ⟨2, ![4096, 256]⟩
abbrev S4096x2048 : Shape := ⟨2, ![4096, 2048]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4096x2048, .bf16⟩
  | .hbm, ⟨3, _⟩ => ⟨S8x256x256, .bf16⟩
  | .local _ .vmem, ⟨0, _⟩ => ⟨S4096x256, .f32⟩
  | .local _ .vmem, ⟨1, _⟩ => ⟨S4096x256, .bf16⟩
  | .local _ .vmem, ⟨2, _⟩ => ⟨S4096x256, .bf16⟩
  | .local _ .vmem, ⟨3, _⟩ => ⟨S1x256x256, .bf16⟩
  | .local _ .vmem, ⟨4, _⟩ => ⟨S1x256x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleWeightReferenceIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩
abbrev S256x8x256 : Shape := ⟨3, ![256, 8, 256]⟩
abbrev S8x256x256 : Shape := ⟨3, ![8, 256, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S2048x256, .f32⟩
  | .hbm, ⟨6, _⟩ => ⟨S256x2048, .f32⟩
  | .hbm, ⟨7, _⟩ => ⟨S256x8x256, .f32⟩
  | .hbm, ⟨8, _⟩ => ⟨S8x256x256, .f32⟩
  | .hbm, ⟨9, _⟩ => ⟨S8x256x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PoolBranch.lean ====
abbrev S4096x2048 : Shape := ⟨2, ![4096, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S4096x1024 : Shape := ⟨2, ![4096, 1024]⟩
abbrev S2048x256 : Shape := ⟨2, ![2048, 256]⟩
abbrev S1x1024x256 : Shape := ⟨3, ![1, 1024, 256]⟩
abbrev S2048x1024 : Shape := ⟨2, ![2048, 1024]⟩
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S4096x1024, .f32⟩
  | .local _ .vmem, ⟨0, _⟩ => ⟨S2048x256, .bf16⟩
  | .local _ .vmem, ⟨1, _⟩ => ⟨S2048x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolBranchReferenceIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PoolBranchWeight.lean ====
abbrev S4096x1024 : Shape := ⟨2, ![4096, 1024]⟩
abbrev S4096x2048 : Shape := ⟨2, ![4096, 2048]⟩
abbrev S8x1024x256 : Shape := ⟨3, ![8, 1024, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S8x1024x256, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .bf16⟩
  | .local _ .vmem, ⟨4, _⟩ => ⟨S1x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolBranchWeightReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnBranch.lean ====
abbrev S4096x2048 : Shape := ⟨2, ![4096, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S4096x1024 : Shape := ⟨2, ![4096, 1024]⟩
abbrev S2048x256 : Shape := ⟨2, ![2048, 256]⟩
abbrev S1x1024x256 : Shape := ⟨3, ![1, 1024, 256]⟩
abbrev S2048x1024 : Shape := ⟨2, ![2048, 1024]⟩
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S4096x1024, .f32⟩
  | .local _ .vmem, ⟨0, _⟩ => ⟨S2048x256, .bf16⟩
  | .local _ .vmem, ⟨1, _⟩ => ⟨S2048x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnBranchReferenceIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AttnBranchWeight.lean ====
abbrev S4096x1024 : Shape := ⟨2, ![4096, 1024]⟩
abbrev S4096x2048 : Shape := ⟨2, ![4096, 2048]⟩
abbrev S8x1024x256 : Shape := ⟨3, ![8, 1024, 256]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S8x1024x256, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .bf16⟩
  | .local _ .vmem, ⟨4, _⟩ => ⟨S1x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnBranchWeightReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InForward.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S4096x8192, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InForwardReferenceIdeal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpForward.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x11264 : Shape := ⟨2, ![4096, 11264]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x2048, .bf16⟩
  | .hbm, ⟨3, _⟩ => ⟨S2048x8x1408, .f32⟩
  | .hbm, ⟨4, _⟩ => ⟨S8x2048x1408, .f32⟩
  | .hbm, ⟨5, _⟩ => ⟨S8x2048x1408, .bf16⟩
  | .hbm, ⟨6, _⟩ => ⟨S4096x11264, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .f32⟩
  | .local _ .vmem, ⟨5, _⟩ => ⟨S2048x1408, .f32⟩
  | .local _ .vmem, ⟨6, _⟩ => ⟨S2048x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpForwardReferenceIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AttnBranchForward.lean ====
abbrev S4096x1024 : Shape := ⟨2, ![4096, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S4096x2048 : Shape := ⟨2, ![4096, 2048]⟩
abbrev S1x1024x256 : Shape := ⟨3, ![1, 1024, 256]⟩
abbrev S4096x256 : Shape := ⟨2, ![4096, 256]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S4096x2048, .f32⟩
  | .local _ .vmem, ⟨0, _⟩ => ⟨S4096x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S4096x256, .f32⟩
  | .local _ .vmem, ⟨4, _⟩ => ⟨S4096x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnBranchForwardReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PoolBranchForward.lean ====
abbrev S4096x1024 : Shape := ⟨2, ![4096, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S4096x2048 : Shape := ⟨2, ![4096, 2048]⟩
abbrev S1x1024x256 : Shape := ⟨3, ![1, 1024, 256]⟩
abbrev S4096x256 : Shape := ⟨2, ![4096, 256]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S4096x2048, .f32⟩
  | .local _ .vmem, ⟨0, _⟩ => ⟨S4096x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S4096x256, .f32⟩
  | .local _ .vmem, ⟨4, _⟩ => ⟨S4096x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolBranchForwardReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutForward.lean ====
abbrev S4096x2048 : Shape := ⟨2, ![4096, 2048]⟩
abbrev S2048x2048 : Shape := ⟨2, ![2048, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutForwardReferenceIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleForward.lean ====
abbrev S4096x256 : Shape := ⟨2, ![4096, 256]⟩
abbrev S256x2048 : Shape := ⟨2, ![256, 2048]⟩
abbrev S256x8x256 : Shape := ⟨3, ![256, 8, 256]⟩
abbrev S8x256x256 : Shape := ⟨3, ![8, 256, 256]⟩
abbrev S4096x2048 : Shape := ⟨2, ![4096, 2048]⟩
abbrev S1x256x256 : Shape := ⟨3, ![1, 256, 256]⟩
abbrev S256x256 : Shape := ⟨2, ![256, 256]⟩

abbrev nBuf : Space → Nat
  | .hbm => 6
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S256x8x256, .f32⟩
  | .hbm, ⟨3, _⟩ => ⟨S8x256x256, .f32⟩
  | .hbm, ⟨4, _⟩ => ⟨S8x256x256, .bf16⟩
  | .hbm, ⟨5, _⟩ => ⟨S4096x2048, .f32⟩
  | .local _ .vmem, ⟨0, _⟩ => ⟨S4096x256, .f32⟩
  | .local _ .vmem, ⟨1, _⟩ => ⟨S1x256x256, .bf16⟩
  | .local _ .vmem, ⟨2, _⟩ => ⟨S1x256x256, .bf16⟩
  | .local _ .vmem, ⟨3, _⟩ => ⟨S4096x256, .f32⟩
  | .local _ .vmem, ⟨4, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleForwardReferenceIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleGateForward.lean ====
abbrev S4096x2048 : Shape := ⟨2, ![4096, 2048]⟩
abbrev S2048x2048 : Shape := ⟨2, ![2048, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateForwardReferenceIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownForward.lean ====
abbrev S4096x5632 : Shape := ⟨2, ![4096, 5632]⟩
abbrev S5632x2048 : Shape := ⟨2, ![5632, 2048]⟩
abbrev S4096x2048 : Shape := ⟨2, ![4096, 2048]⟩
abbrev S2048x1408 : Shape := ⟨2, ![2048, 1408]⟩
abbrev S1408x1024 : Shape := ⟨2, ![1408, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x5632, .bf16⟩
  | .hbm, ⟨3, _⟩ => ⟨S5632x2048, .bf16⟩
  | .hbm, ⟨4, _⟩ => ⟨S4096x2048, .f32⟩
  | .local _ .vmem, ⟨0, _⟩ => ⟨S2048x1408, .bf16⟩
  | .local _ .vmem, ⟨1, _⟩ => ⟨S2048x1408, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownForwardReferenceIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Gate.lean ====
abbrev S4096x2048 : Shape := ⟨2, ![4096, 2048]⟩
abbrev S4096x8192 : Shape := ⟨2, ![4096, 8192]⟩
abbrev S256x2048 : Shape := ⟨2, ![256, 2048]⟩

abbrev nBuf : Space → Nat
  | .hbm => 8
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateReferenceIdeal.lean ====
abbrev S4096x2048 : Shape := ⟨2, ![4096, 2048]⟩
abbrev S4096x8192 : Shape := ⟨2, ![4096, 8192]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | .hbm, ⟨42, _⟩ => ⟨S4096x2048, .bf16⟩
  | .hbm, ⟨43, _⟩ => ⟨S4096x2048, .bf16⟩
  | .hbm, ⟨44, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== PoolGroup.lean ====
abbrev S4096x1024 : Shape := ⟨2, ![4096, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S4096x1024, .bf16⟩
  | .hbm, ⟨3, _⟩ => ⟨S4x256x256, .bf16⟩
  | .hbm, ⟨4, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1024x256, .f32⟩
  | .local _ .vmem, ⟨5, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolGroupReferenceIdeal.lean ====
abbrev S4096x1024 : Shape := ⟨2, ![4096, 1024]⟩
abbrev S4x256x256 : Shape := ⟨3, ![4, 256, 256]⟩
abbrev S_ : Shape := ⟨0, ![]⟩
abbrev S4096x4x256 : Shape := ⟨3, ![4096, 4, 256]⟩
abbrev S4x256x4096 : Shape := ⟨3, ![4, 256, 4096]⟩
abbrev S4x4096x256 : Shape := ⟨3, ![4, 4096, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S_, .f32⟩
  | .hbm, ⟨3, _⟩ => ⟨S4096x1024, .f32⟩
  | .hbm, ⟨4, _⟩ => ⟨S4096x4x256, .f32⟩
  | .hbm, ⟨5, _⟩ => ⟨S4x256x4096, .f32⟩
  | .hbm, ⟨6, _⟩ => ⟨S4096x4x256, .f32⟩
  | .hbm, ⟨7, _⟩ => ⟨S4096x1024, .f32⟩
  | .hbm, ⟨8, _⟩ => ⟨S4096x4x256, .f32⟩
  | .hbm, ⟨9, _⟩ => ⟨S4x256x4096, .f32⟩
  | .hbm, ⟨10, _⟩ => ⟨S4x4096x256, .f32⟩
  | .hbm, ⟨11, _⟩ => ⟨S4096x4x256, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== PoolGroupWeight.lean ====
abbrev S4096x1024 : Shape := ⟨2, ![4096, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4x256x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== PoolGroupWeightReferenceIdeal.lean ====
abbrev S4096x1024 : Shape := ⟨2, ![4096, 1024]⟩
abbrev S_ : Shape := ⟨0, ![]⟩
abbrev S4x256x256 : Shape := ⟨3, ![4, 256, 256]⟩
abbrev S4096x4x256 : Shape := ⟨3, ![4096, 4, 256]⟩
abbrev S4x256x4096 : Shape := ⟨3, ![4, 256, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4x256x256, .f32⟩
  | .hbm, ⟨4, _⟩ => ⟨S4096x4x256, .f32⟩
  | .hbm, ⟨5, _⟩ => ⟨S4x256x4096, .f32⟩
  | .hbm, ⟨6, _⟩ => ⟨S4096x4x256, .f32⟩
  | .hbm, ⟨7, _⟩ => ⟨S4096x1024, .f32⟩
  | .hbm, ⟨8, _⟩ => ⟨S4096x4x256, .f32⟩
  | .hbm, ⟨9, _⟩ => ⟨S4x256x4096, .f32⟩
  | .hbm, ⟨10, _⟩ => ⟨S4x256x256, .f32⟩
  | .hbm, ⟨11, _⟩ => ⟨S4x256x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Scale.lean ====
abbrev S4096x1024 : Shape := ⟨2, ![4096, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ScaleReferenceIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1024, .f32⟩
  | .hbm, ⟨15, _⟩ => ⟨S4096x1024, .bf16⟩
  | .hbm, ⟨16, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== NormIn.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormInReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormDown.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormDownReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormMid.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormMidReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 102
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x2048, .f32⟩
  | .hbm, ⟨70, _⟩ => ⟨S4096x2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S2048, .f32⟩
  | .hbm, ⟨82, _⟩ => ⟨S4096x2048, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x2048, .f32⟩
  | .hbm, ⟨87, _⟩ => ⟨S4096x2048, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S4096x2048, .f32⟩
  | .hbm, ⟨99, _⟩ => ⟨S4096x2048, .bf16⟩
  | .hbm, ⟨100, _⟩ => ⟨S1x2048, .f32⟩
  | .hbm, ⟨101, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== GateMix.lean ====
abbrev S4096x8192 : Shape := ⟨2, ![4096, 8192]⟩
abbrev S4096x2048 : Shape := ⟨2, ![4096, 2048]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateMixReferenceIdeal.lean ====
abbrev S4096x8192 : Shape := ⟨2, ![4096, 8192]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== PoolGroupForward.lean ====
abbrev S4096x1024 : Shape := ⟨2, ![4096, 1024]⟩
abbrev S4x256x256 : Shape := ⟨3, ![4, 256, 256]⟩
abbrev S1x1024 : Shape := ⟨2, ![1, 1024]⟩
abbrev S1024x256 : Shape := ⟨2, ![1024, 256]⟩
abbrev S1x256x256 : Shape := ⟨3, ![1, 256, 256]⟩
abbrev S1x256 : Shape := ⟨2, ![1, 256]⟩
abbrev S256x256 : Shape := ⟨2, ![256, 256]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S1x1024, .f32⟩
  | .hbm, ⟨3, _⟩ => ⟨S4096x1024, .bf16⟩
  | .hbm, ⟨4, _⟩ => ⟨S4x256x256, .bf16⟩
  | .hbm, ⟨5, _⟩ => ⟨S4096x1024, .f32⟩
  | .hbm, ⟨6, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolGroupForwardReferenceIdeal.lean ====
abbrev S4096x1024 : Shape := ⟨2, ![4096, 1024]⟩
abbrev S4x256x256 : Shape := ⟨3, ![4, 256, 256]⟩
abbrev S1x1024 : Shape := ⟨2, ![1, 1024]⟩
abbrev S4096x4x256 : Shape := ⟨3, ![4096, 4, 256]⟩
abbrev S4x256x4096 : Shape := ⟨3, ![4, 256, 4096]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x256x256, .f32⟩
  | .hbm, ⟨2, _⟩ => ⟨S1x1024, .f32⟩
  | .hbm, ⟨3, _⟩ => ⟨S4096x4x256, .f32⟩
  | .hbm, ⟨4, _⟩ => ⟨S4x256x4096, .f32⟩
  | .hbm, ⟨5, _⟩ => ⟨S4096x4x256, .f32⟩
  | .hbm, ⟨6, _⟩ => ⟨S4096x1024, .f32⟩
  | .hbm, ⟨7, _⟩ => ⟨S1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== NormInForward.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInForwardReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormMidForward.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormMidForwardReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== NormDownForward.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormDownForwardReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== PleLoss.lean ====
abbrev S4096x2048 : Shape := ⟨2, ![4096, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 10
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x1, .f32⟩
  | .hbm, ⟨6, _⟩ => ⟨S4096x2048, .f32⟩
  | .hbm, ⟨7, _⟩ => ⟨S4096x2048, .bf16⟩
  | .hbm, ⟨8, _⟩ => ⟨S4096x2048, .bf16⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x1, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PleLossReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S2048, .f32⟩
  | .hbm, ⟨71, _⟩ => ⟨S4096x2048, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x2048, .f32⟩
  | .hbm, ⟨76, _⟩ => ⟨S4096x2048, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S1x1, .f32⟩
  | .hbm, ⟨92, _⟩ => ⟨S4096x2048, .bf16⟩
  | .hbm, ⟨93, _⟩ => ⟨S4096x2048, .bf16⟩
  | .hbm, ⟨94, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_cst_11 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Proof.Cells.lean ====
/- The block values of one step of the attention's gradient kernel, entry by entry over the extended reals:
   what each stored block holds once its operands are known. -/
module

public import proofs.«01_k».proof.Proof.Gen.KernelIdeal.Value
public import Idealize.ShloMosaic.Lib.Pointwise

@[expose] public section

set_option maxRecDepth 16384

noncomputable section

namespace Cert.Aw

open Idealize.ShloMosaic Cert.KernelIdeal Cert.KernelIdeal.Gen

/-- The scale of the scores, the float nearest to `128 ^ (-1/2)`. -/
def sc : EReal := Ideal.ofBits .f32 0x3DB504F3#32

/-- The weight of column `k` in prefix `l`: the columns up to `l`, or all of them from 256 on. -/
def upto (k l : ℕ) : EReal := if l < 256 → k ≤ l then 1 else 0

/-- The gradient of a score: what reaches it directly, less its sigmoid's share of the running sum, scaled. -/
def dz (G B : ℕ → ℕ → EReal) (t s : ℕ) : EReal := (G t s - B t s * ∑ u ∈ Finset.range (s + 1), G t u) * sc

theorem sum_upto (f : ℕ → EReal) (l : Fin 256) :
    ∑ k : Fin 256, f k * upto k l = ∑ k ∈ Finset.range (l + 1), f k := by
  have h : ∀ k : Fin 256, f k * upto k l = if (k : ℕ) < l + 1 then f k else 0 := by
    intro k
    have := l.isLt
    by_cases hk : (k : ℕ) ≤ l
    · rw [upto, if_pos (fun _ => hk), if_pos (by omega), mul_one]
    · rw [upto, if_neg (fun h => hk (h this)), if_neg (by omega), mul_zero]
  rw [Finset.sum_congr rfl fun k _ => h k, ← Finset.sum_range fun k => if k < (l : ℕ) + 1 then f k else 0,
    ← Finset.sum_filter]
  refine Finset.sum_congr ?_ fun _ _ => rfl
  ext k
  simp only [Finset.mem_filter, Finset.mem_range]
  omega

theorem sum_all (f : ℕ → EReal) (l : ℕ) :
    ∑ k : Fin 256, f k * upto k (256 + l) = ∑ k ∈ Finset.range 256, f k := by
  rw [Finset.sum_range]
  refine Finset.sum_congr rfl fun k _ => ?_
  rw [upto, if_pos (fun h => absurd h (by omega)), mul_one]

theorem slt_small (s t : Fin 256) :
    IntOp.cmpi .slt (BitVec.ofNat 32 s) (BitVec.ofNat 32 t) = BitVec.ofBool (decide ((s : ℕ) < t)) := by
  have hs := s.isLt
  have ht := t.isLt
  unfold IntOp.cmpi
  congr 1
  rw [BitVec.slt, BitVec.toInt_eq_toNat_of_lt (by simp; omega), BitVec.toInt_eq_toNat_of_lt (by simp; omega),
    BitVec.toNat_ofNat, BitVec.toNat_ofNat, Nat.mod_eq_of_lt (by omega), Nat.mod_eq_of_lt (by omega)]
  simp

theorem pay7_at (li : FVec Ideal S256x384 .bf16) (g : FVec Ideal S1x256x256 .bf16) (r : Fin 256) (l : Fin 384) :
    k0_pay7 li g (ix2 r l) = ∑ k : Fin 256, g (ix3 0 r k) * li (ix2 k l) := by
  pointwise [k0_pay7]

theorem pay8_at (li : FVec Ideal S256x384 .bf16) (run : FVec Ideal S256x128 .f32) (g : FVec Ideal S1x256x256 .bf16)
    (g' : FVec Ideal S1x256x256 .f32) (b : FVec Ideal S1x1x1x256x256 .bf16) (r s : Fin 256) (ρ : EReal)
    (hrun : ∀ l, run (ix2 r l) = ρ) :
    k0_pay8 li run g g' b (ix2 r s)
      = (g' (ix3 0 r s) - b (ix5 0 0 0 r s) * ((∑ k : Fin 256, g (ix3 0 r k) * li (ix2 k ⟨s, by omega⟩)) + ρ)) * sc := by
  pointwise [k0_pay8, k0_pay7, sc]
  simp only [hrun, dite_eq_ite, ite_self]

theorem pay9_at (q : FVec Ideal S256x128 .bf16) (li : FVec Ideal S256x384 .bf16) (run : FVec Ideal S256x128 .f32)
    (g : FVec Ideal S1x256x256 .bf16) (g' : FVec Ideal S1x256x256 .f32) (b : FVec Ideal S1x1x1x256x256 .bf16)
    (acc : FVec Ideal S256x128 .f32) (s : Fin 256) (d : Fin 128) :
    k0_pay9 q li run g g' b acc (ix2 s d)
      = acc (ix2 s d) + ∑ t : Fin 256, k0_pay8 li run g g' b (ix2 t s) * q (ix2 t d) := by
  pointwise [k0_pay9]

theorem pay11_at (o : FVec Ideal S256x128 .bf16) (acc : FVec Ideal S256x128 .f32) (a : FVec Ideal S1x1x1x256x256 .bf16)
    (s : Fin 256) (d : Fin 128) :
    k0_pay11 o acc (k0_pay10 a) (constant S256x128 .f32 0x00000000#32) (ix2 s d)
      = acc (ix2 s d) + ∑ t : Fin 256, a (ix5 0 0 0 t s) * o (ix2 t d) := by
  pointwise [k0_pay11, k0_pay10]

theorem pay12_at (acc : FVec Ideal S256x128 .f32) (k : FVec Ideal S256x128 .bf16) (z : FVec Ideal S256x256 .bf16)
    (t : Fin 256) (d : Fin 128) :
    k0_pay12 acc (k0_pay6 k) z (ix2 t d) = acc (ix2 t d) + ∑ s : Fin 256, z (ix2 t s) * k (ix2 s d) := by
  pointwise [k0_pay12, k0_pay6]

theorem pay13_at (run : FVec Ideal S256x128 .f32) (x : FVec Ideal S256x384 .f32) (t : Fin 256) (l : Fin 128) :
    k0_pay13 run x (ix2 t l) = run (ix2 t l) + x (ix2 t ⟨256 + l, by omega⟩) := by
  pointwise [k0_pay13]

theorem pay22_at (o : FVec Ideal S256x128 .bf16) (v : FVec Ideal S256x128 .bf16) (a : FVec Ideal S1x1x1x256x256 .bf16)
    (t s : Fin 256) :
    k0_pay22 o v a (ix3 0 t s) = a (ix5 0 0 0 t s) * ∑ d : Fin 128, o (ix2 t d) * v (ix2 s d) := by
  pointwise [k0_pay22, k0_pay21]

theorem pay68_at (run : FVec Ideal S256x128 .f32) (li : FVec Ideal S256x384 .bf16) (g : FVec Ideal S1x256x256 .bf16)
    (g' : FVec Ideal S1x256x256 .f32) (b : FVec Ideal S1x1x1x256x256 .bf16) (t s : Fin 256) :
    k0_pay68 run k0_pay65 (k0_pay67 li g) g' b (ix2 t s)
      = if (s : ℕ) < t then k0_pay8 li run g g' b (ix2 t s) else 0 := by
  pointwise [k0_pay68, k0_pay65, k0_pay67, k0_pay8, k0_pay7]
  rw [slt_small]
  by_cases h : (s : ℕ) < t <;> simp [h, Scalar.select]

/-- The gradient of a block of scores, from the block's own values, the running sums before it, and the prefix weights. -/
theorem pay8_of (li : FVec Ideal S256x384 .bf16) (run : FVec Ideal S256x128 .f32) (g : FVec Ideal S1x256x256 .bf16)
    (g' : FVec Ideal S1x256x256 .f32) (b : FVec Ideal S1x1x1x256x256 .bf16) (G B : ℕ → ℕ → EReal) (n : ℕ)
    (hli : ∀ k l, li (ix2 k l) = upto k l)
    (hrun : ∀ (t : Fin 256) l, run (ix2 t l) = ∑ u ∈ Finset.range n, G t u)
    (hg : ∀ t s : Fin 256, g (ix3 0 t s) = G t (n + s)) (hg' : ∀ t s : Fin 256, g' (ix3 0 t s) = G t (n + s))
    (hb : ∀ t s : Fin 256, b (ix5 0 0 0 t s) = B t (n + s)) (t s : Fin 256) :
    k0_pay8 li run g g' b (ix2 t s) = dz G B t (n + s) := by
  rw [pay8_at _ _ _ _ _ _ _ _ (hrun t), hg', hb, dz]
  simp only [hg, hli]
  rw [sum_upto (fun k => G t (n + k)), add_assoc n s 1, Finset.sum_range_add _ n,
    add_comm (∑ k ∈ Finset.range (s + 1), _)]

/-- The running sums after a block. -/
theorem pay13_of (li : FVec Ideal S256x384 .bf16) (run : FVec Ideal S256x128 .f32) (g : FVec Ideal S1x256x256 .bf16)
    (G : ℕ → ℕ → EReal) (n : ℕ) (hli : ∀ k l, li (ix2 k l) = upto k l)
    (hrun : ∀ (t : Fin 256) l, run (ix2 t l) = ∑ u ∈ Finset.range n, G t u)
    (hg : ∀ t s : Fin 256, g (ix3 0 t s) = G t (n + s)) (t : Fin 256) (l : Fin 128) :
    k0_pay13 run (k0_pay7 li g) (ix2 t l) = ∑ u ∈ Finset.range (n + 256), G t u := by
  rw [pay13_at, pay7_at, hrun]
  simp only [hg, hli]
  rw [sum_all (fun k => G t (n + k)), Finset.sum_range_add]

end Cert.Aw
-- ==== Proof.Reads.lean ====
/- Loads and stores of rectangles of a block, read entry by entry through functions of natural numbers. -/
module

public import proofs.«01_k».proof.Proof.Cells
public import Idealize.ShloMosaic.Lib.WritesUnit
public import Idealize.ShloMosaic.Lib.WholeRead

@[expose] public section

set_option maxRecDepth 16384

noncomputable section

namespace Cert.Aw

open Idealize.ShloMosaic Cert.KernelIdeal Cert.KernelIdeal.Gen

variable {sg : RefSig} {κ : Kind} {sp : Space} {e : EltTy} {Val : EltTy → Type}

theorem load2 {a b p q : ℕ} (v : View sg κ sp ⟨2, ![a, b]⟩ e) (f : v.ty.Contents Val) {off : Fin 2 → ℕ}
    (inb : ∀ x : Fin 2, off x + (![p, q] : Fin 2 → ℕ) x ≤ (![a, b] : Fin 2 → ℕ) x) (o₀ o₁ : ℕ) (heq : off = ![o₀, o₁]) (X : ℕ → ℕ → Val e)
    (hf : ∀ (r : Fin a) (d : Fin b), v.read Val f (ix2 r d) = X r d) (r : Fin p) (d : Fin q) :
    View.readAt Val v (Rect.unit (s := ⟨2, ![a, b]⟩) off ![p, q] inb).toLoadRect f (ix2 r d) = X (o₀ + r) (o₁ + d) := by
  subst heq
  have h0 : o₀ + p ≤ a := inb 0
  have h1 : o₁ + q ≤ b := inb 1
  have hi : (Rect.unit (s := ⟨2, ![a, b]⟩) ![o₀, o₁] ![p, q] inb).toLoadRect.idx (ix2 r d)
      = ix2 (⟨o₀ + r, by omega⟩ : Fin a) (⟨o₁ + d, by omega⟩ : Fin b) := by
    funext x
    match x with
    | 0 => exact Fin.ext (by show o₀ + 1 * (r : ℕ) = o₀ + r; omega)
    | 1 => exact Fin.ext (by show o₁ + 1 * (d : ℕ) = o₁ + d; omega)
  show v.read Val f ((Rect.unit (s := ⟨2, ![a, b]⟩) ![o₀, o₁] ![p, q] inb).toLoadRect.idx (ix2 r d)) = _
  rw [hi, hf]

theorem load3 {a b c q r : ℕ} (v : View sg κ sp ⟨3, ![a, b, c]⟩ e) (f : v.ty.Contents Val) {off : Fin 3 → ℕ}
    (inb : ∀ x : Fin 3, off x + (![1, q, r] : Fin 3 → ℕ) x ≤ (![a, b, c] : Fin 3 → ℕ) x) (o₀ o₁ o₂ : ℕ) (heq : off = ![o₀, o₁, o₂])
    (X : ℕ → ℕ → ℕ → Val e)
    (hf : ∀ (x : Fin a) (y : Fin b) (z : Fin c), v.read Val f (ix3 x y z) = X x y z) (y : Fin q) (z : Fin r) :
    View.readAt Val v (Rect.unit (s := ⟨3, ![a, b, c]⟩) off ![1, q, r] inb).toLoadRect f (ix3 0 y z) = X o₀ (o₁ + y) (o₂ + z) := by
  subst heq
  have h0 : o₀ + 1 ≤ a := inb 0
  have h1 : o₁ + q ≤ b := inb 1
  have h2 : o₂ + r ≤ c := inb 2
  have hi : (Rect.unit (s := ⟨3, ![a, b, c]⟩) ![o₀, o₁, o₂] ![1, q, r] inb).toLoadRect.idx (ix3 0 y z)
      = ix3 (⟨o₀, by omega⟩ : Fin a) (⟨o₁ + y, by omega⟩ : Fin b) (⟨o₂ + z, by omega⟩ : Fin c) := by
    funext x
    match x with
    | 0 => exact Fin.ext (by show o₀ + 1 * 0 = o₀; omega)
    | 1 => exact Fin.ext (by show o₁ + 1 * (y : ℕ) = o₁ + y; omega)
    | 2 => exact Fin.ext (by show o₂ + 1 * (z : ℕ) = o₂ + z; omega)
  show v.read Val f ((Rect.unit (s := ⟨3, ![a, b, c]⟩) ![o₀, o₁, o₂] ![1, q, r] inb).toLoadRect.idx (ix3 0 y z)) = _
  rw [hi, hf]

/-- A load of one tile of the saved arrays: head `h`, column block `j`. -/
theorem load5 (v : View sg κ sp S2x1x16x256x256 e) (f : v.ty.Contents Val) {off : Fin 5 → ℕ}
    (inb : ∀ x : Fin 5, off x + S1x1x1x256x256.size x ≤ S2x1x16x256x256.size x) (h j : ℕ) (heq : off = ![h, 0, j, 0, 0])
    (X : ℕ → ℕ → ℕ → Val e)
    (hf : ∀ (h : Fin 2) (j : Fin 16) (t s : Fin 256), v.read Val f (ix5 h 0 j t s) = X h t (256 * j + s)) (t s : Fin 256) :
    View.readAt Val v (Rect.unit (s := S2x1x16x256x256) off S1x1x1x256x256.size inb).toLoadRect f (ix5 0 0 0 t s) = X h t (256 * j + s) := by
  subst heq
  have h0 : h + 1 ≤ 2 := inb 0
  have h2 : j + 1 ≤ 16 := inb 2
  have hi : (Rect.unit (s := S2x1x16x256x256) ![h, 0, j, 0, 0] S1x1x1x256x256.size inb).toLoadRect.idx (ix5 0 0 0 t s)
      = ix5 (⟨h, by omega⟩ : Fin 2) (0 : Fin 1) (⟨j, by omega⟩ : Fin 16) t s := by
    funext x
    match x with
    | 0 => exact Fin.ext (by show h + 1 * 0 = h; omega)
    | 1 => rfl
    | 2 => exact Fin.ext (by show j + 1 * 0 = j; omega)
    | 3 => exact Fin.ext (by show 0 + 1 * (t : ℕ) = t; omega)
    | 4 => exact Fin.ext (by show 0 + 1 * (s : ℕ) = s; omega)
  show v.read Val f ((Rect.unit (s := S2x1x16x256x256) ![h, 0, j, 0, 0] S1x1x1x256x256.size inb).toLoadRect.idx (ix5 0 0 0 t s)) = _
  rw [hi, hf]

/-- Two stores of 256 rows, one in each half of the columns, over what was there. -/
theorem halves (v : View sg κ sp S4096x256 e) (f : v.ty.Contents Val) (L : List (View.Piece Val S4096x256 e)) {off₀ off₁ : Fin 2 → ℕ}
    (inb₀ : ∀ x : Fin 2, off₀ x + S256x128.size x ≤ S4096x256.size x) (inb₁ : ∀ x : Fin 2, off₁ x + S256x128.size x ≤ S4096x256.size x)
    (w₀ w₁ : S256x128.Idx → Val e) (n : ℕ) (h₀ : off₀ = ![n, 0]) (h₁ : off₁ = ![n, 128]) (X W : ℕ → ℕ → Val e)
    (hf : ∀ (r : Fin 4096) (d : Fin 256), v.read Val (v.writes Val f L) (ix2 r d) = X r d)
    (hw₀ : ∀ (r : Fin 256) (d : Fin 128), w₀ (ix2 r d) = W (n + r) d)
    (hw₁ : ∀ (r : Fin 256) (d : Fin 128), w₁ (ix2 r d) = W (n + r) (128 + d)) (r : Fin 4096) (d : Fin 256) :
    v.read Val (v.writes Val f (⟨Rect.unit (s := S4096x256) off₁ S256x128.size inb₁, w₁⟩
        :: ⟨Rect.unit (s := S4096x256) off₀ S256x128.size inb₀, w₀⟩ :: L)) (ix2 r d)
      = if n ≤ r ∧ (r : ℕ) < n + 256 then W r d else X r d := by
  subst h₀ h₁
  have hr := r.isLt
  have hd := d.isLt
  by_cases hn : n ≤ r ∧ (r : ℕ) < n + 256
  · rw [if_pos hn]
    by_cases hc : (d : ℕ) < 128
    · rw [View.read_writes_cons_unit_of_not_mem v f inb₁ w₁ _ (ix2 r d) rfl 1 (Or.inl (by show (d : ℕ) < 128; omega)),
        View.read_writes_cons_unit_of_mem v f inb₀ w₀ _ (ix2 r d) (ix2 ⟨r - n, by omega⟩ ⟨d, hc⟩) rfl]
      · exact (hw₀ ⟨r - n, by omega⟩ ⟨d, hc⟩).trans (by show W (n + (r - n)) d = W r d; rw [show n + ((r : ℕ) - n) = r by omega])
      · intro a
        match a with
        | 0 => show (r : ℕ) = n + (r - n); omega
        | 1 => show (d : ℕ) = 0 + d; omega
    · rw [View.read_writes_cons_unit_of_mem v f inb₁ w₁ _ (ix2 r d) (ix2 ⟨r - n, by omega⟩ ⟨d - 128, by omega⟩) rfl]
      · exact (hw₁ ⟨r - n, by omega⟩ ⟨d - 128, by omega⟩).trans (by
          show W (n + (r - n)) (128 + (d - 128)) = W r d
          rw [show n + ((r : ℕ) - n) = r by omega, show 128 + ((d : ℕ) - 128) = d by omega])
      · intro a
        match a with
        | 0 => show (r : ℕ) = n + (r - n); omega
        | 1 => show (d : ℕ) = 128 + (d - 128); omega
  · rw [if_neg hn]
    have hm : (r : ℕ) < n ∨ n + 256 ≤ r := by omega
    rw [View.read_writes_cons_unit_of_not_mem v f inb₁ w₁ _ (ix2 r d) rfl 0 hm,
      View.read_writes_cons_unit_of_not_mem v f inb₀ w₀ _ (ix2 r d) rfl 0 hm, hf]

/-- Two stores that fill both tiles of a pair. -/
theorem tiles (v : View sg κ sp S2x256x256 e) (f : v.ty.Contents Val) (L : List (View.Piece Val S2x256x256 e))
    (inb₀ : ∀ x : Fin 3, (![0, 0, 0] : Fin 3 → ℕ) x + S1x256x256.size x ≤ S2x256x256.size x)
    (inb₁ : ∀ x : Fin 3, (![1, 0, 0] : Fin 3 → ℕ) x + S1x256x256.size x ≤ S2x256x256.size x)
    (w₀ w₁ : S1x256x256.Idx → Val e) (W : ℕ → ℕ → ℕ → Val e)
    (hw₀ : ∀ t s : Fin 256, w₀ (ix3 0 t s) = W 0 t s) (hw₁ : ∀ t s : Fin 256, w₁ (ix3 0 t s) = W 1 t s) (h : Fin 2) (t s : Fin 256) :
    v.read Val (v.writes Val f (⟨Rect.unit (s := S2x256x256) ![1, 0, 0] S1x256x256.size inb₁, w₁⟩
        :: ⟨Rect.unit (s := S2x256x256) ![0, 0, 0] S1x256x256.size inb₀, w₀⟩ :: L)) (ix3 h t s) = W h t s := by
  match h with
  | 0 =>
    rw [View.read_writes_cons_unit_of_not_mem v f inb₁ w₁ _ (ix3 0 t s) rfl 0 (Or.inl (by show 0 < 1; omega)),
      View.read_writes_cons_unit_of_mem v f inb₀ w₀ _ (ix3 0 t s) (ix3 0 t s) rfl]
    · exact hw₀ t s
    · intro a
      match a with
      | 0 => rfl
      | 1 => show (t : ℕ) = 0 + t; omega
      | 2 => show (s : ℕ) = 0 + s; omega
  | 1 =>
    rw [View.read_writes_cons_unit_of_mem v f inb₁ w₁ _ (ix3 1 t s) (ix3 0 t s) rfl]
    · exact hw₁ t s
    · intro a
      match a with
      | 0 => rfl
      | 1 => show (t : ℕ) = 0 + t; omega
      | 2 => show (s : ℕ) = 0 + s; omega

end Cert.Aw
-- ==== Proof.Trip.lean ====
/- The loop of the attention's gradient kernel over the column blocks left of the diagonal: what it has accumulated
   after each turn. -/
module

public import proofs.«01_k».proof.Proof.Reads

@[expose] public section

set_option maxRecDepth 16384

noncomputable section

namespace Cert.Aw

open Idealize.ShloMosaic Cert.KernelIdeal Cert.KernelIdeal.Gen

/-- What one step of the kernel reads: two heads of a block of query rows (`Q`, `O`), all the keys and values of these
heads (`K`, `V`), and the saved weights and sigmoids of the block's rows (`A`, `B`, by head, row and column). -/
structure Blk where
  Q : ℕ → ℕ → EReal
  K : ℕ → ℕ → EReal
  V : ℕ → ℕ → EReal
  O : ℕ → ℕ → EReal
  A : ℕ → ℕ → ℕ → EReal
  B : ℕ → ℕ → ℕ → EReal

namespace Blk

variable (b : Blk)

/-- The weight times the gradient that reaches it. -/
def G (h t s : ℕ) : EReal := b.A h t s * ∑ d ∈ Finset.range 128, b.O t (128 * h + d) * b.V s (128 * h + d)

/-- The gradient of the scaled scores, before the mask. -/
def Z (h t s : ℕ) : EReal := dz (b.G h) (b.B h) t s

/-- The running sum over the first `n` columns. -/
def run (h n t : ℕ) : EReal := ∑ s ∈ Finset.range n, b.G h t s

/-- The gradient of the queries from the first `n` columns. -/
def dq (h n t d : ℕ) : EReal := ∑ s ∈ Finset.range n, b.Z h t s * b.K s (128 * h + d)

/-- The block's share of the gradient of the keys. -/
def dk (s c : ℕ) : EReal := ∑ t ∈ Finset.range 256, b.Z (c / 128) t s * b.Q t c

/-- The block's share of the gradient of the values. -/
def dv (s c : ℕ) : EReal := ∑ t ∈ Finset.range 256, b.A (c / 128) t s * b.O t c

end Blk

/-- `Y` with `D` added in the first `n` rows. -/
def after (Y D : ℕ → ℕ → EReal) (n s c : ℕ) : EReal := if s < n then Y s c + D s c else Y s c

section Head

variable (b : Blk) (h n : ℕ) (li : FVec Ideal S256x384 .bf16) (run : FVec Ideal S256x128 .f32)
  (g : FVec Ideal S1x256x256 .bf16) (g' : FVec Ideal S1x256x256 .f32) (bb : FVec Ideal S1x1x1x256x256 .bf16)

theorem head_z (hli : ∀ k l, li (ix2 k l) = upto k l) (hrun : ∀ (t : Fin 256) l, run (ix2 t l) = b.run h n t)
    (hg : ∀ t s : Fin 256, g (ix3 0 t s) = b.G h t (n + s)) (hg' : ∀ t s : Fin 256, g' (ix3 0 t s) = b.G h t (n + s))
    (hb : ∀ t s : Fin 256, bb (ix5 0 0 0 t s) = b.B h t (n + s)) (t s : Fin 256) :
    k0_pay8 li run g g' bb (ix2 t s) = b.Z h t (n + s) :=
  pay8_of li run g g' bb (b.G h) (b.B h) n hli hrun hg hg' hb t s

theorem head_dq (acc : FVec Ideal S256x128 .f32) (kk : FVec Ideal S256x128 .bf16) (z : FVec Ideal S256x256 .bf16)
    (hz : ∀ t s : Fin 256, z (ix2 t s) = b.Z h t (n + s))
    (hacc : ∀ (t : Fin 256) (d : Fin 128), acc (ix2 t d) = b.dq h n t d)
    (hk : ∀ (s : Fin 256) (d : Fin 128), kk (ix2 s d) = b.K (n + s) (128 * h + d)) (t : Fin 256) (d : Fin 128) :
    k0_pay12 acc (k0_pay6 kk) z (ix2 t d) = b.dq h (n + 256) t d := by
  rw [pay12_at, hacc, Blk.dq, Blk.dq, Finset.sum_range_add, Finset.sum_range (n := 256)]
  simp only [hz, hk]

theorem head_run (hli : ∀ k l, li (ix2 k l) = upto k l) (hrun : ∀ (t : Fin 256) l, run (ix2 t l) = b.run h n t)
    (hg : ∀ t s : Fin 256, g (ix3 0 t s) = b.G h t (n + s)) (t : Fin 256) (l : Fin 128) :
    k0_pay13 run (k0_pay7 li g) (ix2 t l) = b.run h (n + 256) t :=
  pay13_of li run g (b.G h) n hli hrun hg t l

theorem head_g (o v : FVec Ideal S256x128 .bf16) (a : FVec Ideal S1x1x1x256x256 .bf16)
    (ho : ∀ (t : Fin 256) (d : Fin 128), o (ix2 t d) = b.O t (128 * h + d))
    (hv : ∀ (s : Fin 256) (d : Fin 128), v (ix2 s d) = b.V (n + s) (128 * h + d))
    (ha : ∀ t s : Fin 256, a (ix5 0 0 0 t s) = b.A h t (n + s)) (t s : Fin 256) :
    k0_pay22 o v a (ix3 0 t s) = b.G h t (n + s) := by
  rw [pay22_at, ha, Blk.G, Finset.sum_range (n := 128)]
  simp only [ho, hv]

theorem head_dk (q : FVec Ideal S256x128 .bf16) (acc : FVec Ideal S256x128 .f32) (Y : ℕ → ℕ → EReal)
    (hz : ∀ t s : Fin 256, k0_pay8 li run g g' bb (ix2 t s) = b.Z h t (n + s))
    (hacc : ∀ (s : Fin 256) (d : Fin 128), acc (ix2 s d) = Y (n + s) (128 * h + d))
    (hq : ∀ (t : Fin 256) (d : Fin 128), q (ix2 t d) = b.Q t (128 * h + d)) (s : Fin 256) (d : Fin 128) :
    k0_pay9 q li run g g' bb acc (ix2 s d) = Y (n + s) (128 * h + d) + b.dk (n + s) (128 * h + d) := by
  rw [pay9_at, hacc, Blk.dk, Finset.sum_range (n := 256), show (128 * h + (d : ℕ)) / 128 = h by omega]
  simp only [hz, hq]

theorem head_dv (o : FVec Ideal S256x128 .bf16) (acc : FVec Ideal S256x128 .f32) (a : FVec Ideal S1x1x1x256x256 .bf16)
    (Y : ℕ → ℕ → EReal) (hacc : ∀ (s : Fin 256) (d : Fin 128), acc (ix2 s d) = Y (n + s) (128 * h + d))
    (ho : ∀ (t : Fin 256) (d : Fin 128), o (ix2 t d) = b.O t (128 * h + d))
    (ha : ∀ t s : Fin 256, a (ix5 0 0 0 t s) = b.A h t (n + s)) (s : Fin 256) (d : Fin 128) :
    k0_pay11 o acc (k0_pay10 a) (constant S256x128 .f32 0x00000000#32) (ix2 s d)
      = Y (n + s) (128 * h + d) + b.dv (n + s) (128 * h + d) := by
  rw [pay11_at, hacc, Blk.dv, Finset.sum_range (n := 256), show (128 * h + (d : ℕ)) / 128 = h by omega]
  simp only [ha, ho]

theorem head_dv' (o : FVec Ideal S256x128 .bf16) (acc : FVec Ideal S256x128 .f32) (a : FVec Ideal S1x1x1x256x256 .bf16)
    (Y : ℕ → ℕ → EReal) (hacc : ∀ (s : Fin 256) (d : Fin 128), acc (ix2 s d) = Y (n + s) (128 * h + d))
    (ho : ∀ (t : Fin 256) (d : Fin 128), o (ix2 t d) = b.O t (128 * h + d))
    (ha : ∀ t s : Fin 256, a (ix5 0 0 0 t s) = b.A h t (n + s)) (s : Fin 256) (d : Fin 128) :
    k0_pay18 o acc a (ix2 s d) = Y (n + s) (128 * h + d) + b.dv (n + s) (128 * h + d) :=
  head_dv b h n o acc a Y hacc ho ha s d

end Head

/-- What is known after `n` turns: the four carried values, and the reading of the four buffers the loop stores in. -/
structure Inv (b : Blk) (Y Y' : ℕ → ℕ → EReal) (n : ℕ)
    (S : FVec Ideal S256x128 .f32 × FVec Ideal S256x128 .f32 × FVec Ideal S256x128 .f32 × FVec Ideal S256x128 .f32)
    (f12 f13 : S4096x256.Idx → EReal) (f14 f15 : S2x256x256.Idx → EReal) : Prop where
  dq0 : ∀ (t : Fin 256) (d : Fin 128), S.1 (ix2 t d) = b.dq 0 (256 * n) t d
  run0 : ∀ (t : Fin 256) (l : Fin 128), S.2.1 (ix2 t l) = b.run 0 (256 * n) t
  dq1 : ∀ (t : Fin 256) (d : Fin 128), S.2.2.1 (ix2 t d) = b.dq 1 (256 * n) t d
  run1 : ∀ (t : Fin 256) (l : Fin 128), S.2.2.2 (ix2 t l) = b.run 1 (256 * n) t
  dk : ∀ (s : Fin 4096) (c : Fin 256), f12 (ix2 s c) = after Y b.dk (256 * n) s c
  dv : ∀ (s : Fin 4096) (c : Fin 256), f13 (ix2 s c) = after Y' b.dv (256 * n) s c
  g : ∀ (h : Fin 2) (t s : Fin 256), f14 (ix3 h t s) = b.G h t (256 * n + s)
  g' : ∀ (h : Fin 2) (t s : Fin 256), f15 (ix3 h t s) = b.G h t (256 * n + s)

theorem after_step (Y D : ℕ → ℕ → EReal) (n s c : ℕ) :
    (if 256 * n ≤ s ∧ s < 256 * n + 256 then Y s c + D s c else after Y D (256 * n) s c) = after Y D (256 * (n + 1)) s c := by
  unfold after
  by_cases h1 : s < 256 * n
  · rw [if_neg (by omega), if_pos h1, if_pos (by omega)]
  · by_cases h2 : s < 256 * n + 256
    · rw [if_pos (by omega), if_pos (by omega)]
    · rw [if_neg (by omega), if_neg (by omega), if_neg (by omega)]

set_option maxHeartbeats 1000000 in
theorem loop (𝒱 : Variants) (c : Dev nD) (bd : Option 𝒱.V) (i : grid0.Coords) (arg2 : Memref sig .tc .vmem S256x256 .bf16) (harg2 : arg2.IsWhole) (arg3 :
    Memref sig .tc .vmem S4096x256 .bf16) (harg3 : arg3.IsWhole) (arg4 : Memref sig .tc .vmem S4096x256 .bf16) (harg4 : arg4.IsWhole) (arg5 :
    Memref sig .tc .vmem S2x1x16x256x256 .bf16) (harg5 : arg5.IsWhole) (arg6 : Memref sig .tc .vmem S2x1x16x256x256 .bf16) (harg6 :
    arg6.IsWhole) (arg7 : Memref sig .tc .vmem S256x256 .f32) (harg7 : arg7.IsWhole) (arg8 : Memref sig .tc .vmem S256x384 .bf16) (harg8 :
    arg8.IsWhole) (arg9 : Memref sig .tc .vmem S256x256 .bf16) (harg9 : arg9.IsWhole) (arg10 : Memref sig .tc .vmem S4096x256 .bf16) (harg10 :
    arg10.IsWhole) (arg11 : Memref sig .tc .vmem S4096x256 .bf16) (harg11 : arg11.IsWhole) (arg12 : Memref sig .tc .vmem S4096x256 .f32) (harg12
    : arg12.IsWhole) (arg13 : Memref sig .tc .vmem S4096x256 .f32) (harg13 : arg13.IsWhole) (arg14 : Memref sig .tc .vmem S2x256x256 .f32)
    (harg14 : arg14.IsWhole) (arg15 : Memref sig .tc .vmem S2x256x256 .bf16) (harg15 : arg15.IsWhole) (arg1 : BitVec 32) (v4 : FVec Ideal
    S256x128 .bf16) (v6 : FVec Ideal S256x128 .bf16) (v8 : FVec Ideal S256x128 .bf16) (v10 : FVec Ideal S256x128 .bf16) (v12 : FVec Ideal
    S256x384 .bf16) (v13 : FVec Ideal S256x128 .f32) (v14 : BitVec 32) (v26 : FVec Ideal S256x256 .bf16) (X_arg3 : BufTy.Contents (Elt Ideal)
    arg3.view.ty) (X_arg4 : BufTy.Contents (Elt Ideal) arg4.view.ty) (X_arg5 : BufTy.Contents (Elt Ideal) arg5.view.ty) (X_arg6 : BufTy.Contents
    (Elt Ideal) arg6.view.ty) (G_arg12 : BufTy.Contents (Elt Ideal) arg12.view.ty) (G_arg13 : BufTy.Contents (Elt Ideal) arg13.view.ty) (G_arg14
    : BufTy.Contents (Elt Ideal) arg14.view.ty) (G_arg15 : BufTy.Contents (Elt Ideal) arg15.view.ty) (init : FVec Ideal S256x128 .f32 × FVec
    Ideal S256x128 .f32 × FVec Ideal S256x128 .f32 × FVec Ideal S256x128 .f32)
    (b : Blk) (Y Y' : ℕ → ℕ → EReal)
    (hli : ∀ k l, v12 (ix2 k l) = upto k l)
    (hq0 : ∀ (t : Fin 256) (d : Fin 128), v4 (ix2 t d) = b.Q t (128 * 0 + d))
    (hq1 : ∀ (t : Fin 256) (d : Fin 128), v6 (ix2 t d) = b.Q t (128 * 1 + d))
    (ho0 : ∀ (t : Fin 256) (d : Fin 128), v8 (ix2 t d) = b.O t (128 * 0 + d))
    (ho1 : ∀ (t : Fin 256) (d : Fin 128), v10 (ix2 t d) = b.O t (128 * 1 + d))
    (h3 : ∀ (s : Fin 4096) (d : Fin 256), arg3.view.read (Elt Ideal) X_arg3 (ix2 s d) = b.K s d)
    (h4 : ∀ (s : Fin 4096) (d : Fin 256), arg4.view.read (Elt Ideal) X_arg4 (ix2 s d) = b.V s d)
    (h5 : ∀ (h : Fin 2) (j : Fin 16) (t s : Fin 256), arg5.view.read (Elt Ideal) X_arg5 (ix5 h 0 j t s) = b.A h t (256 * j + s))
    (h6 : ∀ (h : Fin 2) (j : Fin 16) (t s : Fin 256), arg6.view.read (Elt Ideal) X_arg6 (ix5 h 0 j t s) = b.B h t (256 * j + s))
    (h0 : Inv b Y Y' 0 init (arg12.view.read (Elt Ideal) G_arg12) (arg13.view.read (Elt Ideal) G_arg13)
      (arg14.view.read (Elt Ideal) G_arg14) (arg15.view.read (Elt Ideal) G_arg15)) (n : ℕ) (hn : n ≤ (k0_t1_loop i).trips) :
    Inv b Y Y' n
      (st_k0_t1 (F := Ideal) 𝒱 c bd i arg2 harg2 arg3 harg3 arg4 harg4 arg5 harg5 arg6 harg6 arg7 harg7 arg8 harg8 arg9 harg9 arg10 harg10 arg11
      harg11 arg12 harg12 arg13 harg13 arg14 harg14 arg15 harg15 arg1 v4 v6 v8 v10 v12 v13 v14 v26 X_arg3 X_arg4 X_arg5 X_arg6 G_arg12 G_arg13
      G_arg14 G_arg15 init n).1
      (arg12.view.read (Elt Ideal) (arg12.view.writes (Elt Ideal) G_arg12 (st_k0_t1 (F := Ideal) 𝒱 c bd i arg2 harg2 arg3 harg3 arg4 harg4 arg5 harg5 arg6 harg6 arg7 harg7 arg8 harg8 arg9 harg9 arg10 harg10 arg11
      harg11 arg12 harg12 arg13 harg13 arg14 harg14 arg15 harg15 arg1 v4 v6 v8 v10 v12 v13 v14 v26 X_arg3 X_arg4 X_arg5 X_arg6 G_arg12 G_arg13
      G_arg14 G_arg15 init n).2.1))
      (arg13.view.read (Elt Ideal) (arg13.view.writes (Elt Ideal) G_arg13 (st_k0_t1 (F := Ideal) 𝒱 c bd i arg2 harg2 arg3 harg3 arg4 harg4 arg5 harg5 arg6 harg6 arg7 harg7 arg8 harg8 arg9 harg9 arg10 harg10 arg11
      harg11 arg12 harg12 arg13 harg13 arg14 harg14 arg15 harg15 arg1 v4 v6 v8 v10 v12 v13 v14 v26 X_arg3 X_arg4 X_arg5 X_arg6 G_arg12 G_arg13
      G_arg14 G_arg15 init n).2.2.1))
      (arg14.view.read (Elt Ideal) (arg14.view.writes (Elt Ideal) G_arg14 (st_k0_t1 (F := Ideal) 𝒱 c bd i arg2 harg2 arg3 harg3 arg4 harg4 arg5 harg5 arg6 harg6 arg7 harg7 arg8 harg8 arg9 harg9 arg10 harg10 arg11
      harg11 arg12 harg12 arg13 harg13 arg14 harg14 arg15 harg15 arg1 v4 v6 v8 v10 v12 v13 v14 v26 X_arg3 X_arg4 X_arg5 X_arg6 G_arg12 G_arg13
      G_arg14 G_arg15 init n).2.2.2.1))
      (arg15.view.read (Elt Ideal) (arg15.view.writes (Elt Ideal) G_arg15 (st_k0_t1 (F := Ideal) 𝒱 c bd i arg2 harg2 arg3 harg3 arg4 harg4 arg5 harg5 arg6 harg6 arg7 harg7 arg8 harg8 arg9 harg9 arg10 harg10 arg11
      harg11 arg12 harg12 arg13 harg13 arg14 harg14 arg15 harg15 arg1 v4 v6 v8 v10 v12 v13 v14 v26 X_arg3 X_arg4 X_arg5 X_arg6 G_arg12 G_arg13
      G_arg14 G_arg15 init n).2.2.2.2)) := by
  induction n with
  | zero => rw [st_k0_t1_zero]; exact h0
  | succ n ih =>
    have hI := ih (by omega)
    have hk : n < (k0_t1_loop i).trips := hn
    rw [st_k0_t1_succ _ _ _ _ _ _ _ _ _ _ _ _ _ _ _ _ _ _ _ _ _ _ _ _ _ _ _ _ _ _ _ _ _ _ _ _ _ _ _ _ _ _ _ _ _ _ _ _ _ _ ⟨n, hk⟩]
    simp only [View.writes_append]
    revert hI
    generalize (st_k0_t1 (F := Ideal) 𝒱 c bd i arg2 harg2 arg3 harg3 arg4 harg4 arg5 harg5 arg6 harg6 arg7 harg7 arg8 harg8 arg9 harg9 arg10 harg10 arg11
      harg11 arg12 harg12 arg13 harg13 arg14 harg14 arg15 harg15 arg1 v4 v6 v8 v10 v12 v13 v14 v26 X_arg3 X_arg4 X_arg5 X_arg6 G_arg12 G_arg13
      G_arg14 G_arg15 init n) = St
    generalize hf12 : arg12.view.writes (Elt Ideal) G_arg12 St.2.1 = f12
    generalize hf13 : arg13.view.writes (Elt Ideal) G_arg13 St.2.2.1 = f13
    generalize hf14 : arg14.view.writes (Elt Ideal) G_arg14 St.2.2.2.1 = f14
    generalize hf15 : arg15.view.writes (Elt Ideal) G_arg15 St.2.2.2.2 = f15
    generalize St.1 = acc
    clear hf12 hf13 hf14 hf15 h0 ih St
    intro hI
    have o1 := k0_off1_eq i ⟨n, hk⟩
    have o2 := k0_off2_eq i ⟨n, hk⟩
    have o3 := k0_off3_eq i ⟨n, hk⟩
    have o4 := k0_off4_eq i ⟨n, hk⟩
    have o5 := k0_off5_eq i ⟨n, hk⟩
    have o6 := k0_off6_eq i ⟨n, hk⟩
    have o7 := k0_off7_eq i ⟨n, hk⟩
    have o8 := k0_off8_eq i ⟨n, hk⟩
    have b0 := load5 arg6.view X_arg6 (k0_off2_inb i ⟨n, hk⟩) 0 n o2 b.B h6
    have b1 := load5 arg6.view X_arg6 (k0_off4_inb i ⟨n, hk⟩) 1 n o4 b.B h6
    have g0 := load3 arg14.view f14 inb_S2x256x256_S1x256x256_0_0_0 0 0 0 rfl (fun h t s => b.G h t (256 * n + s)) hI.g
    have g1 := load3 arg14.view f14 inb_S2x256x256_S1x256x256_1_0_0 1 0 0 rfl (fun h t s => b.G h t (256 * n + s)) hI.g
    have e0 := load3 arg15.view f15 inb_S2x256x256_S1x256x256_0_0_0 0 0 0 rfl (fun h t s => b.G h t (256 * n + s)) hI.g'
    have e1 := load3 arg15.view f15 inb_S2x256x256_S1x256x256_1_0_0 1 0 0 rfl (fun h t s => b.G h t (256 * n + s)) hI.g'
    simp only [Nat.zero_add] at g0 g1 e0 e1
    have z0 := head_z b 0 (256 * n) v12 acc.2.1 _ _ _ hli hI.run0 e0 g0 b0
    have z1 := head_z b 1 (256 * n) v12 acc.2.2.2 _ _ _ hli hI.run1 e1 g1 b1
    have k0 := load2 arg3.view X_arg3 (k0_off1_inb i ⟨n, hk⟩) (256 * n) 0 o1 b.K h3
    have k1 := load2 arg3.view X_arg3 (k0_off3_inb i ⟨n, hk⟩) (256 * n) 128 o3 b.K h3
    have next : 256 * (n + 1) = 256 * n + 256 := by omega
    refine ⟨fun t d => ?_, fun t l => ?_, fun t d => ?_, fun t l => ?_, fun s c => ?_, fun s c => ?_, fun h t s => ?_, fun h t s => ?_⟩
    · rw [next]
      unfold tripR_k0_t1 trip_k0_t1
      exact head_dq b 0 (256 * n) acc.1 _ _ z0 hI.dq0 k0 t d
    · rw [next]
      unfold tripR_k0_t1 trip_k0_t1
      exact head_run b 0 (256 * n) v12 acc.2.1 _ hli hI.run0 e0 t l
    · rw [next]
      unfold tripR_k0_t1 trip_k0_t1
      exact head_dq b 1 (256 * n) acc.2.2.1 _ _ z1 hI.dq1 k1 t d
    · rw [next]
      unfold tripR_k0_t1 trip_k0_t1
      exact head_run b 1 (256 * n) v12 acc.2.2.2 _ hli hI.run1 e1 t l
    · have r0 := load2 arg12.view f12 (k0_off1_inb i ⟨n, hk⟩) (256 * n) 0 o1 _ hI.dk
      have r1 := load2 arg12.view f12 (k0_off3_inb i ⟨n, hk⟩) (256 * n) 128 o3 _ hI.dk
      simp only [after, if_neg (Nat.not_lt.2 (Nat.le_add_right (256 * n) _))] at r0 r1
      have d0 := head_dk b 0 (256 * n) v12 acc.2.1 _ _ _ v4 _ Y z0 r0 hq0
      have d1 := head_dk b 1 (256 * n) v12 acc.2.2.2 _ _ _ v6 _ Y z1 r1 hq1
      simp only [Nat.mul_zero, Nat.zero_add] at d0
      unfold trip_k0_t1
      refine (halves arg12.view f12 [] (k0_off1_inb i ⟨n, hk⟩) (k0_off3_inb i ⟨n, hk⟩) _ _ (256 * n) o1 o3 _
        (fun s c => Y s c + b.dk s c) hI.dk ?_ ?_ s c).trans (after_step Y b.dk n s c)
      · exact d0
      · exact d1
    · have r0 := load2 arg13.view f13 (k0_off1_inb i ⟨n, hk⟩) (256 * n) 0 o1 _ hI.dv
      have r1 := load2 arg13.view f13 (k0_off3_inb i ⟨n, hk⟩) (256 * n) 128 o3 _ hI.dv
      have a0 := load5 arg5.view X_arg5 (k0_off2_inb i ⟨n, hk⟩) 0 n o2 b.A h5
      have a1 := load5 arg5.view X_arg5 (k0_off4_inb i ⟨n, hk⟩) 1 n o4 b.A h5
      simp only [after, if_neg (Nat.not_lt.2 (Nat.le_add_right (256 * n) _))] at r0 r1
      have d0 := head_dv b 0 (256 * n) v8 _ _ Y' r0 ho0 a0
      have d1 := head_dv' b 1 (256 * n) v10 _ _ Y' r1 ho1 a1
      simp only [Nat.mul_zero, Nat.zero_add] at d0
      unfold trip_k0_t1
      refine (halves arg13.view f13 [] (k0_off1_inb i ⟨n, hk⟩) (k0_off3_inb i ⟨n, hk⟩) _ _ (256 * n) o1 o3 _
        (fun s c => Y' s c + b.dv s c) hI.dv ?_ ?_ s c).trans (after_step Y' b.dv n s c)
      · exact d0
      · exact d1
    · have a0 := load5 arg5.view X_arg5 (k0_off6_inb i ⟨n, hk⟩) 0 (n + 1) o6 b.A h5
      have a1 := load5 arg5.view X_arg5 (k0_off8_inb i ⟨n, hk⟩) 1 (n + 1) o8 b.A h5
      have w0 := load2 arg4.view X_arg4 (k0_off5_inb i ⟨n, hk⟩) (256 * n + 256) 0 o5 b.V h4
      have w1 := load2 arg4.view X_arg4 (k0_off7_inb i ⟨n, hk⟩) (256 * n + 256) 128 o7 b.V h4
      have d0 := head_g b 0 (256 * (n + 1)) v8 _ _ ho0 w0 a0
      have d1 := head_g b 1 (256 * (n + 1)) v10 _ _ ho1 w1 a1
      unfold trip_k0_t1
      exact tiles arg14.view f14 [] _ _ _ _ (fun h t s => b.G h t (256 * (n + 1) + s))
        d0 d1 h t s
    · have a0 := load5 arg5.view X_arg5 (k0_off6_inb i ⟨n, hk⟩) 0 (n + 1) o6 b.A h5
      have a1 := load5 arg5.view X_arg5 (k0_off8_inb i ⟨n, hk⟩) 1 (n + 1) o8 b.A h5
      have w0 := load2 arg4.view X_arg4 (k0_off5_inb i ⟨n, hk⟩) (256 * n + 256) 0 o5 b.V h4
      have w1 := load2 arg4.view X_arg4 (k0_off7_inb i ⟨n, hk⟩) (256 * n + 256) 128 o7 b.V h4
      have d0 := head_g b 0 (256 * (n + 1)) v8 _ _ ho0 w0 a0
      have d1 := head_g b 1 (256 * (n + 1)) v10 _ _ ho1 w1 a1
      unfold trip_k0_t1
      exact tiles arg15.view f15 [] _ _ _ _ (fun h t s => b.G h t (256 * (n + 1) + s))
        d0 d1 h t s

end Cert.Aw
-- ==== Proof.Diag.lean ====
/- The diagonal block of the attention's gradient kernel: only the columns before a row count there. -/
module

public import proofs.«01_k».proof.Proof.Trip

@[expose] public section

set_option maxRecDepth 16384

noncomputable section

namespace Cert.Aw

open Idealize.ShloMosaic Cert.KernelIdeal Cert.KernelIdeal.Gen

namespace Blk

variable (b : Blk)

/-- The gradient of the scaled scores of row block `n`: zero from the diagonal on. -/
def M (n h t s : ℕ) : EReal := if s < 256 * n + t then b.Z h t s else 0

/-- The gradient of the queries of row block `n`. -/
def fq (n h t d : ℕ) : EReal := ∑ s ∈ Finset.range (256 * n + 256), b.M n h t s * b.K s (128 * h + d)

/-- Row block `n`'s share of the gradient of the keys. -/
def fk (n s c : ℕ) : EReal := ∑ t ∈ Finset.range 256, b.M n (c / 128) t s * b.Q t c

theorem M_left (n h t s : ℕ) (hs : s < 256 * n) : b.M n h t s = b.Z h t s := if_pos (by omega)

theorem fk_left (n s c : ℕ) (hs : s < 256 * n) : b.fk n s c = b.dk s c :=
  Finset.sum_congr rfl fun t _ => by rw [M_left b n (c / 128) t s hs]

end Blk

theorem pay69_at (q : FVec Ideal S256x128 .bf16) (run : FVec Ideal S256x128 .f32) (m : IVec S256x256 1) (x : FVec Ideal S256x384 .f32)
    (g' : FVec Ideal S1x256x256 .f32) (bb : FVec Ideal S1x1x1x256x256 .bf16) (acc : FVec Ideal S256x128 .f32) (s : Fin 256) (d : Fin 128) :
    k0_pay69 q run m x g' bb acc (ix2 s d)
      = acc (ix2 s d) + ∑ t : Fin 256, k0_pay68 run m x g' bb (ix2 t s) * q (ix2 t d) := by
  pointwise [k0_pay69]

theorem pay71_at (acc run : FVec Ideal S256x128 .f32) (m : IVec S256x256 1) (kk : FVec Ideal S256x128 .bf16) (x : FVec Ideal S256x384 .f32)
    (g' : FVec Ideal S1x256x256 .f32) (bb : FVec Ideal S1x1x1x256x256 .bf16) (t : Fin 256) (d : Fin 128) :
    k0_pay2 (k0_pay71 acc run m (k0_pay66 kk) x g' bb) (ix2 t d)
      = acc (ix2 t d) + ∑ s : Fin 256, k0_pay68 run m x g' bb (ix2 t s) * kk (ix2 s d) := by
  pointwise [k0_pay2, k0_pay71, k0_pay66]

section Head

variable (b : Blk) (h n : ℕ) (li : FVec Ideal S256x384 .bf16) (run : FVec Ideal S256x128 .f32)
  (g : FVec Ideal S1x256x256 .bf16) (g' : FVec Ideal S1x256x256 .f32) (bb : FVec Ideal S1x1x1x256x256 .bf16)

theorem diag_z (hli : ∀ k l, li (ix2 k l) = upto k l) (hrun : ∀ (t : Fin 256) l, run (ix2 t l) = b.run h (256 * n) t)
    (hg : ∀ t s : Fin 256, g (ix3 0 t s) = b.G h t (256 * n + s)) (hg' : ∀ t s : Fin 256, g' (ix3 0 t s) = b.G h t (256 * n + s))
    (hb : ∀ t s : Fin 256, bb (ix5 0 0 0 t s) = b.B h t (256 * n + s)) (t s : Fin 256) :
    k0_pay68 run k0_pay65 (k0_pay67 li g) g' bb (ix2 t s) = b.M n h t (256 * n + s) := by
  rw [pay68_at, Blk.M, head_z b h (256 * n) li run g g' bb hli hrun hg hg' hb]
  by_cases hs : (s : ℕ) < t
  · rw [if_pos hs, if_pos (by omega)]
  · rw [if_neg hs, if_neg (by omega)]

theorem diag_dq (acc : FVec Ideal S256x128 .f32) (kk : FVec Ideal S256x128 .bf16)
    (hz : ∀ t s : Fin 256, k0_pay68 run k0_pay65 (k0_pay67 li g) g' bb (ix2 t s) = b.M n h t (256 * n + s))
    (hacc : ∀ (t : Fin 256) (d : Fin 128), acc (ix2 t d) = b.dq h (256 * n) t d)
    (hk : ∀ (s : Fin 256) (d : Fin 128), kk (ix2 s d) = b.K (256 * n + s) (128 * h + d)) (t : Fin 256) (d : Fin 128) :
    k0_pay2 (k0_pay71 acc run k0_pay65 (k0_pay66 kk) (k0_pay67 li g) g' bb) (ix2 t d) = b.fq n h t d := by
  rw [pay71_at, hacc, Blk.dq, Blk.fq, Finset.sum_range_add, Finset.sum_range (n := 256)]
  simp only [hz, hk]
  congr 1
  exact Finset.sum_congr rfl fun s hs => by rw [Blk.M_left b n h t s (Finset.mem_range.1 hs)]

theorem diag_dq' (acc : FVec Ideal S256x128 .f32) (kk : FVec Ideal S256x128 .bf16)
    (hz : ∀ t s : Fin 256, k0_pay68 run k0_pay65 (k0_pay67 li g) g' bb (ix2 t s) = b.M n h t (256 * n + s))
    (hacc : ∀ (t : Fin 256) (d : Fin 128), acc (ix2 t d) = b.dq h (256 * n) t d)
    (hk : ∀ (s : Fin 256) (d : Fin 128), kk (ix2 s d) = b.K (256 * n + s) (128 * h + d)) (t : Fin 256) (d : Fin 128) :
    k0_pay3 acc (k0_pay72 kk) (k0_pay73 li run k0_pay65 g g' bb) (ix2 t d) = b.fq n h t d :=
  diag_dq b h n li run g g' bb acc kk hz hacc hk t d

theorem diag_dk (q : FVec Ideal S256x128 .bf16) (acc : FVec Ideal S256x128 .f32) (Y : ℕ → ℕ → EReal)
    (hz : ∀ t s : Fin 256, k0_pay68 run k0_pay65 (k0_pay67 li g) g' bb (ix2 t s) = b.M n h t (256 * n + s))
    (hacc : ∀ (s : Fin 256) (d : Fin 128), acc (ix2 s d) = Y (256 * n + s) (128 * h + d))
    (hq : ∀ (t : Fin 256) (d : Fin 128), q (ix2 t d) = b.Q t (128 * h + d)) (s : Fin 256) (d : Fin 128) :
    k0_pay69 q run k0_pay65 (k0_pay67 li g) g' bb acc (ix2 s d)
      = Y (256 * n + s) (128 * h + d) + b.fk n (256 * n + s) (128 * h + d) := by
  rw [pay69_at, hacc, Blk.fk, Finset.sum_range (n := 256), show (128 * h + (d : ℕ)) / 128 = h by omega]
  simp only [hz, hq]

theorem diag_dk' (q : FVec Ideal S256x128 .bf16) (acc : FVec Ideal S256x128 .f32) (Y : ℕ → ℕ → EReal)
    (hz : ∀ t s : Fin 256, k0_pay68 run k0_pay65 (k0_pay67 li g) g' bb (ix2 t s) = b.M n h t (256 * n + s))
    (hacc : ∀ (s : Fin 256) (d : Fin 128), acc (ix2 s d) = Y (256 * n + s) (128 * h + d))
    (hq : ∀ (t : Fin 256) (d : Fin 128), q (ix2 t d) = b.Q t (128 * h + d)) (s : Fin 256) (d : Fin 128) :
    k0_pay74 q li run k0_pay65 g g' bb acc (ix2 s d)
      = Y (256 * n + s) (128 * h + d) + b.fk n (256 * n + s) (128 * h + d) :=
  diag_dk b h n li run g g' bb q acc Y hz hacc hq s d

theorem diag_dv (o : FVec Ideal S256x128 .bf16) (acc : FVec Ideal S256x128 .f32) (a : FVec Ideal S1x1x1x256x256 .bf16)
    (Y : ℕ → ℕ → EReal) (hacc : ∀ (s : Fin 256) (d : Fin 128), acc (ix2 s d) = Y (n + s) (128 * h + d))
    (ho : ∀ (t : Fin 256) (d : Fin 128), o (ix2 t d) = b.O t (128 * h + d))
    (ha : ∀ t s : Fin 256, a (ix5 0 0 0 t s) = b.A h t (n + s)) (s : Fin 256) (d : Fin 128) :
    k0_pay70 o acc a (ix2 s d) = Y (n + s) (128 * h + d) + b.dv (n + s) (128 * h + d) :=
  head_dv b h n o acc a Y hacc ho ha s d

theorem diag_dv' (o : FVec Ideal S256x128 .bf16) (acc : FVec Ideal S256x128 .f32) (a : FVec Ideal S1x1x1x256x256 .bf16)
    (Y : ℕ → ℕ → EReal) (hacc : ∀ (s : Fin 256) (d : Fin 128), acc (ix2 s d) = Y (n + s) (128 * h + d))
    (ho : ∀ (t : Fin 256) (d : Fin 128), o (ix2 t d) = b.O t (128 * h + d))
    (ha : ∀ t s : Fin 256, a (ix5 0 0 0 t s) = b.A h t (n + s)) (s : Fin 256) (d : Fin 128) :
    k0_pay1 o acc (k0_pay75 a) (ix2 s d) = Y (n + s) (128 * h + d) + b.dv (n + s) (128 * h + d) :=
  head_dv b h n o acc a Y hacc ho ha s d

end Head

section Views

variable {sg : RefSig} {κ : Kind} {sp : Space} {e : EltTy} {Val : EltTy → Type}

/-- A load of the right half of the columns does not see a store in the left half. -/
theorem load_right (v : View sg κ sp S4096x256 e) (f : v.ty.Contents Val) (L : List (View.Piece Val S4096x256 e)) {off₀ off₁ : Fin 2 → ℕ}
    (inb₀ : ∀ x : Fin 2, off₀ x + S256x128.size x ≤ S4096x256.size x) (inb₁ : ∀ x : Fin 2, off₁ x + S256x128.size x ≤ S4096x256.size x)
    (w₀ : S256x128.Idx → Val e) (n : ℕ) (h₀ : off₀ = ![n, 0]) (h₁ : off₁ = ![n, 128]) (X : ℕ → ℕ → Val e)
    (hf : ∀ (r : Fin 4096) (d : Fin 256), v.read Val (v.writes Val f L) (ix2 r d) = X r d) (r : Fin 256) (d : Fin 128) :
    View.readAt Val v (Rect.unit (s := S4096x256) off₁ S256x128.size inb₁).toLoadRect
        (v.writes Val f (⟨Rect.unit (s := S4096x256) off₀ S256x128.size inb₀, w₀⟩ :: L)) (ix2 r d) = X (n + r) (128 + d) := by
  rw [← load2 v (v.writes Val f L) inb₁ n 128 h₁ X hf r d]
  subst h₀ h₁
  exact View.read_writes_cons_unit_of_not_mem v f inb₀ w₀ L _ rfl 1 (Or.inr (by show 0 + 128 ≤ 128 + 1 * (d : ℕ); omega))

/-- Two stores that fill a square block, half of the columns each. -/
theorem square (v : View sg κ sp S256x256 e) (f : v.ty.Contents Val) (L : List (View.Piece Val S256x256 e))
    (inb₀ : ∀ x : Fin 2, (![0, 0] : Fin 2 → ℕ) x + S256x128.size x ≤ S256x256.size x)
    (inb₁ : ∀ x : Fin 2, (![0, 128] : Fin 2 → ℕ) x + S256x128.size x ≤ S256x256.size x)
    (w₀ w₁ : S256x128.Idx → Val e) (W : ℕ → ℕ → ℕ → Val e)
    (hw₀ : ∀ (r : Fin 256) (d : Fin 128), w₀ (ix2 r d) = W 0 r d)
    (hw₁ : ∀ (r : Fin 256) (d : Fin 128), w₁ (ix2 r d) = W 1 r d) (r d : Fin 256) :
    v.read Val (v.writes Val f (⟨Rect.unit (s := S256x256) ![0, 128] S256x128.size inb₁, w₁⟩
        :: ⟨Rect.unit (s := S256x256) ![0, 0] S256x128.size inb₀, w₀⟩ :: L)) (ix2 r d) = W (d / 128) r (d % 128) := by
  have hd := d.isLt
  by_cases hc : (d : ℕ) < 128
  · rw [View.read_writes_cons_unit_of_not_mem v f inb₁ w₁ _ (ix2 r d) rfl 1 (Or.inl (by show (d : ℕ) < 128; omega)),
      View.read_writes_cons_unit_of_mem v f inb₀ w₀ _ (ix2 r d) (ix2 r ⟨d, hc⟩) rfl, Nat.div_eq_of_lt hc, Nat.mod_eq_of_lt hc]
    · exact hw₀ r ⟨d, hc⟩
    · intro a
      match a with
      | 0 => show (r : ℕ) = 0 + r; omega
      | 1 => show (d : ℕ) = 0 + d; omega
  · rw [View.read_writes_cons_unit_of_mem v f inb₁ w₁ _ (ix2 r d) (ix2 r ⟨d - 128, by omega⟩) rfl,
      show (d : ℕ) / 128 = 1 by omega, show (d : ℕ) % 128 = d - 128 by omega]
    · exact hw₁ r ⟨d - 128, by omega⟩
    · intro a
      match a with
      | 0 => show (r : ℕ) = 0 + r; omega
      | 1 => show (d : ℕ) = 128 + (d - 128); omega

end Views

/-- The keys' gradient after the diagonal block. -/
theorem after_diag (b : Blk) (Y : ℕ → ℕ → EReal) (n s c : ℕ) :
    (if 256 * n ≤ s ∧ s < 256 * n + 256 then Y s c + b.fk n s c else after Y b.dk (256 * n) s c)
      = after Y (b.fk n) (256 * n + 256) s c := by
  unfold after
  by_cases h1 : s < 256 * n
  · rw [if_neg (by omega), if_pos h1, if_pos (by omega), Blk.fk_left b n s c h1]
  · by_cases h2 : s < 256 * n + 256
    · rw [if_pos (by omega), if_pos (by omega)]
    · rw [if_neg (by omega), if_neg (by omega), if_neg (by omega)]

end Cert.Aw
-- ==== Proof.Step.lean ====
/- One row block of the attention's gradient kernel, once the loop over the column blocks before the diagonal has ended. -/
module

public import proofs.«01_k».proof.Proof.Diag

@[expose] public section

set_option maxRecDepth 16384

noncomputable section

namespace Cert.Aw

open Idealize.ShloMosaic Cert.KernelIdeal Cert.KernelIdeal.Gen

/-- The loop runs over the column blocks before the diagonal one. -/
theorem trips_t1 : ∀ i : grid0.Coords, (k0_t1_loop i).trips = (i 1).val := by decide +kernel

/-- The loop for the last blocks that do not fill a group is never entered. -/
theorem trips_t2 (i : grid0.Coords) : (k0_t2_loop i).trips = 0 := Nat.le_zero.1 (k0_t2_abs i).2.1

theorem pay44_at (x : FVec Ideal S256x128 .bf16) (t : Fin 256) (d : Fin 128) : k0_pay44 x (ix2 t d) = x (ix2 t d) := by
  pointwise [k0_pay44]

theorem pay45_at (x : FVec Ideal S256x128 .bf16) (t : Fin 256) (d : Fin 128) : k0_pay45 x (ix2 t d) = x (ix2 t d) := by
  pointwise [k0_pay45]

theorem pay46_at (x : FVec Ideal S256x128 .f32) (t : Fin 256) (d : Fin 128) : (k0_pay46 (F := Ideal) x (ix2 t d) : EReal) = x (ix2 t d) := by
  pointwise [k0_pay46]

theorem pay47_at (x : FVec Ideal S256x128 .f32) (t : Fin 256) (d : Fin 128) : (k0_pay47 (F := Ideal) x (ix2 t d) : EReal) = x (ix2 t d) := by
  pointwise [k0_pay47]

theorem pay48_at (x : FVec Ideal S256x384 .bf16) (k : Fin 256) (l : Fin 384) : k0_pay48 x (ix2 k l) = x (ix2 k l) := by
  pointwise [k0_pay48]

theorem pay49_at (t : Fin 256) (d : Fin 128) : (k0_pay49 : FVec Ideal S256x128 .f32) (ix2 t d) = 0 := by
  pointwise [k0_pay49]

theorem pay42_at (s : Fin 4096) (d : Fin 256) : (k0_pay42 : FVec Ideal S4096x256 .f32) (ix2 s d) = 0 := by
  pointwise [k0_pay42]

theorem pay43_at (s : Fin 4096) (d : Fin 256) : (k0_pay43 : FVec Ideal S4096x256 .f32) (ix2 s d) = 0 := by
  pointwise [k0_pay43]

theorem pay4_at (x : FVec Ideal S4096x256 .f32) (s : Fin 4096) (d : Fin 256) : (k0_pay4 (F := Ideal) x (ix2 s d) : EReal) = x (ix2 s d) := by
  pointwise [k0_pay4]

theorem pay5_at (x : FVec Ideal S4096x256 .f32) (s : Fin 4096) (d : Fin 256) : (k0_pay5 (F := Ideal) x (ix2 s d) : EReal) = x (ix2 s d) := by
  pointwise [k0_pay5]

/-- A store of the whole block leaves the stored values. -/
theorem whole {sg : RefSig} {κ : Kind} {sp : Space} {e : EltTy} {Val : EltTy → Type} (v : View sg κ sp S4096x256 e) (f : v.ty.Contents Val)
    (L : List (View.Piece Val S4096x256 e)) (inb : ∀ x : Fin 2, (![0, 0] : Fin 2 → ℕ) x + S4096x256.size x ≤ S4096x256.size x)
    (w : S4096x256.Idx → Val e) (s : Fin 4096) (d : Fin 256) :
    v.read Val (v.writes Val f (⟨Rect.unit (s := S4096x256) ![0, 0] S4096x256.size inb, w⟩ :: L)) (ix2 s d) = w (ix2 s d) :=
  View.read_writes_cons_unit_of_mem v f inb w L (ix2 s d) (ix2 s d) rfl (by
    intro a
    match a with
    | 0 => show (s : ℕ) = 0 + s; omega
    | 1 => show (d : ℕ) = 0 + d; omega)

/-- The first body of a pair of heads clears the two running sums. -/
theorem cleared0 (arg12 : Memref sig .tc .vmem S4096x256 .f32) (s : Fin 4096) (d : Fin 256) :
    arg12.view.read (Elt Ideal) (arg12.view.writes (Elt Ideal) arg12.view.junk
      [⟨Rect.unit (s := S4096x256) ![0, 0] S4096x256.size inb_S4096x256_S4096x256_0_0, k0_pay42 (F := Ideal)⟩]) (ix2 s d) = (0 : EReal) := by
  have h := whole (Val := Elt Ideal) arg12.view arg12.view.junk [] inb_S4096x256_S4096x256_0_0 (k0_pay42 (F := Ideal)) s d
  rw [pay42_at] at h
  exact h

theorem cleared1 (arg13 : Memref sig .tc .vmem S4096x256 .f32) (s : Fin 4096) (d : Fin 256) :
    arg13.view.read (Elt Ideal) (arg13.view.writes (Elt Ideal) arg13.view.junk
      [⟨Rect.unit (s := S4096x256) ![0, 0] S4096x256.size inb_S4096x256_S4096x256_0_0, k0_pay43 (F := Ideal)⟩]) (ix2 s d) = (0 : EReal) := by
  have h := whole (Val := Elt Ideal) arg13.view arg13.view.junk [] inb_S4096x256_S4096x256_0_0 (k0_pay43 (F := Ideal)) s d
  rw [pay43_at] at h
  exact h

section Step

variable (i : grid0.Coords) (arg3 : Memref sig .tc .vmem S4096x256 .bf16) (arg5 arg6 : Memref sig .tc .vmem S2x1x16x256x256 .bf16)
  (arg12 arg13 : Memref sig .tc .vmem S4096x256 .f32) (arg14 : Memref sig .tc .vmem S2x256x256 .f32)
  (arg15 : Memref sig .tc .vmem S2x256x256 .bf16)
  (X3 : BufTy.Contents (Elt Ideal) arg3.view.ty) (X5 : BufTy.Contents (Elt Ideal) arg5.view.ty)
  (X6 : BufTy.Contents (Elt Ideal) arg6.view.ty) (X12 : BufTy.Contents (Elt Ideal) arg12.view.ty)
  (X13 : BufTy.Contents (Elt Ideal) arg13.view.ty) (X14 : BufTy.Contents (Elt Ideal) arg14.view.ty)
  (X15 : BufTy.Contents (Elt Ideal) arg15.view.ty)
  (L12 L13 : List (View.Piece (Elt Ideal) S4096x256 .f32))
  (p : FVec Ideal S256x128 .f32 × FVec Ideal S256x128 .f32 × FVec Ideal S256x128 .f32 × FVec Ideal S256x128 .f32)
  (q0 q1 o0 o1 : FVec Ideal S256x128 .bf16) (li : FVec Ideal S256x384 .bf16) (b : Blk) (Y Y' : ℕ → ℕ → EReal)
  (hli : ∀ k l, li (ix2 k l) = upto k l)
  (hq0 : ∀ (t : Fin 256) (d : Fin 128), q0 (ix2 t d) = b.Q t (128 * 0 + d))
  (hq1 : ∀ (t : Fin 256) (d : Fin 128), q1 (ix2 t d) = b.Q t (128 * 1 + d))
  (ho0 : ∀ (t : Fin 256) (d : Fin 128), o0 (ix2 t d) = b.O t (128 * 0 + d))
  (ho1 : ∀ (t : Fin 256) (d : Fin 128), o1 (ix2 t d) = b.O t (128 * 1 + d))
  (h3 : ∀ (s : Fin 4096) (d : Fin 256), arg3.view.read (Elt Ideal) X3 (ix2 s d) = b.K s d)
  (h5 : ∀ (h : Fin 2) (j : Fin 16) (t s : Fin 256), arg5.view.read (Elt Ideal) X5 (ix5 h 0 j t s) = b.A h t (256 * j + s))
  (h6 : ∀ (h : Fin 2) (j : Fin 16) (t s : Fin 256), arg6.view.read (Elt Ideal) X6 (ix5 h 0 j t s) = b.B h t (256 * j + s))
  (hI : Inv b Y Y' (i 1).val p (arg12.view.read (Elt Ideal) (arg12.view.writes (Elt Ideal) X12 L12))
    (arg13.view.read (Elt Ideal) (arg13.view.writes (Elt Ideal) X13 L13)) (arg14.view.read (Elt Ideal) X14)
    (arg15.view.read (Elt Ideal) X15))

include hli h6 hI

theorem masked0 (t s : Fin 256) :
    k0_pay68 p.2.1 k0_pay65
      (k0_pay67 li (View.readAt (Elt Ideal) arg15.view (Rect.unit (s := S2x256x256) ![0, 0, 0] S1x256x256.size inb_S2x256x256_S1x256x256_0_0_0).toLoadRect X15))
      (View.readAt (Elt Ideal) arg14.view (Rect.unit (s := S2x256x256) ![0, 0, 0] S1x256x256.size inb_S2x256x256_S1x256x256_0_0_0).toLoadRect X14)
      (View.readAt (Elt Ideal) arg6.view (Rect.unit (s := S2x1x16x256x256) (k0_off18 i) S1x1x1x256x256.size (k0_off18_inb i)).toLoadRect X6)
      (ix2 t s) = b.M (i 1).val 0 t (256 * (i 1).val + s) := by
  have b0 := load5 arg6.view X6 (k0_off18_inb i) 0 (i 1).val (k0_off18_eq i) b.B h6
  have g0 := load3 arg14.view X14 inb_S2x256x256_S1x256x256_0_0_0 0 0 0 rfl (fun h t s => b.G h t (256 * (i 1).val + s)) hI.g
  have e0 := load3 arg15.view X15 inb_S2x256x256_S1x256x256_0_0_0 0 0 0 rfl (fun h t s => b.G h t (256 * (i 1).val + s)) hI.g'
  simp only [Nat.zero_add] at g0 e0
  exact diag_z b 0 (i 1).val li p.2.1 _ _ _ hli hI.run0 e0 g0 b0 t s

theorem masked1 (t s : Fin 256) :
    k0_pay68 p.2.2.2 k0_pay65
      (k0_pay67 li (View.readAt (Elt Ideal) arg15.view (Rect.unit (s := S2x256x256) ![1, 0, 0] S1x256x256.size inb_S2x256x256_S1x256x256_1_0_0).toLoadRect X15))
      (View.readAt (Elt Ideal) arg14.view (Rect.unit (s := S2x256x256) ![1, 0, 0] S1x256x256.size inb_S2x256x256_S1x256x256_1_0_0).toLoadRect X14)
      (View.readAt (Elt Ideal) arg6.view (Rect.unit (s := S2x1x16x256x256) (k0_off20 i) S1x1x1x256x256.size (k0_off20_inb i)).toLoadRect X6)
      (ix2 t s) = b.M (i 1).val 1 t (256 * (i 1).val + s) := by
  have b1 := load5 arg6.view X6 (k0_off20_inb i) 1 (i 1).val (k0_off20_eq i) b.B h6
  have g1 := load3 arg14.view X14 inb_S2x256x256_S1x256x256_1_0_0 1 0 0 rfl (fun h t s => b.G h t (256 * (i 1).val + s)) hI.g
  have e1 := load3 arg15.view X15 inb_S2x256x256_S1x256x256_1_0_0 1 0 0 rfl (fun h t s => b.G h t (256 * (i 1).val + s)) hI.g'
  simp only [Nat.zero_add] at g1 e1
  exact diag_z b 1 (i 1).val li p.2.2.2 _ _ _ hli hI.run1 e1 g1 b1 t s

include h3

/-- The two stores that make the queries' gradient. -/
theorem step_dq {sg : RefSig} {κ : Kind} {sp : Space} (v : View sg κ sp S256x256 .bf16) (f : v.ty.Contents (Elt Ideal)) (t c : Fin 256) :
    v.read (Elt Ideal) (v.writes (Elt Ideal) f
      [⟨Rect.unit (s := S256x256) ![0, 128] S256x128.size inb_S256x256_S256x128_0_128,
        k0_pay3 p.2.2.1
          (k0_pay72 (View.readAt (Elt Ideal) arg3.view (Rect.unit (s := S4096x256) (k0_off19 i) S256x128.size (k0_off19_inb i)).toLoadRect X3))
          (k0_pay73 li p.2.2.2 k0_pay65
            (View.readAt (Elt Ideal) arg15.view (Rect.unit (s := S2x256x256) ![1, 0, 0] S1x256x256.size inb_S2x256x256_S1x256x256_1_0_0).toLoadRect X15)
            (View.readAt (Elt Ideal) arg14.view (Rect.unit (s := S2x256x256) ![1, 0, 0] S1x256x256.size inb_S2x256x256_S1x256x256_1_0_0).toLoadRect X14)
            (View.readAt (Elt Ideal) arg6.view (Rect.unit (s := S2x1x16x256x256) (k0_off20 i) S1x1x1x256x256.size (k0_off20_inb i)).toLoadRect X6))⟩,
       ⟨Rect.unit (s := S256x256) ![0, 0] S256x128.size inb_S256x256_S256x128_0_0,
        k0_pay2 (k0_pay71 p.1 p.2.1 k0_pay65
          (k0_pay66 (View.readAt (Elt Ideal) arg3.view (Rect.unit (s := S4096x256) (k0_off17 i) S256x128.size (k0_off17_inb i)).toLoadRect X3))
          (k0_pay67 li (View.readAt (Elt Ideal) arg15.view (Rect.unit (s := S2x256x256) ![0, 0, 0] S1x256x256.size inb_S2x256x256_S1x256x256_0_0_0).toLoadRect X15))
          (View.readAt (Elt Ideal) arg14.view (Rect.unit (s := S2x256x256) ![0, 0, 0] S1x256x256.size inb_S2x256x256_S1x256x256_0_0_0).toLoadRect X14)
          (View.readAt (Elt Ideal) arg6.view (Rect.unit (s := S2x1x16x256x256) (k0_off18 i) S1x1x1x256x256.size (k0_off18_inb i)).toLoadRect X6))⟩])
      (ix2 t c) = b.fq (i 1).val (c / 128) t (c % 128) := by
  have k0 := load2 arg3.view X3 (k0_off17_inb i) (256 * (i 1).val) 0 (k0_off17_eq i) b.K h3
  have k1 := load2 arg3.view X3 (k0_off19_inb i) (256 * (i 1).val) 128 (k0_off19_eq i) b.K h3
  have z0 := masked0 i arg6 arg12 arg13 arg14 arg15 X6 X12 X13 X14 X15 L12 L13 p li b Y Y' hli h6 hI
  have z1 := masked1 i arg6 arg12 arg13 arg14 arg15 X6 X12 X13 X14 X15 L12 L13 p li b Y Y' hli h6 hI
  have d0 := diag_dq b 0 (i 1).val li p.2.1 _ _ _ p.1 _ z0 hI.dq0 k0
  have d1 := diag_dq' b 1 (i 1).val li p.2.2.2 _ _ _ p.2.2.1 _ z1 hI.dq1 k1
  exact square v f [] _ _ _ _ (fun h t d => b.fq (i 1).val h t d) d0 d1 t c

include hq0 hq1

omit h3 in
/-- The two stores that end the row block's share of the keys' gradient. -/
theorem step_dk (s : Fin 4096) (c : Fin 256) :
    let P17 : View.Piece (Elt Ideal) S4096x256 .f32 := ⟨Rect.unit (s := S4096x256) (k0_off17 i) S256x128.size (k0_off17_inb i),
      k0_pay69 q0 p.2.1 k0_pay65
          (k0_pay67 li (View.readAt (Elt Ideal) arg15.view (Rect.unit (s := S2x256x256) ![0, 0, 0] S1x256x256.size inb_S2x256x256_S1x256x256_0_0_0).toLoadRect X15))
          (View.readAt (Elt Ideal) arg14.view (Rect.unit (s := S2x256x256) ![0, 0, 0] S1x256x256.size inb_S2x256x256_S1x256x256_0_0_0).toLoadRect X14)
          (View.readAt (Elt Ideal) arg6.view (Rect.unit (s := S2x1x16x256x256) (k0_off18 i) S1x1x1x256x256.size (k0_off18_inb i)).toLoadRect X6)
          (View.readAt (Elt Ideal) arg12.view (Rect.unit (s := S4096x256) (k0_off17 i) S256x128.size (k0_off17_inb i)).toLoadRect
            (arg12.view.writes (Elt Ideal) X12 L12))⟩
    arg12.view.read (Elt Ideal) (arg12.view.writes (Elt Ideal) X12
      (⟨Rect.unit (s := S4096x256) (k0_off19 i) S256x128.size (k0_off19_inb i),
        k0_pay74 q1 li p.2.2.2 k0_pay65
            (View.readAt (Elt Ideal) arg15.view (Rect.unit (s := S2x256x256) ![1, 0, 0] S1x256x256.size inb_S2x256x256_S1x256x256_1_0_0).toLoadRect X15)
            (View.readAt (Elt Ideal) arg14.view (Rect.unit (s := S2x256x256) ![1, 0, 0] S1x256x256.size inb_S2x256x256_S1x256x256_1_0_0).toLoadRect X14)
            (View.readAt (Elt Ideal) arg6.view (Rect.unit (s := S2x1x16x256x256) (k0_off20 i) S1x1x1x256x256.size (k0_off20_inb i)).toLoadRect X6)
            (View.readAt (Elt Ideal) arg12.view (Rect.unit (s := S4096x256) (k0_off19 i) S256x128.size (k0_off19_inb i)).toLoadRect
              (arg12.view.writes (Elt Ideal) X12 (P17 :: L12)))⟩ :: P17 :: L12))
      (ix2 s c) = after Y (b.fk (i 1).val) (256 * (i 1).val + 256) s c := by
  intro P17
  have z0 := masked0 i arg6 arg12 arg13 arg14 arg15 X6 X12 X13 X14 X15 L12 L13 p li b Y Y' hli h6 hI
  have z1 := masked1 i arg6 arg12 arg13 arg14 arg15 X6 X12 X13 X14 X15 L12 L13 p li b Y Y' hli h6 hI
  have r0 := load2 arg12.view (arg12.view.writes (Elt Ideal) X12 L12) (k0_off17_inb i) (256 * (i 1).val) 0 (k0_off17_eq i) _ hI.dk
  have r1 := load_right arg12.view X12 L12 (k0_off17_inb i) (k0_off19_inb i) P17.2 (256 * (i 1).val) (k0_off17_eq i) (k0_off19_eq i) _ hI.dk
  simp only [after, if_neg (Nat.not_lt.2 (Nat.le_add_right (256 * (i 1).val) _))] at r0 r1
  have d0 := diag_dk b 0 (i 1).val li p.2.1 _ _ _ q0 _ Y z0 r0 hq0
  have d1 := diag_dk' b 1 (i 1).val li p.2.2.2 _ _ _ q1 _ Y z1 r1 hq1
  simp only [Nat.mul_zero, Nat.zero_add] at d0
  exact (halves arg12.view X12 L12 (k0_off17_inb i) (k0_off19_inb i) _ _ (256 * (i 1).val) (k0_off17_eq i) (k0_off19_eq i) _
    (fun s c => Y s c + b.fk (i 1).val s c) hI.dk d0 d1 s c).trans (after_diag b Y (i 1).val s c)

omit hli h6 h3 hq0 hq1
include h5 ho0 ho1

/-- The two stores that end the row block's share of the values' gradient. -/
theorem step_dv (s : Fin 4096) (c : Fin 256) :
    let P17 : View.Piece (Elt Ideal) S4096x256 .f32 := ⟨Rect.unit (s := S4096x256) (k0_off17 i) S256x128.size (k0_off17_inb i),
      k0_pay70 o0
          (View.readAt (Elt Ideal) arg13.view (Rect.unit (s := S4096x256) (k0_off17 i) S256x128.size (k0_off17_inb i)).toLoadRect
            (arg13.view.writes (Elt Ideal) X13 L13))
          (View.readAt (Elt Ideal) arg5.view (Rect.unit (s := S2x1x16x256x256) (k0_off18 i) S1x1x1x256x256.size (k0_off18_inb i)).toLoadRect X5)⟩
    arg13.view.read (Elt Ideal) (arg13.view.writes (Elt Ideal) X13
      (⟨Rect.unit (s := S4096x256) (k0_off19 i) S256x128.size (k0_off19_inb i),
        k0_pay1 o1
            (View.readAt (Elt Ideal) arg13.view (Rect.unit (s := S4096x256) (k0_off19 i) S256x128.size (k0_off19_inb i)).toLoadRect
              (arg13.view.writes (Elt Ideal) X13 (P17 :: L13)))
            (k0_pay75 (View.readAt (Elt Ideal) arg5.view (Rect.unit (s := S2x1x16x256x256) (k0_off20 i) S1x1x1x256x256.size (k0_off20_inb i)).toLoadRect X5))⟩
        :: P17 :: L13))
      (ix2 s c) = after Y' b.dv (256 * ((i 1).val + 1)) s c := by
  intro P17
  have a0 := load5 arg5.view X5 (k0_off18_inb i) 0 (i 1).val (k0_off18_eq i) b.A h5
  have a1 := load5 arg5.view X5 (k0_off20_inb i) 1 (i 1).val (k0_off20_eq i) b.A h5
  have r0 := load2 arg13.view (arg13.view.writes (Elt Ideal) X13 L13) (k0_off17_inb i) (256 * (i 1).val) 0 (k0_off17_eq i) _ hI.dv
  have r1 := load_right arg13.view X13 L13 (k0_off17_inb i) (k0_off19_inb i) P17.2 (256 * (i 1).val) (k0_off17_eq i) (k0_off19_eq i) _ hI.dv
  simp only [after, if_neg (Nat.not_lt.2 (Nat.le_add_right (256 * (i 1).val) _))] at r0 r1
  have d0 := diag_dv b 0 (256 * (i 1).val) o0 _ _ Y' r0 ho0 a0
  have d1 := diag_dv' b 1 (256 * (i 1).val) o1 _ _ Y' r1 ho1 a1
  simp only [Nat.mul_zero, Nat.zero_add] at d0
  exact (halves arg13.view X13 L13 (k0_off17_inb i) (k0_off19_inb i) _ _ (256 * (i 1).val) (k0_off17_eq i) (k0_off19_eq i) _
    (fun s c => Y' s c + b.dv s c) hI.dv d0 d1 s c).trans (after_step Y' b.dv (i 1).val s c)

end Step

end Cert.Aw
-- ==== Proof.Ended.lean ====
/- The three kinds of grid points of the attention's gradient kernel: the first, a middle and the last row block of a pair of heads. -/
module

public import proofs.«01_k».proof.Proof.Step
public import proofs.«01_k».proof.Proof.Gen.KernelIdeal.Frame

@[expose] public section

set_option maxRecDepth 16384

noncomputable section

namespace Cert.Aw

open Idealize.ShloMosaic Cert.KernelIdeal Cert.KernelIdeal.Gen

theorem none_t2
    (𝒱 : Variants) (c : Dev nD) (bd : Option 𝒱.V) (i : grid0.Coords) (arg2 : Memref sig .tc .vmem S256x256 .bf16) (harg2 : arg2.IsWhole) (arg3 :
    Memref sig .tc .vmem S4096x256 .bf16) (harg3 : arg3.IsWhole) (arg4 : Memref sig .tc .vmem S4096x256 .bf16) (harg4 : arg4.IsWhole) (arg5 : Memref
    sig .tc .vmem S2x1x16x256x256 .bf16) (harg5 : arg5.IsWhole) (arg6 : Memref sig .tc .vmem S2x1x16x256x256 .bf16) (harg6 : arg6.IsWhole) (arg7 :
    Memref sig .tc .vmem S256x256 .f32) (harg7 : arg7.IsWhole) (arg8 : Memref sig .tc .vmem S256x384 .bf16) (harg8 : arg8.IsWhole) (arg9 : Memref sig
    .tc .vmem S256x256 .bf16) (harg9 : arg9.IsWhole) (arg10 : Memref sig .tc .vmem S4096x256 .bf16) (harg10 : arg10.IsWhole) (arg11 : Memref sig .tc
    .vmem S4096x256 .bf16) (harg11 : arg11.IsWhole) (arg12 : Memref sig .tc .vmem S4096x256 .f32) (harg12 : arg12.IsWhole) (arg13 : Memref sig .tc
    .vmem S4096x256 .f32) (harg13 : arg13.IsWhole) (arg14 : Memref sig .tc .vmem S2x256x256 .f32) (harg14 : arg14.IsWhole) (arg15 : Memref sig .tc
    .vmem S2x256x256 .bf16) (harg15 : arg15.IsWhole) (arg1 : BitVec 32) (v4 : FVec Ideal S256x128 .bf16) (v6 : FVec Ideal S256x128 .bf16) (v8 : FVec
    Ideal S256x128 .bf16) (v10 : FVec Ideal S256x128 .bf16) (v12 : FVec Ideal S256x384 .bf16) (v13 : FVec Ideal S256x128 .f32) (v14 : BitVec 32) (v26
    : FVec Ideal S256x256 .bf16) (v49 : BitVec 32) (X_arg3 : BufTy.Contents (Elt Ideal) arg3.view.ty) (X_arg4 : BufTy.Contents (Elt Ideal)
    arg4.view.ty) (X_arg5 : BufTy.Contents (Elt Ideal) arg5.view.ty) (X_arg6 : BufTy.Contents (Elt Ideal) arg6.view.ty) (G_arg12 : BufTy.Contents (Elt
    Ideal) arg12.view.ty) (G_arg13 : BufTy.Contents (Elt Ideal) arg13.view.ty) (G_arg14 : BufTy.Contents (Elt Ideal) arg14.view.ty) (G_arg15 :
    BufTy.Contents (Elt Ideal) arg15.view.ty) (init : FVec Ideal S256x128 .f32 × FVec Ideal S256x128 .f32 × FVec Ideal S256x128 .f32 × FVec Ideal
    S256x128 .f32) :
    st_k0_t2 (F := Ideal) 𝒱 c bd i arg2 harg2 arg3 harg3 arg4 harg4 arg5 harg5 arg6 harg6 arg7 harg7 arg8 harg8 arg9 harg9 arg10 harg10 arg11 harg11
    arg12 harg12 arg13 harg13 arg14 harg14 arg15 harg15 arg1 v4 v6 v8 v10 v12 v13 v14 v26 v49 X_arg3 X_arg4 X_arg5 X_arg6 G_arg12 G_arg13 G_arg14
    G_arg15 init (Scf.trips (k0_t2_loop i).lb (k0_t2_loop i).ub (k0_t2_loop i).st) = (init, [], [], [], []) := by
  have h := trips_t2 i
  have e : Scf.trips (k0_t2_loop i).lb (k0_t2_loop i).ub (k0_t2_loop i).st = 0 := h
  rw [e]
  rfl

/-- What holds when the loop is entered: nothing is summed yet, and the first tile is in the two tile buffers. -/
theorem entry
    (c : Dev nD) (i : grid0.Coords) (arg2 : Memref sig .tc .vmem S256x256 .bf16) (harg2 : arg2.IsWhole) (arg3 : Memref sig .tc .vmem S4096x256 .bf16)
    (harg3 : arg3.IsWhole) (arg4 : Memref sig .tc .vmem S4096x256 .bf16) (harg4 : arg4.IsWhole) (arg5 : Memref sig .tc .vmem S2x1x16x256x256 .bf16)
    (harg5 : arg5.IsWhole) (arg6 : Memref sig .tc .vmem S2x1x16x256x256 .bf16) (harg6 : arg6.IsWhole) (arg7 : Memref sig .tc .vmem S256x256 .f32)
    (harg7 : arg7.IsWhole) (arg8 : Memref sig .tc .vmem S256x384 .bf16) (harg8 : arg8.IsWhole) (arg9 : Memref sig .tc .vmem S256x256 .bf16) (harg9 :
    arg9.IsWhole) (arg10 : Memref sig .tc .vmem S4096x256 .bf16) (harg10 : arg10.IsWhole) (arg11 : Memref sig .tc .vmem S4096x256 .bf16) (harg11 :
    arg11.IsWhole) (arg12 : Memref sig .tc .vmem S4096x256 .f32) (harg12 : arg12.IsWhole) (arg13 : Memref sig .tc .vmem S4096x256 .f32) (harg13 :
    arg13.IsWhole) (arg14 : Memref sig .tc .vmem S2x256x256 .f32) (harg14 : arg14.IsWhole) (arg15 : Memref sig .tc .vmem S2x256x256 .bf16) (harg15 :
    arg15.IsWhole) (x0 : Vec Ideal S256x256 .bf16) (x1 : Vec Ideal S4096x256 .bf16) (x2 : Vec Ideal S4096x256 .bf16) (x3 : Vec Ideal S2x1x16x256x256
    .bf16) (x4 : Vec Ideal S2x1x16x256x256 .bf16) (x5 : Vec Ideal S256x256 .f32) (x6 : Vec Ideal S256x384 .bf16)
    (X12 : BufTy.Contents (Elt Ideal) arg12.view.ty) (X13 : BufTy.Contents (Elt Ideal) arg13.view.ty)
    (X14 : BufTy.Contents (Elt Ideal) arg14.view.ty) (X15 : BufTy.Contents (Elt Ideal) arg15.view.ty) (b : Blk) (Y Y' : ℕ → ℕ → EReal)
    (hx0 : ∀ (t : Fin 256) (d : Fin 256), x0 (ix2 t d) = b.Q t d)
    (hx1 : ∀ (s : Fin 4096) (d : Fin 256), x1 (ix2 s d) = b.K s d)
    (hx2 : ∀ (s : Fin 4096) (d : Fin 256), x2 (ix2 s d) = b.V s d)
    (hx3 : ∀ (h : Fin 2) (j : Fin 16) (t s : Fin 256), x3 (ix5 h 0 j t s) = b.A h t (256 * j + s))
    (hx4 : ∀ (h : Fin 2) (j : Fin 16) (t s : Fin 256), x4 (ix5 h 0 j t s) = b.B h t (256 * j + s))
    (hx5 : ∀ (t : Fin 256) (d : Fin 256), x5 (ix2 t d) = b.O t d)
    (hx6 : ∀ (k : Fin 256) (l : Fin 384), x6 (ix2 k l) = upto k l)
    (h12 : ∀ (s : Fin 4096) (d : Fin 256), arg12.view.read (Elt Ideal) X12 (ix2 s d) = Y s d)
    (h13 : ∀ (s : Fin 4096) (d : Fin 256), arg13.view.read (Elt Ideal) X13 (ix2 s d) = Y' s d) :
    Inv b Y Y' 0 (k0_pay49, k0_pay49, k0_pay49, k0_pay49) (arg12.view.read (Elt Ideal) X12) (arg13.view.read (Elt Ideal) X13)
      (arg14.view.read (Elt Ideal) (arg14.view.writes (Elt Ideal) X14
        [⟨Rect.unit (s := S2x256x256) ![1, 0, 0] S1x256x256.size inb_S2x256x256_S1x256x256_1_0_0, k0_pay55 (k0_pay47 (View.readAt (Elt Ideal)
        arg7.view (Rect.unit (s := S256x256) ![0, 128] S256x128.size inb_S256x256_S256x128_0_128).toLoadRect (harg7.unread x5))) (View.readAt (Elt
        Ideal) arg4.view (Rect.unit (s := S4096x256) ![0, 128] S256x128.size inb_S4096x256_S256x128_0_128).toLoadRect (harg4.unread x2)) (View.readAt
        (Elt Ideal) arg5.view (Rect.unit (s := S2x1x16x256x256) ![1, 0, 0, 0, 0] S1x1x1x256x256.size
        inb_S2x1x16x256x256_S1x1x1x256x256_1_0_0_0_0).toLoadRect (harg5.unread x3))⟩, ⟨Rect.unit (s := S2x256x256) ![0, 0, 0] S1x256x256.size
        inb_S2x256x256_S1x256x256_0_0_0, k0_pay51 (View.readAt (Elt Ideal) arg7.view (Rect.unit (s := S256x256) ![0, 0] S256x128.size
        inb_S256x256_S256x128_0_0).toLoadRect (harg7.unread x5)) (View.readAt (Elt Ideal) arg4.view (Rect.unit (s := S4096x256) ![0, 0] S256x128.size
        inb_S4096x256_S256x128_0_0).toLoadRect (harg4.unread x2)) (View.readAt (Elt Ideal) arg5.view (Rect.unit (s := S2x1x16x256x256) ![0, 0, 0, 0,
        0] S1x1x1x256x256.size inb_S2x1x16x256x256_S1x1x1x256x256_0_0_0_0_0).toLoadRect (harg5.unread x3))⟩]))
      (arg15.view.read (Elt Ideal) (arg15.view.writes (Elt Ideal) X15
        [⟨Rect.unit (s := S2x256x256) ![1, 0, 0] S1x256x256.size inb_S2x256x256_S1x256x256_1_0_0, k0_pay56 (k0_pay47 (View.readAt (Elt Ideal)
        arg7.view (Rect.unit (s := S256x256) ![0, 128] S256x128.size inb_S256x256_S256x128_0_128).toLoadRect (harg7.unread x5))) (View.readAt (Elt
        Ideal) arg4.view (Rect.unit (s := S4096x256) ![0, 128] S256x128.size inb_S4096x256_S256x128_0_128).toLoadRect (harg4.unread x2)) (View.readAt
        (Elt Ideal) arg5.view (Rect.unit (s := S2x1x16x256x256) ![1, 0, 0, 0, 0] S1x1x1x256x256.size
        inb_S2x1x16x256x256_S1x1x1x256x256_1_0_0_0_0).toLoadRect (harg5.unread x3))⟩, ⟨Rect.unit (s := S2x256x256) ![0, 0, 0] S1x256x256.size
        inb_S2x256x256_S1x256x256_0_0_0, k0_pay53 (k0_pay52 (View.readAt (Elt Ideal) arg7.view (Rect.unit (s := S256x256) ![0, 0] S256x128.size
        inb_S256x256_S256x128_0_0).toLoadRect (harg7.unread x5)) (View.readAt (Elt Ideal) arg4.view (Rect.unit (s := S4096x256) ![0, 0] S256x128.size
        inb_S4096x256_S256x128_0_0).toLoadRect (harg4.unread x2)) (View.readAt (Elt Ideal) arg5.view (Rect.unit (s := S2x1x16x256x256) ![0, 0, 0, 0,
        0] S1x1x1x256x256.size inb_S2x1x16x256x256_S1x1x1x256x256_0_0_0_0_0).toLoadRect (harg5.unread x3)))⟩])) := by
  have w0 := load2 arg4.view (harg4.unread x2) inb_S4096x256_S256x128_0_0 (256 * 0) 0 rfl b.V (fun s d => by rw [Memref.IsWhole.read_unread]; exact hx2 s d)
  have w1 := load2 arg4.view (harg4.unread x2) inb_S4096x256_S256x128_0_128 (256 * 0) 128 rfl b.V (fun s d => by rw [Memref.IsWhole.read_unread]; exact hx2 s d)
  have a0 := load5 arg5.view (harg5.unread x3) inb_S2x1x16x256x256_S1x1x1x256x256_0_0_0_0_0 0 0 rfl b.A
    (fun h j t s => by rw [Memref.IsWhole.read_unread]; exact hx3 h j t s)
  have a1 := load5 arg5.view (harg5.unread x3) inb_S2x1x16x256x256_S1x1x1x256x256_1_0_0_0_0 1 0 rfl b.A
    (fun h j t s => by rw [Memref.IsWhole.read_unread]; exact hx3 h j t s)
  have o0 := load2 arg7.view (harg7.unread x5) inb_S256x256_S256x128_0_0 0 0 rfl b.O (fun s d => by rw [Memref.IsWhole.read_unread]; exact hx5 s d)
  have o1 := load2 arg7.view (harg7.unread x5) inb_S256x256_S256x128_0_128 0 128 rfl b.O (fun s d => by rw [Memref.IsWhole.read_unread]; exact hx5 s d)
  have p0 : ∀ (t : Fin 256) (d : Fin 128), (k0_pay46 (View.readAt (Elt Ideal) arg7.view (Rect.unit (s := S256x256) ![0, 0] S256x128.size inb_S256x256_S256x128_0_0).toLoadRect (harg7.unread x5))) (ix2 t d) = b.O t (128 * 0 + d) := fun t d => by
    rw [pay46_at, o0 t d, Nat.zero_add]
  have p1 : ∀ (t : Fin 256) (d : Fin 128), (k0_pay47 (View.readAt (Elt Ideal) arg7.view (Rect.unit (s := S256x256) ![0, 128] S256x128.size inb_S256x256_S256x128_0_128).toLoadRect (harg7.unread x5))) (ix2 t d) = b.O t (128 * 1 + d) := fun t d => by
    rw [pay47_at, o1 t d, Nat.zero_add]
  have d0 := head_g b 0 (256 * 0) _ _ _ p0 w0 a0
  have d1 := head_g b 1 (256 * 0) _ _ _ p1 w1 a1
  refine ⟨fun t d => ?_, fun t l => ?_, fun t d => ?_, fun t l => ?_, fun s c => ?_, fun s c => ?_, fun h t s => ?_, fun h t s => ?_⟩
  · exact (pay49_at t d).trans (by rw [Nat.mul_zero, Blk.dq, Finset.range_zero, Finset.sum_empty])
  · exact (pay49_at t l).trans (by rw [Nat.mul_zero, Blk.run, Finset.range_zero, Finset.sum_empty])
  · exact (pay49_at t d).trans (by rw [Nat.mul_zero, Blk.dq, Finset.range_zero, Finset.sum_empty])
  · exact (pay49_at t l).trans (by rw [Nat.mul_zero, Blk.run, Finset.range_zero, Finset.sum_empty])
  · rw [h12, after, if_neg (by omega)]
  · rw [h13, after, if_neg (by omega)]
  · exact tiles arg14.view X14 [] _ _ _ _ (fun h t s => b.G h t (256 * 0 + s)) d0 d1 h t s
  · exact tiles arg15.view X15 [] _ _ _ _ (fun h t s => b.G h t (256 * 0 + s)) d0 d1 h t s

/-- What holds when the loop ends, and the values the rest of the body works with. -/
theorem ended
    (𝒱 : Variants) (c : Dev nD) (bd : Option 𝒱.V) (i : grid0.Coords)
    (arg2 : Memref sig .tc .vmem S256x256 .bf16) (harg2 : arg2.IsWhole) (arg3 : Memref sig .tc .vmem S4096x256 .bf16) (harg3 : arg3.IsWhole) (arg4 :
    Memref sig .tc .vmem S4096x256 .bf16) (harg4 : arg4.IsWhole) (arg5 : Memref sig .tc .vmem S2x1x16x256x256 .bf16) (harg5 : arg5.IsWhole) (arg6 :
    Memref sig .tc .vmem S2x1x16x256x256 .bf16) (harg6 : arg6.IsWhole) (arg7 : Memref sig .tc .vmem S256x256 .f32) (harg7 : arg7.IsWhole) (arg8 :
    Memref sig .tc .vmem S256x384 .bf16) (harg8 : arg8.IsWhole) (arg9 : Memref sig .tc .vmem S256x256 .bf16) (harg9 : arg9.IsWhole) (arg10 : Memref
    sig .tc .vmem S4096x256 .bf16) (harg10 : arg10.IsWhole) (arg11 : Memref sig .tc .vmem S4096x256 .bf16) (harg11 : arg11.IsWhole) (arg12 : Memref
    sig .tc .vmem S4096x256 .f32) (harg12 : arg12.IsWhole) (arg13 : Memref sig .tc .vmem S4096x256 .f32) (harg13 : arg13.IsWhole) (arg14 : Memref sig
    .tc .vmem S2x256x256 .f32) (harg14 : arg14.IsWhole) (arg15 : Memref sig .tc .vmem S2x256x256 .bf16) (harg15 : arg15.IsWhole) (arg1 : BitVec 32)
    (v13 : FVec Ideal S256x128 .f32) (v14 : BitVec 32) (v26 : FVec Ideal S256x256 .bf16) (x0 : Vec Ideal S256x256 .bf16) (x1 : Vec Ideal S4096x256
    .bf16) (x2 : Vec Ideal S4096x256 .bf16) (x3 : Vec Ideal S2x1x16x256x256 .bf16) (x4 : Vec Ideal S2x1x16x256x256 .bf16) (x5 : Vec Ideal S256x256
    .f32) (x6 : Vec Ideal S256x384 .bf16)
    (X12 : BufTy.Contents (Elt Ideal) arg12.view.ty) (X13 : BufTy.Contents (Elt Ideal) arg13.view.ty)
    (X14 : BufTy.Contents (Elt Ideal) arg14.view.ty) (X15 : BufTy.Contents (Elt Ideal) arg15.view.ty) (b : Blk) (Y Y' : ℕ → ℕ → EReal)
    (hx0 : ∀ (t : Fin 256) (d : Fin 256), x0 (ix2 t d) = b.Q t d)
    (hx1 : ∀ (s : Fin 4096) (d : Fin 256), x1 (ix2 s d) = b.K s d)
    (hx2 : ∀ (s : Fin 4096) (d : Fin 256), x2 (ix2 s d) = b.V s d)
    (hx3 : ∀ (h : Fin 2) (j : Fin 16) (t s : Fin 256), x3 (ix5 h 0 j t s) = b.A h t (256 * j + s))
    (hx4 : ∀ (h : Fin 2) (j : Fin 16) (t s : Fin 256), x4 (ix5 h 0 j t s) = b.B h t (256 * j + s))
    (hx5 : ∀ (t : Fin 256) (d : Fin 256), x5 (ix2 t d) = b.O t d)
    (hx6 : ∀ (k : Fin 256) (l : Fin 384), x6 (ix2 k l) = upto k l)
    (h12 : ∀ (s : Fin 4096) (d : Fin 256), arg12.view.read (Elt Ideal) X12 (ix2 s d) = Y s d)
    (h13 : ∀ (s : Fin 4096) (d : Fin 256), arg13.view.read (Elt Ideal) X13 (ix2 s d) = Y' s d) :
    (∀ (k : Fin 256) (l : Fin 384), (k0_pay48 (View.readAt (Elt Ideal) arg8.view (Rect.unit (s := S256x384) ![0, 0] S256x384.size inb_S256x384_S256x384_0_0).toLoadRect (harg8.unread x6))) (ix2 k l) = upto k l)
    ∧ (∀ (t : Fin 256) (d : Fin 128), (k0_pay44 (View.readAt (Elt Ideal) arg2.view (Rect.unit (s := S256x256) ![0, 0] S256x128.size inb_S256x256_S256x128_0_0).toLoadRect (harg2.unread x0))) (ix2 t d) = b.Q t (128 * 0 + d))
    ∧ (∀ (t : Fin 256) (d : Fin 128), (k0_pay45 (View.readAt (Elt Ideal) arg2.view (Rect.unit (s := S256x256) ![0, 128] S256x128.size inb_S256x256_S256x128_0_128).toLoadRect (harg2.unread x0))) (ix2 t d) = b.Q t (128 * 1 + d))
    ∧ (∀ (t : Fin 256) (d : Fin 128), (k0_pay46 (View.readAt (Elt Ideal) arg7.view (Rect.unit (s := S256x256) ![0, 0] S256x128.size inb_S256x256_S256x128_0_0).toLoadRect (harg7.unread x5))) (ix2 t d) = b.O t (128 * 0 + d))
    ∧ (∀ (t : Fin 256) (d : Fin 128), (k0_pay47 (View.readAt (Elt Ideal) arg7.view (Rect.unit (s := S256x256) ![0, 128] S256x128.size inb_S256x256_S256x128_0_128).toLoadRect (harg7.unread x5))) (ix2 t d) = b.O t (128 * 1 + d))
    ∧ (∀ (s : Fin 4096) (d : Fin 256), arg3.view.read (Elt Ideal) (harg3.unread x1) (ix2 s d) = b.K s d)
    ∧ (∀ (h : Fin 2) (j : Fin 16) (t s : Fin 256), arg5.view.read (Elt Ideal) (harg5.unread x3) (ix5 h 0 j t s) = b.A h t (256 * j + s))
    ∧ (∀ (h : Fin 2) (j : Fin 16) (t s : Fin 256), arg6.view.read (Elt Ideal) (harg6.unread x4) (ix5 h 0 j t s) = b.B h t (256 * j + s))
    ∧ ∃ S,
        st_k0_t1 (F := Ideal) 𝒱 c bd i arg2 harg2 arg3 harg3 arg4 harg4 arg5 harg5 arg6 harg6 arg7 harg7 arg8 harg8 arg9 harg9 arg10 harg10 arg11
        harg11 arg12 harg12 arg13 harg13 arg14 harg14 arg15 harg15 arg1 (k0_pay44 (View.readAt (Elt Ideal) arg2.view (Rect.unit (s := S256x256) ![0,
        0] S256x128.size inb_S256x256_S256x128_0_0).toLoadRect (harg2.unread x0))) (k0_pay45 (View.readAt (Elt Ideal) arg2.view (Rect.unit (s :=
        S256x256) ![0, 128] S256x128.size inb_S256x256_S256x128_0_128).toLoadRect (harg2.unread x0))) (k0_pay46 (View.readAt (Elt Ideal) arg7.view
        (Rect.unit (s := S256x256) ![0, 0] S256x128.size inb_S256x256_S256x128_0_0).toLoadRect (harg7.unread x5))) (k0_pay47 (View.readAt (Elt Ideal)
        arg7.view (Rect.unit (s := S256x256) ![0, 128] S256x128.size inb_S256x256_S256x128_0_128).toLoadRect (harg7.unread x5))) (k0_pay48
        (View.readAt (Elt Ideal) arg8.view (Rect.unit (s := S256x384) ![0, 0] S256x384.size inb_S256x384_S256x384_0_0).toLoadRect (harg8.unread x6)))
        v13 v14 v26 (harg3.unread x1) (harg4.unread x2) (harg5.unread x3) (harg6.unread x4) X12 X13 (arg14.view.writes (Elt Ideal) X14 [⟨Rect.unit (s
        := S2x256x256) ![1, 0, 0] S1x256x256.size inb_S2x256x256_S1x256x256_1_0_0, k0_pay55 (k0_pay47 (View.readAt (Elt Ideal) arg7.view (Rect.unit (s
        := S256x256) ![0, 128] S256x128.size inb_S256x256_S256x128_0_128).toLoadRect (harg7.unread x5))) (View.readAt (Elt Ideal) arg4.view (Rect.unit
        (s := S4096x256) ![0, 128] S256x128.size inb_S4096x256_S256x128_0_128).toLoadRect (harg4.unread x2)) (View.readAt (Elt Ideal) arg5.view
        (Rect.unit (s := S2x1x16x256x256) ![1, 0, 0, 0, 0] S1x1x1x256x256.size inb_S2x1x16x256x256_S1x1x1x256x256_1_0_0_0_0).toLoadRect (harg5.unread
        x3))⟩, ⟨Rect.unit (s := S2x256x256) ![0, 0, 0] S1x256x256.size inb_S2x256x256_S1x256x256_0_0_0, k0_pay51 (View.readAt (Elt Ideal) arg7.view
        (Rect.unit (s := S256x256) ![0, 0] S256x128.size inb_S256x256_S256x128_0_0).toLoadRect (harg7.unread x5)) (View.readAt (Elt Ideal) arg4.view
        (Rect.unit (s := S4096x256) ![0, 0] S256x128.size inb_S4096x256_S256x128_0_0).toLoadRect (harg4.unread x2)) (View.readAt (Elt Ideal) arg5.view
        (Rect.unit (s := S2x1x16x256x256) ![0, 0, 0, 0, 0] S1x1x1x256x256.size inb_S2x1x16x256x256_S1x1x1x256x256_0_0_0_0_0).toLoadRect (harg5.unread
        x3))⟩]) (arg15.view.writes (Elt Ideal) X15 [⟨Rect.unit (s := S2x256x256) ![1, 0, 0] S1x256x256.size inb_S2x256x256_S1x256x256_1_0_0, k0_pay56
        (k0_pay47 (View.readAt (Elt Ideal) arg7.view (Rect.unit (s := S256x256) ![0, 128] S256x128.size inb_S256x256_S256x128_0_128).toLoadRect
        (harg7.unread x5))) (View.readAt (Elt Ideal) arg4.view (Rect.unit (s := S4096x256) ![0, 128] S256x128.size
        inb_S4096x256_S256x128_0_128).toLoadRect (harg4.unread x2)) (View.readAt (Elt Ideal) arg5.view (Rect.unit (s := S2x1x16x256x256) ![1, 0, 0, 0,
        0] S1x1x1x256x256.size inb_S2x1x16x256x256_S1x1x1x256x256_1_0_0_0_0).toLoadRect (harg5.unread x3))⟩, ⟨Rect.unit (s := S2x256x256) ![0, 0, 0]
        S1x256x256.size inb_S2x256x256_S1x256x256_0_0_0, k0_pay53 (k0_pay52 (View.readAt (Elt Ideal) arg7.view (Rect.unit (s := S256x256) ![0, 0]
        S256x128.size inb_S256x256_S256x128_0_0).toLoadRect (harg7.unread x5)) (View.readAt (Elt Ideal) arg4.view (Rect.unit (s := S4096x256) ![0, 0]
        S256x128.size inb_S4096x256_S256x128_0_0).toLoadRect (harg4.unread x2)) (View.readAt (Elt Ideal) arg5.view (Rect.unit (s := S2x1x16x256x256)
        ![0, 0, 0, 0, 0] S1x1x1x256x256.size inb_S2x1x16x256x256_S1x1x1x256x256_0_0_0_0_0).toLoadRect (harg5.unread x3)))⟩]) (k0_pay49, k0_pay49,
        k0_pay49, k0_pay49) (Scf.trips (k0_t1_loop i).lb (k0_t1_loop i).ub (k0_t1_loop i).st) = S ∧ Inv b Y Y' (i 1).val S.1
        (arg12.view.read (Elt Ideal) (arg12.view.writes (Elt Ideal) X12 S.2.1)) (arg13.view.read (Elt Ideal) (arg13.view.writes (Elt Ideal) X13 S.2.2.1))
        (arg14.view.read (Elt Ideal) (arg14.view.writes (Elt Ideal) (arg14.view.writes (Elt Ideal) X14
          [⟨Rect.unit (s := S2x256x256) ![1, 0, 0] S1x256x256.size inb_S2x256x256_S1x256x256_1_0_0, k0_pay55 (k0_pay47 (View.readAt (Elt Ideal)
          arg7.view (Rect.unit (s := S256x256) ![0, 128] S256x128.size inb_S256x256_S256x128_0_128).toLoadRect (harg7.unread x5))) (View.readAt (Elt
          Ideal) arg4.view (Rect.unit (s := S4096x256) ![0, 128] S256x128.size inb_S4096x256_S256x128_0_128).toLoadRect (harg4.unread x2))
          (View.readAt (Elt Ideal) arg5.view (Rect.unit (s := S2x1x16x256x256) ![1, 0, 0, 0, 0] S1x1x1x256x256.size
          inb_S2x1x16x256x256_S1x1x1x256x256_1_0_0_0_0).toLoadRect (harg5.unread x3))⟩, ⟨Rect.unit (s := S2x256x256) ![0, 0, 0] S1x256x256.size
          inb_S2x256x256_S1x256x256_0_0_0, k0_pay51 (View.readAt (Elt Ideal) arg7.view (Rect.unit (s := S256x256) ![0, 0] S256x128.size
          inb_S256x256_S256x128_0_0).toLoadRect (harg7.unread x5)) (View.readAt (Elt Ideal) arg4.view (Rect.unit (s := S4096x256) ![0, 0]
          S256x128.size inb_S4096x256_S256x128_0_0).toLoadRect (harg4.unread x2)) (View.readAt (Elt Ideal) arg5.view (Rect.unit (s := S2x1x16x256x256)
          ![0, 0, 0, 0, 0] S1x1x1x256x256.size inb_S2x1x16x256x256_S1x1x1x256x256_0_0_0_0_0).toLoadRect (harg5.unread x3))⟩]) S.2.2.2.1))
        (arg15.view.read (Elt Ideal) (arg15.view.writes (Elt Ideal) (arg15.view.writes (Elt Ideal) X15
          [⟨Rect.unit (s := S2x256x256) ![1, 0, 0] S1x256x256.size inb_S2x256x256_S1x256x256_1_0_0, k0_pay56 (k0_pay47 (View.readAt (Elt Ideal)
          arg7.view (Rect.unit (s := S256x256) ![0, 128] S256x128.size inb_S256x256_S256x128_0_128).toLoadRect (harg7.unread x5))) (View.readAt (Elt
          Ideal) arg4.view (Rect.unit (s := S4096x256) ![0, 128] S256x128.size inb_S4096x256_S256x128_0_128).toLoadRect (harg4.unread x2))
          (View.readAt (Elt Ideal) arg5.view (Rect.unit (s := S2x1x16x256x256) ![1, 0, 0, 0, 0] S1x1x1x256x256.size
          inb_S2x1x16x256x256_S1x1x1x256x256_1_0_0_0_0).toLoadRect (harg5.unread x3))⟩, ⟨Rect.unit (s := S2x256x256) ![0, 0, 0] S1x256x256.size
          inb_S2x256x256_S1x256x256_0_0_0, k0_pay53 (k0_pay52 (View.readAt (Elt Ideal) arg7.view (Rect.unit (s := S256x256) ![0, 0] S256x128.size
          inb_S256x256_S256x128_0_0).toLoadRect (harg7.unread x5)) (View.readAt (Elt Ideal) arg4.view (Rect.unit (s := S4096x256) ![0, 0]
          S256x128.size inb_S4096x256_S256x128_0_0).toLoadRect (harg4.unread x2)) (View.readAt (Elt Ideal) arg5.view (Rect.unit (s := S2x1x16x256x256)
          ![0, 0, 0, 0, 0] S1x1x1x256x256.size inb_S2x1x16x256x256_S1x1x1x256x256_0_0_0_0_0).toLoadRect (harg5.unread x3)))⟩]) S.2.2.2.2)) := by
  have f3 : ∀ (s : Fin 4096) (d : Fin 256), arg3.view.read (Elt Ideal) (harg3.unread x1) (ix2 s d) = b.K s d :=
    fun s d => by rw [Memref.IsWhole.read_unread]; exact hx1 s d
  have f4 : ∀ (s : Fin 4096) (d : Fin 256), arg4.view.read (Elt Ideal) (harg4.unread x2) (ix2 s d) = b.V s d :=
    fun s d => by rw [Memref.IsWhole.read_unread]; exact hx2 s d
  have f5 : ∀ (h : Fin 2) (j : Fin 16) (t s : Fin 256), arg5.view.read (Elt Ideal) (harg5.unread x3) (ix5 h 0 j t s) = b.A h t (256 * j + s) :=
    fun h j t s => by rw [Memref.IsWhole.read_unread]; exact hx3 h j t s
  have f6 : ∀ (h : Fin 2) (j : Fin 16) (t s : Fin 256), arg6.view.read (Elt Ideal) (harg6.unread x4) (ix5 h 0 j t s) = b.B h t (256 * j + s) :=
    fun h j t s => by rw [Memref.IsWhole.read_unread]; exact hx4 h j t s
  have l0 := load2 arg2.view (harg2.unread x0) inb_S256x256_S256x128_0_0 0 0 rfl b.Q (fun s d => by rw [Memref.IsWhole.read_unread]; exact hx0 s d)
  have l1 := load2 arg2.view (harg2.unread x0) inb_S256x256_S256x128_0_128 0 128 rfl b.Q (fun s d => by rw [Memref.IsWhole.read_unread]; exact hx0 s d)
  have o0 := load2 arg7.view (harg7.unread x5) inb_S256x256_S256x128_0_0 0 0 rfl b.O (fun s d => by rw [Memref.IsWhole.read_unread]; exact hx5 s d)
  have o1 := load2 arg7.view (harg7.unread x5) inb_S256x256_S256x128_0_128 0 128 rfl b.O (fun s d => by rw [Memref.IsWhole.read_unread]; exact hx5 s d)
  have l8 := load2 arg8.view (harg8.unread x6) inb_S256x384_S256x384_0_0 0 0 rfl upto (fun s d => by rw [Memref.IsWhole.read_unread]; exact hx6 s d)
  have g8 : ∀ (k : Fin 256) (l : Fin 384), (k0_pay48 (View.readAt (Elt Ideal) arg8.view (Rect.unit (s := S256x384) ![0, 0] S256x384.size inb_S256x384_S256x384_0_0).toLoadRect (harg8.unread x6))) (ix2 k l) = upto k l := fun k l => by rw [pay48_at, l8 k l, Nat.zero_add, Nat.zero_add]
  have gq0 : ∀ (t : Fin 256) (d : Fin 128), (k0_pay44 (View.readAt (Elt Ideal) arg2.view (Rect.unit (s := S256x256) ![0, 0] S256x128.size inb_S256x256_S256x128_0_0).toLoadRect (harg2.unread x0))) (ix2 t d) = b.Q t (128 * 0 + d) := fun t d => by rw [pay44_at, l0 t d, Nat.zero_add]
  have gq1 : ∀ (t : Fin 256) (d : Fin 128), (k0_pay45 (View.readAt (Elt Ideal) arg2.view (Rect.unit (s := S256x256) ![0, 128] S256x128.size inb_S256x256_S256x128_0_128).toLoadRect (harg2.unread x0))) (ix2 t d) = b.Q t (128 * 1 + d) := fun t d => by rw [pay45_at, l1 t d, Nat.zero_add]
  have go0 : ∀ (t : Fin 256) (d : Fin 128), (k0_pay46 (View.readAt (Elt Ideal) arg7.view (Rect.unit (s := S256x256) ![0, 0] S256x128.size inb_S256x256_S256x128_0_0).toLoadRect (harg7.unread x5))) (ix2 t d) = b.O t (128 * 0 + d) := fun t d => by rw [pay46_at, o0 t d, Nat.zero_add]
  have go1 : ∀ (t : Fin 256) (d : Fin 128), (k0_pay47 (View.readAt (Elt Ideal) arg7.view (Rect.unit (s := S256x256) ![0, 128] S256x128.size inb_S256x256_S256x128_0_128).toLoadRect (harg7.unread x5))) (ix2 t d) = b.O t (128 * 1 + d) := fun t d => by rw [pay47_at, o1 t d, Nat.zero_add]
  refine ⟨g8, gq0, gq1, go0, go1, f3, f5, f6, _, rfl, ?_⟩
  have he := entry c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 X12 X13 X14 X15 b Y Y' hx0 hx1 hx2 hx3 hx4 hx5 hx6 h12 h13
  have hl := loop 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 _ _ _ _ _ v13 v14 v26 _ _ _ _ _ _ _ _ _ b Y Y' g8 gq0 gq1 go0 go1 f3 f4 f5 f6 he
    (i 1).val (by rw [trips_t1])
  have e : Scf.trips (k0_t1_loop i).lb (k0_t1_loop i).ub (k0_t1_loop i).st = (i 1).val := trips_t1 i
  rw [e]
  exact hl

end Cert.Aw
-- ==== Proof.First.lean ====
/- The first row block of a pair of heads: the running sums start at zero. -/
module

public import proofs.«01_k».proof.Proof.Ended

@[expose] public section

set_option maxRecDepth 16384

noncomputable section

namespace Cert.Aw

open Idealize.ShloMosaic Cert.KernelIdeal Cert.KernelIdeal.Gen

theorem first_dk
    (c : Dev nD) (i : grid0.Coords) (arg2 : Memref sig .tc .vmem S256x256 .bf16) (harg2 : arg2.IsWhole) (arg3 : Memref sig .tc .vmem S4096x256 .bf16)
    (harg3 : arg3.IsWhole) (arg4 : Memref sig .tc .vmem S4096x256 .bf16) (harg4 : arg4.IsWhole) (arg5 : Memref sig .tc .vmem S2x1x16x256x256 .bf16)
    (harg5 : arg5.IsWhole) (arg6 : Memref sig .tc .vmem S2x1x16x256x256 .bf16) (harg6 : arg6.IsWhole) (arg7 : Memref sig .tc .vmem S256x256 .f32)
    (harg7 : arg7.IsWhole) (arg8 : Memref sig .tc .vmem S256x384 .bf16) (harg8 : arg8.IsWhole) (arg9 : Memref sig .tc .vmem S256x256 .bf16) (harg9 :
    arg9.IsWhole) (arg10 : Memref sig .tc .vmem S4096x256 .bf16) (harg10 : arg10.IsWhole) (arg11 : Memref sig .tc .vmem S4096x256 .bf16) (harg11 :
    arg11.IsWhole) (arg12 : Memref sig .tc .vmem S4096x256 .f32) (harg12 : arg12.IsWhole) (arg13 : Memref sig .tc .vmem S4096x256 .f32) (harg13 :
    arg13.IsWhole) (arg14 : Memref sig .tc .vmem S2x256x256 .f32) (harg14 : arg14.IsWhole) (arg15 : Memref sig .tc .vmem S2x256x256 .bf16) (harg15 :
    arg15.IsWhole) (hc0 : cond0_0 i) (hc1 : ¬cond0_1 i) (x0 : Vec Ideal S256x256 .bf16) (x1 : Vec Ideal S4096x256 .bf16) (x2 : Vec Ideal S4096x256
    .bf16) (x3 : Vec Ideal S2x1x16x256x256 .bf16) (x4 : Vec Ideal S2x1x16x256x256 .bf16) (x5 : Vec Ideal S256x256 .f32) (x6 : Vec Ideal S256x384
    .bf16)
    (b : Blk)
    (hx0 : ∀ (t : Fin 256) (d : Fin 256), x0 (ix2 t d) = b.Q t d)
    (hx1 : ∀ (s : Fin 4096) (d : Fin 256), x1 (ix2 s d) = b.K s d)
    (hx2 : ∀ (s : Fin 4096) (d : Fin 256), x2 (ix2 s d) = b.V s d)
    (hx3 : ∀ (h : Fin 2) (j : Fin 16) (t s : Fin 256), x3 (ix5 h 0 j t s) = b.A h t (256 * j + s))
    (hx4 : ∀ (h : Fin 2) (j : Fin 16) (t s : Fin 256), x4 (ix5 h 0 j t s) = b.B h t (256 * j + s))
    (hx5 : ∀ (t : Fin 256) (d : Fin 256), x5 (ix2 t d) = b.O t d)
    (hx6 : ∀ (k : Fin 256) (l : Fin 384), x6 (ix2 k l) = upto k l) (s : Fin 4096) (d : Fin 256) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6
      (ix2 s d) = after (fun _ _ => 0) (b.fk (i 1).val) (256 * (i 1).val + 256) s d := by
  obtain ⟨g8, gq0, gq1, go0, go1, f3, f5, f6, S, hS, hI⟩ := ended Variants.none c none i
    arg2 harg2 arg3 harg3 arg4 harg4 arg5 harg5 arg6 harg6 arg7 harg7 arg8 harg8 arg9 harg9 arg10 harg10 arg11 harg11 arg12 harg12 arg13 harg13 arg14
    harg14 arg15 harg15 (BitVec.ofNat 32 (i 1)) k0_pay49 0#32 (k0_pay52 (View.readAt (Elt Ideal) arg7.view (Rect.unit (s := S256x256) ![0, 0]
    S256x128.size inb_S256x256_S256x128_0_0).toLoadRect (harg7.unread x5)) (View.readAt (Elt Ideal) arg4.view (Rect.unit (s := S4096x256) ![0, 0]
    S256x128.size inb_S4096x256_S256x128_0_0).toLoadRect (harg4.unread x2)) (View.readAt (Elt Ideal) arg5.view (Rect.unit (s := S2x1x16x256x256) ![0,
    0, 0, 0, 0] S1x1x1x256x256.size inb_S2x1x16x256x256_S1x1x1x256x256_0_0_0_0_0).toLoadRect (harg5.unread x3))) x0 x1 x2 x3 x4 x5 x6 (arg12.view.writes (Elt Ideal) arg12.view.junk [⟨Rect.unit (s := S4096x256) ![0, 0] S4096x256.size inb_S4096x256_S4096x256_0_0, k0_pay42 (F := Ideal)⟩]) (arg13.view.writes (Elt Ideal) arg13.view.junk [⟨Rect.unit (s := S4096x256) ![0, 0] S4096x256.size inb_S4096x256_S4096x256_0_0, k0_pay43 (F := Ideal)⟩])
    arg14.view.junk arg15.view.junk b (fun _ _ => 0) (fun _ _ => 0) hx0 hx1 hx2 hx3 hx4 hx5 hx6 (cleared0 arg12) (cleared1 arg13)
  simp only [← View.writes_append] at hI
  have e := step_dk i arg6 arg12 arg13 arg14 arg15 _ _ _ _ _ _ _ _ _ _ _ b (fun _ _ => 0) (fun _ _ => 0) g8 gq0 gq1 f6 hI s d
  unfold sout0_A_0
  rw [View.read_writes_of_cover _ _ arg12.view arg12.view.junk _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  delta kernelRun0_A.sl.r_8 kernelRun0_A.sl.r_13 kernelRun0_A.sl.r_14 kernelRun0_A.sl.r_12 kernelRun0_A.sl.r_9 kernelRun0_A.sl.v105 kernelRun0_A.sl.v108
    kernelRun0_A.sl.HS0_1_1 kernelRun0_A.sl.r_15 kernelRun0_A.sl.r_16 kernelRun0_A.sl.HS1_1_1 kernelRun0_A.sl.r_6 kernelRun0_A.sl.r_7
    kernelRun0_A.sl.r_10 kernelRun0_A.sl.r_11 kernelRun0_A.sl.v63 kernelRun0_A.sl.v80 kernelRun0_A.sl.v88 kernelRun0_A.sl.v60
  rw [none_t2]
  delta kernelRun0_A.sl.r_1 kernelRun0_A.sl.r_4 kernelRun0_A.sl.r_3 kernelRun0_A.sl.r kernelRun0_A.sl.r_2 kernelRun0_A.sl.r_5 kernelRun0_A.sl.HS0_1
    kernelRun0_A.sl.HS1_1 kernelRun0_A.sl.HS2_2 kernelRun0_A.sl.HS3_2
  rw [hS]
  exact e

theorem first_dv
    (c : Dev nD) (i : grid0.Coords) (arg2 : Memref sig .tc .vmem S256x256 .bf16) (harg2 : arg2.IsWhole) (arg3 : Memref sig .tc .vmem S4096x256 .bf16)
    (harg3 : arg3.IsWhole) (arg4 : Memref sig .tc .vmem S4096x256 .bf16) (harg4 : arg4.IsWhole) (arg5 : Memref sig .tc .vmem S2x1x16x256x256 .bf16)
    (harg5 : arg5.IsWhole) (arg6 : Memref sig .tc .vmem S2x1x16x256x256 .bf16) (harg6 : arg6.IsWhole) (arg7 : Memref sig .tc .vmem S256x256 .f32)
    (harg7 : arg7.IsWhole) (arg8 : Memref sig .tc .vmem S256x384 .bf16) (harg8 : arg8.IsWhole) (arg9 : Memref sig .tc .vmem S256x256 .bf16) (harg9 :
    arg9.IsWhole) (arg10 : Memref sig .tc .vmem S4096x256 .bf16) (harg10 : arg10.IsWhole) (arg11 : Memref sig .tc .vmem S4096x256 .bf16) (harg11 :
    arg11.IsWhole) (arg12 : Memref sig .tc .vmem S4096x256 .f32) (harg12 : arg12.IsWhole) (arg13 : Memref sig .tc .vmem S4096x256 .f32) (harg13 :
    arg13.IsWhole) (arg14 : Memref sig .tc .vmem S2x256x256 .f32) (harg14 : arg14.IsWhole) (arg15 : Memref sig .tc .vmem S2x256x256 .bf16) (harg15 :
    arg15.IsWhole) (hc0 : cond0_0 i) (hc1 : ¬cond0_1 i) (x0 : Vec Ideal S256x256 .bf16) (x1 : Vec Ideal S4096x256 .bf16) (x2 : Vec Ideal S4096x256
    .bf16) (x3 : Vec Ideal S2x1x16x256x256 .bf16) (x4 : Vec Ideal S2x1x16x256x256 .bf16) (x5 : Vec Ideal S256x256 .f32) (x6 : Vec Ideal S256x384
    .bf16)
    (b : Blk)
    (hx0 : ∀ (t : Fin 256) (d : Fin 256), x0 (ix2 t d) = b.Q t d)
    (hx1 : ∀ (s : Fin 4096) (d : Fin 256), x1 (ix2 s d) = b.K s d)
    (hx2 : ∀ (s : Fin 4096) (d : Fin 256), x2 (ix2 s d) = b.V s d)
    (hx3 : ∀ (h : Fin 2) (j : Fin 16) (t s : Fin 256), x3 (ix5 h 0 j t s) = b.A h t (256 * j + s))
    (hx4 : ∀ (h : Fin 2) (j : Fin 16) (t s : Fin 256), x4 (ix5 h 0 j t s) = b.B h t (256 * j + s))
    (hx5 : ∀ (t : Fin 256) (d : Fin 256), x5 (ix2 t d) = b.O t d)
    (hx6 : ∀ (k : Fin 256) (l : Fin 384), x6 (ix2 k l) = upto k l) (s : Fin 4096) (d : Fin 256) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6
      (ix2 s d) = after (fun _ _ => 0) b.dv (256 * ((i 1).val + 1)) s d := by
  obtain ⟨g8, gq0, gq1, go0, go1, f3, f5, f6, S, hS, hI⟩ := ended Variants.none c none i
    arg2 harg2 arg3 harg3 arg4 harg4 arg5 harg5 arg6 harg6 arg7 harg7 arg8 harg8 arg9 harg9 arg10 harg10 arg11 harg11 arg12 harg12 arg13 harg13 arg14
    harg14 arg15 harg15 (BitVec.ofNat 32 (i 1)) k0_pay49 0#32 (k0_pay52 (View.readAt (Elt Ideal) arg7.view (Rect.unit (s := S256x256) ![0, 0]
    S256x128.size inb_S256x256_S256x128_0_0).toLoadRect (harg7.unread x5)) (View.readAt (Elt Ideal) arg4.view (Rect.unit (s := S4096x256) ![0, 0]
    S256x128.size inb_S4096x256_S256x128_0_0).toLoadRect (harg4.unread x2)) (View.readAt (Elt Ideal) arg5.view (Rect.unit (s := S2x1x16x256x256) ![0,
    0, 0, 0, 0] S1x1x1x256x256.size inb_S2x1x16x256x256_S1x1x1x256x256_0_0_0_0_0).toLoadRect (harg5.unread x3))) x0 x1 x2 x3 x4 x5 x6 (arg12.view.writes (Elt Ideal) arg12.view.junk [⟨Rect.unit (s := S4096x256) ![0, 0] S4096x256.size inb_S4096x256_S4096x256_0_0, k0_pay42 (F := Ideal)⟩]) (arg13.view.writes (Elt Ideal) arg13.view.junk [⟨Rect.unit (s := S4096x256) ![0, 0] S4096x256.size inb_S4096x256_S4096x256_0_0, k0_pay43 (F := Ideal)⟩])
    arg14.view.junk arg15.view.junk b (fun _ _ => 0) (fun _ _ => 0) hx0 hx1 hx2 hx3 hx4 hx5 hx6 (cleared0 arg12) (cleared1 arg13)
  simp only [← View.writes_append] at hI
  have e := step_dv i arg5 arg12 arg13 arg14 arg15 _ _ _ _ _ _ _ _ _ _ b (fun _ _ => 0) (fun _ _ => 0) go0 go1 f5 hI s d
  unfold sout0_A_1
  rw [View.read_writes_of_cover _ _ arg13.view arg13.view.junk _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  delta kernelRun0_A.sl.r_8 kernelRun0_A.sl.r_13 kernelRun0_A.sl.r_14 kernelRun0_A.sl.r_12 kernelRun0_A.sl.r_9 kernelRun0_A.sl.v105 kernelRun0_A.sl.v108
    kernelRun0_A.sl.HS0_1_1 kernelRun0_A.sl.r_15 kernelRun0_A.sl.r_16 kernelRun0_A.sl.HS1_1_1 kernelRun0_A.sl.r_6 kernelRun0_A.sl.r_7
    kernelRun0_A.sl.r_10 kernelRun0_A.sl.r_11 kernelRun0_A.sl.v63 kernelRun0_A.sl.v80 kernelRun0_A.sl.v88 kernelRun0_A.sl.v60
  rw [none_t2]
  delta kernelRun0_A.sl.r_1 kernelRun0_A.sl.r_4 kernelRun0_A.sl.r_3 kernelRun0_A.sl.r kernelRun0_A.sl.r_2 kernelRun0_A.sl.r_5 kernelRun0_A.sl.HS0_1
    kernelRun0_A.sl.HS1_1 kernelRun0_A.sl.HS2_2 kernelRun0_A.sl.HS3_2
  rw [hS]
  exact e

theorem first_dq
    (c : Dev nD) (i : grid0.Coords) (arg2 : Memref sig .tc .vmem S256x256 .bf16) (harg2 : arg2.IsWhole) (arg3 : Memref sig .tc .vmem S4096x256 .bf16)
    (harg3 : arg3.IsWhole) (arg4 : Memref sig .tc .vmem S4096x256 .bf16) (harg4 : arg4.IsWhole) (arg5 : Memref sig .tc .vmem S2x1x16x256x256 .bf16)
    (harg5 : arg5.IsWhole) (arg6 : Memref sig .tc .vmem S2x1x16x256x256 .bf16) (harg6 : arg6.IsWhole) (arg7 : Memref sig .tc .vmem S256x256 .f32)
    (harg7 : arg7.IsWhole) (arg8 : Memref sig .tc .vmem S256x384 .bf16) (harg8 : arg8.IsWhole) (arg9 : Memref sig .tc .vmem S256x256 .bf16) (harg9 :
    arg9.IsWhole) (arg10 : Memref sig .tc .vmem S4096x256 .bf16) (harg10 : arg10.IsWhole) (arg11 : Memref sig .tc .vmem S4096x256 .bf16) (harg11 :
    arg11.IsWhole) (arg12 : Memref sig .tc .vmem S4096x256 .f32) (harg12 : arg12.IsWhole) (arg13 : Memref sig .tc .vmem S4096x256 .f32) (harg13 :
    arg13.IsWhole) (arg14 : Memref sig .tc .vmem S2x256x256 .f32) (harg14 : arg14.IsWhole) (arg15 : Memref sig .tc .vmem S2x256x256 .bf16) (harg15 :
    arg15.IsWhole) (hc0 : cond0_0 i) (hc1 : ¬cond0_1 i) (x0 : Vec Ideal S256x256 .bf16) (x1 : Vec Ideal S4096x256 .bf16) (x2 : Vec Ideal S4096x256
    .bf16) (x3 : Vec Ideal S2x1x16x256x256 .bf16) (x4 : Vec Ideal S2x1x16x256x256 .bf16) (x5 : Vec Ideal S256x256 .f32) (x6 : Vec Ideal S256x384
    .bf16)
    (b : Blk)
    (hx0 : ∀ (t : Fin 256) (d : Fin 256), x0 (ix2 t d) = b.Q t d)
    (hx1 : ∀ (s : Fin 4096) (d : Fin 256), x1 (ix2 s d) = b.K s d)
    (hx2 : ∀ (s : Fin 4096) (d : Fin 256), x2 (ix2 s d) = b.V s d)
    (hx3 : ∀ (h : Fin 2) (j : Fin 16) (t s : Fin 256), x3 (ix5 h 0 j t s) = b.A h t (256 * j + s))
    (hx4 : ∀ (h : Fin 2) (j : Fin 16) (t s : Fin 256), x4 (ix5 h 0 j t s) = b.B h t (256 * j + s))
    (hx5 : ∀ (t : Fin 256) (d : Fin 256), x5 (ix2 t d) = b.O t d)
    (hx6 : ∀ (k : Fin 256) (l : Fin 384), x6 (ix2 k l) = upto k l) (t d : Fin 256) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6
      (ix2 t d) = b.fq (i 1).val (d / 128) t (d % 128) := by
  obtain ⟨g8, gq0, gq1, go0, go1, f3, f5, f6, S, hS, hI⟩ := ended Variants.none c none i
    arg2 harg2 arg3 harg3 arg4 harg4 arg5 harg5 arg6 harg6 arg7 harg7 arg8 harg8 arg9 harg9 arg10 harg10 arg11 harg11 arg12 harg12 arg13 harg13 arg14
    harg14 arg15 harg15 (BitVec.ofNat 32 (i 1)) k0_pay49 0#32 (k0_pay52 (View.readAt (Elt Ideal) arg7.view (Rect.unit (s := S256x256) ![0, 0]
    S256x128.size inb_S256x256_S256x128_0_0).toLoadRect (harg7.unread x5)) (View.readAt (Elt Ideal) arg4.view (Rect.unit (s := S4096x256) ![0, 0]
    S256x128.size inb_S4096x256_S256x128_0_0).toLoadRect (harg4.unread x2)) (View.readAt (Elt Ideal) arg5.view (Rect.unit (s := S2x1x16x256x256) ![0,
    0, 0, 0, 0] S1x1x1x256x256.size inb_S2x1x16x256x256_S1x1x1x256x256_0_0_0_0_0).toLoadRect (harg5.unread x3))) x0 x1 x2 x3 x4 x5 x6 (arg12.view.writes (Elt Ideal) arg12.view.junk [⟨Rect.unit (s := S4096x256) ![0, 0] S4096x256.size inb_S4096x256_S4096x256_0_0, k0_pay42 (F := Ideal)⟩]) (arg13.view.writes (Elt Ideal) arg13.view.junk [⟨Rect.unit (s := S4096x256) ![0, 0] S4096x256.size inb_S4096x256_S4096x256_0_0, k0_pay43 (F := Ideal)⟩])
    arg14.view.junk arg15.view.junk b (fun _ _ => 0) (fun _ _ => 0) hx0 hx1 hx2 hx3 hx4 hx5 hx6 (cleared0 arg12) (cleared1 arg13)
  simp only [← View.writes_append] at hI
  have e := step_dq i arg3 arg6 arg12 arg13 arg14 arg15 _ _ _ _ _ _ _ _ _ _ b (fun _ _ => 0) (fun _ _ => 0) g8 f3 f6 hI VO0_7 VO0_7.junk t d
  unfold out0_A_7 kernelRun0_A
  dsimp only
  delta kernelRun0_A.sl.r_8 kernelRun0_A.sl.r_13 kernelRun0_A.sl.r_14 kernelRun0_A.sl.r_12 kernelRun0_A.sl.r_9 kernelRun0_A.sl.v105 kernelRun0_A.sl.v108
    kernelRun0_A.sl.HS0_1_1 kernelRun0_A.sl.r_15 kernelRun0_A.sl.r_16 kernelRun0_A.sl.HS1_1_1 kernelRun0_A.sl.r_6 kernelRun0_A.sl.r_7
    kernelRun0_A.sl.r_10 kernelRun0_A.sl.r_11 kernelRun0_A.sl.v63 kernelRun0_A.sl.v80 kernelRun0_A.sl.v88 kernelRun0_A.sl.v60
  rw [none_t2]
  delta kernelRun0_A.sl.r_1 kernelRun0_A.sl.r_4 kernelRun0_A.sl.r_3 kernelRun0_A.sl.r kernelRun0_A.sl.r_2 kernelRun0_A.sl.r_5 kernelRun0_A.sl.HS0_1
    kernelRun0_A.sl.HS1_1 kernelRun0_A.sl.HS2_2 kernelRun0_A.sl.HS3_2
  rw [hS]
  exact e

end Cert.Aw
-- ==== Proof.Middle.lean ====
/- A middle row block of a pair of heads: what the body leaves in its output and in the two running sums. -/
module

public import proofs.«01_k».proof.Proof.Ended

@[expose] public section

set_option maxRecDepth 16384

noncomputable section

namespace Cert.Aw

open Idealize.ShloMosaic Cert.KernelIdeal Cert.KernelIdeal.Gen

theorem mid_dk
    (c : Dev nD) (i : grid0.Coords) (arg2 : Memref sig .tc .vmem S256x256 .bf16) (harg2 : arg2.IsWhole) (arg3 : Memref sig .tc .vmem S4096x256 .bf16)
    (harg3 : arg3.IsWhole) (arg4 : Memref sig .tc .vmem S4096x256 .bf16) (harg4 : arg4.IsWhole) (arg5 : Memref sig .tc .vmem S2x1x16x256x256 .bf16)
    (harg5 : arg5.IsWhole) (arg6 : Memref sig .tc .vmem S2x1x16x256x256 .bf16) (harg6 : arg6.IsWhole) (arg7 : Memref sig .tc .vmem S256x256 .f32)
    (harg7 : arg7.IsWhole) (arg8 : Memref sig .tc .vmem S256x384 .bf16) (harg8 : arg8.IsWhole) (arg9 : Memref sig .tc .vmem S256x256 .bf16) (harg9 :
    arg9.IsWhole) (arg10 : Memref sig .tc .vmem S4096x256 .bf16) (harg10 : arg10.IsWhole) (arg11 : Memref sig .tc .vmem S4096x256 .bf16) (harg11 :
    arg11.IsWhole) (arg12 : Memref sig .tc .vmem S4096x256 .f32) (harg12 : arg12.IsWhole) (arg13 : Memref sig .tc .vmem S4096x256 .f32) (harg13 :
    arg13.IsWhole) (arg14 : Memref sig .tc .vmem S2x256x256 .f32) (harg14 : arg14.IsWhole) (arg15 : Memref sig .tc .vmem S2x256x256 .bf16) (harg15 :
    arg15.IsWhole) (hc0 : ¬cond0_0 i) (hc1 : ¬cond0_1 i) (x0 : Vec Ideal S256x256 .bf16) (x1 : Vec Ideal S4096x256 .bf16) (x2 : Vec Ideal S4096x256
    .bf16) (x3 : Vec Ideal S2x1x16x256x256 .bf16) (x4 : Vec Ideal S2x1x16x256x256 .bf16) (x5 : Vec Ideal S256x256 .f32) (x6 : Vec Ideal S256x384
    .bf16) (xs0 : Vec Ideal S4096x256 .f32) (xs1 : Vec Ideal S4096x256 .f32)
    (b : Blk) (Y Y' : ℕ → ℕ → EReal)
    (hx0 : ∀ (t : Fin 256) (d : Fin 256), x0 (ix2 t d) = b.Q t d)
    (hx1 : ∀ (s : Fin 4096) (d : Fin 256), x1 (ix2 s d) = b.K s d)
    (hx2 : ∀ (s : Fin 4096) (d : Fin 256), x2 (ix2 s d) = b.V s d)
    (hx3 : ∀ (h : Fin 2) (j : Fin 16) (t s : Fin 256), x3 (ix5 h 0 j t s) = b.A h t (256 * j + s))
    (hx4 : ∀ (h : Fin 2) (j : Fin 16) (t s : Fin 256), x4 (ix5 h 0 j t s) = b.B h t (256 * j + s))
    (hx5 : ∀ (t : Fin 256) (d : Fin 256), x5 (ix2 t d) = b.O t d)
    (hx6 : ∀ (k : Fin 256) (l : Fin 384), x6 (ix2 k l) = upto k l)
    (hs0 : ∀ (s : Fin 4096) (d : Fin 256), xs0 (ix2 s d) = Y s d)
    (hs1 : ∀ (s : Fin 4096) (d : Fin 256), xs1 (ix2 s d) = Y' s d) (s : Fin 4096) (d : Fin 256) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1
      (ix2 s d) = after Y (b.fk (i 1).val) (256 * (i 1).val + 256) s d := by
  obtain ⟨g8, gq0, gq1, go0, go1, f3, f5, f6, S, hS, hI⟩ := ended Variants.none c none i
    arg2 harg2 arg3 harg3 arg4 harg4 arg5 harg5 arg6 harg6 arg7 harg7 arg8 harg8 arg9 harg9 arg10 harg10 arg11 harg11 arg12 harg12 arg13 harg13 arg14
    harg14 arg15 harg15 (BitVec.ofNat 32 (i 1)) k0_pay49 0#32 (k0_pay52 (View.readAt (Elt Ideal) arg7.view (Rect.unit (s := S256x256) ![0, 0]
    S256x128.size inb_S256x256_S256x128_0_0).toLoadRect (harg7.unread x5)) (View.readAt (Elt Ideal) arg4.view (Rect.unit (s := S4096x256) ![0, 0]
    S256x128.size inb_S4096x256_S256x128_0_0).toLoadRect (harg4.unread x2)) (View.readAt (Elt Ideal) arg5.view (Rect.unit (s := S2x1x16x256x256) ![0,
    0, 0, 0, 0] S1x1x1x256x256.size inb_S2x1x16x256x256_S1x1x1x256x256_0_0_0_0_0).toLoadRect (harg5.unread x3))) x0 x1 x2 x3 x4 x5 x6 (harg12.unread xs0) (harg13.unread xs1)
    arg14.view.junk arg15.view.junk b Y Y' hx0 hx1 hx2 hx3 hx4 hx5 hx6 (fun s d => by rw [Memref.IsWhole.read_unread]; exact hs0 s d) (fun s d => by rw [Memref.IsWhole.read_unread]; exact hs1 s d)
  simp only [← View.writes_append] at hI
  have e := step_dk i arg6 arg12 arg13 arg14 arg15 _ _ _ _ _ _ _ _ _ _ _ b Y Y' g8 gq0 gq1 f6 hI s d
  unfold sout0_B_0 kernelRun0_B
  dsimp only
  delta kernelRun0_B.sl.r_8 kernelRun0_B.sl.r_13 kernelRun0_B.sl.r_14 kernelRun0_B.sl.r_12 kernelRun0_B.sl.r_9 kernelRun0_B.sl.v105 kernelRun0_B.sl.v108
    kernelRun0_B.sl.HS0_1 kernelRun0_B.sl.r_15 kernelRun0_B.sl.r_16 kernelRun0_B.sl.HS1_1 kernelRun0_B.sl.r_6 kernelRun0_B.sl.r_7 kernelRun0_B.sl.r_10
    kernelRun0_B.sl.r_11 kernelRun0_B.sl.v63 kernelRun0_B.sl.v80 kernelRun0_B.sl.v88 kernelRun0_B.sl.v60
  rw [none_t2]
  delta kernelRun0_B.sl.r_1 kernelRun0_B.sl.r_4 kernelRun0_B.sl.r_3 kernelRun0_B.sl.r kernelRun0_B.sl.r_2 kernelRun0_B.sl.r_5 kernelRun0_B.sl.HS2_2
    kernelRun0_B.sl.HS3_2
  rw [hS]
  exact e

theorem mid_dv
    (c : Dev nD) (i : grid0.Coords) (arg2 : Memref sig .tc .vmem S256x256 .bf16) (harg2 : arg2.IsWhole) (arg3 : Memref sig .tc .vmem S4096x256 .bf16)
    (harg3 : arg3.IsWhole) (arg4 : Memref sig .tc .vmem S4096x256 .bf16) (harg4 : arg4.IsWhole) (arg5 : Memref sig .tc .vmem S2x1x16x256x256 .bf16)
    (harg5 : arg5.IsWhole) (arg6 : Memref sig .tc .vmem S2x1x16x256x256 .bf16) (harg6 : arg6.IsWhole) (arg7 : Memref sig .tc .vmem S256x256 .f32)
    (harg7 : arg7.IsWhole) (arg8 : Memref sig .tc .vmem S256x384 .bf16) (harg8 : arg8.IsWhole) (arg9 : Memref sig .tc .vmem S256x256 .bf16) (harg9 :
    arg9.IsWhole) (arg10 : Memref sig .tc .vmem S4096x256 .bf16) (harg10 : arg10.IsWhole) (arg11 : Memref sig .tc .vmem S4096x256 .bf16) (harg11 :
    arg11.IsWhole) (arg12 : Memref sig .tc .vmem S4096x256 .f32) (harg12 : arg12.IsWhole) (arg13 : Memref sig .tc .vmem S4096x256 .f32) (harg13 :
    arg13.IsWhole) (arg14 : Memref sig .tc .vmem S2x256x256 .f32) (harg14 : arg14.IsWhole) (arg15 : Memref sig .tc .vmem S2x256x256 .bf16) (harg15 :
    arg15.IsWhole) (hc0 : ¬cond0_0 i) (hc1 : ¬cond0_1 i) (x0 : Vec Ideal S256x256 .bf16) (x1 : Vec Ideal S4096x256 .bf16) (x2 : Vec Ideal S4096x256
    .bf16) (x3 : Vec Ideal S2x1x16x256x256 .bf16) (x4 : Vec Ideal S2x1x16x256x256 .bf16) (x5 : Vec Ideal S256x256 .f32) (x6 : Vec Ideal S256x384
    .bf16) (xs0 : Vec Ideal S4096x256 .f32) (xs1 : Vec Ideal S4096x256 .f32)
    (b : Blk) (Y Y' : ℕ → ℕ → EReal)
    (hx0 : ∀ (t : Fin 256) (d : Fin 256), x0 (ix2 t d) = b.Q t d)
    (hx1 : ∀ (s : Fin 4096) (d : Fin 256), x1 (ix2 s d) = b.K s d)
    (hx2 : ∀ (s : Fin 4096) (d : Fin 256), x2 (ix2 s d) = b.V s d)
    (hx3 : ∀ (h : Fin 2) (j : Fin 16) (t s : Fin 256), x3 (ix5 h 0 j t s) = b.A h t (256 * j + s))
    (hx4 : ∀ (h : Fin 2) (j : Fin 16) (t s : Fin 256), x4 (ix5 h 0 j t s) = b.B h t (256 * j + s))
    (hx5 : ∀ (t : Fin 256) (d : Fin 256), x5 (ix2 t d) = b.O t d)
    (hx6 : ∀ (k : Fin 256) (l : Fin 384), x6 (ix2 k l) = upto k l)
    (hs0 : ∀ (s : Fin 4096) (d : Fin 256), xs0 (ix2 s d) = Y s d)
    (hs1 : ∀ (s : Fin 4096) (d : Fin 256), xs1 (ix2 s d) = Y' s d) (s : Fin 4096) (d : Fin 256) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1
      (ix2 s d) = after Y' b.dv (256 * ((i 1).val + 1)) s d := by
  obtain ⟨g8, gq0, gq1, go0, go1, f3, f5, f6, S, hS, hI⟩ := ended Variants.none c none i
    arg2 harg2 arg3 harg3 arg4 harg4 arg5 harg5 arg6 harg6 arg7 harg7 arg8 harg8 arg9 harg9 arg10 harg10 arg11 harg11 arg12 harg12 arg13 harg13 arg14
    harg14 arg15 harg15 (BitVec.ofNat 32 (i 1)) k0_pay49 0#32 (k0_pay52 (View.readAt (Elt Ideal) arg7.view (Rect.unit (s := S256x256) ![0, 0]
    S256x128.size inb_S256x256_S256x128_0_0).toLoadRect (harg7.unread x5)) (View.readAt (Elt Ideal) arg4.view (Rect.unit (s := S4096x256) ![0, 0]
    S256x128.size inb_S4096x256_S256x128_0_0).toLoadRect (harg4.unread x2)) (View.readAt (Elt Ideal) arg5.view (Rect.unit (s := S2x1x16x256x256) ![0,
    0, 0, 0, 0] S1x1x1x256x256.size inb_S2x1x16x256x256_S1x1x1x256x256_0_0_0_0_0).toLoadRect (harg5.unread x3))) x0 x1 x2 x3 x4 x5 x6 (harg12.unread xs0) (harg13.unread xs1)
    arg14.view.junk arg15.view.junk b Y Y' hx0 hx1 hx2 hx3 hx4 hx5 hx6 (fun s d => by rw [Memref.IsWhole.read_unread]; exact hs0 s d) (fun s d => by rw [Memref.IsWhole.read_unread]; exact hs1 s d)
  simp only [← View.writes_append] at hI
  have e := step_dv i arg5 arg12 arg13 arg14 arg15 _ _ _ _ _ _ _ _ _ _ b Y Y' go0 go1 f5 hI s d
  unfold sout0_B_1 kernelRun0_B
  dsimp only
  delta kernelRun0_B.sl.r_8 kernelRun0_B.sl.r_13 kernelRun0_B.sl.r_14 kernelRun0_B.sl.r_12 kernelRun0_B.sl.r_9 kernelRun0_B.sl.v105 kernelRun0_B.sl.v108
    kernelRun0_B.sl.HS0_1 kernelRun0_B.sl.r_15 kernelRun0_B.sl.r_16 kernelRun0_B.sl.HS1_1 kernelRun0_B.sl.r_6 kernelRun0_B.sl.r_7 kernelRun0_B.sl.r_10
    kernelRun0_B.sl.r_11 kernelRun0_B.sl.v63 kernelRun0_B.sl.v80 kernelRun0_B.sl.v88 kernelRun0_B.sl.v60
  rw [none_t2]
  delta kernelRun0_B.sl.r_1 kernelRun0_B.sl.r_4 kernelRun0_B.sl.r_3 kernelRun0_B.sl.r kernelRun0_B.sl.r_2 kernelRun0_B.sl.r_5 kernelRun0_B.sl.HS2_2
    kernelRun0_B.sl.HS3_2
  rw [hS]
  exact e

theorem mid_dq
    (c : Dev nD) (i : grid0.Coords) (arg2 : Memref sig .tc .vmem S256x256 .bf16) (harg2 : arg2.IsWhole) (arg3 : Memref sig .tc .vmem S4096x256 .bf16)
    (harg3 : arg3.IsWhole) (arg4 : Memref sig .tc .vmem S4096x256 .bf16) (harg4 : arg4.IsWhole) (arg5 : Memref sig .tc .vmem S2x1x16x256x256 .bf16)
    (harg5 : arg5.IsWhole) (arg6 : Memref sig .tc .vmem S2x1x16x256x256 .bf16) (harg6 : arg6.IsWhole) (arg7 : Memref sig .tc .vmem S256x256 .f32)
    (harg7 : arg7.IsWhole) (arg8 : Memref sig .tc .vmem S256x384 .bf16) (harg8 : arg8.IsWhole) (arg9 : Memref sig .tc .vmem S256x256 .bf16) (harg9 :
    arg9.IsWhole) (arg10 : Memref sig .tc .vmem S4096x256 .bf16) (harg10 : arg10.IsWhole) (arg11 : Memref sig .tc .vmem S4096x256 .bf16) (harg11 :
    arg11.IsWhole) (arg12 : Memref sig .tc .vmem S4096x256 .f32) (harg12 : arg12.IsWhole) (arg13 : Memref sig .tc .vmem S4096x256 .f32) (harg13 :
    arg13.IsWhole) (arg14 : Memref sig .tc .vmem S2x256x256 .f32) (harg14 : arg14.IsWhole) (arg15 : Memref sig .tc .vmem S2x256x256 .bf16) (harg15 :
    arg15.IsWhole) (hc0 : ¬cond0_0 i) (hc1 : ¬cond0_1 i) (x0 : Vec Ideal S256x256 .bf16) (x1 : Vec Ideal S4096x256 .bf16) (x2 : Vec Ideal S4096x256
    .bf16) (x3 : Vec Ideal S2x1x16x256x256 .bf16) (x4 : Vec Ideal S2x1x16x256x256 .bf16) (x5 : Vec Ideal S256x256 .f32) (x6 : Vec Ideal S256x384
    .bf16) (xs0 : Vec Ideal S4096x256 .f32) (xs1 : Vec Ideal S4096x256 .f32)
    (b : Blk) (Y Y' : ℕ → ℕ → EReal)
    (hx0 : ∀ (t : Fin 256) (d : Fin 256), x0 (ix2 t d) = b.Q t d)
    (hx1 : ∀ (s : Fin 4096) (d : Fin 256), x1 (ix2 s d) = b.K s d)
    (hx2 : ∀ (s : Fin 4096) (d : Fin 256), x2 (ix2 s d) = b.V s d)
    (hx3 : ∀ (h : Fin 2) (j : Fin 16) (t s : Fin 256), x3 (ix5 h 0 j t s) = b.A h t (256 * j + s))
    (hx4 : ∀ (h : Fin 2) (j : Fin 16) (t s : Fin 256), x4 (ix5 h 0 j t s) = b.B h t (256 * j + s))
    (hx5 : ∀ (t : Fin 256) (d : Fin 256), x5 (ix2 t d) = b.O t d)
    (hx6 : ∀ (k : Fin 256) (l : Fin 384), x6 (ix2 k l) = upto k l)
    (hs0 : ∀ (s : Fin 4096) (d : Fin 256), xs0 (ix2 s d) = Y s d)
    (hs1 : ∀ (s : Fin 4096) (d : Fin 256), xs1 (ix2 s d) = Y' s d) (t d : Fin 256) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1
      (ix2 t d) = b.fq (i 1).val (d / 128) t (d % 128) := by
  obtain ⟨g8, gq0, gq1, go0, go1, f3, f5, f6, S, hS, hI⟩ := ended Variants.none c none i
    arg2 harg2 arg3 harg3 arg4 harg4 arg5 harg5 arg6 harg6 arg7 harg7 arg8 harg8 arg9 harg9 arg10 harg10 arg11 harg11 arg12 harg12 arg13 harg13 arg14
    harg14 arg15 harg15 (BitVec.ofNat 32 (i 1)) k0_pay49 0#32 (k0_pay52 (View.readAt (Elt Ideal) arg7.view (Rect.unit (s := S256x256) ![0, 0]
    S256x128.size inb_S256x256_S256x128_0_0).toLoadRect (harg7.unread x5)) (View.readAt (Elt Ideal) arg4.view (Rect.unit (s := S4096x256) ![0, 0]
    S256x128.size inb_S4096x256_S256x128_0_0).toLoadRect (harg4.unread x2)) (View.readAt (Elt Ideal) arg5.view (Rect.unit (s := S2x1x16x256x256) ![0,
    0, 0, 0, 0] S1x1x1x256x256.size inb_S2x1x16x256x256_S1x1x1x256x256_0_0_0_0_0).toLoadRect (harg5.unread x3))) x0 x1 x2 x3 x4 x5 x6 (harg12.unread xs0) (harg13.unread xs1)
    arg14.view.junk arg15.view.junk b Y Y' hx0 hx1 hx2 hx3 hx4 hx5 hx6 (fun s d => by rw [Memref.IsWhole.read_unread]; exact hs0 s d) (fun s d => by rw [Memref.IsWhole.read_unread]; exact hs1 s d)
  simp only [← View.writes_append] at hI
  have e := step_dq i arg3 arg6 arg12 arg13 arg14 arg15 _ _ _ _ _ _ _ _ _ _ b Y Y' g8 f3 f6 hI VO0_7 VO0_7.junk t d
  unfold out0_B_7 kernelRun0_B
  dsimp only
  delta kernelRun0_B.sl.r_8 kernelRun0_B.sl.r_13 kernelRun0_B.sl.r_14 kernelRun0_B.sl.r_12 kernelRun0_B.sl.r_9 kernelRun0_B.sl.v105 kernelRun0_B.sl.v108
    kernelRun0_B.sl.HS0_1 kernelRun0_B.sl.r_15 kernelRun0_B.sl.r_16 kernelRun0_B.sl.HS1_1 kernelRun0_B.sl.r_6 kernelRun0_B.sl.r_7 kernelRun0_B.sl.r_10
    kernelRun0_B.sl.r_11 kernelRun0_B.sl.v63 kernelRun0_B.sl.v80 kernelRun0_B.sl.v88 kernelRun0_B.sl.v60
  rw [none_t2]
  delta kernelRun0_B.sl.r_1 kernelRun0_B.sl.r_4 kernelRun0_B.sl.r_3 kernelRun0_B.sl.r kernelRun0_B.sl.r_2 kernelRun0_B.sl.r_5 kernelRun0_B.sl.HS2_2
    kernelRun0_B.sl.HS3_2
  rw [hS]
  exact e

end Cert.Aw
-- ==== Proof.Last.lean ====
/- The last row block of a pair of heads: the running sums are the gradients of the keys and the values. -/
module

public import proofs.«01_k».proof.Proof.Ended

@[expose] public section

set_option maxRecDepth 16384

noncomputable section

namespace Cert.Aw

open Idealize.ShloMosaic Cert.KernelIdeal Cert.KernelIdeal.Gen

theorem last_dq
    (c : Dev nD) (i : grid0.Coords) (arg2 : Memref sig .tc .vmem S256x256 .bf16) (harg2 : arg2.IsWhole) (arg3 : Memref sig .tc .vmem S4096x256 .bf16)
    (harg3 : arg3.IsWhole) (arg4 : Memref sig .tc .vmem S4096x256 .bf16) (harg4 : arg4.IsWhole) (arg5 : Memref sig .tc .vmem S2x1x16x256x256 .bf16)
    (harg5 : arg5.IsWhole) (arg6 : Memref sig .tc .vmem S2x1x16x256x256 .bf16) (harg6 : arg6.IsWhole) (arg7 : Memref sig .tc .vmem S256x256 .f32)
    (harg7 : arg7.IsWhole) (arg8 : Memref sig .tc .vmem S256x384 .bf16) (harg8 : arg8.IsWhole) (arg9 : Memref sig .tc .vmem S256x256 .bf16) (harg9 :
    arg9.IsWhole) (arg10 : Memref sig .tc .vmem S4096x256 .bf16) (harg10 : arg10.IsWhole) (arg11 : Memref sig .tc .vmem S4096x256 .bf16) (harg11 :
    arg11.IsWhole) (arg12 : Memref sig .tc .vmem S4096x256 .f32) (harg12 : arg12.IsWhole) (arg13 : Memref sig .tc .vmem S4096x256 .f32) (harg13 :
    arg13.IsWhole) (arg14 : Memref sig .tc .vmem S2x256x256 .f32) (harg14 : arg14.IsWhole) (arg15 : Memref sig .tc .vmem S2x256x256 .bf16) (harg15 :
    arg15.IsWhole) (hc0 : ¬cond0_0 i) (hc1 : cond0_1 i) (x0 : Vec Ideal S256x256 .bf16) (x1 : Vec Ideal S4096x256 .bf16) (x2 : Vec Ideal S4096x256
    .bf16) (x3 : Vec Ideal S2x1x16x256x256 .bf16) (x4 : Vec Ideal S2x1x16x256x256 .bf16) (x5 : Vec Ideal S256x256 .f32) (x6 : Vec Ideal S256x384
    .bf16) (xs0 : Vec Ideal S4096x256 .f32) (xs1 : Vec Ideal S4096x256 .f32)
    (b : Blk) (Y Y' : ℕ → ℕ → EReal)
    (hx0 : ∀ (t : Fin 256) (d : Fin 256), x0 (ix2 t d) = b.Q t d)
    (hx1 : ∀ (s : Fin 4096) (d : Fin 256), x1 (ix2 s d) = b.K s d)
    (hx2 : ∀ (s : Fin 4096) (d : Fin 256), x2 (ix2 s d) = b.V s d)
    (hx3 : ∀ (h : Fin 2) (j : Fin 16) (t s : Fin 256), x3 (ix5 h 0 j t s) = b.A h t (256 * j + s))
    (hx4 : ∀ (h : Fin 2) (j : Fin 16) (t s : Fin 256), x4 (ix5 h 0 j t s) = b.B h t (256 * j + s))
    (hx5 : ∀ (t : Fin 256) (d : Fin 256), x5 (ix2 t d) = b.O t d)
    (hx6 : ∀ (k : Fin 256) (l : Fin 384), x6 (ix2 k l) = upto k l)
    (hs0 : ∀ (s : Fin 4096) (d : Fin 256), xs0 (ix2 s d) = Y s d)
    (hs1 : ∀ (s : Fin 4096) (d : Fin 256), xs1 (ix2 s d) = Y' s d) (t d : Fin 256) :
    out0_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1
      (ix2 t d) = b.fq (i 1).val (d / 128) t (d % 128) := by
  obtain ⟨g8, gq0, gq1, go0, go1, f3, f5, f6, S, hS, hI⟩ := ended Variants.none c none i
    arg2 harg2 arg3 harg3 arg4 harg4 arg5 harg5 arg6 harg6 arg7 harg7 arg8 harg8 arg9 harg9 arg10 harg10 arg11 harg11 arg12 harg12 arg13 harg13 arg14
    harg14 arg15 harg15 (BitVec.ofNat 32 (i 1)) k0_pay49 0#32 (k0_pay52 (View.readAt (Elt Ideal) arg7.view (Rect.unit (s := S256x256) ![0, 0]
    S256x128.size inb_S256x256_S256x128_0_0).toLoadRect (harg7.unread x5)) (View.readAt (Elt Ideal) arg4.view (Rect.unit (s := S4096x256) ![0, 0]
    S256x128.size inb_S4096x256_S256x128_0_0).toLoadRect (harg4.unread x2)) (View.readAt (Elt Ideal) arg5.view (Rect.unit (s := S2x1x16x256x256) ![0,
    0, 0, 0, 0] S1x1x1x256x256.size inb_S2x1x16x256x256_S1x1x1x256x256_0_0_0_0_0).toLoadRect (harg5.unread x3))) x0 x1 x2 x3 x4 x5 x6 (harg12.unread xs0) (harg13.unread xs1)
    arg14.view.junk arg15.view.junk b Y Y' hx0 hx1 hx2 hx3 hx4 hx5 hx6 (fun s d => by rw [Memref.IsWhole.read_unread]; exact hs0 s d) (fun s d => by rw [Memref.IsWhole.read_unread]; exact hs1 s d)
  simp only [← View.writes_append] at hI
  have e := step_dq i arg3 arg6 arg12 arg13 arg14 arg15 _ _ _ _ _ _ _ _ _ _ b Y Y' g8 f3 f6 hI VO0_7 VO0_7.junk t d
  unfold out0_C_7 kernelRun0_C
  dsimp only
  delta kernelRun0_C.sl.r_8 kernelRun0_C.sl.r_13 kernelRun0_C.sl.r_14 kernelRun0_C.sl.r_12 kernelRun0_C.sl.v152 kernelRun0_C.sl.v155 kernelRun0_C.sl.HS0_2
    kernelRun0_C.sl.HS1_2 kernelRun0_C.sl.r_9 kernelRun0_C.sl.v105 kernelRun0_C.sl.v108 kernelRun0_C.sl.r_6 kernelRun0_C.sl.r_7 kernelRun0_C.sl.r_10
    kernelRun0_C.sl.r_11 kernelRun0_C.sl.v63 kernelRun0_C.sl.HS0_1 kernelRun0_C.sl.r_15 kernelRun0_C.sl.r_16 kernelRun0_C.sl.HS1_1 kernelRun0_C.sl.v60
    kernelRun0_C.sl.v80 kernelRun0_C.sl.v88
  rw [none_t2]
  delta kernelRun0_C.sl.r kernelRun0_C.sl.r_1 kernelRun0_C.sl.r_2 kernelRun0_C.sl.r_3 kernelRun0_C.sl.r_4 kernelRun0_C.sl.r_5 kernelRun0_C.sl.HS2_2
    kernelRun0_C.sl.HS3_2
  rw [hS]
  exact e

theorem last_dk
    (c : Dev nD) (i : grid0.Coords) (arg2 : Memref sig .tc .vmem S256x256 .bf16) (harg2 : arg2.IsWhole) (arg3 : Memref sig .tc .vmem S4096x256 .bf16)
    (harg3 : arg3.IsWhole) (arg4 : Memref sig .tc .vmem S4096x256 .bf16) (harg4 : arg4.IsWhole) (arg5 : Memref sig .tc .vmem S2x1x16x256x256 .bf16)
    (harg5 : arg5.IsWhole) (arg6 : Memref sig .tc .vmem S2x1x16x256x256 .bf16) (harg6 : arg6.IsWhole) (arg7 : Memref sig .tc .vmem S256x256 .f32)
    (harg7 : arg7.IsWhole) (arg8 : Memref sig .tc .vmem S256x384 .bf16) (harg8 : arg8.IsWhole) (arg9 : Memref sig .tc .vmem S256x256 .bf16) (harg9 :
    arg9.IsWhole) (arg10 : Memref sig .tc .vmem S4096x256 .bf16) (harg10 : arg10.IsWhole) (arg11 : Memref sig .tc .vmem S4096x256 .bf16) (harg11 :
    arg11.IsWhole) (arg12 : Memref sig .tc .vmem S4096x256 .f32) (harg12 : arg12.IsWhole) (arg13 : Memref sig .tc .vmem S4096x256 .f32) (harg13 :
    arg13.IsWhole) (arg14 : Memref sig .tc .vmem S2x256x256 .f32) (harg14 : arg14.IsWhole) (arg15 : Memref sig .tc .vmem S2x256x256 .bf16) (harg15 :
    arg15.IsWhole) (hc0 : ¬cond0_0 i) (hc1 : cond0_1 i) (x0 : Vec Ideal S256x256 .bf16) (x1 : Vec Ideal S4096x256 .bf16) (x2 : Vec Ideal S4096x256
    .bf16) (x3 : Vec Ideal S2x1x16x256x256 .bf16) (x4 : Vec Ideal S2x1x16x256x256 .bf16) (x5 : Vec Ideal S256x256 .f32) (x6 : Vec Ideal S256x384
    .bf16) (xs0 : Vec Ideal S4096x256 .f32) (xs1 : Vec Ideal S4096x256 .f32)
    (b : Blk) (Y Y' : ℕ → ℕ → EReal)
    (hx0 : ∀ (t : Fin 256) (d : Fin 256), x0 (ix2 t d) = b.Q t d)
    (hx1 : ∀ (s : Fin 4096) (d : Fin 256), x1 (ix2 s d) = b.K s d)
    (hx2 : ∀ (s : Fin 4096) (d : Fin 256), x2 (ix2 s d) = b.V s d)
    (hx3 : ∀ (h : Fin 2) (j : Fin 16) (t s : Fin 256), x3 (ix5 h 0 j t s) = b.A h t (256 * j + s))
    (hx4 : ∀ (h : Fin 2) (j : Fin 16) (t s : Fin 256), x4 (ix5 h 0 j t s) = b.B h t (256 * j + s))
    (hx5 : ∀ (t : Fin 256) (d : Fin 256), x5 (ix2 t d) = b.O t d)
    (hx6 : ∀ (k : Fin 256) (l : Fin 384), x6 (ix2 k l) = upto k l)
    (hs0 : ∀ (s : Fin 4096) (d : Fin 256), xs0 (ix2 s d) = Y s d)
    (hs1 : ∀ (s : Fin 4096) (d : Fin 256), xs1 (ix2 s d) = Y' s d) (s : Fin 4096) (d : Fin 256) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1
      (ix2 s d) = after Y (b.fk (i 1).val) (256 * (i 1).val + 256) s d := by
  obtain ⟨g8, gq0, gq1, go0, go1, f3, f5, f6, S, hS, hI⟩ := ended Variants.none c none i
    arg2 harg2 arg3 harg3 arg4 harg4 arg5 harg5 arg6 harg6 arg7 harg7 arg8 harg8 arg9 harg9 arg10 harg10 arg11 harg11 arg12 harg12 arg13 harg13 arg14
    harg14 arg15 harg15 (BitVec.ofNat 32 (i 1)) k0_pay49 0#32 (k0_pay52 (View.readAt (Elt Ideal) arg7.view (Rect.unit (s := S256x256) ![0, 0]
    S256x128.size inb_S256x256_S256x128_0_0).toLoadRect (harg7.unread x5)) (View.readAt (Elt Ideal) arg4.view (Rect.unit (s := S4096x256) ![0, 0]
    S256x128.size inb_S4096x256_S256x128_0_0).toLoadRect (harg4.unread x2)) (View.readAt (Elt Ideal) arg5.view (Rect.unit (s := S2x1x16x256x256) ![0,
    0, 0, 0, 0] S1x1x1x256x256.size inb_S2x1x16x256x256_S1x1x1x256x256_0_0_0_0_0).toLoadRect (harg5.unread x3))) x0 x1 x2 x3 x4 x5 x6 (harg12.unread xs0) (harg13.unread xs1)
    arg14.view.junk arg15.view.junk b Y Y' hx0 hx1 hx2 hx3 hx4 hx5 hx6 (fun s d => by rw [Memref.IsWhole.read_unread]; exact hs0 s d) (fun s d => by rw [Memref.IsWhole.read_unread]; exact hs1 s d)
  simp only [← View.writes_append] at hI
  have e := step_dk i arg6 arg12 arg13 arg14 arg15 _ _ _ _ _ _ _ _ _ _ _ b Y Y' g8 gq0 gq1 f6 hI
  unfold out0_C_8 kernelRun0_C
  dsimp only
  delta kernelRun0_C.sl.r_8 kernelRun0_C.sl.r_13 kernelRun0_C.sl.r_14 kernelRun0_C.sl.r_12 kernelRun0_C.sl.v152 kernelRun0_C.sl.v155 kernelRun0_C.sl.HS0_2
    kernelRun0_C.sl.HS1_2 kernelRun0_C.sl.r_9 kernelRun0_C.sl.v105 kernelRun0_C.sl.v108 kernelRun0_C.sl.r_6 kernelRun0_C.sl.r_7 kernelRun0_C.sl.r_10
    kernelRun0_C.sl.r_11 kernelRun0_C.sl.v63 kernelRun0_C.sl.HS0_1 kernelRun0_C.sl.r_15 kernelRun0_C.sl.r_16 kernelRun0_C.sl.HS1_1 kernelRun0_C.sl.v60
    kernelRun0_C.sl.v80 kernelRun0_C.sl.v88
  rw [none_t2]
  delta kernelRun0_C.sl.r kernelRun0_C.sl.r_1 kernelRun0_C.sl.r_2 kernelRun0_C.sl.r_3 kernelRun0_C.sl.r_4 kernelRun0_C.sl.r_5 kernelRun0_C.sl.HS2_2
    kernelRun0_C.sl.HS3_2
  rw [hS]
  exact (whole VO0_8 _ [] _ _ s d).trans ((pay4_at _ s d).trans
    ((load2 arg12.view _ inb_S4096x256_S4096x256_0_0 0 0 rfl (fun s d => after Y (b.fk (i 1).val) (256 * (i 1).val + 256) s d) e s d).trans (by rw [Nat.zero_add, Nat.zero_add])))

theorem last_dv
    (c : Dev nD) (i : grid0.Coords) (arg2 : Memref sig .tc .vmem S256x256 .bf16) (harg2 : arg2.IsWhole) (arg3 : Memref sig .tc .vmem S4096x256 .bf16)
    (harg3 : arg3.IsWhole) (arg4 : Memref sig .tc .vmem S4096x256 .bf16) (harg4 : arg4.IsWhole) (arg5 : Memref sig .tc .vmem S2x1x16x256x256 .bf16)
    (harg5 : arg5.IsWhole) (arg6 : Memref sig .tc .vmem S2x1x16x256x256 .bf16) (harg6 : arg6.IsWhole) (arg7 : Memref sig .tc .vmem S256x256 .f32)
    (harg7 : arg7.IsWhole) (arg8 : Memref sig .tc .vmem S256x384 .bf16) (harg8 : arg8.IsWhole) (arg9 : Memref sig .tc .vmem S256x256 .bf16) (harg9 :
    arg9.IsWhole) (arg10 : Memref sig .tc .vmem S4096x256 .bf16) (harg10 : arg10.IsWhole) (arg11 : Memref sig .tc .vmem S4096x256 .bf16) (harg11 :
    arg11.IsWhole) (arg12 : Memref sig .tc .vmem S4096x256 .f32) (harg12 : arg12.IsWhole) (arg13 : Memref sig .tc .vmem S4096x256 .f32) (harg13 :
    arg13.IsWhole) (arg14 : Memref sig .tc .vmem S2x256x256 .f32) (harg14 : arg14.IsWhole) (arg15 : Memref sig .tc .vmem S2x256x256 .bf16) (harg15 :
    arg15.IsWhole) (hc0 : ¬cond0_0 i) (hc1 : cond0_1 i) (x0 : Vec Ideal S256x256 .bf16) (x1 : Vec Ideal S4096x256 .bf16) (x2 : Vec Ideal S4096x256
    .bf16) (x3 : Vec Ideal S2x1x16x256x256 .bf16) (x4 : Vec Ideal S2x1x16x256x256 .bf16) (x5 : Vec Ideal S256x256 .f32) (x6 : Vec Ideal S256x384
    .bf16) (xs0 : Vec Ideal S4096x256 .f32) (xs1 : Vec Ideal S4096x256 .f32)
    (b : Blk) (Y Y' : ℕ → ℕ → EReal)
    (hx0 : ∀ (t : Fin 256) (d : Fin 256), x0 (ix2 t d) = b.Q t d)
    (hx1 : ∀ (s : Fin 4096) (d : Fin 256), x1 (ix2 s d) = b.K s d)
    (hx2 : ∀ (s : Fin 4096) (d : Fin 256), x2 (ix2 s d) = b.V s d)
    (hx3 : ∀ (h : Fin 2) (j : Fin 16) (t s : Fin 256), x3 (ix5 h 0 j t s) = b.A h t (256 * j + s))
    (hx4 : ∀ (h : Fin 2) (j : Fin 16) (t s : Fin 256), x4 (ix5 h 0 j t s) = b.B h t (256 * j + s))
    (hx5 : ∀ (t : Fin 256) (d : Fin 256), x5 (ix2 t d) = b.O t d)
    (hx6 : ∀ (k : Fin 256) (l : Fin 384), x6 (ix2 k l) = upto k l)
    (hs0 : ∀ (s : Fin 4096) (d : Fin 256), xs0 (ix2 s d) = Y s d)
    (hs1 : ∀ (s : Fin 4096) (d : Fin 256), xs1 (ix2 s d) = Y' s d) (s : Fin 4096) (d : Fin 256) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1
      (ix2 s d) = after Y' b.dv (256 * ((i 1).val + 1)) s d := by
  obtain ⟨g8, gq0, gq1, go0, go1, f3, f5, f6, S, hS, hI⟩ := ended Variants.none c none i
    arg2 harg2 arg3 harg3 arg4 harg4 arg5 harg5 arg6 harg6 arg7 harg7 arg8 harg8 arg9 harg9 arg10 harg10 arg11 harg11 arg12 harg12 arg13 harg13 arg14
    harg14 arg15 harg15 (BitVec.ofNat 32 (i 1)) k0_pay49 0#32 (k0_pay52 (View.readAt (Elt Ideal) arg7.view (Rect.unit (s := S256x256) ![0, 0]
    S256x128.size inb_S256x256_S256x128_0_0).toLoadRect (harg7.unread x5)) (View.readAt (Elt Ideal) arg4.view (Rect.unit (s := S4096x256) ![0, 0]
    S256x128.size inb_S4096x256_S256x128_0_0).toLoadRect (harg4.unread x2)) (View.readAt (Elt Ideal) arg5.view (Rect.unit (s := S2x1x16x256x256) ![0,
    0, 0, 0, 0] S1x1x1x256x256.size inb_S2x1x16x256x256_S1x1x1x256x256_0_0_0_0_0).toLoadRect (harg5.unread x3))) x0 x1 x2 x3 x4 x5 x6 (harg12.unread xs0) (harg13.unread xs1)
    arg14.view.junk arg15.view.junk b Y Y' hx0 hx1 hx2 hx3 hx4 hx5 hx6 (fun s d => by rw [Memref.IsWhole.read_unread]; exact hs0 s d) (fun s d => by rw [Memref.IsWhole.read_unread]; exact hs1 s d)
  simp only [← View.writes_append] at hI
  have e := step_dv i arg5 arg12 arg13 arg14 arg15 _ _ _ _ _ _ _ _ _ _ b Y Y' go0 go1 f5 hI
  unfold out0_C_9 kernelRun0_C
  dsimp only
  delta kernelRun0_C.sl.r_8 kernelRun0_C.sl.r_13 kernelRun0_C.sl.r_14 kernelRun0_C.sl.r_12 kernelRun0_C.sl.v152 kernelRun0_C.sl.v155 kernelRun0_C.sl.HS0_2
    kernelRun0_C.sl.HS1_2 kernelRun0_C.sl.r_9 kernelRun0_C.sl.v105 kernelRun0_C.sl.v108 kernelRun0_C.sl.r_6 kernelRun0_C.sl.r_7 kernelRun0_C.sl.r_10
    kernelRun0_C.sl.r_11 kernelRun0_C.sl.v63 kernelRun0_C.sl.HS0_1 kernelRun0_C.sl.r_15 kernelRun0_C.sl.r_16 kernelRun0_C.sl.HS1_1 kernelRun0_C.sl.v60
    kernelRun0_C.sl.v80 kernelRun0_C.sl.v88
  rw [none_t2]
  delta kernelRun0_C.sl.r kernelRun0_C.sl.r_1 kernelRun0_C.sl.r_2 kernelRun0_C.sl.r_3 kernelRun0_C.sl.r_4 kernelRun0_C.sl.r_5 kernelRun0_C.sl.HS2_2
    kernelRun0_C.sl.HS3_2
  rw [hS]
  exact (whole VO0_9 _ [] _ _ s d).trans ((pay5_at _ s d).trans
    ((load2 arg13.view _ inb_S4096x256_S4096x256_0_0 0 0 rfl (fun s d => after Y' b.dv (256 * ((i 1).val + 1)) s d) e s d).trans (by rw [Nat.zero_add, Nat.zero_add])))

end Cert.Aw
-- ==== Proof.Host.lean ====
/- What the host puts into the attention gradient kernel's operands. -/
module

public import proofs.«01_k».proof.Proof.Gen.KernelIdeal.Frame
public import proofs.«01_k».proof.Proof.Gen.ReferenceIdeal.Read
public import Idealize.ShloMosaic.Lib.StableHlo.ReadAt

@[expose] public section

set_option maxRecDepth 16384

noncomputable section

namespace Cert.Aw

open Idealize.ShloMosaic Cert.KernelIdeal Cert.KernelIdeal.Gen

variable (m : (ℓ : Loc nD τ sig) → Buf (Elt Ideal) ℓ) (c : Dev nD)

/-- The first argument: q, k and v side by side. -/
abbrev qkvOf : (⟨S4096x3072, .f32⟩ : BufTy).Contents (Elt Ideal) := m ((c.tc : Thread nD τ).loc main_arg0)

theorem host_A : (V m c main_v22 : (⟨S8x4096x4096, .f32⟩ : BufTy).Contents (Elt Ideal))
    = Cert.ReferenceIdeal.Read.val_main_v22_0 (F := Ideal) (qkvOf m c) := by
  unfold V
  after_reads_simp
  simp -implicitDefEqProofs only [StableHlo.TRef.toBuf, StableHlo.TRef.ofBuf, cast_eq]
  rfl

/-- The logits the host and the reference both compute. -/
abbrev zOf : (⟨S8x4096x4096, .f32⟩ : BufTy).Contents (Elt Ideal) :=
  Cert.ReferenceIdeal.Read.val_main_v7 (F := Ideal) (qkvOf m c)

/-- The weights the host and the reference both compute. -/
abbrev aOf : (⟨S8x4096x4096, .f32⟩ : BufTy).Contents (Elt Ideal) :=
  Cert.ReferenceIdeal.Read.val_main_v22_0 (F := Ideal) (qkvOf m c)

/-- One in every place. -/
abbrev ones : FVec Ideal S8x4096x4096 .f32 :=
  broadcastInDim S8x4096x4096 ![] bcast_S_S8x4096x4096 (constant (F := Ideal) S_ .f32 0x3F800000#32)

/-- The host's sigmoid of the logits. -/
def sOf : FVec Ideal S8x4096x4096 .f32 :=
  Host.divf (F := Ideal) ones (addf (F := Ideal) ones (Host.exp (F := Ideal) (φ := .f32) (Host.negf (F := Ideal) (φ := .f32) (zOf m c))))

/-- The host's tiling of an array for the kernel. -/
def tiled (X : FVec Ideal S8x4096x4096 .f32) : FVec Ideal S8x16x16x256x256 .bf16 :=
  truncf (F := Ideal) .bf16 (transpose S8x16x16x256x256 [0, 1, 3, 2, 4]
    (shapeCast S8x16x256x16x256 X shapeCasts_S8x4096x4096_S8x16x256x16x256)
    transposes_S8x16x256x16x256_S8x16x16x256x256_0_1_3_2_4) bitsLt_bf16_f32

theorem host_v26 : (V m c main_v26 : (⟨S8x16x16x256x256, .bf16⟩ : BufTy).Contents (Elt Ideal)) = tiled (aOf m c) := by
  unfold V
  after_reads_simp
  simp -implicitDefEqProofs only [StableHlo.TRef.toBuf, StableHlo.TRef.ofBuf, cast_eq]
  rfl

theorem host_v35 : (V m c main_v35 : (⟨S8x16x16x256x256, .bf16⟩ : BufTy).Contents (Elt Ideal)) = tiled (sOf m c) := by
  unfold V
  after_reads_simp
  rfl

theorem host_v23 : (V m c main_v23 : (⟨S4096x3072, .bf16⟩ : BufTy).Contents (Elt Ideal))
    = (truncf (F := Ideal) (φ := .f32) .bf16 (qkvOf m c) bitsLt_bf16_f32 : FVec Ideal S4096x3072 .bf16) := by
  unfold V
  after_reads_simp

theorem host_arg1 : (V m c main_arg1 : (⟨S4096x1024, .f32⟩ : BufTy).Contents (Elt Ideal))
    = m ((c.tc : Thread nD τ).loc main_arg1) := by
  unfold V
  after_reads_simp

theorem one_f32 : (Ideal.ofBits .f32 0x3F800000#32 : EReal) = 1 := by
  simp [Ideal.ofBits, Ideal.ieee]
  rw [← EReal.coe_mul]
  norm_num

theorem one_bf16 : (Ideal.ofBits .bf16 0x3F80#16 : EReal) = 1 := by
  simp [Ideal.ofBits, Ideal.ieee]
  rw [← EReal.coe_mul]
  norm_num

theorem tiled_at (X : FVec Ideal S8x4096x4096 .f32) (H : Fin 8) (n j : Fin 16) (t s : Fin 256) :
    (tiled X (ix5 H n j t s) : EReal)
    = X (ix3 H ⟨256 * n.val + t.val, by omega⟩ ⟨256 * j.val + s.val, by omega⟩) := by
  unfold tiled
  pointwise
  show X _ = X _
  congr 1
  simp only [Nat.mul_comm 256]

theorem host_li (k : Fin 256) (l : Fin 384) :
    ((V m c main_v41 : (⟨S256x384, .bf16⟩ : BufTy).Contents (Elt Ideal)) (ix2 k l) : EReal)
    = if l.val < 256 then if k.val ≤ l.val then (1 : EReal) else 0 else 1 := by
  unfold V
  after_reads_at
  split
  · have hk := k.isLt
    show (((IntOp.cmpi CmpIPredicate.sle (BitVec.ofNat 32 k.val) (BitVec.ofNat 32 l.val)).toNat : ℝ) : EReal) = _
    have e : (IntOp.cmpi CmpIPredicate.sle (BitVec.ofNat 32 k.val) (BitVec.ofNat 32 l.val)).toNat = if k.val ≤ l.val then 1 else 0 := by
      have hl : l.val < 384 := l.isLt
      show (BitVec.ofBool (BitVec.sle (BitVec.ofNat 32 k.val) (BitVec.ofNat 32 l.val))).toNat = _
      have e1 : BitVec.sle (BitVec.ofNat 32 k.val) (BitVec.ofNat 32 l.val) = decide (k.val ≤ l.val) := by
        rw [BitVec.sle_eq_decide]
        congr 1
        rw [BitVec.toInt_eq_toNat_of_lt (by rw [BitVec.toNat_ofNat]; omega), BitVec.toInt_eq_toNat_of_lt (by rw [BitVec.toNat_ofNat]; omega),
          BitVec.toNat_ofNat, BitVec.toNat_ofNat, Nat.mod_eq_of_lt (by omega), Nat.mod_eq_of_lt (by omega)]
        simp
      rw [e1]
      by_cases h : k.val ≤ l.val <;> simp [h]
    rw [e]
    by_cases h : k.val ≤ l.val <;> simp [h]
  · exact one_bf16

theorem sOf_at (H : Fin 8) (t s : Fin 4096) :
    (sOf m c (ix3 H t s) : EReal) = Ideal.div 1 (1 + Ideal.exp (- (zOf m c (ix3 H t s) : EReal))) := by
  unfold sOf
  pointwise
  show Ideal.div (Ideal.ofBits .f32 0x3F800000#32) (Ideal.ofBits .f32 0x3F800000#32 + Ideal.exp (- (zOf m c (ix3 H t s) : EReal))) = _
  rw [one_f32]

end Cert.Aw
-- ==== Proof.Windows.lean ====
/- The blocks of the operands that the attention gradient kernel reads at a grid point. -/
module

public import proofs.«01_k».proof.Proof.Host

@[expose] public section

set_option maxRecDepth 16384

noncomputable section

namespace Cert.Aw

open Idealize.ShloMosaic Cert.KernelIdeal Cert.KernelIdeal.Gen

variable (m : (ℓ : Loc nD τ sig) → Buf (Elt Ideal) ℓ) (c : Dev nD)

theorem w0_0 : ∀ t : Fin cfg0.N, win0_0.index t (0 : Fin 2) = t.val % 16 := (by decide +kernel : ∀ t : Fin grid0.N, win0_0.index t (0 : Fin 2) = t.val % 16)
theorem w0_1 : ∀ t : Fin cfg0.N, win0_0.index t (1 : Fin 2) = t.val / 16 := (by decide +kernel : ∀ t : Fin grid0.N, win0_0.index t (1 : Fin 2) = t.val / 16)
theorem w1_0 : ∀ t : Fin cfg0.N, win0_1.index t (0 : Fin 2) = 0 := (by decide +kernel : ∀ t : Fin grid0.N, win0_1.index t (0 : Fin 2) = 0)
theorem w1_1 : ∀ t : Fin cfg0.N, win0_1.index t (1 : Fin 2) = 4 + t.val / 16 := (by decide +kernel : ∀ t : Fin grid0.N, win0_1.index t (1 : Fin 2) = 4 + t.val / 16)
theorem w2_0 : ∀ t : Fin cfg0.N, win0_2.index t (0 : Fin 2) = 0 := (by decide +kernel : ∀ t : Fin grid0.N, win0_2.index t (0 : Fin 2) = 0)
theorem w2_1 : ∀ t : Fin cfg0.N, win0_2.index t (1 : Fin 2) = 8 + t.val / 16 := (by decide +kernel : ∀ t : Fin grid0.N, win0_2.index t (1 : Fin 2) = 8 + t.val / 16)
theorem w3_0 : ∀ t : Fin cfg0.N, win0_3.index t (0 : Fin 5) = t.val / 16 := (by decide +kernel : ∀ t : Fin grid0.N, win0_3.index t (0 : Fin 5) = t.val / 16)
theorem w3_1 : ∀ t : Fin cfg0.N, win0_3.index t (1 : Fin 5) = t.val % 16 := (by decide +kernel : ∀ t : Fin grid0.N, win0_3.index t (1 : Fin 5) = t.val % 16)
theorem w3_2 : ∀ t : Fin cfg0.N, win0_3.index t (2 : Fin 5) = 0 := (by decide +kernel : ∀ t : Fin grid0.N, win0_3.index t (2 : Fin 5) = 0)
theorem w3_3 : ∀ t : Fin cfg0.N, win0_3.index t (3 : Fin 5) = 0 := (by decide +kernel : ∀ t : Fin grid0.N, win0_3.index t (3 : Fin 5) = 0)
theorem w3_4 : ∀ t : Fin cfg0.N, win0_3.index t (4 : Fin 5) = 0 := (by decide +kernel : ∀ t : Fin grid0.N, win0_3.index t (4 : Fin 5) = 0)
theorem w4_0 : ∀ t : Fin cfg0.N, win0_4.index t (0 : Fin 5) = t.val / 16 := (by decide +kernel : ∀ t : Fin grid0.N, win0_4.index t (0 : Fin 5) = t.val / 16)
theorem w4_1 : ∀ t : Fin cfg0.N, win0_4.index t (1 : Fin 5) = t.val % 16 := (by decide +kernel : ∀ t : Fin grid0.N, win0_4.index t (1 : Fin 5) = t.val % 16)
theorem w4_2 : ∀ t : Fin cfg0.N, win0_4.index t (2 : Fin 5) = 0 := (by decide +kernel : ∀ t : Fin grid0.N, win0_4.index t (2 : Fin 5) = 0)
theorem w4_3 : ∀ t : Fin cfg0.N, win0_4.index t (3 : Fin 5) = 0 := (by decide +kernel : ∀ t : Fin grid0.N, win0_4.index t (3 : Fin 5) = 0)
theorem w4_4 : ∀ t : Fin cfg0.N, win0_4.index t (4 : Fin 5) = 0 := (by decide +kernel : ∀ t : Fin grid0.N, win0_4.index t (4 : Fin 5) = 0)
theorem w5_0 : ∀ t : Fin cfg0.N, win0_5.index t (0 : Fin 2) = t.val % 16 := (by decide +kernel : ∀ t : Fin grid0.N, win0_5.index t (0 : Fin 2) = t.val % 16)
theorem w5_1 : ∀ t : Fin cfg0.N, win0_5.index t (1 : Fin 2) = t.val / 16 := (by decide +kernel : ∀ t : Fin grid0.N, win0_5.index t (1 : Fin 2) = t.val / 16)
theorem w6_0 : ∀ t : Fin cfg0.N, win0_6.index t (0 : Fin 2) = 0 := (by decide +kernel : ∀ t : Fin grid0.N, win0_6.index t (0 : Fin 2) = 0)
theorem w6_1 : ∀ t : Fin cfg0.N, win0_6.index t (1 : Fin 2) = 0 := (by decide +kernel : ∀ t : Fin grid0.N, win0_6.index t (1 : Fin 2) = 0)
theorem point_1 : ∀ t : Fin cfg0.N, ((grid0.coords t) 1).val = t.val % 16 := (by decide +kernel : ∀ t : Fin grid0.N, ((grid0.coords t) 1).val = t.val % 16)

/-! A block holds the array's elements at its own places. -/

section
variable (W : (b : Ref sig .tc) → Buf (Elt Ideal) ((c.tc : Thread nD τ).loc b))

theorem blk_0 (t : Fin cfg0.N) (y : S256x256.Idx) :
    ((cfg0.win 0).blk t).view.read (Elt Ideal) (W (Pipeline.arrRef spec0 0)) y
    = W main_v23 (((cfg0.win 0).blk t).view.emb y) := rfl

theorem blk_1 (t : Fin cfg0.N) (y : S4096x256.Idx) :
    ((cfg0.win 1).blk t).view.read (Elt Ideal) (W (Pipeline.arrRef spec0 1)) y
    = W main_v23 (((cfg0.win 1).blk t).view.emb y) := rfl

theorem blk_2 (t : Fin cfg0.N) (y : S4096x256.Idx) :
    ((cfg0.win 2).blk t).view.read (Elt Ideal) (W (Pipeline.arrRef spec0 2)) y
    = W main_v23 (((cfg0.win 2).blk t).view.emb y) := rfl

theorem blk_3 (t : Fin cfg0.N) (y : S2x1x16x256x256.Idx) :
    ((cfg0.win 3).blk t).view.read (Elt Ideal) (W (Pipeline.arrRef spec0 3)) y
    = W main_v26 (((cfg0.win 3).blk t).view.emb y) := rfl

theorem blk_4 (t : Fin cfg0.N) (y : S2x1x16x256x256.Idx) :
    ((cfg0.win 4).blk t).view.read (Elt Ideal) (W (Pipeline.arrRef spec0 4)) y
    = W main_v35 (((cfg0.win 4).blk t).view.emb y) := rfl

theorem blk_5 (t : Fin cfg0.N) (y : S256x256.Idx) :
    ((cfg0.win 5).blk t).view.read (Elt Ideal) (W (Pipeline.arrRef spec0 5)) y
    = W main_arg1 (((cfg0.win 5).blk t).view.emb y) := rfl

theorem blk_6 (t : Fin cfg0.N) (y : S256x384.Idx) :
    ((cfg0.win 6).blk t).view.read (Elt Ideal) (W (Pipeline.arrRef spec0 6)) y
    = W main_v41 (((cfg0.win 6).blk t).view.emb y) := rfl

end

theorem lt64 (t : Fin cfg0.N) : t.val < 64 := by
  have h := t.isLt
  have e : cfg0.N = 64 := N_0
  omega

theorem q_at (t : Fin cfg0.N) (r d : Fin 256) :
    (iblk m c 0 t (ix2 r d) : EReal)
    = qkvOf m c (ix2 ⟨256 * (t.val % 16) + r.val, by omega⟩ ⟨256 * (t.val / 16) + d.val, by have := lt64 t; omega⟩) := by
  have e : (((cfg0.win 0).blk t).view.emb (ix2 r d) : S4096x3072.Idx)
      = ix2 ⟨256 * (t.val % 16) + r.val, by omega⟩ ⟨256 * (t.val / 16) + d.val, by have := lt64 t; omega⟩ := by
    have h0 := w0_0 t
    have h1 := w0_1 t
    funext a
    apply Fin.ext
    match a with
    | ⟨0, _⟩ => show win0_0.index t (0 : Fin 2) * 256 + 1 * r.val = 256 * (t.val % 16) + r.val; omega
    | ⟨1, _⟩ => show win0_0.index t (1 : Fin 2) * 256 + 1 * d.val = 256 * (t.val / 16) + d.val; omega
  refine (blk_0 c (V m c) t (ix2 r d)).trans ?_
  rw [e, host_v23]
  rfl

theorem k_at (t : Fin cfg0.N) (s : Fin 4096) (d : Fin 256) :
    (iblk m c 1 t (ix2 s d) : EReal) = qkvOf m c (ix2 s ⟨1024 + 256 * (t.val / 16) + d.val, by have := lt64 t; omega⟩) := by
  have e : (((cfg0.win 1).blk t).view.emb (ix2 s d) : S4096x3072.Idx)
      = ix2 s ⟨1024 + 256 * (t.val / 16) + d.val, by have := lt64 t; omega⟩ := by
    have h0 := w1_0 t
    have h1 := w1_1 t
    funext a
    apply Fin.ext
    match a with
    | ⟨0, _⟩ => show win0_1.index t (0 : Fin 2) * 4096 + 1 * s.val = s.val; omega
    | ⟨1, _⟩ => show win0_1.index t (1 : Fin 2) * 256 + 1 * d.val = 1024 + 256 * (t.val / 16) + d.val; omega
  refine (blk_1 c (V m c) t (ix2 s d)).trans ?_
  rw [e, host_v23]
  rfl

theorem v_at (t : Fin cfg0.N) (s : Fin 4096) (d : Fin 256) :
    (iblk m c 2 t (ix2 s d) : EReal) = qkvOf m c (ix2 s ⟨2048 + 256 * (t.val / 16) + d.val, by have := lt64 t; omega⟩) := by
  have e : (((cfg0.win 2).blk t).view.emb (ix2 s d) : S4096x3072.Idx)
      = ix2 s ⟨2048 + 256 * (t.val / 16) + d.val, by have := lt64 t; omega⟩ := by
    have h0 := w2_0 t
    have h1 := w2_1 t
    funext a
    apply Fin.ext
    match a with
    | ⟨0, _⟩ => show win0_2.index t (0 : Fin 2) * 4096 + 1 * s.val = s.val; omega
    | ⟨1, _⟩ => show win0_2.index t (1 : Fin 2) * 256 + 1 * d.val = 2048 + 256 * (t.val / 16) + d.val; omega
  refine (blk_2 c (V m c) t (ix2 s d)).trans ?_
  rw [e, host_v23]
  rfl

theorem a_at (t : Fin cfg0.N) (h : Fin 2) (j : Fin 16) (r s : Fin 256) :
    (iblk m c 3 t (ix5 h 0 j r s) : EReal)
    = aOf m c (ix3 ⟨2 * (t.val / 16) + h.val, by have := lt64 t; omega⟩ ⟨256 * (t.val % 16) + r.val, by omega⟩ ⟨256 * j.val + s.val, by omega⟩) := by
  have e : (((cfg0.win 3).blk t).view.emb (ix5 h 0 j r s) : S8x16x16x256x256.Idx)
      = ix5 ⟨2 * (t.val / 16) + h.val, by have := lt64 t; omega⟩ ⟨t.val % 16, by omega⟩ j r s := by
    have h0 := w3_0 t
    have h1 := w3_1 t
    have h2 := w3_2 t
    have h3 := w3_3 t
    have h4 := w3_4 t
    funext a
    apply Fin.ext
    match a with
    | ⟨0, _⟩ => show win0_3.index t (0 : Fin 5) * 2 + 1 * h.val = 2 * (t.val / 16) + h.val; omega
    | ⟨1, _⟩ => show win0_3.index t (1 : Fin 5) * 1 + 1 * 0 = t.val % 16; omega
    | ⟨2, _⟩ => show win0_3.index t (2 : Fin 5) * 16 + 1 * j.val = j.val; omega
    | ⟨3, _⟩ => show win0_3.index t (3 : Fin 5) * 256 + 1 * r.val = r.val; omega
    | ⟨4, _⟩ => show win0_3.index t (4 : Fin 5) * 256 + 1 * s.val = s.val; omega
  refine (blk_3 c (V m c) t (ix5 h 0 j r s)).trans ?_
  rw [e, host_v26]
  exact tiled_at _ _ _ _ _ _

theorem b_at (t : Fin cfg0.N) (h : Fin 2) (j : Fin 16) (r s : Fin 256) :
    (iblk m c 4 t (ix5 h 0 j r s) : EReal)
    = sOf m c (ix3 ⟨2 * (t.val / 16) + h.val, by have := lt64 t; omega⟩ ⟨256 * (t.val % 16) + r.val, by omega⟩ ⟨256 * j.val + s.val, by omega⟩) := by
  have e : (((cfg0.win 4).blk t).view.emb (ix5 h 0 j r s) : S8x16x16x256x256.Idx)
      = ix5 ⟨2 * (t.val / 16) + h.val, by have := lt64 t; omega⟩ ⟨t.val % 16, by omega⟩ j r s := by
    have h0 := w4_0 t
    have h1 := w4_1 t
    have h2 := w4_2 t
    have h3 := w4_3 t
    have h4 := w4_4 t
    funext a
    apply Fin.ext
    match a with
    | ⟨0, _⟩ => show win0_4.index t (0 : Fin 5) * 2 + 1 * h.val = 2 * (t.val / 16) + h.val; omega
    | ⟨1, _⟩ => show win0_4.index t (1 : Fin 5) * 1 + 1 * 0 = t.val % 16; omega
    | ⟨2, _⟩ => show win0_4.index t (2 : Fin 5) * 16 + 1 * j.val = j.val; omega
    | ⟨3, _⟩ => show win0_4.index t (3 : Fin 5) * 256 + 1 * r.val = r.val; omega
    | ⟨4, _⟩ => show win0_4.index t (4 : Fin 5) * 256 + 1 * s.val = s.val; omega
  refine (blk_4 c (V m c) t (ix5 h 0 j r s)).trans ?_
  rw [e, host_v35]
  exact tiled_at _ _ _ _ _ _

/-- The second argument: the gradient coming back to the attention's output. -/
abbrev doOf : (⟨S4096x1024, .f32⟩ : BufTy).Contents (Elt Ideal) := m ((c.tc : Thread nD τ).loc main_arg1)

theorem o_at (t : Fin cfg0.N) (r d : Fin 256) :
    (iblk m c 5 t (ix2 r d) : EReal)
    = doOf m c (ix2 ⟨256 * (t.val % 16) + r.val, by omega⟩ ⟨256 * (t.val / 16) + d.val, by have := lt64 t; omega⟩) := by
  have e : (((cfg0.win 5).blk t).view.emb (ix2 r d) : S4096x1024.Idx)
      = ix2 ⟨256 * (t.val % 16) + r.val, by omega⟩ ⟨256 * (t.val / 16) + d.val, by have := lt64 t; omega⟩ := by
    have h0 := w5_0 t
    have h1 := w5_1 t
    funext a
    apply Fin.ext
    match a with
    | ⟨0, _⟩ => show win0_5.index t (0 : Fin 2) * 256 + 1 * r.val = 256 * (t.val % 16) + r.val; omega
    | ⟨1, _⟩ => show win0_5.index t (1 : Fin 2) * 256 + 1 * d.val = 256 * (t.val / 16) + d.val; omega
  refine (blk_5 c (V m c) t (ix2 r d)).trans ?_
  rw [e, host_arg1]

theorem li_at (t : Fin cfg0.N) (k : Fin 256) (l : Fin 384) :
    (iblk m c 6 t (ix2 k l) : EReal) = if l.val < 256 then if k.val ≤ l.val then (1 : EReal) else 0 else 1 := by
  have e : (((cfg0.win 6).blk t).view.emb (ix2 k l) : S256x384.Idx) = ix2 k l := by
    have h0 := w6_0 t
    have h1 := w6_1 t
    funext a
    apply Fin.ext
    match a with
    | ⟨0, _⟩ => show win0_6.index t (0 : Fin 2) * 256 + 1 * k.val = k.val; omega
    | ⟨1, _⟩ => show win0_6.index t (1 : Fin 2) * 384 + 1 * l.val = l.val; omega
  refine (blk_6 c (V m c) t (ix2 k l)).trans ?_
  rw [e]
  exact host_li m c k l

end Cert.Aw
-- ==== Proof.Fold.lean ====
/- The kernel's whole run: what its outputs hold, summed over the row blocks of a pair of heads. -/
module

public import proofs.«01_k».proof.Proof.First
public import proofs.«01_k».proof.Proof.Middle
public import proofs.«01_k».proof.Proof.Last
public import proofs.«01_k».proof.Proof.Windows
public import proofs.«01_k».proof.Proof.Gen.KernelIdeal.Value

@[expose] public section

set_option maxRecDepth 16384
set_option maxHeartbeats 400000

noncomputable section

namespace Cert.Aw

open Idealize.ShloMosaic Cert.KernelIdeal Cert.KernelIdeal.Gen Cert.KernelIdeal.Value

variable (m : (ℓ : Loc nD τ sig) → Buf (Elt Ideal) ℓ) (c : Dev nD)

/-! The arrays as functions of plain numbers, zero outside their extents. -/

def qkvN (r d : ℕ) : EReal := if h : r < 4096 ∧ d < 3072 then qkvOf m c (ix2 ⟨r, h.1⟩ ⟨d, h.2⟩) else 0
def doN (r d : ℕ) : EReal := if h : r < 4096 ∧ d < 1024 then doOf m c (ix2 ⟨r, h.1⟩ ⟨d, h.2⟩) else 0
def aN (H t s : ℕ) : EReal :=
  if h : H < 8 ∧ t < 4096 ∧ s < 4096 then aOf m c (ix3 ⟨H, h.1⟩ ⟨t, h.2.1⟩ ⟨s, h.2.2⟩) else 0
def sN (H t s : ℕ) : EReal :=
  if h : H < 8 ∧ t < 4096 ∧ s < 4096 then sOf m c (ix3 ⟨H, h.1⟩ ⟨t, h.2.1⟩ ⟨s, h.2.2⟩) else 0

/-- What row block `n` of the pair of heads `p` works on. -/
def blk (p n : ℕ) : Blk where
  Q t d := qkvN m c (256 * n + t) (256 * p + d)
  K s d := qkvN m c s (1024 + 256 * p + d)
  V s d := qkvN m c s (2048 + 256 * p + d)
  O t d := doN m c (256 * n + t) (256 * p + d)
  A h t s := aN m c (2 * p + h) (256 * n + t) s
  B h t s := sN m c (2 * p + h) (256 * n + t) s

/-- The key gradient after the first `n` row blocks. -/
def dkTo (p n s d : ℕ) : EReal :=
  ∑ j ∈ Finset.range n, if s < 256 * j + 256 then (blk m c p j).fk j s d else 0

/-- The value gradient after the first `n` row blocks. -/
def dvTo (p n s d : ℕ) : EReal :=
  ∑ j ∈ Finset.range n, if s < 256 * (j + 1) then (blk m c p j).dv s d else 0

theorem dkTo_succ (p n s d : ℕ) :
    after (dkTo m c p n) ((blk m c p n).fk n) (256 * n + 256) s d = dkTo m c p (n + 1) s d := by
  unfold after
  rw [dkTo, dkTo, Finset.sum_range_succ]
  split
  · rfl
  · rw [add_zero]

theorem dvTo_succ (p n s d : ℕ) :
    after (dvTo m c p n) (blk m c p n).dv (256 * (n + 1)) s d = dvTo m c p (n + 1) s d := by
  unfold after
  rw [dvTo, dvTo, Finset.sum_range_succ]
  split
  · rfl
  · rw [add_zero]

theorem dkTo_one (p n s d : ℕ) (h : n = 0) :
    after (fun _ _ => 0) ((blk m c p n).fk n) (256 * n + 256) s d = dkTo m c p (n + 1) s d := by
  subst h
  rw [← dkTo_succ]
  rfl

theorem dvTo_one (p n s d : ℕ) (h : n = 0) :
    after (fun _ _ => 0) (blk m c p n).dv (256 * (n + 1)) s d = dvTo m c p (n + 1) s d := by
  subst h
  rw [← dvTo_succ]
  rfl

section
variable (t : Fin cfg0.N)

/-- The block a grid point works on. -/
abbrev at_ : Blk := blk m c (t.val / 16) (t.val % 16)

theorem hq (r d : Fin 256) : iblk m c 0 t (ix2 r d) = (at_ m c t).Q r d := by
  have h := lt64 t
  refine (q_at m c t r d).trans ?_
  show _ = qkvN m c (256 * (t.val % 16) + r) (256 * (t.val / 16) + d)
  rw [qkvN, dif_pos ⟨by omega, by omega⟩]

theorem hk (s : Fin 4096) (d : Fin 256) : iblk m c 1 t (ix2 s d) = (at_ m c t).K s d := by
  have h := lt64 t
  refine (k_at m c t s d).trans ?_
  show _ = qkvN m c s (1024 + 256 * (t.val / 16) + d)
  rw [qkvN, dif_pos ⟨by omega, by omega⟩]

theorem hv (s : Fin 4096) (d : Fin 256) : iblk m c 2 t (ix2 s d) = (at_ m c t).V s d := by
  have h := lt64 t
  refine (v_at m c t s d).trans ?_
  show _ = qkvN m c s (2048 + 256 * (t.val / 16) + d)
  rw [qkvN, dif_pos ⟨by omega, by omega⟩]

theorem ha (h : Fin 2) (j : Fin 16) (r s : Fin 256) :
    iblk m c 3 t (ix5 h 0 j r s) = (at_ m c t).A h r (256 * j + s) := by
  have h' := lt64 t
  refine (a_at m c t h j r s).trans ?_
  show _ = aN m c (2 * (t.val / 16) + h) (256 * (t.val % 16) + r) (256 * j + s)
  rw [aN, dif_pos ⟨by omega, by omega, by omega⟩]

theorem hb (h : Fin 2) (j : Fin 16) (r s : Fin 256) :
    iblk m c 4 t (ix5 h 0 j r s) = (at_ m c t).B h r (256 * j + s) := by
  have h' := lt64 t
  refine (b_at m c t h j r s).trans ?_
  show _ = sN m c (2 * (t.val / 16) + h) (256 * (t.val % 16) + r) (256 * j + s)
  rw [sN, dif_pos ⟨by omega, by omega, by omega⟩]

theorem ho (r d : Fin 256) : iblk m c 5 t (ix2 r d) = (at_ m c t).O r d := by
  have h := lt64 t
  refine (o_at m c t r d).trans ?_
  show _ = doN m c (256 * (t.val % 16) + r) (256 * (t.val / 16) + d)
  rw [doN, dif_pos ⟨by omega, by omega⟩]

theorem hl (k : Fin 256) (l : Fin 384) : iblk m c 6 t (ix2 k l) = upto k l := by
  refine (li_at m c t k l).trans ?_
  unfold upto
  by_cases h1 : l.val < 256 <;> by_cases h2 : k.val ≤ l.val <;> simp [h1, h2]

end

/-- What a step keeps of the state before it: at the first row block nothing. -/
def Kept (t : ℕ) (acc : Vec Ideal S256x256 .bf16 × Vec Ideal S4096x256 .bf16 × Vec Ideal S4096x256 .bf16 × Vec Ideal S4096x256 .f32 × Vec Ideal S4096x256 .f32) : Prop :=
  ∀ (s : Fin 4096) (d : Fin 256),
    acc.2.2.2.1 (ix2 s d) = dkTo m c (t / 16) (t % 16 + 1) s d ∧ acc.2.2.2.2 (ix2 s d) = dvTo m c (t / 16) (t % 16 + 1) s d

/-- What the outputs hold after a step. -/
def Given (t : ℕ) (acc : Vec Ideal S256x256 .bf16 × Vec Ideal S4096x256 .bf16 × Vec Ideal S4096x256 .bf16 × Vec Ideal S4096x256 .f32 × Vec Ideal S4096x256 .f32) : Prop :=
  (∀ r d : Fin 256, acc.1 (ix2 r d) = (blk m c (t / 16) (t % 16)).fq (t % 16) (d / 128) r (d % 128))
  ∧ (t % 16 = 15 → ∀ (s : Fin 4096) (d : Fin 256),
    acc.2.1 (ix2 s d) = dkTo m c (t / 16) 16 s d ∧ acc.2.2.1 (ix2 s d) = dvTo m c (t / 16) 16 s d)

theorem step_A (t : Fin cfg0.N) (acc) (h0 : t.val % 16 = 0) :
    Kept m c t.val (stAt0 m c t.val t.isLt acc) ∧ Given m c t.val (stAt0 m c t.val t.isLt acc) := by
  have h1 : ¬t.val % 16 = 15 := by omega
  have p := point_1 t
  rw [stAt0_A m c t acc h0 h1]
  refine ⟨fun s d => ⟨?_, ?_⟩, fun r d => ?_, fun h => absurd h h1⟩
  · dsimp only
    refine (first_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      ((hcond0_0 t).mpr h0) (fun h => h1 ((hcond0_1 t).mp h)) (iblk m c 0 t) (iblk m c 1 t) (iblk m c 2 t) (iblk m c 3 t) (iblk m c 4 t) (iblk m c 5 t) (iblk m c 6 t)
      (at_ m c t) (hq m c t) (hk m c t) (hv m c t) (ha m c t) (hb m c t) (ho m c t) (hl m c t) s d).trans ?_
    rw [p]
    exact dkTo_one m c _ _ _ _ h0
  · dsimp only
    refine (first_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      ((hcond0_0 t).mpr h0) (fun h => h1 ((hcond0_1 t).mp h)) (iblk m c 0 t) (iblk m c 1 t) (iblk m c 2 t) (iblk m c 3 t) (iblk m c 4 t) (iblk m c 5 t) (iblk m c 6 t)
      (at_ m c t) (hq m c t) (hk m c t) (hv m c t) (ha m c t) (hb m c t) (ho m c t) (hl m c t) s d).trans ?_
    rw [p]
    exact dvTo_one m c _ _ _ _ h0
  · dsimp only
    refine (first_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      ((hcond0_0 t).mpr h0) (fun h => h1 ((hcond0_1 t).mp h)) (iblk m c 0 t) (iblk m c 1 t) (iblk m c 2 t) (iblk m c 3 t) (iblk m c 4 t) (iblk m c 5 t) (iblk m c 6 t)
      (at_ m c t) (hq m c t) (hk m c t) (hv m c t) (ha m c t) (hb m c t) (ho m c t) (hl m c t) r d).trans ?_
    rw [p]

theorem step_B (t : Fin cfg0.N) (acc) (h0 : ¬t.val % 16 = 0) (h1 : ¬t.val % 16 = 15) (hacc : Kept m c (t.val - 1) acc) :
    Kept m c t.val (stAt0 m c t.val t.isLt acc) ∧ Given m c t.val (stAt0 m c t.val t.isLt acc) := by
  have p := point_1 t
  have e1 : (t.val - 1) / 16 = t.val / 16 := by omega
  have e2 : (t.val - 1) % 16 + 1 = t.val % 16 := by omega
  unfold Kept at hacc
  rw [e1, e2] at hacc
  rw [stAt0_B m c t acc h0 h1]
  refine ⟨fun s d => ⟨?_, ?_⟩, fun r d => ?_, fun h => absurd h h1⟩
  · dsimp only
    refine (mid_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2
      (at_ m c t) (dkTo m c (t.val / 16) (t.val % 16)) (dvTo m c (t.val / 16) (t.val % 16)) (hq m c t) (hk m c t) (hv m c t) (ha m c t) (hb m c t) (ho m c t) (hl m c t) (fun s d => (hacc s d).1) (fun s d => (hacc s d).2) s d).trans ?_
    rw [p]
    exact dkTo_succ ..
  · dsimp only
    refine (mid_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2
      (at_ m c t) (dkTo m c (t.val / 16) (t.val % 16)) (dvTo m c (t.val / 16) (t.val % 16)) (hq m c t) (hk m c t) (hv m c t) (ha m c t) (hb m c t) (ho m c t) (hl m c t) (fun s d => (hacc s d).1) (fun s d => (hacc s d).2) s d).trans ?_
    rw [p]
    exact dvTo_succ ..
  · dsimp only
    refine (mid_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc.2.2.2.1 acc.2.2.2.2
      (at_ m c t) (dkTo m c (t.val / 16) (t.val % 16)) (dvTo m c (t.val / 16) (t.val % 16)) (hq m c t) (hk m c t) (hv m c t) (ha m c t) (hb m c t) (ho m c t) (hl m c t) (fun s d => (hacc s d).1) (fun s d => (hacc s d).2) r d).trans ?_
    rw [p]

theorem step_C (t : Fin cfg0.N) (acc) (h1 : t.val % 16 = 15) (hacc : Kept m c (t.val - 1) acc) :
    Given m c t.val (stAt0 m c t.val t.isLt acc) := by
  have h0 : ¬t.val % 16 = 0 := by omega
  have p := point_1 t
  have e1 : (t.val - 1) / 16 = t.val / 16 := by omega
  have e2 : (t.val - 1) % 16 + 1 = t.val % 16 := by omega
  unfold Kept at hacc
  rw [e1, e2] at hacc
  rw [stAt0_C m c t acc h0 h1]
  refine ⟨fun r d => ?_, fun _ s d => ⟨?_, ?_⟩⟩
  · dsimp only
    refine (last_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2.1 acc.2.2.2.2
      (at_ m c t) (dkTo m c (t.val / 16) (t.val % 16)) (dvTo m c (t.val / 16) (t.val % 16)) (hq m c t) (hk m c t) (hv m c t) (ha m c t) (hb m c t) (ho m c t) (hl m c t) (fun s d => (hacc s d).1) (fun s d => (hacc s d).2) r d).trans ?_
    rw [p]
  · dsimp only
    refine (last_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2.1 acc.2.2.2.2
      (at_ m c t) (dkTo m c (t.val / 16) (t.val % 16)) (dvTo m c (t.val / 16) (t.val % 16)) (hq m c t) (hk m c t) (hv m c t) (ha m c t) (hb m c t) (ho m c t) (hl m c t) (fun s d => (hacc s d).1) (fun s d => (hacc s d).2) s d).trans ?_
    rw [p]
    refine (dkTo_succ ..).trans ?_
    rw [h1]
  · dsimp only
    refine (last_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      (fun h => h0 ((hcond0_0 t).mp h)) ((hcond0_1 t).mpr h1) (iblk m c 0 t) (iblk m c 1 t) (iblk m c 2 t) (iblk m c 3 t) (iblk m c 4 t) (iblk m c 5 t) (iblk m c 6 t) acc.2.2.2.1 acc.2.2.2.2
      (at_ m c t) (dkTo m c (t.val / 16) (t.val % 16)) (dvTo m c (t.val / 16) (t.val % 16)) (hq m c t) (hk m c t) (hv m c t) (ha m c t) (hb m c t) (ho m c t) (hl m c t) (fun s d => (hacc s d).1) (fun s d => (hacc s d).2) s d).trans ?_
    rw [p]
    refine (dvTo_succ ..).trans ?_
    rw [h1]

theorem points : ∀ (t : ℕ) (h : t < cfg0.N),
    (t % 16 ≠ 15 → Kept m c t (outsAt0 m c t h)) ∧ Given m c t (outsAt0 m c t h) := by
  intro t
  induction t with
  | zero =>
    intro h
    rw [outsAt0_zero]
    have e := step_A m c ⟨0, h⟩ junk0 rfl
    exact ⟨fun _ => e.1, e.2⟩
  | succ t ih =>
    intro h
    rw [outsAt0_succ]
    by_cases h0 : (t + 1) % 16 = 0
    · have e := step_A m c ⟨t + 1, h⟩ (outsAt0 m c t (Nat.lt_of_succ_lt h)) h0
      exact ⟨fun _ => e.1, e.2⟩
    · have k := (ih (Nat.lt_of_succ_lt h)).1 (by omega)
      by_cases h1 : (t + 1) % 16 = 15
      · exact ⟨fun h2 => absurd h1 h2, step_C m c ⟨t + 1, h⟩ _ h1 k⟩
      · have e := step_B m c ⟨t + 1, h⟩ _ h0 h1 k
        exact ⟨fun _ => e.1, e.2⟩

theorem G7_at (r : Fin 4096) (d : Fin 1024) :
    G7 m c (ix2 r d) = (blk m c (d / 256) (r / 256)).fq (r / 256) (d % 256 / 128) (r % 256) (d % 128) := by
  have hN : cfg0.N = 64 := N_0
  have e : pt7Of (ix2 r d) = 16 * (d / 256) + r / 256 := by
    show 1 * (r.val / 256 - 0) + 16 * (d.val / 256 - 0) = _
    omega
  have hp : pt7Of (ix2 r d) < cfg0.N := by omega
  unfold G7
  rw [dif_pos hp]
  have w := outsAt0_sweep m c (pt7Of (ix2 r d)) hp
  rw [← w]
  have g := (points m c (pt7Of (ix2 r d)) hp).2.1 ⟨r % 256, by omega⟩ ⟨d % 256, by omega⟩
  have l : loc7Of (ix2 r d) = ix2 ⟨r % 256, by omega⟩ ⟨d % 256, by omega⟩ := eq_ix2 _
  rw [l]
  refine g.trans ?_
  have e1 : pt7Of (ix2 r d) / 16 = d / 256 := by omega
  have e2 : pt7Of (ix2 r d) % 16 = r / 256 := by omega
  rw [e1, e2]
  show Blk.fq _ _ _ _ (d.val % 256 % 128) = _
  rw [show d.val % 256 % 128 = d.val % 128 by omega]

theorem G8_at (s : Fin 4096) (d : Fin 1024) : G8 m c (ix2 s d) = dkTo m c (d / 256) 16 s (d % 256) := by
  have hN : cfg0.N = 64 := N_0
  have e : pt8Of (ix2 s d) = 16 * (d / 256) + 15 := by
    show 16 * (4 * (s.val / 4096 - 0) + 1 * (d.val / 256 - 0)) + 15 = _
    omega
  have hp : pt8Of (ix2 s d) < cfg0.N := by omega
  unfold G8
  rw [dif_pos hp]
  have w := outsAt0_sweep m c (pt8Of (ix2 s d)) hp
  rw [← w]
  have g := ((points m c (pt8Of (ix2 s d)) hp).2.2 (by omega) s ⟨d % 256, by omega⟩).1
  have l : loc8Of (ix2 s d) = ix2 s ⟨d % 256, by omega⟩ := by
    rw [eq_ix2 (loc8Of (ix2 s d))]
    congr 1
    exact Fin.ext (Nat.mod_eq_of_lt s.isLt)
  rw [l]
  refine g.trans ?_
  rw [show pt8Of (ix2 s d) / 16 = d / 256 by omega]

theorem G9_at (s : Fin 4096) (d : Fin 1024) : G9 m c (ix2 s d) = dvTo m c (d / 256) 16 s (d % 256) := by
  have hN : cfg0.N = 64 := N_0
  have e : pt9Of (ix2 s d) = 16 * (d / 256) + 15 := by
    show 16 * (4 * (s.val / 4096 - 0) + 1 * (d.val / 256 - 0)) + 15 = _
    omega
  have hp : pt9Of (ix2 s d) < cfg0.N := by omega
  unfold G9
  rw [dif_pos hp]
  have w := outsAt0_sweep m c (pt9Of (ix2 s d)) hp
  rw [← w]
  have g := ((points m c (pt9Of (ix2 s d)) hp).2.2 (by omega) s ⟨d % 256, by omega⟩).2
  have l : loc9Of (ix2 s d) = ix2 s ⟨d % 256, by omega⟩ := by
    rw [eq_ix2 (loc9Of (ix2 s d))]
    congr 1
    exact Fin.ext (Nat.mod_eq_of_lt s.isLt)
  rw [l]
  refine g.trans ?_
  rw [show pt9Of (ix2 s d) / 16 = d / 256 by omega]

end Cert.Aw
-- ==== Proof.Window.lean ====
/- The host's running sums along a row, read at an index. -/
module

public import proofs.«01_k».proof.Proof.Windows

@[expose] public section

set_option maxRecDepth 16384

noncomputable section

namespace Cert.Aw

open Idealize.ShloMosaic Cert.ReferenceIdeal Cert.ReferenceIdeal.Gen

theorem fold_sum {k : ℕ} (f : Fin k → EReal) (v : EReal) :
    (List.finRange k).foldl (fun r n => r + f n) v = v + ∑ n : Fin k, f n := by
  rw [← List.sum_ofFn]
  rw [List.ofFn_eq_map]
  generalize List.finRange k = l
  induction l generalizing v with
  | nil => simp
  | cons a l ih => rw [List.foldl_cons, ih, List.map_cons, List.sum_cons, add_assoc]

/-- The window's places: one per element of a row. -/
def places : Fin 4096 ≃ (⟨3, ![1, 1, 4096]⟩ : Shape).Idx where
  toFun u := ix3 (0 : Fin 1) (0 : Fin 1) u
  invFun w := w 2
  left_inv u := rfl
  right_inv w := by
    have e := eq_ix3 w
    have h0 : w 0 = (0 : Fin 1) := Fin.ext (by have q : (w 0).val < 1 := (w 0).isLt; show (w 0).val = 0; omega)
    have h1 : w 1 = (0 : Fin 1) := Fin.ext (by have q : (w 1).val < 1 := (w 1).isLt; show (w 1).val = 0; omega)
    rw [h0, h1] at e
    exact e.symm

theorem window_sum (lo hi : Fin 3 → ℕ) (x : S8x4096x4096.Idx → EReal) (v : S_.Idx → EReal)
    (h : S8x4096x4096.ReduceWindows ![1, 1, 4096] ![1, 1, 1] lo hi S8x4096x4096) (hu : 0 < S_.numel) (j : S8x4096x4096.Idx) :
    Host.reduceWindowAdd (F := Ideal) (φ := .f32) ![1, 1, 4096] ![1, 1, 1] lo hi x v h hu j
    = v (Shape.Idx.first hu) + ∑ u : Fin 4096,
        if hin : ∀ a : Fin 3, lo a ≤ (j a).val * ![1, 1, 1] a + (places u a).val
            ∧ (j a).val * ![1, 1, 1] a + (places u a).val - lo a < S8x4096x4096.size a
        then x (fun a => ⟨(j a).val * ![1, 1, 1] a + (places u a).val - lo a, (hin a).2⟩)
        else v (Shape.Idx.first hu) := by
  unfold Host.reduceWindowAdd
  rw [Ideal.hostReduceWindowAdd_def]
  unfold Ideal.hostReduceWindowAdd Host.reduceWindow
  refine (fold_sum _ _).trans ?_
  congr 1
  rw [← Equiv.sum_comp ((places.trans (Shape.rowMajor _)))]
  refine Finset.sum_congr rfl fun u _ => ?_
  simp only [Equiv.trans_apply, Equiv.symm_apply_apply]
  rfl

theorem reflected (n s : ℕ) (hs : s < n) (g : ℕ → EReal) :
    ∑ u : Fin n, (fun u : ℕ => if n - 1 ≤ s + u then g (s + u - (n - 1)) else 0) u.val = ∑ u ∈ Finset.range (s + 1), g u := by
  rw [Fin.sum_univ_eq_sum_range (fun u : ℕ => if n - 1 ≤ s + u then g (s + u - (n - 1)) else 0) n, ← Finset.sum_range_reflect]
  have e2 : ∀ j ∈ Finset.range n, (fun u : ℕ => if n - 1 ≤ s + u then g (s + u - (n - 1)) else 0) (n - 1 - j)
      = if j < s + 1 then g (s + 1 - 1 - j) else 0 := by
    intro j hj
    have hj' := Finset.mem_range.mp hj
    by_cases k : j < s + 1
    · simp only [if_pos k]
      rw [if_pos (by omega)]
      congr 1
      omega
    · simp only [if_neg k]
      rw [if_neg (by omega)]
  rw [Finset.sum_congr rfl e2, ← Finset.sum_filter]
  have e3 : (Finset.range n).filter (fun j => j < s + 1) = Finset.range (s + 1) := by
    ext j
    simp only [Finset.mem_filter, Finset.mem_range]
    omega
  rw [e3]
  exact Finset.sum_range_reflect g (s + 1)

/-- A row's running sum from its start. -/
theorem running (x : S8x4096x4096.Idx → EReal) (v : S_.Idx → EReal)
    (h : S8x4096x4096.ReduceWindows ![1, 1, 4096] ![1, 1, 1] ![0, 0, 4095] ![0, 0, 0] S8x4096x4096) (hu : 0 < S_.numel)
    (hv : v (Shape.Idx.first hu) = 0) (g : ℕ → EReal) (H : Fin 8) (T s : Fin 4096) (hg : ∀ u : Fin 4096, x (ix3 H T u) = g u) :
    Host.reduceWindowAdd (F := Ideal) (φ := .f32) ![1, 1, 4096] ![1, 1, 1] ![0, 0, 4095] ![0, 0, 0] x v h hu (ix3 H T s)
    = ∑ u ∈ Finset.range (s.val + 1), g u := by
  rw [window_sum, hv, zero_add]
  have e : ∀ u : Fin 4096, (if hin : ∀ a : Fin 3, (![0, 0, 4095] : Fin 3 → ℕ) a ≤ ((ix3 H T s : S8x4096x4096.Idx) a).val * ![1, 1, 1] a + (places u a).val
            ∧ ((ix3 H T s : S8x4096x4096.Idx) a).val * ![1, 1, 1] a + (places u a).val - (![0, 0, 4095] : Fin 3 → ℕ) a < S8x4096x4096.size a
        then x (fun a => ⟨((ix3 H T s : S8x4096x4096.Idx) a).val * ![1, 1, 1] a + (places u a).val - (![0, 0, 4095] : Fin 3 → ℕ) a, (hin a).2⟩)
        else 0) = (fun u : ℕ => if 4095 ≤ s.val + u then g (s.val + u - 4095) else 0) u.val := by
    intro u
    by_cases k : 4095 ≤ s.val + u.val
    · have hu' := u.isLt
      have hs := s.isLt
      rw [dif_pos]
      · simp only [if_pos k]
        have q := hg ⟨s.val + u.val - 4095, by omega⟩
        rw [← q]
        congr 1
        funext a
        apply Fin.ext
        match a with
        | ⟨0, _⟩ => show H.val * 1 + 0 - 0 = H.val; omega
        | ⟨1, _⟩ => show T.val * 1 + 0 - 0 = T.val; omega
        | ⟨2, _⟩ => show s.val * 1 + u.val - 4095 = s.val + u.val - 4095; omega
      · intro a
        match a with
        | ⟨0, _⟩ => show 0 ≤ H.val * 1 + 0 ∧ H.val * 1 + 0 - 0 < 8; have := H.isLt; omega
        | ⟨1, _⟩ => show 0 ≤ T.val * 1 + 0 ∧ T.val * 1 + 0 - 0 < 4096; have := T.isLt; omega
        | ⟨2, _⟩ => show 4095 ≤ s.val * 1 + u.val ∧ s.val * 1 + u.val - 4095 < 4096; omega
    · rw [dif_neg]
      · simp only [if_neg k]
      · intro hin
        have q : 4095 ≤ s.val * 1 + u.val := (hin 2).1
        omega
  exact (Finset.sum_congr rfl (fun u _ => e u)).trans (reflected 4096 s.val s.isLt g)

/-- A finite number. -/
def Fin_ (x : EReal) : Prop := ∃ r : ℝ, x = (r : EReal)

theorem Fin_.zero : Fin_ 0 := ⟨0, rfl⟩
theorem Fin_.add {x y : EReal} (hx : Fin_ x) (hy : Fin_ y) : Fin_ (x + y) := by
  obtain ⟨r, rfl⟩ := hx
  obtain ⟨q, rfl⟩ := hy
  exact ⟨r + q, by norm_cast⟩
theorem Fin_.sub {x y : EReal} (hx : Fin_ x) (hy : Fin_ y) : Fin_ (x - y) := by
  obtain ⟨r, rfl⟩ := hx
  obtain ⟨q, rfl⟩ := hy
  exact ⟨r - q, by norm_cast⟩
theorem Fin_.mul {x y : EReal} (hx : Fin_ x) (hy : Fin_ y) : Fin_ (x * y) := by
  obtain ⟨r, rfl⟩ := hx
  obtain ⟨q, rfl⟩ := hy
  exact ⟨r * q, by norm_cast⟩
theorem Fin_.neg {x : EReal} (hx : Fin_ x) : Fin_ (-x) := by
  obtain ⟨r, rfl⟩ := hx
  exact ⟨-r, by norm_cast⟩
theorem Fin_.exp {x : EReal} (hx : Fin_ x) : Fin_ (Ideal.exp x) := by
  obtain ⟨r, rfl⟩ := hx
  exact ⟨Real.exp r, rfl⟩
theorem Fin_.sum {ι : Type} (S : Finset ι) (f : ι → EReal) (h : ∀ i ∈ S, Fin_ (f i)) : Fin_ (∑ i ∈ S, f i) := by
  classical
  induction S using Finset.induction_on with
  | empty => exact ⟨0, by simp⟩
  | insert a S ha ih =>
    rw [Finset.sum_insert ha]
    exact (h a (Finset.mem_insert_self a S)).add (ih fun i hi => h i (Finset.mem_insert_of_mem hi))

/-- Any running sum of finite numbers is finite. -/
theorem window_fin (lo hi : Fin 3 → ℕ) (x : S8x4096x4096.Idx → EReal) (v : S_.Idx → EReal)
    (h : S8x4096x4096.ReduceWindows ![1, 1, 4096] ![1, 1, 1] lo hi S8x4096x4096) (hu : 0 < S_.numel) (j : S8x4096x4096.Idx)
    (hv : v (Shape.Idx.first hu) = 0) (hx : ∀ i, Fin_ (x i)) :
    Fin_ (Host.reduceWindowAdd (F := Ideal) (φ := .f32) ![1, 1, 4096] ![1, 1, 1] lo hi x v h hu j) := by
  rw [window_sum, hv, zero_add]
  refine Fin_.sum _ _ fun u _ => ?_
  split
  · exact hx _
  · exact Fin_.zero

end Cert.Aw
-- ==== Proof.Logits.lean ====
/- The reference's log-sigmoid and its derivative at a finite logit. -/
module

public import proofs.«01_k».proof.Proof.Window

@[expose] public section

set_option maxRecDepth 16384

noncomputable section

namespace Cert.Aw

open Idealize.ShloMosaic Cert.ReferenceIdeal Cert.ReferenceIdeal.Gen Cert.ReferenceIdeal.Read

/-- The logarithm of `1 + exp r`, as the reference writes it. -/
def soft (r : ℝ) : ℝ := max r 0 + Real.log (1 + Real.exp (-(max r (-r))))

theorem exp_soft (r : ℝ) : Real.exp (soft r) = 1 + Real.exp r := by
  unfold soft
  have p : 0 < 1 + Real.exp (-(max r (-r))) := by positivity
  rw [Real.exp_add, Real.exp_log p]
  rcases le_total 0 r with h | h
  · rw [max_eq_left h, max_eq_left (by linarith), mul_add, ← Real.exp_add, add_neg_cancel, Real.exp_zero]
    ring
  · rw [max_eq_right h, max_eq_right (by linarith), neg_neg, Real.exp_zero]
    ring

/-- The reference's softplus of an extended real. -/
def softE (x : EReal) : EReal :=
  Scalar.select (Ideal.cmp .une (x - 0) (x - 0)) (x + 0) (max x 0 + Ideal.log1p (Ideal.exp (-(max (x - 0) (-(x - 0))))))

theorem up (a b : ℝ) : ((max a b : ℝ) : EReal) = max (a : EReal) (b : EReal) :=
  Monotone.map_max (fun _ _ h => EReal.coe_le_coe_iff.mpr h)

theorem softE_coe (r : ℝ) : softE (r : EReal) = (soft r : EReal) := by
  have h : Ideal.cmp .une ((r : EReal) - 0) ((r : EReal) - 0) = 0#1 := by simp [Ideal.cmp]
  unfold softE
  rw [h]
  show max (r : EReal) 0 + Ideal.log1p (Ideal.exp (-(max ((r : EReal) - 0) (-((r : EReal) - 0))))) = _
  rw [sub_zero, ← EReal.coe_neg, ← up, ← EReal.coe_neg]
  have p : 0 < 1 + Real.exp (-(max r (-r))) := by positivity
  have e : Ideal.log1p (Ideal.exp ((-(max r (-r)) : ℝ) : EReal)) = (Real.log (1 + Real.exp (-(max r (-r)))) : EReal) := by
    show Ideal.log (1 + (Real.exp (-(max r (-r))) : EReal)) = _
    rw [← EReal.coe_one, ← EReal.coe_add]
    show (if 1 + Real.exp (-(max r (-r))) ≤ 0 then (⊥ : EReal) else _) = _
    rw [if_neg (not_le.mpr p)]
  rw [e, ← EReal.coe_zero, ← up, ← EReal.coe_add]
  rfl

/-- The reference's derivative of the softplus. -/
def slopeE (x : EReal) : EReal :=
  Ideal.exp (Scalar.select (Ideal.cmp .oeq x ⊤) 0 x - Scalar.select (Ideal.cmp .oeq (softE x) ⊤) 0 (softE x))

theorem slopeE_coe (r : ℝ) : slopeE (r : EReal) = ((Real.exp r / (1 + Real.exp r) : ℝ) : EReal) := by
  have h : ∀ q : ℝ, Ideal.cmp .oeq (q : EReal) ⊤ = 0#1 := by
    intro q
    simp [Ideal.cmp]
  unfold slopeE
  rw [softE_coe, h, h]
  show Ideal.exp ((r : EReal) - (soft r : EReal)) = _
  rw [← EReal.coe_sub]
  show ((Real.exp (r - soft r) : ℝ) : EReal) = _
  rw [Real.exp_sub, exp_soft]

theorem inf_f32 : (Ideal.ofBits .f32 0x7F800000#32 : EReal) = ⊤ := by
  simp [Ideal.ofBits, Ideal.ieee]

theorem zero_f32 : (Ideal.ofBits .f32 0x00000000#32 : EReal) = 0 := by
  simp [Ideal.ofBits, Ideal.ieee]

theorem softE_at (x o : EReal) (h : o = 0) :
    Scalar.select (Ideal.cmp .une (x - o) (x - o)) (x + o) (max x o + Ideal.log1p (Ideal.exp (-(max (x - o) (-(x - o)))))) = softE x := by
  subst h
  rfl

theorem slopeE_at (x o p : EReal) (h : o = 0) (hp : p = ⊤) :
    Ideal.exp (Scalar.select (Ideal.cmp .oeq x p) o x - Scalar.select (Ideal.cmp .oeq (softE x) p) o (softE x)) = slopeE x := by
  subst h hp
  rfl

variable (x : (⟨S4096x3072, .f32⟩ : BufTy).Contents (Elt Ideal)) (i : S8x4096x4096.Idx)

theorem soft_neg : (val_main_call3_v1_0 (F := Ideal) x i : EReal) = softE (-(val_main_v7 (F := Ideal) x i : EReal)) := by
  rw [val_main_call3_v1_0_apply, val_main_call3_call0_v4_apply, val_main_call3_call0_v6_apply, val_main_call3_call0_v11_apply,
    val_main_call3_call0_v3_apply, val_main_call3_call0_v10_apply, val_main_call3_call0_v9_apply, val_main_call3_call0_v8_apply,
    val_main_call3_call0_v7_apply, val_main_call3_call0_v3_apply, val_main_call3_call0_v1_apply, val_main_call3_call0_v0_apply,
    val_main_call3_call0_v5_apply, val_main_call3_call0_v2_apply, val_main_call3_v0_apply]
  exact softE_at _ _ zero_f32

theorem slope_neg : (val_main_v19_1 (F := Ideal) x i : EReal) = slopeE (-(val_main_v7 (F := Ideal) x i : EReal)) := by
  rw [val_main_v19_1_apply, val_main_call3_call0_v21_apply, val_main_call3_call0_v16_apply, val_main_call3_call0_v20_apply,
    val_main_call3_call0_v14_apply, val_main_call3_call0_v18_apply, val_main_call3_call0_v13_apply, val_main_call3_call0_v15_apply,
    val_main_call3_call0_v17_apply, val_main_call3_call0_v19_apply, soft_neg, val_main_call3_v0_apply]
  exact slopeE_at _ _ _ zero_f32 inf_f32

theorem soft_pos : (val_main_call0_v1_0 (F := Ideal) x i : EReal) = softE (val_main_v7 (F := Ideal) x i : EReal) := by
  rw [val_main_call0_v1_0_apply, val_main_call0_call0_v4_apply, val_main_call0_call0_v6_apply, val_main_call0_call0_v11_apply,
    val_main_call0_call0_v3_apply, val_main_call0_call0_v10_apply, val_main_call0_call0_v9_apply, val_main_call0_call0_v8_apply,
    val_main_call0_call0_v7_apply, val_main_call0_call0_v3_apply, val_main_call0_call0_v1_apply, val_main_call0_call0_v0_apply,
    val_main_call0_call0_v5_apply, val_main_call0_call0_v2_apply, val_main_call0_v0_apply, val_main_v14_apply]
  refine (softE_at _ _ zero_f32).trans ?_
  exact congrArg softE (neg_neg (val_main_v7 (F := Ideal) x i : EReal))

theorem slope_pos : (val_main_v15_1 (F := Ideal) x i : EReal) = slopeE (val_main_v7 (F := Ideal) x i : EReal) := by
  rw [val_main_v15_1_apply, val_main_call0_call0_v21_apply, val_main_call0_call0_v16_apply, val_main_call0_call0_v20_apply,
    val_main_call0_call0_v14_apply, val_main_call0_call0_v18_apply, val_main_call0_call0_v13_apply, val_main_call0_call0_v15_apply,
    val_main_call0_call0_v17_apply, val_main_call0_call0_v19_apply, soft_pos, val_main_call0_v0_apply, val_main_v14_apply]
  have e : (FloatOps.hostNegf (F := Ideal) (φ := .f32) (FloatOps.hostNegf (F := Ideal) (φ := .f32) (val_main_v7 (F := Ideal) x i)) : EReal)
      = (val_main_v7 (F := Ideal) x i : EReal) := neg_neg (val_main_v7 (F := Ideal) x i : EReal)
  rw [e]
  exact slopeE_at _ _ _ zero_f32 inf_f32

end Cert.Aw
-- ==== Proof.Ref.lean ====
/- The reference's gradient of the logits, entry by entry, at finite arguments. -/
module

public import proofs.«01_k».proof.Proof.Logits

@[expose] public section

set_option maxRecDepth 16384

noncomputable section

namespace Cert.Aw

open Idealize.ShloMosaic Cert.ReferenceIdeal Cert.ReferenceIdeal.Gen Cert.ReferenceIdeal.Read

theorem Fin_.select {x y : EReal} (w : BitVec 1) (hx : Fin_ x) (hy : Fin_ y) : Fin_ (Scalar.select w x y) := by
  unfold Scalar.select
  split
  · exact hx
  · exact hy

theorem Fin_.soft {x : EReal} (hx : Fin_ x) : Fin_ (softE x) := by
  obtain ⟨r, rfl⟩ := hx
  exact ⟨_, softE_coe r⟩

theorem Fin_.scale : Fin_ (Ideal.ofBits .f32 0x3DB504F3#32) := by
  simp only [Ideal.ofBits, Ideal.ieee]
  simp
  exact ⟨_, (EReal.coe_mul _ _).symm⟩

theorem below (a b : ℕ) (ha : a < 4096) (hb : b < 4096) :
    IntOp.cmpi .slt (BitVec.ofNat 32 a) (BitVec.ofNat 32 b) = if a < b then 1#1 else 0#1 := by
  have e : ∀ n : ℕ, n < 4096 → (BitVec.ofNat 32 n).toInt = n := by
    intro n hn
    rw [BitVec.toInt_eq_toNat_of_lt (by rw [BitVec.toNat_ofNat]; omega), BitVec.toNat_ofNat]
    omega
  show BitVec.ofBool (BitVec.slt (BitVec.ofNat 32 a) (BitVec.ofNat 32 b)) = _
  rw [BitVec.slt, e a ha, e b hb]
  by_cases h : a < b
  · rw [if_pos h, decide_eq_true (by omega)]
    rfl
  · rw [if_neg h, decide_eq_false (by omega)]
    rfl

/-- The mask is set strictly below the diagonal. -/
theorem mask_at (H : Fin 8) (T s : Fin 4096) :
    val_main_v22_1 (F := Ideal) (ix3 H T s) = if s.val < T.val then 1#1 else 0#1 := by
  rw [val_main_v22_1_apply, val_main_v13_apply, val_main_v11_apply, val_main_v12_apply, val_main_v9_apply, val_main_v10_apply,
    val_main_v8_apply, val_main_v8_apply]
  exact below s T s.isLt T.isLt

theorem mask_at' (H : Fin 8) (T s : Fin 4096) :
    val_main_v16_1 (F := Ideal) (ix3 H T s) = if s.val < T.val then 1#1 else 0#1 := by
  rw [val_main_v16_1_apply, val_main_v13_apply, val_main_v11_apply, val_main_v12_apply, val_main_v9_apply, val_main_v10_apply,
    val_main_v8_apply, val_main_v8_apply]
  exact below s T s.isLt T.isLt

theorem fill_1 (i : S8x4096x4096.Idx) : (val_main_call1_v2 (F := Ideal) i : EReal) = 0 := by
  rw [val_main_call1_v2_apply, val_main_call1_v0_apply, val_main_cst_0_apply]
  exact zero_f32

theorem fill_4 (i : S8x4096x4096.Idx) : (val_main_call4_v2 (F := Ideal) i : EReal) = 0 := by
  rw [val_main_call4_v2_apply, val_main_call4_v0_apply, val_main_cst_1_apply]
  exact zero_f32

theorem fill_5 (i : S8x4096x4096.Idx) : (val_main_call5_v0 (F := Ideal) i : EReal) = 0 := by
  rw [val_main_call5_v0_apply, val_main_call5_cst_apply]
  exact zero_f32

theorem fill_8 (i : S8x4096x4096.Idx) : (val_main_call8_v0 (F := Ideal) i : EReal) = 0 := by
  rw [val_main_call8_v0_apply, val_main_call8_cst_apply]
  exact zero_f32

theorem fill_2 (i : S_.Idx) : (val_main_call2_v0 (F := Ideal) i : EReal) = 0 := by
  rw [val_main_call2_v0_apply, val_main_call2_cst_apply]
  exact zero_f32

theorem fill_7 (i : S_.Idx) : (val_main_call7_v0 (F := Ideal) i : EReal) = 0 := by
  rw [val_main_call7_v0_apply, val_main_call7_cst_apply]
  exact zero_f32

variable (x : (⟨S4096x3072, .f32⟩ : BufTy).Contents (Elt Ideal)) (y : (⟨S4096x1024, .f32⟩ : BufTy).Contents (Elt Ideal))
variable (hx : ∀ i, Fin_ (x i)) (hy : ∀ i, Fin_ (y i))

include hx in
theorem fin_z (i : S8x4096x4096.Idx) : Fin_ (val_main_v7 (F := Ideal) x i) := by
  rw [val_main_v7_apply, val_main_v6_apply, val_main_cst_apply, val_main_v5_apply]
  refine Fin_.mul (Fin_.sum _ _ fun k _ => Fin_.mul ?_ ?_) Fin_.scale
  · rw [val_main_v3_apply, val_main_v0_apply]
    exact hx _
  · rw [val_main_v4_apply, val_main_v1_apply]
    exact hx _

include hx in
theorem fin_e (i : S8x4096x4096.Idx) : Fin_ (val_main_v21 (F := Ideal) x i) := by
  have hl : ∀ i, Fin_ (val_main_v16_0 (F := Ideal) x i) := by
    intro i
    rw [val_main_v16_0_apply, fill_1, val_main_v15_0_apply, soft_pos]
    exact Fin_.select _ (Fin_.neg (Fin_.soft (fin_z x hx i))) Fin_.zero
  rw [val_main_v21_apply, val_main_v20_apply, val_main_v19_0_apply, soft_neg, val_main_v18_apply]
  refine Fin_.exp (Fin_.add (Fin_.neg (Fin_.soft (Fin_.neg (fin_z x hx i)))) (Fin_.sub ?_ (hl i)))
  exact window_fin _ _ _ _ _ _ i (fill_2 _) hl

include hx hy in
theorem fin_da (i : S8x4096x4096.Idx) : Fin_ (val_main_v29 (F := Ideal) x y i) := by
  rw [val_main_v29_apply]
  refine Fin_.sum _ _ fun k _ => Fin_.mul ?_ ?_
  · rw [val_main_v28_apply, val_main_v27_apply]
    exact hy _
  · rw [val_main_v23_apply, val_main_v2_apply]
    exact hx _

include hx hy in
theorem fin_g (i : S8x4096x4096.Idx) : Fin_ (val_main_v34 (F := Ideal) x y i) := by
  rw [val_main_v34_apply, val_main_v33_apply, fill_5]
  exact Fin_.mul (Fin_.select _ (fin_da x y hx hy i) Fin_.zero) (fin_e x hx i)

/-- The gradient at the logarithm of a weight is the weight times the weight's gradient. -/
theorem g_at (i : S8x4096x4096.Idx) :
    (val_main_v34 (F := Ideal) x y i : EReal) = (val_main_v22_0 (F := Ideal) x i : EReal) * (val_main_v29 (F := Ideal) x y i : EReal) := by
  rw [val_main_v34_apply, val_main_v33_apply, fill_5, val_main_v22_0_apply, fill_4]
  generalize val_main_v22_1 (F := Ideal) i = w
  show (Scalar.select w (val_main_v29 (F := Ideal) x y i : EReal) 0) * (val_main_v21 (F := Ideal) x i : EReal) = Scalar.select w (val_main_v21 (F := Ideal) x i : EReal) 0 * _
  unfold Scalar.select
  split
  · exact mul_comm _ _
  · rw [zero_mul, zero_mul]

/-- A weight on or above the diagonal is zero. -/
theorem a_zero (H : Fin 8) (T s : Fin 4096) (h : ¬s.val < T.val) : (val_main_v22_0 (F := Ideal) x (ix3 H T s) : EReal) = 0 := by
  rw [val_main_v22_0_apply, mask_at, if_neg h, fill_4]
  rfl

/-- The entries of a row of the gradient at the logarithms, zero past the row's end. -/
def gRow (H : Fin 8) (T : Fin 4096) (u : ℕ) : EReal :=
  if h : u < 4096 then val_main_v34 (F := Ideal) x y (ix3 H T ⟨u, h⟩) else 0

theorem cum_at (H : Fin 8) (T s : Fin 4096) :
    (val_main_v37 (F := Ideal) x y (ix3 H T s) : EReal) = ∑ u ∈ Finset.range (s.val + 1), gRow x y H T u := by
  exact running _ _ _ _ (fill_7 _) (gRow x y H T) H T s fun u => by unfold gRow; rw [dif_pos u.isLt]

/-- The two terms of the reference's gradient of a logit, in one. -/
theorem joined (g w z : ℝ) :
    (-(-(g : EReal) * slopeE (-(z : EReal))) + -(-(-(-(g : EReal) + (w : EReal)) * slopeE (z : EReal))) : EReal)
    = (g : EReal) - Ideal.div 1 (1 + Ideal.exp (-(z : EReal))) * (w : EReal) := by
  have p : 0 < 1 + Real.exp (-z) := by positivity
  have e1 : Ideal.div 1 (1 + Ideal.exp (-(z : EReal))) = ((1 / (1 + Real.exp (-z)) : ℝ) : EReal) := by
    rw [← EReal.coe_neg]
    show Ideal.div 1 (1 + (Real.exp (-z) : EReal)) = _
    rw [← EReal.coe_one, ← EReal.coe_add]
    unfold Ideal.div
    rw [if_neg (by exact_mod_cast p.ne'), ← EReal.coe_inv, ← EReal.coe_mul]
    congr 1
  rw [e1, slopeE_coe, ← EReal.coe_neg z, slopeE_coe]
  norm_cast
  rw [Real.exp_neg]
  have q : 0 < Real.exp z := Real.exp_pos z
  have q' : (1 + Real.exp z) ≠ 0 := by positivity
  field_simp
  ring

include hx hy in
/-- The gradient of the logits. -/
theorem dz_at (H : Fin 8) (T s : Fin 4096) :
    (val_main_v44 (F := Ideal) x y (ix3 H T s) : EReal)
    = if s.val < T.val then
        ((val_main_v34 (F := Ideal) x y (ix3 H T s) : EReal)
          - Ideal.div 1 (1 + Ideal.exp (-(val_main_v7 (F := Ideal) x (ix3 H T s) : EReal))) * ∑ u ∈ Finset.range (s.val + 1), gRow x y H T u)
        * Ideal.ofBits .f32 0x3DB504F3#32
      else 0 := by
  rw [val_main_v44_apply, val_main_v43_apply, val_main_cst_2_apply, val_main_v42_apply, val_main_v35_apply, val_main_call6_v1_apply,
    val_main_call6_v0_apply, val_main_v41_apply, val_main_v40_apply, val_main_call9_v1_apply, val_main_call9_v0_apply,
    val_main_v39_apply, val_main_v38_apply, val_main_v36_apply, fill_8, mask_at', slope_neg, slope_pos, cum_at]
  have hg := fin_g x y hx hy (ix3 H T s)
  by_cases h : s.val < T.val
  · rw [if_pos h, if_pos h]
    have hw : Fin_ (∑ u ∈ Finset.range (s.val + 1), gRow x y H T u) := by
      refine Fin_.sum _ _ fun u _ => ?_
      unfold gRow
      split
      · exact fin_g x y hx hy _
      · exact Fin_.zero
    obtain ⟨z, hz⟩ := fin_z x hx (ix3 H T s)
    obtain ⟨g, hg⟩ := hg
    obtain ⟨w, hw⟩ := hw
    rw [hz, hg, hw]
    exact congrArg (fun v : EReal => v * Ideal.ofBits .f32 0x3DB504F3#32) (joined g w z)
  · rw [if_neg h, if_neg h]
    have e : (val_main_v34 (F := Ideal) x y (ix3 H T s) : EReal) = 0 := by rw [g_at, a_zero x H T s h, zero_mul]
    rw [e]
    show ((-((-(0 : EReal)) * _) + -(-(-(0 : EReal) * _))) * _ : EReal) = 0
    simp

end Cert.Aw
-- ==== Proof.Sums.lean ====
/- The kernel's three results as sums over whole rows and columns. -/
module

public import proofs.«01_k».proof.Proof.Fold
public import proofs.«01_k».proof.Proof.Ref

@[expose] public section

set_option maxRecDepth 16384

noncomputable section

namespace Cert.Aw

open Idealize.ShloMosaic Cert.KernelIdeal Cert.KernelIdeal.Gen Cert.KernelIdeal.Value

variable (m : (ℓ : Loc nD τ sig) → Buf (Elt Ideal) ℓ) (c : Dev nD)

/-- A weight times its own gradient. -/
def wg (H T s : ℕ) : EReal :=
  aN m c H T s * ∑ d ∈ Finset.range 128, doN m c T (128 * H + d) * qkvN m c s (2048 + 128 * H + d)

/-- The gradient of a logit, zero on and above the diagonal. -/
def lg (H T s : ℕ) : EReal :=
  if s < T then (wg m c H T s - sN m c H T s * ∑ u ∈ Finset.range (s + 1), wg m c H T u) * sc else 0

theorem lg_zero (H T s : ℕ) (h : ¬s < T) : lg m c H T s = 0 := if_neg h

theorem blk_G (p n h t s : ℕ) : (blk m c p n).G h t s = wg m c (2 * p + h) (256 * n + t) s := by
  unfold Blk.G wg
  refine congrArg₂ (· * ·) rfl (Finset.sum_congr rfl fun d _ => ?_)
  show doN m c (256 * n + t) (256 * p + (128 * h + d)) * qkvN m c s (2048 + 256 * p + (128 * h + d)) = _
  rw [show 256 * p + (128 * h + d) = 128 * (2 * p + h) + d by ring,
    show 2048 + 256 * p + (128 * h + d) = 2048 + 128 * (2 * p + h) + d by ring]

theorem blk_M (p n h t s : ℕ) : (blk m c p n).M n h t s = lg m c (2 * p + h) (256 * n + t) s := by
  unfold Blk.M lg Blk.Z
  have e : (blk m c p n).G h t = wg m c (2 * p + h) (256 * n + t) := funext fun u => blk_G m c p n h t u
  unfold dz
  rw [e]
  rfl

/-- A sum over 16 blocks of 256 is a sum over 4096. -/
theorem blocks (f : ℕ → EReal) (n : ℕ) :
    ∑ j ∈ Finset.range n, ∑ t ∈ Finset.range 256, f (256 * j + t) = ∑ T ∈ Finset.range (256 * n), f T := by
  induction n with
  | zero => rfl
  | succ n ih =>
    rw [Finset.sum_range_succ, ih, Nat.mul_succ, Finset.sum_range_add]

theorem aN_zero (H T s : ℕ) (h : ¬s < T) : aN m c H T s = 0 := by
  unfold aN
  split
  · rename_i b
    exact a_zero (qkvOf m c) ⟨H, b.1⟩ ⟨T, b.2.1⟩ ⟨s, b.2.2⟩ h
  · rfl

theorem G7_sum (r : Fin 4096) (d : Fin 1024) :
    (G7 m c (ix2 r d) : EReal) = ∑ s : Fin 4096, lg m c (d / 128) r s * qkvN m c s (1024 + d) := by
  have hr := r.isLt
  have hd := d.isLt
  rw [G7_at, Fin.sum_univ_eq_sum_range (fun s => lg m c (d / 128) r s * qkvN m c s (1024 + d)) 4096]
  unfold Blk.fq
  simp only [blk_M]
  have e1 : 2 * (d.val / 256) + d.val % 256 / 128 = d.val / 128 := by omega
  have e2 : 256 * (r.val / 256) + r.val % 256 = r.val := by omega
  rw [e1, e2]
  have e3 : ∀ s, (blk m c (d.val / 256) (r.val / 256)).K s (128 * (d.val % 256 / 128) + d.val % 128) = qkvN m c s (1024 + d) := by
    intro s
    show qkvN m c s (1024 + 256 * (d.val / 256) + (128 * (d.val % 256 / 128) + d.val % 128)) = _
    congr 1
    omega
  simp only [e3]
  show (∑ s ∈ Finset.range (256 * (r.val / 256) + 256), lg m c (d.val / 128) r s * qkvN m c s (1024 + d) : EReal) = _
  refine Finset.sum_subset (fun s hs => Finset.mem_range.mpr ?_) (fun s _ hs => ?_)
  · have := Finset.mem_range.mp hs
    omega
  · have : ¬s < 256 * (r.val / 256) + 256 := fun h => hs (Finset.mem_range.mpr h)
    rw [lg_zero m c _ _ _ (by omega), zero_mul]

theorem G8_sum (s : Fin 4096) (d : Fin 1024) :
    (G8 m c (ix2 s d) : EReal) = ∑ T : Fin 4096, lg m c (d / 128) T s * qkvN m c T d := by
  have hd := d.isLt
  rw [G8_at, Fin.sum_univ_eq_sum_range (fun T => lg m c (d / 128) T s * qkvN m c T d) 4096]
  refine Eq.trans ?_ (blocks (fun T => lg m c (d / 128) T s * qkvN m c T d) 16)
  show (dkTo m c (d.val / 256) 16 s (d.val % 256) : EReal) = _
  unfold dkTo
  refine Finset.sum_congr rfl fun j _ => ?_
  have e1 : 2 * (d.val / 256) + d.val % 256 / 128 = d.val / 128 := by omega
  have e2 : ∀ t, (blk m c (d.val / 256) j).Q t (d.val % 256) = qkvN m c (256 * j + t) d := by
    intro t
    show qkvN m c (256 * j + t) (256 * (d.val / 256) + d.val % 256) = _
    congr 1
    omega
  have e3 : (blk m c (d.val / 256) j).fk j s (d.val % 256)
      = ∑ t ∈ Finset.range 256, lg m c (d.val / 128) (256 * j + t) s * qkvN m c (256 * j + t) d := by
    unfold Blk.fk
    simp only [blk_M, e1, e2]
  rw [e3]
  split
  · rfl
  · refine (Finset.sum_eq_zero fun t ht => ?_).symm
    have := Finset.mem_range.mp ht
    rw [lg_zero m c _ _ _ (by omega), zero_mul]

theorem G9_sum (s : Fin 4096) (d : Fin 1024) :
    (G9 m c (ix2 s d) : EReal) = ∑ T : Fin 4096, aN m c (d / 128) T s * doN m c T d := by
  have hd := d.isLt
  rw [G9_at, Fin.sum_univ_eq_sum_range (fun T => aN m c (d / 128) T s * doN m c T d) 4096]
  refine Eq.trans ?_ (blocks (fun T => aN m c (d / 128) T s * doN m c T d) 16)
  show (dvTo m c (d.val / 256) 16 s (d.val % 256) : EReal) = _
  unfold dvTo
  refine Finset.sum_congr rfl fun j _ => ?_
  have e3 : (blk m c (d.val / 256) j).dv s (d.val % 256)
      = ∑ t ∈ Finset.range 256, aN m c (d.val / 128) (256 * j + t) s * doN m c (256 * j + t) d := by
    unfold Blk.dv
    refine Finset.sum_congr rfl fun t _ => ?_
    show aN m c (2 * (d.val / 256) + d.val % 256 / 128) (256 * j + t) s * doN m c (256 * j + t) (256 * (d.val / 256) + d.val % 256) = _
    congr 2 <;> omega
  rw [e3]
  split
  · rfl
  · refine (Finset.sum_eq_zero fun t ht => ?_).symm
    have := Finset.mem_range.mp ht
    rw [aN_zero m c _ _ _ (by omega), zero_mul]

end Cert.Aw
-- ==== Proof.Equal.lean ====
/- The reference's three results are the kernel's. -/
module

public import proofs.«01_k».proof.Proof.Sums

@[expose] public section

set_option maxRecDepth 16384

noncomputable section

namespace Cert.Aw

open Idealize.ShloMosaic Cert.KernelIdeal Cert.KernelIdeal.Gen Cert.KernelIdeal.Value Cert.ReferenceIdeal.Read

variable (m : (ℓ : Loc nD τ sig) → Buf (Elt Ideal) ℓ) (c : Dev nD)

theorem qkvN_at (r : Fin 4096) (d : Fin 3072) : (qkvOf m c (ix2 r d) : EReal) = qkvN m c r d := by
  unfold qkvN
  rw [dif_pos ⟨r.isLt, d.isLt⟩]

theorem doN_at (r : Fin 4096) (d : Fin 1024) : (doOf m c (ix2 r d) : EReal) = doN m c r d := by
  unfold doN
  rw [dif_pos ⟨r.isLt, d.isLt⟩]

theorem aN_at (H : Fin 8) (T s : Fin 4096) : (val_main_v22_0 (F := Ideal) (qkvOf m c) (ix3 H T s) : EReal) = aN m c H T s := by
  unfold aN
  rw [dif_pos ⟨H.isLt, T.isLt, s.isLt⟩]

theorem sN_at (H : Fin 8) (T s : Fin 4096) :
    Ideal.div 1 (1 + Ideal.exp (-(val_main_v7 (F := Ideal) (qkvOf m c) (ix3 H T s) : EReal))) = sN m c H T s := by
  unfold sN
  rw [dif_pos ⟨H.isLt, T.isLt, s.isLt⟩]
  exact (sOf_at m c H T s).symm

/-- A head of the reference's query, key or value is a stretch of columns. -/
theorem head_0 (r : Fin 4096) (H : Fin 8) (d : Fin 128) :
    (val_main_v3 (F := Ideal) (qkvOf m c) (ix3 r H d) : EReal) = qkvN m c r (128 * H + d) := by
  rw [val_main_v3_apply, val_main_v0_apply]
  have hH := H.isLt
  have hd := d.isLt
  have hr := r.isLt
  rw [eq_ix2 (idx_main_v0 (idx_main_v3 (ix3 r H d)))]
  refine (qkvN_at m c _ _).trans ?_
  show qkvN m c (((r.val * 8 + H.val) * 128 + d.val) / 1024) (((r.val * 8 + H.val) * 128 + d.val) % 1024) = _
  congr 1 <;> omega

theorem head_1 (r : Fin 4096) (H : Fin 8) (d : Fin 128) :
    (val_main_v4 (F := Ideal) (qkvOf m c) (ix3 r H d) : EReal) = qkvN m c r (1024 + (128 * H + d)) := by
  rw [val_main_v4_apply, val_main_v1_apply]
  have hH := H.isLt
  have hd := d.isLt
  have hr := r.isLt
  rw [eq_ix2 (idx_main_v1 (idx_main_v4 (ix3 r H d)))]
  refine (qkvN_at m c _ _).trans ?_
  show qkvN m c (((r.val * 8 + H.val) * 128 + d.val) / 1024) (1024 + ((r.val * 8 + H.val) * 128 + d.val) % 1024) = _
  congr 1 <;> omega

theorem head_2 (r : Fin 4096) (H : Fin 8) (d : Fin 128) :
    (val_main_v23 (F := Ideal) (qkvOf m c) (ix3 r H d) : EReal) = qkvN m c r (2048 + 128 * H + d) := by
  rw [val_main_v23_apply, val_main_v2_apply]
  have hH := H.isLt
  have hd := d.isLt
  have hr := r.isLt
  rw [eq_ix2 (idx_main_v2 (idx_main_v23 (ix3 r H d)))]
  refine (qkvN_at m c _ _).trans ?_
  show qkvN m c (((r.val * 8 + H.val) * 128 + d.val) / 1024) (2048 + ((r.val * 8 + H.val) * 128 + d.val) % 1024) = _
  congr 1 <;> omega

theorem head_o (r : Fin 4096) (H : Fin 8) (d : Fin 128) :
    (val_main_v28 (F := Ideal) (doOf m c) (ix3 H d r) : EReal) = doN m c r (128 * H + d) := by
  rw [val_main_v28_apply, val_main_v27_apply]
  have hH := H.isLt
  have hd := d.isLt
  have hr := r.isLt
  rw [eq_ix2 (idx_main_v27 (idx_main_v28 (ix3 H d r)))]
  refine (doN_at m c _ _).trans ?_
  show doN m c (((r.val * 8 + H.val) * 128 + d.val) / 1024) (((r.val * 8 + H.val) * 128 + d.val) % 1024) = _
  congr 1 <;> omega

theorem wg_at (H : Fin 8) (T s : Fin 4096) :
    (val_main_v34 (F := Ideal) (qkvOf m c) (doOf m c) (ix3 H T s) : EReal) = wg m c H T s := by
  rw [g_at, aN_at, val_main_v29_apply]
  unfold wg
  rw [← Fin.sum_univ_eq_sum_range (fun d => doN m c T (128 * H + d) * qkvN m c s (2048 + 128 * H + d)) 128]
  refine congrArg₂ (· * ·) rfl (Finset.sum_congr rfl fun d _ => ?_)
  rw [← head_o m c T H d, ← head_2 m c s H d]
  rw [eq_ix3 (lidx_main_v29 (ix3 H T s) d), eq_ix3 (ridx_main_v29 (ix3 H T s) d)]
  rfl

variable (hx : ∀ i, Fin_ (qkvOf m c i)) (hy : ∀ i, Fin_ (doOf m c i))

include hx hy in
theorem lg_at (H : Fin 8) (T s : Fin 4096) :
    (val_main_v44 (F := Ideal) (qkvOf m c) (doOf m c) (ix3 H T s) : EReal) = lg m c H T s := by
  rw [dz_at _ _ hx hy, wg_at, sN_at]
  unfold lg
  have e : ∑ u ∈ Finset.range (s.val + 1), gRow (qkvOf m c) (doOf m c) H T u = ∑ u ∈ Finset.range (s.val + 1), wg m c H T u := by
    refine Finset.sum_congr rfl fun u hu => ?_
    have h : u < 4096 := by
      have := Finset.mem_range.mp hu
      have := s.isLt
      omega
    unfold gRow
    rw [dif_pos h]
    exact wg_at m c H T ⟨u, h⟩
  rw [e]
  rfl

include hx hy in
theorem rows (H : Fin 8) (T : Fin 4096) (d : Fin 128) :
    (val_main_v47 (F := Ideal) (qkvOf m c) (doOf m c) (ix3 H T d) : EReal)
    = ∑ s : Fin 4096, lg m c H T s * qkvN m c s (1024 + (128 * H + d)) := by
  rw [val_main_v47_apply]
  refine Finset.sum_congr rfl fun s _ => ?_
  rw [← lg_at m c hx hy H T s, ← head_1 m c s H d]
  rw [eq_ix3 (lidx_main_v47 (ix3 H T d) s), eq_ix3 (ridx_main_v47 (ix3 H T d) s)]
  rfl

include hx hy in
theorem columns (H : Fin 8) (s : Fin 4096) (d : Fin 128) :
    (val_main_v45 (F := Ideal) (qkvOf m c) (doOf m c) (ix3 H s d) : EReal)
    = ∑ T : Fin 4096, lg m c H T s * qkvN m c T (128 * H + d) := by
  rw [val_main_v45_apply]
  refine Finset.sum_congr rfl fun T _ => ?_
  rw [← lg_at m c hx hy H T s, ← head_0 m c T H d]
  rw [eq_ix3 (lidx_main_v45 (ix3 H s d) T), eq_ix3 (ridx_main_v45 (ix3 H s d) T)]
  rfl

theorem weighted (H : Fin 8) (s : Fin 4096) (d : Fin 128) :
    (val_main_v30 (F := Ideal) (qkvOf m c) (doOf m c) (ix3 H d s) : EReal)
    = ∑ T : Fin 4096, aN m c H T s * doN m c T (128 * H + d) := by
  rw [val_main_v30_apply]
  refine Finset.sum_congr rfl fun T _ => ?_
  rw [← aN_at m c H T s, ← head_o m c T H d, mul_comm]
  rw [eq_ix3 (lidx_main_v30 (ix3 H d s) T), eq_ix3 (ridx_main_v30 (ix3 H d s) T)]
  rfl

include hx hy in
theorem query (r : Fin 4096) (d : Fin 1024) :
    (G7 m c (ix2 r d) : EReal) = val_main_v51 (F := Ideal) (qkvOf m c) (doOf m c) (ix2 r d) := by
  have hr := r.isLt
  have hd := d.isLt
  rw [G7_sum, val_main_v51_apply, val_main_v50_apply, val_main_v48_apply, eq_ix3 (idx_main_v48 (idx_main_v50 (ix2 r d)))]
  refine Eq.trans ?_ (rows m c hx hy _ _ _).symm
  have e1 : ((idx_main_v48 (idx_main_v50 (ix2 r d))) 0).val = d.val / 128 := by
    show (r.val * 1024 + d.val) / 128 % 8 = _
    omega
  have e2 : ((idx_main_v48 (idx_main_v50 (ix2 r d))) 1).val = r.val := by
    show (r.val * 1024 + d.val) / 1024 = _
    omega
  have e3 : 128 * ((idx_main_v48 (idx_main_v50 (ix2 r d))) 0).val + ((idx_main_v48 (idx_main_v50 (ix2 r d))) 2).val = d.val := by
    rw [e1]
    show 128 * (d.val / 128) + (r.val * 1024 + d.val) % 128 = _
    omega
  rw [e3, e1, e2]

include hx hy in
theorem key (s : Fin 4096) (d : Fin 1024) :
    (G8 m c (ix2 s d) : EReal) = val_main_v52 (F := Ideal) (qkvOf m c) (doOf m c) (ix2 s d) := by
  have hr := s.isLt
  have hd := d.isLt
  rw [G8_sum, val_main_v52_apply, val_main_v49_apply, val_main_v46_apply, eq_ix3 (idx_main_v46 (idx_main_v49 (ix2 s d)))]
  refine Eq.trans ?_ (columns m c hx hy _ _ _).symm
  have e1 : ((idx_main_v46 (idx_main_v49 (ix2 s d))) 0).val = d.val / 128 := by
    show (s.val * 1024 + d.val) / 128 % 8 = _
    omega
  have e2 : ((idx_main_v46 (idx_main_v49 (ix2 s d))) 1).val = s.val := by
    show (s.val * 1024 + d.val) / 1024 = _
    omega
  have e3 : 128 * ((idx_main_v46 (idx_main_v49 (ix2 s d))) 0).val + ((idx_main_v46 (idx_main_v49 (ix2 s d))) 2).val = d.val := by
    rw [e1]
    show 128 * (d.val / 128) + (s.val * 1024 + d.val) % 128 = _
    omega
  rw [e3, e1, e2]

theorem value (s : Fin 4096) (d : Fin 1024) :
    (G9 m c (ix2 s d) : EReal) = val_main_v53 (F := Ideal) (qkvOf m c) (doOf m c) (ix2 s d) := by
  have hr := s.isLt
  have hd := d.isLt
  rw [G9_sum, val_main_v53_apply, val_main_v32_apply, val_main_v31_apply, eq_ix3 (idx_main_v31 (idx_main_v32 (ix2 s d)))]
  refine Eq.trans ?_ (weighted m c _ _ _).symm
  have e1 : ((idx_main_v31 (idx_main_v32 (ix2 s d))) 0).val = d.val / 128 := by
    show (s.val * 1024 + d.val) / 128 % 8 = _
    omega
  have e2 : ((idx_main_v31 (idx_main_v32 (ix2 s d))) 2).val = s.val := by
    show (s.val * 1024 + d.val) / 1024 = _
    omega
  have e3 : 128 * ((idx_main_v31 (idx_main_v32 (ix2 s d))) 0).val + ((idx_main_v31 (idx_main_v32 (ix2 s d))) 1).val = d.val := by
    rw [e1]
    show 128 * (d.val / 128) + (s.val * 1024 + d.val) % 128 = _
    omega
  rw [e3, e1, e2]

end Cert.Aw
-- ==== Proof.Finite.lean ====
/- The precondition read entry by entry: every argument is a real number. -/
module

public import proofs.«01_k».proof.Defs
public import proofs.«01_k».proof.Proof.Equal

@[expose] public section

set_option maxRecDepth 16384

noncomputable section

namespace Cert.Aw

open Idealize.ShloMosaic Cert.KernelIdeal Cert.KernelIdeal.Gen

theorem sides : Cert.Pre_finite_arguments.Facts where
  bcast_S_S4096x3072 := by decide
  bcast_S_S4096x1024 := by decide

/-- A number whose absolute value is below infinity is real. -/
theorem real_of_lt (x : EReal) (h : Ideal.cmp .olt (max x (-x)) (Ideal.ofBits .f32 0x7F800000#32) = 1#1) : Fin_ x := by
  rw [inf_f32] at h
  have hl : max x (-x) < ⊤ := by
    by_contra hn
    have e : Ideal.cmp .olt (max x (-x)) ⊤ = 0#1 := by
      show BitVec.ofBool (decide (max x (-x) < ⊤)) = _
      rw [decide_eq_false hn]
      rfl
    rw [e] at h
    exact absurd h (by decide)
  have h1 : x ≠ ⊤ := fun e => by
    subst e
    simp at hl
  have h2 : x ≠ ⊥ := fun e => by
    subst e
    simp at hl
  exact ⟨x.toReal, (EReal.coe_toReal h1 h2).symm⟩

variable [Cert.Pre_finite_arguments.Facts]
variable (m : (ℓ : Loc nD τ sig) → Buf (Elt Ideal) ℓ) (c : Dev nD)

theorem finite_qkv (h : Cert.Pre_KernelIdeal_finite_arguments m) (i : S4096x3072.Idx) : Fin_ (qkvOf m c i) :=
  real_of_lt _ (congrFun (h c).1 i)

theorem finite_do (h : Cert.Pre_KernelIdeal_finite_arguments m) (i : S4096x1024.Idx) : Fin_ (doOf m c i) :=
  real_of_lt _ (congrFun (h c).2 i)

end Cert.Aw
-- ==== Proof.Blocks.lean ====
/- Blocked sums, and loads and stores of a whole block. -/
module

public import Idealize.ShloMosaic.Lib.WritesUnit
public import Idealize.ShloMosaic.Lib.WholeRead
public import Idealize.ShloMosaic.Lib.Pointwise
public import Idealize.ShloMosaic.PureOps.Ideal.Laws
public import Idealize.ShloMosaic.Lib.Pipeline.Value
public import Idealize.ShloMosaic.Lib.Pipeline.ValueKit.Acc
public import Idealize.ShloMosaic.Lib.StableHlo.ReadAt

@[expose] public section

set_option maxRecDepth 16384

noncomputable section

namespace Cert.Blk

open Idealize.ShloMosaic

/-- A running value that starts at the first block's sum and gains one block's sum at a time ends at the whole sum. -/
theorem walk (b : ℕ) (f s : ℕ → EReal) (n : ℕ) (h0 : s 0 = ∑ t ∈ Finset.range b, f t)
    (hs : ∀ k, k + 1 < n → s (k + 1) = s k + ∑ t ∈ Finset.range b, f (b * (k + 1) + t)) :
    ∀ k, k < n → s k = ∑ T ∈ Finset.range (b * (k + 1)), f T := by
  intro k
  induction k with
  | zero =>
    intro _
    rw [h0]
    simp
  | succ k ih =>
    intro hk
    rw [hs k hk, ih (by omega), Nat.mul_succ b (k + 1), Finset.sum_range_add]

/-- An entry that starts at the first block's sum and gains one block's sum a step: what the last step leaves is the whole sum. -/
theorem grown {N n b : ℕ} (f : ℕ → EReal) (S : (t : ℕ) → t < N → EReal) (hA : ∀ t h, t % n = 0 → S t h = ∑ k ∈ Finset.range b, f (b * t + k))
    (hB : ∀ t h, ¬t % n = 0 → S t h = S (t - 1) (Nat.lt_of_le_of_lt (Nat.sub_le _ _) h) + ∑ k ∈ Finset.range b, f (b * t + k))
    (t : ℕ) (h : t < N) (hn : t < n) (hl : t % n + 1 = n) : S t h = ∑ T ∈ Finset.range (b * n), f T := by
  have run : ∀ k (hk : k < N), k < n → S k hk = ∑ T ∈ Finset.range (b * (k + 1)), f T := by
    intro k
    induction k with
    | zero =>
      intro hk _
      rw [hA 0 hk (Nat.zero_mod n)]
      simp
    | succ k ih =>
      intro hk hkn
      rw [hB _ hk (by rw [Nat.mod_eq_of_lt hkn]; omega), Nat.mul_succ b (k + 1), Finset.sum_range_add]
      exact congrArg (· + _) (ih (by omega) (by omega))
  rw [run t h hn, show t + 1 = n by rwa [Nat.mod_eq_of_lt hn] at hl]

/-- A scratch entry that starts a run of `n` steps at the first block's sum and gains one block's sum a step: what the run's
last step writes is the whole sum. -/
theorem swept {N : ℕ} (n l b : ℕ) (hl : l + 1 = n) (f : ℕ → ℕ → EReal) (S W : (t : ℕ) → t < N → EReal)
    (hA : ∀ t h, t % n = 0 → ¬t % n = l → S t h = ∑ k ∈ Finset.range b, f (t / n) (b * (t % n) + k))
    (hB : ∀ t h, ¬t % n = 0 → ¬t % n = l → S t h = S (t - 1) (Nat.lt_of_le_of_lt (Nat.sub_le _ _) h) + ∑ k ∈ Finset.range b, f (t / n) (b * (t % n) + k))
    (hC : ∀ t h, ¬t % n = 0 → t % n = l → W t h = S (t - 1) (Nat.lt_of_le_of_lt (Nat.sub_le _ _) h) + ∑ k ∈ Finset.range b, f (t / n) (b * (t % n) + k))
    (hn : 1 < n) (q : ℕ) (h : n * q + l < N) : W (n * q + l) h = ∑ T ∈ Finset.range (b * n), f q T := by
  subst hl
  have div : ∀ k, k < l + 1 → ((l + 1) * q + k) / (l + 1) = q := fun k hk => by
    rw [Nat.mul_add_div (by omega), Nat.div_eq_of_lt hk, Nat.add_zero]
  have mod : ∀ k, k < l + 1 → ((l + 1) * q + k) % (l + 1) = k := fun k hk => by
    rw [Nat.mul_add_mod, Nat.mod_eq_of_lt hk]
  have run : ∀ k (hk : (l + 1) * q + k < N), k < l → S ((l + 1) * q + k) hk = ∑ T ∈ Finset.range (b * (k + 1)), f q T := by
    intro k
    induction k with
    | zero =>
      intro hk h0
      rw [hA _ hk (mod 0 (by omega)) (by rw [mod 0 (by omega)]; omega), div 0 (by omega), mod 0 (by omega)]
      simp
    | succ k ih =>
      intro hk hkl
      rw [hB _ hk (by rw [mod (k + 1) (by omega)]; omega) (by rw [mod (k + 1) (by omega)]; omega), div (k + 1) (by omega), mod (k + 1) (by omega),
        Nat.mul_succ b (k + 1), Finset.sum_range_add]
      exact congrArg (· + _) (ih (by omega) (by omega))
  rw [hC _ h (by rw [mod l (by omega)]; omega) (mod l (by omega)), div l (by omega), mod l (by omega), Nat.mul_succ b l, Finset.sum_range_add]
  obtain ⟨k, rfl⟩ : ∃ k, l = k + 1 := ⟨l - 1, by omega⟩
  exact congrArg (· + _) (run k (by omega) (by omega))

/-- The entry of a matrix at two natural numbers, zero outside of it. -/
def at2 {a b : ℕ} (X : (⟨2, ![a, b]⟩ : Shape).Idx → EReal) (r k : ℕ) : EReal :=
  if h : r < a ∧ k < b then X (ix2 ⟨r, h.1⟩ ⟨k, h.2⟩) else 0

theorem at2_of {a b : ℕ} (X : (⟨2, ![a, b]⟩ : Shape).Idx → EReal) (i : (⟨2, ![a, b]⟩ : Shape).Idx) (r k : ℕ)
    (h0 : (i 0).val = r) (h1 : (i 1).val = k) : X i = at2 X r k := by
  subst h0 h1
  unfold at2
  rw [dif_pos ⟨(i 0).isLt, (i 1).isLt⟩]
  exact congrArg X (eq_ix2 i)

theorem prev {N : ℕ} (t : Fin N) : t.val - 1 < N := Nat.lt_of_le_of_lt (Nat.sub_le _ _) t.isLt

/-- A coordinate of a block, counted from the start of the array. -/
theorem slot {j p n y l : ℕ} (h : j = p) (e : l = j * n + 1 * y) : l = n * p + y := by
  rw [e, h, Nat.one_mul, Nat.mul_comm]

theorem slot0 {j n y l : ℕ} (h : j = 0) (e : l = j * n + 1 * y) : l = y := by
  rw [e, h, Nat.zero_mul, Nat.zero_add, Nat.one_mul]

/-- Where a block lies, counted in blocks along each axis. -/
abbrev Goes (f : Fin 2 → ℕ) (a b : ℕ) : Prop := f 0 = a ∧ f 1 = b
abbrev Goes3 (f : Fin 3 → ℕ) (a b d : ℕ) : Prop := f 0 = a ∧ f 1 = b ∧ f 2 = d

/-- An entry of an array, read in the array it equals. -/
theorem read2 {a b : ℕ} {X Y : (⟨2, ![a, b]⟩ : Shape).Idx → EReal} (h : X = Y) {i : (⟨2, ![a, b]⟩ : Shape).Idx} {r k : ℕ}
    (h0 : (i 0).val = r) (h1 : (i 1).val = k) : X i = at2 Y r k := (congrFun h i).trans (at2_of Y i r k h0 h1)

/-- The block of whole rows that holds a position. -/
theorem rowsOf {N n A B : ℕ} (i : (⟨2, ![A, B]⟩ : Shape).Idx) (h : A = n * N) :
    ∃ t : Fin N, (t.val * n ≤ (i 0).val ∧ (i 0).val < t.val * n + n) ∧ 0 * B ≤ (i 1).val ∧ (i 1).val < 0 * B + B := by
  have i0 : (i 0).val < n * N := lt_of_lt_of_eq (i 0).isLt h
  have i1 : (i 1).val < B := (i 1).isLt
  have hn : 0 < n := Nat.pos_of_ne_zero fun e => by simp [e] at i0
  have e := Nat.div_add_mod (i 0).val n
  have l := Nat.mod_lt (i 0).val hn
  refine ⟨⟨(i 0).val / n, Nat.div_lt_of_lt_mul i0⟩, ⟨?_, ?_⟩, by omega, by omega⟩ <;> simp only [Nat.mul_comm _ n] <;> omega

/-- The only block of an array holds every position. -/
theorem whole {A B : ℕ} (i : (⟨2, ![A, B]⟩ : Shape).Idx) : (0 * A ≤ (i 0).val ∧ (i 0).val < 0 * A + A) ∧ 0 * B ≤ (i 1).val ∧ (i 1).val < 0 * B + B := by
  have i0 : (i 0).val < A := (i 0).isLt
  have i1 : (i 1).val < B := (i 1).isLt
  omega

/-- A family over the numbers below a bound at two equal numbers. -/
theorem same {N n k : ℕ} {α : Type} (f : (n : ℕ) → n < N → α) (e : n = k) (hn : n < N) (hk : k < N) : f n hn = f k hk := by
  subst e
  rfl

/-- An array is left as it was. -/
abbrev holds {σ : RefSig} {nD : ℕ} {τ : Topo} {V : EltTy → Type} (m' m : (ℓ : Loc nD τ σ) → Buf V ℓ) (c : Dev nD) (x : Ref σ .tc) : Prop :=
  m' ((c.tc : Thread nD τ).loc x) = m ((c.tc : Thread nD τ).loc x)

/-- A position is in a block when each of its coordinates is. -/
theorem in2 {A B j0 j1 p q : ℕ} {i : (⟨2, ![A, B]⟩ : Shape).Idx} {S : Finset (⟨2, ![A, B]⟩ : Shape).Idx} {off size : Fin 2 → ℕ} {inb}
    (hS : S = (Rect.unit (s := ⟨2, ![A, B]⟩) off size inb).set) (a b : ℕ) (h0 : j0 = p) (o0 : off 0 = j0 * a) (s0 : size 0 = a)
    (h1 : j1 = q) (o1 : off 1 = j1 * b) (s1 : size 1 = b) (e0 : p * a ≤ (i 0).val ∧ (i 0).val < p * a + a)
    (e1 : q * b ≤ (i 1).val ∧ (i 1).val < q * b + b) : i ∈ S := by
  subst h0 h1 hS
  rw [Rect.mem_set_unit]
  intro x
  match x with
  | ⟨0, _⟩ => exact ⟨o0.trans_le e0.1, lt_of_lt_of_eq e0.2 (congrArg₂ (· + ·) o0.symm s0.symm)⟩
  | ⟨1, _⟩ => exact ⟨o1.trans_le e1.1, lt_of_lt_of_eq e1.2 (congrArg₂ (· + ·) o1.symm s1.symm)⟩

theorem in3 {A B C j0 j1 j2 p q u : ℕ} {i : (⟨3, ![A, B, C]⟩ : Shape).Idx} {S : Finset (⟨3, ![A, B, C]⟩ : Shape).Idx} {off size : Fin 3 → ℕ} {inb}
    (hS : S = (Rect.unit (s := ⟨3, ![A, B, C]⟩) off size inb).set) (a b e : ℕ) (h0 : j0 = p) (o0 : off 0 = j0 * a) (s0 : size 0 = a)
    (h1 : j1 = q) (o1 : off 1 = j1 * b) (s1 : size 1 = b) (h2 : j2 = u) (o2 : off 2 = j2 * e) (s2 : size 2 = e)
    (e0 : p * a ≤ (i 0).val ∧ (i 0).val < p * a + a) (e1 : q * b ≤ (i 1).val ∧ (i 1).val < q * b + b)
    (e2 : u * e ≤ (i 2).val ∧ (i 2).val < u * e + e) : i ∈ S := by
  subst h0 h1 h2 hS
  rw [Rect.mem_set_unit]
  intro x
  match x with
  | ⟨0, _⟩ => exact ⟨o0.trans_le e0.1, lt_of_lt_of_eq e0.2 (congrArg₂ (· + ·) o0.symm s0.symm)⟩
  | ⟨1, _⟩ => exact ⟨o1.trans_le e1.1, lt_of_lt_of_eq e1.2 (congrArg₂ (· + ·) o1.symm s1.symm)⟩
  | ⟨2, _⟩ => exact ⟨o2.trans_le e2.1, lt_of_lt_of_eq e2.2 (congrArg₂ (· + ·) o2.symm s2.symm)⟩

theorem ix3_of {A B C : ℕ} {i : (⟨3, ![A, B, C]⟩ : Shape).Idx} {a : Fin A} {b : Fin B} {e : Fin C} (h0 : (i 0).val = a.val)
    (h1 : (i 1).val = b.val) (h2 : (i 2).val = e.val) : i = ix3 a b e :=
  (eq_ix3 i).trans (by rw [show i 0 = a from Fin.ext h0, show i 1 = b from Fin.ext h1, show i 2 = e from Fin.ext h2])

/-- Two matrices agree at two positions when they agree wherever the second position is the first one shifted. -/
theorem entry2 {a b A B : ℕ} {α : Type} {f : (⟨2, ![a, b]⟩ : Shape).Idx → α} {F : (⟨2, ![A, B]⟩ : Shape).Idx → α} (z : (⟨2, ![a, b]⟩ : Shape).Idx)
    (i : (⟨2, ![A, B]⟩ : Shape).Idx) (r0 c0 : ℕ) (h0 : (i 0).val = r0 + (z 0).val) (h1 : (i 1).val = c0 + (z 1).val)
    (h : ∀ (r : Fin a) (d : Fin b) (p : Fin A) (q : Fin B), p.val = r0 + r → q.val = c0 + d → f (ix2 r d) = F (ix2 p q)) : f z = F i := by
  rw [eq_ix2 z, eq_ix2 i]
  exact h _ _ _ _ h0 h1

/-- The same of a block of one matrix of a stack. -/
theorem entry3 {a b K A B : ℕ} {α : Type} {f : (⟨3, ![1, a, b]⟩ : Shape).Idx → α} {F : (⟨3, ![K, A, B]⟩ : Shape).Idx → α} (z : (⟨3, ![1, a, b]⟩ : Shape).Idx)
    (i : (⟨3, ![K, A, B]⟩ : Shape).Idx) (s0 r0 c0 : ℕ) (hs : (i 0).val = s0) (h0 : (i 1).val = r0 + (z 1).val) (h1 : (i 2).val = c0 + (z 2).val)
    (h : ∀ (r : Fin a) (d : Fin b) (s : Fin K) (p : Fin A) (q : Fin B), s.val = s0 → p.val = r0 + r → q.val = c0 + d → f (ix3 0 r d) = F (ix3 s p q)) :
    f z = F i := by
  rw [(eq_ix3 z).trans (congrArg (fun s : Fin 1 => (ix3 s (z 1) (z 2) : (⟨3, ![1, a, b]⟩ : Shape).Idx)) (Subsingleton.elim (α := Fin 1) _ 0)), eq_ix3 i]
  exact h _ _ _ _ _ hs h0 h1

section
variable {sg : RefSig} {κ : Kind} {sp : Space} {s : Shape} {e : EltTy} {Val : EltTy → Type}

/-- After a store of the whole block the block reads as what was stored. -/
theorem stored (v : View sg κ sp s e) (f : v.ty.Contents Val) (L : List (View.Piece Val s e)) {off : Fin s.rank → ℕ} (ho : ∀ a, off a = 0)
    (inb : ∀ a, off a + s.size a ≤ s.size a) (w : s.Idx → Val e) :
    v.read Val (v.writes Val f ((⟨Rect.unit off s.size inb, w⟩ : View.Piece Val s e) :: L)) = w := by
  funext y
  exact View.read_writes_cons_unit_of_mem v f inb w L y y rfl fun a => by rw [ho a, Nat.zero_add]

/-- A load of the whole block is the block. -/
theorem loaded (v : View sg κ sp s e) (f : v.ty.Contents Val) {off : Fin s.rank → ℕ} (ho : ∀ a, off a = 0)
    (inb : ∀ a, off a + s.size a ≤ s.size a) :
    View.readAt Val v (Rect.unit off s.size inb).toLoadRect f = v.read Val f := by
  funext y
  show v.read Val f _ = v.read Val f y
  congr 1
  funext a
  refine Fin.ext ?_
  show off a + 1 * (y a).val = (y a).val
  rw [ho a]
  omega

theorem kept {m : Memref sg κ sp s e} (h : m.IsWhole) (X : s.Idx → Val e) {off : Fin s.rank → ℕ} (ho : ∀ a, off a = 0)
    (inb : ∀ a, off a + s.size a ≤ s.size a) :
    View.readAt Val m.view (Rect.unit off s.size inb).toLoadRect (h.unread X) = X :=
  (loaded m.view _ ho inb).trans (h.read_unread X)

theorem zeros3 : ∀ a : Fin 3, (![0, 0, 0] : Fin 3 → ℕ) a = 0 := by decide

theorem zeros2 : ∀ a : Fin 2, (![0, 0] : Fin 2 → ℕ) a = 0 := by decide

end

end Cert.Blk
-- ==== Proof.MatUpWeight.lean ====
/- The gradient of the up projection's weight. -/
module

public import proofs.«01_k».proof.Proof.Blocks
public import proofs.«01_k».proof.Proof.Gen.UpWeightIdeal.Frame
public import proofs.«01_k».proof.Proof.Gen.UpWeightReferenceIdeal.Read

@[expose] public section

set_option maxRecDepth 16384

noncomputable section

namespace Cert.MatUpWeight

open Idealize.ShloMosaic UpWeightIdeal UpWeightIdeal.Gen UpWeightReferenceIdeal.Read Blk Idealize.ShloMosaic.TcCoe Idealize.SL.Sem

variable (m : (ℓ : Loc nD τ sig) → Buf (Elt Ideal) ℓ) (c : Dev nD)

/-! The arguments as matrices of extended reals. -/

abbrev arg0 : S4096x2048.Idx → EReal := m ((c.tc : Thread nD τ).loc main_arg0)
abbrev arg1 : S4096x5632.Idx → EReal := m ((c.tc : Thread nD τ).loc main_arg1)
abbrev arg2 : S4096x5632.Idx → EReal := m ((c.tc : Thread nD τ).loc main_arg2)

/-- One term of the entry at row `r` and column `d`. -/
def term (r d k : ℕ) : EReal := at2 (arg0 m c) k r * (if d < 5632 then at2 (arg1 m c) k d else at2 (arg2 m c) k (d - 5632))

/-! What a step stores, entry by entry. -/

theorem k0_pay2_at (a : FVec Ideal S2048x1408 .f32) (x : FVec Ideal S1024x2048 .bf16) (y : FVec Ideal S1024x1408 .bf16) (r : Fin 2048) (d : Fin 1408) :
    (k0_pay2 (F := Ideal) a x y (ix2 r d) : EReal) = a (ix2 r d) + ∑ k : Fin 1024, x (ix2 k r) * y (ix2 k d) := by
  pointwise [k0_pay2]

theorem k0_pay3_at (a : FVec Ideal S2048x1408 .f32) (x : FVec Ideal S1024x2048 .bf16) (y : FVec Ideal S1024x1408 .bf16) (r : Fin 2048) (d : Fin 1408) :
    (k0_pay3 (F := Ideal) a x y (ix2 r d) : EReal) = a (ix2 r d) + ∑ k : Fin 1024, x (ix2 k r) * y (ix2 k d) := by
  pointwise [k0_pay3]

theorem zero_at (r : Fin 2048) (d : Fin 1408) : (k0_pay1 (F := Ideal) (ix2 r d) : EReal) = 0 := by
  pointwise [k0_pay1]

theorem out_at (a : FVec Ideal S2048x1408 .f32) (r : Fin 2048) (d : Fin 1408) :
    (k0_pay4 (F := Ideal) a (ix3 0 r d) : EReal) = a (ix2 r d) := by
  pointwise [k0_pay4]

/-! What a grid point leaves. -/

theorem left_A (t : Fin cfg0.N) (h0 : t.val % 4 = 0) (h1 : t.val < 16) (h2 : ¬16 ≤ t.val) (h3 : ¬t.val % 4 = 3) :
    (outsAt0 m c t.val t.isLt).2 = k0_pay2 (F := Ideal) (k0_pay1 (F := Ideal)) (iblk m c 0 t) (iblk m c 1 t) := by
  rw [outsAt0_A m c t h0 h1 h2 h3]
  dsimp only
  unfold sout0_A_0 kernelRun0_A
  dsimp only
  rw [stored _ _ _ zeros2, kept _ _ zeros2, kept _ _ zeros2]
  delta kernelRun0_A.sl.v12 kernelRun0_A.sl.HS0_1
  rw [View.readCov_cons_toLoadRect]

theorem left_B (t : Fin cfg0.N) (h0 : ¬t.val % 4 = 0) (h1 : t.val < 16) (h2 : ¬16 ≤ t.val) (h3 : ¬t.val % 4 = 3) :
    (outsAt0 m c t.val t.isLt).2 = k0_pay2 (F := Ideal) (outsAt0 m c (t.val - 1) (prev t)).2 (iblk m c 0 t) (iblk m c 1 t) := by
  rw [outsAt0_B m c t h0 h1 h2 h3]
  dsimp only
  unfold sout0_B_0 kernelRun0_B
  dsimp only
  rw [stored _ _ _ zeros2, kept _ _ zeros2, kept _ _ zeros2]
  exact congrArg (fun a => k0_pay2 (F := Ideal) a _ _) (kept (Memref.isWhole_whole _) _ zeros2 _)

theorem left_C (t : Fin cfg0.N) (h0 : ¬t.val % 4 = 0) (h1 : t.val < 16) (h2 : ¬16 ≤ t.val) (h3 : t.val % 4 = 3) :
    (outsAt0 m c t.val t.isLt).1 = k0_pay4 (F := Ideal) (k0_pay2 (F := Ideal) (outsAt0 m c (t.val - 1) (prev t)).2 (iblk m c 0 t) (iblk m c 1 t)) := by
  rw [outsAt0_C m c t h0 h1 h2 h3]
  dsimp only
  unfold out0_C_3 kernelRun0_C
  dsimp only
  rw [stored _ _ _ zeros3]
  delta kernelRun0_C.sl.v12 kernelRun0_C.sl.HS0_1
  rw [View.readCov_cons_toLoadRect, kept _ _ zeros2, kept _ _ zeros2, kept _ _ zeros2]

theorem left_D (t : Fin cfg0.N) (h0 : t.val % 4 = 0) (h1 : ¬t.val < 16) (h2 : 16 ≤ t.val) (h3 : ¬t.val % 4 = 3) :
    (outsAt0 m c t.val t.isLt).2 = k0_pay3 (F := Ideal) (k0_pay1 (F := Ideal)) (iblk m c 0 t) (iblk m c 2 t) := by
  rw [outsAt0_D m c t h0 h1 h2 h3]
  dsimp only
  unfold sout0_D_0 kernelRun0_D
  dsimp only
  rw [stored _ _ _ zeros2, kept _ _ zeros2, kept _ _ zeros2]
  delta kernelRun0_D.sl.v12 kernelRun0_D.sl.HS0_1
  rw [View.readCov_cons_toLoadRect]

theorem left_E (t : Fin cfg0.N) (h0 : ¬t.val % 4 = 0) (h1 : ¬t.val < 16) (h2 : 16 ≤ t.val) (h3 : ¬t.val % 4 = 3) :
    (outsAt0 m c t.val t.isLt).2 = k0_pay3 (F := Ideal) (outsAt0 m c (t.val - 1) (prev t)).2 (iblk m c 0 t) (iblk m c 2 t) := by
  rw [outsAt0_E m c t h0 h1 h2 h3]
  dsimp only
  unfold sout0_E_0 kernelRun0_E
  dsimp only
  rw [stored _ _ _ zeros2, kept _ _ zeros2, kept _ _ zeros2]
  exact congrArg (fun a => k0_pay3 (F := Ideal) a _ _) (kept (Memref.isWhole_whole _) _ zeros2 _)

theorem left_F (t : Fin cfg0.N) (h0 : ¬t.val % 4 = 0) (h1 : ¬t.val < 16) (h2 : 16 ≤ t.val) (h3 : t.val % 4 = 3) :
    (outsAt0 m c t.val t.isLt).1 = k0_pay4 (F := Ideal) (k0_pay3 (F := Ideal) (outsAt0 m c (t.val - 1) (prev t)).2 (iblk m c 0 t) (iblk m c 2 t)) := by
  rw [outsAt0_F m c t h0 h1 h2 h3]
  dsimp only
  unfold out0_F_3 kernelRun0_F
  dsimp only
  rw [stored _ _ _ zeros3]
  delta kernelRun0_F.sl.v12 kernelRun0_F.sl.HS0_1
  rw [View.readCov_cons_toLoadRect, kept _ _ zeros2, kept _ _ zeros2, kept _ _ zeros2]

/-! The blocks of the operands at a grid point. -/

theorem lt_N (t : Fin cfg0.N) : t.val < 32 := lt_of_lt_of_eq t.isLt N_0

theorem w0 : ∀ t : Fin cfg0.N, Goes (win0_0.index t) (t.val % 4) (t.val / 32) := by decide +kernel
theorem w1_0 : ∀ t : Fin cfg0.N, t.val < 16 → win0_1.index t (0 : Fin 2) = t.val % 4 := by decide +kernel
theorem w1_1 : ∀ t : Fin cfg0.N, t.val < 16 → win0_1.index t (1 : Fin 2) = t.val / 4 := by decide +kernel
theorem w2_0 : ∀ t : Fin cfg0.N, 16 ≤ t.val → win0_2.index t (0 : Fin 2) = t.val % 4 := by decide +kernel
theorem w2_1 : ∀ t : Fin cfg0.N, 16 ≤ t.val → win0_2.index t (1 : Fin 2) = t.val / 4 - 4 := by decide +kernel

theorem host_0 : V m c main_v0 = arg0 m c := by
  unfold V
  after_reads_simp
  rfl

theorem op_0 (t : Fin cfg0.N) (x : Fin 1024) (y : Fin 2048) :
    (iblk m c 0 t (ix2 x y) : EReal) = at2 (arg0 m c) (1024 * (t.val % 4) + x) (2048 * (t.val / 32) + y) :=
  read2 (host_0 m c) (slot (w0 t).1 rfl) (slot (w0 t).2 rfl)

theorem host_1 : V m c main_v1 = arg1 m c := by
  unfold V
  after_reads_simp
  rfl

theorem op_1 (t : Fin cfg0.N) (h : t.val < 16) (x : Fin 1024) (y : Fin 1408) :
    (iblk m c 1 t (ix2 x y) : EReal) = at2 (arg1 m c) (1024 * (t.val % 4) + x) (1408 * (t.val / 4) + y) := by
  have h0 := w1_0 t h
  have h1 := w1_1 t h
  exact read2 (host_1 m c) (slot h0 rfl) (slot h1 rfl)

theorem host_2 : V m c main_v2 = arg2 m c := by
  unfold V
  after_reads_simp
  rfl

theorem op_2 (t : Fin cfg0.N) (h : 16 ≤ t.val) (x : Fin 1024) (y : Fin 1408) :
    (iblk m c 2 t (ix2 x y) : EReal) = at2 (arg2 m c) (1024 * (t.val % 4) + x) (1408 * (t.val / 4 - 4) + y) := by
  have h0 := w2_0 t h
  have h1 := w2_1 t h
  exact read2 (host_2 m c) (slot h0 rfl) (slot h1 rfl)

/-! A step adds its block's terms. -/

theorem step_k0_pay2 (t : Fin cfg0.N) (h : t.val < 16) (a : FVec Ideal S2048x1408 .f32) (r : Fin 2048) (d : Fin 1408) :
    (k0_pay2 (F := Ideal) a (iblk m c 0 t) (iblk m c 1 t) (ix2 r d) : EReal)
    = a (ix2 r d) + ∑ k ∈ Finset.range 1024, term m c (2048 * ((t.val / 4) / 8) + r) (1408 * (t.val / 4) + d) (1024 * (t.val % 4) + k) := by
  have hN := lt_N t
  rw [k0_pay2_at, ← Fin.sum_univ_eq_sum_range]
  refine congrArg (a (ix2 r d) + ·) (Finset.sum_congr rfl fun k _ => ?_)
  rw [op_0 m c t, op_1 m c t h]
  unfold term
  have hd := d.isLt
  rw [if_pos (by omega), show t.val / 4 / 8 = t.val / 32 by omega]

theorem step_k0_pay3 (t : Fin cfg0.N) (h : 16 ≤ t.val) (a : FVec Ideal S2048x1408 .f32) (r : Fin 2048) (d : Fin 1408) :
    (k0_pay3 (F := Ideal) a (iblk m c 0 t) (iblk m c 2 t) (ix2 r d) : EReal)
    = a (ix2 r d) + ∑ k ∈ Finset.range 1024, term m c (2048 * ((t.val / 4) / 8) + r) (1408 * (t.val / 4) + d) (1024 * (t.val % 4) + k) := by
  have hN := lt_N t
  rw [k0_pay3_at, ← Fin.sum_univ_eq_sum_range]
  refine congrArg (a (ix2 r d) + ·) (Finset.sum_congr rfl fun k _ => ?_)
  rw [op_0 m c t, op_2 m c t h]
  unfold term
  have hd := d.isLt
  rw [if_neg (by omega), show t.val / 4 / 8 = t.val / 32 by omega, show 1408 * (t.val / 4) + d.val - 5632 = 1408 * (t.val / 4 - 4) + d.val by omega]

/-- What the scratch holds after step `k` of run `q`, before the last step. -/
theorem carried (q k : ℕ) (hk : k + 1 < 4) (h : 4 * q + k < cfg0.N) (r : Fin 2048) (d : Fin 1408) :
    ((outsAt0 m c (4 * q + k) h).2 (ix2 r d) : EReal) = ∑ T ∈ Finset.range (1024 * (k + 1)), term m c (2048 * (q / 8) + r) (1408 * q + d) T := by
  induction k with
  | zero =>
    have hN : 4 * q + 0 < 32 := lt_of_lt_of_eq h N_0
    have e : (4 * q + 0) / 4 = q := by omega
    have e' : (4 * q + 0) % 4 = 0 := by omega
    by_cases hs : q < 4
    · rw [left_A m c ⟨4 * q + 0, h⟩ (by dsimp only; omega) (by dsimp only; omega) (by dsimp only; omega) (by dsimp only; omega), step_k0_pay2 m c ⟨4 * q + 0, h⟩ (by dsimp only; omega), zero_at, zero_add]
      show ∑ k ∈ Finset.range 1024, term m c (2048 * (((4 * q + 0) / 4) / 8) + r) (1408 * ((4 * q + 0) / 4) + d) (1024 * ((4 * q + 0) % 4) + k) = _
      rw [e, e']
      simp only [Nat.mul_zero, Nat.zero_add, Nat.mul_one]
    · rw [left_D m c ⟨4 * q + 0, h⟩ (by dsimp only; omega) (by dsimp only; omega) (by dsimp only; omega) (by dsimp only; omega), step_k0_pay3 m c ⟨4 * q + 0, h⟩ (by dsimp only; omega), zero_at, zero_add]
      show ∑ k ∈ Finset.range 1024, term m c (2048 * (((4 * q + 0) / 4) / 8) + r) (1408 * ((4 * q + 0) / 4) + d) (1024 * ((4 * q + 0) % 4) + k) = _
      rw [e, e']
      simp only [Nat.mul_zero, Nat.zero_add, Nat.mul_one]
  | succ k ih =>
    have hN : 4 * q + (k + 1) < 32 := lt_of_lt_of_eq h N_0
    have e : (4 * q + (k + 1)) / 4 = q := by omega
    have e' : (4 * q + (k + 1)) % 4 = k + 1 := by omega
    by_cases hs : q < 4
    · rw [left_B m c ⟨4 * q + (k + 1), h⟩ (by dsimp only; omega) (by dsimp only; omega) (by dsimp only; omega) (by dsimp only; omega), step_k0_pay2 m c ⟨4 * q + (k + 1), h⟩ (by dsimp only; omega)]
      show ((outsAt0 m c (4 * q + k) _).2 (ix2 r d) : EReal) + ∑ k' ∈ Finset.range 1024, term m c (2048 * (((4 * q + (k + 1)) / 4) / 8) + r) (1408 * ((4 * q + (k + 1)) / 4) + d) (1024 * ((4 * q + (k + 1)) % 4) + k') = _
      rw [e, e', ih (by omega) (by omega), Nat.mul_succ 1024 (k + 1), Finset.sum_range_add]
    · rw [left_E m c ⟨4 * q + (k + 1), h⟩ (by dsimp only; omega) (by dsimp only; omega) (by dsimp only; omega) (by dsimp only; omega), step_k0_pay3 m c ⟨4 * q + (k + 1), h⟩ (by dsimp only; omega)]
      show ((outsAt0 m c (4 * q + k) _).2 (ix2 r d) : EReal) + ∑ k' ∈ Finset.range 1024, term m c (2048 * (((4 * q + (k + 1)) / 4) / 8) + r) (1408 * ((4 * q + (k + 1)) / 4) + d) (1024 * ((4 * q + (k + 1)) % 4) + k') = _
      rw [e, e', ih (by omega) (by omega), Nat.mul_succ 1024 (k + 1), Finset.sum_range_add]

/-- What the last step of run `q` writes. -/
theorem written (q : ℕ) (h : 4 * q + 3 < cfg0.N) (r : Fin 2048) (d : Fin 1408) :
    ((outsAt0 m c (4 * q + 3) h).1 (ix3 0 r d) : EReal) = ∑ T ∈ Finset.range 4096, term m c (2048 * (q / 8) + r) (1408 * q + d) T := by
  have hN : 4 * q + 3 < 32 := lt_of_lt_of_eq h N_0
  have e : (4 * q + 3) / 4 = q := by omega
  have e' : (4 * q + 3) % 4 = 3 := by omega
  by_cases hs : q < 4
  · rw [left_C m c ⟨4 * q + 3, h⟩ (by dsimp only; omega) (by dsimp only; omega) (by dsimp only; omega) (by dsimp only; omega), out_at, step_k0_pay2 m c ⟨4 * q + 3, h⟩ (by dsimp only; omega)]
    show ((outsAt0 m c (4 * q + 2) _).2 (ix2 r d) : EReal) + ∑ k' ∈ Finset.range 1024, term m c (2048 * (((4 * q + 3) / 4) / 8) + r) (1408 * ((4 * q + 3) / 4) + d) (1024 * ((4 * q + 3) % 4) + k') = _
    rw [e, e', carried m c q 2 (by omega) (by omega)]
    exact (Finset.sum_range_add _ (1024 * (2 + 1)) 1024).symm
  · rw [left_F m c ⟨4 * q + 3, h⟩ (by dsimp only; omega) (by dsimp only; omega) (by dsimp only; omega) (by dsimp only; omega), out_at, step_k0_pay3 m c ⟨4 * q + 3, h⟩ (by dsimp only; omega)]
    show ((outsAt0 m c (4 * q + 2) _).2 (ix2 r d) : EReal) + ∑ k' ∈ Finset.range 1024, term m c (2048 * (((4 * q + 3) / 4) / 8) + r) (1408 * ((4 * q + 3) / 4) + d) (1024 * ((4 * q + 3) % 4) + k') = _
    rw [e, e', carried m c q 2 (by omega) (by omega)]
    exact (Finset.sum_range_add _ (1024 * (2 + 1)) 1024).symm

/-- The array after the run, entry by entry. -/
def result : S8x2048x1408.Idx → EReal := fun i => ∑ T ∈ Finset.range 4096, term m c (i 1).val (1408 * (i 0).val + (i 2).val) T

theorem final_at (s : Fin 8) (r : Fin 2048) (d : Fin 1408) :
    result m c (ix3 s r d) = ∑ T ∈ Finset.range 4096, term m c r.val (1408 * s.val + d.val) T := rfl

theorem o3 : ∀ t : Fin cfg0.N, Goes3 (win0_3.index t) (t.val / 4) 0 0 := by decide +kernel

/-- What a last step writes back is its block of the array. -/
theorem back (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  have hm : t.val % 4 = 3 := (flush0_3 t).mp hf
  have hN := lt_N t
  obtain ⟨h0, h1, h2⟩ := o3 t
  funext y
  have y0 : (y 0).val < 1 := (y 0).isLt
  exact entry3 (f := (outsAt0 m c t.val t.isLt).1) (F := result m c) ((cfg0.win 3).xinj (grid0.coords t) y) _ (t.val / 4) 0 0
    (by show win0_3.index t (0 : Fin 3) * 1 + 1 * (y 0).val = t.val / 4; omega)
    (by show win0_3.index t (1 : Fin 3) * 2048 + 1 * (y 1).val = 0 + (y 1).val; omega)
    (by show win0_3.index t (2 : Fin 3) * 1408 + 1 * (y 2).val = 0 + (y 2).val; omega)
    fun r d s p q hs hp hq => by
      have hl : 4 * (t.val / 4) + 3 < cfg0.N := by have := N_0; omega
      rw [show t = ⟨4 * (t.val / 4) + 3, hl⟩ from Fin.ext (by show t.val = 4 * (t.val / 4) + 3; omega)]
      exact (written m c (t.val / 4) hl r d).trans (by
        rw [final_at, hs, show 2048 * (t.val / 4 / 8) + r.val = p.val by omega, show q = d from Fin.ext (by omega)])

/-- Every entry is in a block that a last step writes back. -/
theorem everywhere (i : S8x2048x1408.Idx) : ∃ t : Fin cfg0.N, (cfg0.win 3).flush t = true ∧ i ∈ ((cfg0.win 3).blk t).view.set := by
  have i0 : (i 0).val < 8 := (i 0).isLt
  have i1 : (i 1).val < 2048 := (i 1).isLt
  have i2 : (i 2).val < 1408 := (i 2).isLt
  have hN : cfg0.N = 32 := N_0
  obtain ⟨t, ht⟩ : ∃ t : Fin cfg0.N, t.val = 4 * (i 0).val + 3 := ⟨⟨_, by omega⟩, rfl⟩
  obtain ⟨h0, h1, h2⟩ := o3 t
  exact ⟨t, (flush0_3 _).mpr (by show t.val % 4 = 3; omega), in3 (View.set_slice_whole main_v3 (win0_3.rect t)) 1 2048 1408 h0 rfl rfl h1 rfl rfl h2 rfl rfl (by omega) (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v3) = result m c
      ∧ holds r.2.mem m c main_arg0
      ∧ holds r.2.mem m c main_arg1
      ∧ holds r.2.mem m c main_arg2 := by
  refine (θ_run defs _ _).mono (fun r h c => ⟨((h c).1 3).trans ((dats m 0 c).arrAt_eq_of_cover 3 _ (back m c) everywhere), ?_, ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)

theorem joined (i : Cert.UpWeightReferenceIdeal.S4096x11264.Idx) :
    (val_main_v2 (F := Ideal) (arg1 m c) (arg2 m c) i : EReal)
    = if (i 1).val < 5632 then at2 (arg1 m c) (i 0).val (i 1).val else at2 (arg2 m c) (i 0).val ((i 1).val - 5632) := by
  have h1 := (i 1).isLt
  change (i 1).val < 11264 at h1
  unfold val_main_v2
  by_cases h : (i 1).val < 5632
  · rw [if_pos h]
    refine Eq.trans ?_ (at2_of (arg1 m c) (ix2 ⟨(i 0).val, (i 0).isLt⟩ ⟨(i 1).val, h⟩) (i 0).val (i 1).val rfl rfl)
    exact concatenate_pair_apply_left 1 (arg1 m c) (arg2 m c) Cert.UpWeightReferenceIdeal.Gen.concatenates_S4096x5632_S4096x5632_S4096x11264_d1 i rfl
      (ix2 ⟨(i 0).val, (i 0).isLt⟩ ⟨(i 1).val, h⟩) fun b => by
      match b with
      | ⟨0, _⟩ => rfl
      | ⟨1, _⟩ => rfl
  · rw [if_neg h]
    refine Eq.trans ?_ (at2_of (arg2 m c) (ix2 ⟨(i 0).val, (i 0).isLt⟩ ⟨(i 1).val - 5632, by omega⟩) (i 0).val ((i 1).val - 5632) rfl rfl)
    exact concatenate_pair_apply_right 1 (arg1 m c) (arg2 m c) Cert.UpWeightReferenceIdeal.Gen.concatenates_S4096x5632_S4096x5632_S4096x11264_d1 i rfl rfl
      (ix2 ⟨(i 0).val, (i 0).isLt⟩ ⟨(i 1).val - 5632, by omega⟩) (fun b hb => by
      match b with
      | ⟨0, _⟩ => rfl
      | ⟨1, _⟩ => exact absurd rfl hb) (by
      show (i 1).val - 5632 + 5632 = (i 1).val
      omega)

theorem equal : (result m c : (⟨S8x2048x1408, .bf16⟩ : BufTy).Contents (Elt Ideal))
    = val_main_v7 (F := Ideal) (arg0 m c) (arg1 m c) (arg2 m c) := by
  funext i
  have h0 := (i 0).isLt
  have h1 := (i 1).isLt
  have h2 := (i 2).isLt
  change (i 0).val < 8 at h0
  change (i 1).val < 2048 at h1
  change (i 2).val < 1408 at h2
  refine Eq.trans ?_ (val_main_v7_apply (F := Ideal) _ _ _ i).symm
  refine Eq.trans ?_ (val_main_v6_apply (F := Ideal) _ _ _ i).symm
  refine Eq.trans ?_ (val_main_v5_apply (F := Ideal) _ _ _ _).symm
  refine Eq.trans ?_ (val_main_v4_apply (F := Ideal) _ _ _ _).symm
  refine Eq.trans ?_ (val_main_v3_apply _ _ _ _).symm
  refine (congrArg (result m c) (eq_ix3 i)).trans ?_
  refine (final_at m c (i 0) (i 1) (i 2)).trans ?_
  rw [← Fin.sum_univ_eq_sum_range]
  refine Finset.sum_congr rfl fun k _ => ?_
  unfold term
  refine (mul_comm _ _).trans ?_
  have e : (((i 1).val * 8 + (i 0).val) * 1408 + (i 2).val) % 11264 = 1408 * (i 0).val + (i 2).val := by omega
  have j := joined m c (lidx_main_v3 (idx_main_v4 (idx_main_v5 (idx_main_v6 i))) k)
  change _ = if (((i 1).val * 8 + (i 0).val) * 1408 + (i 2).val) % 11264 < 5632 then at2 (arg1 m c) k.val ((((i 1).val * 8 + (i 0).val) * 1408 + (i 2).val) % 11264) else at2 (arg2 m c) k.val ((((i 1).val * 8 + (i 0).val) * 1408 + (i 2).val) % 11264 - 5632) at j
  rw [e] at j
  refine (congrArg₂ (· * ·) j (at2_of (arg0 m c) (ridx_main_v3 _ k) _ _ rfl ?_)).symm
  show (((i 1).val * 8 + (i 0).val) * 1408 + (i 2).val) / 11264 = (i 1).val
  omega

end Cert.MatUpWeight
-- ==== Proof.MatUp.lean ====
/- The gradient of the up projection's argument. -/
module

public import proofs.«01_k».proof.Proof.Blocks
public import proofs.«01_k».proof.Proof.Gen.UpIdeal.Value
public import proofs.«01_k».proof.Proof.Gen.UpReferenceIdeal.Read

@[expose] public section

set_option maxRecDepth 16384

noncomputable section

namespace Cert.MatUp

open Idealize.ShloMosaic UpIdeal UpIdeal.Gen UpIdeal.Value UpReferenceIdeal.Read Blk

variable (m : (ℓ : Loc nD τ sig) → Buf (Elt Ideal) ℓ) (c : Dev nD)

/-! The arguments as matrices of extended reals. -/

abbrev arg0 : S4096x5632.Idx → EReal := m ((c.tc : Thread nD τ).loc main_arg0)
abbrev arg1 : S4096x5632.Idx → EReal := m ((c.tc : Thread nD τ).loc main_arg1)
abbrev arg2 : S2048x11264.Idx → EReal := m ((c.tc : Thread nD τ).loc main_arg2)

/-- One term of the entry at row `r` and column `d`. -/
def term (r d k : ℕ) : EReal := (if k < 5632 then at2 (arg0 m c) r k else at2 (arg1 m c) r (k - 5632)) * at2 (arg2 m c) d k

/-! What a step stores, entry by entry. -/

theorem k0_pay2_at (a : FVec Ideal S2048x1024 .f32) (x : FVec Ideal S2048x1408 .bf16) (y : FVec Ideal S1x1024x1408 .bf16) (r : Fin 2048) (d : Fin 1024) :
    (k0_pay2 (F := Ideal) a x y (ix2 r d) : EReal) = a (ix2 r d) + ∑ k : Fin 1408, x (ix2 r k) * y (ix3 0 d k) := by
  pointwise [k0_pay2]

theorem k0_pay3_at (a : FVec Ideal S2048x1024 .f32) (x : FVec Ideal S2048x1408 .bf16) (y : FVec Ideal S1x1024x1408 .bf16) (r : Fin 2048) (d : Fin 1024) :
    (k0_pay3 (F := Ideal) a x y (ix2 r d) : EReal) = a (ix2 r d) + ∑ k : Fin 1408, x (ix2 r k) * y (ix3 0 d k) := by
  pointwise [k0_pay3]

theorem zero_at (r : Fin 2048) (d : Fin 1024) : (k0_pay1 (F := Ideal) (ix2 r d) : EReal) = 0 := by
  pointwise [k0_pay1]

/-! What a grid point leaves. -/

theorem left_A (t : Fin cfg0.N) (h0 : t.val % 8 = 0) (h1 : t.val % 8 ≤ 3) (h2 : ¬4 ≤ t.val % 8) (h3 : ¬t.val % 8 = 7) :
    (outsAt0 m c t.val t.isLt).2 = k0_pay2 (F := Ideal) (k0_pay1 (F := Ideal)) (iblk m c 0 t) (iblk m c 2 t) := by
  rw [outsAt0_A m c t h0 h1 h2 h3]
  dsimp only
  unfold sout0_A_0 kernelRun0_A
  dsimp only
  rw [stored _ _ _ zeros2, kept _ _ zeros2, kept _ _ zeros3]
  delta kernelRun0_A.sl.v12 kernelRun0_A.sl.HS0_1
  rw [View.readCov_cons_toLoadRect]

theorem left_B (t : Fin cfg0.N) (h0 : ¬t.val % 8 = 0) (h1 : t.val % 8 ≤ 3) (h2 : ¬4 ≤ t.val % 8) (h3 : ¬t.val % 8 = 7) :
    (outsAt0 m c t.val t.isLt).2 = k0_pay2 (F := Ideal) (outsAt0 m c (t.val - 1) (prev t)).2 (iblk m c 0 t) (iblk m c 2 t) := by
  rw [outsAt0_B m c t h0 h1 h2 h3]
  dsimp only
  unfold sout0_B_0 kernelRun0_B
  dsimp only
  rw [stored _ _ _ zeros2, kept _ _ zeros2, kept _ _ zeros3]
  exact congrArg (fun a => k0_pay2 (F := Ideal) a _ _) (kept (Memref.isWhole_whole _) _ zeros2 _)

theorem left_C (t : Fin cfg0.N) (h0 : ¬t.val % 8 = 0) (h1 : ¬t.val % 8 ≤ 3) (h2 : 4 ≤ t.val % 8) (h3 : ¬t.val % 8 = 7) :
    (outsAt0 m c t.val t.isLt).2 = k0_pay3 (F := Ideal) (outsAt0 m c (t.val - 1) (prev t)).2 (iblk m c 1 t) (iblk m c 2 t) := by
  rw [outsAt0_C m c t h0 h1 h2 h3]
  dsimp only
  unfold sout0_C_0 kernelRun0_C
  dsimp only
  rw [stored _ _ _ zeros2, kept _ _ zeros2, kept _ _ zeros3]
  exact congrArg (fun a => k0_pay3 (F := Ideal) a _ _) (kept (Memref.isWhole_whole _) _ zeros2 _)

theorem left_D (t : Fin cfg0.N) (h0 : ¬t.val % 8 = 0) (h1 : ¬t.val % 8 ≤ 3) (h2 : 4 ≤ t.val % 8) (h3 : t.val % 8 = 7) :
    (outsAt0 m c t.val t.isLt).1 = k0_pay3 (F := Ideal) (outsAt0 m c (t.val - 1) (prev t)).2 (iblk m c 1 t) (iblk m c 2 t) := by
  rw [outsAt0_D m c t h0 h1 h2 h3]
  dsimp only
  unfold out0_D_3 kernelRun0_D
  dsimp only
  rw [stored _ _ _ zeros2]
  delta kernelRun0_D.sl.v12 kernelRun0_D.sl.HS0_1
  rw [View.readCov_cons_toLoadRect, kept _ _ zeros2, kept _ _ zeros2, kept _ _ zeros3]

/-! The blocks of the operands at a grid point. -/

theorem lt_N (t : Fin cfg0.N) : t.val < 32 := lt_of_lt_of_eq t.isLt N_0

theorem w0_0 : ∀ t : Fin cfg0.N, t.val % 8 ≤ 3 → win0_0.index t (0 : Fin 2) = t.val / 16 := by decide +kernel
theorem w0_1 : ∀ t : Fin cfg0.N, t.val % 8 ≤ 3 → win0_0.index t (1 : Fin 2) = t.val % 8 := by decide +kernel
theorem w1_0 : ∀ t : Fin cfg0.N, 4 ≤ t.val % 8 → win0_1.index t (0 : Fin 2) = t.val / 16 := by decide +kernel
theorem w1_1 : ∀ t : Fin cfg0.N, 4 ≤ t.val % 8 → win0_1.index t (1 : Fin 2) = t.val % 8 - 4 := by decide +kernel
theorem w2 : ∀ t : Fin cfg0.N, Goes3 (win0_2.index t) (t.val % 8) (t.val / 8 % 2) 0 := by decide +kernel

theorem host_0 : V m c main_v0 = arg0 m c := by
  unfold V
  after_reads_simp
  rfl

theorem op_0 (t : Fin cfg0.N) (h : t.val % 8 ≤ 3) (x : Fin 2048) (y : Fin 1408) :
    (iblk m c 0 t (ix2 x y) : EReal) = at2 (arg0 m c) (2048 * (t.val / 16) + x) (1408 * (t.val % 8) + y) := by
  have h0 := w0_0 t h
  have h1 := w0_1 t h
  exact read2 (host_0 m c) (slot h0 rfl) (slot h1 rfl)

theorem host_1 : V m c main_v4 = arg1 m c := by
  unfold V
  after_reads_simp
  rfl

theorem op_1 (t : Fin cfg0.N) (h : 4 ≤ t.val % 8) (x : Fin 2048) (y : Fin 1408) :
    (iblk m c 1 t (ix2 x y) : EReal) = at2 (arg1 m c) (2048 * (t.val / 16) + x) (1408 * (t.val % 8 - 4) + y) := by
  have h0 := w1_0 t h
  have h1 := w1_1 t h
  exact read2 (host_1 m c) (slot h0 rfl) (slot h1 rfl)

theorem host_2 (s : Fin 8) (x : Fin 2048) (y : Fin 1408) :
    (V m c main_v3 (ix3 s x y) : EReal) = at2 (arg2 m c) x (1408 * s + y) := by
  unfold V
  after_reads_at
  refine (at2_of (arg2 m c) _ _ _ ?_ ?_)
  · rfl
  · show s.val * 1408 + y.val = _
    omega

theorem op_2 (t : Fin cfg0.N) (x : Fin 1024) (y : Fin 1408) :
    (iblk m c 2 t (ix3 0 x y) : EReal) = at2 (arg2 m c) (1024 * (t.val / 8 % 2) + x) (1408 * (t.val % 8) + y) := by
  obtain ⟨h0, h1, h2⟩ := w2 t
  have hN := lt_N t
  show V m c main_v3 (((cfg0.win 2).blk t).view.emb (ix3 0 x y)) = _
  have e : (((cfg0.win 2).blk t).view.emb (ix3 0 x y) : S8x2048x1408.Idx)
      = ix3 ⟨t.val % 8, by omega⟩ ⟨1024 * (t.val / 8 % 2) + x, by omega⟩ ⟨1408 * 0 + y, by omega⟩ := ix3_of (by show win0_2.index t (0 : Fin 3) * 1 + 1 * 0 = t.val % 8; omega) (slot h1 rfl) (slot h2 rfl)
  rw [e]
  refine (host_2 m c _ _ _).trans ?_
  congr 1
  show 1408 * (t.val % 8) + (1408 * 0 + y.val) = _
  omega

/-! A step adds its block's terms. -/

theorem step_k0_pay2 (t : Fin cfg0.N) (h : t.val % 8 ≤ 3) (a : FVec Ideal S2048x1024 .f32) (r : Fin 2048) (d : Fin 1024) :
    (k0_pay2 (F := Ideal) a (iblk m c 0 t) (iblk m c 2 t) (ix2 r d) : EReal)
    = a (ix2 r d) + ∑ k ∈ Finset.range 1408, term m c (2048 * ((t.val / 8) / 2) + r) (1024 * ((t.val / 8) % 2) + d) (1408 * (t.val % 8) + k) := by
  have hN := lt_N t
  rw [k0_pay2_at, ← Fin.sum_univ_eq_sum_range]
  refine congrArg (a (ix2 r d) + ·) (Finset.sum_congr rfl fun k _ => ?_)
  rw [op_0 m c t h, op_2 m c t]
  unfold term
  have hk := k.isLt
  rw [if_pos (by omega), show t.val / 8 / 2 = t.val / 16 by omega]

theorem step_k0_pay3 (t : Fin cfg0.N) (h : 4 ≤ t.val % 8) (a : FVec Ideal S2048x1024 .f32) (r : Fin 2048) (d : Fin 1024) :
    (k0_pay3 (F := Ideal) a (iblk m c 1 t) (iblk m c 2 t) (ix2 r d) : EReal)
    = a (ix2 r d) + ∑ k ∈ Finset.range 1408, term m c (2048 * ((t.val / 8) / 2) + r) (1024 * ((t.val / 8) % 2) + d) (1408 * (t.val % 8) + k) := by
  have hN := lt_N t
  rw [k0_pay3_at, ← Fin.sum_univ_eq_sum_range]
  refine congrArg (a (ix2 r d) + ·) (Finset.sum_congr rfl fun k _ => ?_)
  rw [op_1 m c t h, op_2 m c t]
  unfold term
  have hk := k.isLt
  rw [if_neg (by omega), show t.val / 8 / 2 = t.val / 16 by omega, show 1408 * (t.val % 8) + k.val - 5632 = 1408 * (t.val % 8 - 4) + k.val by omega]

/-- What the scratch holds after step `k` of run `q`, before the last step. -/
theorem carried (q k : ℕ) (hk : k + 1 < 8) (h : 8 * q + k < cfg0.N) (r : Fin 2048) (d : Fin 1024) :
    ((outsAt0 m c (8 * q + k) h).2 (ix2 r d) : EReal) = ∑ T ∈ Finset.range (1408 * (k + 1)), term m c (2048 * (q / 2) + r) (1024 * (q % 2) + d) T := by
  induction k with
  | zero =>
    have hN : 8 * q + 0 < 32 := lt_of_lt_of_eq h N_0
    have e : (8 * q + 0) / 8 = q := by omega
    have e' : (8 * q + 0) % 8 = 0 := by omega
    rw [left_A m c ⟨8 * q + 0, h⟩ (by dsimp only; omega) (by dsimp only; omega) (by dsimp only; omega) (by dsimp only; omega), step_k0_pay2 m c ⟨8 * q + 0, h⟩ (by dsimp only; omega), zero_at, zero_add]
    show ∑ k ∈ Finset.range 1408, term m c (2048 * (((8 * q + 0) / 8) / 2) + r) (1024 * (((8 * q + 0) / 8) % 2) + d) (1408 * ((8 * q + 0) % 8) + k) = _
    rw [e, e']
    simp only [Nat.mul_zero, Nat.zero_add, Nat.mul_one]
  | succ k ih =>
    have hN : 8 * q + (k + 1) < 32 := lt_of_lt_of_eq h N_0
    have e : (8 * q + (k + 1)) / 8 = q := by omega
    have e' : (8 * q + (k + 1)) % 8 = k + 1 := by omega
    by_cases hs : k + 1 ≤ 3
    · rw [left_B m c ⟨8 * q + (k + 1), h⟩ (by dsimp only; omega) (by dsimp only; omega) (by dsimp only; omega) (by dsimp only; omega), step_k0_pay2 m c ⟨8 * q + (k + 1), h⟩ (by dsimp only; omega)]
      show ((outsAt0 m c (8 * q + k) _).2 (ix2 r d) : EReal) + ∑ k' ∈ Finset.range 1408, term m c (2048 * (((8 * q + (k + 1)) / 8) / 2) + r) (1024 * (((8 * q + (k + 1)) / 8) % 2) + d) (1408 * ((8 * q + (k + 1)) % 8) + k') = _
      rw [e, e', ih (by omega) (by omega), Nat.mul_succ 1408 (k + 1), Finset.sum_range_add]
    · rw [left_C m c ⟨8 * q + (k + 1), h⟩ (by dsimp only; omega) (by dsimp only; omega) (by dsimp only; omega) (by dsimp only; omega), step_k0_pay3 m c ⟨8 * q + (k + 1), h⟩ (by dsimp only; omega)]
      show ((outsAt0 m c (8 * q + k) _).2 (ix2 r d) : EReal) + ∑ k' ∈ Finset.range 1408, term m c (2048 * (((8 * q + (k + 1)) / 8) / 2) + r) (1024 * (((8 * q + (k + 1)) / 8) % 2) + d) (1408 * ((8 * q + (k + 1)) % 8) + k') = _
      rw [e, e', ih (by omega) (by omega), Nat.mul_succ 1408 (k + 1), Finset.sum_range_add]

/-- What the last step of run `q` writes. -/
theorem written (q : ℕ) (h : 8 * q + 7 < cfg0.N) (r : Fin 2048) (d : Fin 1024) :
    ((outsAt0 m c (8 * q + 7) h).1 (ix2 r d) : EReal) = ∑ T ∈ Finset.range 11264, term m c (2048 * (q / 2) + r) (1024 * (q % 2) + d) T := by
  have hN : 8 * q + 7 < 32 := lt_of_lt_of_eq h N_0
  have e : (8 * q + 7) / 8 = q := by omega
  have e' : (8 * q + 7) % 8 = 7 := by omega
  rw [left_D m c ⟨8 * q + 7, h⟩ (by dsimp only; omega) (by dsimp only; omega) (by dsimp only; omega) (by dsimp only; omega), step_k0_pay3 m c ⟨8 * q + 7, h⟩ (by dsimp only; omega)]
  show ((outsAt0 m c (8 * q + 6) _).2 (ix2 r d) : EReal) + ∑ k' ∈ Finset.range 1408, term m c (2048 * (((8 * q + 7) / 8) / 2) + r) (1024 * (((8 * q + 7) / 8) % 2) + d) (1408 * ((8 * q + 7) % 8) + k') = _
  rw [e, e', carried m c q 6 (by omega) (by omega)]
  exact (Finset.sum_range_add _ (1408 * (6 + 1)) 1408).symm

/-- The array after the run. -/
def result : S4096x2048.Idx → EReal := G3 m c

/-- The array after the run, entry by entry. -/
theorem final_at (r : Fin 4096) (d : Fin 2048) :
    result m c (ix2 r d) = ∑ T ∈ Finset.range 11264, term m c r d T := by
  unfold result
  have hr := r.isLt
  have hd := d.isLt
  have hN : cfg0.N = 32 := N_0
  have e : pt3Of (ix2 r d) = 8 * (2 * (r.val / 2048) + d.val / 1024) + 7 := by
    show 8 * (2 * (r.val / 2048 - 0) + 1 * (d.val / 1024 - 0)) + 7 = _
    omega
  have hp : 8 * (2 * (r.val / 2048) + d.val / 1024) + 7 < cfg0.N := by omega
  unfold G3
  rw [dif_pos (by rw [e]; exact hp), fold0_congr m c _ _ (8 * (2 * (r.val / 2048) + d.val / 1024) + 7) (by omega) e, ← outsAt0_sweep m c (8 * (2 * (r.val / 2048) + d.val / 1024) + 7) hp]
  have l : loc3Of (ix2 r d) = ix2 ⟨r % 2048, by omega⟩ ⟨d % 1024, by omega⟩ := eq_ix2 _
  rw [l]
  refine Eq.trans (written m c (2 * (r.val / 2048) + d.val / 1024) hp ⟨r % 2048, by omega⟩ ⟨d % 1024, by omega⟩) ?_
  have e0 : 2048 * ((2 * (r.val / 2048) + d.val / 1024) / 2) + r.val % 2048 = r := by omega
  have e1 : 1024 * ((2 * (r.val / 2048) + d.val / 1024) % 2) + d.val % 1024 = d := by omega
  show ∑ T ∈ Finset.range 11264, term m c (2048 * ((2 * (r.val / 2048) + d.val / 1024) / 2) + r.val % 2048) (1024 * ((2 * (r.val / 2048) + d.val / 1024) % 2) + d.val % 1024) T = _
  rw [e0, e1]

theorem joined (i : Cert.UpReferenceIdeal.S4096x11264.Idx) :
    (val_main_v2 (F := Ideal) (arg0 m c) (arg1 m c) i : EReal)
    = if (i 1).val < 5632 then at2 (arg0 m c) (i 0).val (i 1).val else at2 (arg1 m c) (i 0).val ((i 1).val - 5632) := by
  have h1 := (i 1).isLt
  change (i 1).val < 11264 at h1
  unfold val_main_v2
  by_cases h : (i 1).val < 5632
  · rw [if_pos h]
    refine Eq.trans ?_ (at2_of (arg0 m c) (ix2 ⟨(i 0).val, (i 0).isLt⟩ ⟨(i 1).val, h⟩) (i 0).val (i 1).val rfl rfl)
    exact concatenate_pair_apply_left 1 (arg0 m c) (arg1 m c) Cert.UpReferenceIdeal.Gen.concatenates_S4096x5632_S4096x5632_S4096x11264_d1 i rfl
      (ix2 ⟨(i 0).val, (i 0).isLt⟩ ⟨(i 1).val, h⟩) fun b => by
      match b with
      | ⟨0, _⟩ => rfl
      | ⟨1, _⟩ => rfl
  · rw [if_neg h]
    refine Eq.trans ?_ (at2_of (arg1 m c) (ix2 ⟨(i 0).val, (i 0).isLt⟩ ⟨(i 1).val - 5632, by omega⟩) (i 0).val ((i 1).val - 5632) rfl rfl)
    exact concatenate_pair_apply_right 1 (arg0 m c) (arg1 m c) Cert.UpReferenceIdeal.Gen.concatenates_S4096x5632_S4096x5632_S4096x11264_d1 i rfl rfl
      (ix2 ⟨(i 0).val, (i 0).isLt⟩ ⟨(i 1).val - 5632, by omega⟩) (fun b hb => by
      match b with
      | ⟨0, _⟩ => rfl
      | ⟨1, _⟩ => exact absurd rfl hb) (by
      show (i 1).val - 5632 + 5632 = (i 1).val
      omega)

theorem equal : (result m c : (⟨S4096x2048, .f32⟩ : BufTy).Contents (Elt Ideal))
    = val_main_v3 (F := Ideal) (arg0 m c) (arg1 m c) (arg2 m c) := by
  funext i
  rw [val_main_v3_apply, eq_ix2 i]
  refine (final_at m c _ _).trans ?_
  rw [← Fin.sum_univ_eq_sum_range]
  refine Finset.sum_congr rfl fun k _ => ?_
  unfold term
  exact (congrArg₂ (· * ·) (joined m c (lidx_main_v3 _ k))
    (at2_of (arg2 m c) (ridx_main_v3 _ k) _ _ rfl rfl)).symm

end Cert.MatUp
-- ==== Proof.MatDownWeight.lean ====
/- The gradient of the down projection's weight. -/
module

public import proofs.«01_k».proof.Proof.Blocks
public import proofs.«01_k».proof.Proof.Gen.DownWeightIdeal.Value
public import proofs.«01_k».proof.Proof.Gen.DownWeightReferenceIdeal.Read

@[expose] public section

set_option maxRecDepth 16384

noncomputable section

namespace Cert.MatDownWeight

open Idealize.ShloMosaic DownWeightIdeal DownWeightIdeal.Gen DownWeightIdeal.Value DownWeightReferenceIdeal.Read Blk

variable (m : (ℓ : Loc nD τ sig) → Buf (Elt Ideal) ℓ) (c : Dev nD)

/-! The arguments as matrices of extended reals. -/

abbrev arg0 : S4096x5632.Idx → EReal := m ((c.tc : Thread nD τ).loc main_arg0)
abbrev arg1 : S4096x2048.Idx → EReal := m ((c.tc : Thread nD τ).loc main_arg1)

/-- One term of the entry at row `r` and column `d`. -/
def term (r d k : ℕ) : EReal := at2 (arg0 m c) k r * at2 (arg1 m c) k d

/-! What a step stores, entry by entry. -/

theorem k0_pay2_at (a : FVec Ideal S1408x1024 .f32) (x : FVec Ideal S1024x1408 .bf16) (y : FVec Ideal S1024x1024 .bf16) (r : Fin 1408) (d : Fin 1024) :
    (k0_pay2 (F := Ideal) a x y (ix2 r d) : EReal) = a (ix2 r d) + ∑ k : Fin 1024, x (ix2 k r) * y (ix2 k d) := by
  pointwise [k0_pay2]

theorem zero_at (r : Fin 1408) (d : Fin 1024) : (k0_pay1 (F := Ideal) (ix2 r d) : EReal) = 0 := by
  pointwise [k0_pay1]

theorem out_at (a : FVec Ideal S1408x1024 .f32) (r : Fin 1408) (d : Fin 1024) :
    (k0_pay3 (F := Ideal) a (ix2 r d) : EReal) = a (ix2 r d) := by
  pointwise [k0_pay3]

/-! What a grid point leaves. -/

theorem left_A (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  dsimp only
  rw [stored _ _ _ zeros2, kept _ _ zeros2, kept _ _ zeros2]
  delta kernelRun0_A.sl.v3 kernelRun0_A.sl.HS0_1
  rw [View.readCov_cons_toLoadRect]

theorem left_B (t : Fin cfg0.N) (h0 : ¬t.val % 4 = 0) (h1 : ¬t.val % 4 = 3) :
    (outsAt0 m c t.val t.isLt).2 = k0_pay2 (F := Ideal) (outsAt0 m c (t.val - 1) (prev t)).2 (iblk m c 0 t) (iblk m c 1 t) := by
  rw [outsAt0_B m c t h0 h1]
  dsimp only
  unfold sout0_B_0 kernelRun0_B
  dsimp only
  rw [stored _ _ _ zeros2, kept _ _ zeros2, kept _ _ zeros2]
  exact congrArg (fun a => k0_pay2 (F := Ideal) a _ _) (kept (Memref.isWhole_whole _) _ zeros2 _)

theorem left_C (t : Fin cfg0.N) (h0 : ¬t.val % 4 = 0) (h1 : t.val % 4 = 3) :
    (outsAt0 m c t.val t.isLt).1 = k0_pay3 (F := Ideal) (k0_pay2 (F := Ideal) (outsAt0 m c (t.val - 1) (prev t)).2 (iblk m c 0 t) (iblk m c 1 t)) := by
  rw [outsAt0_C m c t h0 h1]
  dsimp only
  unfold out0_C_2 kernelRun0_C
  dsimp only
  rw [stored _ _ _ zeros2]
  delta kernelRun0_C.sl.v16 kernelRun0_C.sl.HS0_1
  rw [View.readCov_cons_toLoadRect, kept _ _ zeros2, kept _ _ zeros2, kept _ _ zeros2]

/-! The blocks of the operands at a grid point. -/

theorem lt_N (t : Fin cfg0.N) : t.val < 32 := lt_of_lt_of_eq t.isLt N_0

theorem w0 : ∀ t : Fin cfg0.N, Goes (win0_0.index t) (t.val % 4) (t.val / 8) := by decide +kernel
theorem w1 : ∀ t : Fin cfg0.N, Goes (win0_1.index t) (t.val % 4) (t.val / 4 % 2) := by decide +kernel

theorem host_0 : V m c main_v0 = arg0 m c := by
  unfold V
  after_reads_simp
  rfl

theorem op_0 (t : Fin cfg0.N) (x : Fin 1024) (y : Fin 1408) :
    (iblk m c 0 t (ix2 x y) : EReal) = at2 (arg0 m c) (1024 * (t.val % 4) + x) (1408 * (t.val / 8) + y) :=
  read2 (host_0 m c) (slot (w0 t).1 rfl) (slot (w0 t).2 rfl)

theorem host_1 : V m c main_v1 = arg1 m c := by
  unfold V
  after_reads_simp
  rfl

theorem op_1 (t : Fin cfg0.N) (x : Fin 1024) (y : Fin 1024) :
    (iblk m c 1 t (ix2 x y) : EReal) = at2 (arg1 m c) (1024 * (t.val % 4) + x) (1024 * (t.val / 4 % 2) + y) :=
  read2 (host_1 m c) (slot (w1 t).1 rfl) (slot (w1 t).2 rfl)

/-! A step adds its block's terms. -/

theorem step_k0_pay2 (t : Fin cfg0.N) (a : FVec Ideal S1408x1024 .f32) (r : Fin 1408) (d : Fin 1024) :
    (k0_pay2 (F := Ideal) a (iblk m c 0 t) (iblk m c 1 t) (ix2 r d) : EReal)
    = a (ix2 r d) + ∑ k ∈ Finset.range 1024, term m c (1408 * ((t.val / 4) / 2) + r) (1024 * ((t.val / 4) % 2) + d) (1024 * (t.val % 4) + k) := by
  have hN := lt_N t
  rw [k0_pay2_at, ← Fin.sum_univ_eq_sum_range]
  refine congrArg (a (ix2 r d) + ·) (Finset.sum_congr rfl fun k _ => ?_)
  rw [op_0 m c t, op_1 m c t]
  unfold term
  rw [show t.val / 4 / 2 = t.val / 8 by omega]

/-- What the last step of run `q` writes. -/
theorem written (q : ℕ) (h : 4 * q + 3 < cfg0.N) (r : Fin 1408) (d : Fin 1024) :
    ((outsAt0 m c (4 * q + 3) h).1 (ix2 r d) : EReal) = ∑ T ∈ Finset.range 4096, term m c (1408 * (q / 2) + r) (1024 * (q % 2) + d) T :=
  swept 4 3 1024 rfl (fun q => term m c (1408 * (q / 2) + r) (1024 * (q % 2) + d)) (fun t h => (outsAt0 m c t h).2 (ix2 r d)) (fun t h => (outsAt0 m c t h).1 (ix2 r d))
    (fun t h h0 h1 => by rw [left_A m c ⟨t, h⟩ h0 h1, step_k0_pay2 m c ⟨t, h⟩, zero_at, zero_add])
    (fun t h h0 h1 => by rw [left_B m c ⟨t, h⟩ h0 h1, step_k0_pay2 m c ⟨t, h⟩])
    (fun t h h0 h1 => by rw [left_C m c ⟨t, h⟩ h0 h1, out_at, step_k0_pay2 m c ⟨t, h⟩]) (by decide) q h

/-- The array after the run. -/
def result : S5632x2048.Idx → EReal := G2 m c

/-- The array after the run, entry by entry. -/
theorem final_at (r : Fin 5632) (d : Fin 2048) :
    result m c (ix2 r d) = ∑ T ∈ Finset.range 4096, term m c r d T := by
  unfold result
  have hr := r.isLt
  have hd := d.isLt
  have hN : cfg0.N = 32 := N_0
  have e : pt2Of (ix2 r d) = 4 * (2 * (r.val / 1408) + d.val / 1024) + 3 := by
    show 4 * (2 * (r.val / 1408 - 0) + 1 * (d.val / 1024 - 0)) + 3 = _
    omega
  have hp : 4 * (2 * (r.val / 1408) + d.val / 1024) + 3 < cfg0.N := by omega
  unfold G2
  rw [dif_pos (by rw [e]; exact hp), fold0_congr m c _ _ (4 * (2 * (r.val / 1408) + d.val / 1024) + 3) (by omega) e, ← outsAt0_sweep m c (4 * (2 * (r.val / 1408) + d.val / 1024) + 3) hp]
  have l : loc2Of (ix2 r d) = ix2 ⟨r % 1408, by omega⟩ ⟨d % 1024, by omega⟩ := eq_ix2 _
  rw [l]
  refine Eq.trans (written m c (2 * (r.val / 1408) + d.val / 1024) hp ⟨r % 1408, by omega⟩ ⟨d % 1024, by omega⟩) ?_
  have e0 : 1408 * ((2 * (r.val / 1408) + d.val / 1024) / 2) + r.val % 1408 = r := by omega
  have e1 : 1024 * ((2 * (r.val / 1408) + d.val / 1024) % 2) + d.val % 1024 = d := by omega
  show ∑ T ∈ Finset.range 4096, term m c (1408 * ((2 * (r.val / 1408) + d.val / 1024) / 2) + r.val % 1408) (1024 * ((2 * (r.val / 1408) + d.val / 1024) % 2) + d.val % 1024) T = _
  rw [e0, e1]

theorem equal : (result m c : (⟨S5632x2048, .bf16⟩ : BufTy).Contents (Elt Ideal))
    = val_main_v4 (F := Ideal) (arg0 m c) (arg1 m c) := by
  funext i
  refine Eq.trans ?_ (val_main_v4_apply (F := Ideal) _ _ i).symm
  refine Eq.trans ?_ (val_main_v3_apply (F := Ideal) _ _ i).symm
  refine Eq.trans ?_ (val_main_v2_apply _ _ _).symm
  refine (congrArg (result m c) (eq_ix2 i)).trans ?_
  refine (final_at m c (i 0) (i 1)).trans ?_
  rw [← Fin.sum_univ_eq_sum_range]
  refine Finset.sum_congr rfl fun k _ => ?_
  unfold term
  refine (mul_comm _ _).trans ?_
  exact (congrArg₂ (· * ·) (at2_of (arg1 m c) (lidx_main_v2 (idx_main_v3 i) k) _ _ rfl rfl)
    (at2_of (arg0 m c) (ridx_main_v2 (idx_main_v3 i) k) _ _ rfl rfl)).symm

end Cert.MatDownWeight
-- ==== Proof.MatDown.lean ====
/- The gradient of the down projection's argument. -/
module

public import proofs.«01_k».proof.Proof.Blocks
public import proofs.«01_k».proof.Proof.Gen.DownIdeal.Value
public import proofs.«01_k».proof.Proof.Gen.DownReferenceIdeal.Read

@[expose] public section

set_option maxRecDepth 16384

noncomputable section

namespace Cert.MatDown

open Idealize.ShloMosaic DownIdeal DownIdeal.Gen DownIdeal.Value DownReferenceIdeal.Read Blk

variable (m : (ℓ : Loc nD τ sig) → Buf (Elt Ideal) ℓ) (c : Dev nD)

/-! The arguments as matrices of extended reals. -/

abbrev arg0 : S4096x2048.Idx → EReal := m ((c.tc : Thread nD τ).loc main_arg0)
abbrev arg1 : S5632x2048.Idx → EReal := m ((c.tc : Thread nD τ).loc main_arg1)

/-- One term of the entry at row `r` and column `d`. -/
def term (r d k : ℕ) : EReal := at2 (arg0 m c) r k * at2 (arg1 m c) d k

/-! What a step stores, entry by entry. -/

theorem k0_pay2_at (a : FVec Ideal S2048x1408 .f32) (x : FVec Ideal S2048x1024 .bf16) (y : FVec Ideal S1408x1024 .bf16) (r : Fin 2048) (d : Fin 1408) :
    (k0_pay2 (F := Ideal) a x y (ix2 r d) : EReal) = a (ix2 r d) + ∑ k : Fin 1024, x (ix2 r k) * y (ix2 d k) := by
  pointwise [k0_pay2]

theorem zero_at (r : Fin 2048) (d : Fin 1408) : (k0_pay1 (F := Ideal) (ix2 r d) : EReal) = 0 := by
  pointwise [k0_pay1]

/-! What a grid point leaves. -/

theorem left_A (t : Fin cfg0.N) (h0 : t.val % 2 = 0) (h1 : ¬t.val % 2 = 1) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  dsimp only
  rw [stored _ _ _ zeros2, kept _ _ zeros2, kept _ _ zeros2]
  delta kernelRun0_A.sl.v3 kernelRun0_A.sl.HS0_1
  rw [View.readCov_cons_toLoadRect]

theorem left_B (t : Fin cfg0.N) (h0 : ¬t.val % 2 = 0) (h1 : t.val % 2 = 1) :
    (outsAt0 m c t.val t.isLt).1 = k0_pay2 (F := Ideal) (outsAt0 m c (t.val - 1) (prev t)).2 (iblk m c 0 t) (iblk m c 1 t) := by
  rw [outsAt0_B m c t h0 h1]
  dsimp only
  unfold out0_B_2 kernelRun0_B
  dsimp only
  rw [stored _ _ _ zeros2]
  delta kernelRun0_B.sl.v16 kernelRun0_B.sl.HS0_1
  rw [View.readCov_cons_toLoadRect, kept _ _ zeros2, kept _ _ zeros2, kept _ _ zeros2]

/-! The blocks of the operands at a grid point. -/

theorem lt_N (t : Fin cfg0.N) : t.val < 16 := lt_of_lt_of_eq t.isLt N_0

theorem w0 : ∀ t : Fin cfg0.N, Goes (win0_0.index t) (t.val / 8) (t.val % 2) := by decide +kernel
theorem w1 : ∀ t : Fin cfg0.N, Goes (win0_1.index t) (t.val / 2 % 4) (t.val % 2) := by decide +kernel

theorem host_0 : V m c main_v0 = arg0 m c := by
  unfold V
  after_reads_simp
  rfl

theorem op_0 (t : Fin cfg0.N) (x : Fin 2048) (y : Fin 1024) :
    (iblk m c 0 t (ix2 x y) : EReal) = at2 (arg0 m c) (2048 * (t.val / 8) + x) (1024 * (t.val % 2) + y) :=
  read2 (host_0 m c) (slot (w0 t).1 rfl) (slot (w0 t).2 rfl)

theorem host_1 : V m c main_v1 = arg1 m c := by
  unfold V
  after_reads_simp
  rfl

theorem op_1 (t : Fin cfg0.N) (x : Fin 1408) (y : Fin 1024) :
    (iblk m c 1 t (ix2 x y) : EReal) = at2 (arg1 m c) (1408 * (t.val / 2 % 4) + x) (1024 * (t.val % 2) + y) :=
  read2 (host_1 m c) (slot (w1 t).1 rfl) (slot (w1 t).2 rfl)

/-! A step adds its block's terms. -/

theorem step_k0_pay2 (t : Fin cfg0.N) (a : FVec Ideal S2048x1408 .f32) (r : Fin 2048) (d : Fin 1408) :
    (k0_pay2 (F := Ideal) a (iblk m c 0 t) (iblk m c 1 t) (ix2 r d) : EReal)
    = a (ix2 r d) + ∑ k ∈ Finset.range 1024, term m c (2048 * ((t.val / 2) / 4) + r) (1408 * ((t.val / 2) % 4) + d) (1024 * (t.val % 2) + k) := by
  have hN := lt_N t
  rw [k0_pay2_at, ← Fin.sum_univ_eq_sum_range]
  refine congrArg (a (ix2 r d) + ·) (Finset.sum_congr rfl fun k _ => ?_)
  rw [op_0 m c t, op_1 m c t]
  unfold term
  rw [show t.val / 2 / 4 = t.val / 8 by omega]

/-- What the last step of run `q` writes. -/
theorem written (q : ℕ) (h : 2 * q + 1 < cfg0.N) (r : Fin 2048) (d : Fin 1408) :
    ((outsAt0 m c (2 * q + 1) h).1 (ix2 r d) : EReal) = ∑ T ∈ Finset.range 2048, term m c (2048 * (q / 4) + r) (1408 * (q % 4) + d) T :=
  swept 2 1 1024 rfl (fun q => term m c (2048 * (q / 4) + r) (1408 * (q % 4) + d)) (fun t h => (outsAt0 m c t h).2 (ix2 r d)) (fun t h => (outsAt0 m c t h).1 (ix2 r d))
    (fun t h h0 h1 => by rw [left_A m c ⟨t, h⟩ h0 h1, step_k0_pay2 m c ⟨t, h⟩, zero_at, zero_add])
    (fun t h h0 h1 => by omega)
    (fun t h h0 h1 => by rw [left_B m c ⟨t, h⟩ h0 h1, step_k0_pay2 m c ⟨t, h⟩]) (by decide) q h

/-- The array after the run. -/
def result : S4096x5632.Idx → EReal := G2 m c

/-- The array after the run, entry by entry. -/
theorem final_at (r : Fin 4096) (d : Fin 5632) :
    result m c (ix2 r d) = ∑ T ∈ Finset.range 2048, term m c r d T := by
  unfold result
  have hr := r.isLt
  have hd := d.isLt
  have hN : cfg0.N = 16 := N_0
  have e : pt2Of (ix2 r d) = 2 * (4 * (r.val / 2048) + d.val / 1408) + 1 := by
    show 2 * (4 * (r.val / 2048 - 0) + 1 * (d.val / 1408 - 0)) + 1 = _
    omega
  have hp : 2 * (4 * (r.val / 2048) + d.val / 1408) + 1 < cfg0.N := by omega
  unfold G2
  rw [dif_pos (by rw [e]; exact hp), fold0_congr m c _ _ (2 * (4 * (r.val / 2048) + d.val / 1408) + 1) (by omega) e, ← outsAt0_sweep m c (2 * (4 * (r.val / 2048) + d.val / 1408) + 1) hp]
  have l : loc2Of (ix2 r d) = ix2 ⟨r % 2048, by omega⟩ ⟨d % 1408, by omega⟩ := eq_ix2 _
  rw [l]
  refine Eq.trans (written m c (4 * (r.val / 2048) + d.val / 1408) hp ⟨r % 2048, by omega⟩ ⟨d % 1408, by omega⟩) ?_
  have e0 : 2048 * ((4 * (r.val / 2048) + d.val / 1408) / 4) + r.val % 2048 = r := by omega
  have e1 : 1408 * ((4 * (r.val / 2048) + d.val / 1408) % 4) + d.val % 1408 = d := by omega
  show ∑ T ∈ Finset.range 2048, term m c (2048 * ((4 * (r.val / 2048) + d.val / 1408) / 4) + r.val % 2048) (1408 * ((4 * (r.val / 2048) + d.val / 1408) % 4) + d.val % 1408) T = _
  rw [e0, e1]

theorem equal : (result m c : (⟨S4096x5632, .f32⟩ : BufTy).Contents (Elt Ideal))
    = val_main_v2 (F := Ideal) (arg0 m c) (arg1 m c) := by
  funext i
  rw [val_main_v2_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v2 _ k) _ _ rfl rfl)
    (at2_of (arg1 m c) (ridx_main_v2 _ k) _ _ rfl rfl)).symm

end Cert.MatDown
-- ==== Proof.MatInWeight.lean ====
/- The gradient of the input projection's weight. -/
module

public import proofs.«01_k».proof.Proof.Blocks
public import proofs.«01_k».proof.Proof.Gen.InWeightIdeal.Value
public import proofs.«01_k».proof.Proof.Gen.InWeightReferenceIdeal.Read

@[expose] public section

set_option maxRecDepth 16384

noncomputable section

namespace Cert.MatInWeight

open Idealize.ShloMosaic InWeightIdeal InWeightIdeal.Gen InWeightIdeal.Value InWeightReferenceIdeal.Read Blk

variable (m : (ℓ : Loc nD τ sig) → Buf (Elt Ideal) ℓ) (c : Dev nD)

/-! The arguments as matrices of extended reals. -/

abbrev arg0 : S4096x2048.Idx → EReal := m ((c.tc : Thread nD τ).loc main_arg0)
abbrev arg1 : S4096x8192.Idx → EReal := m ((c.tc : Thread nD τ).loc main_arg1)

/-- One term of the entry at row `r` and column `d`. -/
def term (r d k : ℕ) : EReal := at2 (arg0 m c) k r * at2 (arg1 m c) k d

/-! What a step stores, entry by entry. -/

theorem k0_pay2_at (a : FVec Ideal S2048x1024 .f32) (x : FVec Ideal S1024x2048 .bf16) (y : FVec Ideal S1024x1024 .bf16) (r : Fin 2048) (d : Fin 1024) :
    (k0_pay2 (F := Ideal) a x y (ix2 r d) : EReal) = a (ix2 r d) + ∑ k : Fin 1024, x (ix2 k r) * y (ix2 k d) := by
  pointwise [k0_pay2]

theorem zero_at (r : Fin 2048) (d : Fin 1024) : (k0_pay1 (F := Ideal) (ix2 r d) : EReal) = 0 := by
  pointwise [k0_pay1]

theorem out_at (a : FVec Ideal S2048x1024 .f32) (r : Fin 2048) (d : Fin 1024) :
    (k0_pay3 (F := Ideal) a (ix3 0 r d) : EReal) = a (ix2 r d) := by
  pointwise [k0_pay3]

/-! What a grid point leaves. -/

theorem left_A (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  dsimp only
  rw [stored _ _ _ zeros2, kept _ _ zeros2, kept _ _ zeros2]
  delta kernelRun0_A.sl.v3 kernelRun0_A.sl.HS0_1
  rw [View.readCov_cons_toLoadRect]

theorem left_B (t : Fin cfg0.N) (h0 : ¬t.val % 4 = 0) (h1 : ¬t.val % 4 = 3) :
    (outsAt0 m c t.val t.isLt).2 = k0_pay2 (F := Ideal) (outsAt0 m c (t.val - 1) (prev t)).2 (iblk m c 0 t) (iblk m c 1 t) := by
  rw [outsAt0_B m c t h0 h1]
  dsimp only
  unfold sout0_B_0 kernelRun0_B
  dsimp only
  rw [stored _ _ _ zeros2, kept _ _ zeros2, kept _ _ zeros2]
  exact congrArg (fun a => k0_pay2 (F := Ideal) a _ _) (kept (Memref.isWhole_whole _) _ zeros2 _)

theorem left_C (t : Fin cfg0.N) (h0 : ¬t.val % 4 = 0) (h1 : t.val % 4 = 3) :
    (outsAt0 m c t.val t.isLt).1 = k0_pay3 (F := Ideal) (k0_pay2 (F := Ideal) (outsAt0 m c (t.val - 1) (prev t)).2 (iblk m c 0 t) (iblk m c 1 t)) := by
  rw [outsAt0_C m c t h0 h1]
  dsimp only
  unfold out0_C_2 kernelRun0_C
  dsimp only
  rw [stored _ _ _ zeros3]
  delta kernelRun0_C.sl.v16 kernelRun0_C.sl.HS0_1
  rw [View.readCov_cons_toLoadRect, kept _ _ zeros2, kept _ _ zeros2, kept _ _ zeros2]

/-! The blocks of the operands at a grid point. -/

theorem lt_N (t : Fin cfg0.N) : t.val < 32 := lt_of_lt_of_eq t.isLt N_0

theorem w0 : ∀ t : Fin cfg0.N, Goes (win0_0.index t) (t.val % 4) (t.val / 32) := by decide +kernel
theorem w1 : ∀ t : Fin cfg0.N, Goes (win0_1.index t) (t.val % 4) (t.val / 4 % 8) := by decide +kernel

theorem host_0 : V m c main_v0 = arg0 m c := by
  unfold V
  after_reads_simp
  rfl

theorem op_0 (t : Fin cfg0.N) (x : Fin 1024) (y : Fin 2048) :
    (iblk m c 0 t (ix2 x y) : EReal) = at2 (arg0 m c) (1024 * (t.val % 4) + x) (2048 * (t.val / 32) + y) :=
  read2 (host_0 m c) (slot (w0 t).1 rfl) (slot (w0 t).2 rfl)

theorem host_1 : V m c main_v1 = arg1 m c := by
  unfold V
  after_reads_simp
  rfl

theorem op_1 (t : Fin cfg0.N) (x : Fin 1024) (y : Fin 1024) :
    (iblk m c 1 t (ix2 x y) : EReal) = at2 (arg1 m c) (1024 * (t.val % 4) + x) (1024 * (t.val / 4 % 8) + y) :=
  read2 (host_1 m c) (slot (w1 t).1 rfl) (slot (w1 t).2 rfl)

/-! A step adds its block's terms. -/

theorem step_k0_pay2 (t : Fin cfg0.N) (a : FVec Ideal S2048x1024 .f32) (r : Fin 2048) (d : Fin 1024) :
    (k0_pay2 (F := Ideal) a (iblk m c 0 t) (iblk m c 1 t) (ix2 r d) : EReal)
    = a (ix2 r d) + ∑ k ∈ Finset.range 1024, term m c (2048 * ((t.val / 4) / 8) + r) (1024 * ((t.val / 4) % 8) + d) (1024 * (t.val % 4) + k) := by
  have hN := lt_N t
  rw [k0_pay2_at, ← Fin.sum_univ_eq_sum_range]
  refine congrArg (a (ix2 r d) + ·) (Finset.sum_congr rfl fun k _ => ?_)
  rw [op_0 m c t, op_1 m c t]
  unfold term
  rw [show t.val / 4 / 8 = t.val / 32 by omega]

/-- What the last step of run `q` writes. -/
theorem written (q : ℕ) (h : 4 * q + 3 < cfg0.N) (r : Fin 2048) (d : Fin 1024) :
    ((outsAt0 m c (4 * q + 3) h).1 (ix3 0 r d) : EReal) = ∑ T ∈ Finset.range 4096, term m c (2048 * (q / 8) + r) (1024 * (q % 8) + d) T :=
  swept 4 3 1024 rfl (fun q => term m c (2048 * (q / 8) + r) (1024 * (q % 8) + d)) (fun t h => (outsAt0 m c t h).2 (ix2 r d)) (fun t h => (outsAt0 m c t h).1 (ix3 0 r d))
    (fun t h h0 h1 => by rw [left_A m c ⟨t, h⟩ h0 h1, step_k0_pay2 m c ⟨t, h⟩, zero_at, zero_add])
    (fun t h h0 h1 => by rw [left_B m c ⟨t, h⟩ h0 h1, step_k0_pay2 m c ⟨t, h⟩])
    (fun t h h0 h1 => by rw [left_C m c ⟨t, h⟩ h0 h1, out_at, step_k0_pay2 m c ⟨t, h⟩]) (by decide) q h

/-- The array after the run. -/
def result : S8x2048x1024.Idx → EReal := G2 m c

/-- The array after the run, entry by entry. -/
theorem final_at (s : Fin 8) (r : Fin 2048) (d : Fin 1024) :
    result m c (ix3 s r d) = ∑ T ∈ Finset.range 4096, term m c r.val (1024 * s.val + d.val) T := by
  unfold result
  have hr := r.isLt
  have hs := s.isLt
  have hd := d.isLt
  have hN : cfg0.N = 32 := N_0
  have e : pt2Of (ix3 s r d) = 4 * (s.val) + 3 := by
    show 4 * (1 * (s.val / 1 - 0) + 1 * (r.val / 2048 - 0) + 1 * (d.val / 1024 - 0)) + 3 = _
    omega
  have hp : 4 * (s.val) + 3 < cfg0.N := by omega
  unfold G2
  rw [dif_pos (by rw [e]; exact hp), fold0_congr m c _ _ (4 * (s.val) + 3) (by omega) e, ← outsAt0_sweep m c (4 * (s.val) + 3) hp]
  have l : loc2Of (ix3 s r d) = ix3 0 ⟨r % 2048, by omega⟩ ⟨d % 1024, by omega⟩ := by
    funext a
    match a with
    | ⟨0, _⟩ => exact Fin.ext (Nat.mod_one _)
    | ⟨1, _⟩ => rfl
    | ⟨2, _⟩ => rfl
  rw [l]
  refine Eq.trans (written m c (s.val) hp ⟨r % 2048, by omega⟩ ⟨d % 1024, by omega⟩) ?_
  have e0 : 2048 * ((s.val) / 8) + r.val % 2048 = r := by omega
  have e1 : 1024 * ((s.val) % 8) + d.val % 1024 = (1024 * s.val + d.val) := by omega
  show ∑ T ∈ Finset.range 4096, term m c (2048 * ((s.val) / 8) + r.val % 2048) (1024 * ((s.val) % 8) + d.val % 1024) T = _
  rw [e0, e1]

theorem equal : (result m c : (⟨S8x2048x1024, .bf16⟩ : BufTy).Contents (Elt Ideal))
    = val_main_v6 (F := Ideal) (arg0 m c) (arg1 m c) := by
  funext i
  have h0 := (i 0).isLt
  have h1 := (i 1).isLt
  have h2 := (i 2).isLt
  change (i 0).val < 8 at h0
  change (i 1).val < 2048 at h1
  change (i 2).val < 1024 at h2
  refine Eq.trans ?_ (val_main_v6_apply (F := Ideal) _ _ i).symm
  refine Eq.trans ?_ (val_main_v5_apply (F := Ideal) _ _ i).symm
  refine Eq.trans ?_ (val_main_v4_apply (F := Ideal) _ _ _).symm
  refine Eq.trans ?_ (val_main_v3_apply (F := Ideal) _ _ _).symm
  refine Eq.trans ?_ (val_main_v2_apply _ _ _).symm
  refine (congrArg (result m c) (eq_ix3 i)).trans ?_
  refine (final_at m c (i 0) (i 1) (i 2)).trans ?_
  rw [← Fin.sum_univ_eq_sum_range]
  refine Finset.sum_congr rfl fun k _ => ?_
  unfold term
  refine (mul_comm _ _).trans ?_
  refine (congrArg₂ (· * ·) (at2_of (arg1 m c) (lidx_main_v2 _ k) _ _ rfl ?_)
    (at2_of (arg0 m c) (ridx_main_v2 _ k) _ _ rfl ?_)).symm
  · show (((i 1).val * 8 + (i 0).val) * 1024 + (i 2).val) % 8192 = 1024 * (i 0).val + (i 2).val
    omega
  · show (((i 1).val * 8 + (i 0).val) * 1024 + (i 2).val) / 8192 = (i 1).val
    omega

end Cert.MatInWeight
-- ==== Proof.MatIn.lean ====
/- The gradient of the input projection's argument. -/
module

public import proofs.«01_k».proof.Proof.Blocks
public import proofs.«01_k».proof.Proof.Gen.InIdeal.Value
public import proofs.«01_k».proof.Proof.Gen.InReferenceIdeal.Read

@[expose] public section

set_option maxRecDepth 16384

noncomputable section

namespace Cert.MatIn

open Idealize.ShloMosaic InIdeal InIdeal.Gen InIdeal.Value InReferenceIdeal.Read Blk

variable (m : (ℓ : Loc nD τ sig) → Buf (Elt Ideal) ℓ) (c : Dev nD)

/-! The arguments as matrices of extended reals. -/

abbrev arg0 : S4096x8192.Idx → EReal := m ((c.tc : Thread nD τ).loc main_arg0)
abbrev arg1 : S2048x8192.Idx → EReal := m ((c.tc : Thread nD τ).loc main_arg1)

/-- One term of the entry at row `r` and column `d`. -/
def term (r d k : ℕ) : EReal := at2 (arg0 m c) r k * at2 (arg1 m c) d k

/-! What a step stores, entry by entry. -/

theorem k0_pay2_at (a : FVec Ideal S4096x512 .f32) (x : FVec Ideal S4096x1024 .bf16) (y : FVec Ideal S1x512x1024 .bf16) (r : Fin 4096) (d : Fin 512) :
    (k0_pay2 (F := Ideal) a x y (ix2 r d) : EReal) = a (ix2 r d) + ∑ k : Fin 1024, x (ix2 r k) * y (ix3 0 d k) := by
  pointwise [k0_pay2]

theorem zero_at (r : Fin 4096) (d : Fin 512) : (k0_pay1 (F := Ideal) (ix2 r d) : EReal) = 0 := by
  pointwise [k0_pay1]

/-! What a grid point leaves. -/

theorem left_A (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  dsimp only
  rw [stored _ _ _ zeros2, kept _ _ zeros2, kept _ _ zeros3]
  delta kernelRun0_A.sl.v3 kernelRun0_A.sl.HS0_1
  rw [View.readCov_cons_toLoadRect]

theorem left_B (t : Fin cfg0.N) (h0 : ¬t.val % 8 = 0) (h1 : ¬t.val % 8 = 7) :
    (outsAt0 m c t.val t.isLt).2 = k0_pay2 (F := Ideal) (outsAt0 m c (t.val - 1) (prev t)).2 (iblk m c 0 t) (iblk m c 1 t) := by
  rw [outsAt0_B m c t h0 h1]
  dsimp only
  unfold sout0_B_0 kernelRun0_B
  dsimp only
  rw [stored _ _ _ zeros2, kept _ _ zeros2, kept _ _ zeros3]
  exact congrArg (fun a => k0_pay2 (F := Ideal) a _ _) (kept (Memref.isWhole_whole _) _ zeros2 _)

theorem left_C (t : Fin cfg0.N) (h0 : ¬t.val % 8 = 0) (h1 : t.val % 8 = 7) :
    (outsAt0 m c t.val t.isLt).1 = k0_pay2 (F := Ideal) (outsAt0 m c (t.val - 1) (prev t)).2 (iblk m c 0 t) (iblk m c 1 t) := by
  rw [outsAt0_C m c t h0 h1]
  dsimp only
  unfold out0_C_2 kernelRun0_C
  dsimp only
  rw [stored _ _ _ zeros2]
  delta kernelRun0_C.sl.v16 kernelRun0_C.sl.HS0_1
  rw [View.readCov_cons_toLoadRect, kept _ _ zeros2, kept _ _ zeros2, kept _ _ zeros3]

/-! The blocks of the operands at a grid point. -/

theorem lt_N (t : Fin cfg0.N) : t.val < 32 := lt_of_lt_of_eq t.isLt N_0

theorem w0 : ∀ t : Fin cfg0.N, Goes (win0_0.index t) (t.val / 32) (t.val % 8) := by decide +kernel
theorem w1 : ∀ t : Fin cfg0.N, Goes3 (win0_1.index t) (t.val % 8) (t.val / 8 % 4) 0 := by decide +kernel

theorem host_0 : V m c main_v0 = arg0 m c := by
  unfold V
  after_reads_simp
  rfl

theorem op_0 (t : Fin cfg0.N) (x : Fin 4096) (y : Fin 1024) :
    (iblk m c 0 t (ix2 x y) : EReal) = at2 (arg0 m c) (4096 * (t.val / 32) + x) (1024 * (t.val % 8) + y) :=
  read2 (host_0 m c) (slot (w0 t).1 rfl) (slot (w0 t).2 rfl)

theorem host_1 (s : Fin 8) (x : Fin 2048) (y : Fin 1024) :
    (V m c main_v3 (ix3 s x y) : EReal) = at2 (arg1 m c) x (1024 * s + y) := by
  unfold V
  after_reads_at
  refine (at2_of (arg1 m c) _ _ _ ?_ ?_)
  · rfl
  · show s.val * 1024 + y.val = _
    omega

theorem op_1 (t : Fin cfg0.N) (x : Fin 512) (y : Fin 1024) :
    (iblk m c 1 t (ix3 0 x y) : EReal) = at2 (arg1 m c) (512 * (t.val / 8 % 4) + x) (1024 * (t.val % 8) + y) := by
  obtain ⟨h0, h1, h2⟩ := w1 t
  have hN := lt_N t
  show V m c main_v3 (((cfg0.win 1).blk t).view.emb (ix3 0 x y)) = _
  have e : (((cfg0.win 1).blk t).view.emb (ix3 0 x y) : S8x2048x1024.Idx)
      = ix3 ⟨t.val % 8, by omega⟩ ⟨512 * (t.val / 8 % 4) + x, by omega⟩ ⟨1024 * 0 + y, by omega⟩ := ix3_of (by show win0_1.index t (0 : Fin 3) * 1 + 1 * 0 = t.val % 8; omega) (slot h1 rfl) (slot h2 rfl)
  rw [e]
  refine (host_1 m c _ _ _).trans ?_
  congr 1
  show 1024 * (t.val % 8) + (1024 * 0 + y.val) = _
  omega

/-! A step adds its block's terms. -/

theorem step_k0_pay2 (t : Fin cfg0.N) (a : FVec Ideal S4096x512 .f32) (r : Fin 4096) (d : Fin 512) :
    (k0_pay2 (F := Ideal) a (iblk m c 0 t) (iblk m c 1 t) (ix2 r d) : EReal)
    = a (ix2 r d) + ∑ k ∈ Finset.range 1024, term m c (4096 * ((t.val / 8) / 4) + r) (512 * ((t.val / 8) % 4) + d) (1024 * (t.val % 8) + k) := by
  have hN := lt_N t
  rw [k0_pay2_at, ← Fin.sum_univ_eq_sum_range]
  refine congrArg (a (ix2 r d) + ·) (Finset.sum_congr rfl fun k _ => ?_)
  rw [op_0 m c t, op_1 m c t]
  unfold term
  rw [show t.val / 8 / 4 = t.val / 32 by omega]

/-- What the last step of run `q` writes. -/
theorem written (q : ℕ) (h : 8 * q + 7 < cfg0.N) (r : Fin 4096) (d : Fin 512) :
    ((outsAt0 m c (8 * q + 7) h).1 (ix2 r d) : EReal) = ∑ T ∈ Finset.range 8192, term m c (4096 * (q / 4) + r) (512 * (q % 4) + d) T :=
  swept 8 7 1024 rfl (fun q => term m c (4096 * (q / 4) + r) (512 * (q % 4) + d)) (fun t h => (outsAt0 m c t h).2 (ix2 r d)) (fun t h => (outsAt0 m c t h).1 (ix2 r d))
    (fun t h h0 h1 => by rw [left_A m c ⟨t, h⟩ h0 h1, step_k0_pay2 m c ⟨t, h⟩, zero_at, zero_add])
    (fun t h h0 h1 => by rw [left_B m c ⟨t, h⟩ h0 h1, step_k0_pay2 m c ⟨t, h⟩])
    (fun t h h0 h1 => by rw [left_C m c ⟨t, h⟩ h0 h1, step_k0_pay2 m c ⟨t, h⟩]) (by decide) q h

/-- The array after the run. -/
def result : S4096x2048.Idx → EReal := G2 m c

/-- The array after the run, entry by entry. -/
theorem final_at (r : Fin 4096) (d : Fin 2048) :
    result m c (ix2 r d) = ∑ T ∈ Finset.range 8192, term m c r d T := by
  unfold result
  have hr := r.isLt
  have hd := d.isLt
  have hN : cfg0.N = 32 := N_0
  have e : pt2Of (ix2 r d) = 8 * (4 * (r.val / 4096) + d.val / 512) + 7 := by
    show 8 * (4 * (r.val / 4096 - 0) + 1 * (d.val / 512 - 0)) + 7 = _
    omega
  have hp : 8 * (4 * (r.val / 4096) + d.val / 512) + 7 < cfg0.N := by omega
  unfold G2
  rw [dif_pos (by rw [e]; exact hp), fold0_congr m c _ _ (8 * (4 * (r.val / 4096) + d.val / 512) + 7) (by omega) e, ← outsAt0_sweep m c (8 * (4 * (r.val / 4096) + d.val / 512) + 7) hp]
  have l : loc2Of (ix2 r d) = ix2 ⟨r % 4096, by omega⟩ ⟨d % 512, by omega⟩ := eq_ix2 _
  rw [l]
  refine Eq.trans (written m c (4 * (r.val / 4096) + d.val / 512) hp ⟨r % 4096, by omega⟩ ⟨d % 512, by omega⟩) ?_
  have e0 : 4096 * ((4 * (r.val / 4096) + d.val / 512) / 4) + r.val % 4096 = r := by omega
  have e1 : 512 * ((4 * (r.val / 4096) + d.val / 512) % 4) + d.val % 512 = d := by omega
  show ∑ T ∈ Finset.range 8192, term m c (4096 * ((4 * (r.val / 4096) + d.val / 512) / 4) + r.val % 4096) (512 * ((4 * (r.val / 4096) + d.val / 512) % 4) + d.val % 512) T = _
  rw [e0, e1]

theorem equal : (result m c : (⟨S4096x2048, .f32⟩ : BufTy).Contents (Elt Ideal))
    = val_main_v2 (F := Ideal) (arg0 m c) (arg1 m c) := by
  funext i
  rw [val_main_v2_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v2 _ k) _ _ rfl rfl)
    (at2_of (arg1 m c) (ridx_main_v2 _ k) _ _ rfl rfl)).symm

end Cert.MatIn
-- ==== Proof.MatOut.lean ====
/- The gradient of the output projection's argument. -/
module

public import proofs.«01_k».proof.Proof.Blocks
public import proofs.«01_k».proof.Proof.Gen.OutIdeal.Frame
public import proofs.«01_k».proof.Proof.Gen.OutReferenceIdeal.Read

@[expose] public section

set_option maxRecDepth 16384

noncomputable section

namespace Cert.MatOut

open Idealize.ShloMosaic OutIdeal OutIdeal.Gen OutReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S2048x2048.Idx → EReal := m ((c.tc : Thread nD τ).loc main_arg1)

/-- One term of the entry at row `r` and column `d`. -/
def term (r d k : ℕ) : EReal := at2 (arg0 m c) r k * at2 (arg1 m c) d k

/-- What a grid point stores, entry by entry. -/
theorem pay_at (x : FVec Ideal S2048x2048 .bf16) (y : FVec Ideal S1024x2048 .bf16) (r : Fin 2048) (d : Fin 1024) :
    (k0_pay1 (F := Ideal) x y (ix2 r d) : EReal) = ∑ k : Fin 2048, x (ix2 r k) * y (ix2 d k) := by
  pointwise [k0_pay1]

/-! The blocks at a grid point. -/

theorem lt_N (t : Fin cfg0.N) : t.val < 4 := lt_of_lt_of_eq t.isLt N_0

theorem w0 : ∀ t : Fin cfg0.N, Goes (win0_0.index t) (t.val / 2) 0 := by decide +kernel
theorem w1 : ∀ t : Fin cfg0.N, Goes (win0_1.index t) (t.val % 2) 0 := by decide +kernel
theorem w2 : ∀ t : Fin cfg0.N, Goes (win0_2.index t) (t.val / 2) (t.val % 2) := by decide +kernel

theorem host_0 : V m c main_v0 = arg0 m c := by
  unfold V
  after_reads_simp
  rfl

theorem op_0 (t : Fin cfg0.N) (x : Fin 2048) (y : Fin 2048) :
    (iblk m c 0 t (ix2 x y) : EReal) = at2 (arg0 m c) (2048 * (t.val / 2) + x) (2048 * 0 + y) :=
  read2 (host_0 m c) (slot (w0 t).1 rfl) (slot (w0 t).2 rfl)

theorem host_1 : V m c main_v1 = arg1 m c := by
  unfold V
  after_reads_simp
  rfl

theorem op_1 (t : Fin cfg0.N) (x : Fin 1024) (y : Fin 2048) :
    (iblk m c 1 t (ix2 x y) : EReal) = at2 (arg1 m c) (1024 * (t.val % 2) + x) (2048 * 0 + y) :=
  read2 (host_1 m c) (slot (w1 t).1 rfl) (slot (w1 t).2 rfl)

/-- What a grid point leaves. -/
theorem point (t : Fin cfg0.N) (r : Fin 2048) (d : Fin 1024) :
    (out0_2 (F := Ideal) (iblk m c 0 t) (iblk m c 1 t) (ix2 r d) : EReal) = ∑ T ∈ Finset.range 2048, term m c (2048 * (t.val / 2) + r) (1024 * (t.val % 2) + d) T := by
  unfold out0_2
  rw [View.canon_cons_unit_lit' _ _ _ zeros2, View.ld_unit_lit' _ _ zeros2, View.ld_unit_lit' _ _ zeros2, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S4096x2048.Idx → EReal := fun i => ∑ T ∈ Finset.range 2048, term m c (i 0).val (i 1).val T

theorem final_at (r : Fin 4096) (d : Fin 2048) :
    result m c (ix2 r d) = ∑ T ∈ Finset.range 2048, term m c r d T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  exact entry2 (f := (out0_2 (F := Ideal) (iblk m c 0 t) (iblk m c 1 t))) (F := result m c) ((cfg0.win 2).xinj (grid0.coords t) y) _ (2048 * (t.val / 2)) (1024 * (t.val % 2))
    (slot (w2 t).1 rfl) (slot (w2 t).2 rfl)
    fun r d p q hp hq => (point m c t r d).trans (by rw [final_at, hp, hq])

/-- Every entry is in a block that a grid point writes back. -/
theorem everywhere (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hN : cfg0.N = 4 := N_0
  obtain ⟨t, ht⟩ : ∃ t : Fin cfg0.N, t.val = 2 * ((i 0).val / 2048) + (i 1).val / 1024 := ⟨⟨_, by omega⟩, rfl⟩
  obtain ⟨h0, h1⟩ := w2 t
  exact ⟨t, flush0_2 _, in2 (View.set_slice_whole main_v2 (win0_2.rect t)) 2048 1024 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x2048, .f32⟩ : BufTy).Contents (Elt Ideal))
    = val_main_v2 (F := Ideal) (arg0 m c) (arg1 m c) := by
  funext i
  rw [val_main_v2_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v2 _ k) _ _ rfl rfl)
    (at2_of (arg1 m c) (ridx_main_v2 _ k) _ _ rfl rfl)).symm

end Cert.MatOut
-- ==== Proof.MatOutWeight.lean ====
/- The gradient of the output projection's weight. -/
module

public import proofs.«01_k».proof.Proof.Blocks
public import proofs.«01_k».proof.Proof.Gen.OutWeightIdeal.Frame
public import proofs.«01_k».proof.Proof.Gen.OutWeightReferenceIdeal.Read

@[expose] public section

set_option maxRecDepth 16384

noncomputable section

namespace Cert.MatOutWeight

open Idealize.ShloMosaic OutWeightIdeal OutWeightIdeal.Gen OutWeightReferenceIdeal.Read Blk Idealize.ShloMosaic.TcCoe Idealize.SL.Sem

variable (m : (ℓ : Loc nD τ sig) → Buf (Elt Ideal) ℓ) (c : Dev nD)

/-! The arguments as matrices of extended reals. -/

abbrev arg0 : S4096x2048.Idx → EReal := m ((c.tc : Thread nD τ).loc main_arg0)
abbrev arg1 : S4096x2048.Idx → EReal := m ((c.tc : Thread nD τ).loc main_arg1)

/-- One term of the entry at row `r` and column `d`. -/
def term (r d k : ℕ) : EReal := at2 (arg0 m c) k r * at2 (arg1 m c) k d

/-! What a step stores, entry by entry. -/

theorem k0_pay2_at (a : FVec Ideal S2048x1024 .f32) (x : FVec Ideal S1024x2048 .bf16) (y : FVec Ideal S1024x1024 .bf16) (r : Fin 2048) (d : Fin 1024) :
    (k0_pay2 (F := Ideal) a x y (ix2 r d) : EReal) = a (ix2 r d) + ∑ k : Fin 1024, x (ix2 k r) * y (ix2 k d) := by
  pointwise [k0_pay2]

theorem zero_at (r : Fin 2048) (d : Fin 1024) : (k0_pay1 (F := Ideal) (ix2 r d) : EReal) = 0 := by
  pointwise [k0_pay1]

theorem out_at (a : FVec Ideal S2048x1024 .f32) (r : Fin 2048) (d : Fin 1024) :
    (k0_pay3 (F := Ideal) a (ix2 r d) : EReal) = a (ix2 r d) := by
  pointwise [k0_pay3]

/-! What a grid point leaves. -/

theorem left_A (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  dsimp only
  rw [stored _ _ _ zeros2, kept _ _ zeros2, kept _ _ zeros2]
  delta kernelRun0_A.sl.v3 kernelRun0_A.sl.HS0_1
  rw [View.readCov_cons_toLoadRect]

theorem left_B (t : Fin cfg0.N) (h0 : ¬t.val % 4 = 0) (h1 : ¬t.val % 4 = 3) :
    (outsAt0 m c t.val t.isLt).2 = k0_pay2 (F := Ideal) (outsAt0 m c (t.val - 1) (prev t)).2 (iblk m c 0 t) (iblk m c 1 t) := by
  rw [outsAt0_B m c t h0 h1]
  dsimp only
  unfold sout0_B_0 kernelRun0_B
  dsimp only
  rw [stored _ _ _ zeros2, kept _ _ zeros2, kept _ _ zeros2]
  exact congrArg (fun a => k0_pay2 (F := Ideal) a _ _) (kept (Memref.isWhole_whole _) _ zeros2 _)

theorem left_C (t : Fin cfg0.N) (h0 : ¬t.val % 4 = 0) (h1 : t.val % 4 = 3) :
    (outsAt0 m c t.val t.isLt).1 = k0_pay3 (F := Ideal) (k0_pay2 (F := Ideal) (outsAt0 m c (t.val - 1) (prev t)).2 (iblk m c 0 t) (iblk m c 1 t)) := by
  rw [outsAt0_C m c t h0 h1]
  dsimp only
  unfold out0_C_2 kernelRun0_C
  dsimp only
  rw [stored _ _ _ zeros2]
  delta kernelRun0_C.sl.v16 kernelRun0_C.sl.HS0_1
  rw [View.readCov_cons_toLoadRect, kept _ _ zeros2, kept _ _ zeros2, kept _ _ zeros2]

/-! The blocks of the operands at a grid point. -/

theorem lt_N (t : Fin cfg0.N) : t.val < 8 := lt_of_lt_of_eq t.isLt N_0

theorem w0 : ∀ t : Fin cfg0.N, Goes (win0_0.index t) (t.val % 4) (t.val / 8) := by decide +kernel
theorem w1 : ∀ t : Fin cfg0.N, Goes (win0_1.index t) (t.val % 4) (t.val / 4 % 2) := by decide +kernel

theorem host_0 : V m c main_v0 = arg0 m c := by
  unfold V
  after_reads_simp
  rfl

theorem op_0 (t : Fin cfg0.N) (x : Fin 1024) (y : Fin 2048) :
    (iblk m c 0 t (ix2 x y) : EReal) = at2 (arg0 m c) (1024 * (t.val % 4) + x) (2048 * (t.val / 8) + y) :=
  read2 (host_0 m c) (slot (w0 t).1 rfl) (slot (w0 t).2 rfl)

theorem host_1 : V m c main_v1 = arg1 m c := by
  unfold V
  after_reads_simp
  rfl

theorem op_1 (t : Fin cfg0.N) (x : Fin 1024) (y : Fin 1024) :
    (iblk m c 1 t (ix2 x y) : EReal) = at2 (arg1 m c) (1024 * (t.val % 4) + x) (1024 * (t.val / 4 % 2) + y) :=
  read2 (host_1 m c) (slot (w1 t).1 rfl) (slot (w1 t).2 rfl)

/-! A step adds its block's terms. -/

theorem step_k0_pay2 (t : Fin cfg0.N) (a : FVec Ideal S2048x1024 .f32) (r : Fin 2048) (d : Fin 1024) :
    (k0_pay2 (F := Ideal) a (iblk m c 0 t) (iblk m c 1 t) (ix2 r d) : EReal)
    = a (ix2 r d) + ∑ k ∈ Finset.range 1024, term m c (2048 * ((t.val / 4) / 2) + r) (1024 * ((t.val / 4) % 2) + d) (1024 * (t.val % 4) + k) := by
  have hN := lt_N t
  rw [k0_pay2_at, ← Fin.sum_univ_eq_sum_range]
  refine congrArg (a (ix2 r d) + ·) (Finset.sum_congr rfl fun k _ => ?_)
  rw [op_0 m c t, op_1 m c t]
  unfold term
  rw [show t.val / 4 / 2 = t.val / 8 by omega]

/-- What the last step of run `q` writes. -/
theorem written (q : ℕ) (h : 4 * q + 3 < cfg0.N) (r : Fin 2048) (d : Fin 1024) :
    ((outsAt0 m c (4 * q + 3) h).1 (ix2 r d) : EReal) = ∑ T ∈ Finset.range 4096, term m c (2048 * (q / 2) + r) (1024 * (q % 2) + d) T :=
  swept 4 3 1024 rfl (fun q => term m c (2048 * (q / 2) + r) (1024 * (q % 2) + d)) (fun t h => (outsAt0 m c t h).2 (ix2 r d)) (fun t h => (outsAt0 m c t h).1 (ix2 r d))
    (fun t h h0 h1 => by rw [left_A m c ⟨t, h⟩ h0 h1, step_k0_pay2 m c ⟨t, h⟩, zero_at, zero_add])
    (fun t h h0 h1 => by rw [left_B m c ⟨t, h⟩ h0 h1, step_k0_pay2 m c ⟨t, h⟩])
    (fun t h h0 h1 => by rw [left_C m c ⟨t, h⟩ h0 h1, out_at, step_k0_pay2 m c ⟨t, h⟩]) (by decide) q h

theorem w2 : ∀ t : Fin cfg0.N, Goes (win0_2.index t) (t.val / 8) (t.val / 4 % 2) := by decide +kernel

/-- The array after the run, entry by entry. -/
def result : S2048x2048.Idx → EReal := fun i => ∑ T ∈ Finset.range 4096, term m c (i 0).val (i 1).val T

theorem final_at (r : Fin 2048) (d : Fin 2048) :
    result m c (ix2 r d) = ∑ T ∈ Finset.range 4096, term m c r d T := rfl

theorem point (t : Fin cfg0.N) (hm : t.val % 4 = 3) (r : Fin 2048) (d : Fin 1024) :
    ((outsAt0 m c t.val t.isLt).1 (ix2 r d) : EReal) = ∑ T ∈ Finset.range 4096, term m c (2048 * (t.val / 8) + r) (1024 * (t.val / 4 % 2) + d) T := by
  have hN := lt_N t
  have hq : 4 * (t.val / 4) + 3 < cfg0.N := by
    have := t.isLt
    omega
  rw [same (outsAt0 m c) (show t.val = 4 * (t.val / 4) + 3 by omega) t.isLt hq]
  refine (written m c (t.val / 4) hq r d).trans ?_
  rw [show 2048 * ((t.val / 4) / 2) = 2048 * (t.val / 8) by omega, show 1024 * ((t.val / 4) % 2) = 1024 * (t.val / 4 % 2) by omega]

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  have hm := (flush0_2 t).mp hf
  funext y
  exact entry2 (f := (outsAt0 m c t.val t.isLt).1) (F := result m c) ((cfg0.win 2).xinj (grid0.coords t) y) _ (2048 * (t.val / 8)) (1024 * (t.val / 4 % 2))
    (slot (w2 t).1 rfl) (slot (w2 t).2 rfl)
    fun r d p q hp hq => (point m c t hm r d).trans (by rw [final_at, hp, hq])

/-- Every entry is in a block that a grid point writes back. -/
theorem everywhere (i : S2048x2048.Idx) : ∃ t : Fin cfg0.N, (cfg0.win 2).flush t = true ∧ i ∈ ((cfg0.win 2).blk t).view.set := by
  have i0 : (i 0).val < 2048 := (i 0).isLt
  have i1 : (i 1).val < 2048 := (i 1).isLt
  have hN : cfg0.N = 8 := N_0
  obtain ⟨t, ht⟩ : ∃ t : Fin cfg0.N, t.val = 4 * (2 * ((i 0).val / 2048) + (i 1).val / 1024) + 3 := ⟨⟨_, by omega⟩, rfl⟩
  obtain ⟨h0, h1⟩ := w2 t
  exact ⟨t, (flush0_2 _).mpr (by show t.val % 4 = 3; omega), in2 (View.set_slice_whole main_v2 (win0_2.rect t)) 2048 1024 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S2048x2048, .bf16⟩ : BufTy).Contents (Elt Ideal))
    = val_main_v4 (F := Ideal) (arg0 m c) (arg1 m c) := by
  funext i
  refine Eq.trans ?_ (val_main_v4_apply (F := Ideal) _ _ i).symm
  refine Eq.trans ?_ (val_main_v3_apply (F := Ideal) _ _ i).symm
  refine Eq.trans ?_ (val_main_v2_apply _ _ _).symm
  refine (congrArg (result m c) (eq_ix2 i)).trans ?_
  refine (final_at m c (i 0) (i 1)).trans ?_
  rw [← Fin.sum_univ_eq_sum_range]
  refine Finset.sum_congr rfl fun k _ => ?_
  unfold term
  refine (mul_comm _ _).trans ?_
  exact (congrArg₂ (· * ·) (at2_of (arg1 m c) (lidx_main_v2 (idx_main_v3 i) k) _ _ rfl rfl)
    (at2_of (arg0 m c) (ridx_main_v2 (idx_main_v3 i) k) _ _ rfl rfl)).symm

end Cert.MatOutWeight
-- ==== Proof.MatPleGate.lean ====
/- The gradient of the embedding gate's argument. -/
module

public import proofs.«01_k».proof.Proof.Blocks
public import proofs.«01_k».proof.Proof.Gen.PleGateIdeal.Frame
public import proofs.«01_k».proof.Proof.Gen.PleGateReferenceIdeal.Read

@[expose] public section

set_option maxRecDepth 16384

noncomputable section

namespace Cert.MatPleGate

open Idealize.ShloMosaic PleGateIdeal PleGateIdeal.Gen PleGateReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S2048x2048.Idx → EReal := m ((c.tc : Thread nD τ).loc main_arg1)

/-- One term of the entry at row `r` and column `d`. -/
def term (r d k : ℕ) : EReal := at2 (arg0 m c) r k * at2 (arg1 m c) d k

/-- What a grid point stores, entry by entry. -/
theorem pay_at (x : FVec Ideal S2048x2048 .bf16) (y : FVec Ideal S1024x2048 .bf16) (r : Fin 2048) (d : Fin 1024) :
    (k0_pay1 (F := Ideal) x y (ix2 r d) : EReal) = ∑ k : Fin 2048, x (ix2 r k) * y (ix2 d k) := by
  pointwise [k0_pay1]

/-! The blocks at a grid point. -/

theorem lt_N (t : Fin cfg0.N) : t.val < 4 := lt_of_lt_of_eq t.isLt N_0

theorem w0 : ∀ t : Fin cfg0.N, Goes (win0_0.index t) (t.val / 2) 0 := by decide +kernel
theorem w1 : ∀ t : Fin cfg0.N, Goes (win0_1.index t) (t.val % 2) 0 := by decide +kernel
theorem w2 : ∀ t : Fin cfg0.N, Goes (win0_2.index t) (t.val / 2) (t.val % 2) := by decide +kernel

theorem host_0 : V m c main_v0 = arg0 m c := by
  unfold V
  after_reads_simp
  rfl

theorem op_0 (t : Fin cfg0.N) (x : Fin 2048) (y : Fin 2048) :
    (iblk m c 0 t (ix2 x y) : EReal) = at2 (arg0 m c) (2048 * (t.val / 2) + x) (2048 * 0 + y) :=
  read2 (host_0 m c) (slot (w0 t).1 rfl) (slot (w0 t).2 rfl)

theorem host_1 : V m c main_v1 = arg1 m c := by
  unfold V
  after_reads_simp
  rfl

theorem op_1 (t : Fin cfg0.N) (x : Fin 1024) (y : Fin 2048) :
    (iblk m c 1 t (ix2 x y) : EReal) = at2 (arg1 m c) (1024 * (t.val % 2) + x) (2048 * 0 + y) :=
  read2 (host_1 m c) (slot (w1 t).1 rfl) (slot (w1 t).2 rfl)

/-- What a grid point leaves. -/
theorem point (t : Fin cfg0.N) (r : Fin 2048) (d : Fin 1024) :
    (out0_2 (F := Ideal) (iblk m c 0 t) (iblk m c 1 t) (ix2 r d) : EReal) = ∑ T ∈ Finset.range 2048, term m c (2048 * (t.val / 2) + r) (1024 * (t.val % 2) + d) T := by
  unfold out0_2
  rw [View.canon_cons_unit_lit' _ _ _ zeros2, View.ld_unit_lit' _ _ zeros2, View.ld_unit_lit' _ _ zeros2, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S4096x2048.Idx → EReal := fun i => ∑ T ∈ Finset.range 2048, term m c (i 0).val (i 1).val T

theorem final_at (r : Fin 4096) (d : Fin 2048) :
    result m c (ix2 r d) = ∑ T ∈ Finset.range 2048, term m c r d T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  exact entry2 (f := (out0_2 (F := Ideal) (iblk m c 0 t) (iblk m c 1 t))) (F := result m c) ((cfg0.win 2).xinj (grid0.coords t) y) _ (2048 * (t.val / 2)) (1024 * (t.val % 2))
    (slot (w2 t).1 rfl) (slot (w2 t).2 rfl)
    fun r d p q hp hq => (point m c t r d).trans (by rw [final_at, hp, hq])

/-- Every entry is in a block that a grid point writes back. -/
theorem everywhere (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hN : cfg0.N = 4 := N_0
  obtain ⟨t, ht⟩ : ∃ t : Fin cfg0.N, t.val = 2 * ((i 0).val / 2048) + (i 1).val / 1024 := ⟨⟨_, by omega⟩, rfl⟩
  obtain ⟨h0, h1⟩ := w2 t
  exact ⟨t, flush0_2 _, in2 (View.set_slice_whole main_v2 (win0_2.rect t)) 2048 1024 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x2048, .f32⟩ : BufTy).Contents (Elt Ideal))
    = val_main_v2 (F := Ideal) (arg0 m c) (arg1 m c) := by
  funext i
  rw [val_main_v2_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v2 _ k) _ _ rfl rfl)
    (at2_of (arg1 m c) (ridx_main_v2 _ k) _ _ rfl rfl)).symm

end Cert.MatPleGate
-- ==== Proof.MatPleGateWeight.lean ====
/- The gradient of the embedding gate's weight. -/
module

public import proofs.«01_k».proof.Proof.Blocks
public import proofs.«01_k».proof.Proof.Gen.PleGateWeightIdeal.Frame
public import proofs.«01_k».proof.Proof.Gen.PleGateWeightReferenceIdeal.Read

@[expose] public section

set_option maxRecDepth 16384

noncomputable section

namespace Cert.MatPleGateWeight

open Idealize.ShloMosaic PleGateWeightIdeal PleGateWeightIdeal.Gen PleGateWeightReferenceIdeal.Read Blk Idealize.ShloMosaic.TcCoe Idealize.SL.Sem

variable (m : (ℓ : Loc nD τ sig) → Buf (Elt Ideal) ℓ) (c : Dev nD)

/-! The arguments as matrices of extended reals. -/

abbrev arg0 : S4096x2048.Idx → EReal := m ((c.tc : Thread nD τ).loc main_arg0)
abbrev arg1 : S4096x2048.Idx → EReal := m ((c.tc : Thread nD τ).loc main_arg1)

/-- One term of the entry at row `r` and column `d`. -/
def term (r d k : ℕ) : EReal := at2 (arg0 m c) k r * at2 (arg1 m c) k d

/-! What a step stores, entry by entry. -/

theorem k0_pay2_at (a : FVec Ideal S2048x1024 .f32) (x : FVec Ideal S1024x2048 .bf16) (y : FVec Ideal S1024x1024 .bf16) (r : Fin 2048) (d : Fin 1024) :
    (k0_pay2 (F := Ideal) a x y (ix2 r d) : EReal) = a (ix2 r d) + ∑ k : Fin 1024, x (ix2 k r) * y (ix2 k d) := by
  pointwise [k0_pay2]

theorem zero_at (r : Fin 2048) (d : Fin 1024) : (k0_pay1 (F := Ideal) (ix2 r d) : EReal) = 0 := by
  pointwise [k0_pay1]

theorem out_at (a : FVec Ideal S2048x1024 .f32) (r : Fin 2048) (d : Fin 1024) :
    (k0_pay3 (F := Ideal) a (ix2 r d) : EReal) = a (ix2 r d) := by
  pointwise [k0_pay3]

/-! What a grid point leaves. -/

theorem left_A (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  dsimp only
  rw [stored _ _ _ zeros2, kept _ _ zeros2, kept _ _ zeros2]
  delta kernelRun0_A.sl.v3 kernelRun0_A.sl.HS0_1
  rw [View.readCov_cons_toLoadRect]

theorem left_B (t : Fin cfg0.N) (h0 : ¬t.val % 4 = 0) (h1 : ¬t.val % 4 = 3) :
    (outsAt0 m c t.val t.isLt).2 = k0_pay2 (F := Ideal) (outsAt0 m c (t.val - 1) (prev t)).2 (iblk m c 0 t) (iblk m c 1 t) := by
  rw [outsAt0_B m c t h0 h1]
  dsimp only
  unfold sout0_B_0 kernelRun0_B
  dsimp only
  rw [stored _ _ _ zeros2, kept _ _ zeros2, kept _ _ zeros2]
  exact congrArg (fun a => k0_pay2 (F := Ideal) a _ _) (kept (Memref.isWhole_whole _) _ zeros2 _)

theorem left_C (t : Fin cfg0.N) (h0 : ¬t.val % 4 = 0) (h1 : t.val % 4 = 3) :
    (outsAt0 m c t.val t.isLt).1 = k0_pay3 (F := Ideal) (k0_pay2 (F := Ideal) (outsAt0 m c (t.val - 1) (prev t)).2 (iblk m c 0 t) (iblk m c 1 t)) := by
  rw [outsAt0_C m c t h0 h1]
  dsimp only
  unfold out0_C_2 kernelRun0_C
  dsimp only
  rw [stored _ _ _ zeros2]
  delta kernelRun0_C.sl.v16 kernelRun0_C.sl.HS0_1
  rw [View.readCov_cons_toLoadRect, kept _ _ zeros2, kept _ _ zeros2, kept _ _ zeros2]

/-! The blocks of the operands at a grid point. -/

theorem lt_N (t : Fin cfg0.N) : t.val < 8 := lt_of_lt_of_eq t.isLt N_0

theorem w0 : ∀ t : Fin cfg0.N, Goes (win0_0.index t) (t.val % 4) (t.val / 8) := by decide +kernel
theorem w1 : ∀ t : Fin cfg0.N, Goes (win0_1.index t) (t.val % 4) (t.val / 4 % 2) := by decide +kernel

theorem host_0 : V m c main_v0 = arg0 m c := by
  unfold V
  after_reads_simp
  rfl

theorem op_0 (t : Fin cfg0.N) (x : Fin 1024) (y : Fin 2048) :
    (iblk m c 0 t (ix2 x y) : EReal) = at2 (arg0 m c) (1024 * (t.val % 4) + x) (2048 * (t.val / 8) + y) :=
  read2 (host_0 m c) (slot (w0 t).1 rfl) (slot (w0 t).2 rfl)

theorem host_1 : V m c main_v1 = arg1 m c := by
  unfold V
  after_reads_simp
  rfl

theorem op_1 (t : Fin cfg0.N) (x : Fin 1024) (y : Fin 1024) :
    (iblk m c 1 t (ix2 x y) : EReal) = at2 (arg1 m c) (1024 * (t.val % 4) + x) (1024 * (t.val / 4 % 2) + y) :=
  read2 (host_1 m c) (slot (w1 t).1 rfl) (slot (w1 t).2 rfl)

/-! A step adds its block's terms. -/

theorem step_k0_pay2 (t : Fin cfg0.N) (a : FVec Ideal S2048x1024 .f32) (r : Fin 2048) (d : Fin 1024) :
    (k0_pay2 (F := Ideal) a (iblk m c 0 t) (iblk m c 1 t) (ix2 r d) : EReal)
    = a (ix2 r d) + ∑ k ∈ Finset.range 1024, term m c (2048 * ((t.val / 4) / 2) + r) (1024 * ((t.val / 4) % 2) + d) (1024 * (t.val % 4) + k) := by
  have hN := lt_N t
  rw [k0_pay2_at, ← Fin.sum_univ_eq_sum_range]
  refine congrArg (a (ix2 r d) + ·) (Finset.sum_congr rfl fun k _ => ?_)
  rw [op_0 m c t, op_1 m c t]
  unfold term
  rw [show t.val / 4 / 2 = t.val / 8 by omega]

/-- What the last step of run `q` writes. -/
theorem written (q : ℕ) (h : 4 * q + 3 < cfg0.N) (r : Fin 2048) (d : Fin 1024) :
    ((outsAt0 m c (4 * q + 3) h).1 (ix2 r d) : EReal) = ∑ T ∈ Finset.range 4096, term m c (2048 * (q / 2) + r) (1024 * (q % 2) + d) T :=
  swept 4 3 1024 rfl (fun q => term m c (2048 * (q / 2) + r) (1024 * (q % 2) + d)) (fun t h => (outsAt0 m c t h).2 (ix2 r d)) (fun t h => (outsAt0 m c t h).1 (ix2 r d))
    (fun t h h0 h1 => by rw [left_A m c ⟨t, h⟩ h0 h1, step_k0_pay2 m c ⟨t, h⟩, zero_at, zero_add])
    (fun t h h0 h1 => by rw [left_B m c ⟨t, h⟩ h0 h1, step_k0_pay2 m c ⟨t, h⟩])
    (fun t h h0 h1 => by rw [left_C m c ⟨t, h⟩ h0 h1, out_at, step_k0_pay2 m c ⟨t, h⟩]) (by decide) q h

theorem w2 : ∀ t : Fin cfg0.N, Goes (win0_2.index t) (t.val / 8) (t.val / 4 % 2) := by decide +kernel

/-- The array after the run, entry by entry. -/
def result : S2048x2048.Idx → EReal := fun i => ∑ T ∈ Finset.range 4096, term m c (i 0).val (i 1).val T

theorem final_at (r : Fin 2048) (d : Fin 2048) :
    result m c (ix2 r d) = ∑ T ∈ Finset.range 4096, term m c r d T := rfl

theorem point (t : Fin cfg0.N) (hm : t.val % 4 = 3) (r : Fin 2048) (d : Fin 1024) :
    ((outsAt0 m c t.val t.isLt).1 (ix2 r d) : EReal) = ∑ T ∈ Finset.range 4096, term m c (2048 * (t.val / 8) + r) (1024 * (t.val / 4 % 2) + d) T := by
  have hN := lt_N t
  have hq : 4 * (t.val / 4) + 3 < cfg0.N := by
    have := t.isLt
    omega
  rw [same (outsAt0 m c) (show t.val = 4 * (t.val / 4) + 3 by omega) t.isLt hq]
  refine (written m c (t.val / 4) hq r d).trans ?_
  rw [show 2048 * ((t.val / 4) / 2) = 2048 * (t.val / 8) by omega, show 1024 * ((t.val / 4) % 2) = 1024 * (t.val / 4 % 2) by omega]

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  have hm := (flush0_2 t).mp hf
  funext y
  exact entry2 (f := (outsAt0 m c t.val t.isLt).1) (F := result m c) ((cfg0.win 2).xinj (grid0.coords t) y) _ (2048 * (t.val / 8)) (1024 * (t.val / 4 % 2))
    (slot (w2 t).1 rfl) (slot (w2 t).2 rfl)
    fun r d p q hp hq => (point m c t hm r d).trans (by rw [final_at, hp, hq])

/-- Every entry is in a block that a grid point writes back. -/
theorem everywhere (i : S2048x2048.Idx) : ∃ t : Fin cfg0.N, (cfg0.win 2).flush t = true ∧ i ∈ ((cfg0.win 2).blk t).view.set := by
  have i0 : (i 0).val < 2048 := (i 0).isLt
  have i1 : (i 1).val < 2048 := (i 1).isLt
  have hN : cfg0.N = 8 := N_0
  obtain ⟨t, ht⟩ : ∃ t : Fin cfg0.N, t.val = 4 * (2 * ((i 0).val / 2048) + (i 1).val / 1024) + 3 := ⟨⟨_, by omega⟩, rfl⟩
  obtain ⟨h0, h1⟩ := w2 t
  exact ⟨t, (flush0_2 _).mpr (by show t.val % 4 = 3; omega), in2 (View.set_slice_whole main_v2 (win0_2.rect t)) 2048 1024 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S2048x2048, .bf16⟩ : BufTy).Contents (Elt Ideal))
    = val_main_v4 (F := Ideal) (arg0 m c) (arg1 m c) := by
  funext i
  refine Eq.trans ?_ (val_main_v4_apply (F := Ideal) _ _ i).symm
  refine Eq.trans ?_ (val_main_v3_apply (F := Ideal) _ _ i).symm
  refine Eq.trans ?_ (val_main_v2_apply _ _ _).symm
  refine (congrArg (result m c) (eq_ix2 i)).trans ?_
  refine (final_at m c (i 0) (i 1)).trans ?_
  rw [← Fin.sum_univ_eq_sum_range]
  refine Finset.sum_congr rfl fun k _ => ?_
  unfold term
  refine (mul_comm _ _).trans ?_
  exact (congrArg₂ (· * ·) (at2_of (arg1 m c) (lidx_main_v2 (idx_main_v3 i) k) _ _ rfl rfl)
    (at2_of (arg0 m c) (ridx_main_v2 (idx_main_v3 i) k) _ _ rfl rfl)).symm

end Cert.MatPleGateWeight
-- ==== Proof.MatPleWeight.lean ====
/- The gradient of the embedding's weight. -/
module

public import proofs.«01_k».proof.Proof.Blocks
public import proofs.«01_k».proof.Proof.Gen.PleWeightIdeal.Frame
public import proofs.«01_k».proof.Proof.Gen.PleWeightReferenceIdeal.Read

@[expose] public section

set_option maxRecDepth 16384

noncomputable section

namespace Cert.MatPleWeight

open Idealize.ShloMosaic PleWeightIdeal PleWeightIdeal.Gen PleWeightReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x256.Idx → EReal := m ((c.tc : Thread nD τ).loc main_arg0)
abbrev arg1 : S4096x2048.Idx → EReal := m ((c.tc : Thread nD τ).loc main_arg1)

/-- One term of the entry at row `r` and column `d`. -/
def term (r d k : ℕ) : EReal := at2 (arg0 m c) k r * at2 (arg1 m c) k d

/-- What a grid point stores, entry by entry. -/
theorem pay_at (x : FVec Ideal S4096x256 .f32) (y : FVec Ideal S4096x256 .bf16) (r : Fin 256) (d : Fin 256) :
    (k0_pay1 (F := Ideal) x y (ix3 0 r d) : EReal) = ∑ k : Fin 4096, x (ix2 k r) * y (ix2 k d) := by
  pointwise [k0_pay1]

/-! The blocks at a grid point. -/

theorem lt_N (t : Fin cfg0.N) : t.val < 8 := lt_of_lt_of_eq t.isLt N_0

theorem w0 : ∀ t : Fin cfg0.N, Goes (win0_0.index t) 0 0 := by decide +kernel
theorem w1 : ∀ t : Fin cfg0.N, Goes (win0_1.index t) 0 t.val := by decide +kernel
theorem w2 : ∀ t : Fin cfg0.N, Goes3 (win0_2.index t) t.val 0 0 := by decide +kernel

theorem op_0 (t : Fin cfg0.N) (x : Fin 4096) (y : Fin 256) :
    (iblk m c 0 t (ix2 x y) : EReal) = at2 (arg0 m c) (4096 * 0 + x) (256 * 0 + y) :=
  read2 (V_main_arg0 m c) (slot (w0 t).1 rfl) (slot (w0 t).2 rfl)

theorem host_1 : V m c main_v0 = arg1 m c := by
  unfold V
  after_reads_simp
  rfl

theorem op_1 (t : Fin cfg0.N) (x : Fin 4096) (y : Fin 256) :
    (iblk m c 1 t (ix2 x y) : EReal) = at2 (arg1 m c) (4096 * 0 + x) (256 * t.val + y) :=
  read2 (host_1 m c) (slot (w1 t).1 rfl) (slot (w1 t).2 rfl)

/-- What a grid point leaves. -/
theorem point (t : Fin cfg0.N) (r : Fin 256) (d : Fin 256) :
    (out0_2 (F := Ideal) (iblk m c 0 t) (iblk m c 1 t) (ix3 0 r d) : EReal) = ∑ T ∈ Finset.range 4096, term m c (256 * 0 + r) (256 * t.val + d) T := by
  unfold out0_2
  rw [View.canon_cons_unit_lit' _ _ _ zeros3, View.ld_unit_lit' _ _ zeros2, View.ld_unit_lit' _ _ zeros2, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S8x256x256.Idx → EReal := fun i => ∑ T ∈ Finset.range 4096, term m c (i 1).val (256 * (i 0).val + (i 2).val) T

theorem final_at (s : Fin 8) (r : Fin 256) (d : Fin 256) :
    result m c (ix3 s r d) = ∑ T ∈ Finset.range 4096, term m c r.val (256 * s.val + d.val) T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  obtain ⟨h0, h1, h2⟩ := w2 t
  funext y
  have y0 : (y 0).val < 1 := (y 0).isLt
  exact entry3 (f := (out0_2 (F := Ideal) (iblk m c 0 t) (iblk m c 1 t))) (F := result m c) ((cfg0.win 2).xinj (grid0.coords t) y) _ (t.val) (256 * 0) (256 * 0)
    (by show win0_2.index t (0 : Fin 3) * 1 + 1 * (y 0).val = t.val; omega) (slot h1 rfl) (slot h2 rfl)
    fun r d s p q hs hp hq => (point m c t r d).trans (by rw [final_at, show 256 * 0 + r.val = p.val by omega, show 256 * t.val + d.val = 256 * s.val + q.val by omega])

/-- Every entry is in a block that a grid point writes back. -/
theorem everywhere (i : S8x256x256.Idx) : ∃ t : Fin cfg0.N, (cfg0.win 2).flush t = true ∧ i ∈ ((cfg0.win 2).blk t).view.set := by
  have i0 : (i 0).val < 8 := (i 0).isLt
  have i1 : (i 1).val < 256 := (i 1).isLt
  have i2 : (i 2).val < 256 := (i 2).isLt
  have hN : cfg0.N = 8 := N_0
  obtain ⟨t, ht⟩ : ∃ t : Fin cfg0.N, t.val = (i 0).val := ⟨⟨_, by omega⟩, rfl⟩
  obtain ⟨h0, h1, h2⟩ := w2 t
  exact ⟨t, flush0_2 _, in3 (View.set_slice_whole main_v1 (win0_2.rect t)) 1 256 256 h0 rfl rfl h1 rfl rfl h2 rfl rfl (by omega) (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v1) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).1 0).trans (((dats m 0 c).arrAt_in 0 rfl _).trans ((A_eq m c 0).trans (V_main_arg0 m c)))
  · exact ((h c).2 main_arg1 (Pipeline.mem_restRefs_of main_arg1 (by decide) (by decide))).trans (V_main_arg1 m c)

theorem equal : (result m c : (⟨S8x256x256, .bf16⟩ : BufTy).Contents (Elt Ideal))
    = val_main_v6 (F := Ideal) (arg0 m c) (arg1 m c) := by
  funext i
  have h0 := (i 0).isLt
  have h1 := (i 1).isLt
  have h2 := (i 2).isLt
  change (i 0).val < 8 at h0
  change (i 1).val < 256 at h1
  change (i 2).val < 256 at h2
  refine Eq.trans ?_ (val_main_v6_apply (F := Ideal) _ _ i).symm
  refine Eq.trans ?_ (val_main_v5_apply (F := Ideal) _ _ i).symm
  refine Eq.trans ?_ (val_main_v4_apply (F := Ideal) _ _ _).symm
  refine Eq.trans ?_ (val_main_v3_apply (F := Ideal) _ _ _).symm
  refine Eq.trans ?_ (val_main_v2_apply _ _ _).symm
  refine (congrArg (result m c) (eq_ix3 i)).trans ?_
  refine (final_at m c (i 0) (i 1) (i 2)).trans ?_
  rw [← Fin.sum_univ_eq_sum_range]
  refine Finset.sum_congr rfl fun k _ => ?_
  unfold term
  refine (mul_comm _ _).trans ?_
  refine (congrArg₂ (· * ·) (at2_of (arg1 m c) (lidx_main_v2 _ k) _ _ rfl ?_)
    (at2_of (arg0 m c) (ridx_main_v2 _ k) _ _ rfl ?_)).symm
  · show (((i 1).val * 8 + (i 0).val) * 256 + (i 2).val) % 2048 = 256 * (i 0).val + (i 2).val
    omega
  · show (((i 1).val * 8 + (i 0).val) * 256 + (i 2).val) / 2048 = (i 1).val
    omega

end Cert.MatPleWeight
-- ==== Proof.MatPoolBranch.lean ====
/- The gradient of the pool branch's argument. -/
module

public import proofs.«01_k».proof.Proof.Blocks
public import proofs.«01_k».proof.Proof.Gen.PoolBranchIdeal.Frame
public import proofs.«01_k».proof.Proof.Gen.PoolBranchReferenceIdeal.Read

@[expose] public section

set_option maxRecDepth 16384

noncomputable section

namespace Cert.MatPoolBranch

open Idealize.ShloMosaic PoolBranchIdeal PoolBranchIdeal.Gen PoolBranchReferenceIdeal.Read Blk Idealize.ShloMosaic.TcCoe Idealize.SL.Sem

variable (m : (ℓ : Loc nD τ sig) → Buf (Elt Ideal) ℓ) (c : Dev nD)

/-! The arguments as matrices of extended reals. -/

abbrev arg0 : S4096x2048.Idx → EReal := m ((c.tc : Thread nD τ).loc main_arg0)
abbrev arg1 : S1024x2048.Idx → EReal := m ((c.tc : Thread nD τ).loc main_arg1)

/-- One term of the entry at row `r` and column `d`. -/
def term (r d k : ℕ) : EReal := at2 (arg0 m c) r k * at2 (arg1 m c) d k

/-! What a step stores, entry by entry. -/

theorem k0_pay2_at (a : FVec Ideal S2048x1024 .f32) (x : FVec Ideal S2048x256 .bf16) (y : FVec Ideal S1x1024x256 .bf16) (r : Fin 2048) (d : Fin 1024) :
    (k0_pay2 (F := Ideal) a x y (ix2 r d) : EReal) = a (ix2 r d) + ∑ k : Fin 256, x (ix2 r k) * y (ix3 0 d k) := by
  pointwise [k0_pay2]

theorem zero_at (r : Fin 2048) (d : Fin 1024) : (k0_pay1 (F := Ideal) (ix2 r d) : EReal) = 0 := by
  pointwise [k0_pay1]

/-! What a grid point leaves. -/

theorem left_A (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  dsimp only
  rw [stored _ _ _ zeros2, kept _ _ zeros2, kept _ _ zeros3]
  delta kernelRun0_A.sl.v3 kernelRun0_A.sl.HS0_1
  rw [View.readCov_cons_toLoadRect]

theorem left_B (t : Fin cfg0.N) (h0 : ¬t.val % 8 = 0) (h1 : ¬t.val % 8 = 7) :
    (outsAt0 m c t.val t.isLt).2 = k0_pay2 (F := Ideal) (outsAt0 m c (t.val - 1) (prev t)).2 (iblk m c 0 t) (iblk m c 1 t) := by
  rw [outsAt0_B m c t h0 h1]
  dsimp only
  unfold sout0_B_0 kernelRun0_B
  dsimp only
  rw [stored _ _ _ zeros2, kept _ _ zeros2, kept _ _ zeros3]
  exact congrArg (fun a => k0_pay2 (F := Ideal) a _ _) (kept (Memref.isWhole_whole _) _ zeros2 _)

theorem left_C (t : Fin cfg0.N) (h0 : ¬t.val % 8 = 0) (h1 : t.val % 8 = 7) :
    (outsAt0 m c t.val t.isLt).1 = k0_pay2 (F := Ideal) (outsAt0 m c (t.val - 1) (prev t)).2 (iblk m c 0 t) (iblk m c 1 t) := by
  rw [outsAt0_C m c t h0 h1]
  dsimp only
  unfold out0_C_2 kernelRun0_C
  dsimp only
  rw [stored _ _ _ zeros2]
  delta kernelRun0_C.sl.v16 kernelRun0_C.sl.HS0_1
  rw [View.readCov_cons_toLoadRect, kept _ _ zeros2, kept _ _ zeros2, kept _ _ zeros3]

/-! The blocks of the operands at a grid point. -/

theorem lt_N (t : Fin cfg0.N) : t.val < 16 := lt_of_lt_of_eq t.isLt N_0

theorem w0 : ∀ t : Fin cfg0.N, Goes (win0_0.index t) (t.val / 8) (t.val % 8) := by decide +kernel
theorem w1 : ∀ t : Fin cfg0.N, Goes3 (win0_1.index t) (t.val % 8) (t.val / 16) 0 := by decide +kernel

theorem host_0 : V m c main_v0 = arg0 m c := by
  unfold V
  after_reads_simp
  rfl

theorem op_0 (t : Fin cfg0.N) (x : Fin 2048) (y : Fin 256) :
    (iblk m c 0 t (ix2 x y) : EReal) = at2 (arg0 m c) (2048 * (t.val / 8) + x) (256 * (t.val % 8) + y) :=
  read2 (host_0 m c) (slot (w0 t).1 rfl) (slot (w0 t).2 rfl)

theorem host_1 (s : Fin 8) (x : Fin 1024) (y : Fin 256) :
    (V m c main_v3 (ix3 s x y) : EReal) = at2 (arg1 m c) x (256 * s + y) := by
  unfold V
  after_reads_at
  refine (at2_of (arg1 m c) _ _ _ ?_ ?_)
  · rfl
  · show s.val * 256 + y.val = _
    omega

theorem op_1 (t : Fin cfg0.N) (x : Fin 1024) (y : Fin 256) :
    (iblk m c 1 t (ix3 0 x y) : EReal) = at2 (arg1 m c) (1024 * (t.val / 16) + x) (256 * (t.val % 8) + y) := by
  obtain ⟨h0, h1, h2⟩ := w1 t
  have hN := lt_N t
  show V m c main_v3 (((cfg0.win 1).blk t).view.emb (ix3 0 x y)) = _
  have e : (((cfg0.win 1).blk t).view.emb (ix3 0 x y) : S8x1024x256.Idx)
      = ix3 ⟨t.val % 8, by omega⟩ ⟨1024 * (t.val / 16) + x, by omega⟩ ⟨256 * 0 + y, by omega⟩ := ix3_of (by show win0_1.index t (0 : Fin 3) * 1 + 1 * 0 = t.val % 8; omega) (slot h1 rfl) (slot h2 rfl)
  rw [e]
  refine (host_1 m c _ _ _).trans ?_
  congr 1
  show 256 * (t.val % 8) + (256 * 0 + y.val) = _
  omega

/-! A step adds its block's terms. -/

theorem step_k0_pay2 (t : Fin cfg0.N) (a : FVec Ideal S2048x1024 .f32) (r : Fin 2048) (d : Fin 1024) :
    (k0_pay2 (F := Ideal) a (iblk m c 0 t) (iblk m c 1 t) (ix2 r d) : EReal)
    = a (ix2 r d) + ∑ k ∈ Finset.range 256, term m c (2048 * (t.val / 8) + r) (1024 * ((t.val / 8) / 2) + d) (256 * (t.val % 8) + k) := by
  have hN := lt_N t
  rw [k0_pay2_at, ← Fin.sum_univ_eq_sum_range]
  refine congrArg (a (ix2 r d) + ·) (Finset.sum_congr rfl fun k _ => ?_)
  rw [op_0 m c t, op_1 m c t]
  unfold term
  rw [show t.val / 8 / 2 = t.val / 16 by omega]

/-- What the last step of run `q` writes. -/
theorem written (q : ℕ) (h : 8 * q + 7 < cfg0.N) (r : Fin 2048) (d : Fin 1024) :
    ((outsAt0 m c (8 * q + 7) h).1 (ix2 r d) : EReal) = ∑ T ∈ Finset.range 2048, term m c (2048 * q + r) (1024 * (q / 2) + d) T :=
  swept 8 7 256 rfl (fun q => term m c (2048 * q + r) (1024 * (q / 2) + d)) (fun t h => (outsAt0 m c t h).2 (ix2 r d)) (fun t h => (outsAt0 m c t h).1 (ix2 r d))
    (fun t h h0 h1 => by rw [left_A m c ⟨t, h⟩ h0 h1, step_k0_pay2 m c ⟨t, h⟩, zero_at, zero_add])
    (fun t h h0 h1 => by rw [left_B m c ⟨t, h⟩ h0 h1, step_k0_pay2 m c ⟨t, h⟩])
    (fun t h h0 h1 => by rw [left_C m c ⟨t, h⟩ h0 h1, step_k0_pay2 m c ⟨t, h⟩]) (by decide) q h

theorem w2 : ∀ t : Fin cfg0.N, Goes (win0_2.index t) (t.val / 8) (t.val / 16) := by decide +kernel

/-- The array after the run, entry by entry. -/
def result : S4096x1024.Idx → EReal := fun i => ∑ T ∈ Finset.range 2048, term m c (i 0).val (i 1).val T

theorem final_at (r : Fin 4096) (d : Fin 1024) :
    result m c (ix2 r d) = ∑ T ∈ Finset.range 2048, term m c r d T := rfl

theorem point (t : Fin cfg0.N) (hm : t.val % 8 = 7) (r : Fin 2048) (d : Fin 1024) :
    ((outsAt0 m c t.val t.isLt).1 (ix2 r d) : EReal) = ∑ T ∈ Finset.range 2048, term m c (2048 * (t.val / 8) + r) (1024 * (t.val / 16) + d) T := by
  have hN := lt_N t
  have hq : 8 * (t.val / 8) + 7 < cfg0.N := by
    have := t.isLt
    omega
  rw [same (outsAt0 m c) (show t.val = 8 * (t.val / 8) + 7 by omega) t.isLt hq]
  refine (written m c (t.val / 8) hq r d).trans ?_
  rw [show 2048 * (t.val / 8) = 2048 * (t.val / 8) by omega, show 1024 * ((t.val / 8) / 2) = 1024 * (t.val / 16) by omega]

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  have hm := (flush0_2 t).mp hf
  funext y
  exact entry2 (f := (outsAt0 m c t.val t.isLt).1) (F := result m c) ((cfg0.win 2).xinj (grid0.coords t) y) _ (2048 * (t.val / 8)) (1024 * (t.val / 16))
    (slot (w2 t).1 rfl) (slot (w2 t).2 rfl)
    fun r d p q hp hq => (point m c t hm r d).trans (by rw [final_at, hp, hq])

/-- Every entry is in a block that a grid point writes back. -/
theorem everywhere (i : S4096x1024.Idx) : ∃ t : Fin cfg0.N, (cfg0.win 2).flush t = true ∧ i ∈ ((cfg0.win 2).blk t).view.set := by
  have i0 : (i 0).val < 4096 := (i 0).isLt
  have i1 : (i 1).val < 1024 := (i 1).isLt
  have hN : cfg0.N = 16 := N_0
  obtain ⟨t, ht⟩ : ∃ t : Fin cfg0.N, t.val = 8 * ((i 0).val / 2048) + 7 := ⟨⟨_, by omega⟩, rfl⟩
  obtain ⟨h0, h1⟩ := w2 t
  exact ⟨t, (flush0_2 _).mpr (by show t.val % 8 = 7; omega), in2 (View.set_slice_whole main_v4 (win0_2.rect t)) 2048 1024 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x1024, .f32⟩ : BufTy).Contents (Elt Ideal))
    = val_main_v2 (F := Ideal) (arg0 m c) (arg1 m c) := by
  funext i
  rw [val_main_v2_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v2 _ k) _ _ rfl rfl)
    (at2_of (arg1 m c) (ridx_main_v2 _ k) _ _ rfl rfl)).symm

end Cert.MatPoolBranch
-- ==== Proof.MatPoolBranchWeight.lean ====
/- The gradient of the pool branch's weight. -/
module

public import proofs.«01_k».proof.Proof.Blocks
public import proofs.«01_k».proof.Proof.Gen.PoolBranchWeightIdeal.Frame
public import proofs.«01_k».proof.Proof.Gen.PoolBranchWeightReferenceIdeal.Read

@[expose] public section

set_option maxRecDepth 16384

noncomputable section

namespace Cert.MatPoolBranchWeight

open Idealize.ShloMosaic PoolBranchWeightIdeal PoolBranchWeightIdeal.Gen PoolBranchWeightReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x1024.Idx → EReal := m ((c.tc : Thread nD τ).loc main_arg0)
abbrev arg1 : S4096x2048.Idx → EReal := m ((c.tc : Thread nD τ).loc main_arg1)

/-- One term of the entry at row `r` and column `d`. -/
def term (r d k : ℕ) : EReal := at2 (arg0 m c) k r * at2 (arg1 m c) k d

/-- What a grid point stores, entry by entry. -/
theorem pay_at (x : FVec Ideal S4096x1024 .bf16) (y : FVec Ideal S4096x256 .bf16) (r : Fin 1024) (d : Fin 256) :
    (k0_pay1 (F := Ideal) x y (ix3 0 r d) : EReal) = ∑ k : Fin 4096, x (ix2 k r) * y (ix2 k d) := by
  pointwise [k0_pay1]

/-! The blocks at a grid point. -/

theorem lt_N (t : Fin cfg0.N) : t.val < 8 := lt_of_lt_of_eq t.isLt N_0

theorem w0 : ∀ t : Fin cfg0.N, Goes (win0_0.index t) 0 0 := by decide +kernel
theorem w1 : ∀ t : Fin cfg0.N, Goes (win0_1.index t) 0 t.val := by decide +kernel
theorem w2 : ∀ t : Fin cfg0.N, Goes3 (win0_2.index t) t.val 0 0 := by decide +kernel

theorem host_0 : V m c main_v0 = arg0 m c := by
  unfold V
  after_reads_simp
  rfl

theorem op_0 (t : Fin cfg0.N) (x : Fin 4096) (y : Fin 1024) :
    (iblk m c 0 t (ix2 x y) : EReal) = at2 (arg0 m c) (4096 * 0 + x) (1024 * 0 + y) :=
  read2 (host_0 m c) (slot (w0 t).1 rfl) (slot (w0 t).2 rfl)

theorem host_1 : V m c main_v1 = arg1 m c := by
  unfold V
  after_reads_simp
  rfl

theorem op_1 (t : Fin cfg0.N) (x : Fin 4096) (y : Fin 256) :
    (iblk m c 1 t (ix2 x y) : EReal) = at2 (arg1 m c) (4096 * 0 + x) (256 * t.val + y) :=
  read2 (host_1 m c) (slot (w1 t).1 rfl) (slot (w1 t).2 rfl)

/-- What a grid point leaves. -/
theorem point (t : Fin cfg0.N) (r : Fin 1024) (d : Fin 256) :
    (out0_2 (F := Ideal) (iblk m c 0 t) (iblk m c 1 t) (ix3 0 r d) : EReal) = ∑ T ∈ Finset.range 4096, term m c (1024 * 0 + r) (256 * t.val + d) T := by
  unfold out0_2
  rw [View.canon_cons_unit_lit' _ _ _ zeros3, View.ld_unit_lit' _ _ zeros2, View.ld_unit_lit' _ _ zeros2, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S8x1024x256.Idx → EReal := fun i => ∑ T ∈ Finset.range 4096, term m c (i 1).val (256 * (i 0).val + (i 2).val) T

theorem final_at (s : Fin 8) (r : Fin 1024) (d : Fin 256) :
    result m c (ix3 s r d) = ∑ T ∈ Finset.range 4096, term m c r.val (256 * s.val + d.val) T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  obtain ⟨h0, h1, h2⟩ := w2 t
  funext y
  have y0 : (y 0).val < 1 := (y 0).isLt
  exact entry3 (f := (out0_2 (F := Ideal) (iblk m c 0 t) (iblk m c 1 t))) (F := result m c) ((cfg0.win 2).xinj (grid0.coords t) y) _ (t.val) (1024 * 0) (256 * 0)
    (by show win0_2.index t (0 : Fin 3) * 1 + 1 * (y 0).val = t.val; omega) (slot h1 rfl) (slot h2 rfl)
    fun r d s p q hs hp hq => (point m c t r d).trans (by rw [final_at, show 1024 * 0 + r.val = p.val by omega, show 256 * t.val + d.val = 256 * s.val + q.val by omega])

/-- Every entry is in a block that a grid point writes back. -/
theorem everywhere (i : S8x1024x256.Idx) : ∃ t : Fin cfg0.N, (cfg0.win 2).flush t = true ∧ i ∈ ((cfg0.win 2).blk t).view.set := by
  have i0 : (i 0).val < 8 := (i 0).isLt
  have i1 : (i 1).val < 1024 := (i 1).isLt
  have i2 : (i 2).val < 256 := (i 2).isLt
  have hN : cfg0.N = 8 := N_0
  obtain ⟨t, ht⟩ : ∃ t : Fin cfg0.N, t.val = (i 0).val := ⟨⟨_, by omega⟩, rfl⟩
  obtain ⟨h0, h1, h2⟩ := w2 t
  exact ⟨t, flush0_2 _, in3 (View.set_slice_whole main_v2 (win0_2.rect t)) 1 1024 256 h0 rfl rfl h1 rfl rfl h2 rfl rfl (by omega) (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S8x1024x256, .bf16⟩ : BufTy).Contents (Elt Ideal))
    = val_main_v6 (F := Ideal) (arg0 m c) (arg1 m c) := by
  funext i
  have h0 := (i 0).isLt
  have h1 := (i 1).isLt
  have h2 := (i 2).isLt
  change (i 0).val < 8 at h0
  change (i 1).val < 1024 at h1
  change (i 2).val < 256 at h2
  refine Eq.trans ?_ (val_main_v6_apply (F := Ideal) _ _ i).symm
  refine Eq.trans ?_ (val_main_v5_apply (F := Ideal) _ _ i).symm
  refine Eq.trans ?_ (val_main_v4_apply (F := Ideal) _ _ _).symm
  refine Eq.trans ?_ (val_main_v3_apply (F := Ideal) _ _ _).symm
  refine Eq.trans ?_ (val_main_v2_apply _ _ _).symm
  refine (congrArg (result m c) (eq_ix3 i)).trans ?_
  refine (final_at m c (i 0) (i 1) (i 2)).trans ?_
  rw [← Fin.sum_univ_eq_sum_range]
  refine Finset.sum_congr rfl fun k _ => ?_
  unfold term
  refine (mul_comm _ _).trans ?_
  refine (congrArg₂ (· * ·) (at2_of (arg1 m c) (lidx_main_v2 _ k) _ _ rfl ?_)
    (at2_of (arg0 m c) (ridx_main_v2 _ k) _ _ rfl ?_)).symm
  · show (((i 1).val * 8 + (i 0).val) * 256 + (i 2).val) % 2048 = 256 * (i 0).val + (i 2).val
    omega
  · show (((i 1).val * 8 + (i 0).val) * 256 + (i 2).val) / 2048 = (i 1).val
    omega

end Cert.MatPoolBranchWeight
-- ==== Proof.MatAttnBranch.lean ====
/- The gradient of the attention branch's argument. -/
module

public import proofs.«01_k».proof.Proof.Blocks
public import proofs.«01_k».proof.Proof.Gen.AttnBranchIdeal.Frame
public import proofs.«01_k».proof.Proof.Gen.AttnBranchReferenceIdeal.Read

@[expose] public section

set_option maxRecDepth 16384

noncomputable section

namespace Cert.MatAttnBranch

open Idealize.ShloMosaic AttnBranchIdeal AttnBranchIdeal.Gen AttnBranchReferenceIdeal.Read Blk Idealize.ShloMosaic.TcCoe Idealize.SL.Sem

variable (m : (ℓ : Loc nD τ sig) → Buf (Elt Ideal) ℓ) (c : Dev nD)

/-! The arguments as matrices of extended reals. -/

abbrev arg0 : S4096x2048.Idx → EReal := m ((c.tc : Thread nD τ).loc main_arg0)
abbrev arg1 : S1024x2048.Idx → EReal := m ((c.tc : Thread nD τ).loc main_arg1)

/-- One term of the entry at row `r` and column `d`. -/
def term (r d k : ℕ) : EReal := at2 (arg0 m c) r k * at2 (arg1 m c) d k

/-! What a step stores, entry by entry. -/

theorem k0_pay2_at (a : FVec Ideal S2048x1024 .f32) (x : FVec Ideal S2048x256 .bf16) (y : FVec Ideal S1x1024x256 .bf16) (r : Fin 2048) (d : Fin 1024) :
    (k0_pay2 (F := Ideal) a x y (ix2 r d) : EReal) = a (ix2 r d) + ∑ k : Fin 256, x (ix2 r k) * y (ix3 0 d k) := by
  pointwise [k0_pay2]

theorem zero_at (r : Fin 2048) (d : Fin 1024) : (k0_pay1 (F := Ideal) (ix2 r d) : EReal) = 0 := by
  pointwise [k0_pay1]

/-! What a grid point leaves. -/

theorem left_A (t : Fin cfg0.N) (h0 : t.val % 8 = 0) (h1 : ¬t.val % 8 = 7) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  dsimp only
  rw [stored _ _ _ zeros2, kept _ _ zeros2, kept _ _ zeros3]
  delta kernelRun0_A.sl.v3 kernelRun0_A.sl.HS0_1
  rw [View.readCov_cons_toLoadRect]

theorem left_B (t : Fin cfg0.N) (h0 : ¬t.val % 8 = 0) (h1 : ¬t.val % 8 = 7) :
    (outsAt0 m c t.val t.isLt).2 = k0_pay2 (F := Ideal) (outsAt0 m c (t.val - 1) (prev t)).2 (iblk m c 0 t) (iblk m c 1 t) := by
  rw [outsAt0_B m c t h0 h1]
  dsimp only
  unfold sout0_B_0 kernelRun0_B
  dsimp only
  rw [stored _ _ _ zeros2, kept _ _ zeros2, kept _ _ zeros3]
  exact congrArg (fun a => k0_pay2 (F := Ideal) a _ _) (kept (Memref.isWhole_whole _) _ zeros2 _)

theorem left_C (t : Fin cfg0.N) (h0 : ¬t.val % 8 = 0) (h1 : t.val % 8 = 7) :
    (outsAt0 m c t.val t.isLt).1 = k0_pay2 (F := Ideal) (outsAt0 m c (t.val - 1) (prev t)).2 (iblk m c 0 t) (iblk m c 1 t) := by
  rw [outsAt0_C m c t h0 h1]
  dsimp only
  unfold out0_C_2 kernelRun0_C
  dsimp only
  rw [stored _ _ _ zeros2]
  delta kernelRun0_C.sl.v16 kernelRun0_C.sl.HS0_1
  rw [View.readCov_cons_toLoadRect, kept _ _ zeros2, kept _ _ zeros2, kept _ _ zeros3]

/-! The blocks of the operands at a grid point. -/

theorem lt_N (t : Fin cfg0.N) : t.val < 16 := lt_of_lt_of_eq t.isLt N_0

theorem w0 : ∀ t : Fin cfg0.N, Goes (win0_0.index t) (t.val / 8) (t.val % 8) := by decide +kernel
theorem w1 : ∀ t : Fin cfg0.N, Goes3 (win0_1.index t) (t.val % 8) (t.val / 16) 0 := by decide +kernel

theorem host_0 : V m c main_v0 = arg0 m c := by
  unfold V
  after_reads_simp
  rfl

theorem op_0 (t : Fin cfg0.N) (x : Fin 2048) (y : Fin 256) :
    (iblk m c 0 t (ix2 x y) : EReal) = at2 (arg0 m c) (2048 * (t.val / 8) + x) (256 * (t.val % 8) + y) :=
  read2 (host_0 m c) (slot (w0 t).1 rfl) (slot (w0 t).2 rfl)

theorem host_1 (s : Fin 8) (x : Fin 1024) (y : Fin 256) :
    (V m c main_v3 (ix3 s x y) : EReal) = at2 (arg1 m c) x (256 * s + y) := by
  unfold V
  after_reads_at
  refine (at2_of (arg1 m c) _ _ _ ?_ ?_)
  · rfl
  · show s.val * 256 + y.val = _
    omega

theorem op_1 (t : Fin cfg0.N) (x : Fin 1024) (y : Fin 256) :
    (iblk m c 1 t (ix3 0 x y) : EReal) = at2 (arg1 m c) (1024 * (t.val / 16) + x) (256 * (t.val % 8) + y) := by
  obtain ⟨h0, h1, h2⟩ := w1 t
  have hN := lt_N t
  show V m c main_v3 (((cfg0.win 1).blk t).view.emb (ix3 0 x y)) = _
  have e : (((cfg0.win 1).blk t).view.emb (ix3 0 x y) : S8x1024x256.Idx)
      = ix3 ⟨t.val % 8, by omega⟩ ⟨1024 * (t.val / 16) + x, by omega⟩ ⟨256 * 0 + y, by omega⟩ := ix3_of (by show win0_1.index t (0 : Fin 3) * 1 + 1 * 0 = t.val % 8; omega) (slot h1 rfl) (slot h2 rfl)
  rw [e]
  refine (host_1 m c _ _ _).trans ?_
  congr 1
  show 256 * (t.val % 8) + (256 * 0 + y.val) = _
  omega

/-! A step adds its block's terms. -/

theorem step_k0_pay2 (t : Fin cfg0.N) (a : FVec Ideal S2048x1024 .f32) (r : Fin 2048) (d : Fin 1024) :
    (k0_pay2 (F := Ideal) a (iblk m c 0 t) (iblk m c 1 t) (ix2 r d) : EReal)
    = a (ix2 r d) + ∑ k ∈ Finset.range 256, term m c (2048 * (t.val / 8) + r) (1024 * ((t.val / 8) / 2) + d) (256 * (t.val % 8) + k) := by
  have hN := lt_N t
  rw [k0_pay2_at, ← Fin.sum_univ_eq_sum_range]
  refine congrArg (a (ix2 r d) + ·) (Finset.sum_congr rfl fun k _ => ?_)
  rw [op_0 m c t, op_1 m c t]
  unfold term
  rw [show t.val / 8 / 2 = t.val / 16 by omega]

/-- What the last step of run `q` writes. -/
theorem written (q : ℕ) (h : 8 * q + 7 < cfg0.N) (r : Fin 2048) (d : Fin 1024) :
    ((outsAt0 m c (8 * q + 7) h).1 (ix2 r d) : EReal) = ∑ T ∈ Finset.range 2048, term m c (2048 * q + r) (1024 * (q / 2) + d) T :=
  swept 8 7 256 rfl (fun q => term m c (2048 * q + r) (1024 * (q / 2) + d)) (fun t h => (outsAt0 m c t h).2 (ix2 r d)) (fun t h => (outsAt0 m c t h).1 (ix2 r d))
    (fun t h h0 h1 => by rw [left_A m c ⟨t, h⟩ h0 h1, step_k0_pay2 m c ⟨t, h⟩, zero_at, zero_add])
    (fun t h h0 h1 => by rw [left_B m c ⟨t, h⟩ h0 h1, step_k0_pay2 m c ⟨t, h⟩])
    (fun t h h0 h1 => by rw [left_C m c ⟨t, h⟩ h0 h1, step_k0_pay2 m c ⟨t, h⟩]) (by decide) q h

theorem w2 : ∀ t : Fin cfg0.N, Goes (win0_2.index t) (t.val / 8) (t.val / 16) := by decide +kernel

/-- The array after the run, entry by entry. -/
def result : S4096x1024.Idx → EReal := fun i => ∑ T ∈ Finset.range 2048, term m c (i 0).val (i 1).val T

theorem final_at (r : Fin 4096) (d : Fin 1024) :
    result m c (ix2 r d) = ∑ T ∈ Finset.range 2048, term m c r d T := rfl

theorem point (t : Fin cfg0.N) (hm : t.val % 8 = 7) (r : Fin 2048) (d : Fin 1024) :
    ((outsAt0 m c t.val t.isLt).1 (ix2 r d) : EReal) = ∑ T ∈ Finset.range 2048, term m c (2048 * (t.val / 8) + r) (1024 * (t.val / 16) + d) T := by
  have hN := lt_N t
  have hq : 8 * (t.val / 8) + 7 < cfg0.N := by
    have := t.isLt
    omega
  rw [same (outsAt0 m c) (show t.val = 8 * (t.val / 8) + 7 by omega) t.isLt hq]
  refine (written m c (t.val / 8) hq r d).trans ?_
  rw [show 2048 * (t.val / 8) = 2048 * (t.val / 8) by omega, show 1024 * ((t.val / 8) / 2) = 1024 * (t.val / 16) by omega]

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  have hm := (flush0_2 t).mp hf
  funext y
  exact entry2 (f := (outsAt0 m c t.val t.isLt).1) (F := result m c) ((cfg0.win 2).xinj (grid0.coords t) y) _ (2048 * (t.val / 8)) (1024 * (t.val / 16))
    (slot (w2 t).1 rfl) (slot (w2 t).2 rfl)
    fun r d p q hp hq => (point m c t hm r d).trans (by rw [final_at, hp, hq])

/-- Every entry is in a block that a grid point writes back. -/
theorem everywhere (i : S4096x1024.Idx) : ∃ t : Fin cfg0.N, (cfg0.win 2).flush t = true ∧ i ∈ ((cfg0.win 2).blk t).view.set := by
  have i0 : (i 0).val < 4096 := (i 0).isLt
  have i1 : (i 1).val < 1024 := (i 1).isLt
  have hN : cfg0.N = 16 := N_0
  obtain ⟨t, ht⟩ : ∃ t : Fin cfg0.N, t.val = 8 * ((i 0).val / 2048) + 7 := ⟨⟨_, by omega⟩, rfl⟩
  obtain ⟨h0, h1⟩ := w2 t
  exact ⟨t, (flush0_2 _).mpr (by show t.val % 8 = 7; omega), in2 (View.set_slice_whole main_v4 (win0_2.rect t)) 2048 1024 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x1024, .f32⟩ : BufTy).Contents (Elt Ideal))
    = val_main_v2 (F := Ideal) (arg0 m c) (arg1 m c) := by
  funext i
  rw [val_main_v2_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v2 _ k) _ _ rfl rfl)
    (at2_of (arg1 m c) (ridx_main_v2 _ k) _ _ rfl rfl)).symm

end Cert.MatAttnBranch
-- ==== Proof.MatAttnBranchWeight.lean ====
/- The gradient of the attention branch's weight. -/
module

public import proofs.«01_k».proof.Proof.Blocks
public import proofs.«01_k».proof.Proof.Gen.AttnBranchWeightIdeal.Frame
public import proofs.«01_k».proof.Proof.Gen.AttnBranchWeightReferenceIdeal.Read

@[expose] public section

set_option maxRecDepth 16384

noncomputable section

namespace Cert.MatAttnBranchWeight

open Idealize.ShloMosaic AttnBranchWeightIdeal AttnBranchWeightIdeal.Gen AttnBranchWeightReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x1024.Idx → EReal := m ((c.tc : Thread nD τ).loc main_arg0)
abbrev arg1 : S4096x2048.Idx → EReal := m ((c.tc : Thread nD τ).loc main_arg1)

/-- One term of the entry at row `r` and column `d`. -/
def term (r d k : ℕ) : EReal := at2 (arg0 m c) k r * at2 (arg1 m c) k d

/-- What a grid point stores, entry by entry. -/
theorem pay_at (x : FVec Ideal S4096x1024 .bf16) (y : FVec Ideal S4096x256 .bf16) (r : Fin 1024) (d : Fin 256) :
    (k0_pay1 (F := Ideal) x y (ix3 0 r d) : EReal) = ∑ k : Fin 4096, x (ix2 k r) * y (ix2 k d) := by
  pointwise [k0_pay1]

/-! The blocks at a grid point. -/

theorem lt_N (t : Fin cfg0.N) : t.val < 8 := lt_of_lt_of_eq t.isLt N_0

theorem w0 : ∀ t : Fin cfg0.N, Goes (win0_0.index t) 0 0 := by decide +kernel
theorem w1 : ∀ t : Fin cfg0.N, Goes (win0_1.index t) 0 t.val := by decide +kernel
theorem w2 : ∀ t : Fin cfg0.N, Goes3 (win0_2.index t) t.val 0 0 := by decide +kernel

theorem host_0 : V m c main_v0 = arg0 m c := by
  unfold V
  after_reads_simp
  rfl

theorem op_0 (t : Fin cfg0.N) (x : Fin 4096) (y : Fin 1024) :
    (iblk m c 0 t (ix2 x y) : EReal) = at2 (arg0 m c) (4096 * 0 + x) (1024 * 0 + y) :=
  read2 (host_0 m c) (slot (w0 t).1 rfl) (slot (w0 t).2 rfl)

theorem host_1 : V m c main_v1 = arg1 m c := by
  unfold V
  after_reads_simp
  rfl

theorem op_1 (t : Fin cfg0.N) (x : Fin 4096) (y : Fin 256) :
    (iblk m c 1 t (ix2 x y) : EReal) = at2 (arg1 m c) (4096 * 0 + x) (256 * t.val + y) :=
  read2 (host_1 m c) (slot (w1 t).1 rfl) (slot (w1 t).2 rfl)

/-- What a grid point leaves. -/
theorem point (t : Fin cfg0.N) (r : Fin 1024) (d : Fin 256) :
    (out0_2 (F := Ideal) (iblk m c 0 t) (iblk m c 1 t) (ix3 0 r d) : EReal) = ∑ T ∈ Finset.range 4096, term m c (1024 * 0 + r) (256 * t.val + d) T := by
  unfold out0_2
  rw [View.canon_cons_unit_lit' _ _ _ zeros3, View.ld_unit_lit' _ _ zeros2, View.ld_unit_lit' _ _ zeros2, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S8x1024x256.Idx → EReal := fun i => ∑ T ∈ Finset.range 4096, term m c (i 1).val (256 * (i 0).val + (i 2).val) T

theorem final_at (s : Fin 8) (r : Fin 1024) (d : Fin 256) :
    result m c (ix3 s r d) = ∑ T ∈ Finset.range 4096, term m c r.val (256 * s.val + d.val) T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  obtain ⟨h0, h1, h2⟩ := w2 t
  funext y
  have y0 : (y 0).val < 1 := (y 0).isLt
  exact entry3 (f := (out0_2 (F := Ideal) (iblk m c 0 t) (iblk m c 1 t))) (F := result m c) ((cfg0.win 2).xinj (grid0.coords t) y) _ (t.val) (1024 * 0) (256 * 0)
    (by show win0_2.index t (0 : Fin 3) * 1 + 1 * (y 0).val = t.val; omega) (slot h1 rfl) (slot h2 rfl)
    fun r d s p q hs hp hq => (point m c t r d).trans (by rw [final_at, show 1024 * 0 + r.val = p.val by omega, show 256 * t.val + d.val = 256 * s.val + q.val by omega])

/-- Every entry is in a block that a grid point writes back. -/
theorem everywhere (i : S8x1024x256.Idx) : ∃ t : Fin cfg0.N, (cfg0.win 2).flush t = true ∧ i ∈ ((cfg0.win 2).blk t).view.set := by
  have i0 : (i 0).val < 8 := (i 0).isLt
  have i1 : (i 1).val < 1024 := (i 1).isLt
  have i2 : (i 2).val < 256 := (i 2).isLt
  have hN : cfg0.N = 8 := N_0
  obtain ⟨t, ht⟩ : ∃ t : Fin cfg0.N, t.val = (i 0).val := ⟨⟨_, by omega⟩, rfl⟩
  obtain ⟨h0, h1, h2⟩ := w2 t
  exact ⟨t, flush0_2 _, in3 (View.set_slice_whole main_v2 (win0_2.rect t)) 1 1024 256 h0 rfl rfl h1 rfl rfl h2 rfl rfl (by omega) (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S8x1024x256, .bf16⟩ : BufTy).Contents (Elt Ideal))
    = val_main_v6 (F := Ideal) (arg0 m c) (arg1 m c) := by
  funext i
  have h0 := (i 0).isLt
  have h1 := (i 1).isLt
  have h2 := (i 2).isLt
  change (i 0).val < 8 at h0
  change (i 1).val < 1024 at h1
  change (i 2).val < 256 at h2
  refine Eq.trans ?_ (val_main_v6_apply (F := Ideal) _ _ i).symm
  refine Eq.trans ?_ (val_main_v5_apply (F := Ideal) _ _ i).symm
  refine Eq.trans ?_ (val_main_v4_apply (F := Ideal) _ _ _).symm
  refine Eq.trans ?_ (val_main_v3_apply (F := Ideal) _ _ _).symm
  refine Eq.trans ?_ (val_main_v2_apply _ _ _).symm
  refine (congrArg (result m c) (eq_ix3 i)).trans ?_
  refine (final_at m c (i 0) (i 1) (i 2)).trans ?_
  rw [← Fin.sum_univ_eq_sum_range]
  refine Finset.sum_congr rfl fun k _ => ?_
  unfold term
  refine (mul_comm _ _).trans ?_
  refine (congrArg₂ (· * ·) (at2_of (arg1 m c) (lidx_main_v2 _ k) _ _ rfl ?_)
    (at2_of (arg0 m c) (ridx_main_v2 _ k) _ _ rfl ?_)).symm
  · show (((i 1).val * 8 + (i 0).val) * 256 + (i 2).val) % 2048 = 256 * (i 0).val + (i 2).val
    omega
  · show (((i 1).val * 8 + (i 0).val) * 256 + (i 2).val) / 2048 = (i 1).val
    omega

end Cert.MatAttnBranchWeight
-- ==== Proof.MatInForward.lean ====
/- The input projection. -/
module

public import proofs.«01_k».proof.Proof.Blocks
public import proofs.«01_k».proof.Proof.Gen.InForwardIdeal.Frame
public import proofs.«01_k».proof.Proof.Gen.InForwardReferenceIdeal.Read

@[expose] public section

set_option maxRecDepth 16384

noncomputable section

namespace Cert.MatInForward

open Idealize.ShloMosaic InForwardIdeal InForwardIdeal.Gen InForwardReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S2048x8192.Idx → EReal := m ((c.tc : Thread nD τ).loc main_arg1)

/-- One term of the entry at row `r` and column `d`. -/
def term (r d k : ℕ) : EReal := at2 (arg0 m c) r k * at2 (arg1 m c) k d

/-- What a grid point stores, entry by entry. -/
theorem pay_at (x : FVec Ideal S2048x2048 .bf16) (y : FVec Ideal S1x2048x1024 .bf16) (r : Fin 2048) (d : Fin 1024) :
    (k0_pay1 (F := Ideal) x y (ix2 r d) : EReal) = ∑ k : Fin 2048, x (ix2 r k) * y (ix3 0 k d) := by
  pointwise [k0_pay1]

/-! The blocks at a grid point. -/

theorem lt_N (t : Fin cfg0.N) : t.val < 16 := lt_of_lt_of_eq t.isLt N_0

theorem w0 : ∀ t : Fin cfg0.N, Goes (win0_0.index t) (t.val / 8) 0 := by decide +kernel
theorem w1 : ∀ t : Fin cfg0.N, Goes3 (win0_1.index t) (t.val % 8) 0 0 := by decide +kernel
theorem w2 : ∀ t : Fin cfg0.N, Goes (win0_2.index t) (t.val / 8) (t.val % 8) := by decide +kernel

theorem host_0 : V m c main_v0 = arg0 m c := by
  unfold V
  after_reads_simp
  rfl

theorem op_0 (t : Fin cfg0.N) (x : Fin 2048) (y : Fin 2048) :
    (iblk m c 0 t (ix2 x y) : EReal) = at2 (arg0 m c) (2048 * (t.val / 8) + x) (2048 * 0 + y) :=
  read2 (host_0 m c) (slot (w0 t).1 rfl) (slot (w0 t).2 rfl)

theorem host_1 (s : Fin 8) (x : Fin 2048) (y : Fin 1024) :
    (V m c main_v3 (ix3 s x y) : EReal) = at2 (arg1 m c) x (1024 * s + y) := by
  unfold V
  after_reads_at
  refine (at2_of (arg1 m c) _ _ _ ?_ ?_)
  · rfl
  · show s.val * 1024 + y.val = _
    omega

theorem op_1 (t : Fin cfg0.N) (x : Fin 2048) (y : Fin 1024) :
    (iblk m c 1 t (ix3 0 x y) : EReal) = at2 (arg1 m c) (2048 * 0 + x) (1024 * (t.val % 8) + y) := by
  obtain ⟨h0, h1, h2⟩ := w1 t
  have hN := lt_N t
  show V m c main_v3 (((cfg0.win 1).blk t).view.emb (ix3 0 x y)) = _
  have e : (((cfg0.win 1).blk t).view.emb (ix3 0 x y) : S8x2048x1024.Idx)
      = ix3 ⟨t.val % 8, by omega⟩ ⟨2048 * 0 + x, by omega⟩ ⟨1024 * 0 + y, by omega⟩ := ix3_of (by show win0_1.index t (0 : Fin 3) * 1 + 1 * 0 = t.val % 8; omega) (slot h1 rfl) (slot h2 rfl)
  rw [e]
  refine (host_1 m c _ _ _).trans ?_
  congr 1
  show 1024 * (t.val % 8) + (1024 * 0 + y.val) = _
  omega

/-- What a grid point leaves. -/
theorem point (t : Fin cfg0.N) (r : Fin 2048) (d : Fin 1024) :
    (out0_2 (F := Ideal) (iblk m c 0 t) (iblk m c 1 t) (ix2 r d) : EReal) = ∑ T ∈ Finset.range 2048, term m c (2048 * (t.val / 8) + r) (1024 * (t.val % 8) + d) T := by
  unfold out0_2
  rw [View.canon_cons_unit_lit' _ _ _ zeros2, View.ld_unit_lit' _ _ zeros2, View.ld_unit_lit' _ _ zeros3, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S4096x8192.Idx → EReal := fun i => ∑ T ∈ Finset.range 2048, term m c (i 0).val (i 1).val T

theorem final_at (r : Fin 4096) (d : Fin 8192) :
    result m c (ix2 r d) = ∑ T ∈ Finset.range 2048, term m c r d T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  exact entry2 (f := (out0_2 (F := Ideal) (iblk m c 0 t) (iblk m c 1 t))) (F := result m c) ((cfg0.win 2).xinj (grid0.coords t) y) _ (2048 * (t.val / 8)) (1024 * (t.val % 8))
    (slot (w2 t).1 rfl) (slot (w2 t).2 rfl)
    fun r d p q hp hq => (point m c t r d).trans (by rw [final_at, hp, hq])

/-- Every entry is in a block that a grid point writes back. -/
theorem everywhere (i : S4096x8192.Idx) : ∃ t : Fin cfg0.N, (cfg0.win 2).flush t = true ∧ i ∈ ((cfg0.win 2).blk t).view.set := by
  have i0 : (i 0).val < 4096 := (i 0).isLt
  have i1 : (i 1).val < 8192 := (i 1).isLt
  have hN : cfg0.N = 16 := N_0
  obtain ⟨t, ht⟩ : ∃ t : Fin cfg0.N, t.val = 8 * ((i 0).val / 2048) + (i 1).val / 1024 := ⟨⟨_, by omega⟩, rfl⟩
  obtain ⟨h0, h1⟩ := w2 t
  exact ⟨t, flush0_2 _, in2 (View.set_slice_whole main_v4 (win0_2.rect t)) 2048 1024 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x8192, .f32⟩ : BufTy).Contents (Elt Ideal))
    = val_main_v0 (F := Ideal) (arg0 m c) (arg1 m c) := by
  funext i
  rw [val_main_v0_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v0 _ k) _ _ rfl rfl)
    (at2_of (arg1 m c) (ridx_main_v0 _ k) _ _ rfl rfl)).symm

end Cert.MatInForward
-- ==== Proof.MatUpForward.lean ====
/- The up projection. -/
module

public import proofs.«01_k».proof.Proof.Blocks
public import proofs.«01_k».proof.Proof.Gen.UpForwardIdeal.Frame
public import proofs.«01_k».proof.Proof.Gen.UpForwardReferenceIdeal.Read

@[expose] public section

set_option maxRecDepth 16384

noncomputable section

namespace Cert.MatUpForward

open Idealize.ShloMosaic UpForwardIdeal UpForwardIdeal.Gen UpForwardReferenceIdeal.Read Blk Idealize.ShloMosaic.TcCoe Idealize.SL.Sem

variable (m : (ℓ : Loc nD τ sig) → Buf (Elt Ideal) ℓ) (c : Dev nD)

/-! The arguments as matrices of extended reals. -/

abbrev arg0 : S4096x2048.Idx → EReal := m ((c.tc : Thread nD τ).loc main_arg0)
abbrev arg1 : S2048x11264.Idx → EReal := m ((c.tc : Thread nD τ).loc main_arg1)

/-- One term of the entry at row `r` and column `d`. -/
def term (r d k : ℕ) : EReal := at2 (arg0 m c) r k * at2 (arg1 m c) k d

/-! What a step stores, entry by entry. -/

theorem k0_pay2_at (a : FVec Ideal S2048x1408 .f32) (x : FVec Ideal S2048x1024 .bf16) (y : FVec Ideal S1x1024x1408 .bf16) (r : Fin 2048) (d : Fin 1408) :
    (k0_pay2 (F := Ideal) a x y (ix2 r d) : EReal) = a (ix2 r d) + ∑ k : Fin 1024, x (ix2 r k) * y (ix3 0 k d) := by
  pointwise [k0_pay2]

theorem zero_at (r : Fin 2048) (d : Fin 1408) : (k0_pay1 (F := Ideal) (ix2 r d) : EReal) = 0 := by
  pointwise [k0_pay1]

/-! What a grid point leaves. -/

theorem left_A (t : Fin cfg0.N) (h0 : t.val % 2 = 0) (h1 : ¬t.val % 2 = 1) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  dsimp only
  rw [stored _ _ _ zeros2, kept _ _ zeros2, kept _ _ zeros3]
  delta kernelRun0_A.sl.v3 kernelRun0_A.sl.HS0_1
  rw [View.readCov_cons_toLoadRect]

theorem left_B (t : Fin cfg0.N) (h0 : ¬t.val % 2 = 0) (h1 : t.val % 2 = 1) :
    (outsAt0 m c t.val t.isLt).1 = k0_pay2 (F := Ideal) (outsAt0 m c (t.val - 1) (prev t)).2 (iblk m c 0 t) (iblk m c 1 t) := by
  rw [outsAt0_B m c t h0 h1]
  dsimp only
  unfold out0_B_2 kernelRun0_B
  dsimp only
  rw [stored _ _ _ zeros2]
  delta kernelRun0_B.sl.v16 kernelRun0_B.sl.HS0_1
  rw [View.readCov_cons_toLoadRect, kept _ _ zeros2, kept _ _ zeros2, kept _ _ zeros3]

/-! The blocks of the operands at a grid point. -/

theorem lt_N (t : Fin cfg0.N) : t.val < 32 := lt_of_lt_of_eq t.isLt N_0

theorem w0 : ∀ t : Fin cfg0.N, Goes (win0_0.index t) (t.val / 16) (t.val % 2) := by decide +kernel
theorem w1 : ∀ t : Fin cfg0.N, Goes3 (win0_1.index t) (t.val / 2 % 8) (t.val % 2) 0 := by decide +kernel

theorem host_0 : V m c main_v0 = arg0 m c := by
  unfold V
  after_reads_simp
  rfl

theorem op_0 (t : Fin cfg0.N) (x : Fin 2048) (y : Fin 1024) :
    (iblk m c 0 t (ix2 x y) : EReal) = at2 (arg0 m c) (2048 * (t.val / 16) + x) (1024 * (t.val % 2) + y) :=
  read2 (host_0 m c) (slot (w0 t).1 rfl) (slot (w0 t).2 rfl)

theorem host_1 (s : Fin 8) (x : Fin 2048) (y : Fin 1408) :
    (V m c main_v3 (ix3 s x y) : EReal) = at2 (arg1 m c) x (1408 * s + y) := by
  unfold V
  after_reads_at
  refine (at2_of (arg1 m c) _ _ _ ?_ ?_)
  · rfl
  · show s.val * 1408 + y.val = _
    omega

theorem op_1 (t : Fin cfg0.N) (x : Fin 1024) (y : Fin 1408) :
    (iblk m c 1 t (ix3 0 x y) : EReal) = at2 (arg1 m c) (1024 * (t.val % 2) + x) (1408 * (t.val / 2 % 8) + y) := by
  obtain ⟨h0, h1, h2⟩ := w1 t
  have hN := lt_N t
  show V m c main_v3 (((cfg0.win 1).blk t).view.emb (ix3 0 x y)) = _
  have e : (((cfg0.win 1).blk t).view.emb (ix3 0 x y) : S8x2048x1408.Idx)
      = ix3 ⟨t.val / 2 % 8, by omega⟩ ⟨1024 * (t.val % 2) + x, by omega⟩ ⟨1408 * 0 + y, by omega⟩ := ix3_of (by show win0_1.index t (0 : Fin 3) * 1 + 1 * 0 = t.val / 2 % 8; omega) (slot h1 rfl) (slot h2 rfl)
  rw [e]
  refine (host_1 m c _ _ _).trans ?_
  congr 1
  show 1408 * (t.val / 2 % 8) + (1408 * 0 + y.val) = _
  omega

/-! A step adds its block's terms. -/

theorem step_k0_pay2 (t : Fin cfg0.N) (a : FVec Ideal S2048x1408 .f32) (r : Fin 2048) (d : Fin 1408) :
    (k0_pay2 (F := Ideal) a (iblk m c 0 t) (iblk m c 1 t) (ix2 r d) : EReal)
    = a (ix2 r d) + ∑ k ∈ Finset.range 1024, term m c (2048 * ((t.val / 2) / 8) + r) (1408 * ((t.val / 2) % 8) + d) (1024 * (t.val % 2) + k) := by
  have hN := lt_N t
  rw [k0_pay2_at, ← Fin.sum_univ_eq_sum_range]
  refine congrArg (a (ix2 r d) + ·) (Finset.sum_congr rfl fun k _ => ?_)
  rw [op_0 m c t, op_1 m c t]
  unfold term
  rw [show t.val / 2 / 8 = t.val / 16 by omega]

/-- What the last step of run `q` writes. -/
theorem written (q : ℕ) (h : 2 * q + 1 < cfg0.N) (r : Fin 2048) (d : Fin 1408) :
    ((outsAt0 m c (2 * q + 1) h).1 (ix2 r d) : EReal) = ∑ T ∈ Finset.range 2048, term m c (2048 * (q / 8) + r) (1408 * (q % 8) + d) T :=
  swept 2 1 1024 rfl (fun q => term m c (2048 * (q / 8) + r) (1408 * (q % 8) + d)) (fun t h => (outsAt0 m c t h).2 (ix2 r d)) (fun t h => (outsAt0 m c t h).1 (ix2 r d))
    (fun t h h0 h1 => by rw [left_A m c ⟨t, h⟩ h0 h1, step_k0_pay2 m c ⟨t, h⟩, zero_at, zero_add])
    (fun t h h0 h1 => by omega)
    (fun t h h0 h1 => by rw [left_B m c ⟨t, h⟩ h0 h1, step_k0_pay2 m c ⟨t, h⟩]) (by decide) q h

theorem w2 : ∀ t : Fin cfg0.N, Goes (win0_2.index t) (t.val / 16) (t.val / 2 % 8) := by decide +kernel

/-- The array after the run, entry by entry. -/
def result : S4096x11264.Idx → EReal := fun i => ∑ T ∈ Finset.range 2048, term m c (i 0).val (i 1).val T

theorem final_at (r : Fin 4096) (d : Fin 11264) :
    result m c (ix2 r d) = ∑ T ∈ Finset.range 2048, term m c r d T := rfl

theorem point (t : Fin cfg0.N) (hm : t.val % 2 = 1) (r : Fin 2048) (d : Fin 1408) :
    ((outsAt0 m c t.val t.isLt).1 (ix2 r d) : EReal) = ∑ T ∈ Finset.range 2048, term m c (2048 * (t.val / 16) + r) (1408 * (t.val / 2 % 8) + d) T := by
  have hN := lt_N t
  have hq : 2 * (t.val / 2) + 1 < cfg0.N := by
    have := t.isLt
    omega
  rw [same (outsAt0 m c) (show t.val = 2 * (t.val / 2) + 1 by omega) t.isLt hq]
  refine (written m c (t.val / 2) hq r d).trans ?_
  rw [show 2048 * ((t.val / 2) / 8) = 2048 * (t.val / 16) by omega, show 1408 * ((t.val / 2) % 8) = 1408 * (t.val / 2 % 8) by omega]

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  have hm := (flush0_2 t).mp hf
  funext y
  exact entry2 (f := (outsAt0 m c t.val t.isLt).1) (F := result m c) ((cfg0.win 2).xinj (grid0.coords t) y) _ (2048 * (t.val / 16)) (1408 * (t.val / 2 % 8))
    (slot (w2 t).1 rfl) (slot (w2 t).2 rfl)
    fun r d p q hp hq => (point m c t hm r d).trans (by rw [final_at, hp, hq])

/-- Every entry is in a block that a grid point writes back. -/
theorem everywhere (i : S4096x11264.Idx) : ∃ t : Fin cfg0.N, (cfg0.win 2).flush t = true ∧ i ∈ ((cfg0.win 2).blk t).view.set := by
  have i0 : (i 0).val < 4096 := (i 0).isLt
  have i1 : (i 1).val < 11264 := (i 1).isLt
  have hN : cfg0.N = 32 := N_0
  obtain ⟨t, ht⟩ : ∃ t : Fin cfg0.N, t.val = 2 * (8 * ((i 0).val / 2048) + (i 1).val / 1408) + 1 := ⟨⟨_, by omega⟩, rfl⟩
  obtain ⟨h0, h1⟩ := w2 t
  exact ⟨t, (flush0_2 _).mpr (by show t.val % 2 = 1; omega), in2 (View.set_slice_whole main_v4 (win0_2.rect t)) 2048 1408 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x11264, .f32⟩ : BufTy).Contents (Elt Ideal))
    = val_main_v0 (F := Ideal) (arg0 m c) (arg1 m c) := by
  funext i
  rw [val_main_v0_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v0 _ k) _ _ rfl rfl)
    (at2_of (arg1 m c) (ridx_main_v0 _ k) _ _ rfl rfl)).symm

end Cert.MatUpForward
-- ==== Proof.MatAttnBranchForward.lean ====
/- The attention branch's projection. -/
module

public import proofs.«01_k».proof.Proof.Blocks
public import proofs.«01_k».proof.Proof.Gen.AttnBranchForwardIdeal.Frame
public import proofs.«01_k».proof.Proof.Gen.AttnBranchForwardReferenceIdeal.Read

@[expose] public section

set_option maxRecDepth 16384

noncomputable section

namespace Cert.MatAttnBranchForward

open Idealize.ShloMosaic AttnBranchForwardIdeal AttnBranchForwardIdeal.Gen AttnBranchForwardReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x1024.Idx → EReal := m ((c.tc : Thread nD τ).loc main_arg0)
abbrev arg1 : S1024x2048.Idx → EReal := m ((c.tc : Thread nD τ).loc main_arg1)

/-- One term of the entry at row `r` and column `d`. -/
def term (r d k : ℕ) : EReal := at2 (arg0 m c) r k * at2 (arg1 m c) k d

/-- What a grid point stores, entry by entry. -/
theorem pay_at (x : FVec Ideal S4096x1024 .bf16) (y : FVec Ideal S1x1024x256 .bf16) (r : Fin 4096) (d : Fin 256) :
    (k0_pay1 (F := Ideal) x y (ix2 r d) : EReal) = ∑ k : Fin 1024, x (ix2 r k) * y (ix3 0 k d) := by
  pointwise [k0_pay1]

/-! The blocks at a grid point. -/

theorem lt_N (t : Fin cfg0.N) : t.val < 8 := lt_of_lt_of_eq t.isLt N_0

theorem w0 : ∀ t : Fin cfg0.N, Goes (win0_0.index t) 0 0 := by decide +kernel
theorem w1 : ∀ t : Fin cfg0.N, Goes3 (win0_1.index t) t.val 0 0 := by decide +kernel
theorem w2 : ∀ t : Fin cfg0.N, Goes (win0_2.index t) 0 t.val := by decide +kernel

theorem host_0 : V m c main_v0 = arg0 m c := by
  unfold V
  after_reads_simp
  rfl

theorem op_0 (t : Fin cfg0.N) (x : Fin 4096) (y : Fin 1024) :
    (iblk m c 0 t (ix2 x y) : EReal) = at2 (arg0 m c) (4096 * 0 + x) (1024 * 0 + y) :=
  read2 (host_0 m c) (slot (w0 t).1 rfl) (slot (w0 t).2 rfl)

theorem host_1 (s : Fin 8) (x : Fin 1024) (y : Fin 256) :
    (V m c main_v3 (ix3 s x y) : EReal) = at2 (arg1 m c) x (256 * s + y) := by
  unfold V
  after_reads_at
  refine (at2_of (arg1 m c) _ _ _ ?_ ?_)
  · rfl
  · show s.val * 256 + y.val = _
    omega

theorem op_1 (t : Fin cfg0.N) (x : Fin 1024) (y : Fin 256) :
    (iblk m c 1 t (ix3 0 x y) : EReal) = at2 (arg1 m c) (1024 * 0 + x) (256 * t.val + y) := by
  obtain ⟨h0, h1, h2⟩ := w1 t
  have hN := lt_N t
  show V m c main_v3 (((cfg0.win 1).blk t).view.emb (ix3 0 x y)) = _
  have e : (((cfg0.win 1).blk t).view.emb (ix3 0 x y) : S8x1024x256.Idx)
      = ix3 ⟨t.val, by omega⟩ ⟨1024 * 0 + x, by omega⟩ ⟨256 * 0 + y, by omega⟩ := ix3_of (by show win0_1.index t (0 : Fin 3) * 1 + 1 * 0 = t.val; omega) (slot h1 rfl) (slot h2 rfl)
  rw [e]
  refine (host_1 m c _ _ _).trans ?_
  congr 1
  show 256 * t.val + (256 * 0 + y.val) = _
  omega

/-- What a grid point leaves. -/
theorem point (t : Fin cfg0.N) (r : Fin 4096) (d : Fin 256) :
    (out0_2 (F := Ideal) (iblk m c 0 t) (iblk m c 1 t) (ix2 r d) : EReal) = ∑ T ∈ Finset.range 1024, term m c (4096 * 0 + r) (256 * t.val + d) T := by
  unfold out0_2
  rw [View.canon_cons_unit_lit' _ _ _ zeros2, View.ld_unit_lit' _ _ zeros2, View.ld_unit_lit' _ _ zeros3, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S4096x2048.Idx → EReal := fun i => ∑ T ∈ Finset.range 1024, term m c (i 0).val (i 1).val T

theorem final_at (r : Fin 4096) (d : Fin 2048) :
    result m c (ix2 r d) = ∑ T ∈ Finset.range 1024, term m c r d T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  exact entry2 (f := (out0_2 (F := Ideal) (iblk m c 0 t) (iblk m c 1 t))) (F := result m c) ((cfg0.win 2).xinj (grid0.coords t) y) _ (4096 * 0) (256 * t.val)
    (slot (w2 t).1 rfl) (slot (w2 t).2 rfl)
    fun r d p q hp hq => (point m c t r d).trans (by rw [final_at, hp, hq])

/-- Every entry is in a block that a grid point writes back. -/
theorem everywhere (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hN : cfg0.N = 8 := N_0
  obtain ⟨t, ht⟩ : ∃ t : Fin cfg0.N, t.val = (i 1).val / 256 := ⟨⟨_, by omega⟩, rfl⟩
  obtain ⟨h0, h1⟩ := w2 t
  exact ⟨t, flush0_2 _, in2 (View.set_slice_whole main_v4 (win0_2.rect t)) 4096 256 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x2048, .f32⟩ : BufTy).Contents (Elt Ideal))
    = val_main_v0 (F := Ideal) (arg0 m c) (arg1 m c) := by
  funext i
  rw [val_main_v0_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v0 _ k) _ _ rfl rfl)
    (at2_of (arg1 m c) (ridx_main_v0 _ k) _ _ rfl rfl)).symm

end Cert.MatAttnBranchForward
-- ==== Proof.MatPoolBranchForward.lean ====
/- The pool branch's projection. -/
module

public import proofs.«01_k».proof.Proof.Blocks
public import proofs.«01_k».proof.Proof.Gen.PoolBranchForwardIdeal.Frame
public import proofs.«01_k».proof.Proof.Gen.PoolBranchForwardReferenceIdeal.Read

@[expose] public section

set_option maxRecDepth 16384

noncomputable section

namespace Cert.MatPoolBranchForward

open Idealize.ShloMosaic PoolBranchForwardIdeal PoolBranchForwardIdeal.Gen PoolBranchForwardReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x1024.Idx → EReal := m ((c.tc : Thread nD τ).loc main_arg0)
abbrev arg1 : S1024x2048.Idx → EReal := m ((c.tc : Thread nD τ).loc main_arg1)

/-- One term of the entry at row `r` and column `d`. -/
def term (r d k : ℕ) : EReal := at2 (arg0 m c) r k * at2 (arg1 m c) k d

/-- What a grid point stores, entry by entry. -/
theorem pay_at (x : FVec Ideal S4096x1024 .bf16) (y : FVec Ideal S1x1024x256 .bf16) (r : Fin 4096) (d : Fin 256) :
    (k0_pay1 (F := Ideal) x y (ix2 r d) : EReal) = ∑ k : Fin 1024, x (ix2 r k) * y (ix3 0 k d) := by
  pointwise [k0_pay1]

/-! The blocks at a grid point. -/

theorem lt_N (t : Fin cfg0.N) : t.val < 8 := lt_of_lt_of_eq t.isLt N_0

theorem w0 : ∀ t : Fin cfg0.N, Goes (win0_0.index t) 0 0 := by decide +kernel
theorem w1 : ∀ t : Fin cfg0.N, Goes3 (win0_1.index t) t.val 0 0 := by decide +kernel
theorem w2 : ∀ t : Fin cfg0.N, Goes (win0_2.index t) 0 t.val := by decide +kernel

theorem host_0 : V m c main_v0 = arg0 m c := by
  unfold V
  after_reads_simp
  rfl

theorem op_0 (t : Fin cfg0.N) (x : Fin 4096) (y : Fin 1024) :
    (iblk m c 0 t (ix2 x y) : EReal) = at2 (arg0 m c) (4096 * 0 + x) (1024 * 0 + y) :=
  read2 (host_0 m c) (slot (w0 t).1 rfl) (slot (w0 t).2 rfl)

theorem host_1 (s : Fin 8) (x : Fin 1024) (y : Fin 256) :
    (V m c main_v3 (ix3 s x y) : EReal) = at2 (arg1 m c) x (256 * s + y) := by
  unfold V
  after_reads_at
  refine (at2_of (arg1 m c) _ _ _ ?_ ?_)
  · rfl
  · show s.val * 256 + y.val = _
    omega

theorem op_1 (t : Fin cfg0.N) (x : Fin 1024) (y : Fin 256) :
    (iblk m c 1 t (ix3 0 x y) : EReal) = at2 (arg1 m c) (1024 * 0 + x) (256 * t.val + y) := by
  obtain ⟨h0, h1, h2⟩ := w1 t
  have hN := lt_N t
  show V m c main_v3 (((cfg0.win 1).blk t).view.emb (ix3 0 x y)) = _
  have e : (((cfg0.win 1).blk t).view.emb (ix3 0 x y) : S8x1024x256.Idx)
      = ix3 ⟨t.val, by omega⟩ ⟨1024 * 0 + x, by omega⟩ ⟨256 * 0 + y, by omega⟩ := ix3_of (by show win0_1.index t (0 : Fin 3) * 1 + 1 * 0 = t.val; omega) (slot h1 rfl) (slot h2 rfl)
  rw [e]
  refine (host_1 m c _ _ _).trans ?_
  congr 1
  show 256 * t.val + (256 * 0 + y.val) = _
  omega

/-- What a grid point leaves. -/
theorem point (t : Fin cfg0.N) (r : Fin 4096) (d : Fin 256) :
    (out0_2 (F := Ideal) (iblk m c 0 t) (iblk m c 1 t) (ix2 r d) : EReal) = ∑ T ∈ Finset.range 1024, term m c (4096 * 0 + r) (256 * t.val + d) T := by
  unfold out0_2
  rw [View.canon_cons_unit_lit' _ _ _ zeros2, View.ld_unit_lit' _ _ zeros2, View.ld_unit_lit' _ _ zeros3, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S4096x2048.Idx → EReal := fun i => ∑ T ∈ Finset.range 1024, term m c (i 0).val (i 1).val T

theorem final_at (r : Fin 4096) (d : Fin 2048) :
    result m c (ix2 r d) = ∑ T ∈ Finset.range 1024, term m c r d T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  exact entry2 (f := (out0_2 (F := Ideal) (iblk m c 0 t) (iblk m c 1 t))) (F := result m c) ((cfg0.win 2).xinj (grid0.coords t) y) _ (4096 * 0) (256 * t.val)
    (slot (w2 t).1 rfl) (slot (w2 t).2 rfl)
    fun r d p q hp hq => (point m c t r d).trans (by rw [final_at, hp, hq])

/-- Every entry is in a block that a grid point writes back. -/
theorem everywhere (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hN : cfg0.N = 8 := N_0
  obtain ⟨t, ht⟩ : ∃ t : Fin cfg0.N, t.val = (i 1).val / 256 := ⟨⟨_, by omega⟩, rfl⟩
  obtain ⟨h0, h1⟩ := w2 t
  exact ⟨t, flush0_2 _, in2 (View.set_slice_whole main_v4 (win0_2.rect t)) 4096 256 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x2048, .f32⟩ : BufTy).Contents (Elt Ideal))
    = val_main_v0 (F := Ideal) (arg0 m c) (arg1 m c) := by
  funext i
  rw [val_main_v0_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v0 _ k) _ _ rfl rfl)
    (at2_of (arg1 m c) (ridx_main_v0 _ k) _ _ rfl rfl)).symm

end Cert.MatPoolBranchForward
-- ==== Proof.MatOutForward.lean ====
/- The output projection. -/
module

public import proofs.«01_k».proof.Proof.Blocks
public import proofs.«01_k».proof.Proof.Gen.OutForwardIdeal.Frame
public import proofs.«01_k».proof.Proof.Gen.OutForwardReferenceIdeal.Read

@[expose] public section

set_option maxRecDepth 16384

noncomputable section

namespace Cert.MatOutForward

open Idealize.ShloMosaic OutForwardIdeal OutForwardIdeal.Gen OutForwardReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S2048x2048.Idx → EReal := m ((c.tc : Thread nD τ).loc main_arg1)

/-- One term of the entry at row `r` and column `d`. -/
def term (r d k : ℕ) : EReal := at2 (arg0 m c) r k * at2 (arg1 m c) k d

/-- What a grid point stores, entry by entry. -/
theorem pay_at (x : FVec Ideal S2048x2048 .bf16) (y : FVec Ideal S2048x1024 .bf16) (r : Fin 2048) (d : Fin 1024) :
    (k0_pay1 (F := Ideal) x y (ix2 r d) : EReal) = ∑ k : Fin 2048, x (ix2 r k) * y (ix2 k d) := by
  pointwise [k0_pay1]

/-! The blocks at a grid point. -/

theorem lt_N (t : Fin cfg0.N) : t.val < 4 := lt_of_lt_of_eq t.isLt N_0

theorem w0 : ∀ t : Fin cfg0.N, Goes (win0_0.index t) (t.val / 2) 0 := by decide +kernel
theorem w1 : ∀ t : Fin cfg0.N, Goes (win0_1.index t) 0 (t.val % 2) := by decide +kernel
theorem w2 : ∀ t : Fin cfg0.N, Goes (win0_2.index t) (t.val / 2) (t.val % 2) := by decide +kernel

theorem host_0 : V m c main_v0 = arg0 m c := by
  unfold V
  after_reads_simp
  rfl

theorem op_0 (t : Fin cfg0.N) (x : Fin 2048) (y : Fin 2048) :
    (iblk m c 0 t (ix2 x y) : EReal) = at2 (arg0 m c) (2048 * (t.val / 2) + x) (2048 * 0 + y) :=
  read2 (host_0 m c) (slot (w0 t).1 rfl) (slot (w0 t).2 rfl)

theorem host_1 : V m c main_v1 = arg1 m c := by
  unfold V
  after_reads_simp
  rfl

theorem op_1 (t : Fin cfg0.N) (x : Fin 2048) (y : Fin 1024) :
    (iblk m c 1 t (ix2 x y) : EReal) = at2 (arg1 m c) (2048 * 0 + x) (1024 * (t.val % 2) + y) :=
  read2 (host_1 m c) (slot (w1 t).1 rfl) (slot (w1 t).2 rfl)

/-- What a grid point leaves. -/
theorem point (t : Fin cfg0.N) (r : Fin 2048) (d : Fin 1024) :
    (out0_2 (F := Ideal) (iblk m c 0 t) (iblk m c 1 t) (ix2 r d) : EReal) = ∑ T ∈ Finset.range 2048, term m c (2048 * (t.val / 2) + r) (1024 * (t.val % 2) + d) T := by
  unfold out0_2
  rw [View.canon_cons_unit_lit' _ _ _ zeros2, View.ld_unit_lit' _ _ zeros2, View.ld_unit_lit' _ _ zeros2, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S4096x2048.Idx → EReal := fun i => ∑ T ∈ Finset.range 2048, term m c (i 0).val (i 1).val T

theorem final_at (r : Fin 4096) (d : Fin 2048) :
    result m c (ix2 r d) = ∑ T ∈ Finset.range 2048, term m c r d T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  exact entry2 (f := (out0_2 (F := Ideal) (iblk m c 0 t) (iblk m c 1 t))) (F := result m c) ((cfg0.win 2).xinj (grid0.coords t) y) _ (2048 * (t.val / 2)) (1024 * (t.val % 2))
    (slot (w2 t).1 rfl) (slot (w2 t).2 rfl)
    fun r d p q hp hq => (point m c t r d).trans (by rw [final_at, hp, hq])

/-- Every entry is in a block that a grid point writes back. -/
theorem everywhere (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hN : cfg0.N = 4 := N_0
  obtain ⟨t, ht⟩ : ∃ t : Fin cfg0.N, t.val = 2 * ((i 0).val / 2048) + (i 1).val / 1024 := ⟨⟨_, by omega⟩, rfl⟩
  obtain ⟨h0, h1⟩ := w2 t
  exact ⟨t, flush0_2 _, in2 (View.set_slice_whole main_v2 (win0_2.rect t)) 2048 1024 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x2048, .f32⟩ : BufTy).Contents (Elt Ideal))
    = val_main_v0 (F := Ideal) (arg0 m c) (arg1 m c) := by
  funext i
  rw [val_main_v0_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v0 _ k) _ _ rfl rfl)
    (at2_of (arg1 m c) (ridx_main_v0 _ k) _ _ rfl rfl)).symm

end Cert.MatOutForward
-- ==== Proof.MatPleForward.lean ====
/- The embedding's projection. -/
module

public import proofs.«01_k».proof.Proof.Blocks
public import proofs.«01_k».proof.Proof.Gen.PleForwardIdeal.Frame
public import proofs.«01_k».proof.Proof.Gen.PleForwardReferenceIdeal.Read

@[expose] public section

set_option maxRecDepth 16384

noncomputable section

namespace Cert.MatPleForward

open Idealize.ShloMosaic PleForwardIdeal PleForwardIdeal.Gen PleForwardReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x256.Idx → EReal := m ((c.tc : Thread nD τ).loc main_arg0)
abbrev arg1 : S256x2048.Idx → EReal := m ((c.tc : Thread nD τ).loc main_arg1)

/-- One term of the entry at row `r` and column `d`. -/
def term (r d k : ℕ) : EReal := at2 (arg0 m c) r k * at2 (arg1 m c) k d

/-- What a grid point stores, entry by entry. -/
theorem pay_at (x : FVec Ideal S4096x256 .f32) (y : FVec Ideal S1x256x256 .bf16) (r : Fin 4096) (d : Fin 256) :
    (k0_pay1 (F := Ideal) x y (ix2 r d) : EReal) = ∑ k : Fin 256, x (ix2 r k) * y (ix3 0 k d) := by
  pointwise [k0_pay1]

/-! The blocks at a grid point. -/

theorem lt_N (t : Fin cfg0.N) : t.val < 8 := lt_of_lt_of_eq t.isLt N_0

theorem w0 : ∀ t : Fin cfg0.N, Goes (win0_0.index t) 0 0 := by decide +kernel
theorem w1 : ∀ t : Fin cfg0.N, Goes3 (win0_1.index t) t.val 0 0 := by decide +kernel
theorem w2 : ∀ t : Fin cfg0.N, Goes (win0_2.index t) 0 t.val := by decide +kernel

theorem op_0 (t : Fin cfg0.N) (x : Fin 4096) (y : Fin 256) :
    (iblk m c 0 t (ix2 x y) : EReal) = at2 (arg0 m c) (4096 * 0 + x) (256 * 0 + y) :=
  read2 (V_main_arg0 m c) (slot (w0 t).1 rfl) (slot (w0 t).2 rfl)

theorem host_1 (s : Fin 8) (x : Fin 256) (y : Fin 256) :
    (V m c main_v2 (ix3 s x y) : EReal) = at2 (arg1 m c) x (256 * s + y) := by
  unfold V
  after_reads_at
  refine (at2_of (arg1 m c) _ _ _ ?_ ?_)
  · rfl
  · show s.val * 256 + y.val = _
    omega

theorem op_1 (t : Fin cfg0.N) (x : Fin 256) (y : Fin 256) :
    (iblk m c 1 t (ix3 0 x y) : EReal) = at2 (arg1 m c) (256 * 0 + x) (256 * t.val + y) := by
  obtain ⟨h0, h1, h2⟩ := w1 t
  have hN := lt_N t
  show V m c main_v2 (((cfg0.win 1).blk t).view.emb (ix3 0 x y)) = _
  have e : (((cfg0.win 1).blk t).view.emb (ix3 0 x y) : S8x256x256.Idx)
      = ix3 ⟨t.val, by omega⟩ ⟨256 * 0 + x, by omega⟩ ⟨256 * 0 + y, by omega⟩ := ix3_of (by show win0_1.index t (0 : Fin 3) * 1 + 1 * 0 = t.val; omega) (slot h1 rfl) (slot h2 rfl)
  rw [e]
  refine (host_1 m c _ _ _).trans ?_
  congr 1
  show 256 * t.val + (256 * 0 + y.val) = _
  omega

/-- What a grid point leaves. -/
theorem point (t : Fin cfg0.N) (r : Fin 4096) (d : Fin 256) :
    (out0_2 (F := Ideal) (iblk m c 0 t) (iblk m c 1 t) (ix2 r d) : EReal) = ∑ T ∈ Finset.range 256, term m c (4096 * 0 + r) (256 * t.val + d) T := by
  unfold out0_2
  rw [View.canon_cons_unit_lit' _ _ _ zeros2, View.ld_unit_lit' _ _ zeros2, View.ld_unit_lit' _ _ zeros3, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S4096x2048.Idx → EReal := fun i => ∑ T ∈ Finset.range 256, term m c (i 0).val (i 1).val T

theorem final_at (r : Fin 4096) (d : Fin 2048) :
    result m c (ix2 r d) = ∑ T ∈ Finset.range 256, term m c r d T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  exact entry2 (f := (out0_2 (F := Ideal) (iblk m c 0 t) (iblk m c 1 t))) (F := result m c) ((cfg0.win 2).xinj (grid0.coords t) y) _ (4096 * 0) (256 * t.val)
    (slot (w2 t).1 rfl) (slot (w2 t).2 rfl)
    fun r d p q hp hq => (point m c t r d).trans (by rw [final_at, hp, hq])

/-- Every entry is in a block that a grid point writes back. -/
theorem everywhere (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hN : cfg0.N = 8 := N_0
  obtain ⟨t, ht⟩ : ∃ t : Fin cfg0.N, t.val = (i 1).val / 256 := ⟨⟨_, by omega⟩, rfl⟩
  obtain ⟨h0, h1⟩ := w2 t
  exact ⟨t, flush0_2 _, in2 (View.set_slice_whole main_v3 (win0_2.rect t)) 4096 256 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v3) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).1 0).trans (((dats m 0 c).arrAt_in 0 rfl _).trans ((A_eq m c 0).trans (V_main_arg0 m c)))
  · exact ((h c).2 main_arg1 (Pipeline.mem_restRefs_of main_arg1 (by decide) (by decide))).trans (V_main_arg1 m c)

theorem equal : (result m c : (⟨S4096x2048, .f32⟩ : BufTy).Contents (Elt Ideal))
    = val_main_v0 (F := Ideal) (arg0 m c) (arg1 m c) := by
  funext i
  rw [val_main_v0_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v0 _ k) _ _ rfl rfl)
    (at2_of (arg1 m c) (ridx_main_v0 _ k) _ _ rfl rfl)).symm

end Cert.MatPleForward
-- ==== Proof.MatPleGateForward.lean ====
/- The embedding gate's product. -/
module

public import proofs.«01_k».proof.Proof.Blocks
public import proofs.«01_k».proof.Proof.Gen.PleGateForwardIdeal.Frame
public import proofs.«01_k».proof.Proof.Gen.PleGateForwardReferenceIdeal.Read

@[expose] public section

set_option maxRecDepth 16384

noncomputable section

namespace Cert.MatPleGateForward

open Idealize.ShloMosaic PleGateForwardIdeal PleGateForwardIdeal.Gen PleGateForwardReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S2048x2048.Idx → EReal := m ((c.tc : Thread nD τ).loc main_arg1)

/-- One term of the entry at row `r` and column `d`. -/
def term (r d k : ℕ) : EReal := at2 (arg0 m c) r k * at2 (arg1 m c) k d

/-- What a grid point stores, entry by entry. -/
theorem pay_at (x : FVec Ideal S2048x2048 .bf16) (y : FVec Ideal S2048x1024 .bf16) (r : Fin 2048) (d : Fin 1024) :
    (k0_pay1 (F := Ideal) x y (ix2 r d) : EReal) = ∑ k : Fin 2048, x (ix2 r k) * y (ix2 k d) := by
  pointwise [k0_pay1]

/-! The blocks at a grid point. -/

theorem lt_N (t : Fin cfg0.N) : t.val < 4 := lt_of_lt_of_eq t.isLt N_0

theorem w0 : ∀ t : Fin cfg0.N, Goes (win0_0.index t) (t.val / 2) 0 := by decide +kernel
theorem w1 : ∀ t : Fin cfg0.N, Goes (win0_1.index t) 0 (t.val % 2) := by decide +kernel
theorem w2 : ∀ t : Fin cfg0.N, Goes (win0_2.index t) (t.val / 2) (t.val % 2) := by decide +kernel

theorem host_0 : V m c main_v0 = arg0 m c := by
  unfold V
  after_reads_simp
  rfl

theorem op_0 (t : Fin cfg0.N) (x : Fin 2048) (y : Fin 2048) :
    (iblk m c 0 t (ix2 x y) : EReal) = at2 (arg0 m c) (2048 * (t.val / 2) + x) (2048 * 0 + y) :=
  read2 (host_0 m c) (slot (w0 t).1 rfl) (slot (w0 t).2 rfl)

theorem host_1 : V m c main_v1 = arg1 m c := by
  unfold V
  after_reads_simp
  rfl

theorem op_1 (t : Fin cfg0.N) (x : Fin 2048) (y : Fin 1024) :
    (iblk m c 1 t (ix2 x y) : EReal) = at2 (arg1 m c) (2048 * 0 + x) (1024 * (t.val % 2) + y) :=
  read2 (host_1 m c) (slot (w1 t).1 rfl) (slot (w1 t).2 rfl)

/-- What a grid point leaves. -/
theorem point (t : Fin cfg0.N) (r : Fin 2048) (d : Fin 1024) :
    (out0_2 (F := Ideal) (iblk m c 0 t) (iblk m c 1 t) (ix2 r d) : EReal) = ∑ T ∈ Finset.range 2048, term m c (2048 * (t.val / 2) + r) (1024 * (t.val % 2) + d) T := by
  unfold out0_2
  rw [View.canon_cons_unit_lit' _ _ _ zeros2, View.ld_unit_lit' _ _ zeros2, View.ld_unit_lit' _ _ zeros2, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S4096x2048.Idx → EReal := fun i => ∑ T ∈ Finset.range 2048, term m c (i 0).val (i 1).val T

theorem final_at (r : Fin 4096) (d : Fin 2048) :
    result m c (ix2 r d) = ∑ T ∈ Finset.range 2048, term m c r d T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  exact entry2 (f := (out0_2 (F := Ideal) (iblk m c 0 t) (iblk m c 1 t))) (F := result m c) ((cfg0.win 2).xinj (grid0.coords t) y) _ (2048 * (t.val / 2)) (1024 * (t.val % 2))
    (slot (w2 t).1 rfl) (slot (w2 t).2 rfl)
    fun r d p q hp hq => (point m c t r d).trans (by rw [final_at, hp, hq])

/-- Every entry is in a block that a grid point writes back. -/
theorem everywhere (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hN : cfg0.N = 4 := N_0
  obtain ⟨t, ht⟩ : ∃ t : Fin cfg0.N, t.val = 2 * ((i 0).val / 2048) + (i 1).val / 1024 := ⟨⟨_, by omega⟩, rfl⟩
  obtain ⟨h0, h1⟩ := w2 t
  exact ⟨t, flush0_2 _, in2 (View.set_slice_whole main_v2 (win0_2.rect t)) 2048 1024 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x2048, .f32⟩ : BufTy).Contents (Elt Ideal))
    = val_main_v0 (F := Ideal) (arg0 m c) (arg1 m c) := by
  funext i
  rw [val_main_v0_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v0 _ k) _ _ rfl rfl)
    (at2_of (arg1 m c) (ridx_main_v0 _ k) _ _ rfl rfl)).symm

end Cert.MatPleGateForward
-- ==== Proof.MatDownForward.lean ====
/- The down projection. -/
module

public import proofs.«01_k».proof.Proof.Blocks
public import proofs.«01_k».proof.Proof.Gen.DownForwardIdeal.Frame
public import proofs.«01_k».proof.Proof.Gen.DownForwardReferenceIdeal.Read

@[expose] public section

set_option maxRecDepth 16384

noncomputable section

namespace Cert.MatDownForward

open Idealize.ShloMosaic DownForwardIdeal DownForwardIdeal.Gen DownForwardReferenceIdeal.Read Blk Idealize.ShloMosaic.TcCoe Idealize.SL.Sem

variable (m : (ℓ : Loc nD τ sig) → Buf (Elt Ideal) ℓ) (c : Dev nD)

/-! The arguments as matrices of extended reals. -/

abbrev arg0 : S4096x5632.Idx → EReal := m ((c.tc : Thread nD τ).loc main_arg0)
abbrev arg1 : S5632x2048.Idx → EReal := m ((c.tc : Thread nD τ).loc main_arg1)

/-- One term of the entry at row `r` and column `d`. -/
def term (r d k : ℕ) : EReal := at2 (arg0 m c) r k * at2 (arg1 m c) k d

/-! What a step stores, entry by entry. -/

theorem k0_pay2_at (a : FVec Ideal S2048x1024 .f32) (x : FVec Ideal S2048x1408 .bf16) (y : FVec Ideal S1408x1024 .bf16) (r : Fin 2048) (d : Fin 1024) :
    (k0_pay2 (F := Ideal) a x y (ix2 r d) : EReal) = a (ix2 r d) + ∑ k : Fin 1408, x (ix2 r k) * y (ix2 k d) := by
  pointwise [k0_pay2]

theorem zero_at (r : Fin 2048) (d : Fin 1024) : (k0_pay1 (F := Ideal) (ix2 r d) : EReal) = 0 := by
  pointwise [k0_pay1]

/-! What a grid point leaves. -/

theorem left_A (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  unfold sout0_A_0 kernelRun0_A
  dsimp only
  rw [stored _ _ _ zeros2, kept _ _ zeros2, kept _ _ zeros2]
  delta kernelRun0_A.sl.v3 kernelRun0_A.sl.HS0_1
  rw [View.readCov_cons_toLoadRect]

theorem left_B (t : Fin cfg0.N) (h0 : ¬t.val % 4 = 0) (h1 : ¬t.val % 4 = 3) :
    (outsAt0 m c t.val t.isLt).2 = k0_pay2 (F := Ideal) (outsAt0 m c (t.val - 1) (prev t)).2 (iblk m c 0 t) (iblk m c 1 t) := by
  rw [outsAt0_B m c t h0 h1]
  dsimp only
  unfold sout0_B_0 kernelRun0_B
  dsimp only
  rw [stored _ _ _ zeros2, kept _ _ zeros2, kept _ _ zeros2]
  exact congrArg (fun a => k0_pay2 (F := Ideal) a _ _) (kept (Memref.isWhole_whole _) _ zeros2 _)

theorem left_C (t : Fin cfg0.N) (h0 : ¬t.val % 4 = 0) (h1 : t.val % 4 = 3) :
    (outsAt0 m c t.val t.isLt).1 = k0_pay2 (F := Ideal) (outsAt0 m c (t.val - 1) (prev t)).2 (iblk m c 0 t) (iblk m c 1 t) := by
  rw [outsAt0_C m c t h0 h1]
  dsimp only
  unfold out0_C_2 kernelRun0_C
  dsimp only
  rw [stored _ _ _ zeros2]
  delta kernelRun0_C.sl.v16 kernelRun0_C.sl.HS0_1
  rw [View.readCov_cons_toLoadRect, kept _ _ zeros2, kept _ _ zeros2, kept _ _ zeros2]

/-! The blocks of the operands at a grid point. -/

theorem lt_N (t : Fin cfg0.N) : t.val < 16 := lt_of_lt_of_eq t.isLt N_0

theorem w0 : ∀ t : Fin cfg0.N, Goes (win0_0.index t) (t.val / 8) (t.val % 4) := by decide +kernel
theorem w1 : ∀ t : Fin cfg0.N, Goes (win0_1.index t) (t.val % 4) (t.val / 4 % 2) := by decide +kernel

theorem host_0 : V m c main_v0 = arg0 m c := by
  unfold V
  after_reads_simp
  rfl

theorem op_0 (t : Fin cfg0.N) (x : Fin 2048) (y : Fin 1408) :
    (iblk m c 0 t (ix2 x y) : EReal) = at2 (arg0 m c) (2048 * (t.val / 8) + x) (1408 * (t.val % 4) + y) :=
  read2 (host_0 m c) (slot (w0 t).1 rfl) (slot (w0 t).2 rfl)

theorem host_1 : V m c main_v1 = arg1 m c := by
  unfold V
  after_reads_simp
  rfl

theorem op_1 (t : Fin cfg0.N) (x : Fin 1408) (y : Fin 1024) :
    (iblk m c 1 t (ix2 x y) : EReal) = at2 (arg1 m c) (1408 * (t.val % 4) + x) (1024 * (t.val / 4 % 2) + y) :=
  read2 (host_1 m c) (slot (w1 t).1 rfl) (slot (w1 t).2 rfl)

/-! A step adds its block's terms. -/

theorem step_k0_pay2 (t : Fin cfg0.N) (a : FVec Ideal S2048x1024 .f32) (r : Fin 2048) (d : Fin 1024) :
    (k0_pay2 (F := Ideal) a (iblk m c 0 t) (iblk m c 1 t) (ix2 r d) : EReal)
    = a (ix2 r d) + ∑ k ∈ Finset.range 1408, term m c (2048 * ((t.val / 4) / 2) + r) (1024 * ((t.val / 4) % 2) + d) (1408 * (t.val % 4) + k) := by
  have hN := lt_N t
  rw [k0_pay2_at, ← Fin.sum_univ_eq_sum_range]
  refine congrArg (a (ix2 r d) + ·) (Finset.sum_congr rfl fun k _ => ?_)
  rw [op_0 m c t, op_1 m c t]
  unfold term
  rw [show t.val / 4 / 2 = t.val / 8 by omega]

/-- What the last step of run `q` writes. -/
theorem written (q : ℕ) (h : 4 * q + 3 < cfg0.N) (r : Fin 2048) (d : Fin 1024) :
    ((outsAt0 m c (4 * q + 3) h).1 (ix2 r d) : EReal) = ∑ T ∈ Finset.range 5632, term m c (2048 * (q / 2) + r) (1024 * (q % 2) + d) T :=
  swept 4 3 1408 rfl (fun q => term m c (2048 * (q / 2) + r) (1024 * (q % 2) + d)) (fun t h => (outsAt0 m c t h).2 (ix2 r d)) (fun t h => (outsAt0 m c t h).1 (ix2 r d))
    (fun t h h0 h1 => by rw [left_A m c ⟨t, h⟩ h0 h1, step_k0_pay2 m c ⟨t, h⟩, zero_at, zero_add])
    (fun t h h0 h1 => by rw [left_B m c ⟨t, h⟩ h0 h1, step_k0_pay2 m c ⟨t, h⟩])
    (fun t h h0 h1 => by rw [left_C m c ⟨t, h⟩ h0 h1, step_k0_pay2 m c ⟨t, h⟩]) (by decide) q h

theorem w2 : ∀ t : Fin cfg0.N, Goes (win0_2.index t) (t.val / 8) (t.val / 4 % 2) := by decide +kernel

/-- The array after the run, entry by entry. -/
def result : S4096x2048.Idx → EReal := fun i => ∑ T ∈ Finset.range 5632, term m c (i 0).val (i 1).val T

theorem final_at (r : Fin 4096) (d : Fin 2048) :
    result m c (ix2 r d) = ∑ T ∈ Finset.range 5632, term m c r d T := rfl

theorem point (t : Fin cfg0.N) (hm : t.val % 4 = 3) (r : Fin 2048) (d : Fin 1024) :
    ((outsAt0 m c t.val t.isLt).1 (ix2 r d) : EReal) = ∑ T ∈ Finset.range 5632, term m c (2048 * (t.val / 8) + r) (1024 * (t.val / 4 % 2) + d) T := by
  have hN := lt_N t
  have hq : 4 * (t.val / 4) + 3 < cfg0.N := by
    have := t.isLt
    omega
  rw [same (outsAt0 m c) (show t.val = 4 * (t.val / 4) + 3 by omega) t.isLt hq]
  refine (written m c (t.val / 4) hq r d).trans ?_
  rw [show 2048 * ((t.val / 4) / 2) = 2048 * (t.val / 8) by omega, show 1024 * ((t.val / 4) % 2) = 1024 * (t.val / 4 % 2) by omega]

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  have hm := (flush0_2 t).mp hf
  funext y
  exact entry2 (f := (outsAt0 m c t.val t.isLt).1) (F := result m c) ((cfg0.win 2).xinj (grid0.coords t) y) _ (2048 * (t.val / 8)) (1024 * (t.val / 4 % 2))
    (slot (w2 t).1 rfl) (slot (w2 t).2 rfl)
    fun r d p q hp hq => (point m c t hm r d).trans (by rw [final_at, hp, hq])

/-- Every entry is in a block that a grid point writes back. -/
theorem everywhere (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hN : cfg0.N = 16 := N_0
  obtain ⟨t, ht⟩ : ∃ t : Fin cfg0.N, t.val = 4 * (2 * ((i 0).val / 2048) + (i 1).val / 1024) + 3 := ⟨⟨_, by omega⟩, rfl⟩
  obtain ⟨h0, h1⟩ := w2 t
  exact ⟨t, (flush0_2 _).mpr (by show t.val % 4 = 3; omega), in2 (View.set_slice_whole main_v2 (win0_2.rect t)) 2048 1024 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x2048, .f32⟩ : BufTy).Contents (Elt Ideal))
    = val_main_v0 (F := Ideal) (arg0 m c) (arg1 m c) := by
  funext i
  rw [val_main_v0_apply, eq_ix2 i]
  refine (final_at m c _ _).trans ?_
  rw [← Fin.sum_univ_eq_sum_range]
  refine Finset.sum_congr rfl fun k _ => ?_
  unfold term
  exact (congrArg₂ (· * ·) (at2_of (arg0 m c) (lidx_main_v0 _ k) _ _ rfl rfl)
    (at2_of (arg1 m c) (ridx_main_v0 _ k) _ _ rfl rfl)).symm

end Cert.MatDownForward
-- ==== Proof.MatGate.lean ====
/- The gradients of the two branches' gates and of what they gate. -/
module

public import proofs.«01_k».proof.Proof.Blocks
public import proofs.«01_k».proof.Proof.Gen.GateIdeal.Frame
public import proofs.«01_k».proof.Proof.Gen.GateReferenceIdeal.Read

@[expose] public section

set_option maxRecDepth 16384

noncomputable section

namespace Cert.MatGate

open Idealize.ShloMosaic GateIdeal GateIdeal.Gen GateReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S4096x8192.Idx → EReal := m ((c.tc : Thread nD τ).loc main_arg1)
abbrev arg2 : S4096x2048.Idx → EReal := m ((c.tc : Thread nD τ).loc main_arg2)
abbrev arg3 : S4096x2048.Idx → EReal := m ((c.tc : Thread nD τ).loc main_arg3)

/-- The sigmoid. -/
def sg (x : EReal) : EReal := Ideal.div 1 (1 + Ideal.exp (-x))

theorem one_f32 : (Ideal.ofBits .f32 0x3F800000#32 : EReal) = 1 := by
  simp [Ideal.ofBits, Ideal.ieee]
  rw [← EReal.coe_mul]
  norm_num

/-! The four gradients at a row and a column: of the attention branch, of the pool branch, of the attention's gate and of the
pool's gate. -/

def val0 (r d : ℕ) : EReal := at2 (arg0 m c) r d * sg (at2 (arg1 m c) r (4096 + d))
def val1 (r d : ℕ) : EReal := at2 (arg0 m c) r d * sg (at2 (arg1 m c) r (6144 + d))
def val2 (r d : ℕ) : EReal := at2 (arg0 m c) r d * at2 (arg2 m c) r d * sg (at2 (arg1 m c) r (4096 + d)) * (1 - sg (at2 (arg1 m c) r (4096 + d)))
def val3 (r d : ℕ) : EReal := at2 (arg0 m c) r d * at2 (arg3 m c) r d * sg (at2 (arg1 m c) r (6144 + d)) * (1 - sg (at2 (arg1 m c) r (6144 + d)))

/-! What a step stores, entry by entry. -/

section
variable (x y z : FVec Ideal S256x2048 .f32) (i : S256x2048.Idx)

theorem sig_a : (k0_pay2 (F := Ideal) y i : EReal) = sg (y i) := by
  unfold sg
  rw [← zero_sub (y i)]
  pointwise [k0_pay2, one_f32]

theorem sig_p : (k0_pay3 (F := Ideal) y i : EReal) = sg (y i) := by
  unfold sg
  rw [← zero_sub (y i)]
  pointwise [k0_pay3, one_f32]

theorem pay_0 : (k0_pay4 (F := Ideal) x y i : EReal) = x i * sg (y i) :=
  congrArg (fun e : EReal => x i * e) (sig_a y i)

theorem pay_1 : (k0_pay5 (F := Ideal) x y i : EReal) = x i * sg (y i) :=
  congrArg (fun e : EReal => x i * e) (sig_p y i)

theorem pay_2 : (k0_pay6 (F := Ideal) x y z i : EReal) = x i * z i * sg (y i) * (1 - sg (y i)) := by
  rw [← sig_a y i, ← one_f32]
  rfl

theorem pay_3 : (k0_pay1 (F := Ideal) (k0_pay3 (F := Ideal) y) (k0_pay7 (F := Ideal) x z) i : EReal) = x i * z i * sg (y i) * (1 - sg (y i)) := by
  rw [← sig_p y i, ← one_f32]
  rfl
end

/-! The blocks at a grid point. -/

theorem lt_N (t : Fin cfg0.N) : t.val < 16 := lt_of_lt_of_eq t.isLt N_0

theorem w0 : ∀ t : Fin cfg0.N, Goes (win0_0.index t) t.val 0 := by decide +kernel
theorem w1 : ∀ t : Fin cfg0.N, Goes (win0_1.index t) t.val 2 := by decide +kernel
theorem w2 : ∀ t : Fin cfg0.N, Goes (win0_2.index t) t.val 3 := by decide +kernel
theorem w3 : ∀ t : Fin cfg0.N, Goes (win0_3.index t) t.val 0 := by decide +kernel
theorem w4 : ∀ t : Fin cfg0.N, Goes (win0_4.index t) t.val 0 := by decide +kernel
theorem w5 : ∀ t : Fin cfg0.N, Goes (win0_5.index t) t.val 0 := by decide +kernel
theorem w6 : ∀ t : Fin cfg0.N, Goes (win0_6.index t) t.val 0 := by decide +kernel
theorem w7 : ∀ t : Fin cfg0.N, Goes (win0_7.index t) t.val 0 := by decide +kernel
theorem w8 : ∀ t : Fin cfg0.N, Goes (win0_8.index t) t.val 0 := by decide +kernel

theorem op_0 (t : Fin cfg0.N) (x : Fin 256) (y : Fin 2048) :
    (iblk m c 0 t (ix2 x y) : EReal) = at2 (arg0 m c) (256 * t.val + x) (2048 * 0 + y) :=
  read2 (V_main_arg0 m c) (slot (w0 t).1 rfl) (slot (w0 t).2 rfl)

theorem op_1 (t : Fin cfg0.N) (x : Fin 256) (y : Fin 2048) :
    (iblk m c 1 t (ix2 x y) : EReal) = at2 (arg1 m c) (256 * t.val + x) (2048 * (2) + y) :=
  read2 (V_main_arg1 m c) (slot (w1 t).1 rfl) (slot (w1 t).2 rfl)

theorem op_2 (t : Fin cfg0.N) (x : Fin 256) (y : Fin 2048) :
    (iblk m c 2 t (ix2 x y) : EReal) = at2 (arg1 m c) (256 * t.val + x) (2048 * (3) + y) :=
  read2 (V_main_arg1 m c) (slot (w2 t).1 rfl) (slot (w2 t).2 rfl)

theorem op_3 (t : Fin cfg0.N) (x : Fin 256) (y : Fin 2048) :
    (iblk m c 3 t (ix2 x y) : EReal) = at2 (arg2 m c) (256 * t.val + x) (2048 * 0 + y) :=
  read2 (V_main_arg2 m c) (slot (w3 t).1 rfl) (slot (w3 t).2 rfl)

theorem op_4 (t : Fin cfg0.N) (x : Fin 256) (y : Fin 2048) :
    (iblk m c 4 t (ix2 x y) : EReal) = at2 (arg3 m c) (256 * t.val + x) (2048 * 0 + y) :=
  read2 (V_main_arg3 m c) (slot (w4 t).1 rfl) (slot (w4 t).2 rfl)

theorem point0 (t : Fin cfg0.N) (r : Fin 256) (d : Fin 2048) :
    (out0_5 (F := Ideal) (iblk m c 0 t) (iblk m c 1 t) (iblk m c 2 t) (iblk m c 3 t) (iblk m c 4 t) (ix2 r d) : EReal) = val0 m c (256 * t.val + r) d := by
  unfold out0_5
  rw [View.canon_cons_unit_lit' _ _ _ zeros2, View.ld_unit_lit' _ _ zeros2, View.ld_unit_lit' _ _ zeros2, pay_0, op_0 m c t, op_1 m c t]
  unfold val0
  simp only [Nat.mul_zero, Nat.zero_add, Nat.reduceMul]

/-- The array after the run, entry by entry. -/
def result0 : S4096x2048.Idx → EReal := fun i => val0 m c (i 0).val (i 1).val

/-- What a grid point writes back is its block of the array. -/
theorem back0 (t : Fin cfg0.N) (hf : (cfg0.win 5).flush t = true) :
    (dats m 0 c).flushed 5 t = ((cfg0.win 5).blk t).view.read (Elt Ideal) (result0 m c) := by
  show (cfg0.win 5).cut (grid0.coords t) ((dats m 0 c).after 5 t) = _
  rw [after0_5]
  funext y
  exact entry2 (f := (out0_5 (F := Ideal) (iblk m c 0 t) (iblk m c 1 t) (iblk m c 2 t) (iblk m c 3 t) (iblk m c 4 t))) (F := result0 m c) ((cfg0.win 5).xinj (grid0.coords t) y) _ (256 * t.val) (2048 * 0)
    (slot (w5 t).1 rfl) (slot (w5 t).2 rfl)
    fun r d p q hp hq => (point0 m c t r d).trans (by show _ = val0 m c p.val q.val; rw [hp, hq, Nat.mul_zero, Nat.zero_add])

/-- Every entry is in a block that a grid point writes back. -/
theorem everywhere0 (i : S4096x2048.Idx) : ∃ t : Fin cfg0.N, (cfg0.win 5).flush t = true ∧ i ∈ ((cfg0.win 5).blk t).view.set :=
  have ⟨t, e0, e1⟩ := rowsOf (N := cfg0.N) (n := 256) i rfl
  ⟨t, flush0_5 _, in2 (View.set_slice_whole main_v0_0 (win0_5.rect t)) 256 2048 (w5 t).1 rfl rfl (w5 t).2 rfl rfl e0 e1⟩

theorem point1 (t : Fin cfg0.N) (r : Fin 256) (d : Fin 2048) :
    (out0_6 (F := Ideal) (iblk m c 0 t) (iblk m c 1 t) (iblk m c 2 t) (iblk m c 3 t) (iblk m c 4 t) (ix2 r d) : EReal) = val1 m c (256 * t.val + r) d := by
  unfold out0_6
  rw [View.canon_cons_unit_lit' _ _ _ zeros2, View.ld_unit_lit' _ _ zeros2, View.ld_unit_lit' _ _ zeros2, pay_1, op_0 m c t, op_2 m c t]
  unfold val1
  simp only [Nat.mul_zero, Nat.zero_add, Nat.reduceMul]

/-- The array after the run, entry by entry. -/
def result1 : S4096x2048.Idx → EReal := fun i => val1 m c (i 0).val (i 1).val

theorem back1 (t : Fin cfg0.N) (hf : (cfg0.win 6).flush t = true) :
    (dats m 0 c).flushed 6 t = ((cfg0.win 6).blk t).view.read (Elt Ideal) (result1 m c) := by
  show (cfg0.win 6).cut (grid0.coords t) ((dats m 0 c).after 6 t) = _
  rw [after0_6]
  funext y
  exact entry2 (f := (out0_6 (F := Ideal) (iblk m c 0 t) (iblk m c 1 t) (iblk m c 2 t) (iblk m c 3 t) (iblk m c 4 t))) (F := result1 m c) ((cfg0.win 6).xinj (grid0.coords t) y) _ (256 * t.val) (2048 * 0)
    (slot (w6 t).1 rfl) (slot (w6 t).2 rfl)
    fun r d p q hp hq => (point1 m c t r d).trans (by show _ = val1 m c p.val q.val; rw [hp, hq, Nat.mul_zero, Nat.zero_add])

theorem everywhere1 (i : S4096x2048.Idx) : ∃ t : Fin cfg0.N, (cfg0.win 6).flush t = true ∧ i ∈ ((cfg0.win 6).blk t).view.set :=
  have ⟨t, e0, e1⟩ := rowsOf (N := cfg0.N) (n := 256) i rfl
  ⟨t, flush0_6 _, in2 (View.set_slice_whole main_v0_1 (win0_6.rect t)) 256 2048 (w6 t).1 rfl rfl (w6 t).2 rfl rfl e0 e1⟩

theorem point2 (t : Fin cfg0.N) (r : Fin 256) (d : Fin 2048) :
    (out0_7 (F := Ideal) (iblk m c 0 t) (iblk m c 1 t) (iblk m c 2 t) (iblk m c 3 t) (iblk m c 4 t) (ix2 r d) : EReal) = val2 m c (256 * t.val + r) d := by
  unfold out0_7
  rw [View.canon_cons_unit_lit' _ _ _ zeros2, View.ld_unit_lit' _ _ zeros2, View.ld_unit_lit' _ _ zeros2, View.ld_unit_lit' _ _ zeros2, pay_2, op_0 m c t, op_1 m c t, op_3 m c t]
  unfold val2
  simp only [Nat.mul_zero, Nat.zero_add, Nat.reduceMul]

/-- The array after the run, entry by entry. -/
def result2 : S4096x2048.Idx → EReal := fun i => val2 m c (i 0).val (i 1).val

theorem back2 (t : Fin cfg0.N) (hf : (cfg0.win 7).flush t = true) :
    (dats m 0 c).flushed 7 t = ((cfg0.win 7).blk t).view.read (Elt Ideal) (result2 m c) := by
  show (cfg0.win 7).cut (grid0.coords t) ((dats m 0 c).after 7 t) = _
  rw [after0_7]
  funext y
  exact entry2 (f := (out0_7 (F := Ideal) (iblk m c 0 t) (iblk m c 1 t) (iblk m c 2 t) (iblk m c 3 t) (iblk m c 4 t))) (F := result2 m c) ((cfg0.win 7).xinj (grid0.coords t) y) _ (256 * t.val) (2048 * 0)
    (slot (w7 t).1 rfl) (slot (w7 t).2 rfl)
    fun r d p q hp hq => (point2 m c t r d).trans (by show _ = val2 m c p.val q.val; rw [hp, hq, Nat.mul_zero, Nat.zero_add])

theorem everywhere2 (i : S4096x2048.Idx) : ∃ t : Fin cfg0.N, (cfg0.win 7).flush t = true ∧ i ∈ ((cfg0.win 7).blk t).view.set :=
  have ⟨t, e0, e1⟩ := rowsOf (N := cfg0.N) (n := 256) i rfl
  ⟨t, flush0_7 _, in2 (View.set_slice_whole main_v0_2 (win0_7.rect t)) 256 2048 (w7 t).1 rfl rfl (w7 t).2 rfl rfl e0 e1⟩

theorem point3 (t : Fin cfg0.N) (r : Fin 256) (d : Fin 2048) :
    (out0_8 (F := Ideal) (iblk m c 0 t) (iblk m c 1 t) (iblk m c 2 t) (iblk m c 3 t) (iblk m c 4 t) (ix2 r d) : EReal) = val3 m c (256 * t.val + r) d := by
  unfold out0_8
  rw [View.canon_cons_unit_lit' _ _ _ zeros2, View.ld_unit_lit' _ _ zeros2, View.ld_unit_lit' _ _ zeros2, View.ld_unit_lit' _ _ zeros2, pay_3, op_0 m c t, op_2 m c t, op_4 m c t]
  unfold val3
  simp only [Nat.mul_zero, Nat.zero_add, Nat.reduceMul]

/-- The array after the run, entry by entry. -/
def result3 : S4096x2048.Idx → EReal := fun i => val3 m c (i 0).val (i 1).val

theorem back3 (t : Fin cfg0.N) (hf : (cfg0.win 8).flush t = true) :
    (dats m 0 c).flushed 8 t = ((cfg0.win 8).blk t).view.read (Elt Ideal) (result3 m c) := by
  show (cfg0.win 8).cut (grid0.coords t) ((dats m 0 c).after 8 t) = _
  rw [after0_8]
  funext y
  exact entry2 (f := (out0_8 (F := Ideal) (iblk m c 0 t) (iblk m c 1 t) (iblk m c 2 t) (iblk m c 3 t) (iblk m c 4 t))) (F := result3 m c) ((cfg0.win 8).xinj (grid0.coords t) y) _ (256 * t.val) (2048 * 0)
    (slot (w8 t).1 rfl) (slot (w8 t).2 rfl)
    fun r d p q hp hq => (point3 m c t r d).trans (by show _ = val3 m c p.val q.val; rw [hp, hq, Nat.mul_zero, Nat.zero_add])

theorem everywhere3 (i : S4096x2048.Idx) : ∃ t : Fin cfg0.N, (cfg0.win 8).flush t = true ∧ i ∈ ((cfg0.win 8).blk t).view.set :=
  have ⟨t, e0, e1⟩ := rowsOf (N := cfg0.N) (n := 256) i rfl
  ⟨t, flush0_8 _, in2 (View.set_slice_whole main_v0_3 (win0_8.rect t)) 256 2048 (w8 t).1 rfl rfl (w8 t).2 rfl rfl e0 e1⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_v0_2) = result2 m c
      ∧ r.2.mem ((c : Thread nD τ).loc main_v0_3) = result3 m c
      ∧ holds r.2.mem m c main_arg0
      ∧ holds r.2.mem m c main_arg1
      ∧ holds r.2.mem m c main_arg2
      ∧ holds r.2.mem m c main_arg3 := by
  exact (θ_run defs _ _).mono (fun r h c =>
    have k := fun w e => ((h c).1 w).trans (((dats m 0 c).arrAt_in w e _).trans (A_eq m c w))
    ⟨((h c).1 5).trans ((dats m 0 c).arrAt_eq_of_cover 5 _ (back0 m c) everywhere0), ((h c).1 6).trans ((dats m 0 c).arrAt_eq_of_cover 6 _ (back1 m c) everywhere1), ((h c).1 7).trans ((dats m 0 c).arrAt_eq_of_cover 7 _ (back2 m c) everywhere2), ((h c).1 8).trans ((dats m 0 c).arrAt_eq_of_cover 8 _ (back3 m c) everywhere3), (k 0 rfl).trans (V_main_arg0 m c), (k 1 rfl).trans (V_main_arg1 m c), (k 3 rfl).trans (V_main_arg2 m c), (k 4 rfl).trans (V_main_arg3 m c)⟩) (run_main m ρ)

/-! The reference. -/

theorem ref_sig_a (i : S4096x2048.Idx) : (val_main_v7 (F := Ideal) (arg1 m c) i : EReal) = sg (at2 (arg1 m c) (i 0).val (4096 + (i 1).val)) := by
  rw [← at2_of (arg1 m c) (idx_main_v0 i) _ _ rfl rfl]
  simp only [val_main_v7_apply, val_main_v6_apply, val_main_cst_0_apply, val_main_v5_apply, val_main_v4_apply, val_main_cst_apply,
    val_main_v3_apply, val_main_v2_apply, val_main_v0_apply]
  unfold sg
  rw [← one_f32]
  rfl

theorem ref_sig_p (i : S4096x2048.Idx) : (val_main_v17 (F := Ideal) (arg1 m c) i : EReal) = sg (at2 (arg1 m c) (i 0).val (6144 + (i 1).val)) := by
  rw [← at2_of (arg1 m c) (idx_main_v1 i) _ _ rfl rfl]
  simp only [val_main_v17_apply, val_main_v16_apply, val_main_cst_3_apply, val_main_v15_apply, val_main_v14_apply, val_main_cst_2_apply,
    val_main_v13_apply, val_main_v12_apply, val_main_v1_apply]
  unfold sg
  rw [← one_f32]
  rfl

theorem ref_ct_a (i : S4096x2048.Idx) : (val_main_v23 (F := Ideal) (arg0 m c) i : EReal) = at2 (arg0 m c) (i 0).val (i 1).val := by
  rw [val_main_v23_apply]
  have h0 := (i 0).isLt
  have h1 := (i 1).isLt
  change (i 0).val < 4096 at h0
  change (i 1).val < 2048 at h1
  exact at2_of (arg0 m c) _ _ _ (by show ((i 0).val * 2048 + (i 1).val) / 2048 = (i 0).val; omega) (by show ((i 0).val * 2048 + (i 1).val) % 2048 = (i 1).val; omega)

theorem ref_ct_p (i : S4096x2048.Idx) : (val_main_v24 (F := Ideal) (arg0 m c) i : EReal) = at2 (arg0 m c) (i 0).val (i 1).val := by
  rw [val_main_v24_apply]
  have h0 := (i 0).isLt
  have h1 := (i 1).isLt
  change (i 0).val < 4096 at h0
  change (i 1).val < 2048 at h1
  exact at2_of (arg0 m c) _ _ _ (by show ((i 0).val * 2048 + (i 1).val) / 2048 = (i 0).val; omega) (by show ((i 0).val * 2048 + (i 1).val) % 2048 = (i 1).val; omega)

theorem at_own (X : S4096x2048.Idx → EReal) (i : S4096x2048.Idx) : X i = at2 X (i 0).val (i 1).val := at2_of X i _ _ rfl rfl

theorem equal0 : (result0 m c : (⟨S4096x2048, .bf16⟩ : BufTy).Contents (Elt Ideal)) = val_main_v31 (F := Ideal) (arg0 m c) (arg1 m c) := by
  funext i
  show val0 m c (i 0).val (i 1).val = (val_main_v7 (F := Ideal) (arg1 m c) i : EReal) * val_main_v23 (F := Ideal) (arg0 m c) i
  rw [ref_sig_a, ref_ct_a]
  exact mul_comm _ _

theorem equal1 : (result1 m c : (⟨S4096x2048, .bf16⟩ : BufTy).Contents (Elt Ideal)) = val_main_v32 (F := Ideal) (arg0 m c) (arg1 m c) := by
  funext i
  show val1 m c (i 0).val (i 1).val = (val_main_v17 (F := Ideal) (arg1 m c) i : EReal) * val_main_v24 (F := Ideal) (arg0 m c) i
  rw [ref_sig_p, ref_ct_p]
  exact mul_comm _ _

theorem equal2 : (result2 m c : (⟨S4096x2048, .bf16⟩ : BufTy).Contents (Elt Ideal)) = val_main_v33 (F := Ideal) (arg0 m c) (arg1 m c) (arg2 m c) := by
  funext i
  show val2 m c (i 0).val (i 1).val = (val_main_v23 (F := Ideal) (arg0 m c) i : EReal) * arg2 m c i * ((val_main_v7 (F := Ideal) (arg1 m c) i : EReal)
    * (val_main_v8 (F := Ideal) i - val_main_v7 (F := Ideal) (arg1 m c) i))
  rw [ref_sig_a, ref_ct_a, at_own (arg2 m c) i, val_main_v8_apply, val_main_cst_1_apply, ← mul_assoc]
  unfold val2
  rw [← one_f32]
  rfl

theorem equal3 : (result3 m c : (⟨S4096x2048, .bf16⟩ : BufTy).Contents (Elt Ideal)) = val_main_v34 (F := Ideal) (arg0 m c) (arg1 m c) (arg3 m c) := by
  funext i
  show val3 m c (i 0).val (i 1).val = (val_main_v24 (F := Ideal) (arg0 m c) i : EReal) * arg3 m c i * ((val_main_v17 (F := Ideal) (arg1 m c) i : EReal)
    * (val_main_v18 (F := Ideal) i - val_main_v17 (F := Ideal) (arg1 m c) i))
  rw [ref_sig_p, ref_ct_p, at_own (arg3 m c) i, val_main_v18_apply, val_main_cst_4_apply, ← mul_assoc]
  unfold val3
  rw [← one_f32]
  rfl

end Cert.MatGate
-- ==== Proof.MatPoolGroup.lean ====
/- The gradient of the grouped product's argument. -/
module

public import proofs.«01_k».proof.Proof.Blocks
public import proofs.«01_k».proof.Proof.Gen.PoolGroupIdeal.Frame
public import proofs.«01_k».proof.Proof.Gen.PoolGroupReferenceIdeal.Read

@[expose] public section

set_option maxRecDepth 16384

noncomputable section

namespace Cert.MatPoolGroup

open Idealize.ShloMosaic PoolGroupIdeal PoolGroupIdeal.Gen PoolGroupReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x1024.Idx → EReal := m ((c.tc : Thread nD τ).loc main_arg0)
abbrev arg1 : S4x256x256.Idx → EReal := m ((c.tc : Thread nD τ).loc main_arg1)

/-- The entry of a stack of matrices at three natural numbers, zero outside of it. -/
def at3 {a b n : ℕ} (X : (⟨3, ![a, b, n]⟩ : Shape).Idx → EReal) (s r k : ℕ) : EReal :=
  if h : s < a ∧ r < b ∧ k < n then X (ix3 ⟨s, h.1⟩ ⟨r, h.2.1⟩ ⟨k, h.2.2⟩) else 0

theorem at3_of {a b n : ℕ} (X : (⟨3, ![a, b, n]⟩ : Shape).Idx → EReal) (i : (⟨3, ![a, b, n]⟩ : Shape).Idx) (s r k : ℕ)
    (h0 : (i 0).val = s) (h1 : (i 1).val = r) (h2 : (i 2).val = k) : X i = at3 X s r k := by
  subst h0 h1 h2
  unfold at3
  rw [dif_pos ⟨(i 0).isLt, (i 1).isLt, (i 2).isLt⟩]
  exact congrArg X (eq_ix3 i)

/-- One term of the entry at row `r` and column `d` of group `g`. -/
def term (g r d k : ℕ) : EReal := at2 (arg0 m c) r (256 * g + k) * at3 (arg1 m c) g d k

/-- What a grid point stores, entry by entry. -/
theorem pay_at (x : FVec Ideal S1024x256 .bf16) (y : FVec Ideal S1x256x256 .bf16) (r : Fin 1024) (d : Fin 256) :
    (k0_pay1 (F := Ideal) x y (ix2 r d) : EReal) = ∑ k : Fin 256, x (ix2 r k) * y (ix3 0 d k) := by
  pointwise [k0_pay1]

/-! The blocks at a grid point. -/

theorem lt_N (t : Fin cfg0.N) : t.val < 16 := lt_of_lt_of_eq t.isLt N_0

theorem w0 : ∀ t : Fin cfg0.N, Goes (win0_0.index t) (t.val % 4) (t.val / 4) := by decide +kernel
theorem w1 : ∀ t : Fin cfg0.N, Goes3 (win0_1.index t) (t.val / 4) 0 0 := by decide +kernel
theorem w2 : ∀ t : Fin cfg0.N, Goes (win0_2.index t) (t.val % 4) (t.val / 4) := by decide +kernel

theorem host_0 : V m c main_v0 = arg0 m c := by
  unfold V
  after_reads_simp
  rfl

theorem op_0 (t : Fin cfg0.N) (x : Fin 1024) (y : Fin 256) :
    (iblk m c 0 t (ix2 x y) : EReal) = at2 (arg0 m c) (1024 * (t.val % 4) + x) (256 * (t.val / 4) + y) :=
  read2 (host_0 m c) (slot (w0 t).1 rfl) (slot (w0 t).2 rfl)

theorem host_1 (i : S4x256x256.Idx) : (V m c main_v1 i : EReal) = arg1 m c i := by
  unfold V
  after_reads_simp
  rfl

theorem op_1 (t : Fin cfg0.N) (x : Fin 256) (y : Fin 256) :
    iblk m c 1 t (ix3 0 x y) = at3 (arg1 m c) (t.val / 4) x y := by
  have hN := lt_N t
  obtain ⟨h0, h1, h2⟩ := w1 t
  show V m c main_v1 (((cfg0.win 1).blk t).view.emb (ix3 0 x y)) = _
  refine (host_1 m c _).trans ?_
  refine at3_of _ _ _ _ _ ?_ ?_ ?_
  · show win0_1.index t (0 : Fin 3) * 1 + 1 * 0 = t.val / 4
    omega
  · show win0_1.index t (1 : Fin 3) * 256 + 1 * x.val = x.val
    omega
  · show win0_1.index t (2 : Fin 3) * 256 + 1 * y.val = y.val
    omega

/-- What a grid point leaves. -/
theorem point (t : Fin cfg0.N) (r : Fin 1024) (d : Fin 256) :
    (out0_2 (F := Ideal) (iblk m c 0 t) (iblk m c 1 t) (ix2 r d) : EReal)
    = ∑ T ∈ Finset.range 256, term m c (t.val / 4) (1024 * (t.val % 4) + r) d T := by
  unfold out0_2
  rw [View.canon_cons_unit_lit' _ _ _ zeros2, View.ld_unit_lit' _ _ zeros2, View.ld_unit_lit' _ _ zeros3, pay_at, ← Fin.sum_univ_eq_sum_range]
  refine Finset.sum_congr rfl fun k _ => ?_
  rw [op_0 m c t, op_1 m c t]
  unfold term
  simp only [Nat.mul_zero, Nat.zero_add]

/-- The array after the run, entry by entry. -/
def result : S4096x1024.Idx → EReal := fun i => ∑ T ∈ Finset.range 256, term m c ((i 1).val / 256) (i 0).val ((i 1).val % 256) T

theorem final_at (r : Fin 4096) (d : Fin 1024) :
    result m c (ix2 r d) = ∑ T ∈ Finset.range 256, term m c (d.val / 256) r (d.val % 256) T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  funext y
  exact entry2 (f := (out0_2 (F := Ideal) (iblk m c 0 t) (iblk m c 1 t))) (F := result m c) ((cfg0.win 2).xinj (grid0.coords t) y) _ (1024 * (t.val % 4)) (256 * (t.val / 4))
    (slot (w2 t).1 rfl) (slot (w2 t).2 rfl)
    fun r d p q hp hq => (point m c t r d).trans (by rw [final_at, hp, show q.val / 256 = t.val / 4 by omega, show q.val % 256 = d.val by omega])

/-- Every entry is in a block that a grid point writes back. -/
theorem everywhere (i : S4096x1024.Idx) : ∃ t : Fin cfg0.N, (cfg0.win 2).flush t = true ∧ i ∈ ((cfg0.win 2).blk t).view.set := by
  have i0 : (i 0).val < 4096 := (i 0).isLt
  have i1 : (i 1).val < 1024 := (i 1).isLt
  have hN : cfg0.N = 16 := N_0
  obtain ⟨t, ht⟩ : ∃ t : Fin cfg0.N, t.val = (4 * ((i 1).val / 256) + (i 0).val / 1024) := ⟨⟨_, by omega⟩, rfl⟩
  obtain ⟨h0, h1⟩ := w2 t
  exact ⟨t, flush0_2 _, in2 (View.set_slice_whole main_v2 (win0_2.rect t)) 1024 256 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4096x1024, .f32⟩ : BufTy).Contents (Elt Ideal))
    = val_main_v9 (F := Ideal) (arg0 m c) (arg1 m c) := by
  funext i
  have h0 := (i 0).isLt
  have h1 := (i 1).isLt
  change (i 0).val < 4096 at h0
  change (i 1).val < 1024 at h1
  refine Eq.trans ?_ (val_main_v9_apply (F := Ideal) _ _ i).symm
  refine Eq.trans ?_ (val_main_v8_apply (F := Ideal) _ _ _).symm
  refine Eq.trans ?_ (val_main_v7_apply _ _ _).symm
  refine (congrArg (result m c) (eq_ix2 i)).trans ?_
  refine (final_at m c (i 0) (i 1)).trans ?_
  rw [← Fin.sum_univ_eq_sum_range]
  refine Finset.sum_congr rfl fun k _ => ?_
  have hk := k.isLt
  unfold term
  refine congrArg₂ (· * ·) ?_ ?_
  · refine Eq.trans ?_ (val_main_v6_apply (F := Ideal) _ _).symm
    refine Eq.trans ?_ (val_main_v5_apply (F := Ideal) _ _).symm
    refine (at2_of (arg0 m c) _ _ _ ?_ ?_).symm
    · show (((((i 0).val * 1024 + (i 1).val) / 1024) * 4 + (((i 0).val * 1024 + (i 1).val) / 256 % 4)) * 256 + k.val) / 1024 = (i 0).val
      omega
    · show (((((i 0).val * 1024 + (i 1).val) / 1024) * 4 + (((i 0).val * 1024 + (i 1).val) / 256 % 4)) * 256 + k.val) % 1024 = 256 * ((i 1).val / 256) + k.val
      omega
  · refine (at3_of (arg1 m c) _ _ _ _ ?_ ?_ ?_).symm
    · show ((i 0).val * 1024 + (i 1).val) / 256 % 4 = (i 1).val / 256
      omega
    · show ((i 0).val * 1024 + (i 1).val) % 256 = (i 1).val % 256
      omega
    · rfl

end Cert.MatPoolGroup
-- ==== Proof.MatPoolGroupWeight.lean ====
/- The gradient of the grouped product's weights. -/
module

public import proofs.«01_k».proof.Proof.Blocks
public import proofs.«01_k».proof.Proof.Gen.PoolGroupWeightIdeal.Frame
public import proofs.«01_k».proof.Proof.Gen.PoolGroupWeightReferenceIdeal.Read

@[expose] public section

set_option maxRecDepth 16384

noncomputable section

namespace Cert.MatPoolGroupWeight

open Idealize.ShloMosaic PoolGroupWeightIdeal PoolGroupWeightIdeal.Gen PoolGroupWeightReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x1024.Idx → EReal := m ((c.tc : Thread nD τ).loc main_arg0)
abbrev arg1 : S4096x1024.Idx → EReal := m ((c.tc : Thread nD τ).loc main_arg1)

/-- One term of the entry at row `r` and column `d` of group `g`. -/
def term (g r d k : ℕ) : EReal := at2 (arg0 m c) k (256 * g + r) * at2 (arg1 m c) k (256 * g + d)

/-! What a step stores, entry by entry. -/

theorem pay_at (a : FVec Ideal S1x256x256 .f32) (x : FVec Ideal S1024x256 .bf16) (y : FVec Ideal S1024x256 .bf16) (r : Fin 256) (d : Fin 256) :
    (k0_pay2 (F := Ideal) a x y (ix3 0 r d) : EReal) = a (ix3 0 r d) + ∑ k : Fin 1024, x (ix2 k r) * y (ix2 k d) := by
  pointwise [k0_pay2]

theorem zero_at (r : Fin 256) (d : Fin 256) : (k0_pay1 (F := Ideal) (ix3 0 r d) : EReal) = 0 := by
  pointwise [k0_pay1]

/-! What a grid point leaves. -/

theorem left_A (t : Fin cfg0.N) (h0 : t.val % 4 = 0) :
    outsAt0 m c t.val t.isLt = k0_pay2 (F := Ideal) (k0_pay1 (F := Ideal)) (iblk m c 0 t) (iblk m c 1 t) := by
  rw [outsAt0_A m c t h0]
  unfold out0_A_2 kernelRun0_A
  dsimp only
  rw [stored _ _ _ zeros3, kept _ _ zeros2, kept _ _ zeros2]
  sl_unfold_words
  rw [View.readCov_cons_toLoadRect]

theorem left_B (t : Fin cfg0.N) (h0 : ¬t.val % 4 = 0) :
    outsAt0 m c t.val t.isLt = k0_pay2 (F := Ideal) (outsAt0 m c (t.val - 1) (prev t)) (iblk m c 0 t) (iblk m c 1 t) := by
  rw [outsAt0_B m c t h0]
  unfold out0_B_2 kernelRun0_B
  dsimp only
  rw [stored _ _ _ zeros3, kept _ _ zeros3, kept _ _ zeros2, kept _ _ zeros2]

/-! The blocks at a grid point. -/

theorem lt_N (t : Fin cfg0.N) : t.val < 16 := lt_of_lt_of_eq t.isLt N_0

theorem w0 : ∀ t : Fin cfg0.N, Goes (win0_0.index t) (t.val % 4) (t.val / 4) := by decide +kernel
theorem w1 : ∀ t : Fin cfg0.N, Goes (win0_1.index t) (t.val % 4) (t.val / 4) := by decide +kernel
theorem w2 : ∀ t : Fin cfg0.N, Goes3 (win0_2.index t) (t.val / 4) 0 0 := by decide +kernel

theorem host_0 : V m c main_v0 = arg0 m c := by
  unfold V
  after_reads_simp
  rfl

theorem op_0 (t : Fin cfg0.N) (x : Fin 1024) (y : Fin 256) :
    (iblk m c 0 t (ix2 x y) : EReal) = at2 (arg0 m c) (1024 * (t.val % 4) + x) (256 * (t.val / 4) + y) :=
  read2 (host_0 m c) (slot (w0 t).1 rfl) (slot (w0 t).2 rfl)

theorem host_1 : V m c main_v1 = arg1 m c := by
  unfold V
  after_reads_simp
  rfl

theorem op_1 (t : Fin cfg0.N) (x : Fin 1024) (y : Fin 256) :
    (iblk m c 1 t (ix2 x y) : EReal) = at2 (arg1 m c) (1024 * (t.val % 4) + x) (256 * (t.val / 4) + y) :=
  read2 (host_1 m c) (slot (w1 t).1 rfl) (slot (w1 t).2 rfl)

/-- A step adds its block's terms. -/
theorem step_at (t : Fin cfg0.N) (a : FVec Ideal S1x256x256 .f32) (r : Fin 256) (d : Fin 256) :
    (k0_pay2 (F := Ideal) a (iblk m c 0 t) (iblk m c 1 t) (ix3 0 r d) : EReal)
    = a (ix3 0 r d) + ∑ k ∈ Finset.range 1024, term m c (t.val / 4) r d (1024 * (t.val % 4) + k) := by
  rw [pay_at, ← Fin.sum_univ_eq_sum_range]
  refine congrArg (a (ix3 0 r d) + ·) (Finset.sum_congr rfl fun k _ => ?_)
  rw [op_0 m c t, op_1 m c t]
  rfl

/-- What the block holds after step `k` of group `q`. -/
theorem carried (q k : ℕ) (hk : k < 4) (h : 4 * q + k < cfg0.N) (r : Fin 256) (d : Fin 256) :
    (outsAt0 m c (4 * q + k) h (ix3 0 r d) : EReal) = ∑ T ∈ Finset.range (1024 * (k + 1)), term m c q r d T := by
  induction k with
  | zero =>
    have e : (4 * q + 0) / 4 = q := by omega
    have e' : (4 * q + 0) % 4 = 0 := by omega
    rw [left_A m c ⟨4 * q + 0, h⟩ (by dsimp only; omega), step_at m c ⟨4 * q + 0, h⟩, zero_at, zero_add]
    show ∑ k ∈ Finset.range 1024, term m c ((4 * q + 0) / 4) r d (1024 * ((4 * q + 0) % 4) + k) = _
    rw [e, e']
    simp only [Nat.mul_zero, Nat.zero_add, Nat.mul_one]
  | succ k ih =>
    have e : (4 * q + (k + 1)) / 4 = q := by omega
    have e' : (4 * q + (k + 1)) % 4 = k + 1 := by omega
    rw [left_B m c ⟨4 * q + (k + 1), h⟩ (by dsimp only; omega), step_at m c ⟨4 * q + (k + 1), h⟩]
    show (outsAt0 m c (4 * q + k) _ (ix3 0 r d) : EReal) + ∑ k' ∈ Finset.range 1024, term m c ((4 * q + (k + 1)) / 4) r d (1024 * ((4 * q + (k + 1)) % 4) + k') = _
    rw [e, e', ih (by omega) (by omega), Nat.mul_succ 1024 (k + 1), Finset.sum_range_add]

theorem point (t : Fin cfg0.N) (hm : t.val % 4 = 3) (r : Fin 256) (d : Fin 256) :
    (outsAt0 m c t.val t.isLt (ix3 0 r d) : EReal) = ∑ T ∈ Finset.range 4096, term m c (t.val / 4) r d T := by
  have hq : 4 * (t.val / 4) + 3 < cfg0.N := by
    have := t.isLt
    omega
  rw [same (outsAt0 m c) (show t.val = 4 * (t.val / 4) + 3 by omega) t.isLt hq]
  exact carried m c (t.val / 4) 3 (by omega) hq r d

/-- The array after the run, entry by entry. -/
def result : S4x256x256.Idx → EReal := fun i => ∑ T ∈ Finset.range 4096, term m c (i 0).val (i 1).val (i 2).val T

theorem final_at (s : Fin 4) (r : Fin 256) (d : Fin 256) :
    result m c (ix3 s r d) = ∑ T ∈ Finset.range 4096, term m c s r d T := rfl

/-- What a grid point writes back is its block of the array. -/
theorem back (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2]
  have hm := (flush0_2 t).mp hf
  obtain ⟨h0, h1, h2⟩ := w2 t
  funext y
  have y0 : (y 0).val < 1 := (y 0).isLt
  exact entry3 (f := outsAt0 m c t.val t.isLt) (F := result m c) ((cfg0.win 2).xinj (grid0.coords t) y) _ (t.val / 4) (256 * 0) (256 * 0)
    (by show win0_2.index t (0 : Fin 3) * 1 + 1 * (y 0).val = t.val / 4; omega) (slot h1 rfl) (slot h2 rfl)
    fun r d s p q hs hp hq => (point m c t hm r d).trans (by rw [final_at, hs, show p = r from Fin.ext (by omega), show q = d from Fin.ext (by omega)])

/-- Every entry is in a block that a grid point writes back. -/
theorem everywhere (i : S4x256x256.Idx) : ∃ t : Fin cfg0.N, (cfg0.win 2).flush t = true ∧ i ∈ ((cfg0.win 2).blk t).view.set := by
  have i0 : (i 0).val < 4 := (i 0).isLt
  have i1 : (i 1).val < 256 := (i 1).isLt
  have i2 : (i 2).val < 256 := (i 2).isLt
  have hN : cfg0.N = 16 := N_0
  obtain ⟨t, ht⟩ : ∃ t : Fin cfg0.N, t.val = 4 * (i 0).val + 3 := ⟨⟨_, by omega⟩, rfl⟩
  obtain ⟨h0, h1, h2⟩ := w2 t
  exact ⟨t, (flush0_2 _).mpr (by show t.val % 4 = 3; omega), in3 (View.set_slice_whole main_v2 (win0_2.rect t)) 1 256 256 h0 rfl rfl h1 rfl rfl h2 rfl rfl (by omega) (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = result m c
      ∧ holds r.2.mem m c main_arg0
      ∧ holds r.2.mem m c main_arg1 := by
  refine (θ_run defs _ _).mono (fun r h c => ⟨((h c).1 2).trans ((dats m 0 c).arrAt_eq_of_cover 2 _ (back m c) everywhere), ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)

theorem equal : (result m c : (⟨S4x256x256, .f32⟩ : BufTy).Contents (Elt Ideal))
    = val_main_v8 (F := Ideal) (arg0 m c) (arg1 m c) := by
  funext i
  have h0 := (i 0).isLt
  have h1 := (i 1).isLt
  have h2 := (i 2).isLt
  change (i 0).val < 4 at h0
  change (i 1).val < 256 at h1
  change (i 2).val < 256 at h2
  refine Eq.trans ?_ (val_main_v8_apply (F := Ideal) _ _ i).symm
  refine Eq.trans ?_ (val_main_v7_apply _ _ _).symm
  refine (congrArg (result m c) (eq_ix3 i)).trans ?_
  refine (final_at m c (i 0) (i 1) (i 2)).trans ?_
  rw [← Fin.sum_univ_eq_sum_range]
  refine Finset.sum_congr rfl fun k _ => ?_
  have hk := k.isLt
  unfold term
  refine (mul_comm _ _).trans ?_
  refine congrArg₂ (· * ·) ?_ ?_
  · refine Eq.trans ?_ (val_main_v6_apply (F := Ideal) _ _).symm
    refine Eq.trans ?_ (val_main_v5_apply (F := Ideal) _ _).symm
    refine (at2_of (arg1 m c) _ _ _ ?_ ?_).symm
    · show ((k.val * 4 + (i 0).val) * 256 + (i 2).val) / 1024 = k.val
      omega
    · show ((k.val * 4 + (i 0).val) * 256 + (i 2).val) % 1024 = 256 * (i 0).val + (i 2).val
      omega
  · refine Eq.trans ?_ (val_main_v1_apply (F := Ideal) _ _).symm
    refine (at2_of (arg0 m c) _ _ _ ?_ ?_).symm
    · show ((k.val * 4 + (i 0).val) * 256 + (i 1).val) / 1024 = k.val
      omega
    · show ((k.val * 4 + (i 0).val) * 256 + (i 1).val) % 1024 = 256 * (i 0).val + (i 1).val
      omega

end Cert.MatPoolGroupWeight
-- ==== Proof.MatScale.lean ====
/- The gradients of a scaled matrix and of its scale. -/
module

public import proofs.«01_k».proof.Proof.Blocks
public import proofs.«01_k».proof.Proof.Gen.ScaleIdeal.Frame
public import proofs.«01_k».proof.Proof.Gen.ScaleReferenceIdeal.Read

@[expose] public section

set_option maxRecDepth 16384

noncomputable section

namespace Cert.MatScale

open Idealize.ShloMosaic ScaleIdeal ScaleIdeal.Gen ScaleReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x1024.Idx → EReal := m ((c.tc : Thread nD τ).loc main_arg0)
abbrev arg1 : S4096x1024.Idx → EReal := m ((c.tc : Thread nD τ).loc main_arg1)
abbrev arg2 : S1x1024.Idx → EReal := m ((c.tc : Thread nD τ).loc main_arg2)

/-- One term of the scale's gradient at column `d`. -/
def term (d k : ℕ) : EReal := at2 (arg1 m c) k d * at2 (arg0 m c) k d

/-! What a step stores, entry by entry. -/

theorem scaled_at (x : FVec Ideal S256x1024 .f32) (s : FVec Ideal S1x1024 .f32) (r : Fin 256) (d : Fin 1024) :
    (k0_pay2 (F := Ideal) x s (ix2 r d) : EReal) = x (ix2 r d) * s (ix2 0 d) := by
  pointwise [k0_pay2]

theorem pay_at (x : FVec Ideal S256x1024 .f32) (a : FVec Ideal S1x1024 .f32) (y : FVec Ideal S256x1024 .f32) (d : Fin 1024) :
    (k0_pay3 (F := Ideal) x a y (ix2 0 d) : EReal) = a (ix2 0 d) + ∑ k : Fin 256, x (ix2 k d) * y (ix2 k d) := by
  pointwise [k0_pay3]

theorem zero_at (d : Fin 1024) : (k0_pay1 (F := Ideal) (ix2 0 d) : EReal) = 0 := by
  pointwise [k0_pay1]

/-! What a grid point leaves. -/

theorem scaled (t : Fin cfg0.N) : (outsAt0 m c t.val t.isLt).1 = k0_pay2 (F := Ideal) (iblk m c 0 t) (iblk m c 2 t) := by
  by_cases h0 : t.val % 16 = 0
  · rw [outsAt0_A m c t h0]
    dsimp only
    unfold out0_A_3 kernelRun0_A
    dsimp only
    rw [stored _ _ _ zeros2, kept _ _ zeros2, kept _ _ zeros2]
  · rw [outsAt0_B m c t h0]
    dsimp only
    unfold out0_B_3 kernelRun0_B
    dsimp only
    rw [stored _ _ _ zeros2, kept _ _ zeros2, kept _ _ zeros2]

theorem left_A (t : Fin cfg0.N) (h0 : t.val % 16 = 0) :
    (outsAt0 m c t.val t.isLt).2 = k0_pay3 (F := Ideal) (iblk m c 0 t) (k0_pay1 (F := Ideal)) (iblk m c 1 t) := by
  rw [outsAt0_A m c t h0]
  dsimp only
  unfold out0_A_4 kernelRun0_A
  dsimp only
  rw [stored _ _ _ zeros2, kept _ _ zeros2, kept _ _ zeros2]
  sl_unfold_words
  rw [View.readCov_cons_toLoadRect]

theorem left_B (t : Fin cfg0.N) (h0 : ¬t.val % 16 = 0) :
    (outsAt0 m c t.val t.isLt).2 = k0_pay3 (F := Ideal) (iblk m c 0 t) (outsAt0 m c (t.val - 1) (prev t)).2 (iblk m c 1 t) := by
  rw [outsAt0_B m c t h0]
  dsimp only
  unfold out0_B_4 kernelRun0_B
  dsimp only
  rw [stored _ _ _ zeros2, kept _ _ zeros2, kept _ _ zeros2, kept _ _ zeros2]

/-! The blocks at a grid point. -/

/-- The last grid point. -/
abbrev last : Fin cfg0.N := ⟨15, by decide⟩

theorem lt_N (t : Fin cfg0.N) : t.val < 16 := lt_of_lt_of_eq t.isLt N_0

theorem w0 : ∀ t : Fin cfg0.N, Goes (win0_0.index t) t.val 0 := by decide +kernel
theorem w1 : ∀ t : Fin cfg0.N, Goes (win0_1.index t) t.val 0 := by decide +kernel
theorem w2 : ∀ t : Fin cfg0.N, Goes (win0_2.index t) 0 0 := by decide +kernel
theorem w3 : ∀ t : Fin cfg0.N, Goes (win0_3.index t) t.val 0 := by decide +kernel
theorem w4 : ∀ t : Fin cfg0.N, Goes (win0_4.index t) 0 0 := by decide +kernel

theorem op_0 (t : Fin cfg0.N) (x : Fin 256) (y : Fin 1024) :
    (iblk m c 0 t (ix2 x y) : EReal) = at2 (arg0 m c) (256 * t.val + x) (1024 * 0 + y) :=
  read2 (V_main_arg0 m c) (slot (w0 t).1 rfl) (slot (w0 t).2 rfl)

theorem op_1 (t : Fin cfg0.N) (x : Fin 256) (y : Fin 1024) :
    (iblk m c 1 t (ix2 x y) : EReal) = at2 (arg1 m c) (256 * t.val + x) (1024 * 0 + y) :=
  read2 (V_main_arg1 m c) (slot (w1 t).1 rfl) (slot (w1 t).2 rfl)

theorem op_2 (t : Fin cfg0.N) (x : Fin 1) (y : Fin 1024) :
    (iblk m c 2 t (ix2 x y) : EReal) = at2 (arg2 m c) (1 * 0 + x) (1024 * 0 + y) :=
  read2 (V_main_arg2 m c) (slot (w2 t).1 rfl) (slot (w2 t).2 rfl)

/-- What a grid point leaves of the scaled matrix. -/
theorem point0 (t : Fin cfg0.N) (r : Fin 256) (d : Fin 1024) :
    ((outsAt0 m c t.val t.isLt).1 (ix2 r d) : EReal) = at2 (arg0 m c) (256 * t.val + r) d * at2 (arg2 m c) 0 d := by
  rw [scaled m c t, scaled_at, op_0 m c t, op_2 m c t]
  simp only [Nat.mul_zero, Nat.zero_add]
  rfl

/-- A step adds its rows' terms. -/
theorem step_at (t : Fin cfg0.N) (a : FVec Ideal S1x1024 .f32) (d : Fin 1024) :
    (k0_pay3 (F := Ideal) (iblk m c 0 t) a (iblk m c 1 t) (ix2 0 d) : EReal)
    = a (ix2 0 d) + ∑ k ∈ Finset.range 256, term m c d (256 * t.val + k) := by
  rw [pay_at, ← Fin.sum_univ_eq_sum_range]
  refine congrArg (a (ix2 0 d) + ·) (Finset.sum_congr rfl fun k _ => ?_)
  rw [op_0 m c t, op_1 m c t, mul_comm]
  simp only [Nat.mul_zero, Nat.zero_add]
  rfl

theorem point1 (t : Fin cfg0.N) (hm : t.val % 16 = 15) (d : Fin 1024) :
    ((outsAt0 m c t.val t.isLt).2 (ix2 0 d) : EReal) = ∑ T ∈ Finset.range 4096, term m c d T :=
  grown (n := 16) (b := 256) (term m c d) (fun t h => (outsAt0 m c t h).2 (ix2 0 d))
    (fun t h h0 => by rw [left_A m c ⟨t, h⟩ h0, step_at m c ⟨t, h⟩, zero_at, zero_add])
    (fun t h h0 => by rw [left_B m c ⟨t, h⟩ h0, step_at m c ⟨t, h⟩]) t.val t.isLt (lt_N t) (congrArg (· + 1) hm)

/-! The arrays after the run, entry by entry. -/

def result0 : S4096x1024.Idx → EReal := fun i => at2 (arg0 m c) (i 0).val (i 1).val * at2 (arg2 m c) 0 (i 1).val

def result1 : S1x1024.Idx → EReal := fun i => ∑ T ∈ Finset.range 4096, term m c (i 1).val T

theorem final1_at (z : Fin 1) (d : Fin 1024) : result1 m c (ix2 z d) = ∑ T ∈ Finset.range 4096, term m c d T := rfl

/-- What a grid point writes back is its block of the array. -/
theorem back0 (t : Fin cfg0.N) (hf : (cfg0.win 3).flush t = true) :
    (dats m 0 c).flushed 3 t = ((cfg0.win 3).blk t).view.read (Elt Ideal) (result0 m c) := by
  show (cfg0.win 3).cut (grid0.coords t) ((dats m 0 c).after 3 t) = _
  rw [after0_3]
  funext y
  exact entry2 (f := (outsAt0 m c t.val t.isLt).1) (F := result0 m c) ((cfg0.win 3).xinj (grid0.coords t) y) _ (256 * t.val) (1024 * 0)
    (slot (w3 t).1 rfl) (slot (w3 t).2 rfl)
    fun r d p q hp hq => (point0 m c t r d).trans (by rw [← hp, ← show q = d from Fin.ext (by omega)]; rfl)

/-- Every entry is in a block that a grid point writes back. -/
theorem everywhere0 (i : S4096x1024.Idx) : ∃ t : Fin cfg0.N, (cfg0.win 3).flush t = true ∧ i ∈ ((cfg0.win 3).blk t).view.set :=
  have ⟨t, e0, e1⟩ := rowsOf (N := cfg0.N) (n := 256) i rfl
  ⟨t, flush0_3 _, in2 (View.set_slice_whole main_v0_0 (win0_3.rect t)) 256 1024 (w3 t).1 rfl rfl (w3 t).2 rfl rfl e0 e1⟩

theorem back1 (t : Fin cfg0.N) (hf : (cfg0.win 4).flush t = true) :
    (dats m 0 c).flushed 4 t = ((cfg0.win 4).blk t).view.read (Elt Ideal) (result1 m c) := by
  show (cfg0.win 4).cut (grid0.coords t) ((dats m 0 c).after 4 t) = _
  rw [after0_4]
  have hm := (flush0_4 t).mp hf
  funext y
  exact entry2 (f := (outsAt0 m c t.val t.isLt).2) (F := result1 m c) ((cfg0.win 4).xinj (grid0.coords t) y) _ (1 * 0) (1024 * 0)
    (slot (w4 t).1 rfl) (slot (w4 t).2 rfl)
    fun r d p q hp hq => by
    rw [Subsingleton.elim (α := Fin 1) r 0]
    exact (point1 m c t hm d).trans (by rw [← show q = d from Fin.ext (by omega)]; rfl)

theorem everywhere1 (i : S1x1024.Idx) : ∃ t : Fin cfg0.N, (cfg0.win 4).flush t = true ∧ i ∈ ((cfg0.win 4).blk t).view.set :=
  ⟨last, (flush0_4 _).mpr rfl, in2 (View.set_slice_whole main_v0_1 (win0_4.rect last)) 1 1024 (w4 last).1 rfl rfl (w4 last).2 rfl rfl (whole i).1 (whole i).2⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ holds r.2.mem m c main_arg0
      ∧ holds r.2.mem m c main_arg1
      ∧ holds r.2.mem m c main_arg2 := by
  exact (θ_run defs _ _).mono (fun r h c =>
    have k := fun w e => ((h c).1 w).trans (((dats m 0 c).arrAt_in w e _).trans (A_eq m c w))
    ⟨((h c).1 3).trans ((dats m 0 c).arrAt_eq_of_cover 3 _ (back0 m c) everywhere0), ((h c).1 4).trans ((dats m 0 c).arrAt_eq_of_cover 4 _ (back1 m c) everywhere1), (k 0 rfl).trans (V_main_arg0 m c), (k 1 rfl).trans (V_main_arg1 m c), (k 2 rfl).trans (V_main_arg2 m c)⟩) (run_main m ρ)

theorem equal0 : (result0 m c : (⟨S4096x1024, .bf16⟩ : BufTy).Contents (Elt Ideal))
    = val_main_v10 (F := Ideal) (arg0 m c) (arg2 m c) := by
  funext i
  have h1 := (i 1).isLt
  change (i 1).val < 1024 at h1
  refine Eq.trans ?_ (val_main_v10_apply (F := Ideal) _ _ i).symm
  refine Eq.trans ?_ (val_main_v8_apply (F := Ideal) _ _ i).symm
  refine congrArg₂ (fun a b : EReal => a * b) (at2_of (arg0 m c) i _ _ rfl rfl).symm ?_
  refine Eq.trans ?_ (val_main_v7_apply (F := Ideal) _ i).symm
  refine Eq.trans ?_ (val_main_v1_apply (F := Ideal) _ _).symm
  refine Eq.trans ?_ (val_main_v0_apply (F := Ideal) _ _).symm
  refine (at2_of (arg2 m c) _ _ _ ?_ ?_).symm
  · rfl
  · exact Nat.mod_eq_of_lt h1

theorem equal1 : (result1 m c : (⟨S1x1024, .f32⟩ : BufTy).Contents (Elt Ideal))
    = val_main_v11 (F := Ideal) (arg0 m c) (arg1 m c) := by
  funext i
  refine Eq.trans ?_ (val_main_v11_apply (F := Ideal) _ _ i).symm
  refine Eq.trans ?_ (val_main_v9_apply _ _ _).symm
  rw [Fin.sum_univ_one, val_main_v6_apply, val_main_v5_apply, val_main_cst_apply, val_main_cst_0_apply]
  refine (congrArg (result1 m c) (eq_ix2 i)).trans ?_
  refine (final1_at m c (i 0) (i 1)).trans ?_
  rw [← Fin.sum_univ_eq_sum_range]
  have z : (Ideal.ofBits .f32 0x00000000#32 : EReal) = 0 := by simp [Ideal.ofBits, Ideal.ieee]
  refine Eq.trans ?_ (congrArg₂ (fun a b : EReal => a + b) z.symm (congrArg₂ (fun a b : EReal => a + b) z.symm rfl))
  rw [zero_add, zero_add]
  refine Finset.sum_congr rfl fun k _ => ?_
  refine Eq.trans ?_ (val_main_v4_apply (F := Ideal) _ _ _).symm
  have h0 := (i 0).isLt
  change (i 0).val < 1 at h0
  unfold term
  refine congrArg₂ (fun a b : EReal => a * b) (at2_of (arg1 m c) _ _ _ ?_ ?_).symm (at2_of (arg0 m c) _ _ _ ?_ ?_).symm
  · rfl
  · show 0 * 1024 + ((i 0).val * 1024 + (i 1).val) = (i 1).val
    omega
  · rfl
  · show 0 * 1024 + ((i 0).val * 1024 + (i 1).val) = (i 1).val
    omega

end Cert.MatScale
-- ==== Proof.Norm.lean ====
/- The gradient of a root-mean-square norm in its argument, at one row: the two ways of writing it agree. -/
module

public import proofs.«01_k».proof.Proof.Blocks

@[expose] public section

noncomputable section

namespace Cert.Norm

open Idealize.ShloMosaic Idealize.ShloMosaic.TcCoe

/-- The row's length, the number under the root's guard, and minus a half, as the programs print them. -/
abbrev len : EReal := Ideal.ofBits .f32 0x45000000#32
abbrev eps : EReal := Ideal.ofBits .f32 0x358637BD#32
abbrev half : EReal := Ideal.ofBits .f32 0xBF000000#32

theorem len_eq : len = ((2048 : ℝ) : EReal) := by
  simp [len, Ideal.ofBits, Ideal.ieee]
  rw [← EReal.coe_mul]
  norm_num

theorem half_eq : half = ((-(1 / 2) : ℝ) : EReal) := by
  simp [half, Ideal.ofBits, Ideal.ieee]
  rw [← EReal.coe_mul]
  norm_num

theorem eps_pos : ∃ e : ℝ, 0 < e ∧ eps = (e : EReal) := by
  refine ⟨8796093 * 2 ^ (-43 : ℤ), by positivity, ?_⟩
  simp [eps, Ideal.ofBits, Ideal.ieee]

theorem zero_eq : Ideal.ofBits .f32 0x00000000#32 = 0 := by
  simp [Ideal.ofBits, Ideal.ieee]

theorem div_len (x : EReal) : Ideal.div x len = x * ((2048⁻¹ : ℝ) : EReal) := by
  unfold Ideal.div
  rw [len_eq, if_neg (by norm_num), ← EReal.coe_inv]

variable (x d : Fin 2048 → EReal)

/-- The guarded mean of the squares, and the inverse of its root. -/
def mean : EReal := Ideal.div (∑ k, x k * x k) len + eps
def inv : EReal := Ideal.rsqrt (mean x)

/-- The normed row with its gain. -/
def out (j : Fin 2048) : EReal := x j * inv x * d j

/-- The gradient as the kernel computes it. -/
def grad (j : Fin 2048) : EReal := inv x * (d j - x j * inv x * Ideal.div (∑ k, d k * (x k * inv x)) len)

/-- What the mean of the squares passes back to each entry, as the reference computes it. -/
def back : EReal := Ideal.div ((∑ k, x k * d k) * (half * Ideal.div (inv x) (mean x))) len

theorem square_nonneg (a : EReal) : 0 ≤ a * a := by
  induction a with
  | bot => simp
  | top => simp
  | coe r => exact_mod_cast mul_self_nonneg r

theorem mean_cases : mean x = ⊤ ∨ ∃ v : ℝ, 0 < v ∧ mean x = (v : EReal) := by
  obtain ⟨e, he, hE⟩ := eps_pos
  have h : 0 ≤ Ideal.div (∑ k, x k * x k) len := by
    rw [div_len]
    exact EReal.mul_nonneg (Finset.sum_nonneg fun k _ => square_nonneg (x k)) (by norm_num)
  unfold mean
  rw [hE]
  generalize Ideal.div (∑ k, x k * x k) len = a at h
  induction a with
  | bot => simp at h
  | top => exact Or.inl (EReal.top_add_coe e)
  | coe r =>
    refine Or.inr ⟨r + e, ?_, (EReal.coe_add r e).symm⟩
    have : (0 : ℝ) ≤ r := by exact_mod_cast h
    linarith

theorem sum_scale (r : EReal) (h0 : 0 ≤ r) (ht : r ≠ ⊤) (s : Finset (Fin 2048)) :
    ∑ k ∈ s, d k * (x k * r) = r * ∑ k ∈ s, x k * d k := by
  classical
  induction s using Finset.induction_on with
  | empty => simp
  | insert a s ha ih =>
    rw [Finset.sum_insert ha, Finset.sum_insert ha, ih, EReal.left_distrib_of_nonneg_of_ne_top h0 ht]
    congr 1
    ac_rfl

theorem grad_eq (j : Fin 2048) : grad x d j = d j * inv x + x j * back x d + back x d * x j := by
  unfold grad back
  rcases mean_cases x with h | ⟨v, hv, h⟩
  · have hr : inv x = 0 := by unfold inv; rw [h]; rfl
    rw [hr, h]
    have hd : Ideal.div 0 ⊤ = 0 := by unfold Ideal.div; rw [if_neg (by simp)]; simp
    rw [hd]
    simp [div_len]
  · have hr : inv x = (((Real.sqrt v)⁻¹ : ℝ) : EReal) := by
      unfold inv
      rw [h]
      show (if v < 0 then ⊥ else if v = 0 then ⊤ else (((Real.sqrt v)⁻¹ : ℝ) : EReal)) = _
      rw [if_neg (not_lt.mpr hv.le), if_neg hv.ne']
    have hs : 0 < Real.sqrt v := Real.sqrt_pos.mpr hv
    have hp : 0 < (Real.sqrt v)⁻¹ := inv_pos.mpr hs
    have hq : (Real.sqrt v)⁻¹ * (Real.sqrt v)⁻¹ = v⁻¹ := by rw [← mul_inv, Real.mul_self_sqrt hv.le]
    rw [h, hr, half_eq, div_len, div_len]
    have hd : Ideal.div (((Real.sqrt v)⁻¹ : ℝ) : EReal) (v : EReal) = (((Real.sqrt v)⁻¹ * v⁻¹ : ℝ) : EReal) := by
      unfold Ideal.div
      rw [if_neg (by exact_mod_cast hv.ne'), ← EReal.coe_inv, ← EReal.coe_mul]
    rw [hd]
    generalize (Real.sqrt v)⁻¹ = r at hp hq ⊢
    have h0 : (0 : EReal) ≤ (r : EReal) := by exact_mod_cast hp.le
    rw [sum_scale x d (r : EReal) h0 (EReal.coe_ne_top r), EReal.mul_sub_of_nonneg_of_ne_top h0 (EReal.coe_ne_top r)]
    generalize ∑ k, x k * d k = S
    have hz : ∀ b : ℝ, x j * (S * (((-(1 / 2) : ℝ) : EReal) * (b : EReal)) * ((2048⁻¹ : ℝ) : EReal)) = ((b * (1 / 2) * 2048⁻¹ : ℝ) : EReal) * -(x j * S) := by
      intro b
      rw [mul_neg, ← neg_mul, ← EReal.coe_neg, mul_assoc S, ← EReal.coe_mul, ← EReal.coe_mul, ← mul_assoc, mul_comm]
      congr 2
      ring
    have hn : (0 : ℝ) ≤ r * v⁻¹ * (1 / 2) * 2048⁻¹ := by have := inv_pos.mpr hv; positivity
    have hn' : (0 : EReal) ≤ ((r * v⁻¹ * (1 / 2) * 2048⁻¹ : ℝ) : EReal) := by exact_mod_cast hn
    rw [mul_comm _ (x j), hz, add_assoc, ← EReal.right_distrib_of_nonneg hn' hn', ← EReal.coe_add, sub_eq_add_neg, mul_comm (d j)]
    congr 1
    rw [mul_neg]
    congr 1
    rw [show (r : EReal) * (x j * r * (r * S * ((2048⁻¹ : ℝ) : EReal))) = ((r : EReal) * r * r * ((2048⁻¹ : ℝ) : EReal)) * (x j * S) by ac_rfl,
      ← EReal.coe_mul, ← EReal.coe_mul, ← EReal.coe_mul]
    congr 2
    rw [mul_assoc r r r, hq]
    ring

theorem add_grad_eq (a : EReal) (j : Fin 2048) :
    a + grad x d j = a + d j * inv x + x j * back x d + back x d * x j := by
  rw [grad_eq, ← add_assoc, ← add_assoc]

end Cert.Norm
-- ==== Proof.NormRef.lean ====
/- The norm and its gradient as the reference computes it, for any arrays; the three norms share it. -/
module

public import proofs.«01_k».proof.Proof.Norm
public import proofs.«01_k».proof.Proof.Gen.NormInReferenceIdeal.Read
public import proofs.«01_k».proof.Proof.Gen.NormInForwardReferenceIdeal.Read
public import Idealize.ShloMosaic.Lib.StableHlo.ReadAt

@[expose] public section

set_option maxRecDepth 16384

noncomputable section

namespace Cert.NormRef

open Idealize.ShloMosaic Cert.NormInReferenceIdeal Cert.NormInReferenceIdeal.Read Cert.Blk Idealize.ShloMosaic.TcCoe

variable (b g x : S4096x2048.Idx → EReal) (s : S1x2048.Idx → EReal)

/-- A row of the norm's argument, and of the gradient that reaches the normed row. -/
def row (r : ℕ) : Fin 2048 → EReal := fun k => at2 x r k
def drow (r : ℕ) : Fin 2048 → EReal := fun k => at2 g r k * at2 s 0 k

theorem mean_ref (i : S4096x1.Idx) : (val_main_v7 (F := Ideal) x i : EReal) = Norm.mean (row x (i 0).val) := by
  rw [val_main_v7_apply, val_main_v5_apply, val_main_v3_apply, val_main_v2_apply, val_main_v4_apply, val_main_v6_apply, val_main_cst_apply, val_main_cst_0_apply, val_main_cst_1_apply]
  show Ideal.div ((Ideal.ofBits .f32 0x00000000#32 : EReal) + ∑ k : Fin 2048, val_main_v1 (F := Ideal) x (idx_main_v2 (idx_main_v3 i) k)) Norm.len + Norm.eps = _
  rw [Norm.zero_eq, zero_add]
  unfold Norm.mean
  refine congrArg (fun s : EReal => Ideal.div s Norm.len + Norm.eps) (Finset.sum_congr rfl fun k _ => ?_)
  refine (val_main_v1_apply (F := Ideal) _ _).trans ?_
  exact congrArg₂ (fun a b : EReal => a * b) (at2_of x _ _ _ rfl rfl) (at2_of x _ _ _ rfl rfl)

theorem inv_ref (i : S4096x1.Idx) : (val_main_v8 (F := Ideal) x i : EReal) = Norm.inv (row x (i 0).val) :=
  (val_main_v8_apply (F := Ideal) _ i).trans (congrArg Ideal.rsqrt (mean_ref x i))

theorem hat_ref (i : S4096x2048.Idx) : (val_main_v13 (F := Ideal) x i : EReal)
    = at2 x (i 0).val (i 1).val * Norm.inv (row x (i 0).val) := by
  rw [val_main_v13_apply, val_main_v12_apply, inv_ref x]
  exact congrArg₂ (fun a b : EReal => a * b) (at2_of x _ _ _ rfl rfl) rfl

theorem d_ref (i : S4096x2048.Idx) : (val_main_v21 (F := Ideal) g s i : EReal) = drow g s (i 0).val (i 1) := by
  have h1 := (i 1).isLt
  change (i 1).val < 2048 at h1
  rw [val_main_v21_apply, val_main_v20_apply, val_main_v14_apply, val_main_v0_apply]
  refine congrArg₂ (fun a b : EReal => a * b) ?_ (at2_of s _ _ _ rfl (Nat.mod_eq_of_lt h1))
  exact at2_of g _ _ _ rfl rfl

theorem back_ref (i : S4096.Idx) : (val_main_v32 (F := Ideal) g x s i : EReal) = Norm.back (row x (i 0).val) (drow g s (i 0).val) := by
  rw [val_main_v32_apply, Fin.sum_univ_one, val_main_v31_apply, val_main_v29_apply, val_main_v25_apply, val_main_v24_apply, val_main_v11_apply, val_main_v10_apply, val_main_v9_apply, val_main_v30_apply, inv_ref x, mean_ref x,
    val_main_cst_7_apply, val_main_cst_5_apply, val_main_cst_2_apply, val_main_cst_6_apply]
  show (Ideal.ofBits .f32 0x00000000#32 : EReal) + Ideal.div (((Ideal.ofBits .f32 0x00000000#32 : EReal) + ∑ k : Fin 2048, val_main_v23 (F := Ideal) g x s
    (idx_main_v24 (idx_main_v25 (idx_main_v32 i 0)) k)) * (Norm.half * Ideal.div (Norm.inv (row x (i 0).val)) (Norm.mean (row x (i 0).val)))) Norm.len = _
  rw [Norm.zero_eq, zero_add, zero_add]
  unfold Norm.back
  refine congrArg (fun s : EReal => Ideal.div (s * (Norm.half * Ideal.div (Norm.inv (row x (i 0).val)) (Norm.mean (row x (i 0).val)))) Norm.len) (Finset.sum_congr rfl fun k _ => ?_)
  have e : (i 0).val * 1 + 0 = (i 0).val := by omega
  refine (val_main_v23_apply (F := Ideal) _ _ _ _).trans ?_
  refine congrArg₂ (fun a b : EReal => a * b) (at2_of x _ _ _ e rfl) ?_
  exact (d_ref g s _).trans (congrArg (fun r => drow g s r k) e)

/-- The gradient of the argument. -/
theorem grad_ref (i : S4096x2048.Idx) (u d : Fin 2048 → EReal) (hu : row x (i 0).val = u) (hd : drow g s (i 0).val = d) :
    (HMul.hMul (α := EReal) (β := EReal) (γ := EReal) (val_main_v21 (F := Ideal) g s i) (val_main_v8 (F := Ideal) x (idx_main_v26 i)) + x i * val_main_v32 (F := Ideal) g x s (idx_main_v33 i)
      + val_main_v32 (F := Ideal) g x s (idx_main_v33 i) * x i : EReal) = Norm.grad u d (i 1) := by
  subst hu hd
  have hx : x i = row x (i 0).val (i 1) := at2_of x i _ _ rfl rfl
  rw [inv_ref x, d_ref g s, back_ref g x s, hx]
  exact (Norm.grad_eq (row x (i 0).val) (drow g s (i 0).val) (i 1)).symm

/-- The gradient of the argument, with the gradient that goes around the norm. -/
theorem around_ref (i : S4096x2048.Idx) : (val_main_v37 (F := Ideal) b g x s i : EReal)
    = at2 b (i 0).val (i 1).val + Norm.grad (row x (i 0).val) (drow g s (i 0).val) (i 1) := by
  rw [val_main_v37_apply, val_main_v35_apply, val_main_v34_apply, val_main_v36_apply, val_main_v33_apply, val_main_v28_apply, val_main_v27_apply, val_main_v26_apply, inv_ref x, d_ref g s, back_ref g x s]
  refine Eq.symm ((Norm.add_grad_eq (row x (i 0).val) (drow g s (i 0).val) (at2 b (i 0).val (i 1).val) (i 1)).trans ?_)
  refine congrArg₂ (fun a b : EReal => a + b) (congrArg₂ (fun a b : EReal => a + b) (congrArg₂ (fun a b : EReal => a + b) (at2_of b i _ _ rfl rfl).symm rfl)
    (congrArg₂ (fun a b : EReal => a * b) (at2_of x i _ _ rfl rfl).symm rfl)) (congrArg₂ (fun a b : EReal => a * b) rfl (at2_of x i _ _ rfl rfl).symm)

/-- The gain's gradient. -/
theorem gain_ref (i : S1x2048.Idx) : (val_main_v38 (F := Ideal) g x i : EReal)
    = ∑ T ∈ Finset.range 4096, at2 g T (i 1).val * (at2 x T (i 1).val * Norm.inv (row x T)) := by
  have h0 := (i 0).isLt
  change (i 0).val < 1 at h0
  rw [val_main_v38_apply, val_main_v22_apply, Fin.sum_univ_one, val_main_v19_apply, val_main_v18_apply, val_main_cst_4_apply, val_main_cst_3_apply]
  show (Ideal.ofBits .f32 0x00000000#32 : EReal) + ((Ideal.ofBits .f32 0x00000000#32 : EReal) + _) = _
  rw [Norm.zero_eq, zero_add, zero_add, ← Fin.sum_univ_eq_sum_range]
  refine Finset.sum_congr rfl fun k _ => ?_
  refine (val_main_v17_apply (F := Ideal) _ _ _).trans ?_
  have e : 0 * 2048 + ((i 0).val * 2048 + (i 1).val) = (i 1).val := by omega
  refine (congrArg₂ (fun a b : EReal => a * b) ?_ ?_).trans (mul_comm _ _)
  · exact (hat_ref x _).trans (congrArg (fun d => at2 x k d * Norm.inv (row x k)) e)
  · exact at2_of g _ _ _ rfl e

/-- The norm itself. -/
theorem out_ref (i : S4096x2048.Idx) : (Cert.NormInForwardReferenceIdeal.Read.val_main_v14 (F := Ideal) x s i : EReal)
    = Norm.out (row x (i 0).val) (fun k => at2 s 0 k) (i 1) := by
  have h1 := (i 1).isLt
  change (i 1).val < 2048 at h1
  rw [Cert.NormInForwardReferenceIdeal.Read.val_main_v14_apply, Cert.NormInForwardReferenceIdeal.Read.val_main_v13_apply,
    Cert.NormInForwardReferenceIdeal.Read.val_main_v12_apply, Cert.NormInForwardReferenceIdeal.Read.val_main_v11_apply, Cert.NormInForwardReferenceIdeal.Read.val_main_v0_apply]
  exact congrArg₂ (fun a b : EReal => a * b) (hat_ref x i) (at2_of s _ _ _ rfl (Nat.mod_eq_of_lt h1))

end Cert.NormRef
-- ==== Proof.MatNormIn.lean ====
/- The gradient of the block's first norm, added to the gradient that goes around it. -/
module

public import proofs.«01_k».proof.Proof.Blocks
public import proofs.«01_k».proof.Proof.NormRef
public import proofs.«01_k».proof.Proof.Gen.NormInIdeal.Frame
public import proofs.«01_k».proof.Proof.Gen.NormInReferenceIdeal.Read

@[expose] public section

set_option maxRecDepth 16384

noncomputable section

namespace Cert.MatNormIn

open Idealize.ShloMosaic NormInIdeal NormInIdeal.Gen NormInReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S4096x2048.Idx → EReal := m ((c.tc : Thread nD τ).loc main_arg1)
abbrev arg2 : S4096x2048.Idx → EReal := m ((c.tc : Thread nD τ).loc main_arg2)
abbrev arg3 : S1x2048.Idx → EReal := m ((c.tc : Thread nD τ).loc main_arg3)

/-- A row of the norm's argument, and of the gradient that reaches the normed row. -/
def rowx (r : ℕ) : Fin 2048 → EReal := fun k => at2 (arg2 m c) r k
def rowd (r : ℕ) : Fin 2048 → EReal := fun k => at2 (arg1 m c) r k * at2 (arg3 m c) 0 k

/-- One term of the gain's gradient at column `d`. -/
def term (d k : ℕ) : EReal := at2 (arg1 m c) k d * (at2 (arg2 m c) k d * Norm.inv (rowx m c k))

/-! What a step stores, entry by entry. -/

theorem inv_at (x : FVec Ideal S256x2048 .f32) (r : Fin 256) :
    (k0_pay2 (F := Ideal) x (ix2 r 0) : EReal) = Norm.inv fun k => x (ix2 r k) := by
  pointwise [k0_pay2]
  rfl

theorem hat_at (x : FVec Ideal S256x2048 .f32) (r : Fin 256) (d : Fin 2048) :
    (k0_pay3 (F := Ideal) x (ix2 r d) : EReal) = x (ix2 r d) * Norm.inv fun k => x (ix2 r k) := by
  unfold k0_pay3
  pointwise []
  rw [inv_at]

theorem row_at (x : FVec Ideal S256x2048 .f32) (s : FVec Ideal S1x2048 .f32) (y a : FVec Ideal S256x2048 .f32) (r : Fin 256) (d : Fin 2048) :
    (k0_pay4 (F := Ideal) x s y a (ix2 r d) : EReal)
    = a (ix2 r d) + Norm.grad (fun k => x (ix2 r k)) (fun k => y (ix2 r k) * s (ix2 0 k)) d := by
  unfold k0_pay4
  pointwise []
  simp only [hat_at, inv_at]
  rfl

theorem pay_at (x y : FVec Ideal S256x2048 .f32) (a : FVec Ideal S1x2048 .f32) (d : Fin 2048) :
    (k0_pay5 (F := Ideal) x y a (ix2 0 d) : EReal)
    = a (ix2 0 d) + ∑ k : Fin 256, y (ix2 k d) * (x (ix2 k d) * Norm.inv fun j => x (ix2 k j)) := by
  unfold k0_pay5
  pointwise []
  simp only [hat_at]

theorem zero_at (d : Fin 2048) : (k0_pay1 (F := Ideal) (ix2 0 d) : EReal) = 0 := by
  pointwise [k0_pay1]

/-! What a grid point leaves. -/

theorem rows (t : Fin cfg0.N) : (outsAt0 m c t.val t.isLt).1 = k0_pay4 (F := Ideal) (iblk m c 2 t) (iblk m c 3 t) (iblk m c 1 t) (iblk m c 0 t) := by
  by_cases h0 : t.val % 16 = 0
  · rw [outsAt0_A m c t h0]
    dsimp only
    unfold out0_A_4 kernelRun0_A
    dsimp only
    rw [stored _ _ _ zeros2, kept _ _ zeros2, kept _ _ zeros2, kept _ _ zeros2, kept _ _ zeros2]
  · rw [outsAt0_B m c t h0]
    dsimp only
    unfold out0_B_4 kernelRun0_B
    dsimp only
    rw [stored _ _ _ zeros2, kept _ _ zeros2, kept _ _ zeros2, kept _ _ zeros2, kept _ _ zeros2]

theorem left_A (t : Fin cfg0.N) (h0 : t.val % 16 = 0) :
    (outsAt0 m c t.val t.isLt).2 = k0_pay5 (F := Ideal) (iblk m c 2 t) (iblk m c 1 t) (k0_pay1 (F := Ideal)) := by
  rw [outsAt0_A m c t h0]
  dsimp only
  unfold out0_A_5 kernelRun0_A
  dsimp only
  rw [stored _ _ _ zeros2]
  sl_unfold_words
  rw [kept _ _ zeros2, kept _ _ zeros2, View.readCov_cons_toLoadRect]

theorem left_B (t : Fin cfg0.N) (h0 : ¬t.val % 16 = 0) :
    (outsAt0 m c t.val t.isLt).2 = k0_pay5 (F := Ideal) (iblk m c 2 t) (iblk m c 1 t) (outsAt0 m c (t.val - 1) (prev t)).2 := by
  rw [outsAt0_B m c t h0]
  dsimp only
  unfold out0_B_5 kernelRun0_B
  dsimp only
  rw [stored _ _ _ zeros2]
  sl_unfold_words
  rw [kept _ _ zeros2, kept _ _ zeros2, kept _ _ zeros2]

/-! The blocks at a grid point. -/

/-- The last grid point. -/
abbrev last : Fin cfg0.N := ⟨15, by decide⟩

theorem lt_N (t : Fin cfg0.N) : t.val < 16 := lt_of_lt_of_eq t.isLt N_0

theorem w0 : ∀ t : Fin cfg0.N, Goes (win0_0.index t) t.val 0 := by decide +kernel
theorem w1 : ∀ t : Fin cfg0.N, Goes (win0_1.index t) t.val 0 := by decide +kernel
theorem w2 : ∀ t : Fin cfg0.N, Goes (win0_2.index t) t.val 0 := by decide +kernel
theorem w3 : ∀ t : Fin cfg0.N, Goes (win0_3.index t) 0 0 := by decide +kernel
theorem w4 : ∀ t : Fin cfg0.N, Goes (win0_4.index t) t.val 0 := by decide +kernel
theorem w5 : ∀ t : Fin cfg0.N, Goes (win0_5.index t) 0 0 := by decide +kernel

theorem op_0 (t : Fin cfg0.N) (x : Fin 256) (y : Fin 2048) :
    (iblk m c 0 t (ix2 x y) : EReal) = at2 (arg0 m c) (256 * t.val + x) (2048 * 0 + y) :=
  read2 (V_main_arg0 m c) (slot (w0 t).1 rfl) (slot (w0 t).2 rfl)

theorem op_1 (t : Fin cfg0.N) (x : Fin 256) (y : Fin 2048) :
    (iblk m c 1 t (ix2 x y) : EReal) = at2 (arg1 m c) (256 * t.val + x) (2048 * 0 + y) :=
  read2 (V_main_arg1 m c) (slot (w1 t).1 rfl) (slot (w1 t).2 rfl)

theorem op_2 (t : Fin cfg0.N) (x : Fin 256) (y : Fin 2048) :
    (iblk m c 2 t (ix2 x y) : EReal) = at2 (arg2 m c) (256 * t.val + x) (2048 * 0 + y) :=
  read2 (V_main_arg2 m c) (slot (w2 t).1 rfl) (slot (w2 t).2 rfl)

theorem op_3 (t : Fin cfg0.N) (x : Fin 1) (y : Fin 2048) :
    (iblk m c 3 t (ix2 x y) : EReal) = at2 (arg3 m c) (1 * 0 + x) (2048 * 0 + y) :=
  read2 (V_main_arg3 m c) (slot (w3 t).1 rfl) (slot (w3 t).2 rfl)

/-- The rows of the blocks are rows of the arrays. -/
theorem rowx_at (t : Fin cfg0.N) (r : Fin 256) : (fun k => (iblk m c 2 t (ix2 r k) : EReal)) = rowx m c (256 * t.val + r) := by
  funext k
  rw [op_2 m c t, Nat.mul_zero, Nat.zero_add]
  rfl

theorem rowd_at (t : Fin cfg0.N) (r : Fin 256) :
    (fun k => HMul.hMul (α := EReal) (β := EReal) (γ := EReal) (iblk m c 1 t (ix2 r k)) (iblk m c 3 t (ix2 0 k))) = rowd m c (256 * t.val + r) := by
  funext k
  rw [op_1 m c t, op_3 m c t]
  simp only [Nat.mul_zero, Nat.zero_add]
  rfl

/-- What a grid point leaves of the argument's gradient. -/
theorem point0 (t : Fin cfg0.N) (r : Fin 256) (d : Fin 2048) :
    ((outsAt0 m c t.val t.isLt).1 (ix2 r d) : EReal) = at2 (arg0 m c) (256 * t.val + r) d
      + Norm.grad (rowx m c (256 * t.val + r)) (rowd m c (256 * t.val + r)) d := by
  rw [rows m c t, row_at, op_0 m c t, rowx_at m c t, rowd_at m c t, Nat.mul_zero, Nat.zero_add]

/-- A step adds its rows' terms. -/
theorem step_at (t : Fin cfg0.N) (a : FVec Ideal S1x2048 .f32) (d : Fin 2048) :
    (k0_pay5 (F := Ideal) (iblk m c 2 t) (iblk m c 1 t) a (ix2 0 d) : EReal)
    = a (ix2 0 d) + ∑ k ∈ Finset.range 256, term m c d (256 * t.val + k) := by
  rw [pay_at, ← Fin.sum_univ_eq_sum_range]
  refine congrArg (a (ix2 0 d) + ·) (Finset.sum_congr rfl fun k _ => ?_)
  rw [rowx_at m c t, op_1 m c t, op_2 m c t, Nat.mul_zero, Nat.zero_add]
  rfl

theorem point1 (t : Fin cfg0.N) (hm : t.val % 16 = 15) (d : Fin 2048) :
    ((outsAt0 m c t.val t.isLt).2 (ix2 0 d) : EReal) = ∑ T ∈ Finset.range 4096, term m c d T :=
  grown (n := 16) (b := 256) (term m c d) (fun t h => (outsAt0 m c t h).2 (ix2 0 d))
    (fun t h h0 => by rw [left_A m c ⟨t, h⟩ h0, step_at m c ⟨t, h⟩, zero_at, zero_add])
    (fun t h h0 => by rw [left_B m c ⟨t, h⟩ h0, step_at m c ⟨t, h⟩]) t.val t.isLt (lt_N t) (congrArg (· + 1) hm)

/-! The arrays after the run, entry by entry. -/

def result0 : S4096x2048.Idx → EReal := fun i => at2 (arg0 m c) (i 0).val (i 1).val + Norm.grad (rowx m c (i 0).val) (rowd m c (i 0).val) (i 1)

def result1 : S1x2048.Idx → EReal := fun i => ∑ T ∈ Finset.range 4096, term m c (i 1).val T

/-- What a grid point writes back is its block of the array. -/
theorem back0 (t : Fin cfg0.N) (hf : (cfg0.win 4).flush t = true) :
    (dats m 0 c).flushed 4 t = ((cfg0.win 4).blk t).view.read (Elt Ideal) (result0 m c) := by
  show (cfg0.win 4).cut (grid0.coords t) ((dats m 0 c).after 4 t) = _
  rw [after0_4]
  funext y
  exact entry2 (f := (outsAt0 m c t.val t.isLt).1) (F := result0 m c) ((cfg0.win 4).xinj (grid0.coords t) y) _ (256 * t.val) (2048 * 0)
    (slot (w4 t).1 rfl) (slot (w4 t).2 rfl)
    fun r d p q hp hq => (point0 m c t r d).trans (by rw [← hp, ← show q = d from Fin.ext (by omega)]; rfl)

/-- Every entry is in a block that a grid point writes back. -/
theorem everywhere0 (i : S4096x2048.Idx) : ∃ t : Fin cfg0.N, (cfg0.win 4).flush t = true ∧ i ∈ ((cfg0.win 4).blk t).view.set :=
  have ⟨t, e0, e1⟩ := rowsOf (N := cfg0.N) (n := 256) i rfl
  ⟨t, flush0_4 _, in2 (View.set_slice_whole main_v0_0 (win0_4.rect t)) 256 2048 (w4 t).1 rfl rfl (w4 t).2 rfl rfl e0 e1⟩

theorem back1 (t : Fin cfg0.N) (hf : (cfg0.win 5).flush t = true) :
    (dats m 0 c).flushed 5 t = ((cfg0.win 5).blk t).view.read (Elt Ideal) (result1 m c) := by
  show (cfg0.win 5).cut (grid0.coords t) ((dats m 0 c).after 5 t) = _
  rw [after0_5]
  have hm := (flush0_5 t).mp hf
  funext y
  exact entry2 (f := (outsAt0 m c t.val t.isLt).2) (F := result1 m c) ((cfg0.win 5).xinj (grid0.coords t) y) _ (1 * 0) (2048 * 0)
    (slot (w5 t).1 rfl) (slot (w5 t).2 rfl)
    fun r d p q hp hq => by
    rw [Subsingleton.elim (α := Fin 1) r 0]
    exact (point1 m c t hm d).trans (by rw [← show q = d from Fin.ext (by omega)]; rfl)

theorem everywhere1 (i : S1x2048.Idx) : ∃ t : Fin cfg0.N, (cfg0.win 5).flush t = true ∧ i ∈ ((cfg0.win 5).blk t).view.set :=
  ⟨last, (flush0_5 _).mpr rfl, in2 (View.set_slice_whole main_v0_1 (win0_5.rect last)) 1 2048 (w5 last).1 rfl rfl (w5 last).2 rfl rfl (whole i).1 (whole i).2⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ holds r.2.mem m c main_arg0
      ∧ holds r.2.mem m c main_arg1
      ∧ holds r.2.mem m c main_arg2
      ∧ holds r.2.mem m c main_arg3 := by
  exact (θ_run defs _ _).mono (fun r h c =>
    have k := fun w e => ((h c).1 w).trans (((dats m 0 c).arrAt_in w e _).trans (A_eq m c w))
    ⟨((h c).1 4).trans ((dats m 0 c).arrAt_eq_of_cover 4 _ (back0 m c) everywhere0), ((h c).1 5).trans ((dats m 0 c).arrAt_eq_of_cover 5 _ (back1 m c) everywhere1), (k 0 rfl).trans (V_main_arg0 m c), (k 1 rfl).trans (V_main_arg1 m c), (k 2 rfl).trans (V_main_arg2 m c), (k 3 rfl).trans (V_main_arg3 m c)⟩) (run_main m ρ)

theorem equal0 : (result0 m c : (⟨S4096x2048, .f32⟩ : BufTy).Contents (Elt Ideal))
    = val_main_v37 (F := Ideal) (arg0 m c) (arg1 m c) (arg2 m c) (arg3 m c) := funext fun i => (NormRef.around_ref (arg0 m c) (arg1 m c) (arg2 m c) (arg3 m c) i).symm

theorem equal1 : (result1 m c : (⟨S1x2048, .f32⟩ : BufTy).Contents (Elt Ideal))
    = val_main_v38 (F := Ideal) (arg1 m c) (arg2 m c) := funext fun i => (NormRef.gain_ref (arg1 m c) (arg2 m c) i).symm

end Cert.MatNormIn
-- ==== Proof.MatNormDown.lean ====
/- The gradient of the block's last norm, after the sum of the two gradients that reach it. -/
module

public import proofs.«01_k».proof.Proof.Blocks
public import proofs.«01_k».proof.Proof.NormRef
public import proofs.«01_k».proof.Proof.Gen.NormDownIdeal.Frame
public import proofs.«01_k».proof.Proof.Gen.NormDownReferenceIdeal.Read

@[expose] public section

set_option maxRecDepth 16384

noncomputable section

namespace Cert.MatNormDown

open Idealize.ShloMosaic NormDownIdeal NormDownIdeal.Gen NormDownReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S4096x2048.Idx → EReal := m ((c.tc : Thread nD τ).loc main_arg1)
abbrev arg2 : S4096x2048.Idx → EReal := m ((c.tc : Thread nD τ).loc main_arg2)
abbrev arg3 : S1x2048.Idx → EReal := m ((c.tc : Thread nD τ).loc main_arg3)

/-- The sum of the two gradients, a row of the norm's argument, and a row of the gradient that reaches the normed row. -/
def rowb (r : ℕ) : Fin 2048 → EReal := fun k => at2 (arg0 m c) r k + at2 (arg1 m c) r k
def rowx (r : ℕ) : Fin 2048 → EReal := fun k => at2 (arg2 m c) r k
def rowd (r : ℕ) : Fin 2048 → EReal := fun k => rowb m c r k * at2 (arg3 m c) 0 k

/-- One term of the gain's gradient at column `d`. -/
def term (d : Fin 2048) (k : ℕ) : EReal := rowb m c k d * (at2 (arg2 m c) k d * Norm.inv (rowx m c k))

/-! What a step stores, entry by entry. -/

theorem inv_at (x : FVec Ideal S256x2048 .f32) (r : Fin 256) :
    (k0_pay4 (F := Ideal) x (ix2 r 0) : EReal) = Norm.inv fun k => x (ix2 r k) := by
  pointwise [k0_pay4]
  rfl

theorem hat_at (x : FVec Ideal S256x2048 .f32) (r : Fin 256) (d : Fin 2048) :
    (k0_pay5 (F := Ideal) x (ix2 r d) : EReal) = x (ix2 r d) * Norm.inv fun k => x (ix2 r k) := by
  unfold k0_pay5
  pointwise []
  rw [inv_at]

theorem row0_at (a b : FVec Ideal S256x2048 .f32) (r : Fin 256) (d : Fin 2048) :
    (k0_pay3 (F := Ideal) a b (ix2 r d) : EReal) = a (ix2 r d) + b (ix2 r d) := by
  pointwise [k0_pay3]

theorem row1_at (a b x : FVec Ideal S256x2048 .f32) (s : FVec Ideal S1x2048 .f32) (r : Fin 256) (d : Fin 2048) :
    (k0_pay7 (F := Ideal) a b x s (ix2 r d) : EReal)
    = Norm.grad (fun k => x (ix2 r k)) (fun k => (a (ix2 r k) + b (ix2 r k)) * s (ix2 0 k)) d := by
  unfold k0_pay7
  pointwise []
  simp only [hat_at, inv_at, row0_at]
  rfl

theorem pay0_at (a b x : FVec Ideal S256x2048 .f32) (w : FVec Ideal S1x2048 .f32) (d : Fin 2048) :
    (k0_pay1 (F := Ideal) (k0_pay6 (F := Ideal) a b x) w (ix2 0 d) : EReal)
    = w (ix2 0 d) + ∑ k : Fin 256, (a (ix2 k d) + b (ix2 k d)) * (x (ix2 k d) * Norm.inv fun j => x (ix2 k j)) := by
  unfold k0_pay1 k0_pay6
  pointwise []
  simp only [hat_at, row0_at]

theorem zero0_at (d : Fin 2048) : (k0_pay2 (F := Ideal) (ix2 0 d) : EReal) = 0 := by
  pointwise [k0_pay2]

/-! What a grid point leaves. -/

theorem rows0 (t : Fin cfg0.N) : (outsAt0 m c t.val t.isLt).1 = k0_pay3 (F := Ideal) (iblk m c 0 t) (iblk m c 1 t) := by
  by_cases h0 : t.val % 16 = 0
  · rw [outsAt0_A m c t h0]
    dsimp only
    unfold out0_A_4 kernelRun0_A
    dsimp only
    rw [stored _ _ _ zeros2]
    repeat rw [kept _ _ zeros2]
  · rw [outsAt0_B m c t h0]
    dsimp only
    unfold out0_B_4 kernelRun0_B
    dsimp only
    rw [stored _ _ _ zeros2]
    repeat rw [kept _ _ zeros2]

theorem rows1 (t : Fin cfg0.N) : (outsAt0 m c t.val t.isLt).2.1 = k0_pay7 (F := Ideal) (iblk m c 0 t) (iblk m c 1 t) (iblk m c 2 t) (iblk m c 3 t) := by
  by_cases h0 : t.val % 16 = 0
  · rw [outsAt0_A m c t h0]
    dsimp only
    unfold out0_A_5 kernelRun0_A
    dsimp only
    rw [stored _ _ _ zeros2]
    repeat rw [kept _ _ zeros2]
  · rw [outsAt0_B m c t h0]
    dsimp only
    unfold out0_B_5 kernelRun0_B
    dsimp only
    rw [stored _ _ _ zeros2]
    repeat rw [kept _ _ zeros2]

theorem left0_A (t : Fin cfg0.N) (h0 : t.val % 16 = 0) :
    (outsAt0 m c t.val t.isLt).2.2 = k0_pay1 (F := Ideal) (k0_pay6 (F := Ideal) (iblk m c 0 t) (iblk m c 1 t) (iblk m c 2 t)) (k0_pay2 (F := Ideal)) := by
  rw [outsAt0_A m c t h0]
  dsimp only
  unfold out0_A_6 kernelRun0_A
  dsimp only
  rw [stored _ _ _ zeros2]
  sl_unfold_words
  repeat rw [kept _ _ zeros2]
  rw [View.readCov_cons_toLoadRect]

theorem left0_B (t : Fin cfg0.N) (h0 : ¬t.val % 16 = 0) :
    (outsAt0 m c t.val t.isLt).2.2 = k0_pay1 (F := Ideal) (k0_pay6 (F := Ideal) (iblk m c 0 t) (iblk m c 1 t) (iblk m c 2 t)) (outsAt0 m c (t.val - 1) (prev t)).2.2 := by
  rw [outsAt0_B m c t h0]
  dsimp only
  unfold out0_B_6 kernelRun0_B
  dsimp only
  rw [stored _ _ _ zeros2]
  sl_unfold_words
  repeat rw [kept _ _ zeros2]

/-! The blocks at a grid point. -/

/-- The last grid point. -/
abbrev last : Fin cfg0.N := ⟨15, by decide⟩

theorem lt_N (t : Fin cfg0.N) : t.val < 16 := lt_of_lt_of_eq t.isLt N_0

theorem w0 : ∀ t : Fin cfg0.N, Goes (win0_0.index t) t.val 0 := by decide +kernel
theorem w1 : ∀ t : Fin cfg0.N, Goes (win0_1.index t) t.val 0 := by decide +kernel
theorem w2 : ∀ t : Fin cfg0.N, Goes (win0_2.index t) t.val 0 := by decide +kernel
theorem w3 : ∀ t : Fin cfg0.N, Goes (win0_3.index t) 0 0 := by decide +kernel
theorem w4 : ∀ t : Fin cfg0.N, Goes (win0_4.index t) t.val 0 := by decide +kernel
theorem w5 : ∀ t : Fin cfg0.N, Goes (win0_5.index t) t.val 0 := by decide +kernel
theorem w6 : ∀ t : Fin cfg0.N, Goes (win0_6.index t) 0 0 := by decide +kernel

theorem op_0 (t : Fin cfg0.N) (x : Fin 256) (y : Fin 2048) :
    (iblk m c 0 t (ix2 x y) : EReal) = at2 (arg0 m c) (256 * t.val + x) (2048 * 0 + y) :=
  read2 (V_main_arg0 m c) (slot (w0 t).1 rfl) (slot (w0 t).2 rfl)

theorem op_1 (t : Fin cfg0.N) (x : Fin 256) (y : Fin 2048) :
    (iblk m c 1 t (ix2 x y) : EReal) = at2 (arg1 m c) (256 * t.val + x) (2048 * 0 + y) :=
  read2 (V_main_arg1 m c) (slot (w1 t).1 rfl) (slot (w1 t).2 rfl)

theorem op_2 (t : Fin cfg0.N) (x : Fin 256) (y : Fin 2048) :
    (iblk m c 2 t (ix2 x y) : EReal) = at2 (arg2 m c) (256 * t.val + x) (2048 * 0 + y) :=
  read2 (V_main_arg2 m c) (slot (w2 t).1 rfl) (slot (w2 t).2 rfl)

theorem op_3 (t : Fin cfg0.N) (x : Fin 1) (y : Fin 2048) :
    (iblk m c 3 t (ix2 x y) : EReal) = at2 (arg3 m c) (1 * 0 + x) (2048 * 0 + y) :=
  read2 (V_main_arg3 m c) (slot (w3 t).1 rfl) (slot (w3 t).2 rfl)

/-! The rows of the blocks are rows of the arrays. -/

theorem rowx_at (t : Fin cfg0.N) (r : Fin 256) : (fun k => (iblk m c 2 t (ix2 r k) : EReal)) = rowx m c (256 * t.val + r) := by
  funext k
  rw [op_2 m c t]
  simp only [Nat.mul_zero, Nat.zero_add]
  rfl

theorem rowd_at (t : Fin cfg0.N) (r : Fin 256) : (fun k => HMul.hMul (α := EReal) (β := EReal) (γ := EReal) (HAdd.hAdd (α := EReal) (β := EReal) (γ := EReal) (iblk m c 0 t (ix2 r k)) (iblk m c 1 t (ix2 r k))) (iblk m c 3 t (ix2 0 k))) = rowd m c (256 * t.val + r) := by
  funext k
  rw [op_0 m c t, op_1 m c t, op_3 m c t]
  simp only [Nat.mul_zero, Nat.zero_add]
  rfl

theorem point0 (t : Fin cfg0.N) (r : Fin 256) (d : Fin 2048) :
    (k0_pay3 (F := Ideal) (iblk m c 0 t) (iblk m c 1 t) (ix2 r d) : EReal) = rowb m c (256 * t.val + r) d := by
  rw [row0_at, op_0 m c t, op_1 m c t, Nat.mul_zero, Nat.zero_add]
  rfl

theorem point1 (t : Fin cfg0.N) (r : Fin 256) (d : Fin 2048) :
    (k0_pay7 (F := Ideal) (iblk m c 0 t) (iblk m c 1 t) (iblk m c 2 t) (iblk m c 3 t) (ix2 r d) : EReal) = Norm.grad (rowx m c (256 * t.val + r)) (rowd m c (256 * t.val + r)) d := by
  rw [row1_at, rowx_at m c t, rowd_at m c t]

/-- A step adds its rows' terms. -/
theorem step0_at (t : Fin cfg0.N) (a : FVec Ideal S1x2048 .f32) (d : Fin 2048) :
    (k0_pay1 (F := Ideal) (k0_pay6 (F := Ideal) (iblk m c 0 t) (iblk m c 1 t) (iblk m c 2 t)) a (ix2 0 d) : EReal)
    = a (ix2 0 d) + ∑ k ∈ Finset.range 256, term m c d (256 * t.val + k) := by
  rw [pay0_at, ← Fin.sum_univ_eq_sum_range]
  refine congrArg (a (ix2 0 d) + ·) (Finset.sum_congr rfl fun k _ => ?_)
  rw [rowx_at m c t, op_0 m c t, op_1 m c t, op_2 m c t, Nat.mul_zero, Nat.zero_add]
  rfl

theorem point2 (t : Fin cfg0.N) (hm : t.val % 16 = 15) (d : Fin 2048) :
    ((outsAt0 m c t.val t.isLt).2.2 (ix2 0 d) : EReal) = ∑ T ∈ Finset.range 4096, term m c d T :=
  grown (n := 16) (b := 256) (term m c d) (fun t h => (outsAt0 m c t h).2.2 (ix2 0 d))
    (fun t h h0 => by rw [left0_A m c ⟨t, h⟩ h0, step0_at m c ⟨t, h⟩, zero0_at, zero_add])
    (fun t h h0 => by rw [left0_B m c ⟨t, h⟩ h0, step0_at m c ⟨t, h⟩]) t.val t.isLt (lt_N t) (congrArg (· + 1) hm)

/-! The arrays after the run, entry by entry. -/

def result0 : S4096x2048.Idx → EReal := fun i => rowb m c (i 0).val (i 1)

def result1 : S4096x2048.Idx → EReal := fun i => Norm.grad (rowx m c (i 0).val) (rowd m c (i 0).val) (i 1)

def result2 : S1x2048.Idx → EReal := fun i => ∑ T ∈ Finset.range 4096, term m c (i 1) T

/-- What a grid point writes back is its block of the array. -/
theorem back0 (t : Fin cfg0.N) (hf : (cfg0.win 4).flush t = true) :
    (dats m 0 c).flushed 4 t = ((cfg0.win 4).blk t).view.read (Elt Ideal) (result0 m c) := by
  show (cfg0.win 4).cut (grid0.coords t) ((dats m 0 c).after 4 t) = _
  rw [after0_4]
  funext y
  exact entry2 (f := (outsAt0 m c t.val t.isLt).1) (F := result0 m c) ((cfg0.win 4).xinj (grid0.coords t) y) _ (256 * t.val) (2048 * 0)
    (slot (w4 t).1 rfl) (slot (w4 t).2 rfl)
    fun r d p q hp hq => (congrFun (rows0 m c t) _).trans ((point0 m c t r d).trans (by rw [← hp, ← show q = d from Fin.ext (by omega)]; rfl))

/-- Every entry is in a block that a grid point writes back. -/
theorem everywhere0 (i : S4096x2048.Idx) : ∃ t : Fin cfg0.N, (cfg0.win 4).flush t = true ∧ i ∈ ((cfg0.win 4).blk t).view.set :=
  have ⟨t, e0, e1⟩ := rowsOf (N := cfg0.N) (n := 256) i rfl
  ⟨t, flush0_4 _, in2 (View.set_slice_whole main_v0_0 (win0_4.rect t)) 256 2048 (w4 t).1 rfl rfl (w4 t).2 rfl rfl e0 e1⟩

theorem back1 (t : Fin cfg0.N) (hf : (cfg0.win 5).flush t = true) :
    (dats m 0 c).flushed 5 t = ((cfg0.win 5).blk t).view.read (Elt Ideal) (result1 m c) := by
  show (cfg0.win 5).cut (grid0.coords t) ((dats m 0 c).after 5 t) = _
  rw [after0_5]
  funext y
  exact entry2 (f := (outsAt0 m c t.val t.isLt).2.1) (F := result1 m c) ((cfg0.win 5).xinj (grid0.coords t) y) _ (256 * t.val) (2048 * 0)
    (slot (w5 t).1 rfl) (slot (w5 t).2 rfl)
    fun r d p q hp hq => (congrFun (rows1 m c t) _).trans ((point1 m c t r d).trans (by rw [← hp, ← show q = d from Fin.ext (by omega)]; rfl))

theorem everywhere1 (i : S4096x2048.Idx) : ∃ t : Fin cfg0.N, (cfg0.win 5).flush t = true ∧ i ∈ ((cfg0.win 5).blk t).view.set :=
  have ⟨t, e0, e1⟩ := rowsOf (N := cfg0.N) (n := 256) i rfl
  ⟨t, flush0_5 _, in2 (View.set_slice_whole main_v0_1 (win0_5.rect t)) 256 2048 (w5 t).1 rfl rfl (w5 t).2 rfl rfl e0 e1⟩

theorem back2 (t : Fin cfg0.N) (hf : (cfg0.win 6).flush t = true) :
    (dats m 0 c).flushed 6 t = ((cfg0.win 6).blk t).view.read (Elt Ideal) (result2 m c) := by
  show (cfg0.win 6).cut (grid0.coords t) ((dats m 0 c).after 6 t) = _
  rw [after0_6]
  have hm := (flush0_6 t).mp hf
  funext y
  exact entry2 (f := (outsAt0 m c t.val t.isLt).2.2) (F := result2 m c) ((cfg0.win 6).xinj (grid0.coords t) y) _ (1 * 0) (2048 * 0)
    (slot (w6 t).1 rfl) (slot (w6 t).2 rfl)
    fun r d p q hp hq => by
    rw [Subsingleton.elim (α := Fin 1) r 0]
    exact (point2 m c t hm d).trans (by rw [← show q = d from Fin.ext (by omega)]; rfl)

theorem everywhere2 (i : S1x2048.Idx) : ∃ t : Fin cfg0.N, (cfg0.win 6).flush t = true ∧ i ∈ ((cfg0.win 6).blk t).view.set :=
  ⟨last, (flush0_6 _).mpr rfl, in2 (View.set_slice_whole main_v0_2 (win0_6.rect last)) 1 2048 (w6 last).1 rfl rfl (w6 last).2 rfl rfl (whole i).1 (whole i).2⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_v0_2) = result2 m c
      ∧ holds r.2.mem m c main_arg0
      ∧ holds r.2.mem m c main_arg1
      ∧ holds r.2.mem m c main_arg2
      ∧ holds r.2.mem m c main_arg3 := by
  exact (θ_run defs _ _).mono (fun r h c =>
    have k := fun w e => ((h c).1 w).trans (((dats m 0 c).arrAt_in w e _).trans (A_eq m c w))
    ⟨((h c).1 4).trans ((dats m 0 c).arrAt_eq_of_cover 4 _ (back0 m c) everywhere0), ((h c).1 5).trans ((dats m 0 c).arrAt_eq_of_cover 5 _ (back1 m c) everywhere1), ((h c).1 6).trans ((dats m 0 c).arrAt_eq_of_cover 6 _ (back2 m c) everywhere2), (k 0 rfl).trans (V_main_arg0 m c), (k 1 rfl).trans (V_main_arg1 m c), (k 2 rfl).trans (V_main_arg2 m c), (k 3 rfl).trans (V_main_arg3 m c)⟩) (run_main m ρ)

theorem dx_ref (i : S4096x2048.Idx) : (val_main_v0 (F := Ideal) (arg0 m c) (arg1 m c) i : EReal) = rowb m c (i 0).val (i 1) :=
  (val_main_v0_apply (F := Ideal) _ _ i).trans (congrArg₂ (fun a b : EReal => a + b) (at2_of (arg0 m c) i _ _ rfl rfl) (at2_of (arg1 m c) i _ _ rfl rfl))

theorem equal0 : (result0 m c : (⟨S4096x2048, .f32⟩ : BufTy).Contents (Elt Ideal))
    = val_main_v0 (F := Ideal) (arg0 m c) (arg1 m c) := funext fun i => (dx_ref m c i).symm

/-- The gradient that reaches the norm, entry by entry. -/
theorem reach (r : ℕ) (h : r < 4096) (k : Fin 2048) : at2 (val_main_v0 (F := Ideal) (arg0 m c) (arg1 m c)) r k = rowb m c r k :=
  (at2_of (val_main_v0 (F := Ideal) (arg0 m c) (arg1 m c)) (ix2 ⟨r, h⟩ k) r k rfl rfl).symm.trans (dx_ref m c (ix2 ⟨r, h⟩ k))

theorem equal1 : (result1 m c : (⟨S4096x2048, .bf16⟩ : BufTy).Contents (Elt Ideal))
    = val_main_v38 (F := Ideal) (arg0 m c) (arg1 m c) (arg2 m c) (arg3 m c) := by
  funext i
  rw [val_main_v38_apply, val_main_v37_apply, val_main_v35_apply, val_main_v34_apply, val_main_v36_apply, val_main_v33_apply, val_main_v28_apply, val_main_v27_apply]
  exact (NormRef.grad_ref (val_main_v0 (F := Ideal) (arg0 m c) (arg1 m c)) (arg2 m c) (arg3 m c) i _ _ rfl (funext fun k =>
    congrArg (fun a : EReal => a * at2 (arg3 m c) 0 k.val) (reach m c (i 0).val (i 0).isLt k))).symm

theorem equal2 : (result2 m c : (⟨S1x2048, .f32⟩ : BufTy).Contents (Elt Ideal))
    = val_main_v39 (F := Ideal) (arg0 m c) (arg1 m c) (arg2 m c) := funext fun i =>
  ((NormRef.gain_ref (val_main_v0 (F := Ideal) (arg0 m c) (arg1 m c)) (arg2 m c) i).trans (Finset.sum_congr rfl fun T hT =>
    congrArg (fun a : EReal => a * _) (reach m c T (Finset.mem_range.mp hT) (i 1)))).symm

end Cert.MatNormDown
-- ==== Proof.MatNormMid.lean ====
/- The gradients of the block's two inner norms. -/
module

public import proofs.«01_k».proof.Proof.Blocks
public import proofs.«01_k».proof.Proof.NormRef
public import proofs.«01_k».proof.Proof.Gen.NormMidIdeal.Frame
public import proofs.«01_k».proof.Proof.Gen.NormMidReferenceIdeal.Read

@[expose] public section

set_option maxRecDepth 16384

noncomputable section

namespace Cert.MatNormMid

open Idealize.ShloMosaic NormMidIdeal NormMidIdeal.Gen NormMidReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S4096x2048.Idx → EReal := m ((c.tc : Thread nD τ).loc main_arg1)
abbrev arg2 : S4096x2048.Idx → EReal := m ((c.tc : Thread nD τ).loc main_arg2)
abbrev arg3 : S1x2048.Idx → EReal := m ((c.tc : Thread nD τ).loc main_arg3)
abbrev arg4 : S4096x2048.Idx → EReal := m ((c.tc : Thread nD τ).loc main_arg4)
abbrev arg5 : S1x2048.Idx → EReal := m ((c.tc : Thread nD τ).loc main_arg5)

/-- A row of the first norm's argument, and of the gradient that reaches the normed row. -/
def rowx (r : ℕ) : Fin 2048 → EReal := fun k => at2 (arg2 m c) r k
def rowd (r : ℕ) : Fin 2048 → EReal := fun k => at2 (arg1 m c) r k * at2 (arg3 m c) 0 k

/-- One term of the first gain's gradient at column `d`. -/
def term (d : Fin 2048) (k : ℕ) : EReal := at2 (arg1 m c) k d * (at2 (arg2 m c) k d * Norm.inv (rowx m c k))

/-- A row of the gradient between the two norms. -/
def rowb (r : ℕ) : Fin 2048 → EReal := fun k => at2 (arg0 m c) r k + Norm.grad (rowx m c r) (rowd m c r) k

/-- A row of the second norm's argument, and of the gradient that reaches the normed row. -/
def rowx2 (r : ℕ) : Fin 2048 → EReal := fun k => at2 (arg4 m c) r k
def rowd2 (r : ℕ) : Fin 2048 → EReal := fun k => rowb m c r k * at2 (arg5 m c) 0 k

/-- One term of the second gain's gradient at column `d`. -/
def term2 (d : Fin 2048) (k : ℕ) : EReal := rowb m c k d * (at2 (arg4 m c) k d * Norm.inv (rowx2 m c k))

/-! What a step stores, entry by entry. -/

theorem inv_at (x : FVec Ideal S256x2048 .f32) (r : Fin 256) :
    (k0_pay7 (F := Ideal) x (ix2 r 0) : EReal) = Norm.inv fun k => x (ix2 r k) := by
  pointwise [k0_pay7]
  rfl

theorem hat_at (x : FVec Ideal S256x2048 .f32) (r : Fin 256) (d : Fin 2048) :
    (k0_pay8 (F := Ideal) x (ix2 r d) : EReal) = x (ix2 r d) * Norm.inv fun k => x (ix2 r k) := by
  unfold k0_pay8
  pointwise []
  rw [inv_at]

theorem inv2_at (x : FVec Ideal S256x2048 .f32) (r : Fin 256) :
    (k0_pay1 (F := Ideal) x (ix2 r 0) : EReal) = Norm.inv fun k => x (ix2 r k) := by
  pointwise [k0_pay1]
  rfl

theorem hat2_at (x : FVec Ideal S256x2048 .f32) (r : Fin 256) (d : Fin 2048) :
    (k0_pay2 (F := Ideal) x (ix2 r d) : EReal) = x (ix2 r d) * Norm.inv fun k => x (ix2 r k) := by
  unfold k0_pay2
  pointwise []
  rw [inv2_at]

theorem row0_at (x : FVec Ideal S256x2048 .f32) (s : FVec Ideal S1x2048 .f32) (y a : FVec Ideal S256x2048 .f32) (r : Fin 256) (d : Fin 2048) :
    (k0_pay9 (F := Ideal) x s y a (ix2 r d) : EReal)
    = a (ix2 r d) + Norm.grad (fun k => x (ix2 r k)) (fun k => y (ix2 r k) * s (ix2 0 k)) d := by
  unfold k0_pay9
  pointwise []
  simp only [hat_at, inv_at]
  rfl

theorem row1_at (b x : FVec Ideal S256x2048 .f32) (s : FVec Ideal S1x2048 .f32) (r : Fin 256) (d : Fin 2048) :
    (k0_pay3 (F := Ideal) b x s (ix2 r d) : EReal)
    = Norm.grad (fun k => x (ix2 r k)) (fun k => b (ix2 r k) * s (ix2 0 k)) d := by
  unfold k0_pay3
  pointwise []
  simp only [hat2_at, inv2_at]
  rfl

theorem pay0_at (x y : FVec Ideal S256x2048 .f32) (a : FVec Ideal S1x2048 .f32) (d : Fin 2048) :
    (k0_pay10 (F := Ideal) x y a (ix2 0 d) : EReal)
    = a (ix2 0 d) + ∑ k : Fin 256, y (ix2 k d) * (x (ix2 k d) * Norm.inv fun j => x (ix2 k j)) := by
  unfold k0_pay10
  pointwise []
  simp only [hat_at]

theorem pay1_at (b x : FVec Ideal S256x2048 .f32) (a : FVec Ideal S1x2048 .f32) (d : Fin 2048) :
    (k0_pay4 (F := Ideal) b x a (ix2 0 d) : EReal)
    = a (ix2 0 d) + ∑ k : Fin 256, b (ix2 k d) * (x (ix2 k d) * Norm.inv fun j => x (ix2 k j)) := by
  unfold k0_pay4
  pointwise []
  simp only [hat2_at]

theorem zero0_at (d : Fin 2048) : (k0_pay5 (F := Ideal) (ix2 0 d) : EReal) = 0 := by
  pointwise [k0_pay5]

theorem zero1_at (d : Fin 2048) : (k0_pay6 (F := Ideal) (ix2 0 d) : EReal) = 0 := by
  pointwise [k0_pay6]

/-! What a grid point leaves. -/

theorem rows0 (t : Fin cfg0.N) : (outsAt0 m c t.val t.isLt).1 = k0_pay9 (F := Ideal) (iblk m c 2 t) (iblk m c 3 t) (iblk m c 1 t) (iblk m c 0 t) := by
  by_cases h0 : t.val % 16 = 0
  · rw [outsAt0_A m c t h0]
    dsimp only
    unfold out0_A_6 kernelRun0_A
    dsimp only
    rw [stored _ _ _ zeros2]
    repeat rw [kept _ _ zeros2]
  · rw [outsAt0_B m c t h0]
    dsimp only
    unfold out0_B_6 kernelRun0_B
    dsimp only
    rw [stored _ _ _ zeros2]
    repeat rw [kept _ _ zeros2]

theorem rows1 (t : Fin cfg0.N) : (outsAt0 m c t.val t.isLt).2.1 = k0_pay3 (F := Ideal) (k0_pay9 (F := Ideal) (iblk m c 2 t) (iblk m c 3 t) (iblk m c 1 t) (iblk m c 0 t)) (iblk m c 4 t) (iblk m c 5 t) := by
  by_cases h0 : t.val % 16 = 0
  · rw [outsAt0_A m c t h0]
    dsimp only
    unfold out0_A_7 kernelRun0_A
    dsimp only
    rw [stored _ _ _ zeros2]
    sl_unfold_words
    repeat rw [kept _ _ zeros2]
  · rw [outsAt0_B m c t h0]
    dsimp only
    unfold out0_B_7 kernelRun0_B
    dsimp only
    rw [stored _ _ _ zeros2]
    sl_unfold_words
    repeat rw [kept _ _ zeros2]

theorem left0_A (t : Fin cfg0.N) (h0 : t.val % 16 = 0) :
    (outsAt0 m c t.val t.isLt).2.2.1 = k0_pay10 (F := Ideal) (iblk m c 2 t) (iblk m c 1 t) (k0_pay5 (F := Ideal)) := by
  rw [outsAt0_A m c t h0]
  dsimp only
  unfold out0_A_8 kernelRun0_A
  dsimp only
  rw [stored _ _ _ zeros2]
  sl_unfold_words
  repeat rw [kept _ _ zeros2]
  rw [View.readCov_cons_toLoadRect]

theorem left0_B (t : Fin cfg0.N) (h0 : ¬t.val % 16 = 0) :
    (outsAt0 m c t.val t.isLt).2.2.1 = k0_pay10 (F := Ideal) (iblk m c 2 t) (iblk m c 1 t) (outsAt0 m c (t.val - 1) (prev t)).2.2.1 := by
  rw [outsAt0_B m c t h0]
  dsimp only
  unfold out0_B_8 kernelRun0_B
  dsimp only
  rw [stored _ _ _ zeros2]
  sl_unfold_words
  repeat rw [kept _ _ zeros2]

theorem left1_A (t : Fin cfg0.N) (h0 : t.val % 16 = 0) :
    (outsAt0 m c t.val t.isLt).2.2.2 = k0_pay4 (F := Ideal) (k0_pay9 (F := Ideal) (iblk m c 2 t) (iblk m c 3 t) (iblk m c 1 t) (iblk m c 0 t)) (iblk m c 4 t) (k0_pay6 (F := Ideal)) := by
  rw [outsAt0_A m c t h0]
  dsimp only
  unfold out0_A_9 kernelRun0_A
  dsimp only
  rw [stored _ _ _ zeros2]
  sl_unfold_words
  repeat rw [kept _ _ zeros2]
  rw [View.readCov_cons_toLoadRect]

theorem left1_B (t : Fin cfg0.N) (h0 : ¬t.val % 16 = 0) :
    (outsAt0 m c t.val t.isLt).2.2.2 = k0_pay4 (F := Ideal) (k0_pay9 (F := Ideal) (iblk m c 2 t) (iblk m c 3 t) (iblk m c 1 t) (iblk m c 0 t)) (iblk m c 4 t) (outsAt0 m c (t.val - 1) (prev t)).2.2.2 := by
  rw [outsAt0_B m c t h0]
  dsimp only
  unfold out0_B_9 kernelRun0_B
  dsimp only
  rw [stored _ _ _ zeros2]
  sl_unfold_words
  repeat rw [kept _ _ zeros2]

/-! The blocks at a grid point. -/

/-- The last grid point. -/
abbrev last : Fin cfg0.N := ⟨15, by decide⟩

theorem lt_N (t : Fin cfg0.N) : t.val < 16 := lt_of_lt_of_eq t.isLt N_0

theorem w0 : ∀ t : Fin cfg0.N, Goes (win0_0.index t) t.val 0 := by decide +kernel
theorem w1 : ∀ t : Fin cfg0.N, Goes (win0_1.index t) t.val 0 := by decide +kernel
theorem w2 : ∀ t : Fin cfg0.N, Goes (win0_2.index t) t.val 0 := by decide +kernel
theorem w3 : ∀ t : Fin cfg0.N, Goes (win0_3.index t) 0 0 := by decide +kernel
theorem w4 : ∀ t : Fin cfg0.N, Goes (win0_4.index t) t.val 0 := by decide +kernel
theorem w5 : ∀ t : Fin cfg0.N, Goes (win0_5.index t) 0 0 := by decide +kernel
theorem w6 : ∀ t : Fin cfg0.N, Goes (win0_6.index t) t.val 0 := by decide +kernel
theorem w7 : ∀ t : Fin cfg0.N, Goes (win0_7.index t) t.val 0 := by decide +kernel
theorem w8 : ∀ t : Fin cfg0.N, Goes (win0_8.index t) 0 0 := by decide +kernel
theorem w9 : ∀ t : Fin cfg0.N, Goes (win0_9.index t) 0 0 := by decide +kernel

theorem op_0 (t : Fin cfg0.N) (x : Fin 256) (y : Fin 2048) :
    (iblk m c 0 t (ix2 x y) : EReal) = at2 (arg0 m c) (256 * t.val + x) (2048 * 0 + y) :=
  read2 (V_main_arg0 m c) (slot (w0 t).1 rfl) (slot (w0 t).2 rfl)

theorem op_1 (t : Fin cfg0.N) (x : Fin 256) (y : Fin 2048) :
    (iblk m c 1 t (ix2 x y) : EReal) = at2 (arg1 m c) (256 * t.val + x) (2048 * 0 + y) :=
  read2 (V_main_arg1 m c) (slot (w1 t).1 rfl) (slot (w1 t).2 rfl)

theorem op_2 (t : Fin cfg0.N) (x : Fin 256) (y : Fin 2048) :
    (iblk m c 2 t (ix2 x y) : EReal) = at2 (arg2 m c) (256 * t.val + x) (2048 * 0 + y) :=
  read2 (V_main_arg2 m c) (slot (w2 t).1 rfl) (slot (w2 t).2 rfl)

theorem op_3 (t : Fin cfg0.N) (x : Fin 1) (y : Fin 2048) :
    (iblk m c 3 t (ix2 x y) : EReal) = at2 (arg3 m c) (1 * 0 + x) (2048 * 0 + y) :=
  read2 (V_main_arg3 m c) (slot (w3 t).1 rfl) (slot (w3 t).2 rfl)

theorem op_4 (t : Fin cfg0.N) (x : Fin 256) (y : Fin 2048) :
    (iblk m c 4 t (ix2 x y) : EReal) = at2 (arg4 m c) (256 * t.val + x) (2048 * 0 + y) :=
  read2 (V_main_arg4 m c) (slot (w4 t).1 rfl) (slot (w4 t).2 rfl)

theorem op_5 (t : Fin cfg0.N) (x : Fin 1) (y : Fin 2048) :
    (iblk m c 5 t (ix2 x y) : EReal) = at2 (arg5 m c) (1 * 0 + x) (2048 * 0 + y) :=
  read2 (V_main_arg5 m c) (slot (w5 t).1 rfl) (slot (w5 t).2 rfl)

/-! The rows of the blocks are rows of the arrays. -/

theorem rowx_at (t : Fin cfg0.N) (r : Fin 256) : (fun k => (iblk m c 2 t (ix2 r k) : EReal)) = rowx m c (256 * t.val + r) := by
  funext k
  rw [op_2 m c t]
  simp only [Nat.mul_zero, Nat.zero_add]
  rfl

theorem rowd_at (t : Fin cfg0.N) (r : Fin 256) : (fun k => HMul.hMul (α := EReal) (β := EReal) (γ := EReal) (iblk m c 1 t (ix2 r k)) (iblk m c 3 t (ix2 0 k))) = rowd m c (256 * t.val + r) := by
  funext k
  rw [op_1 m c t, op_3 m c t]
  simp only [Nat.mul_zero, Nat.zero_add]
  rfl

theorem rowx2_at (t : Fin cfg0.N) (r : Fin 256) : (fun k => (iblk m c 4 t (ix2 r k) : EReal)) = rowx2 m c (256 * t.val + r) := by
  funext k
  rw [op_4 m c t]
  simp only [Nat.mul_zero, Nat.zero_add]
  rfl

theorem point0 (t : Fin cfg0.N) (r : Fin 256) (d : Fin 2048) :
    ((k0_pay9 (F := Ideal) (iblk m c 2 t) (iblk m c 3 t) (iblk m c 1 t) (iblk m c 0 t)) (ix2 r d) : EReal) = rowb m c (256 * t.val + r) d := by
  rw [row0_at, op_0 m c t, rowx_at m c t, rowd_at m c t, Nat.mul_zero, Nat.zero_add]
  rfl

theorem rowd2_at (t : Fin cfg0.N) (r : Fin 256) : (fun k => HMul.hMul (α := EReal) (β := EReal) (γ := EReal) ((k0_pay9 (F := Ideal) (iblk m c 2 t) (iblk m c 3 t) (iblk m c 1 t) (iblk m c 0 t)) (ix2 r k)) (iblk m c 5 t (ix2 0 k))) = rowd2 m c (256 * t.val + r) := by
  funext k
  rw [point0 m c t, op_5 m c t]
  simp only [Nat.mul_zero, Nat.zero_add]
  rfl

theorem point1 (t : Fin cfg0.N) (r : Fin 256) (d : Fin 2048) :
    (k0_pay3 (F := Ideal) (k0_pay9 (F := Ideal) (iblk m c 2 t) (iblk m c 3 t) (iblk m c 1 t) (iblk m c 0 t)) (iblk m c 4 t) (iblk m c 5 t) (ix2 r d) : EReal) = Norm.grad (rowx2 m c (256 * t.val + r)) (rowd2 m c (256 * t.val + r)) d := by
  rw [row1_at, rowx2_at m c t, rowd2_at m c t]

/-- A step adds its rows' terms. -/
theorem step0_at (t : Fin cfg0.N) (a : FVec Ideal S1x2048 .f32) (d : Fin 2048) :
    (k0_pay10 (F := Ideal) (iblk m c 2 t) (iblk m c 1 t) a (ix2 0 d) : EReal)
    = a (ix2 0 d) + ∑ k ∈ Finset.range 256, term m c d (256 * t.val + k) := by
  rw [pay0_at, ← Fin.sum_univ_eq_sum_range]
  refine congrArg (a (ix2 0 d) + ·) (Finset.sum_congr rfl fun k _ => ?_)
  rw [rowx_at m c t, op_1 m c t, op_2 m c t, Nat.mul_zero, Nat.zero_add]
  rfl

theorem point2 (t : Fin cfg0.N) (hm : t.val % 16 = 15) (d : Fin 2048) :
    ((outsAt0 m c t.val t.isLt).2.2.1 (ix2 0 d) : EReal) = ∑ T ∈ Finset.range 4096, term m c d T :=
  grown (n := 16) (b := 256) (term m c d) (fun t h => (outsAt0 m c t h).2.2.1 (ix2 0 d))
    (fun t h h0 => by rw [left0_A m c ⟨t, h⟩ h0, step0_at m c ⟨t, h⟩, zero0_at, zero_add])
    (fun t h h0 => by rw [left0_B m c ⟨t, h⟩ h0, step0_at m c ⟨t, h⟩]) t.val t.isLt (lt_N t) (congrArg (· + 1) hm)

/-- A step adds its rows' terms. -/
theorem step1_at (t : Fin cfg0.N) (a : FVec Ideal S1x2048 .f32) (d : Fin 2048) :
    (k0_pay4 (F := Ideal) (k0_pay9 (F := Ideal) (iblk m c 2 t) (iblk m c 3 t) (iblk m c 1 t) (iblk m c 0 t)) (iblk m c 4 t) a (ix2 0 d) : EReal)
    = a (ix2 0 d) + ∑ k ∈ Finset.range 256, term2 m c d (256 * t.val + k) := by
  rw [pay1_at, ← Fin.sum_univ_eq_sum_range]
  refine congrArg (a (ix2 0 d) + ·) (Finset.sum_congr rfl fun k _ => ?_)
  rw [rowx2_at m c t, point0 m c t, op_4 m c t, Nat.mul_zero, Nat.zero_add]
  rfl

theorem point3 (t : Fin cfg0.N) (hm : t.val % 16 = 15) (d : Fin 2048) :
    ((outsAt0 m c t.val t.isLt).2.2.2 (ix2 0 d) : EReal) = ∑ T ∈ Finset.range 4096, term2 m c d T :=
  grown (n := 16) (b := 256) (term2 m c d) (fun t h => (outsAt0 m c t h).2.2.2 (ix2 0 d))
    (fun t h h0 => by rw [left1_A m c ⟨t, h⟩ h0, step1_at m c ⟨t, h⟩, zero1_at, zero_add])
    (fun t h h0 => by rw [left1_B m c ⟨t, h⟩ h0, step1_at m c ⟨t, h⟩]) t.val t.isLt (lt_N t) (congrArg (· + 1) hm)

/-! The arrays after the run, entry by entry. -/

def result0 : S4096x2048.Idx → EReal := fun i => rowb m c (i 0).val (i 1)

def result1 : S4096x2048.Idx → EReal := fun i => Norm.grad (rowx2 m c (i 0).val) (rowd2 m c (i 0).val) (i 1)

def result2 : S1x2048.Idx → EReal := fun i => ∑ T ∈ Finset.range 4096, term m c (i 1) T

def result3 : S1x2048.Idx → EReal := fun i => ∑ T ∈ Finset.range 4096, term2 m c (i 1) T

/-- What a grid point writes back is its block of the array. -/
theorem back0 (t : Fin cfg0.N) (hf : (cfg0.win 6).flush t = true) :
    (dats m 0 c).flushed 6 t = ((cfg0.win 6).blk t).view.read (Elt Ideal) (result0 m c) := by
  show (cfg0.win 6).cut (grid0.coords t) ((dats m 0 c).after 6 t) = _
  rw [after0_6]
  funext y
  exact entry2 (f := (outsAt0 m c t.val t.isLt).1) (F := result0 m c) ((cfg0.win 6).xinj (grid0.coords t) y) _ (256 * t.val) (2048 * 0)
    (slot (w6 t).1 rfl) (slot (w6 t).2 rfl)
    fun r d p q hp hq => (congrFun (rows0 m c t) _).trans ((point0 m c t r d).trans (by rw [← hp, ← show q = d from Fin.ext (by omega)]; rfl))

/-- Every entry is in a block that a grid point writes back. -/
theorem everywhere0 (i : S4096x2048.Idx) : ∃ t : Fin cfg0.N, (cfg0.win 6).flush t = true ∧ i ∈ ((cfg0.win 6).blk t).view.set :=
  have ⟨t, e0, e1⟩ := rowsOf (N := cfg0.N) (n := 256) i rfl
  ⟨t, flush0_6 _, in2 (View.set_slice_whole main_v0_0 (win0_6.rect t)) 256 2048 (w6 t).1 rfl rfl (w6 t).2 rfl rfl e0 e1⟩

theorem back1 (t : Fin cfg0.N) (hf : (cfg0.win 7).flush t = true) :
    (dats m 0 c).flushed 7 t = ((cfg0.win 7).blk t).view.read (Elt Ideal) (result1 m c) := by
  show (cfg0.win 7).cut (grid0.coords t) ((dats m 0 c).after 7 t) = _
  rw [after0_7]
  funext y
  exact entry2 (f := (outsAt0 m c t.val t.isLt).2.1) (F := result1 m c) ((cfg0.win 7).xinj (grid0.coords t) y) _ (256 * t.val) (2048 * 0)
    (slot (w7 t).1 rfl) (slot (w7 t).2 rfl)
    fun r d p q hp hq => (congrFun (rows1 m c t) _).trans ((point1 m c t r d).trans (by rw [← hp, ← show q = d from Fin.ext (by omega)]; rfl))

theorem everywhere1 (i : S4096x2048.Idx) : ∃ t : Fin cfg0.N, (cfg0.win 7).flush t = true ∧ i ∈ ((cfg0.win 7).blk t).view.set :=
  have ⟨t, e0, e1⟩ := rowsOf (N := cfg0.N) (n := 256) i rfl
  ⟨t, flush0_7 _, in2 (View.set_slice_whole main_v0_1 (win0_7.rect t)) 256 2048 (w7 t).1 rfl rfl (w7 t).2 rfl rfl e0 e1⟩

theorem back2 (t : Fin cfg0.N) (hf : (cfg0.win 8).flush t = true) :
    (dats m 0 c).flushed 8 t = ((cfg0.win 8).blk t).view.read (Elt Ideal) (result2 m c) := by
  show (cfg0.win 8).cut (grid0.coords t) ((dats m 0 c).after 8 t) = _
  rw [after0_8]
  have hm := (flush0_8 t).mp hf
  funext y
  exact entry2 (f := (outsAt0 m c t.val t.isLt).2.2.1) (F := result2 m c) ((cfg0.win 8).xinj (grid0.coords t) y) _ (1 * 0) (2048 * 0)
    (slot (w8 t).1 rfl) (slot (w8 t).2 rfl)
    fun r d p q hp hq => by
    rw [Subsingleton.elim (α := Fin 1) r 0]
    exact (point2 m c t hm d).trans (by rw [← show q = d from Fin.ext (by omega)]; rfl)

theorem everywhere2 (i : S1x2048.Idx) : ∃ t : Fin cfg0.N, (cfg0.win 8).flush t = true ∧ i ∈ ((cfg0.win 8).blk t).view.set :=
  ⟨last, (flush0_8 _).mpr rfl, in2 (View.set_slice_whole main_v0_2 (win0_8.rect last)) 1 2048 (w8 last).1 rfl rfl (w8 last).2 rfl rfl (whole i).1 (whole i).2⟩

theorem back3 (t : Fin cfg0.N) (hf : (cfg0.win 9).flush t = true) :
    (dats m 0 c).flushed 9 t = ((cfg0.win 9).blk t).view.read (Elt Ideal) (result3 m c) := by
  show (cfg0.win 9).cut (grid0.coords t) ((dats m 0 c).after 9 t) = _
  rw [after0_9]
  have hm := (flush0_9 t).mp hf
  funext y
  exact entry2 (f := (outsAt0 m c t.val t.isLt).2.2.2) (F := result3 m c) ((cfg0.win 9).xinj (grid0.coords t) y) _ (1 * 0) (2048 * 0)
    (slot (w9 t).1 rfl) (slot (w9 t).2 rfl)
    fun r d p q hp hq => by
    rw [Subsingleton.elim (α := Fin 1) r 0]
    exact (point3 m c t hm d).trans (by rw [← show q = d from Fin.ext (by omega)]; rfl)

theorem everywhere3 (i : S1x2048.Idx) : ∃ t : Fin cfg0.N, (cfg0.win 9).flush t = true ∧ i ∈ ((cfg0.win 9).blk t).view.set :=
  ⟨last, (flush0_9 _).mpr rfl, in2 (View.set_slice_whole main_v0_3 (win0_9.rect last)) 1 2048 (w9 last).1 rfl rfl (w9 last).2 rfl rfl (whole i).1 (whole i).2⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_v0_2) = result2 m c
      ∧ r.2.mem ((c : Thread nD τ).loc main_v0_3) = result3 m c
      ∧ holds r.2.mem m c main_arg0
      ∧ holds r.2.mem m c main_arg1
      ∧ holds r.2.mem m c main_arg2
      ∧ holds r.2.mem m c main_arg3
      ∧ holds r.2.mem m c main_arg4
      ∧ holds r.2.mem m c main_arg5 := by
  exact (θ_run defs _ _).mono (fun r h c =>
    have k := fun w e => ((h c).1 w).trans (((dats m 0 c).arrAt_in w e _).trans (A_eq m c w))
    ⟨((h c).1 6).trans ((dats m 0 c).arrAt_eq_of_cover 6 _ (back0 m c) everywhere0), ((h c).1 7).trans ((dats m 0 c).arrAt_eq_of_cover 7 _ (back1 m c) everywhere1), ((h c).1 8).trans ((dats m 0 c).arrAt_eq_of_cover 8 _ (back2 m c) everywhere2), ((h c).1 9).trans ((dats m 0 c).arrAt_eq_of_cover 9 _ (back3 m c) everywhere3), (k 0 rfl).trans (V_main_arg0 m c), (k 1 rfl).trans (V_main_arg1 m c), (k 2 rfl).trans (V_main_arg2 m c), (k 3 rfl).trans (V_main_arg3 m c), (k 4 rfl).trans (V_main_arg4 m c), (k 5 rfl).trans (V_main_arg5 m c)⟩) (run_main m ρ)

theorem dx_ref (i : S4096x2048.Idx) : (val_main_v37 (F := Ideal) (arg0 m c) (arg1 m c) (arg2 m c) (arg3 m c) i : EReal) = rowb m c (i 0).val (i 1) :=
  NormRef.around_ref (arg0 m c) (arg1 m c) (arg2 m c) (arg3 m c) i

theorem equal0 : (result0 m c : (⟨S4096x2048, .f32⟩ : BufTy).Contents (Elt Ideal))
    = val_main_v37 (F := Ideal) (arg0 m c) (arg1 m c) (arg2 m c) (arg3 m c) := funext fun i => (dx_ref m c i).symm

/-- The gradient that reaches the norm, entry by entry. -/
theorem reach2 (r : ℕ) (h : r < 4096) (k : Fin 2048) : at2 (val_main_v37 (F := Ideal) (arg0 m c) (arg1 m c) (arg2 m c) (arg3 m c)) r k = rowb m c r k :=
  (at2_of (val_main_v37 (F := Ideal) (arg0 m c) (arg1 m c) (arg2 m c) (arg3 m c)) (ix2 ⟨r, h⟩ k) r k rfl rfl).symm.trans (dx_ref m c (ix2 ⟨r, h⟩ k))

theorem equal1 : (result1 m c : (⟨S4096x2048, .bf16⟩ : BufTy).Contents (Elt Ideal))
    = val_main_v75 (F := Ideal) (arg0 m c) (arg1 m c) (arg2 m c) (arg3 m c) (arg4 m c) (arg5 m c) := by
  funext i
  rw [val_main_v75_apply, val_main_v74_apply, val_main_v72_apply, val_main_v71_apply, val_main_v73_apply, val_main_v70_apply, val_main_v65_apply, val_main_v64_apply]
  exact (NormRef.grad_ref (val_main_v37 (F := Ideal) (arg0 m c) (arg1 m c) (arg2 m c) (arg3 m c)) (arg4 m c) (arg5 m c) i _ _ rfl (funext fun k =>
    congrArg (fun a : EReal => a * at2 (arg5 m c) 0 k.val) (reach2 m c (i 0).val (i 0).isLt k))).symm

theorem equal2 : (result2 m c : (⟨S1x2048, .f32⟩ : BufTy).Contents (Elt Ideal))
    = val_main_v76 (F := Ideal) (arg1 m c) (arg2 m c) := funext fun i => (NormRef.gain_ref (arg1 m c) (arg2 m c) i).symm

theorem equal3 : (result3 m c : (⟨S1x2048, .f32⟩ : BufTy).Contents (Elt Ideal))
    = val_main_v77 (F := Ideal) (arg0 m c) (arg1 m c) (arg2 m c) (arg3 m c) (arg4 m c) := funext fun i =>
  ((NormRef.gain_ref (val_main_v37 (F := Ideal) (arg0 m c) (arg1 m c) (arg2 m c) (arg3 m c)) (arg4 m c) i).trans (Finset.sum_congr rfl fun T hT =>
    congrArg (fun a : EReal => a * _) (reach2 m c T (Finset.mem_range.mp hT) (i 1)))).symm

end Cert.MatNormMid
-- ==== Proof.MatGateMix.lean ====
/- The mix of the two branches by their gates. -/
module

public import proofs.«01_k».proof.Proof.Blocks
public import proofs.«01_k».proof.Proof.MatGate
public import proofs.«01_k».proof.Proof.Gen.GateMixIdeal.Frame
public import proofs.«01_k».proof.Proof.Gen.GateMixReferenceIdeal.Read

@[expose] public section

set_option maxRecDepth 16384

noncomputable section

namespace Cert.MatGateMix

open Idealize.ShloMosaic GateMixIdeal GateMixIdeal.Gen GateMixReferenceIdeal.Read Blk Idealize.ShloMosaic.TcCoe Idealize.SL.Sem
open MatGate (sg one_f32)

variable (m : (ℓ : Loc nD τ sig) → Buf (Elt Ideal) ℓ) (c : Dev nD)

/-! The arguments as arrays of extended reals. -/

abbrev arg0 : S4096x8192.Idx → EReal := m ((c.tc : Thread nD τ).loc main_arg0)
abbrev arg1 : S4096x2048.Idx → EReal := m ((c.tc : Thread nD τ).loc main_arg1)
abbrev arg2 : S4096x2048.Idx → EReal := m ((c.tc : Thread nD τ).loc main_arg2)

/-- The entry at a row and a column. -/
def mix (r d : ℕ) : EReal := sg (at2 (arg0 m c) r (4096 + d)) * at2 (arg1 m c) r d + sg (at2 (arg0 m c) r (6144 + d)) * at2 (arg2 m c) r d

/-! What a step stores, entry by entry. -/

theorem pay_at (a y b z : FVec Ideal S256x2048 .f32) (i : S256x2048.Idx) :
    (k0_pay1 (F := Ideal) a y b z i : EReal) = sg (a i) * y i + sg (b i) * z i := by
  unfold sg
  rw [← zero_sub (a i), ← zero_sub (b i)]
  pointwise [k0_pay1, one_f32]

/-! The blocks at a grid point. -/

theorem lt_N (t : Fin cfg0.N) : t.val < 16 := lt_of_lt_of_eq t.isLt N_0

theorem w0 : ∀ t : Fin cfg0.N, Goes (win0_0.index t) t.val 2 := by decide +kernel
theorem w1 : ∀ t : Fin cfg0.N, Goes (win0_1.index t) t.val 3 := by decide +kernel
theorem w2 : ∀ t : Fin cfg0.N, Goes (win0_2.index t) t.val 0 := by decide +kernel
theorem w3 : ∀ t : Fin cfg0.N, Goes (win0_3.index t) t.val 0 := by decide +kernel
theorem w4 : ∀ t : Fin cfg0.N, Goes (win0_4.index t) t.val 0 := by decide +kernel

theorem host_0 (i : S4096x8192.Idx) : (V m c main_arg0 i : EReal) = arg0 m c i := congrFun (V_main_arg0 m c) i

theorem op_0 (t : Fin cfg0.N) (x : Fin 256) (y : Fin 2048) :
    (iblk m c 0 t (ix2 x y) : EReal) = at2 (arg0 m c) (256 * t.val + x) (2048 * (2) + y) :=
  (host_0 m c _).trans (at2_of _ _ _ _ (slot (w0 t).1 rfl) (slot (w0 t).2 rfl))

theorem op_1 (t : Fin cfg0.N) (x : Fin 256) (y : Fin 2048) :
    (iblk m c 1 t (ix2 x y) : EReal) = at2 (arg0 m c) (256 * t.val + x) (2048 * (3) + y) :=
  (host_0 m c _).trans (at2_of _ _ _ _ (slot (w1 t).1 rfl) (slot (w1 t).2 rfl))

theorem op_2 (t : Fin cfg0.N) (x : Fin 256) (y : Fin 2048) :
    (iblk m c 2 t (ix2 x y) : EReal) = at2 (arg1 m c) (256 * t.val + x) (2048 * 0 + y) :=
  read2 (V_main_arg1 m c) (slot (w2 t).1 rfl) (slot (w2 t).2 rfl)

theorem op_3 (t : Fin cfg0.N) (x : Fin 256) (y : Fin 2048) :
    (iblk m c 3 t (ix2 x y) : EReal) = at2 (arg2 m c) (256 * t.val + x) (2048 * 0 + y) :=
  read2 (V_main_arg2 m c) (slot (w3 t).1 rfl) (slot (w3 t).2 rfl)

/-! What a grid point leaves. -/

theorem point (t : Fin cfg0.N) (r : Fin 256) (d : Fin 2048) :
    (out0_4 (F := Ideal) (iblk m c 0 t) (iblk m c 1 t) (iblk m c 2 t) (iblk m c 3 t) (ix2 r d) : EReal) = mix m c (256 * t.val + r) d := by
  unfold out0_4
  rw [View.canon_cons_unit_lit' _ _ _ zeros2]
  repeat rw [View.ld_unit_lit' _ _ zeros2]
  rw [pay_at, op_0 m c t, op_1 m c t, op_2 m c t, op_3 m c t]
  simp only [Nat.mul_zero, Nat.zero_add]
  rfl

/-! The arrays after the run. -/

def result : S4096x2048.Idx → EReal := fun i => mix m c (i 0).val (i 1).val

/-- What a grid point writes back is its block of the array. -/
theorem back (t : Fin cfg0.N) : (dats m 0 c).flushed 4 t = ((cfg0.win 4).blk t).view.read (Elt Ideal) (result m c) := by
  show (cfg0.win 4).cut (grid0.coords t) ((dats m 0 c).after 4 t) = _
  rw [after0_4]
  funext y
  exact entry2 (f := (out0_4 (F := Ideal) (iblk m c 0 t) (iblk m c 1 t) (iblk m c 2 t) (iblk m c 3 t))) (F := result m c) ((cfg0.win 4).xinj (grid0.coords t) y) _ (256 * t.val) (2048 * 0)
    (slot (w4 t).1 rfl) (slot (w4 t).2 rfl)
    fun r d p q hp hq => (point m c t r d).trans (by show _ = mix m c p.val q.val; rw [hp, hq, Nat.mul_zero, Nat.zero_add])

/-- Every entry is in a block that a grid point writes back. -/
theorem everywhere (i : S4096x2048.Idx) : ∃ t : Fin cfg0.N, (cfg0.win 4).flush t = true ∧ i ∈ ((cfg0.win 4).blk t).view.set :=
  have ⟨t, e0, e1⟩ := rowsOf (N := cfg0.N) (n := 256) i rfl
  ⟨t, flush0_4 _, in2 (View.set_slice_whole main_v0 (win0_4.rect t)) 256 2048 (w4 t).1 rfl rfl (w4 t).2 rfl rfl e0 e1⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ holds r.2.mem m c main_arg0
      ∧ holds r.2.mem m c main_arg1
      ∧ holds r.2.mem m c main_arg2 := by
  exact (θ_run defs _ _).mono (fun r h c =>
    have k := fun w e => ((h c).1 w).trans (((dats m 0 c).arrAt_in w e _).trans (A_eq m c w))
    ⟨((h c).1 4).trans ((dats m 0 c).arrAt_eq_of_cover 4 _ (fun t _ => back m c t) everywhere), (k 0 rfl).trans (V_main_arg0 m c), (k 2 rfl).trans (V_main_arg1 m c), (k 3 rfl).trans (V_main_arg2 m c)⟩) (run_main m ρ)

/-! The reference. -/

theorem ref_sig_a (i : S4096x2048.Idx) : (val_main_v7 (F := Ideal) (arg0 m c) i : EReal) = sg (at2 (arg0 m c) (i 0).val (4096 + (i 1).val)) := by
  rw [← at2_of (arg0 m c) (idx_main_v0 i) _ _ rfl rfl]
  simp only [val_main_v7_apply, val_main_v6_apply, val_main_cst_0_apply, val_main_v5_apply, val_main_v4_apply, val_main_cst_apply,
    val_main_v3_apply, val_main_v2_apply, val_main_v0_apply]
  unfold sg
  rw [← one_f32]
  rfl

theorem ref_sig_p (i : S4096x2048.Idx) : (val_main_v14 (F := Ideal) (arg0 m c) i : EReal) = sg (at2 (arg0 m c) (i 0).val (6144 + (i 1).val)) := by
  rw [← at2_of (arg0 m c) (idx_main_v1 i) _ _ rfl rfl]
  simp only [val_main_v14_apply, val_main_v13_apply, val_main_cst_2_apply, val_main_v12_apply, val_main_v11_apply, val_main_cst_1_apply,
    val_main_v10_apply, val_main_v9_apply, val_main_v1_apply]
  unfold sg
  rw [← one_f32]
  rfl

theorem equal : (result m c : (⟨S4096x2048, .bf16⟩ : BufTy).Contents (Elt Ideal)) = val_main_v17 (F := Ideal) (arg0 m c) (arg1 m c) (arg2 m c) := by
  funext i
  show mix m c (i 0).val (i 1).val = (val_main_v7 (F := Ideal) (arg0 m c) i : EReal) * arg1 m c i + (val_main_v14 (F := Ideal) (arg0 m c) i : EReal) * arg2 m c i
  rw [ref_sig_a, ref_sig_p, at2_of (arg1 m c) i _ _ rfl rfl, at2_of (arg2 m c) i _ _ rfl rfl]
  rfl

end Cert.MatGateMix
-- ==== Proof.MatPoolGroupForward.lean ====
/- The grouped product and its scale. -/
module

public import proofs.«01_k».proof.Proof.Blocks
public import proofs.«01_k».proof.Proof.MatPoolGroup
public import proofs.«01_k».proof.Proof.Gen.PoolGroupForwardIdeal.Frame
public import proofs.«01_k».proof.Proof.Gen.PoolGroupForwardReferenceIdeal.Read

@[expose] public section

set_option maxRecDepth 16384

noncomputable section

namespace Cert.MatPoolGroupForward

open Idealize.ShloMosaic PoolGroupForwardIdeal PoolGroupForwardIdeal.Gen PoolGroupForwardReferenceIdeal.Read Blk Idealize.ShloMosaic.TcCoe Idealize.SL.Sem
open MatPoolGroup (at3 at3_of)

variable (m : (ℓ : Loc nD τ sig) → Buf (Elt Ideal) ℓ) (c : Dev nD)

/-! The arguments as arrays of extended reals. -/

abbrev arg0 : S4096x1024.Idx → EReal := m ((c.tc : Thread nD τ).loc main_arg0)
abbrev arg1 : S4x256x256.Idx → EReal := m ((c.tc : Thread nD τ).loc main_arg1)
abbrev arg2 : S1x1024.Idx → EReal := m ((c.tc : Thread nD τ).loc main_arg2)

/-- The grouped product's entry at a row and a column. -/
def group (r d : ℕ) : EReal := ∑ k : Fin 256, at2 (arg0 m c) r (256 * (d / 256) + k) * at3 (arg1 m c) (d / 256) k (d % 256)

/-! What a step stores, entry by entry. -/

theorem pay_at (x : FVec Ideal S1024x256 .bf16) (y : FVec Ideal S1x256x256 .bf16) (r : Fin 1024) (d : Fin 256) :
    (k0_pay1 (F := Ideal) x y (ix2 r d) : EReal) = ∑ k : Fin 256, x (ix2 r k) * y (ix3 0 k d) := by
  pointwise [k0_pay1]

theorem scaled_at (x : FVec Ideal S1024x256 .bf16) (y : FVec Ideal S1x256x256 .bf16) (s : FVec Ideal S1x256 .f32) (r : Fin 1024) (d : Fin 256) :
    (k0_pay2 (F := Ideal) x y s (ix2 r d) : EReal) = k0_pay1 (F := Ideal) x y (ix2 r d) * s (ix2 0 d) := by
  unfold k0_pay2
  pointwise []

/-! The blocks at a grid point. -/

theorem lt_N (t : Fin cfg0.N) : t.val < 16 := lt_of_lt_of_eq t.isLt N_0

theorem w0 : ∀ t : Fin cfg0.N, Goes (win0_0.index t) (t.val % 4) (t.val / 4) := by decide +kernel
theorem w1 : ∀ t : Fin cfg0.N, Goes3 (win0_1.index t) (t.val / 4) 0 0 := by decide +kernel
theorem w2 : ∀ t : Fin cfg0.N, Goes (win0_2.index t) 0 (t.val / 4) := by decide +kernel
theorem w3 : ∀ t : Fin cfg0.N, Goes (win0_3.index t) (t.val % 4) (t.val / 4) := by decide +kernel
theorem w4 : ∀ t : Fin cfg0.N, Goes (win0_4.index t) (t.val % 4) (t.val / 4) := by decide +kernel

theorem host_0 : V m c main_v0 = arg0 m c := by
  unfold V
  after_reads_simp
  rfl

theorem op_0 (t : Fin cfg0.N) (x : Fin 1024) (y : Fin 256) :
    (iblk m c 0 t (ix2 x y) : EReal) = at2 (arg0 m c) (1024 * (t.val % 4) + x) (256 * (t.val / 4) + y) :=
  read2 (host_0 m c) (slot (w0 t).1 rfl) (slot (w0 t).2 rfl)

theorem host_1 (i : S4x256x256.Idx) : (V m c main_v1 i : EReal) = arg1 m c i := by
  unfold V
  after_reads_simp
  rfl

theorem op_1 (t : Fin cfg0.N) (x : Fin 256) (y : Fin 256) : (iblk m c 1 t (ix3 0 x y) : EReal) = at3 (arg1 m c) (t.val / 4) x y := by
  obtain ⟨h0, h1, h2⟩ := w1 t
  exact (host_1 m c _).trans (at3_of _ _ _ _ _ (by show win0_1.index t (0 : Fin 3) * 1 + 1 * 0 = _; omega)
    (by show win0_1.index t (1 : Fin 3) * 256 + 1 * x.val = _; omega) (by show win0_1.index t (2 : Fin 3) * 256 + 1 * y.val = _; omega))

theorem op_2 (t : Fin cfg0.N) (x : Fin 1) (y : Fin 256) :
    (iblk m c 2 t (ix2 x y) : EReal) = at2 (arg2 m c) (1 * 0 + x) (256 * (t.val / 4) + y) :=
  read2 (V_main_arg2 m c) (slot (w2 t).1 rfl) (slot (w2 t).2 rfl)

/-! What a grid point leaves. -/

theorem grouped (t : Fin cfg0.N) (r : Fin 1024) (d : Fin 256) :
    (k0_pay1 (F := Ideal) (iblk m c 0 t) (iblk m c 1 t) (ix2 r d) : EReal) = group m c (1024 * (t.val % 4) + r) (256 * (t.val / 4) + d) := by
  rw [pay_at]
  unfold group
  refine Finset.sum_congr rfl fun k _ => ?_
  rw [op_0 m c t, op_1 m c t, show (256 * (t.val / 4) + d.val) / 256 = t.val / 4 by omega, show (256 * (t.val / 4) + d.val) % 256 = d.val by omega]

theorem point0 (t : Fin cfg0.N) (r : Fin 1024) (d : Fin 256) :
    (out0_3 (F := Ideal) (iblk m c 0 t) (iblk m c 1 t) (iblk m c 2 t) (ix2 r d) : EReal) = group m c (1024 * (t.val % 4) + r) (256 * (t.val / 4) + d) := by
  unfold out0_3
  rw [View.canon_cons_unit_lit' _ _ _ zeros2, View.ld_unit_lit' _ _ zeros2, View.ld_unit_lit' _ _ zeros3, grouped m c t]

theorem point1 (t : Fin cfg0.N) (r : Fin 1024) (d : Fin 256) :
    (out0_4 (F := Ideal) (iblk m c 0 t) (iblk m c 1 t) (iblk m c 2 t) (ix2 r d) : EReal)
    = group m c (1024 * (t.val % 4) + r) (256 * (t.val / 4) + d) * at2 (arg2 m c) 0 (256 * (t.val / 4) + d) := by
  unfold out0_4
  rw [View.canon_cons_unit_lit' _ _ _ zeros2, View.ld_unit_lit' _ _ zeros2, View.ld_unit_lit' _ _ zeros3, View.ld_unit_lit' _ _ zeros2, scaled_at, grouped m c t, op_2 m c t]
  rfl

/-! The arrays after the run. -/

def result0 : S4096x1024.Idx → EReal := fun i => group m c (i 0).val (i 1).val

/-- What a grid point writes back is its block of the array. -/
theorem back0 (t : Fin cfg0.N) : (dats m 0 c).flushed 3 t = ((cfg0.win 3).blk t).view.read (Elt Ideal) (result0 m c) := by
  show (cfg0.win 3).cut (grid0.coords t) ((dats m 0 c).after 3 t) = _
  rw [after0_3]
  funext y
  exact entry2 (f := (out0_3 (F := Ideal) (iblk m c 0 t) (iblk m c 1 t) (iblk m c 2 t))) (F := result0 m c) ((cfg0.win 3).xinj (grid0.coords t) y) _ (1024 * (t.val % 4)) (256 * (t.val / 4))
    (slot (w3 t).1 rfl) (slot (w3 t).2 rfl)
    fun r d p q hp hq => (point0 m c t r d).trans (by show _ = group m c p.val q.val; rw [hp, hq])

/-- Every entry is in a block that a grid point writes back. -/
theorem everywhere0 (i : S4096x1024.Idx) : ∃ t : Fin cfg0.N, (cfg0.win 3).flush t = true ∧ i ∈ ((cfg0.win 3).blk t).view.set := by
  have i0 : (i 0).val < 4096 := (i 0).isLt
  have i1 : (i 1).val < 1024 := (i 1).isLt
  have hN : cfg0.N = 16 := N_0
  obtain ⟨t, ht⟩ : ∃ t : Fin cfg0.N, t.val = 4 * ((i 1).val / 256) + (i 0).val / 1024 := ⟨⟨_, by omega⟩, rfl⟩
  obtain ⟨h0, h1⟩ := w3 t
  exact ⟨t, flush0_3 _, in2 (View.set_slice_whole main_v2_0 (win0_3.rect t)) 1024 256 h0 rfl rfl h1 rfl rfl (by omega) (by omega)⟩

def result1 : S4096x1024.Idx → EReal := fun i => group m c (i 0).val (i 1).val * at2 (arg2 m c) 0 (i 1).val

theorem back1 (t : Fin cfg0.N) : (dats m 0 c).flushed 4 t = ((cfg0.win 4).blk t).view.read (Elt Ideal) (result1 m c) := by
  show (cfg0.win 4).cut (grid0.coords t) ((dats m 0 c).after 4 t) = _
  rw [after0_4]
  funext y
  exact entry2 (f := (out0_4 (F := Ideal) (iblk m c 0 t) (iblk m c 1 t) (iblk m c 2 t))) (F := result1 m c) ((cfg0.win 4).xinj (grid0.coords t) y) _ (1024 * (t.val % 4)) (256 * (t.val / 4))
    (slot (w4 t).1 rfl) (slot (w4 t).2 rfl)
    fun r d p q hp hq => (point1 m c t r d).trans (by show _ = group m c p.val q.val * at2 (arg2 m c) 0 q.val; rw [hp, hq])

theorem everywhere1 (i : S4096x1024.Idx) : ∃ t : Fin cfg0.N, (cfg0.win 4).flush t = true ∧ i ∈ ((cfg0.win 4).blk t).view.set := by
  have i0 : (i 0).val < 4096 := (i 0).isLt
  have i1 : (i 1).val < 1024 := (i 1).isLt
  have hN : cfg0.N = 16 := N_0
  obtain ⟨t, ht⟩ : ∃ t : Fin cfg0.N, t.val = 4 * ((i 1).val / 256) + (i 0).val / 1024 := ⟨⟨_, by omega⟩, rfl⟩
  obtain ⟨h0, h1⟩ := w4 t
  exact ⟨t, flush0_4 _, in2 (View.set_slice_whole main_v2_1 (win0_4.rect t)) 1024 256 h0 rfl rfl h1 rfl rfl (by omega) (by omega)⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2_0) = result0 m c
      ∧ r.2.mem ((c : Thread nD τ).loc main_v2_1) = result1 m c
      ∧ holds r.2.mem m c main_arg0
      ∧ holds r.2.mem m c main_arg1
      ∧ holds r.2.mem m c main_arg2 := by
  refine (θ_run defs _ _).mono (fun r h c => ⟨((h c).1 3).trans ((dats m 0 c).arrAt_eq_of_cover 3 _ (fun t _ => back0 m c t) everywhere0), ((h c).1 4).trans ((dats m 0 c).arrAt_eq_of_cover 4 _ (fun t _ => back1 m c t) everywhere1), ?_, ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).1 2).trans (((dats m 0 c).arrAt_in 2 rfl _).trans ((A_eq m c 2).trans (V_main_arg2 m c)))

/-! The reference. -/

theorem group_ref (i : S4096x1024.Idx) : (val_main_v3 (F := Ideal) (arg0 m c) (arg1 m c) i : EReal) = group m c (i 0).val (i 1).val := by
  have h0 := (i 0).isLt
  have h1 := (i 1).isLt
  change (i 0).val < 4096 at h0
  change (i 1).val < 1024 at h1
  refine (val_main_v3_apply (F := Ideal) _ _ i).trans ((val_main_v2_apply (F := Ideal) _ _ _).trans ((val_main_v1_apply _ _ _).trans ?_))
  refine Finset.sum_congr rfl fun k _ => ?_
  have hk := k.isLt
  refine (mul_comm _ _).trans (congrArg₂ (fun a b : EReal => a * b) ?_ ?_)
  · refine (val_main_v0_apply (F := Ideal) _ _).trans (at2_of (arg0 m c) _ _ _ ?_ ?_)
    · show (((((i 0).val * 1024 + (i 1).val) / 1024) * 4 + (((i 0).val * 1024 + (i 1).val) / 256 % 4)) * 256 + k.val) / 1024 = (i 0).val
      omega
    · show (((((i 0).val * 1024 + (i 1).val) / 1024) * 4 + (((i 0).val * 1024 + (i 1).val) / 256 % 4)) * 256 + k.val) % 1024 = 256 * ((i 1).val / 256) + k.val
      omega
  · refine at3_of (arg1 m c) _ _ _ _ ?_ rfl ?_
    · show ((i 0).val * 1024 + (i 1).val) / 256 % 4 = (i 1).val / 256
      omega
    · show ((i 0).val * 1024 + (i 1).val) % 256 = (i 1).val % 256
      omega

theorem equal0 : (result0 m c : (⟨S4096x1024, .f32⟩ : BufTy).Contents (Elt Ideal)) = val_main_v3 (F := Ideal) (arg0 m c) (arg1 m c) :=
  funext fun i => (group_ref m c i).symm

theorem equal1 : (result1 m c : (⟨S4096x1024, .bf16⟩ : BufTy).Contents (Elt Ideal)) = val_main_v8 (F := Ideal) (arg0 m c) (arg1 m c) (arg2 m c) := by
  funext i
  have h1 := (i 1).isLt
  change (i 1).val < 1024 at h1
  rw [val_main_v8_apply, val_main_v7_apply, val_main_v6_apply, val_main_v5_apply, val_main_v4_apply]
  exact (congrArg₂ (fun a b : EReal => a * b) (group_ref m c i) (at2_of (arg2 m c) (idx_main_v4 (idx_main_v5 (idx_main_v6 i))) _ _ rfl (Nat.mod_eq_of_lt h1))).symm

end Cert.MatPoolGroupForward
-- ==== Proof.MatNormInForward.lean ====
/- The block's first norm. -/
module

public import proofs.«01_k».proof.Proof.Blocks
public import proofs.«01_k».proof.Proof.NormRef
public import proofs.«01_k».proof.Proof.Gen.NormInForwardIdeal.Frame
public import proofs.«01_k».proof.Proof.Gen.NormInForwardReferenceIdeal.Read

@[expose] public section

set_option maxRecDepth 16384

noncomputable section

namespace Cert.MatNormInForward

open Idealize.ShloMosaic NormInForwardIdeal NormInForwardIdeal.Gen NormInForwardReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S1x2048.Idx → EReal := m ((c.tc : Thread nD τ).loc main_arg1)

/-! What a step stores, entry by entry. -/

theorem pay_at (x : FVec Ideal S256x2048 .f32) (s : FVec Ideal S1x2048 .f32) (r : Fin 256) (d : Fin 2048) :
    (k0_pay1 (F := Ideal) x s (ix2 r d) : EReal) = Norm.out (fun k => x (ix2 r k)) (fun k => s (ix2 0 k)) d := by
  pointwise [k0_pay1]
  rfl

/-! The blocks at a grid point. -/

theorem lt_N (t : Fin cfg0.N) : t.val < 16 := lt_of_lt_of_eq t.isLt N_0

theorem w0 : ∀ t : Fin cfg0.N, Goes (win0_0.index t) t.val 0 := by decide +kernel
theorem w1 : ∀ t : Fin cfg0.N, Goes (win0_1.index t) 0 0 := by decide +kernel
theorem w2 : ∀ t : Fin cfg0.N, Goes (win0_2.index t) t.val 0 := by decide +kernel

theorem op_0 (t : Fin cfg0.N) (x : Fin 256) (y : Fin 2048) :
    (iblk m c 0 t (ix2 x y) : EReal) = at2 (arg0 m c) (256 * t.val + x) (2048 * 0 + y) :=
  read2 (V_main_arg0 m c) (slot (w0 t).1 rfl) (slot (w0 t).2 rfl)

theorem op_1 (t : Fin cfg0.N) (x : Fin 1) (y : Fin 2048) :
    (iblk m c 1 t (ix2 x y) : EReal) = at2 (arg1 m c) (1 * 0 + x) (2048 * 0 + y) :=
  read2 (V_main_arg1 m c) (slot (w1 t).1 rfl) (slot (w1 t).2 rfl)

/-! What a grid point leaves. -/

theorem row0_at (t : Fin cfg0.N) (r : Fin 256) (d : Fin 2048) : (iblk m c 0 t (ix2 r d) : EReal) = NormRef.row (arg0 m c) (256 * t.val + r) d := by
  rw [op_0 m c t, Nat.mul_zero, Nat.zero_add]
  rfl

theorem gain1_at (t : Fin cfg0.N) (d : Fin 2048) : (iblk m c 1 t (ix2 0 d) : EReal) = at2 (arg1 m c) 0 d := by
  rw [op_1 m c t]
  simp only [Nat.mul_zero, Nat.zero_add]
  rfl

theorem point (t : Fin cfg0.N) (r : Fin 256) (d : Fin 2048) : (out0_2 (F := Ideal) (iblk m c 0 t) (iblk m c 1 t) (ix2 r d) : EReal)
    = Norm.out (NormRef.row (arg0 m c) (256 * t.val + r)) (fun k => at2 (arg1 m c) 0 k) d := by
  unfold out0_2
  rw [View.canon_cons_unit_lit' _ _ _ zeros2]
  repeat rw [View.ld_unit_lit' _ _ zeros2]
  rw [pay_at]
  exact congrArg₂ (fun x s => Norm.out x s d) (funext fun k => row0_at m c t r k) (funext fun k => gain1_at m c t k)

/-! The arrays after the run. -/

def result : S4096x2048.Idx → EReal := fun i => Norm.out (NormRef.row (arg0 m c) (i 0).val) (fun k => at2 (arg1 m c) 0 k) (i 1)

/-- What a grid point writes back is its block of the array. -/
theorem back (t : Fin cfg0.N) : (dats m 0 c).flushed 2 t = ((cfg0.win 2).blk t).view.read (Elt Ideal) (result m c) := by
  show (cfg0.win 2).cut (grid0.coords t) ((dats m 0 c).after 2 t) = _
  rw [after0_2]
  funext y
  exact entry2 (f := (out0_2 (F := Ideal) (iblk m c 0 t) (iblk m c 1 t))) (F := result m c) ((cfg0.win 2).xinj (grid0.coords t) y) _ (256 * t.val) (2048 * 0)
    (slot (w2 t).1 rfl) (slot (w2 t).2 rfl)
    fun r d p q hp hq => (point m c t r d).trans (by rw [show d = q from Fin.ext (by omega), ← hp]; rfl)

/-- Every entry is in a block that a grid point writes back. -/
theorem everywhere (i : S4096x2048.Idx) : ∃ t : Fin cfg0.N, (cfg0.win 2).flush t = true ∧ i ∈ ((cfg0.win 2).blk t).view.set :=
  have ⟨t, e0, e1⟩ := rowsOf (N := cfg0.N) (n := 256) i rfl
  ⟨t, flush0_2 _, in2 (View.set_slice_whole main_v0 (win0_2.rect t)) 256 2048 (w2 t).1 rfl rfl (w2 t).2 rfl rfl e0 e1⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ holds r.2.mem m c main_arg0
      ∧ holds r.2.mem m c main_arg1 := by
  refine (θ_run defs _ _).mono (fun r h c => ⟨((h c).1 2).trans ((dats m 0 c).arrAt_eq_of_cover 2 _ (fun t _ => back m c t) everywhere), ?_, ?_⟩) (run_main m ρ)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

/-! The reference. -/

theorem equal : (result m c : (⟨S4096x2048, .bf16⟩ : BufTy).Contents (Elt Ideal)) = val_main_v14 (F := Ideal) (arg0 m c) (arg1 m c) :=
  funext fun i => (NormRef.out_ref (arg0 m c) (arg1 m c) i).symm

end Cert.MatNormInForward
-- ==== Proof.MatNormMidForward.lean ====
/- The norm after the token mixer, added to the residual, and the norm of the sum. -/
module

public import proofs.«01_k».proof.Proof.Blocks
public import proofs.«01_k».proof.Proof.NormRef
public import proofs.«01_k».proof.Proof.Gen.NormMidForwardIdeal.Frame
public import proofs.«01_k».proof.Proof.Gen.NormMidForwardReferenceIdeal.Read

@[expose] public section

set_option maxRecDepth 16384

noncomputable section

namespace Cert.MatNormMidForward

open Idealize.ShloMosaic NormMidForwardIdeal NormMidForwardIdeal.Gen NormMidForwardReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S4096x2048.Idx → EReal := m ((c.tc : Thread nD τ).loc main_arg1)
abbrev arg2 : S1x2048.Idx → EReal := m ((c.tc : Thread nD τ).loc main_arg2)
abbrev arg3 : S1x2048.Idx → EReal := m ((c.tc : Thread nD τ).loc main_arg3)

/-- A row of the sum of the residual and the norm. -/
def sum (r : ℕ) : Fin 2048 → EReal := fun k => at2 (arg0 m c) r k + Norm.out (NormRef.row (arg1 m c) r) (fun j => at2 (arg2 m c) 0 j) k

/-! What a step stores, entry by entry. -/

theorem pay_at (a x : FVec Ideal S256x2048 .f32) (s : FVec Ideal S1x2048 .f32) (r : Fin 256) (d : Fin 2048) :
    (k0_pay1 (F := Ideal) a x s (ix2 r d) : EReal) = a (ix2 r d) + Norm.out (fun k => x (ix2 r k)) (fun k => s (ix2 0 k)) d := by
  pointwise [k0_pay1]
  rfl

theorem pay2_at (a x : FVec Ideal S256x2048 .f32) (s u : FVec Ideal S1x2048 .f32) (r : Fin 256) (d : Fin 2048) :
    (k0_pay2 (F := Ideal) a x s u (ix2 r d) : EReal) = Norm.out (fun k => k0_pay1 (F := Ideal) a x s (ix2 r k)) (fun k => u (ix2 0 k)) d := by
  unfold k0_pay2
  pointwise []
  rfl

/-! The blocks at a grid point. -/

theorem lt_N (t : Fin cfg0.N) : t.val < 16 := lt_of_lt_of_eq t.isLt N_0

theorem w0 : ∀ t : Fin cfg0.N, Goes (win0_0.index t) t.val 0 := by decide +kernel
theorem w1 : ∀ t : Fin cfg0.N, Goes (win0_1.index t) t.val 0 := by decide +kernel
theorem w2 : ∀ t : Fin cfg0.N, Goes (win0_2.index t) 0 0 := by decide +kernel
theorem w3 : ∀ t : Fin cfg0.N, Goes (win0_3.index t) 0 0 := by decide +kernel
theorem w4 : ∀ t : Fin cfg0.N, Goes (win0_4.index t) t.val 0 := by decide +kernel
theorem w5 : ∀ t : Fin cfg0.N, Goes (win0_5.index t) t.val 0 := by decide +kernel

theorem op_0 (t : Fin cfg0.N) (x : Fin 256) (y : Fin 2048) :
    (iblk m c 0 t (ix2 x y) : EReal) = at2 (arg0 m c) (256 * t.val + x) (2048 * 0 + y) :=
  read2 (V_main_arg0 m c) (slot (w0 t).1 rfl) (slot (w0 t).2 rfl)

theorem op_1 (t : Fin cfg0.N) (x : Fin 256) (y : Fin 2048) :
    (iblk m c 1 t (ix2 x y) : EReal) = at2 (arg1 m c) (256 * t.val + x) (2048 * 0 + y) :=
  read2 (V_main_arg1 m c) (slot (w1 t).1 rfl) (slot (w1 t).2 rfl)

theorem op_2 (t : Fin cfg0.N) (x : Fin 1) (y : Fin 2048) :
    (iblk m c 2 t (ix2 x y) : EReal) = at2 (arg2 m c) (1 * 0 + x) (2048 * 0 + y) :=
  read2 (V_main_arg2 m c) (slot (w2 t).1 rfl) (slot (w2 t).2 rfl)

theorem op_3 (t : Fin cfg0.N) (x : Fin 1) (y : Fin 2048) :
    (iblk m c 3 t (ix2 x y) : EReal) = at2 (arg3 m c) (1 * 0 + x) (2048 * 0 + y) :=
  read2 (V_main_arg3 m c) (slot (w3 t).1 rfl) (slot (w3 t).2 rfl)

/-! What a grid point leaves. -/

theorem row1_at (t : Fin cfg0.N) (r : Fin 256) (d : Fin 2048) : (iblk m c 1 t (ix2 r d) : EReal) = NormRef.row (arg1 m c) (256 * t.val + r) d := by
  rw [op_1 m c t, Nat.mul_zero, Nat.zero_add]
  rfl

theorem gain2_at (t : Fin cfg0.N) (d : Fin 2048) : (iblk m c 2 t (ix2 0 d) : EReal) = at2 (arg2 m c) 0 d := by
  rw [op_2 m c t]
  simp only [Nat.mul_zero, Nat.zero_add]
  rfl

theorem summed (t : Fin cfg0.N) (r : Fin 256) (d : Fin 2048) :
    (k0_pay1 (F := Ideal) (iblk m c 0 t) (iblk m c 1 t) (iblk m c 2 t) (ix2 r d) : EReal) = sum m c (256 * t.val + r) d := by
  rw [pay_at, op_0 m c t, Nat.mul_zero, Nat.zero_add]
  exact congrArg₂ (fun x s => at2 (arg0 m c) (256 * t.val + r) d + Norm.out x s d) (funext fun k => row1_at m c t r k) (funext fun k => gain2_at m c t k)

theorem gain3_at (t : Fin cfg0.N) (d : Fin 2048) : (iblk m c 3 t (ix2 0 d) : EReal) = at2 (arg3 m c) 0 d := by
  rw [op_3 m c t]
  simp only [Nat.mul_zero, Nat.zero_add]
  rfl

theorem point0 (t : Fin cfg0.N) (r : Fin 256) (d : Fin 2048) :
    (out0_4 (F := Ideal) (iblk m c 0 t) (iblk m c 1 t) (iblk m c 2 t) (iblk m c 3 t) (ix2 r d) : EReal) = sum m c (256 * t.val + r) d := by
  unfold out0_4
  rw [View.canon_cons_unit_lit' _ _ _ zeros2]
  repeat rw [View.ld_unit_lit' _ _ zeros2]
  exact summed m c t r d

theorem point1 (t : Fin cfg0.N) (r : Fin 256) (d : Fin 2048) :
    (out0_5 (F := Ideal) (iblk m c 0 t) (iblk m c 1 t) (iblk m c 2 t) (iblk m c 3 t) (ix2 r d) : EReal)
    = Norm.out (sum m c (256 * t.val + r)) (fun k => at2 (arg3 m c) 0 k) d := by
  unfold out0_5
  rw [View.canon_cons_unit_lit' _ _ _ zeros2]
  repeat rw [View.ld_unit_lit' _ _ zeros2]
  rw [pay2_at]
  exact congrArg₂ (fun x s => Norm.out x s d) (funext fun k => summed m c t r k) (funext fun k => gain3_at m c t k)

/-! The arrays after the run. -/

def result0 : S4096x2048.Idx → EReal := fun i => sum m c (i 0).val (i 1)

/-- What a grid point writes back is its block of the array. -/
theorem back0 (t : Fin cfg0.N) : (dats m 0 c).flushed 4 t = ((cfg0.win 4).blk t).view.read (Elt Ideal) (result0 m c) := by
  show (cfg0.win 4).cut (grid0.coords t) ((dats m 0 c).after 4 t) = _
  rw [after0_4]
  funext y
  exact entry2 (f := (out0_4 (F := Ideal) (iblk m c 0 t) (iblk m c 1 t) (iblk m c 2 t) (iblk m c 3 t))) (F := result0 m c) ((cfg0.win 4).xinj (grid0.coords t) y) _ (256 * t.val) (2048 * 0)
    (slot (w4 t).1 rfl) (slot (w4 t).2 rfl)
    fun r d p q hp hq => (point0 m c t r d).trans (by rw [show d = q from Fin.ext (by omega), ← hp]; rfl)

/-- Every entry is in a block that a grid point writes back. -/
theorem everywhere0 (i : S4096x2048.Idx) : ∃ t : Fin cfg0.N, (cfg0.win 4).flush t = true ∧ i ∈ ((cfg0.win 4).blk t).view.set :=
  have ⟨t, e0, e1⟩ := rowsOf (N := cfg0.N) (n := 256) i rfl
  ⟨t, flush0_4 _, in2 (View.set_slice_whole main_v0_0 (win0_4.rect t)) 256 2048 (w4 t).1 rfl rfl (w4 t).2 rfl rfl e0 e1⟩

def result1 : S4096x2048.Idx → EReal := fun i => Norm.out (sum m c (i 0).val) (fun k => at2 (arg3 m c) 0 k) (i 1)

theorem back1 (t : Fin cfg0.N) : (dats m 0 c).flushed 5 t = ((cfg0.win 5).blk t).view.read (Elt Ideal) (result1 m c) := by
  show (cfg0.win 5).cut (grid0.coords t) ((dats m 0 c).after 5 t) = _
  rw [after0_5]
  funext y
  exact entry2 (f := (out0_5 (F := Ideal) (iblk m c 0 t) (iblk m c 1 t) (iblk m c 2 t) (iblk m c 3 t))) (F := result1 m c) ((cfg0.win 5).xinj (grid0.coords t) y) _ (256 * t.val) (2048 * 0)
    (slot (w5 t).1 rfl) (slot (w5 t).2 rfl)
    fun r d p q hp hq => (point1 m c t r d).trans (by rw [show d = q from Fin.ext (by omega), ← hp]; rfl)

theorem everywhere1 (i : S4096x2048.Idx) : ∃ t : Fin cfg0.N, (cfg0.win 5).flush t = true ∧ i ∈ ((cfg0.win 5).blk t).view.set :=
  have ⟨t, e0, e1⟩ := rowsOf (N := cfg0.N) (n := 256) i rfl
  ⟨t, flush0_5 _, in2 (View.set_slice_whole main_v0_1 (win0_5.rect t)) 256 2048 (w5 t).1 rfl rfl (w5 t).2 rfl rfl e0 e1⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ holds r.2.mem m c main_arg0
      ∧ holds r.2.mem m c main_arg1
      ∧ holds r.2.mem m c main_arg2
      ∧ holds r.2.mem m c main_arg3 := by
  exact (θ_run defs _ _).mono (fun r h c =>
    have k := fun w e => ((h c).1 w).trans (((dats m 0 c).arrAt_in w e _).trans (A_eq m c w))
    ⟨((h c).1 4).trans ((dats m 0 c).arrAt_eq_of_cover 4 _ (fun t _ => back0 m c t) everywhere0), ((h c).1 5).trans ((dats m 0 c).arrAt_eq_of_cover 5 _ (fun t _ => back1 m c t) everywhere1), (k 0 rfl).trans (V_main_arg0 m c), (k 1 rfl).trans (V_main_arg1 m c), (k 2 rfl).trans (V_main_arg2 m c), (k 3 rfl).trans (V_main_arg3 m c)⟩) (run_main m ρ)

/-! The reference. -/

theorem sum_ref (i : S4096x2048.Idx) : (val_main_v14 (F := Ideal) (arg0 m c) (arg1 m c) (arg2 m c) i : EReal) = sum m c (i 0).val (i 1) :=
  (val_main_v14_apply (F := Ideal) _ _ _ i).trans (congrArg₂ (fun a b : EReal => a + b) (at2_of (arg0 m c) i _ _ rfl rfl) (NormRef.out_ref (arg1 m c) (arg2 m c) i))

theorem equal0 : (result0 m c : (⟨S4096x2048, .f32⟩ : BufTy).Contents (Elt Ideal)) = val_main_v14 (F := Ideal) (arg0 m c) (arg1 m c) (arg2 m c) :=
  funext fun i => (sum_ref m c i).symm

theorem equal1 : (result1 m c : (⟨S4096x2048, .bf16⟩ : BufTy).Contents (Elt Ideal)) = val_main_v29 (F := Ideal) (arg0 m c) (arg1 m c) (arg2 m c) (arg3 m c) := by
  funext i
  refine Eq.symm ((NormRef.out_ref (val_main_v14 (F := Ideal) (arg0 m c) (arg1 m c) (arg2 m c)) (arg3 m c) i).trans ?_)
  refine congrArg (fun x => Norm.out x (fun k => at2 (arg3 m c) 0 k) (i 1)) (funext fun k => ?_)
  exact (at2_of (val_main_v14 (F := Ideal) (arg0 m c) (arg1 m c) (arg2 m c)) (ix2 (i 0) k) _ _ rfl rfl).symm.trans (sum_ref m c (ix2 (i 0) k))

end Cert.MatNormMidForward
-- ==== Proof.MatNormDownForward.lean ====
/- The block's last norm, added to the residual. -/
module

public import proofs.«01_k».proof.Proof.Blocks
public import proofs.«01_k».proof.Proof.NormRef
public import proofs.«01_k».proof.Proof.Gen.NormDownForwardIdeal.Frame
public import proofs.«01_k».proof.Proof.Gen.NormDownForwardReferenceIdeal.Read

@[expose] public section

set_option maxRecDepth 16384

noncomputable section

namespace Cert.MatNormDownForward

open Idealize.ShloMosaic NormDownForwardIdeal NormDownForwardIdeal.Gen NormDownForwardReferenceIdeal.Read Blk Idealize.ShloMosaic.TcCoe Idealize.SL.Sem

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S4096x2048.Idx → EReal := m ((c.tc : Thread nD τ).loc main_arg1)
abbrev arg2 : S1x2048.Idx → EReal := m ((c.tc : Thread nD τ).loc main_arg2)

/-- A row of the sum of the residual and the norm. -/
def sum (r : ℕ) : Fin 2048 → EReal := fun k => at2 (arg0 m c) r k + Norm.out (NormRef.row (arg1 m c) r) (fun j => at2 (arg2 m c) 0 j) k

/-! What a step stores, entry by entry. -/

theorem pay_at (a x : FVec Ideal S256x2048 .f32) (s : FVec Ideal S1x2048 .f32) (r : Fin 256) (d : Fin 2048) :
    (k0_pay1 (F := Ideal) a x s (ix2 r d) : EReal) = a (ix2 r d) + Norm.out (fun k => x (ix2 r k)) (fun k => s (ix2 0 k)) d := by
  pointwise [k0_pay1]
  rfl

/-! The blocks at a grid point. -/

theorem lt_N (t : Fin cfg0.N) : t.val < 16 := lt_of_lt_of_eq t.isLt N_0

theorem w0 : ∀ t : Fin cfg0.N, Goes (win0_0.index t) t.val 0 := by decide +kernel
theorem w1 : ∀ t : Fin cfg0.N, Goes (win0_1.index t) t.val 0 := by decide +kernel
theorem w2 : ∀ t : Fin cfg0.N, Goes (win0_2.index t) 0 0 := by decide +kernel
theorem w3 : ∀ t : Fin cfg0.N, Goes (win0_3.index t) t.val 0 := by decide +kernel
theorem w4 : ∀ t : Fin cfg0.N, Goes (win0_4.index t) t.val 0 := by decide +kernel

theorem op_0 (t : Fin cfg0.N) (x : Fin 256) (y : Fin 2048) :
    (iblk m c 0 t (ix2 x y) : EReal) = at2 (arg0 m c) (256 * t.val + x) (2048 * 0 + y) :=
  read2 (V_main_arg0 m c) (slot (w0 t).1 rfl) (slot (w0 t).2 rfl)

theorem op_1 (t : Fin cfg0.N) (x : Fin 256) (y : Fin 2048) :
    (iblk m c 1 t (ix2 x y) : EReal) = at2 (arg1 m c) (256 * t.val + x) (2048 * 0 + y) :=
  read2 (V_main_arg1 m c) (slot (w1 t).1 rfl) (slot (w1 t).2 rfl)

theorem op_2 (t : Fin cfg0.N) (x : Fin 1) (y : Fin 2048) :
    (iblk m c 2 t (ix2 x y) : EReal) = at2 (arg2 m c) (1 * 0 + x) (2048 * 0 + y) :=
  read2 (V_main_arg2 m c) (slot (w2 t).1 rfl) (slot (w2 t).2 rfl)

/-! What a grid point leaves. -/

theorem row1_at (t : Fin cfg0.N) (r : Fin 256) (d : Fin 2048) : (iblk m c 1 t (ix2 r d) : EReal) = NormRef.row (arg1 m c) (256 * t.val + r) d := by
  rw [op_1 m c t, Nat.mul_zero, Nat.zero_add]
  rfl

theorem gain2_at (t : Fin cfg0.N) (d : Fin 2048) : (iblk m c 2 t (ix2 0 d) : EReal) = at2 (arg2 m c) 0 d := by
  rw [op_2 m c t]
  simp only [Nat.mul_zero, Nat.zero_add]
  rfl

theorem summed (t : Fin cfg0.N) (r : Fin 256) (d : Fin 2048) :
    (k0_pay1 (F := Ideal) (iblk m c 0 t) (iblk m c 1 t) (iblk m c 2 t) (ix2 r d) : EReal) = sum m c (256 * t.val + r) d := by
  rw [pay_at, op_0 m c t, Nat.mul_zero, Nat.zero_add]
  exact congrArg₂ (fun x s => at2 (arg0 m c) (256 * t.val + r) d + Norm.out x s d) (funext fun k => row1_at m c t r k) (funext fun k => gain2_at m c t k)

theorem point0 (t : Fin cfg0.N) (r : Fin 256) (d : Fin 2048) :
    (out0_3 (F := Ideal) (iblk m c 0 t) (iblk m c 1 t) (iblk m c 2 t) (ix2 r d) : EReal) = sum m c (256 * t.val + r) d := by
  unfold out0_3
  rw [View.canon_cons_unit_lit' _ _ _ zeros2]
  repeat rw [View.ld_unit_lit' _ _ zeros2]
  exact summed m c t r d

theorem point1 (t : Fin cfg0.N) (r : Fin 256) (d : Fin 2048) :
    (out0_4 (F := Ideal) (iblk m c 0 t) (iblk m c 1 t) (iblk m c 2 t) (ix2 r d) : EReal) = sum m c (256 * t.val + r) d := by
  unfold out0_4
  rw [View.canon_cons_unit_lit' _ _ _ zeros2]
  repeat rw [View.ld_unit_lit' _ _ zeros2]
  exact summed m c t r d

/-! The arrays after the run. -/

def result0 : S4096x2048.Idx → EReal := fun i => sum m c (i 0).val (i 1)

/-- What a grid point writes back is its block of the array. -/
theorem back0 (t : Fin cfg0.N) : (dats m 0 c).flushed 3 t = ((cfg0.win 3).blk t).view.read (Elt Ideal) (result0 m c) := by
  show (cfg0.win 3).cut (grid0.coords t) ((dats m 0 c).after 3 t) = _
  rw [after0_3]
  funext y
  exact entry2 (f := (out0_3 (F := Ideal) (iblk m c 0 t) (iblk m c 1 t) (iblk m c 2 t))) (F := result0 m c) ((cfg0.win 3).xinj (grid0.coords t) y) _ (256 * t.val) (2048 * 0)
    (slot (w3 t).1 rfl) (slot (w3 t).2 rfl)
    fun r d p q hp hq => (point0 m c t r d).trans (by rw [show d = q from Fin.ext (by omega), ← hp]; rfl)

/-- Every entry is in a block that a grid point writes back. -/
theorem everywhere0 (i : S4096x2048.Idx) : ∃ t : Fin cfg0.N, (cfg0.win 3).flush t = true ∧ i ∈ ((cfg0.win 3).blk t).view.set :=
  have ⟨t, e0, e1⟩ := rowsOf (N := cfg0.N) (n := 256) i rfl
  ⟨t, flush0_3 _, in2 (View.set_slice_whole main_v0_0 (win0_3.rect t)) 256 2048 (w3 t).1 rfl rfl (w3 t).2 rfl rfl e0 e1⟩

def result1 : S4096x2048.Idx → EReal := fun i => sum m c (i 0).val (i 1)

theorem back1 (t : Fin cfg0.N) : (dats m 0 c).flushed 4 t = ((cfg0.win 4).blk t).view.read (Elt Ideal) (result1 m c) := by
  show (cfg0.win 4).cut (grid0.coords t) ((dats m 0 c).after 4 t) = _
  rw [after0_4]
  funext y
  exact entry2 (f := (out0_4 (F := Ideal) (iblk m c 0 t) (iblk m c 1 t) (iblk m c 2 t))) (F := result1 m c) ((cfg0.win 4).xinj (grid0.coords t) y) _ (256 * t.val) (2048 * 0)
    (slot (w4 t).1 rfl) (slot (w4 t).2 rfl)
    fun r d p q hp hq => (point1 m c t r d).trans (by rw [show d = q from Fin.ext (by omega), ← hp]; rfl)

theorem everywhere1 (i : S4096x2048.Idx) : ∃ t : Fin cfg0.N, (cfg0.win 4).flush t = true ∧ i ∈ ((cfg0.win 4).blk t).view.set :=
  have ⟨t, e0, e1⟩ := rowsOf (N := cfg0.N) (n := 256) i rfl
  ⟨t, flush0_4 _, in2 (View.set_slice_whole main_v0_1 (win0_4.rect t)) 256 2048 (w4 t).1 rfl rfl (w4 t).2 rfl rfl e0 e1⟩

/-- The run's result is the array above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ holds r.2.mem m c main_arg0
      ∧ holds r.2.mem m c main_arg1
      ∧ holds r.2.mem m c main_arg2 := by
  exact (θ_run defs _ _).mono (fun r h c =>
    have k := fun w e => ((h c).1 w).trans (((dats m 0 c).arrAt_in w e _).trans (A_eq m c w))
    ⟨((h c).1 3).trans ((dats m 0 c).arrAt_eq_of_cover 3 _ (fun t _ => back0 m c t) everywhere0), ((h c).1 4).trans ((dats m 0 c).arrAt_eq_of_cover 4 _ (fun t _ => back1 m c t) everywhere1), (k 0 rfl).trans (V_main_arg0 m c), (k 1 rfl).trans (V_main_arg1 m c), (k 2 rfl).trans (V_main_arg2 m c)⟩) (run_main m ρ)

/-! The reference. -/

theorem sum_ref (i : S4096x2048.Idx) : (val_main_v14 (F := Ideal) (arg0 m c) (arg1 m c) (arg2 m c) i : EReal) = sum m c (i 0).val (i 1) :=
  (val_main_v14_apply (F := Ideal) _ _ _ i).trans (congrArg₂ (fun a b : EReal => a + b) (at2_of (arg0 m c) i _ _ rfl rfl) (NormRef.out_ref (arg1 m c) (arg2 m c) i))

theorem equal0 : (result0 m c : (⟨S4096x2048, .f32⟩ : BufTy).Contents (Elt Ideal)) = val_main_v14 (F := Ideal) (arg0 m c) (arg1 m c) (arg2 m c) :=
  funext fun i => (sum_ref m c i).symm

theorem equal1 : (result1 m c : (⟨S4096x2048, .bf16⟩ : BufTy).Contents (Elt Ideal)) = val_main_v15 (F := Ideal) (arg0 m c) (arg1 m c) (arg2 m c) :=
  equal0 m c

end Cert.MatNormDownForward
-- ==== Proof.MatPleLoss.lean ====
/- The loss of one device's rows and its gradients in the embedding's gate, the embedding, the residual and the gain. -/
module

public import proofs.«01_k».proof.Proof.Blocks
public import proofs.«01_k».proof.Proof.NormRef
public import proofs.«01_k».proof.Proof.MatGate
public import proofs.«01_k».proof.Proof.Gen.PleLossIdeal.Frame
public import proofs.«01_k».proof.Proof.Gen.PleLossReferenceIdeal.Read

@[expose] public section

set_option maxRecDepth 16384

noncomputable section

namespace Cert.MatPleLoss

open Idealize.ShloMosaic PleLossIdeal PleLossIdeal.Gen PleLossReferenceIdeal.Read Blk Idealize.ShloMosaic.TcCoe Idealize.SL.Sem
open MatGate (sg one_f32)

variable (m : (ℓ : Loc nD τ sig) → Buf (Elt Ideal) ℓ) (c : Dev nD)

/-! The arguments as arrays of extended reals. -/

abbrev arg0 : S4096x2048.Idx → EReal := m ((c.tc : Thread nD τ).loc main_arg0)
abbrev arg1 : S4096x2048.Idx → EReal := m ((c.tc : Thread nD τ).loc main_arg1)
abbrev arg2 : S4096x2048.Idx → EReal := m ((c.tc : Thread nD τ).loc main_arg2)
abbrev arg3 : S4096x2048.Idx → EReal := m ((c.tc : Thread nD τ).loc main_arg3)
abbrev arg4 : S1x2048.Idx → EReal := m ((c.tc : Thread nD τ).loc main_arg4)

/-- A half, and one over a row's length, as the programs print them. -/
abbrev hf : EReal := Ideal.ofBits .f32 0x3F000000#32
abbrev part : EReal := Ideal.ofBits .f32 0x3A000000#32

theorem hf_eq : hf = ((1 / 2 : ℝ) : EReal) := by
  simp [hf, Ideal.ofBits, Ideal.ieee]
  rw [← EReal.coe_mul]
  norm_num

theorem part_eq : part = ((2048⁻¹ : ℝ) : EReal) := by
  simp [part, Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem hf_add (a b : EReal) : hf * (a + b) = hf * a + hf * b := by
  rw [hf_eq]
  exact EReal.left_distrib_of_nonneg_of_ne_top (by exact_mod_cast (by norm_num : (0 : ℝ) ≤ 1 / 2)) (EReal.coe_ne_top _) a b

/-- The mean's factor and the square's two are one factor. -/
theorem scale (a : EReal) : Ideal.div (hf * Ideal.ofBits .f32 0x3F800000#32) Norm.len * (Ideal.ofBits .f32 0x40000000#32 * a) = a * part := by
  rw [one_f32, mul_one, Norm.div_len, hf_eq, two_eq, part_eq, ← mul_assoc, ← EReal.coe_mul, ← EReal.coe_mul, mul_comm]
  congr 2
  norm_num

/-- A row of the norm's argument, of the error, of its gradient, and of the gradient that reaches the normed row. -/
def rowx (r : ℕ) : Fin 2048 → EReal := fun k => sg (at2 (arg0 m c) r k) * at2 (arg1 m c) r k
def err (r : ℕ) : Fin 2048 → EReal := fun k => at2 (arg2 m c) r k + Norm.out (rowx m c r) (fun j => at2 (arg4 m c) 0 j) k - at2 (arg3 m c) r k
def rowb (r : ℕ) : Fin 2048 → EReal := fun k => err m c r k * part
def rowd (r : ℕ) : Fin 2048 → EReal := fun k => rowb m c r k * at2 (arg4 m c) 0 k

/-- The gradient of the norm's argument, a row's part of the loss, and one term of the gain's gradient at column `d`. -/
def dt (r : ℕ) (d : Fin 2048) : EReal := Norm.grad (rowx m c r) (rowd m c r) d
def mse (r : ℕ) : EReal := Ideal.div (∑ k, err m c r k * err m c r k) Norm.len
def term (d : Fin 2048) (k : ℕ) : EReal := rowb m c k d * (rowx m c k d * Norm.inv (rowx m c k))

/-! What a step stores, entry by entry. -/

section
variable (g e x t v : FVec Ideal S256x2048 .f32) (s : FVec Ideal S1x2048 .f32) (r : Fin 256) (d : Fin 2048)

theorem sig_at (i : S256x2048.Idx) : (k0_pay5 (F := Ideal) g i : EReal) = sg (g i) := by
  unfold sg
  rw [← zero_sub (g i)]
  pointwise [k0_pay5, one_f32]

theorem x_at (i : S256x2048.Idx) : (k0_pay6 (F := Ideal) g e i : EReal) = sg (g i) * e i :=
  congrArg (fun a : EReal => a * e i) (sig_at g i)

theorem inv_at : (k0_pay11 (F := Ideal) x (ix2 r 0) : EReal) = Norm.inv fun k => x (ix2 r k) := by
  pointwise [k0_pay11]
  rfl

theorem hat_at : (k0_pay12 (F := Ideal) x (ix2 r d) : EReal) = x (ix2 r d) * Norm.inv fun k => x (ix2 r k) := by
  unfold k0_pay12
  pointwise []
  rw [inv_at]

theorem err_at : (k0_pay7 (F := Ideal) g e s x t (ix2 r d) : EReal)
    = x (ix2 r d) + Norm.out (fun k => k0_pay6 (F := Ideal) g e (ix2 r k)) (fun k => s (ix2 0 k)) d - t (ix2 r d) := by
  unfold k0_pay7
  pointwise []
  rfl

theorem mse_at : (k0_pay8 (F := Ideal) g e s x t (ix2 r 0) : EReal)
    = Ideal.div (∑ k, HMul.hMul (α := EReal) (β := EReal) (γ := EReal) (k0_pay7 (F := Ideal) g e s x t (ix2 r k)) (k0_pay7 (F := Ideal) g e s x t (ix2 r k))) Norm.len := by
  unfold k0_pay8
  pointwise []

theorem loss_at (u : FVec Ideal S256x1 .f32) (a : FVec Ideal S1x1 .f32) :
    (k0_pay9 (F := Ideal) u a (ix2 0 0) : EReal) = a (ix2 0 0) + hf * ∑ k : Fin 256, u (ix2 k 0) := by
  unfold k0_pay9
  pointwise []

theorem grad_at : (k0_pay13 (F := Ideal) x s v (ix2 r d) : EReal)
    = Norm.grad (fun k => x (ix2 r k)) (fun k => v (ix2 r k) * part * s (ix2 0 k)) d := by
  unfold k0_pay13 k0_pay10
  pointwise []
  simp only [hat_at, inv_at]
  rfl

theorem gain_at (a : FVec Ideal S1x2048 .f32) : (k0_pay14 (F := Ideal) x v a (ix2 0 d) : EReal)
    = a (ix2 0 d) + ∑ k : Fin 256, v (ix2 k d) * part * (x (ix2 k d) * Norm.inv fun j => x (ix2 k j)) := by
  unfold k0_pay14 k0_pay10
  pointwise []
  simp only [hat_at]

theorem de_at (i : S256x2048.Idx) : (k0_pay1 (F := Ideal) (k0_pay15 (F := Ideal) g x s v) i : EReal) = HMul.hMul (α := EReal) (β := EReal) (γ := EReal) (k0_pay13 (F := Ideal) x s v i) (g i) := by
  unfold k0_pay1 k0_pay15
  pointwise []

theorem dgl_at (i : S256x2048.Idx) : (k0_pay2 (F := Ideal) g e v i : EReal) = v i * e i * g i * (1 - g i) := by
  pointwise [k0_pay2, one_f32]

theorem dx_at (i : S256x2048.Idx) : (k0_pay10 (F := Ideal) v i : EReal) = v i * part := by
  pointwise [k0_pay10]
end

theorem zero0_at : (k0_pay3 (F := Ideal) (ix2 0 0) : EReal) = 0 := by
  pointwise [k0_pay3]

theorem zero1_at (d : Fin 2048) : (k0_pay4 (F := Ideal) (ix2 0 d) : EReal) = 0 := by
  pointwise [k0_pay4]

/-! What a grid point leaves. -/

/-- The step's norm argument and error. -/
abbrev bx (t : Fin cfg0.N) : FVec Ideal S256x2048 .f32 := k0_pay6 (F := Ideal) (iblk m c 0 t) (iblk m c 1 t)
abbrev be (t : Fin cfg0.N) : FVec Ideal S256x2048 .f32 := k0_pay7 (F := Ideal) (iblk m c 0 t) (iblk m c 1 t) (iblk m c 4 t) (iblk m c 2 t) (iblk m c 3 t)
abbrev bs (t : Fin cfg0.N) : FVec Ideal S256x2048 .f32 := k0_pay5 (F := Ideal) (iblk m c 0 t)

theorem rows (t : Fin cfg0.N) : (outsAt0 m c t.val t.isLt).2.1 = k0_pay10 (F := Ideal) (be m c t)
    ∧ (outsAt0 m c t.val t.isLt).2.2.1 = k0_pay1 (F := Ideal) (k0_pay15 (F := Ideal) (bs m c t) (bx m c t) (iblk m c 4 t) (be m c t))
    ∧ (outsAt0 m c t.val t.isLt).2.2.2.1 = k0_pay2 (F := Ideal) (bs m c t) (iblk m c 1 t) (k0_pay13 (F := Ideal) (bx m c t) (iblk m c 4 t) (be m c t)) := by
  by_cases h0 : t.val % 16 = 0
  · rw [outsAt0_A m c t h0]
    dsimp only
    unfold out0_A_6 out0_A_7 out0_A_8 kernelRun0_A
    dsimp only
    refine ⟨?_, ?_, ?_⟩ <;> (rw [stored _ _ _ zeros2]; sl_unfold_words; repeat rw [kept _ _ zeros2])
  · rw [outsAt0_B m c t h0]
    dsimp only
    unfold out0_B_6 out0_B_7 out0_B_8 kernelRun0_B
    dsimp only
    refine ⟨?_, ?_, ?_⟩ <;> (rw [stored _ _ _ zeros2]; sl_unfold_words; repeat rw [kept _ _ zeros2])

theorem left_A (t : Fin cfg0.N) (h0 : t.val % 16 = 0) :
    (outsAt0 m c t.val t.isLt).1 = k0_pay9 (F := Ideal) (k0_pay8 (F := Ideal) (iblk m c 0 t) (iblk m c 1 t) (iblk m c 4 t) (iblk m c 2 t) (iblk m c 3 t)) (k0_pay3 (F := Ideal))
    ∧ (outsAt0 m c t.val t.isLt).2.2.2.2 = k0_pay14 (F := Ideal) (bx m c t) (be m c t) (k0_pay4 (F := Ideal)) := by
  rw [outsAt0_A m c t h0]
  dsimp only
  unfold out0_A_5 out0_A_9 kernelRun0_A
  dsimp only
  constructor <;> (rw [stored _ _ _ zeros2]; sl_unfold_words; (repeat rw [kept _ _ zeros2]); rw [View.readCov_cons_toLoadRect])

theorem left_B (t : Fin cfg0.N) (h0 : ¬t.val % 16 = 0) :
    (outsAt0 m c t.val t.isLt).1 = k0_pay9 (F := Ideal) (k0_pay8 (F := Ideal) (iblk m c 0 t) (iblk m c 1 t) (iblk m c 4 t) (iblk m c 2 t) (iblk m c 3 t)) (outsAt0 m c (t.val - 1) (prev t)).1
    ∧ (outsAt0 m c t.val t.isLt).2.2.2.2 = k0_pay14 (F := Ideal) (bx m c t) (be m c t) (outsAt0 m c (t.val - 1) (prev t)).2.2.2.2 := by
  rw [outsAt0_B m c t h0]
  dsimp only
  unfold out0_B_5 out0_B_9 kernelRun0_B
  dsimp only
  constructor <;> (rw [stored _ _ _ zeros2]; sl_unfold_words; repeat rw [kept _ _ zeros2])

/-! The blocks at a grid point. -/

/-- The last grid point. -/
abbrev last : Fin cfg0.N := ⟨15, by decide⟩

theorem lt_N (t : Fin cfg0.N) : t.val < 16 := lt_of_lt_of_eq t.isLt N_0

theorem w0 : ∀ t : Fin cfg0.N, Goes (win0_0.index t) t.val 0 := by decide +kernel
theorem w1 : ∀ t : Fin cfg0.N, Goes (win0_1.index t) t.val 0 := by decide +kernel
theorem w2 : ∀ t : Fin cfg0.N, Goes (win0_2.index t) t.val 0 := by decide +kernel
theorem w3 : ∀ t : Fin cfg0.N, Goes (win0_3.index t) t.val 0 := by decide +kernel
theorem w4 : ∀ t : Fin cfg0.N, Goes (win0_4.index t) 0 0 := by decide +kernel
theorem w5 : ∀ t : Fin cfg0.N, Goes (win0_5.index t) 0 0 := by decide +kernel
theorem w6 : ∀ t : Fin cfg0.N, Goes (win0_6.index t) t.val 0 := by decide +kernel
theorem w7 : ∀ t : Fin cfg0.N, Goes (win0_7.index t) t.val 0 := by decide +kernel
theorem w8 : ∀ t : Fin cfg0.N, Goes (win0_8.index t) t.val 0 := by decide +kernel
theorem w9 : ∀ t : Fin cfg0.N, Goes (win0_9.index t) 0 0 := by decide +kernel

section
variable (t : Fin cfg0.N) (r : Fin 256) (d : Fin 2048)

theorem op_0 : (iblk m c 0 t (ix2 r d) : EReal) = at2 (arg0 m c) (256 * t.val + r) d :=
  Eq.trans (b := arg0 m c _) (congrFun (V_main_arg0 m c) _) (at2_of _ _ _ _ (slot (w0 t).1 rfl) (slot0 (w0 t).2 rfl))

theorem op_1 : (iblk m c 1 t (ix2 r d) : EReal) = at2 (arg1 m c) (256 * t.val + r) d :=
  Eq.trans (b := arg1 m c _) (congrFun (V_main_arg1 m c) _) (at2_of _ _ _ _ (slot (w1 t).1 rfl) (slot0 (w1 t).2 rfl))

theorem op_2 : (iblk m c 2 t (ix2 r d) : EReal) = at2 (arg2 m c) (256 * t.val + r) d :=
  Eq.trans (b := arg2 m c _) (congrFun (V_main_arg2 m c) _) (at2_of _ _ _ _ (slot (w2 t).1 rfl) (slot0 (w2 t).2 rfl))

theorem op_3 : (iblk m c 3 t (ix2 r d) : EReal) = at2 (arg3 m c) (256 * t.val + r) d :=
  Eq.trans (b := arg3 m c _) (congrFun (V_main_arg3 m c) _) (at2_of _ _ _ _ (slot (w3 t).1 rfl) (slot0 (w3 t).2 rfl))

theorem op_4 : (iblk m c 4 t (ix2 0 d) : EReal) = at2 (arg4 m c) 0 d :=
  Eq.trans (b := arg4 m c _) (congrFun (V_main_arg4 m c) _) (at2_of _ _ _ _ (slot0 (w4 t).1 rfl) (slot0 (w4 t).2 rfl))

/-! The rows of the blocks are rows of the arrays. -/

theorem bx_at : (bx m c t (ix2 r d) : EReal) = rowx m c (256 * t.val + r) d := by
  refine (x_at _ _ _).trans ?_
  rw [op_0 m c t, op_1 m c t]
  rfl

theorem bs_at : (bs m c t (ix2 r d) : EReal) = sg (at2 (arg0 m c) (256 * t.val + r) d) :=
  (sig_at _ _).trans (congrArg sg (op_0 m c t r d))

theorem be_at : (be m c t (ix2 r d) : EReal) = err m c (256 * t.val + r) d := by
  refine (err_at _ _ _ _ _ _ _).trans ?_
  rw [op_2 m c t, op_3 m c t, funext fun k => bx_at m c t r k, funext fun k => op_4 m c t k]
  rfl

theorem point0 : (k0_pay10 (F := Ideal) (be m c t) (ix2 r d) : EReal) = rowb m c (256 * t.val + r) d := by
  rw [dx_at, be_at]
  rfl

theorem dt_at : (k0_pay13 (F := Ideal) (bx m c t) (iblk m c 4 t) (be m c t) (ix2 r d) : EReal) = dt m c (256 * t.val + r) d := by
  rw [grad_at]
  simp only [bx_at, be_at, op_4]
  rfl

theorem point1 : (k0_pay1 (F := Ideal) (k0_pay15 (F := Ideal) (bs m c t) (bx m c t) (iblk m c 4 t) (be m c t)) (ix2 r d) : EReal)
    = dt m c (256 * t.val + r) d * sg (at2 (arg0 m c) (256 * t.val + r) d) := by
  rw [de_at, dt_at, bs_at]

theorem point2 : (k0_pay2 (F := Ideal) (bs m c t) (iblk m c 1 t) (k0_pay13 (F := Ideal) (bx m c t) (iblk m c 4 t) (be m c t)) (ix2 r d) : EReal)
    = dt m c (256 * t.val + r) d * at2 (arg1 m c) (256 * t.val + r) d * sg (at2 (arg0 m c) (256 * t.val + r) d) * (1 - sg (at2 (arg0 m c) (256 * t.val + r) d)) := by
  rw [dgl_at, dt_at, bs_at, op_1 m c t]
end

/-- A step adds its rows' parts and terms. -/
theorem step0_at (t : Fin cfg0.N) (a : FVec Ideal S1x1 .f32) :
    (k0_pay9 (F := Ideal) (k0_pay8 (F := Ideal) (iblk m c 0 t) (iblk m c 1 t) (iblk m c 4 t) (iblk m c 2 t) (iblk m c 3 t)) a (ix2 0 0) : EReal)
    = a (ix2 0 0) + hf * ∑ k ∈ Finset.range 256, mse m c (256 * t.val + k) := by
  rw [loss_at, ← Fin.sum_univ_eq_sum_range]
  refine congrArg (fun s : EReal => a (ix2 0 0) + hf * s) (Finset.sum_congr rfl fun k _ => ?_)
  rw [mse_at]
  simp only [be_at]
  rfl

theorem step1_at (t : Fin cfg0.N) (a : FVec Ideal S1x2048 .f32) (d : Fin 2048) :
    (k0_pay14 (F := Ideal) (bx m c t) (be m c t) a (ix2 0 d) : EReal) = a (ix2 0 d) + ∑ k ∈ Finset.range 256, term m c d (256 * t.val + k) := by
  rw [gain_at, ← Fin.sum_univ_eq_sum_range]
  simp only [bx_at, be_at]
  rfl

/-- What the blocks of the loss and of the gain's gradient hold after step `k`. -/
theorem carried (k : ℕ) (h : k < cfg0.N) : ((outsAt0 m c k h).1 (ix2 0 0) : EReal) = hf * ∑ T ∈ Finset.range (256 * (k + 1)), mse m c T
    ∧ ∀ d : Fin 2048, ((outsAt0 m c k h).2.2.2.2 (ix2 0 d) : EReal) = ∑ T ∈ Finset.range (256 * (k + 1)), term m c d T := by
  have hN : k < 16 := lt_of_lt_of_eq h N_0
  induction k with
  | zero =>
    rw [(left_A m c ⟨0, h⟩ rfl).1, (left_A m c ⟨0, h⟩ rfl).2, step0_at m c ⟨0, h⟩, zero0_at, zero_add]
    refine ⟨by simp only [Nat.mul_zero, Nat.zero_add, Nat.mul_one], fun d => ?_⟩
    rw [step1_at m c ⟨0, h⟩, zero1_at, zero_add]
    simp only [Nat.mul_zero, Nat.zero_add, Nat.mul_one]
  | succ k ih =>
    have l := left_B m c ⟨k + 1, h⟩ (by dsimp only; omega)
    have i := ih (by omega) (by omega)
    rw [l.1, l.2, step0_at m c ⟨k + 1, h⟩, Nat.mul_succ 256 (k + 1), Finset.sum_range_add, hf_add, ← i.1]
    refine ⟨rfl, fun d => ?_⟩
    rw [step1_at m c ⟨k + 1, h⟩, Finset.sum_range_add, ← i.2 d]
    rfl

/-! The arrays after the run, entry by entry. -/

def result0 : S1x1.Idx → EReal := fun _ => hf * ∑ T ∈ Finset.range 4096, mse m c T
def result1 : S4096x2048.Idx → EReal := fun i => rowb m c (i 0).val (i 1)
def result2 : S4096x2048.Idx → EReal := fun i => dt m c (i 0).val (i 1) * sg (at2 (arg0 m c) (i 0).val (i 1).val)
def result3 : S4096x2048.Idx → EReal := fun i =>
  dt m c (i 0).val (i 1) * at2 (arg1 m c) (i 0).val (i 1).val * sg (at2 (arg0 m c) (i 0).val (i 1).val) * (1 - sg (at2 (arg0 m c) (i 0).val (i 1).val))
def result4 : S1x2048.Idx → EReal := fun i => ∑ T ∈ Finset.range 4096, term m c (i 1) T

/-- What a grid point writes back is its block of the array. -/
theorem back0 (t : Fin cfg0.N) (hl : (cfg0.win 5).flush t = true) :
    (dats m 0 c).flushed 5 t = ((cfg0.win 5).blk t).view.read (Elt Ideal) (result0 m c) := by
  show (cfg0.win 5).cut (grid0.coords t) ((dats m 0 c).after 5 t) = _
  rw [after0_5]
  have hm := (flush0_5 t).mp hl
  have hN := lt_N t
  funext y
  have hz : ∀ z : S1x1.Idx, z = ix2 0 0 := fun z => (eq_ix2 z).trans (by rw [Subsingleton.elim (α := Fin 1) (z 0) 0, Subsingleton.elim (α := Fin 1) (z 1) 0])
  exact (congrArg (outsAt0 m c t.val t.isLt).1 (hz _)).trans ((carried m c t.val t.isLt).1.trans (by rw [show 256 * (t.val + 1) = 4096 by omega]; rfl))

theorem back4 (t : Fin cfg0.N) (hf : (cfg0.win 9).flush t = true) :
    (dats m 0 c).flushed 9 t = ((cfg0.win 9).blk t).view.read (Elt Ideal) (result4 m c) := by
  show (cfg0.win 9).cut (grid0.coords t) ((dats m 0 c).after 9 t) = _
  rw [after0_9]
  have hm := (flush0_9 t).mp hf
  have hN := lt_N t
  funext y
  exact entry2 (f := (outsAt0 m c t.val t.isLt).2.2.2.2) (F := result4 m c) ((cfg0.win 9).xinj (grid0.coords t) y) _ (1 * 0) (2048 * 0)
    (slot (w9 t).1 rfl) (slot (w9 t).2 rfl)
    fun r d p q hp hq => by
    rw [Subsingleton.elim (α := Fin 1) r 0, show q = d from Fin.ext (by omega)]
    exact ((carried m c t.val t.isLt).2 d).trans (by rw [show 256 * (t.val + 1) = 4096 by omega]; rfl)

theorem back1 (t : Fin cfg0.N) (hf : (cfg0.win 6).flush t = true) :
    (dats m 0 c).flushed 6 t = ((cfg0.win 6).blk t).view.read (Elt Ideal) (result1 m c) := by
  show (cfg0.win 6).cut (grid0.coords t) ((dats m 0 c).after 6 t) = _
  rw [after0_6]
  funext y
  exact entry2 (f := (outsAt0 m c t.val t.isLt).2.1) (F := result1 m c) ((cfg0.win 6).xinj (grid0.coords t) y) _ (256 * t.val) (2048 * 0)
    (slot (w6 t).1 rfl) (slot (w6 t).2 rfl)
    fun r d p q hp hq => (congrFun (rows m c t).1 _).trans ((point0 m c t r d).trans (by rw [← hp, ← show q = d from Fin.ext (by omega)]; rfl))

theorem back2 (t : Fin cfg0.N) (hf : (cfg0.win 7).flush t = true) :
    (dats m 0 c).flushed 7 t = ((cfg0.win 7).blk t).view.read (Elt Ideal) (result2 m c) := by
  show (cfg0.win 7).cut (grid0.coords t) ((dats m 0 c).after 7 t) = _
  rw [after0_7]
  funext y
  exact entry2 (f := (outsAt0 m c t.val t.isLt).2.2.1) (F := result2 m c) ((cfg0.win 7).xinj (grid0.coords t) y) _ (256 * t.val) (2048 * 0)
    (slot (w7 t).1 rfl) (slot (w7 t).2 rfl)
    fun r d p q hp hq => (congrFun (rows m c t).2.1 _).trans ((point1 m c t r d).trans (by rw [← hp, ← show q = d from Fin.ext (by omega)]; rfl))

theorem back3 (t : Fin cfg0.N) (hf : (cfg0.win 8).flush t = true) :
    (dats m 0 c).flushed 8 t = ((cfg0.win 8).blk t).view.read (Elt Ideal) (result3 m c) := by
  show (cfg0.win 8).cut (grid0.coords t) ((dats m 0 c).after 8 t) = _
  rw [after0_8]
  funext y
  exact entry2 (f := (outsAt0 m c t.val t.isLt).2.2.2.1) (F := result3 m c) ((cfg0.win 8).xinj (grid0.coords t) y) _ (256 * t.val) (2048 * 0)
    (slot (w8 t).1 rfl) (slot (w8 t).2 rfl)
    fun r d p q hp hq => (congrFun (rows m c t).2.2 _).trans ((point2 m c t r d).trans (by rw [← hp, ← show q = d from Fin.ext (by omega)]; rfl))

/-- Every entry is in a block that a grid point writes back. -/
theorem everywhere0 (i : S1x1.Idx) : ∃ t : Fin cfg0.N, (cfg0.win 5).flush t = true ∧ i ∈ ((cfg0.win 5).blk t).view.set :=
  ⟨last, (flush0_5 _).mpr rfl, in2 (View.set_slice_whole main_v0_0 (win0_5.rect last)) 1 1 (w5 last).1 rfl rfl (w5 last).2 rfl rfl (whole i).1 (whole i).2⟩

theorem everywhere4 (i : S1x2048.Idx) : ∃ t : Fin cfg0.N, (cfg0.win 9).flush t = true ∧ i ∈ ((cfg0.win 9).blk t).view.set :=
  ⟨last, (flush0_9 _).mpr rfl, in2 (View.set_slice_whole main_v0_4 (win0_9.rect last)) 1 2048 (w9 last).1 rfl rfl (w9 last).2 rfl rfl (whole i).1 (whole i).2⟩

theorem everywhere (i : S4096x2048.Idx) : ∃ t : Fin cfg0.N, ((cfg0.win 6).flush t = true ∧ i ∈ ((cfg0.win 6).blk t).view.set)
    ∧ ((cfg0.win 7).flush t = true ∧ i ∈ ((cfg0.win 7).blk t).view.set) ∧ ((cfg0.win 8).flush t = true ∧ i ∈ ((cfg0.win 8).blk t).view.set) := by
  have i0 : (i 0).val < 4096 := (i 0).isLt
  have i1 : (i 1).val < 2048 := (i 1).isLt
  obtain ⟨t, ht⟩ : ∃ t : Fin cfg0.N, t.val = (i 0).val / 256 := ⟨⟨_, by rw [show cfg0.N = 16 from N_0]; omega⟩, rfl⟩
  exact ⟨t, ⟨flush0_6 _, in2 (View.set_slice_whole main_v0_1 (win0_6.rect t)) 256 2048 (w6 t).1 rfl rfl (w6 t).2 rfl rfl (by omega) (by omega)⟩,
    ⟨flush0_7 _, in2 (View.set_slice_whole main_v0_2 (win0_7.rect t)) 256 2048 (w7 t).1 rfl rfl (w7 t).2 rfl rfl (by omega) (by omega)⟩,
    ⟨flush0_8 _, in2 (View.set_slice_whole main_v0_3 (win0_8.rect t)) 256 2048 (w8 t).1 rfl rfl (w8 t).2 rfl rfl (by omega) (by omega)⟩⟩

/-- The run's results are the arrays above, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_v0_2) = result2 m c
      ∧ r.2.mem ((c : Thread nD τ).loc main_v0_3) = result3 m c
      ∧ r.2.mem ((c : Thread nD τ).loc main_v0_4) = result4 m c
      ∧ holds r.2.mem m c main_arg0
      ∧ holds r.2.mem m c main_arg1
      ∧ holds r.2.mem m c main_arg2
      ∧ holds r.2.mem m c main_arg3
      ∧ holds r.2.mem m c main_arg4 := by
  exact (θ_run defs _ _).mono (fun r h c =>
    have k := fun w e => ((h c).1 w).trans (((dats m 0 c).arrAt_in w e _).trans (A_eq m c w))
    ⟨((h c).1 5).trans ((dats m 0 c).arrAt_eq_of_cover 5 _ (back0 m c) everywhere0),
    ((h c).1 6).trans ((dats m 0 c).arrAt_eq_of_cover 6 _ (back1 m c) fun i => (everywhere i).imp fun _ h => h.1),
    ((h c).1 7).trans ((dats m 0 c).arrAt_eq_of_cover 7 _ (back2 m c) fun i => (everywhere i).imp fun _ h => h.2.1),
    ((h c).1 8).trans ((dats m 0 c).arrAt_eq_of_cover 8 _ (back3 m c) fun i => (everywhere i).imp fun _ h => h.2.2),
    ((h c).1 9).trans ((dats m 0 c).arrAt_eq_of_cover 9 _ (back4 m c) everywhere4), (k 0 rfl).trans (V_main_arg0 m c), (k 1 rfl).trans (V_main_arg1 m c), (k 2 rfl).trans (V_main_arg2 m c), (k 3 rfl).trans (V_main_arg3 m c), (k 4 rfl).trans (V_main_arg4 m c)⟩) (run_main m ρ)

/-! The reference, stage by stage. -/

section
variable (i : S4096x2048.Idx)

theorem ref_sig : (val_main_v6 (F := Ideal) (arg0 m c) i : EReal) = sg (at2 (arg0 m c) (i 0).val (i 1).val) := by
  rw [← at2_of (arg0 m c) i _ _ rfl rfl]
  simp only [val_main_v6_apply, val_main_v5_apply, val_main_cst_0_apply, val_main_v4_apply, val_main_v3_apply, val_main_cst_apply, val_main_v2_apply, val_main_v1_apply]
  unfold sg
  rw [← one_f32]
  rfl

/-- The norm's argument in the reference, and the gradient of the residual. -/
abbrev X : S4096x2048.Idx → EReal := val_main_v10 (F := Ideal) (arg0 m c) (arg1 m c)
abbrev G : S4096x2048.Idx → EReal := val_main_v42 (F := Ideal) (arg0 m c) (arg1 m c) (arg2 m c) (arg3 m c) (arg4 m c)

theorem x_ref : X m c i = rowx m c (i 0).val (i 1) :=
  (val_main_v10_apply (F := Ideal) _ _ i).trans (congrArg₂ (fun a b : EReal => a * b) (ref_sig m c i) (at2_of (arg1 m c) i _ _ rfl rfl))

theorem row_ref (r : ℕ) (h : r < 4096) : NormRef.row (X m c) r = rowx m c r :=
  funext fun k => (at2_of (X m c) (ix2 ⟨r, h⟩ k) r k rfl rfl).symm.trans (x_ref m c (ix2 ⟨r, h⟩ k))

theorem err_ref : (val_main_v28 (F := Ideal) (arg0 m c) (arg1 m c) (arg2 m c) (arg3 m c) (arg4 m c) i : EReal) = err m c (i 0).val (i 1) := by
  rw [val_main_v28_apply, val_main_v27_apply, at2_of (arg2 m c) i _ _ rfl rfl, at2_of (arg3 m c) i _ _ rfl rfl]
  unfold err
  rw [← row_ref m c _ (i 0).isLt]
  exact congrArg (fun a : EReal => _ + a - _) (NormRef.out_ref (X m c) (arg4 m c) i)

theorem g_ref : G m c i = rowb m c (i 0).val (i 1) := by
  show (val_main_v42 (F := Ideal) (arg0 m c) (arg1 m c) (arg2 m c) (arg3 m c) (arg4 m c) i : EReal) = _
  rw [val_main_v42_apply, val_main_v31_apply, err_ref, val_main_v30_apply, val_main_v41_apply, val_main_v40_apply, val_main_v39_apply, val_main_v38_apply, val_main_v37_apply,
    val_main_cst_6_apply, val_main_cst_11_apply, val_main_cst_12_apply, val_main_cst_13_apply]
  exact scale _

theorem reach (r : ℕ) (h : r < 4096) (k : Fin 2048) : at2 (G m c) r k = rowb m c r k :=
  (at2_of (G m c) (ix2 ⟨r, h⟩ k) r k rfl rfl).symm.trans (g_ref m c (ix2 ⟨r, h⟩ k))

theorem drow_ref (r : ℕ) (h : r < 4096) : NormRef.drow (G m c) (arg4 m c) r = rowd m c r :=
  funext fun k => congrArg (fun a : EReal => a * _) (reach m c r h k)

theorem dt_ref : (val_main_v62 (F := Ideal) (arg0 m c) (arg1 m c) (arg2 m c) (arg3 m c) (arg4 m c) i : EReal) = dt m c (i 0).val (i 1) := by
  rw [val_main_v62_apply, val_main_v60_apply, val_main_v59_apply, val_main_v61_apply, val_main_v58_apply, val_main_v53_apply, val_main_v52_apply]
  exact NormRef.grad_ref (G m c) (X m c) (arg4 m c) i _ _ (row_ref m c _ (i 0).isLt) (drow_ref m c _ (i 0).isLt)
end

theorem mse_ref (k : Fin 4096) : (val_main_v34 (F := Ideal) (arg0 m c) (arg1 m c) (arg2 m c) (arg3 m c) (arg4 m c) (ix1 k) : EReal) = mse m c k := by
  rw [val_main_v34_apply, val_main_v32_apply, val_main_v33_apply, val_main_cst_8_apply, val_main_cst_7_apply]
  show Ideal.div ((Ideal.ofBits .f32 0x00000000#32 : EReal) + _) Norm.len = _
  rw [Norm.zero_eq, zero_add]
  refine congrArg (fun s : EReal => Ideal.div s Norm.len) (Finset.sum_congr rfl fun j _ => ?_)
  exact (val_main_v29_apply (F := Ideal) _ _ _ _ _ _).trans (congrArg₂ (fun a b : EReal => a * b) (err_ref m c _) (err_ref m c _))

theorem equal0 : (result0 m c : (⟨S1x1, .f32⟩ : BufTy).Contents (Elt Ideal))
    = val_main_v66 (F := Ideal) (arg0 m c) (arg1 m c) (arg2 m c) (arg3 m c) (arg4 m c) := by
  funext i
  show _ = (val_main_v36 (F := Ideal) (arg0 m c) (arg1 m c) (arg2 m c) (arg3 m c) (arg4 m c) _ : EReal)
  rw [val_main_v36_apply, val_main_v35_apply, val_main_cst_9_apply, val_main_cst_10_apply, sum_idx1]
  show hf * _ = hf * ((Ideal.ofBits .f32 0x00000000#32 : EReal) + _)
  rw [Norm.zero_eq, zero_add, ← Fin.sum_univ_eq_sum_range]
  exact congrArg (hf * ·) (Finset.sum_congr rfl fun k _ => (mse_ref m c k).symm)

theorem equal1 : (result1 m c : (⟨S4096x2048, .f32⟩ : BufTy).Contents (Elt Ideal))
    = val_main_v42 (F := Ideal) (arg0 m c) (arg1 m c) (arg2 m c) (arg3 m c) (arg4 m c) := funext fun i => (g_ref m c i).symm

theorem equal2 : (result2 m c : (⟨S4096x2048, .bf16⟩ : BufTy).Contents (Elt Ideal))
    = val_main_v67 (F := Ideal) (arg0 m c) (arg1 m c) (arg2 m c) (arg3 m c) (arg4 m c) := by
  funext i
  show dt m c (i 0).val (i 1) * sg (at2 (arg0 m c) (i 0).val (i 1).val) = (val_main_v6 (F := Ideal) (arg0 m c) i : EReal) * val_main_v62 (F := Ideal) (arg0 m c) (arg1 m c) (arg2 m c) (arg3 m c) (arg4 m c) i
  rw [ref_sig, dt_ref, mul_comm]

theorem equal3 : (result3 m c : (⟨S4096x2048, .bf16⟩ : BufTy).Contents (Elt Ideal))
    = val_main_v68 (F := Ideal) (arg0 m c) (arg1 m c) (arg2 m c) (arg3 m c) (arg4 m c) := by
  funext i
  show result3 m c i = (val_main_v62 (F := Ideal) (arg0 m c) (arg1 m c) (arg2 m c) (arg3 m c) (arg4 m c) i : EReal) * arg1 m c i * ((val_main_v6 (F := Ideal) (arg0 m c) i : EReal)
    * (val_main_v7 (F := Ideal) i - val_main_v6 (F := Ideal) (arg0 m c) i))
  rw [ref_sig, dt_ref, at2_of (arg1 m c) i _ _ rfl rfl, val_main_v7_apply, val_main_cst_1_apply, ← mul_assoc]
  unfold result3
  rw [← one_f32]
  rfl

theorem equal4 : (result4 m c : (⟨S1x2048, .f32⟩ : BufTy).Contents (Elt Ideal))
    = val_main_v69 (F := Ideal) (arg0 m c) (arg1 m c) (arg2 m c) (arg3 m c) (arg4 m c) := funext fun i =>
  ((NormRef.gain_ref (G m c) (X m c) i).trans (Finset.sum_congr rfl fun T hT => by
    have h := Finset.mem_range.mp hT
    rw [reach m c T h (i 1), row_ref m c T h]
    exact congrArg (fun a : EReal => _ * (a * _)) (congrFun (row_ref m c T h) (i 1)))).symm

end Cert.MatPleLoss
-- ==== Proof.lean ====
/- The proof of the claim: the programs' frames, and each kernel's results against its reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.UpWeight
public import proofs.«01_k».proof.Proof.Gen.UpWeight.Frame
public import proofs.«01_k».proof.Proof.Gen.UpWeightIdeal
public import proofs.«01_k».proof.Proof.Gen.UpWeightReferenceIdeal
public import proofs.«01_k».proof.Proof.Gen.UpWeightReferenceIdeal.Run
public import proofs.«01_k».proof.Proof.Gen.Up
public import proofs.«01_k».proof.Proof.Gen.Up.Frame
public import proofs.«01_k».proof.Proof.Gen.UpIdeal
public import proofs.«01_k».proof.Proof.Gen.UpIdeal.Value
public import proofs.«01_k».proof.Proof.Gen.UpReferenceIdeal
public import proofs.«01_k».proof.Proof.Gen.UpReferenceIdeal.Run
public import proofs.«01_k».proof.Proof.Gen.DownWeight
public import proofs.«01_k».proof.Proof.Gen.DownWeight.Frame
public import proofs.«01_k».proof.Proof.Gen.DownWeightIdeal
public import proofs.«01_k».proof.Proof.Gen.DownWeightIdeal.Value
public import proofs.«01_k».proof.Proof.Gen.DownWeightReferenceIdeal
public import proofs.«01_k».proof.Proof.Gen.DownWeightReferenceIdeal.Run
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownReferenceIdeal
public import proofs.«01_k».proof.Proof.Gen.DownReferenceIdeal.Run
public import proofs.«01_k».proof.Proof.Gen.InWeight
public import proofs.«01_k».proof.Proof.Gen.InWeight.Frame
public import proofs.«01_k».proof.Proof.Gen.InWeightIdeal
public import proofs.«01_k».proof.Proof.Gen.InWeightIdeal.Value
public import proofs.«01_k».proof.Proof.Gen.InWeightReferenceIdeal
public import proofs.«01_k».proof.Proof.Gen.InWeightReferenceIdeal.Run
public import proofs.«01_k».proof.Proof.Gen.In
public import proofs.«01_k».proof.Proof.Gen.In.Frame
public import proofs.«01_k».proof.Proof.Gen.InIdeal
public import proofs.«01_k».proof.Proof.Gen.InIdeal.Value
public import proofs.«01_k».proof.Proof.Gen.InReferenceIdeal
public import proofs.«01_k».proof.Proof.Gen.InReferenceIdeal.Run
public import proofs.«01_k».proof.Proof.Gen.Out.Frame
public import proofs.«01_k».proof.Proof.Gen.OutReferenceIdeal.Run
public import proofs.«01_k».proof.Proof.Gen.OutWeight.Frame
public import proofs.«01_k».proof.Proof.Gen.OutWeightReferenceIdeal.Run
public import proofs.«01_k».proof.Proof.Gen.PleGate.Frame
public import proofs.«01_k».proof.Proof.Gen.PleGateReferenceIdeal.Run
public import proofs.«01_k».proof.Proof.Gen.PleGateWeight.Frame
public import proofs.«01_k».proof.Proof.Gen.PleGateWeightReferenceIdeal.Run
public import proofs.«01_k».proof.Proof.Gen.PleWeight.Frame
public import proofs.«01_k».proof.Proof.Gen.PleWeightReferenceIdeal.Run
public import proofs.«01_k».proof.Proof.Gen.PoolBranch.Frame
public import proofs.«01_k».proof.Proof.Gen.PoolBranchReferenceIdeal.Run
public import proofs.«01_k».proof.Proof.Gen.PoolBranchWeight.Frame
public import proofs.«01_k».proof.Proof.Gen.PoolBranchWeightReferenceIdeal.Run
public import proofs.«01_k».proof.Proof.Gen.AttnBranch.Frame
public import proofs.«01_k».proof.Proof.Gen.AttnBranchReferenceIdeal.Run
public import proofs.«01_k».proof.Proof.Gen.AttnBranchWeight.Frame
public import proofs.«01_k».proof.Proof.Gen.AttnBranchWeightReferenceIdeal.Run
public import proofs.«01_k».proof.Proof.Gen.InForward.Frame
public import proofs.«01_k».proof.Proof.Gen.InForwardReferenceIdeal.Run
public import proofs.«01_k».proof.Proof.Gen.UpForward.Frame
public import proofs.«01_k».proof.Proof.Gen.UpForwardReferenceIdeal.Run
public import proofs.«01_k».proof.Proof.Gen.AttnBranchForward.Frame
public import proofs.«01_k».proof.Proof.Gen.AttnBranchForwardReferenceIdeal.Run
public import proofs.«01_k».proof.Proof.Gen.PoolBranchForward.Frame
public import proofs.«01_k».proof.Proof.Gen.PoolBranchForwardReferenceIdeal.Run
public import proofs.«01_k».proof.Proof.Gen.OutForward.Frame
public import proofs.«01_k».proof.Proof.Gen.OutForwardReferenceIdeal.Run
public import proofs.«01_k».proof.Proof.Gen.PleForward.Frame
public import proofs.«01_k».proof.Proof.Gen.PleForwardReferenceIdeal.Run
public import proofs.«01_k».proof.Proof.Gen.PleGateForward.Frame
public import proofs.«01_k».proof.Proof.Gen.PleGateForwardReferenceIdeal.Run
public import proofs.«01_k».proof.Proof.Gen.DownForward.Frame
public import proofs.«01_k».proof.Proof.Gen.DownForwardReferenceIdeal.Run
public import proofs.«01_k».proof.Proof.Gen.Gate.Frame
public import proofs.«01_k».proof.Proof.Gen.GateReferenceIdeal.Run
public import proofs.«01_k».proof.Proof.Gen.PoolGroup.Frame
public import proofs.«01_k».proof.Proof.Gen.PoolGroupReferenceIdeal.Run
public import proofs.«01_k».proof.Proof.Gen.PoolGroupWeight.Frame
public import proofs.«01_k».proof.Proof.Gen.PoolGroupWeightReferenceIdeal.Run
public import proofs.«01_k».proof.Proof.Gen.Scale.Frame
public import proofs.«01_k».proof.Proof.Gen.ScaleReferenceIdeal.Run
public import proofs.«01_k».proof.Proof.Gen.NormIn.Frame
public import proofs.«01_k».proof.Proof.Gen.NormInReferenceIdeal.Run
public import proofs.«01_k».proof.Proof.Gen.NormDown.Frame
public import proofs.«01_k».proof.Proof.Gen.NormDownReferenceIdeal.Run
public import proofs.«01_k».proof.Proof.Gen.NormMid.Frame
public import proofs.«01_k».proof.Proof.Gen.NormMidReferenceIdeal.Run
public import proofs.«01_k».proof.Proof.Gen.GateMix.Frame
public import proofs.«01_k».proof.Proof.Gen.GateMixReferenceIdeal.Run
public import proofs.«01_k».proof.Proof.Gen.PoolGroupForward.Frame
public import proofs.«01_k».proof.Proof.Gen.PoolGroupForwardReferenceIdeal.Run
public import proofs.«01_k».proof.Proof.Gen.NormInForward.Frame
public import proofs.«01_k».proof.Proof.Gen.NormInForwardReferenceIdeal.Run
public import proofs.«01_k».proof.Proof.Gen.NormMidForward.Frame
public import proofs.«01_k».proof.Proof.Gen.NormMidForwardReferenceIdeal.Run
public import proofs.«01_k».proof.Proof.Gen.NormDownForward.Frame
public import proofs.«01_k».proof.Proof.Gen.NormDownForwardReferenceIdeal.Run
public import proofs.«01_k».proof.Proof.Gen.PleLoss.Frame
public import proofs.«01_k».proof.Proof.Gen.PleLossReferenceIdeal.Run
public import proofs.«01_k».proof.Proof.Finite
public import proofs.«01_k».proof.Proof.MatUpWeight
public import proofs.«01_k».proof.Proof.MatUp
public import proofs.«01_k».proof.Proof.MatDownWeight
public import proofs.«01_k».proof.Proof.MatDown
public import proofs.«01_k».proof.Proof.MatInWeight
public import proofs.«01_k».proof.Proof.MatIn
public import proofs.«01_k».proof.Proof.MatOut
public import proofs.«01_k».proof.Proof.MatOutWeight
public import proofs.«01_k».proof.Proof.MatPleGate
public import proofs.«01_k».proof.Proof.MatPleGateWeight
public import proofs.«01_k».proof.Proof.MatPleWeight
public import proofs.«01_k».proof.Proof.MatPoolBranch
public import proofs.«01_k».proof.Proof.MatPoolBranchWeight
public import proofs.«01_k».proof.Proof.MatAttnBranch
public import proofs.«01_k».proof.Proof.MatAttnBranchWeight
public import proofs.«01_k».proof.Proof.MatInForward
public import proofs.«01_k».proof.Proof.MatUpForward
public import proofs.«01_k».proof.Proof.MatAttnBranchForward
public import proofs.«01_k».proof.Proof.MatPoolBranchForward
public import proofs.«01_k».proof.Proof.MatOutForward
public import proofs.«01_k».proof.Proof.MatPleForward
public import proofs.«01_k».proof.Proof.MatPleGateForward
public import proofs.«01_k».proof.Proof.MatDownForward
public import proofs.«01_k».proof.Proof.MatGate
public import proofs.«01_k».proof.Proof.MatPoolGroup
public import proofs.«01_k».proof.Proof.MatPoolGroupWeight
public import proofs.«01_k».proof.Proof.MatScale
public import proofs.«01_k».proof.Proof.MatNormIn
public import proofs.«01_k».proof.Proof.MatNormDown
public import proofs.«01_k».proof.Proof.MatNormMid
public import proofs.«01_k».proof.Proof.MatGateMix
public import proofs.«01_k».proof.Proof.MatPoolGroupForward
public import proofs.«01_k».proof.Proof.MatNormInForward
public import proofs.«01_k».proof.Proof.MatNormMidForward
public import proofs.«01_k».proof.Proof.MatNormDownForward
public import proofs.«01_k».proof.Proof.MatPleLoss

@[expose] public section

set_option maxHeartbeats 400000

noncomputable section

namespace Cert.Proof

open Idealize.ShloMosaic Idealize.SL.Sem

open Cert.ReferenceIdeal in
/-- The reference runs to its end, keeps its arguments and leaves every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono
    (fun r h => ⟨fun c => (h c).2.2.2, Idealize.ShloMosaic.sem_eq_zero_of_no_sems (by decide) r.2⟩)
    (ReferenceIdeal.Value.run (F := Ideal) m ρ)

/-- Every program runs to its end, keeps its arguments and leaves every counter at zero; each ideal program is its kernel's
    text; the attention's gradients are the reference's at finite arguments, every other result at all arguments. -/
theorem claim : Cert.Claim := ⟨Kernel.Gen.facts, KernelIdeal.Gen.facts, ReferenceIdeal.Gen.facts,
  UpWeight.Gen.facts, UpWeightIdeal.Gen.facts, UpWeightReferenceIdeal.Gen.facts,
  Up.Gen.facts, UpIdeal.Gen.facts, UpReferenceIdeal.Gen.facts,
  DownWeight.Gen.facts, DownWeightIdeal.Gen.facts, DownWeightReferenceIdeal.Gen.facts,
  Down.Gen.facts, DownIdeal.Gen.facts, DownReferenceIdeal.Gen.facts,
  InWeight.Gen.facts, InWeightIdeal.Gen.facts, InWeightReferenceIdeal.Gen.facts,
  In.Gen.facts, InIdeal.Gen.facts, InReferenceIdeal.Gen.facts,
  Out.Gen.facts, OutIdeal.Gen.facts, OutReferenceIdeal.Gen.facts,
  OutWeight.Gen.facts, OutWeightIdeal.Gen.facts, OutWeightReferenceIdeal.Gen.facts,
  PleGate.Gen.facts, PleGateIdeal.Gen.facts, PleGateReferenceIdeal.Gen.facts,
  PleGateWeight.Gen.facts, PleGateWeightIdeal.Gen.facts, PleGateWeightReferenceIdeal.Gen.facts,
  PleWeight.Gen.facts, PleWeightIdeal.Gen.facts, PleWeightReferenceIdeal.Gen.facts,
  PoolBranch.Gen.facts, PoolBranchIdeal.Gen.facts, PoolBranchReferenceIdeal.Gen.facts,
  PoolBranchWeight.Gen.facts, PoolBranchWeightIdeal.Gen.facts, PoolBranchWeightReferenceIdeal.Gen.facts,
  AttnBranch.Gen.facts, AttnBranchIdeal.Gen.facts, AttnBranchReferenceIdeal.Gen.facts,
  AttnBranchWeight.Gen.facts, AttnBranchWeightIdeal.Gen.facts, AttnBranchWeightReferenceIdeal.Gen.facts,
  InForward.Gen.facts, InForwardIdeal.Gen.facts, InForwardReferenceIdeal.Gen.facts,
  UpForward.Gen.facts, UpForwardIdeal.Gen.facts, UpForwardReferenceIdeal.Gen.facts,
  AttnBranchForward.Gen.facts, AttnBranchForwardIdeal.Gen.facts, AttnBranchForwardReferenceIdeal.Gen.facts,
  PoolBranchForward.Gen.facts, PoolBranchForwardIdeal.Gen.facts, PoolBranchForwardReferenceIdeal.Gen.facts,
  OutForward.Gen.facts, OutForwardIdeal.Gen.facts, OutForwardReferenceIdeal.Gen.facts,
  PleForward.Gen.facts, PleForwardIdeal.Gen.facts, PleForwardReferenceIdeal.Gen.facts,
  PleGateForward.Gen.facts, PleGateForwardIdeal.Gen.facts, PleGateForwardReferenceIdeal.Gen.facts,
  DownForward.Gen.facts, DownForwardIdeal.Gen.facts, DownForwardReferenceIdeal.Gen.facts,
  Gate.Gen.facts, GateIdeal.Gen.facts, GateReferenceIdeal.Gen.facts,
  PoolGroup.Gen.facts, PoolGroupIdeal.Gen.facts, PoolGroupReferenceIdeal.Gen.facts,
  PoolGroupWeight.Gen.facts, PoolGroupWeightIdeal.Gen.facts, PoolGroupWeightReferenceIdeal.Gen.facts,
  Scale.Gen.facts, ScaleIdeal.Gen.facts, ScaleReferenceIdeal.Gen.facts,
  NormIn.Gen.facts, NormInIdeal.Gen.facts, NormInReferenceIdeal.Gen.facts,
  NormDown.Gen.facts, NormDownIdeal.Gen.facts, NormDownReferenceIdeal.Gen.facts,
  NormMid.Gen.facts, NormMidIdeal.Gen.facts, NormMidReferenceIdeal.Gen.facts,
  GateMix.Gen.facts, GateMixIdeal.Gen.facts, GateMixReferenceIdeal.Gen.facts,
  PoolGroupForward.Gen.facts, PoolGroupForwardIdeal.Gen.facts, PoolGroupForwardReferenceIdeal.Gen.facts,
  NormInForward.Gen.facts, NormInForwardIdeal.Gen.facts, NormInForwardReferenceIdeal.Gen.facts,
  NormMidForward.Gen.facts, NormMidForwardIdeal.Gen.facts, NormMidForwardReferenceIdeal.Gen.facts,
  NormDownForward.Gen.facts, NormDownForwardIdeal.Gen.facts, NormDownForwardReferenceIdeal.Gen.facts,
  PleLoss.Gen.facts, PleLossIdeal.Gen.facts, PleLossReferenceIdeal.Gen.facts,
  Aw.sides,
  fun m ρ _ => Kernel.Gen.frame m ρ,
  fun m ρ _ => KernelIdeal.Gen.frame m ρ,
  fun m ρ _ => KernelIdeal.Gen.frame m ρ,
  fun m ρ _ => reference_frame m ρ,
  fun m ρ _ => reference_frame m ρ,
  fun m ρ _ => UpWeight.Gen.frame m ρ,
  fun m ρ _ => UpWeightIdeal.Gen.frame m ρ,
  fun m ρ _ => (θ_run _ _ _).mono (fun r h => ⟨fun c => (h c).2, sem_eq_zero_of_no_sems (by decide) r.2⟩) (UpWeightReferenceIdeal.Value.run (F := Ideal) m ρ),
  fun m ρ _ => Up.Gen.frame m ρ,
  fun m ρ _ => UpIdeal.Gen.frame m ρ,
  fun m ρ _ => (θ_run _ _ _).mono (fun r h => ⟨fun c => (h c).2, sem_eq_zero_of_no_sems (by decide) r.2⟩) (UpReferenceIdeal.Value.run (F := Ideal) m ρ),
  fun m ρ _ => DownWeight.Gen.frame m ρ,
  fun m ρ _ => DownWeightIdeal.Gen.frame m ρ,
  fun m ρ _ => (θ_run _ _ _).mono (fun r h => ⟨fun c => (h c).2, sem_eq_zero_of_no_sems (by decide) r.2⟩) (DownWeightReferenceIdeal.Value.run (F := Ideal) m ρ),
  fun m ρ _ => Down.Gen.frame m ρ,
  fun m ρ _ => DownIdeal.Gen.frame m ρ,
  fun m ρ _ => (θ_run _ _ _).mono (fun r h => ⟨fun c => (h c).2, sem_eq_zero_of_no_sems (by decide) r.2⟩) (DownReferenceIdeal.Value.run (F := Ideal) m ρ),
  fun m ρ _ => InWeight.Gen.frame m ρ,
  fun m ρ _ => InWeightIdeal.Gen.frame m ρ,
  fun m ρ _ => (θ_run _ _ _).mono (fun r h => ⟨fun c => (h c).2, sem_eq_zero_of_no_sems (by decide) r.2⟩) (InWeightReferenceIdeal.Value.run (F := Ideal) m ρ),
  fun m ρ _ => In.Gen.frame m ρ,
  fun m ρ _ => InIdeal.Gen.frame m ρ,
  fun m ρ _ => (θ_run _ _ _).mono (fun r h => ⟨fun c => (h c).2, sem_eq_zero_of_no_sems (by decide) r.2⟩) (InReferenceIdeal.Value.run (F := Ideal) m ρ),
  fun m ρ _ => Out.Gen.frame m ρ,
  fun m ρ _ => OutIdeal.Gen.frame m ρ,
  fun m ρ _ => (θ_run _ _ _).mono (fun r h => ⟨fun c => (h c).2, sem_eq_zero_of_no_sems (by decide) r.2⟩) (OutReferenceIdeal.Value.run (F := Ideal) m ρ),
  fun m ρ _ => OutWeight.Gen.frame m ρ,
  fun m ρ _ => OutWeightIdeal.Gen.frame m ρ,
  fun m ρ _ => (θ_run _ _ _).mono (fun r h => ⟨fun c => (h c).2, sem_eq_zero_of_no_sems (by decide) r.2⟩) (OutWeightReferenceIdeal.Value.run (F := Ideal) m ρ),
  fun m ρ _ => PleGate.Gen.frame m ρ,
  fun m ρ _ => PleGateIdeal.Gen.frame m ρ,
  fun m ρ _ => (θ_run _ _ _).mono (fun r h => ⟨fun c => (h c).2, sem_eq_zero_of_no_sems (by decide) r.2⟩) (PleGateReferenceIdeal.Value.run (F := Ideal) m ρ),
  fun m ρ _ => PleGateWeight.Gen.frame m ρ,
  fun m ρ _ => PleGateWeightIdeal.Gen.frame m ρ,
  fun m ρ _ => (θ_run _ _ _).mono (fun r h => ⟨fun c => (h c).2, sem_eq_zero_of_no_sems (by decide) r.2⟩) (PleGateWeightReferenceIdeal.Value.run (F := Ideal) m ρ),
  fun m ρ _ => PleWeight.Gen.frame m ρ,
  fun m ρ _ => PleWeightIdeal.Gen.frame m ρ,
  fun m ρ _ => (θ_run _ _ _).mono (fun r h => ⟨fun c => (h c).2, sem_eq_zero_of_no_sems (by decide) r.2⟩) (PleWeightReferenceIdeal.Value.run (F := Ideal) m ρ),
  fun m ρ _ => PoolBranch.Gen.frame m ρ,
  fun m ρ _ => PoolBranchIdeal.Gen.frame m ρ,
  fun m ρ _ => (θ_run _ _ _).mono (fun r h => ⟨fun c => (h c).2, sem_eq_zero_of_no_sems (by decide) r.2⟩) (PoolBranchReferenceIdeal.Value.run (F := Ideal) m ρ),
  fun m ρ _ => PoolBranchWeight.Gen.frame m ρ,
  fun m ρ _ => PoolBranchWeightIdeal.Gen.frame m ρ,
  fun m ρ _ => (θ_run _ _ _).mono (fun r h => ⟨fun c => (h c).2, sem_eq_zero_of_no_sems (by decide) r.2⟩) (PoolBranchWeightReferenceIdeal.Value.run (F := Ideal) m ρ),
  fun m ρ _ => AttnBranch.Gen.frame m ρ,
  fun m ρ _ => AttnBranchIdeal.Gen.frame m ρ,
  fun m ρ _ => (θ_run _ _ _).mono (fun r h => ⟨fun c => (h c).2, sem_eq_zero_of_no_sems (by decide) r.2⟩) (AttnBranchReferenceIdeal.Value.run (F := Ideal) m ρ),
  fun m ρ _ => AttnBranchWeight.Gen.frame m ρ,
  fun m ρ _ => AttnBranchWeightIdeal.Gen.frame m ρ,
  fun m ρ _ => (θ_run _ _ _).mono (fun r h => ⟨fun c => (h c).2, sem_eq_zero_of_no_sems (by decide) r.2⟩) (AttnBranchWeightReferenceIdeal.Value.run (F := Ideal) m ρ),
  fun m ρ _ => InForward.Gen.frame m ρ,
  fun m ρ _ => InForwardIdeal.Gen.frame m ρ,
  fun m ρ _ => (θ_run _ _ _).mono (fun r h => ⟨fun c => (h c).2, sem_eq_zero_of_no_sems (by decide) r.2⟩) (InForwardReferenceIdeal.Value.run (F := Ideal) m ρ),
  fun m ρ _ => UpForward.Gen.frame m ρ,
  fun m ρ _ => UpForwardIdeal.Gen.frame m ρ,
  fun m ρ _ => (θ_run _ _ _).mono (fun r h => ⟨fun c => (h c).2, sem_eq_zero_of_no_sems (by decide) r.2⟩) (UpForwardReferenceIdeal.Value.run (F := Ideal) m ρ),
  fun m ρ _ => AttnBranchForward.Gen.frame m ρ,
  fun m ρ _ => AttnBranchForwardIdeal.Gen.frame m ρ,
  fun m ρ _ => (θ_run _ _ _).mono (fun r h => ⟨fun c => (h c).2, sem_eq_zero_of_no_sems (by decide) r.2⟩) (AttnBranchForwardReferenceIdeal.Value.run (F := Ideal) m ρ),
  fun m ρ _ => PoolBranchForward.Gen.frame m ρ,
  fun m ρ _ => PoolBranchForwardIdeal.Gen.frame m ρ,
  fun m ρ _ => (θ_run _ _ _).mono (fun r h => ⟨fun c => (h c).2, sem_eq_zero_of_no_sems (by decide) r.2⟩) (PoolBranchForwardReferenceIdeal.Value.run (F := Ideal) m ρ),
  fun m ρ _ => OutForward.Gen.frame m ρ,
  fun m ρ _ => OutForwardIdeal.Gen.frame m ρ,
  fun m ρ _ => (θ_run _ _ _).mono (fun r h => ⟨fun c => (h c).2, sem_eq_zero_of_no_sems (by decide) r.2⟩) (OutForwardReferenceIdeal.Value.run (F := Ideal) m ρ),
  fun m ρ _ => PleForward.Gen.frame m ρ,
  fun m ρ _ => PleForwardIdeal.Gen.frame m ρ,
  fun m ρ _ => (θ_run _ _ _).mono (fun r h => ⟨fun c => (h c).2, sem_eq_zero_of_no_sems (by decide) r.2⟩) (PleForwardReferenceIdeal.Value.run (F := Ideal) m ρ),
  fun m ρ _ => PleGateForward.Gen.frame m ρ,
  fun m ρ _ => PleGateForwardIdeal.Gen.frame m ρ,
  fun m ρ _ => (θ_run _ _ _).mono (fun r h => ⟨fun c => (h c).2, sem_eq_zero_of_no_sems (by decide) r.2⟩) (PleGateForwardReferenceIdeal.Value.run (F := Ideal) m ρ),
  fun m ρ _ => DownForward.Gen.frame m ρ,
  fun m ρ _ => DownForwardIdeal.Gen.frame m ρ,
  fun m ρ _ => (θ_run _ _ _).mono (fun r h => ⟨fun c => (h c).2, sem_eq_zero_of_no_sems (by decide) r.2⟩) (DownForwardReferenceIdeal.Value.run (F := Ideal) m ρ),
  fun m ρ _ => Gate.Gen.frame m ρ,
  fun m ρ _ => GateIdeal.Gen.frame m ρ,
  fun m ρ _ => (θ_run _ _ _).mono (fun r h => ⟨fun c => (h c).2.2.2.2, sem_eq_zero_of_no_sems (by decide) r.2⟩) (GateReferenceIdeal.Value.run (F := Ideal) m ρ),
  fun m ρ _ => PoolGroup.Gen.frame m ρ,
  fun m ρ _ => PoolGroupIdeal.Gen.frame m ρ,
  fun m ρ _ => (θ_run _ _ _).mono (fun r h => ⟨fun c => (h c).2, sem_eq_zero_of_no_sems (by decide) r.2⟩) (PoolGroupReferenceIdeal.Value.run (F := Ideal) m ρ),
  fun m ρ _ => PoolGroupWeight.Gen.frame m ρ,
  fun m ρ _ => PoolGroupWeightIdeal.Gen.frame m ρ,
  fun m ρ _ => (θ_run _ _ _).mono (fun r h => ⟨fun c => (h c).2, sem_eq_zero_of_no_sems (by decide) r.2⟩) (PoolGroupWeightReferenceIdeal.Value.run (F := Ideal) m ρ),
  fun m ρ _ => Scale.Gen.frame m ρ,
  fun m ρ _ => ScaleIdeal.Gen.frame m ρ,
  fun m ρ _ => (θ_run _ _ _).mono (fun r h => ⟨fun c => (h c).2.2, sem_eq_zero_of_no_sems (by decide) r.2⟩) (ScaleReferenceIdeal.Value.run (F := Ideal) m ρ),
  fun m ρ _ => NormIn.Gen.frame m ρ,
  fun m ρ _ => NormInIdeal.Gen.frame m ρ,
  fun m ρ _ => (θ_run _ _ _).mono (fun r h => ⟨fun c => (h c).2.2, sem_eq_zero_of_no_sems (by decide) r.2⟩) (NormInReferenceIdeal.Value.run (F := Ideal) m ρ),
  fun m ρ _ => NormDown.Gen.frame m ρ,
  fun m ρ _ => NormDownIdeal.Gen.frame m ρ,
  fun m ρ _ => (θ_run _ _ _).mono (fun r h => ⟨fun c => (h c).2.2.2, sem_eq_zero_of_no_sems (by decide) r.2⟩) (NormDownReferenceIdeal.Value.run (F := Ideal) m ρ),
  fun m ρ _ => NormMid.Gen.frame m ρ,
  fun m ρ _ => NormMidIdeal.Gen.frame m ρ,
  fun m ρ _ => (θ_run _ _ _).mono (fun r h => ⟨fun c => (h c).2.2.2.2, sem_eq_zero_of_no_sems (by decide) r.2⟩) (NormMidReferenceIdeal.Value.run (F := Ideal) m ρ),
  fun m ρ _ => GateMix.Gen.frame m ρ,
  fun m ρ _ => GateMixIdeal.Gen.frame m ρ,
  fun m ρ _ => (θ_run _ _ _).mono (fun r h => ⟨fun c => (h c).2, sem_eq_zero_of_no_sems (by decide) r.2⟩) (GateMixReferenceIdeal.Value.run (F := Ideal) m ρ),
  fun m ρ _ => PoolGroupForward.Gen.frame m ρ,
  fun m ρ _ => PoolGroupForwardIdeal.Gen.frame m ρ,
  fun m ρ _ => (θ_run _ _ _).mono (fun r h => ⟨fun c => (h c).2.2, sem_eq_zero_of_no_sems (by decide) r.2⟩) (PoolGroupForwardReferenceIdeal.Value.run (F := Ideal) m ρ),
  fun m ρ _ => NormInForward.Gen.frame m ρ,
  fun m ρ _ => NormInForwardIdeal.Gen.frame m ρ,
  fun m ρ _ => (θ_run _ _ _).mono (fun r h => ⟨fun c => (h c).2, sem_eq_zero_of_no_sems (by decide) r.2⟩) (NormInForwardReferenceIdeal.Value.run (F := Ideal) m ρ),
  fun m ρ _ => NormMidForward.Gen.frame m ρ,
  fun m ρ _ => NormMidForwardIdeal.Gen.frame m ρ,
  fun m ρ _ => (θ_run _ _ _).mono (fun r h => ⟨fun c => (h c).2.2, sem_eq_zero_of_no_sems (by decide) r.2⟩) (NormMidForwardReferenceIdeal.Value.run (F := Ideal) m ρ),
  fun m ρ _ => NormDownForward.Gen.frame m ρ,
  fun m ρ _ => NormDownForwardIdeal.Gen.frame m ρ,
  fun m ρ _ => (θ_run _ _ _).mono (fun r h => ⟨fun c => (h c).2.2, sem_eq_zero_of_no_sems (by decide) r.2⟩) (NormDownForwardReferenceIdeal.Value.run (F := Ideal) m ρ),
  fun m ρ _ => PleLoss.Gen.frame m ρ,
  fun m ρ _ => PleLossIdeal.Gen.frame m ρ,
  fun m ρ _ => (θ_run _ _ _).mono (fun r h => ⟨fun c => (h c).2.2.2.2.2, sem_eq_zero_of_no_sems (by decide) r.2⟩) (PleLossReferenceIdeal.Value.run (F := Ideal) m ρ),
  trivial,
  fun m ρ m' ρ' hp hm => by
    letI := Aw.sides
    refine ⟨_, _, _, KernelIdeal.Value.run (F := Ideal) m ρ, ?_⟩
    refine (θ_run ReferenceIdeal.defs _ _).mono (fun _ h c => ?_) (ReferenceIdeal.Value.run (F := Ideal) m' ρ')
    have hx := Aw.finite_qkv m c hp
    have hy := Aw.finite_do m c hp
    refine ⟨(h c).1.trans ?_, (h c).2.1.trans ?_, (h c).2.2.1.trans ?_, (h c).2.2.2⟩
    · rw [ReferenceIdeal.Read.val_main_v51_eq, (hm c).1, (hm c).2]
      refine funext fun i => ?_
      rw [eq_ix2 i]
      exact (Aw.query m c hx hy _ _).symm
    · rw [ReferenceIdeal.Read.val_main_v52_eq, (hm c).1, (hm c).2]
      refine funext fun i => ?_
      rw [eq_ix2 i]
      exact (Aw.key m c hx hy _ _).symm
    · rw [ReferenceIdeal.Read.val_main_v53_eq, (hm c).1, (hm c).2]
      refine funext fun i => ?_
      rw [eq_ix2 i]
      exact (Aw.value m c _ _).symm,
  trivial,
  fun m ρ m' ρ' _ hm => by
    refine ⟨_, MatUpWeight.run m ρ, ?_⟩
    refine (θ_run UpWeightReferenceIdeal.defs _ _).mono (fun _ h c => ?_) (UpWeightReferenceIdeal.Value.run (F := Ideal) m' ρ')
    refine ⟨(h c).1.trans ?_, (h c).2⟩
    rw [UpWeightReferenceIdeal.Read.val_main_v7_eq, (hm c).1, (hm c).2.1, (hm c).2.2]
    exact (MatUpWeight.equal m c).symm,
  trivial,
  fun m ρ m' ρ' _ hm => by
    refine ⟨_, UpIdeal.Value.run (F := Ideal) m ρ, ?_⟩
    refine (θ_run UpReferenceIdeal.defs _ _).mono (fun _ h c => ?_) (UpReferenceIdeal.Value.run (F := Ideal) m' ρ')
    refine ⟨(h c).1.trans ?_, (h c).2⟩
    rw [UpReferenceIdeal.Read.val_main_v3_eq, (hm c).1, (hm c).2.1, (hm c).2.2]
    exact (MatUp.equal m c).symm,
  trivial,
  fun m ρ m' ρ' _ hm => by
    refine ⟨_, DownWeightIdeal.Value.run (F := Ideal) m ρ, ?_⟩
    refine (θ_run DownWeightReferenceIdeal.defs _ _).mono (fun _ h c => ?_) (DownWeightReferenceIdeal.Value.run (F := Ideal) m' ρ')
    refine ⟨(h c).1.trans ?_, (h c).2⟩
    rw [DownWeightReferenceIdeal.Read.val_main_v4_eq, (hm c).1, (hm c).2]
    exact (MatDownWeight.equal m c).symm,
  trivial,
  fun m ρ m' ρ' _ hm => by
    refine ⟨_, DownIdeal.Value.run (F := Ideal) m ρ, ?_⟩
    refine (θ_run DownReferenceIdeal.defs _ _).mono (fun _ h c => ?_) (DownReferenceIdeal.Value.run (F := Ideal) m' ρ')
    refine ⟨(h c).1.trans ?_, (h c).2⟩
    rw [DownReferenceIdeal.Read.val_main_v2_eq, (hm c).1, (hm c).2]
    exact (MatDown.equal m c).symm,
  trivial,
  fun m ρ m' ρ' _ hm => by
    refine ⟨_, InWeightIdeal.Value.run (F := Ideal) m ρ, ?_⟩
    refine (θ_run InWeightReferenceIdeal.defs _ _).mono (fun _ h c => ?_) (InWeightReferenceIdeal.Value.run (F := Ideal) m' ρ')
    refine ⟨(h c).1.trans ?_, (h c).2⟩
    rw [InWeightReferenceIdeal.Read.val_main_v6_eq, (hm c).1, (hm c).2]
    exact (MatInWeight.equal m c).symm,
  trivial,
  fun m ρ m' ρ' _ hm => by
    refine ⟨_, InIdeal.Value.run (F := Ideal) m ρ, ?_⟩
    refine (θ_run InReferenceIdeal.defs _ _).mono (fun _ h c => ?_) (InReferenceIdeal.Value.run (F := Ideal) m' ρ')
    refine ⟨(h c).1.trans ?_, (h c).2⟩
    rw [InReferenceIdeal.Read.val_main_v2_eq, (hm c).1, (hm c).2]
    exact (MatIn.equal m c).symm,
  trivial,
  fun m ρ m' ρ' _ hm => by
    refine ⟨_, MatOut.run m ρ, ?_⟩
    refine (θ_run OutReferenceIdeal.defs _ _).mono (fun _ h c => ?_) (OutReferenceIdeal.Value.run (F := Ideal) m' ρ')
    refine ⟨(h c).1.trans ?_, (h c).2⟩
    rw [OutReferenceIdeal.Read.val_main_v2_eq, (hm c).1, (hm c).2]
    exact (MatOut.equal m c).symm,
  trivial,
  fun m ρ m' ρ' _ hm => by
    refine ⟨_, MatOutWeight.run m ρ, ?_⟩
    refine (θ_run OutWeightReferenceIdeal.defs _ _).mono (fun _ h c => ?_) (OutWeightReferenceIdeal.Value.run (F := Ideal) m' ρ')
    refine ⟨(h c).1.trans ?_, (h c).2⟩
    rw [OutWeightReferenceIdeal.Read.val_main_v4_eq, (hm c).1, (hm c).2]
    exact (MatOutWeight.equal m c).symm,
  trivial,
  fun m ρ m' ρ' _ hm => by
    refine ⟨_, MatPleGate.run m ρ, ?_⟩
    refine (θ_run PleGateReferenceIdeal.defs _ _).mono (fun _ h c => ?_) (PleGateReferenceIdeal.Value.run (F := Ideal) m' ρ')
    refine ⟨(h c).1.trans ?_, (h c).2⟩
    rw [PleGateReferenceIdeal.Read.val_main_v2_eq, (hm c).1, (hm c).2]
    exact (MatPleGate.equal m c).symm,
  trivial,
  fun m ρ m' ρ' _ hm => by
    refine ⟨_, MatPleGateWeight.run m ρ, ?_⟩
    refine (θ_run PleGateWeightReferenceIdeal.defs _ _).mono (fun _ h c => ?_) (PleGateWeightReferenceIdeal.Value.run (F := Ideal) m' ρ')
    refine ⟨(h c).1.trans ?_, (h c).2⟩
    rw [PleGateWeightReferenceIdeal.Read.val_main_v4_eq, (hm c).1, (hm c).2]
    exact (MatPleGateWeight.equal m c).symm,
  trivial,
  fun m ρ m' ρ' _ hm => by
    refine ⟨_, MatPleWeight.run m ρ, ?_⟩
    refine (θ_run PleWeightReferenceIdeal.defs _ _).mono (fun _ h c => ?_) (PleWeightReferenceIdeal.Value.run (F := Ideal) m' ρ')
    refine ⟨(h c).1.trans ?_, (h c).2⟩
    rw [PleWeightReferenceIdeal.Read.val_main_v6_eq, (hm c).1, (hm c).2]
    exact (MatPleWeight.equal m c).symm,
  trivial,
  fun m ρ m' ρ' _ hm => by
    refine ⟨_, MatPoolBranch.run m ρ, ?_⟩
    refine (θ_run PoolBranchReferenceIdeal.defs _ _).mono (fun _ h c => ?_) (PoolBranchReferenceIdeal.Value.run (F := Ideal) m' ρ')
    refine ⟨(h c).1.trans ?_, (h c).2⟩
    rw [PoolBranchReferenceIdeal.Read.val_main_v2_eq, (hm c).1, (hm c).2]
    exact (MatPoolBranch.equal m c).symm,
  trivial,
  fun m ρ m' ρ' _ hm => by
    refine ⟨_, MatPoolBranchWeight.run m ρ, ?_⟩
    refine (θ_run PoolBranchWeightReferenceIdeal.defs _ _).mono (fun _ h c => ?_) (PoolBranchWeightReferenceIdeal.Value.run (F := Ideal) m' ρ')
    refine ⟨(h c).1.trans ?_, (h c).2⟩
    rw [PoolBranchWeightReferenceIdeal.Read.val_main_v6_eq, (hm c).1, (hm c).2]
    exact (MatPoolBranchWeight.equal m c).symm,
  trivial,
  fun m ρ m' ρ' _ hm => by
    refine ⟨_, MatAttnBranch.run m ρ, ?_⟩
    refine (θ_run AttnBranchReferenceIdeal.defs _ _).mono (fun _ h c => ?_) (AttnBranchReferenceIdeal.Value.run (F := Ideal) m' ρ')
    refine ⟨(h c).1.trans ?_, (h c).2⟩
    rw [AttnBranchReferenceIdeal.Read.val_main_v2_eq, (hm c).1, (hm c).2]
    exact (MatAttnBranch.equal m c).symm,
  trivial,
  fun m ρ m' ρ' _ hm => by
    refine ⟨_, MatAttnBranchWeight.run m ρ, ?_⟩
    refine (θ_run AttnBranchWeightReferenceIdeal.defs _ _).mono (fun _ h c => ?_) (AttnBranchWeightReferenceIdeal.Value.run (F := Ideal) m' ρ')
    refine ⟨(h c).1.trans ?_, (h c).2⟩
    rw [AttnBranchWeightReferenceIdeal.Read.val_main_v6_eq, (hm c).1, (hm c).2]
    exact (MatAttnBranchWeight.equal m c).symm,
  trivial,
  fun m ρ m' ρ' _ hm => by
    refine ⟨_, MatInForward.run m ρ, ?_⟩
    refine (θ_run InForwardReferenceIdeal.defs _ _).mono (fun _ h c => ?_) (InForwardReferenceIdeal.Value.run (F := Ideal) m' ρ')
    refine ⟨(h c).1.trans ?_, (h c).2⟩
    rw [InForwardReferenceIdeal.Read.val_main_v0_eq, (hm c).1, (hm c).2]
    exact (MatInForward.equal m c).symm,
  trivial,
  fun m ρ m' ρ' _ hm => by
    refine ⟨_, MatUpForward.run m ρ, ?_⟩
    refine (θ_run UpForwardReferenceIdeal.defs _ _).mono (fun _ h c => ?_) (UpForwardReferenceIdeal.Value.run (F := Ideal) m' ρ')
    refine ⟨(h c).1.trans ?_, (h c).2⟩
    rw [UpForwardReferenceIdeal.Read.val_main_v0_eq, (hm c).1, (hm c).2]
    exact (MatUpForward.equal m c).symm,
  trivial,
  fun m ρ m' ρ' _ hm => by
    refine ⟨_, MatAttnBranchForward.run m ρ, ?_⟩
    refine (θ_run AttnBranchForwardReferenceIdeal.defs _ _).mono (fun _ h c => ?_) (AttnBranchForwardReferenceIdeal.Value.run (F := Ideal) m' ρ')
    refine ⟨(h c).1.trans ?_, (h c).2⟩
    rw [AttnBranchForwardReferenceIdeal.Read.val_main_v0_eq, (hm c).1, (hm c).2]
    exact (MatAttnBranchForward.equal m c).symm,
  trivial,
  fun m ρ m' ρ' _ hm => by
    refine ⟨_, MatPoolBranchForward.run m ρ, ?_⟩
    refine (θ_run PoolBranchForwardReferenceIdeal.defs _ _).mono (fun _ h c => ?_) (PoolBranchForwardReferenceIdeal.Value.run (F := Ideal) m' ρ')
    refine ⟨(h c).1.trans ?_, (h c).2⟩
    rw [PoolBranchForwardReferenceIdeal.Read.val_main_v0_eq, (hm c).1, (hm c).2]
    exact (MatPoolBranchForward.equal m c).symm,
  trivial,
  fun m ρ m' ρ' _ hm => by
    refine ⟨_, MatOutForward.run m ρ, ?_⟩
    refine (θ_run OutForwardReferenceIdeal.defs _ _).mono (fun _ h c => ?_) (OutForwardReferenceIdeal.Value.run (F := Ideal) m' ρ')
    refine ⟨(h c).1.trans ?_, (h c).2⟩
    rw [OutForwardReferenceIdeal.Read.val_main_v0_eq, (hm c).1, (hm c).2]
    exact (MatOutForward.equal m c).symm,
  trivial,
  fun m ρ m' ρ' _ hm => by
    refine ⟨_, MatPleForward.run m ρ, ?_⟩
    refine (θ_run PleForwardReferenceIdeal.defs _ _).mono (fun _ h c => ?_) (PleForwardReferenceIdeal.Value.run (F := Ideal) m' ρ')
    refine ⟨(h c).1.trans ?_, (h c).2⟩
    rw [PleForwardReferenceIdeal.Read.val_main_v0_eq, (hm c).1, (hm c).2]
    exact (MatPleForward.equal m c).symm,
  trivial,
  fun m ρ m' ρ' _ hm => by
    refine ⟨_, MatPleGateForward.run m ρ, ?_⟩
    refine (θ_run PleGateForwardReferenceIdeal.defs _ _).mono (fun _ h c => ?_) (PleGateForwardReferenceIdeal.Value.run (F := Ideal) m' ρ')
    refine ⟨(h c).1.trans ?_, (h c).2⟩
    rw [PleGateForwardReferenceIdeal.Read.val_main_v0_eq, (hm c).1, (hm c).2]
    exact (MatPleGateForward.equal m c).symm,
  trivial,
  fun m ρ m' ρ' _ hm => by
    refine ⟨_, MatDownForward.run m ρ, ?_⟩
    refine (θ_run DownForwardReferenceIdeal.defs _ _).mono (fun _ h c => ?_) (DownForwardReferenceIdeal.Value.run (F := Ideal) m' ρ')
    refine ⟨(h c).1.trans ?_, (h c).2⟩
    rw [DownForwardReferenceIdeal.Read.val_main_v0_eq, (hm c).1, (hm c).2]
    exact (MatDownForward.equal m c).symm,
  trivial,
  fun m ρ m' ρ' _ hm => by
    refine ⟨_, _, _, _, MatGate.run m ρ, ?_⟩
    refine (θ_run GateReferenceIdeal.defs _ _).mono (fun _ h c => ?_) (GateReferenceIdeal.Value.run (F := Ideal) m' ρ')
    refine ⟨(h c).1.trans ?_, (h c).2.1.trans ?_, (h c).2.2.1.trans ?_, (h c).2.2.2.1.trans ?_, (h c).2.2.2.2⟩
    · rw [GateReferenceIdeal.Read.val_main_v31_eq, (hm c).1, (hm c).2.1]
      exact (MatGate.equal0 m c).symm
    · rw [GateReferenceIdeal.Read.val_main_v32_eq, (hm c).1, (hm c).2.1]
      exact (MatGate.equal1 m c).symm
    · rw [GateReferenceIdeal.Read.val_main_v33_eq, (hm c).1, (hm c).2.1, (hm c).2.2.1]
      exact (MatGate.equal2 m c).symm
    · rw [GateReferenceIdeal.Read.val_main_v34_eq, (hm c).1, (hm c).2.1, (hm c).2.2.2]
      exact (MatGate.equal3 m c).symm,
  trivial,
  fun m ρ m' ρ' _ hm => by
    refine ⟨_, MatPoolGroup.run m ρ, ?_⟩
    refine (θ_run PoolGroupReferenceIdeal.defs _ _).mono (fun _ h c => ?_) (PoolGroupReferenceIdeal.Value.run (F := Ideal) m' ρ')
    refine ⟨(h c).1.trans ?_, (h c).2⟩
    rw [PoolGroupReferenceIdeal.Read.val_main_v9_eq, (hm c).1, (hm c).2]
    exact (MatPoolGroup.equal m c).symm,
  trivial,
  fun m ρ m' ρ' _ hm => by
    refine ⟨_, MatPoolGroupWeight.run m ρ, ?_⟩
    refine (θ_run PoolGroupWeightReferenceIdeal.defs _ _).mono (fun _ h c => ?_) (PoolGroupWeightReferenceIdeal.Value.run (F := Ideal) m' ρ')
    refine ⟨(h c).1.trans ?_, (h c).2⟩
    rw [PoolGroupWeightReferenceIdeal.Read.val_main_v8_eq, (hm c).1, (hm c).2]
    exact (MatPoolGroupWeight.equal m c).symm,
  trivial,
  fun m ρ m' ρ' _ hm => by
    refine ⟨_, _, MatScale.run m ρ, ?_⟩
    refine (θ_run ScaleReferenceIdeal.defs _ _).mono (fun _ h c => ?_) (ScaleReferenceIdeal.Value.run (F := Ideal) m' ρ')
    refine ⟨(h c).1.trans ?_, (h c).2.1.trans ?_, (h c).2.2⟩
    · rw [ScaleReferenceIdeal.Read.val_main_v10_eq, (hm c).1, (hm c).2.2]
      exact (MatScale.equal0 m c).symm
    · rw [ScaleReferenceIdeal.Read.val_main_v11_eq, (hm c).1, (hm c).2.1]
      exact (MatScale.equal1 m c).symm,
  trivial,
  fun m ρ m' ρ' _ hm => by
    refine ⟨_, _, MatNormIn.run m ρ, ?_⟩
    refine (θ_run NormInReferenceIdeal.defs _ _).mono (fun _ h c => ?_) (NormInReferenceIdeal.Value.run (F := Ideal) m' ρ')
    refine ⟨(h c).1.trans ?_, (h c).2.1.trans ?_, (h c).2.2⟩
    · rw [NormInReferenceIdeal.Read.val_main_v37_eq, (hm c).1, (hm c).2.1, (hm c).2.2.1, (hm c).2.2.2]
      exact (MatNormIn.equal0 m c).symm
    · rw [NormInReferenceIdeal.Read.val_main_v38_eq, (hm c).2.1, (hm c).2.2.1]
      exact (MatNormIn.equal1 m c).symm,
  trivial,
  fun m ρ m' ρ' _ hm => by
    refine ⟨_, _, _, MatNormDown.run m ρ, ?_⟩
    refine (θ_run NormDownReferenceIdeal.defs _ _).mono (fun _ h c => ?_) (NormDownReferenceIdeal.Value.run (F := Ideal) m' ρ')
    refine ⟨(h c).1.trans ?_, (h c).2.1.trans ?_, (h c).2.2.1.trans ?_, (h c).2.2.2⟩
    · rw [NormDownReferenceIdeal.Read.val_main_v0_eq, (hm c).1, (hm c).2.1]
      exact (MatNormDown.equal0 m c).symm
    · rw [NormDownReferenceIdeal.Read.val_main_v38_eq, (hm c).1, (hm c).2.1, (hm c).2.2.1, (hm c).2.2.2]
      exact (MatNormDown.equal1 m c).symm
    · rw [NormDownReferenceIdeal.Read.val_main_v39_eq, (hm c).1, (hm c).2.1, (hm c).2.2.1]
      exact (MatNormDown.equal2 m c).symm,
  trivial,
  fun m ρ m' ρ' _ hm => by
    refine ⟨_, _, _, _, MatNormMid.run m ρ, ?_⟩
    refine (θ_run NormMidReferenceIdeal.defs _ _).mono (fun _ h c => ?_) (NormMidReferenceIdeal.Value.run (F := Ideal) m' ρ')
    refine ⟨(h c).1.trans ?_, (h c).2.1.trans ?_, (h c).2.2.1.trans ?_, (h c).2.2.2.1.trans ?_, (h c).2.2.2.2⟩
    · rw [NormMidReferenceIdeal.Read.val_main_v37_eq, (hm c).1, (hm c).2.1, (hm c).2.2.1, (hm c).2.2.2.1]
      exact (MatNormMid.equal0 m c).symm
    · rw [NormMidReferenceIdeal.Read.val_main_v75_eq, (hm c).1, (hm c).2.1, (hm c).2.2.1, (hm c).2.2.2.1, (hm c).2.2.2.2.1, (hm c).2.2.2.2.2]
      exact (MatNormMid.equal1 m c).symm
    · rw [NormMidReferenceIdeal.Read.val_main_v76_eq, (hm c).2.1, (hm c).2.2.1]
      exact (MatNormMid.equal2 m c).symm
    · rw [NormMidReferenceIdeal.Read.val_main_v77_eq, (hm c).1, (hm c).2.1, (hm c).2.2.1, (hm c).2.2.2.1, (hm c).2.2.2.2.1]
      exact (MatNormMid.equal3 m c).symm,
  trivial,
  fun m ρ m' ρ' _ hm => by
    refine ⟨_, MatGateMix.run m ρ, ?_⟩
    refine (θ_run GateMixReferenceIdeal.defs _ _).mono (fun _ h c => ?_) (GateMixReferenceIdeal.Value.run (F := Ideal) m' ρ')
    refine ⟨(h c).1.trans ?_, (h c).2⟩
    rw [GateMixReferenceIdeal.Read.val_main_v17_eq, (hm c).1, (hm c).2.1, (hm c).2.2]
    exact (MatGateMix.equal m c).symm,
  trivial,
  fun m ρ m' ρ' _ hm => by
    refine ⟨_, _, MatPoolGroupForward.run m ρ, ?_⟩
    refine (θ_run PoolGroupForwardReferenceIdeal.defs _ _).mono (fun _ h c => ?_) (PoolGroupForwardReferenceIdeal.Value.run (F := Ideal) m' ρ')
    refine ⟨(h c).1.trans ?_, (h c).2.1.trans ?_, (h c).2.2⟩
    · rw [PoolGroupForwardReferenceIdeal.Read.val_main_v3_eq, (hm c).1, (hm c).2.1]
      exact (MatPoolGroupForward.equal0 m c).symm
    · rw [PoolGroupForwardReferenceIdeal.Read.val_main_v8_eq, (hm c).1, (hm c).2.1, (hm c).2.2]
      exact (MatPoolGroupForward.equal1 m c).symm,
  trivial,
  fun m ρ m' ρ' _ hm => by
    refine ⟨_, MatNormInForward.run m ρ, ?_⟩
    refine (θ_run NormInForwardReferenceIdeal.defs _ _).mono (fun _ h c => ?_) (NormInForwardReferenceIdeal.Value.run (F := Ideal) m' ρ')
    refine ⟨(h c).1.trans ?_, (h c).2⟩
    rw [NormInForwardReferenceIdeal.Read.val_main_v14_eq, (hm c).1, (hm c).2]
    exact (MatNormInForward.equal m c).symm,
  trivial,
  fun m ρ m' ρ' _ hm => by
    refine ⟨_, _, MatNormMidForward.run m ρ, ?_⟩
    refine (θ_run NormMidForwardReferenceIdeal.defs _ _).mono (fun _ h c => ?_) (NormMidForwardReferenceIdeal.Value.run (F := Ideal) m' ρ')
    refine ⟨(h c).1.trans ?_, (h c).2.1.trans ?_, (h c).2.2⟩
    · rw [NormMidForwardReferenceIdeal.Read.val_main_v14_eq, (hm c).1, (hm c).2.1, (hm c).2.2.1]
      exact (MatNormMidForward.equal0 m c).symm
    · rw [NormMidForwardReferenceIdeal.Read.val_main_v29_eq, (hm c).1, (hm c).2.1, (hm c).2.2.1, (hm c).2.2.2]
      exact (MatNormMidForward.equal1 m c).symm,
  trivial,
  fun m ρ m' ρ' _ hm => by
    refine ⟨_, _, MatNormDownForward.run m ρ, ?_⟩
    refine (θ_run NormDownForwardReferenceIdeal.defs _ _).mono (fun _ h c => ?_) (NormDownForwardReferenceIdeal.Value.run (F := Ideal) m' ρ')
    refine ⟨(h c).1.trans ?_, (h c).2.1.trans ?_, (h c).2.2⟩
    · rw [NormDownForwardReferenceIdeal.Read.val_main_v14_eq, (hm c).1, (hm c).2.1, (hm c).2.2]
      exact (MatNormDownForward.equal0 m c).symm
    · rw [NormDownForwardReferenceIdeal.Read.val_main_v15_eq, (hm c).1, (hm c).2.1, (hm c).2.2]
      exact (MatNormDownForward.equal1 m c).symm,
  trivial,
  fun m ρ m' ρ' _ hm => by
    refine ⟨_, _, _, _, _, MatPleLoss.run m ρ, ?_⟩
    refine (θ_run PleLossReferenceIdeal.defs _ _).mono (fun _ h c => ?_) (PleLossReferenceIdeal.Value.run (F := Ideal) m' ρ')
    refine ⟨(h c).1.trans ?_, (h c).2.1.trans ?_, (h c).2.2.1.trans ?_, (h c).2.2.2.1.trans ?_, (h c).2.2.2.2.1.trans ?_, (h c).2.2.2.2.2⟩
    · rw [PleLossReferenceIdeal.Read.val_main_v66_eq, (hm c).1, (hm c).2.1, (hm c).2.2.1, (hm c).2.2.2.1, (hm c).2.2.2.2]
      exact (MatPleLoss.equal0 m c).symm
    · rw [PleLossReferenceIdeal.Read.val_main_v42_eq, (hm c).1, (hm c).2.1, (hm c).2.2.1, (hm c).2.2.2.1, (hm c).2.2.2.2]
      exact (MatPleLoss.equal1 m c).symm
    · rw [PleLossReferenceIdeal.Read.val_main_v67_eq, (hm c).1, (hm c).2.1, (hm c).2.2.1, (hm c).2.2.2.1, (hm c).2.2.2.2]
      exact (MatPleLoss.equal2 m c).symm
    · rw [PleLossReferenceIdeal.Read.val_main_v68_eq, (hm c).1, (hm c).2.1, (hm c).2.2.1, (hm c).2.2.2.1, (hm c).2.2.2.2]
      exact (MatPleLoss.equal3 m c).symm
    · rw [PleLossReferenceIdeal.Read.val_main_v69_eq, (hm c).1, (hm c).2.1, (hm c).2.2.1, (hm c).2.2.2.1, (hm c).2.2.2.2]
      exact (MatPleLoss.equal4 m c).symm⟩

end Cert.Proof

end
